-- ==== Defs.lean ====
def Pre_LossGrad (m : (ℓ : Loc Cert.LossGrad.nD Cert.LossGrad.τ Cert.LossGrad.sig) → Buf (Elt Bits) ℓ) : Prop :=
  True

def Pre_LossGradIdeal (m : (ℓ : Loc Cert.LossGradIdeal.nD Cert.LossGradIdeal.τ Cert.LossGradIdeal.sig) → Buf (Elt Ideal) ℓ) : Prop :=
  True

def Pre_LossGradRefIdeal (m : (ℓ : Loc Cert.LossGradRefIdeal.nD Cert.LossGradRefIdeal.τ Cert.LossGradRefIdeal.sig) → Buf (Elt Ideal) ℓ) : Prop :=
  True

def Pre_ConvGrad (m : (ℓ : Loc Cert.ConvGrad.nD Cert.ConvGrad.τ Cert.ConvGrad.sig) → Buf (Elt Bits) ℓ) : Prop :=
  True

def Pre_ConvGradIdeal (m : (ℓ : Loc Cert.ConvGradIdeal.nD Cert.ConvGradIdeal.τ Cert.ConvGradIdeal.sig) → Buf (Elt Ideal) ℓ) : Prop :=
  True

def Pre_ConvGradRefIdeal (m : (ℓ : Loc Cert.ConvGradRefIdeal.nD Cert.ConvGradRefIdeal.τ Cert.ConvGradRefIdeal.sig) → Buf (Elt Ideal) ℓ) : Prop :=
  True

def Pre_PoolGrad (m : (ℓ : Loc Cert.PoolGrad.nD Cert.PoolGrad.τ Cert.PoolGrad.sig) → Buf (Elt Bits) ℓ) : Prop :=
  True

def Pre_PoolGradIdeal (m : (ℓ : Loc Cert.PoolGradIdeal.nD Cert.PoolGradIdeal.τ Cert.PoolGradIdeal.sig) → Buf (Elt Ideal) ℓ) : Prop :=
  True

def Pre_PoolGradIdeal_pool_finite [hPre_pool_finite : Cert.Pre_pool_finite.Facts] (m : (ℓ : Loc Cert.PoolGradIdeal.nD Cert.PoolGradIdeal.τ Cert.PoolGradIdeal.sig) → Buf (Elt Ideal) ℓ) : Prop :=
  ∀ c : Dev Cert.PoolGradIdeal.nD,
    (Cert.Pre_pool_finite.fn (F := Ideal) (m ((c.tc : Thread Cert.PoolGradIdeal.nD Cert.PoolGradIdeal.τ).loc Cert.PoolGradIdeal.main_arg0)) (m ((c.tc : Thread Cert.PoolGradIdeal.nD Cert.PoolGradIdeal.τ).loc Cert.PoolGradIdeal.main_arg1)) (m ((c.tc : Thread Cert.PoolGradIdeal.nD Cert.PoolGradIdeal.τ).loc Cert.PoolGradIdeal.main_arg2)) (m ((c.tc : Thread Cert.PoolGradIdeal.nD Cert.PoolGradIdeal.τ).loc Cert.PoolGradIdeal.main_arg3))).1 = (fun _ => 1#1)
    ∧ (Cert.Pre_pool_finite.fn (F := Ideal) (m ((c.tc : Thread Cert.PoolGradIdeal.nD Cert.PoolGradIdeal.τ).loc Cert.PoolGradIdeal.main_arg0)) (m ((c.tc : Thread Cert.PoolGradIdeal.nD Cert.PoolGradIdeal.τ).loc Cert.PoolGradIdeal.main_arg1)) (m ((c.tc : Thread Cert.PoolGradIdeal.nD Cert.PoolGradIdeal.τ).loc Cert.PoolGradIdeal.main_arg2)) (m ((c.tc : Thread Cert.PoolGradIdeal.nD Cert.PoolGradIdeal.τ).loc Cert.PoolGradIdeal.main_arg3))).2.1 = (fun _ => 1#1)
    ∧ (Cert.Pre_pool_finite.fn (F := Ideal) (m ((c.tc : Thread Cert.PoolGradIdeal.nD Cert.PoolGradIdeal.τ).loc Cert.PoolGradIdeal.main_arg0)) (m ((c.tc : Thread Cert.PoolGradIdeal.nD Cert.PoolGradIdeal.τ).loc Cert.PoolGradIdeal.main_arg1)) (m ((c.tc : Thread Cert.PoolGradIdeal.nD Cert.PoolGradIdeal.τ).loc Cert.PoolGradIdeal.main_arg2)) (m ((c.tc : Thread Cert.PoolGradIdeal.nD Cert.PoolGradIdeal.τ).loc Cert.PoolGradIdeal.main_arg3))).2.2.1 = (fun _ => 1#1)
    ∧ (Cert.Pre_pool_finite.fn (F := Ideal) (m ((c.tc : Thread Cert.PoolGradIdeal.nD Cert.PoolGradIdeal.τ).loc Cert.PoolGradIdeal.main_arg0)) (m ((c.tc : Thread Cert.PoolGradIdeal.nD Cert.PoolGradIdeal.τ).loc Cert.PoolGradIdeal.main_arg1)) (m ((c.tc : Thread Cert.PoolGradIdeal.nD Cert.PoolGradIdeal.τ).loc Cert.PoolGradIdeal.main_arg2)) (m ((c.tc : Thread Cert.PoolGradIdeal.nD Cert.PoolGradIdeal.τ).loc Cert.PoolGradIdeal.main_arg3))).2.2.2 = (fun _ => 1#1)

def Pre_PoolGradRefIdeal (m : (ℓ : Loc Cert.PoolGradRefIdeal.nD Cert.PoolGradRefIdeal.τ Cert.PoolGradRefIdeal.sig) → Buf (Elt Ideal) ℓ) : Prop :=
  True

def Pre_PoolGradRefIdeal_pool_finite [hPre_pool_finite : Cert.Pre_pool_finite.Facts] (m : (ℓ : Loc Cert.PoolGradRefIdeal.nD Cert.PoolGradRefIdeal.τ Cert.PoolGradRefIdeal.sig) → Buf (Elt Ideal) ℓ) : Prop :=
  ∀ c : Dev Cert.PoolGradRefIdeal.nD,
    (Cert.Pre_pool_finite.fn (F := Ideal) (m ((c.tc : Thread Cert.PoolGradRefIdeal.nD Cert.PoolGradRefIdeal.τ).loc Cert.PoolGradRefIdeal.main_arg0)) (m ((c.tc : Thread Cert.PoolGradRefIdeal.nD Cert.PoolGradRefIdeal.τ).loc Cert.PoolGradRefIdeal.main_arg1)) (m ((c.tc : Thread Cert.PoolGradRefIdeal.nD Cert.PoolGradRefIdeal.τ).loc Cert.PoolGradRefIdeal.main_arg2)) (m ((c.tc : Thread Cert.PoolGradRefIdeal.nD Cert.PoolGradRefIdeal.τ).loc Cert.PoolGradRefIdeal.main_arg3))).1 = (fun _ => 1#1)
    ∧ (Cert.Pre_pool_finite.fn (F := Ideal) (m ((c.tc : Thread Cert.PoolGradRefIdeal.nD Cert.PoolGradRefIdeal.τ).loc Cert.PoolGradRefIdeal.main_arg0)) (m ((c.tc : Thread Cert.PoolGradRefIdeal.nD Cert.PoolGradRefIdeal.τ).loc Cert.PoolGradRefIdeal.main_arg1)) (m ((c.tc : Thread Cert.PoolGradRefIdeal.nD Cert.PoolGradRefIdeal.τ).loc Cert.PoolGradRefIdeal.main_arg2)) (m ((c.tc : Thread Cert.PoolGradRefIdeal.nD Cert.PoolGradRefIdeal.τ).loc Cert.PoolGradRefIdeal.main_arg3))).2.1 = (fun _ => 1#1)
    ∧ (Cert.Pre_pool_finite.fn (F := Ideal) (m ((c.tc : Thread Cert.PoolGradRefIdeal.nD Cert.PoolGradRefIdeal.τ).loc Cert.PoolGradRefIdeal.main_arg0)) (m ((c.tc : Thread Cert.PoolGradRefIdeal.nD Cert.PoolGradRefIdeal.τ).loc Cert.PoolGradRefIdeal.main_arg1)) (m ((c.tc : Thread Cert.PoolGradRefIdeal.nD Cert.PoolGradRefIdeal.τ).loc Cert.PoolGradRefIdeal.main_arg2)) (m ((c.tc : Thread Cert.PoolGradRefIdeal.nD Cert.PoolGradRefIdeal.τ).loc Cert.PoolGradRefIdeal.main_arg3))).2.2.1 = (fun _ => 1#1)
    ∧ (Cert.Pre_pool_finite.fn (F := Ideal) (m ((c.tc : Thread Cert.PoolGradRefIdeal.nD Cert.PoolGradRefIdeal.τ).loc Cert.PoolGradRefIdeal.main_arg0)) (m ((c.tc : Thread Cert.PoolGradRefIdeal.nD Cert.PoolGradRefIdeal.τ).loc Cert.PoolGradRefIdeal.main_arg1)) (m ((c.tc : Thread Cert.PoolGradRefIdeal.nD Cert.PoolGradRefIdeal.τ).loc Cert.PoolGradRefIdeal.main_arg2)) (m ((c.tc : Thread Cert.PoolGradRefIdeal.nD Cert.PoolGradRefIdeal.τ).loc Cert.PoolGradRefIdeal.main_arg3))).2.2.2 = (fun _ => 1#1)

def Pre_SguGrad (m : (ℓ : Loc Cert.SguGrad.nD Cert.SguGrad.τ Cert.SguGrad.sig) → Buf (Elt Bits) ℓ) : Prop :=
  True

def Pre_SguGradIdeal (m : (ℓ : Loc Cert.SguGradIdeal.nD Cert.SguGradIdeal.τ Cert.SguGradIdeal.sig) → Buf (Elt Ideal) ℓ) : Prop :=
  True

def Pre_SguGradIdeal_sgu_finite [hPre_sgu_finite : Cert.Pre_sgu_finite.Facts] (m : (ℓ : Loc Cert.SguGradIdeal.nD Cert.SguGradIdeal.τ Cert.SguGradIdeal.sig) → Buf (Elt Ideal) ℓ) : Prop :=
  ∀ c : Dev Cert.SguGradIdeal.nD,
    (Cert.Pre_sgu_finite.fn (F := Ideal) (m ((c.tc : Thread Cert.SguGradIdeal.nD Cert.SguGradIdeal.τ).loc Cert.SguGradIdeal.main_arg0)) (m ((c.tc : Thread Cert.SguGradIdeal.nD Cert.SguGradIdeal.τ).loc Cert.SguGradIdeal.main_arg1)) (m ((c.tc : Thread Cert.SguGradIdeal.nD Cert.SguGradIdeal.τ).loc Cert.SguGradIdeal.main_arg2)) (m ((c.tc : Thread Cert.SguGradIdeal.nD Cert.SguGradIdeal.τ).loc Cert.SguGradIdeal.main_arg3)) (m ((c.tc : Thread Cert.SguGradIdeal.nD Cert.SguGradIdeal.τ).loc Cert.SguGradIdeal.main_arg4))).1 = (fun _ => 1#1)
    ∧ (Cert.Pre_sgu_finite.fn (F := Ideal) (m ((c.tc : Thread Cert.SguGradIdeal.nD Cert.SguGradIdeal.τ).loc Cert.SguGradIdeal.main_arg0)) (m ((c.tc : Thread Cert.SguGradIdeal.nD Cert.SguGradIdeal.τ).loc Cert.SguGradIdeal.main_arg1)) (m ((c.tc : Thread Cert.SguGradIdeal.nD Cert.SguGradIdeal.τ).loc Cert.SguGradIdeal.main_arg2)) (m ((c.tc : Thread Cert.SguGradIdeal.nD Cert.SguGradIdeal.τ).loc Cert.SguGradIdeal.main_arg3)) (m ((c.tc : Thread Cert.SguGradIdeal.nD Cert.SguGradIdeal.τ).loc Cert.SguGradIdeal.main_arg4))).2.1 = (fun _ => 1#1)
    ∧ (Cert.Pre_sgu_finite.fn (F := Ideal) (m ((c.tc : Thread Cert.SguGradIdeal.nD Cert.SguGradIdeal.τ).loc Cert.SguGradIdeal.main_arg0)) (m ((c.tc : Thread Cert.SguGradIdeal.nD Cert.SguGradIdeal.τ).loc Cert.SguGradIdeal.main_arg1)) (m ((c.tc : Thread Cert.SguGradIdeal.nD Cert.SguGradIdeal.τ).loc Cert.SguGradIdeal.main_arg2)) (m ((c.tc : Thread Cert.SguGradIdeal.nD Cert.SguGradIdeal.τ).loc Cert.SguGradIdeal.main_arg3)) (m ((c.tc : Thread Cert.SguGradIdeal.nD Cert.SguGradIdeal.τ).loc Cert.SguGradIdeal.main_arg4))).2.2.1 = (fun _ => 1#1)
    ∧ (Cert.Pre_sgu_finite.fn (F := Ideal) (m ((c.tc : Thread Cert.SguGradIdeal.nD Cert.SguGradIdeal.τ).loc Cert.SguGradIdeal.main_arg0)) (m ((c.tc : Thread Cert.SguGradIdeal.nD Cert.SguGradIdeal.τ).loc Cert.SguGradIdeal.main_arg1)) (m ((c.tc : Thread Cert.SguGradIdeal.nD Cert.SguGradIdeal.τ).loc Cert.SguGradIdeal.main_arg2)) (m ((c.tc : Thread Cert.SguGradIdeal.nD Cert.SguGradIdeal.τ).loc Cert.SguGradIdeal.main_arg3)) (m ((c.tc : Thread Cert.SguGradIdeal.nD Cert.SguGradIdeal.τ).loc Cert.SguGradIdeal.main_arg4))).2.2.2.1 = (fun _ => 1#1)
    ∧ (Cert.Pre_sgu_finite.fn (F := Ideal) (m ((c.tc : Thread Cert.SguGradIdeal.nD Cert.SguGradIdeal.τ).loc Cert.SguGradIdeal.main_arg0)) (m ((c.tc : Thread Cert.SguGradIdeal.nD Cert.SguGradIdeal.τ).loc Cert.SguGradIdeal.main_arg1)) (m ((c.tc : Thread Cert.SguGradIdeal.nD Cert.SguGradIdeal.τ).loc Cert.SguGradIdeal.main_arg2)) (m ((c.tc : Thread Cert.SguGradIdeal.nD Cert.SguGradIdeal.τ).loc Cert.SguGradIdeal.main_arg3)) (m ((c.tc : Thread Cert.SguGradIdeal.nD Cert.SguGradIdeal.τ).loc Cert.SguGradIdeal.main_arg4))).2.2.2.2 = (fun _ => 1#1)

def Pre_SguGradRefIdeal (m : (ℓ : Loc Cert.SguGradRefIdeal.nD Cert.SguGradRefIdeal.τ Cert.SguGradRefIdeal.sig) → Buf (Elt Ideal) ℓ) : Prop :=
  True

def Pre_SguGradRefIdeal_sgu_finite [hPre_sgu_finite : Cert.Pre_sgu_finite.Facts] (m : (ℓ : Loc Cert.SguGradRefIdeal.nD Cert.SguGradRefIdeal.τ Cert.SguGradRefIdeal.sig) → Buf (Elt Ideal) ℓ) : Prop :=
  ∀ c : Dev Cert.SguGradRefIdeal.nD,
    (Cert.Pre_sgu_finite.fn (F := Ideal) (m ((c.tc : Thread Cert.SguGradRefIdeal.nD Cert.SguGradRefIdeal.τ).loc Cert.SguGradRefIdeal.main_arg0)) (m ((c.tc : Thread Cert.SguGradRefIdeal.nD Cert.SguGradRefIdeal.τ).loc Cert.SguGradRefIdeal.main_arg1)) (m ((c.tc : Thread Cert.SguGradRefIdeal.nD Cert.SguGradRefIdeal.τ).loc Cert.SguGradRefIdeal.main_arg2)) (m ((c.tc : Thread Cert.SguGradRefIdeal.nD Cert.SguGradRefIdeal.τ).loc Cert.SguGradRefIdeal.main_arg3)) (m ((c.tc : Thread Cert.SguGradRefIdeal.nD Cert.SguGradRefIdeal.τ).loc Cert.SguGradRefIdeal.main_arg4))).1 = (fun _ => 1#1)
    ∧ (Cert.Pre_sgu_finite.fn (F := Ideal) (m ((c.tc : Thread Cert.SguGradRefIdeal.nD Cert.SguGradRefIdeal.τ).loc Cert.SguGradRefIdeal.main_arg0)) (m ((c.tc : Thread Cert.SguGradRefIdeal.nD Cert.SguGradRefIdeal.τ).loc Cert.SguGradRefIdeal.main_arg1)) (m ((c.tc : Thread Cert.SguGradRefIdeal.nD Cert.SguGradRefIdeal.τ).loc Cert.SguGradRefIdeal.main_arg2)) (m ((c.tc : Thread Cert.SguGradRefIdeal.nD Cert.SguGradRefIdeal.τ).loc Cert.SguGradRefIdeal.main_arg3)) (m ((c.tc : Thread Cert.SguGradRefIdeal.nD Cert.SguGradRefIdeal.τ).loc Cert.SguGradRefIdeal.main_arg4))).2.1 = (fun _ => 1#1)
    ∧ (Cert.Pre_sgu_finite.fn (F := Ideal) (m ((c.tc : Thread Cert.SguGradRefIdeal.nD Cert.SguGradRefIdeal.τ).loc Cert.SguGradRefIdeal.main_arg0)) (m ((c.tc : Thread Cert.SguGradRefIdeal.nD Cert.SguGradRefIdeal.τ).loc Cert.SguGradRefIdeal.main_arg1)) (m ((c.tc : Thread Cert.SguGradRefIdeal.nD Cert.SguGradRefIdeal.τ).loc Cert.SguGradRefIdeal.main_arg2)) (m ((c.tc : Thread Cert.SguGradRefIdeal.nD Cert.SguGradRefIdeal.τ).loc Cert.SguGradRefIdeal.main_arg3)) (m ((c.tc : Thread Cert.SguGradRefIdeal.nD Cert.SguGradRefIdeal.τ).loc Cert.SguGradRefIdeal.main_arg4))).2.2.1 = (fun _ => 1#1)
    ∧ (Cert.Pre_sgu_finite.fn (F := Ideal) (m ((c.tc : Thread Cert.SguGradRefIdeal.nD Cert.SguGradRefIdeal.τ).loc Cert.SguGradRefIdeal.main_arg0)) (m ((c.tc : Thread Cert.SguGradRefIdeal.nD Cert.SguGradRefIdeal.τ).loc Cert.SguGradRefIdeal.main_arg1)) (m ((c.tc : Thread Cert.SguGradRefIdeal.nD Cert.SguGradRefIdeal.τ).loc Cert.SguGradRefIdeal.main_arg2)) (m ((c.tc : Thread Cert.SguGradRefIdeal.nD Cert.SguGradRefIdeal.τ).loc Cert.SguGradRefIdeal.main_arg3)) (m ((c.tc : Thread Cert.SguGradRefIdeal.nD Cert.SguGradRefIdeal.τ).loc Cert.SguGradRefIdeal.main_arg4))).2.2.2.1 = (fun _ => 1#1)
    ∧ (Cert.Pre_sgu_finite.fn (F := Ideal) (m ((c.tc : Thread Cert.SguGradRefIdeal.nD Cert.SguGradRefIdeal.τ).loc Cert.SguGradRefIdeal.main_arg0)) (m ((c.tc : Thread Cert.SguGradRefIdeal.nD Cert.SguGradRefIdeal.τ).loc Cert.SguGradRefIdeal.main_arg1)) (m ((c.tc : Thread Cert.SguGradRefIdeal.nD Cert.SguGradRefIdeal.τ).loc Cert.SguGradRefIdeal.main_arg2)) (m ((c.tc : Thread Cert.SguGradRefIdeal.nD Cert.SguGradRefIdeal.τ).loc Cert.SguGradRefIdeal.main_arg3)) (m ((c.tc : Thread Cert.SguGradRefIdeal.nD Cert.SguGradRefIdeal.τ).loc Cert.SguGradRefIdeal.main_arg4))).2.2.2.2 = (fun _ => 1#1)

def Pre_MlpGrad (m : (ℓ : Loc Cert.MlpGrad.nD Cert.MlpGrad.τ Cert.MlpGrad.sig) → Buf (Elt Bits) ℓ) : Prop :=
  True

def Pre_MlpGradIdeal (m : (ℓ : Loc Cert.MlpGradIdeal.nD Cert.MlpGradIdeal.τ Cert.MlpGradIdeal.sig) → Buf (Elt Ideal) ℓ) : Prop :=
  True

def Pre_MlpGradIdeal_mlp_finite [hPre_mlp_finite : Cert.Pre_mlp_finite.Facts] (m : (ℓ : Loc Cert.MlpGradIdeal.nD Cert.MlpGradIdeal.τ Cert.MlpGradIdeal.sig) → Buf (Elt Ideal) ℓ) : Prop :=
  ∀ c : Dev Cert.MlpGradIdeal.nD,
    (Cert.Pre_mlp_finite.fn (F := Ideal) (m ((c.tc : Thread Cert.MlpGradIdeal.nD Cert.MlpGradIdeal.τ).loc Cert.MlpGradIdeal.main_arg0)) (m ((c.tc : Thread Cert.MlpGradIdeal.nD Cert.MlpGradIdeal.τ).loc Cert.MlpGradIdeal.main_arg1)) (m ((c.tc : Thread Cert.MlpGradIdeal.nD Cert.MlpGradIdeal.τ).loc Cert.MlpGradIdeal.main_arg2)) (m ((c.tc : Thread Cert.MlpGradIdeal.nD Cert.MlpGradIdeal.τ).loc Cert.MlpGradIdeal.main_arg3)) (m ((c.tc : Thread Cert.MlpGradIdeal.nD Cert.MlpGradIdeal.τ).loc Cert.MlpGradIdeal.main_arg4)) (m ((c.tc : Thread Cert.MlpGradIdeal.nD Cert.MlpGradIdeal.τ).loc Cert.MlpGradIdeal.main_arg5)) (m ((c.tc : Thread Cert.MlpGradIdeal.nD Cert.MlpGradIdeal.τ).loc Cert.MlpGradIdeal.main_arg6)) (m ((c.tc : Thread Cert.MlpGradIdeal.nD Cert.MlpGradIdeal.τ).loc Cert.MlpGradIdeal.main_arg7)) (m ((c.tc : Thread Cert.MlpGradIdeal.nD Cert.MlpGradIdeal.τ).loc Cert.MlpGradIdeal.main_arg8)) (m ((c.tc : Thread Cert.MlpGradIdeal.nD Cert.MlpGradIdeal.τ).loc Cert.MlpGradIdeal.main_arg9)) (m ((c.tc : Thread Cert.MlpGradIdeal.nD Cert.MlpGradIdeal.τ).loc Cert.MlpGradIdeal.main_arg10))).1 = (fun _ => 1#1)
    ∧ (Cert.Pre_mlp_finite.fn (F := Ideal) (m ((c.tc : Thread Cert.MlpGradIdeal.nD Cert.MlpGradIdeal.τ).loc Cert.MlpGradIdeal.main_arg0)) (m ((c.tc : Thread Cert.MlpGradIdeal.nD Cert.MlpGradIdeal.τ).loc Cert.MlpGradIdeal.main_arg1)) (m ((c.tc : Thread Cert.MlpGradIdeal.nD Cert.MlpGradIdeal.τ).loc Cert.MlpGradIdeal.main_arg2)) (m ((c.tc : Thread Cert.MlpGradIdeal.nD Cert.MlpGradIdeal.τ).loc Cert.MlpGradIdeal.main_arg3)) (m ((c.tc : Thread Cert.MlpGradIdeal.nD Cert.MlpGradIdeal.τ).loc Cert.MlpGradIdeal.main_arg4)) (m ((c.tc : Thread Cert.MlpGradIdeal.nD Cert.MlpGradIdeal.τ).loc Cert.MlpGradIdeal.main_arg5)) (m ((c.tc : Thread Cert.MlpGradIdeal.nD Cert.MlpGradIdeal.τ).loc Cert.MlpGradIdeal.main_arg6)) (m ((c.tc : Thread Cert.MlpGradIdeal.nD Cert.MlpGradIdeal.τ).loc Cert.MlpGradIdeal.main_arg7)) (m ((c.tc : Thread Cert.MlpGradIdeal.nD Cert.MlpGradIdeal.τ).loc Cert.MlpGradIdeal.main_arg8)) (m ((c.tc : Thread Cert.MlpGradIdeal.nD Cert.MlpGradIdeal.τ).loc Cert.MlpGradIdeal.main_arg9)) (m ((c.tc : Thread Cert.MlpGradIdeal.nD Cert.MlpGradIdeal.τ).loc Cert.MlpGradIdeal.main_arg10))).2.1 = (fun _ => 1#1)
    ∧ (Cert.Pre_mlp_finite.fn (F := Ideal) (m ((c.tc : Thread Cert.MlpGradIdeal.nD Cert.MlpGradIdeal.τ).loc Cert.MlpGradIdeal.main_arg0)) (m ((c.tc : Thread Cert.MlpGradIdeal.nD Cert.MlpGradIdeal.τ).loc Cert.MlpGradIdeal.main_arg1)) (m ((c.tc : Thread Cert.MlpGradIdeal.nD Cert.MlpGradIdeal.τ).loc Cert.MlpGradIdeal.main_arg2)) (m ((c.tc : Thread Cert.MlpGradIdeal.nD Cert.MlpGradIdeal.τ).loc Cert.MlpGradIdeal.main_arg3)) (m ((c.tc : Thread Cert.MlpGradIdeal.nD Cert.MlpGradIdeal.τ).loc Cert.MlpGradIdeal.main_arg4)) (m ((c.tc : Thread Cert.MlpGradIdeal.nD Cert.MlpGradIdeal.τ).loc Cert.MlpGradIdeal.main_arg5)) (m ((c.tc : Thread Cert.MlpGradIdeal.nD Cert.MlpGradIdeal.τ).loc Cert.MlpGradIdeal.main_arg6)) (m ((c.tc : Thread Cert.MlpGradIdeal.nD Cert.MlpGradIdeal.τ).loc Cert.MlpGradIdeal.main_arg7)) (m ((c.tc : Thread Cert.MlpGradIdeal.nD Cert.MlpGradIdeal.τ).loc Cert.MlpGradIdeal.main_arg8)) (m ((c.tc : Thread Cert.MlpGradIdeal.nD Cert.MlpGradIdeal.τ).loc Cert.MlpGradIdeal.main_arg9)) (m ((c.tc : Thread Cert.MlpGradIdeal.nD Cert.MlpGradIdeal.τ).loc Cert.MlpGradIdeal.main_arg10))).2.2.1 = (fun _ => 1#1)
    ∧ (Cert.Pre_mlp_finite.fn (F := Ideal) (m ((c.tc : Thread Cert.MlpGradIdeal.nD Cert.MlpGradIdeal.τ).loc Cert.MlpGradIdeal.main_arg0)) (m ((c.tc : Thread Cert.MlpGradIdeal.nD Cert.MlpGradIdeal.τ).loc Cert.MlpGradIdeal.main_arg1)) (m ((c.tc : Thread Cert.MlpGradIdeal.nD Cert.MlpGradIdeal.τ).loc Cert.MlpGradIdeal.main_arg2)) (m ((c.tc : Thread Cert.MlpGradIdeal.nD Cert.MlpGradIdeal.τ).loc Cert.MlpGradIdeal.main_arg3)) (m ((c.tc : Thread Cert.MlpGradIdeal.nD Cert.MlpGradIdeal.τ).loc Cert.MlpGradIdeal.main_arg4)) (m ((c.tc : Thread Cert.MlpGradIdeal.nD Cert.MlpGradIdeal.τ).loc Cert.MlpGradIdeal.main_arg5)) (m ((c.tc : Thread Cert.MlpGradIdeal.nD Cert.MlpGradIdeal.τ).loc Cert.MlpGradIdeal.main_arg6)) (m ((c.tc : Thread Cert.MlpGradIdeal.nD Cert.MlpGradIdeal.τ).loc Cert.MlpGradIdeal.main_arg7)) (m ((c.tc : Thread Cert.MlpGradIdeal.nD Cert.MlpGradIdeal.τ).loc Cert.MlpGradIdeal.main_arg8)) (m ((c.tc : Thread Cert.MlpGradIdeal.nD Cert.MlpGradIdeal.τ).loc Cert.MlpGradIdeal.main_arg9)) (m ((c.tc : Thread Cert.MlpGradIdeal.nD Cert.MlpGradIdeal.τ).loc Cert.MlpGradIdeal.main_arg10))).2.2.2.1 = (fun _ => 1#1)
    ∧ (Cert.Pre_mlp_finite.fn (F := Ideal) (m ((c.tc : Thread Cert.MlpGradIdeal.nD Cert.MlpGradIdeal.τ).loc Cert.MlpGradIdeal.main_arg0)) (m ((c.tc : Thread Cert.MlpGradIdeal.nD Cert.MlpGradIdeal.τ).loc Cert.MlpGradIdeal.main_arg1)) (m ((c.tc : Thread Cert.MlpGradIdeal.nD Cert.MlpGradIdeal.τ).loc Cert.MlpGradIdeal.main_arg2)) (m ((c.tc : Thread Cert.MlpGradIdeal.nD Cert.MlpGradIdeal.τ).loc Cert.MlpGradIdeal.main_arg3)) (m ((c.tc : Thread Cert.MlpGradIdeal.nD Cert.MlpGradIdeal.τ).loc Cert.MlpGradIdeal.main_arg4)) (m ((c.tc : Thread Cert.MlpGradIdeal.nD Cert.MlpGradIdeal.τ).loc Cert.MlpGradIdeal.main_arg5)) (m ((c.tc : Thread Cert.MlpGradIdeal.nD Cert.MlpGradIdeal.τ).loc Cert.MlpGradIdeal.main_arg6)) (m ((c.tc : Thread Cert.MlpGradIdeal.nD Cert.MlpGradIdeal.τ).loc Cert.MlpGradIdeal.main_arg7)) (m ((c.tc : Thread Cert.MlpGradIdeal.nD Cert.MlpGradIdeal.τ).loc Cert.MlpGradIdeal.main_arg8)) (m ((c.tc : Thread Cert.MlpGradIdeal.nD Cert.MlpGradIdeal.τ).loc Cert.MlpGradIdeal.main_arg9)) (m ((c.tc : Thread Cert.MlpGradIdeal.nD Cert.MlpGradIdeal.τ).loc Cert.MlpGradIdeal.main_arg10))).2.2.2.2.1 = (fun _ => 1#1)
    ∧ (Cert.Pre_mlp_finite.fn (F := Ideal) (m ((c.tc : Thread Cert.MlpGradIdeal.nD Cert.MlpGradIdeal.τ).loc Cert.MlpGradIdeal.main_arg0)) (m ((c.tc : Thread Cert.MlpGradIdeal.nD Cert.MlpGradIdeal.τ).loc Cert.MlpGradIdeal.main_arg1)) (m ((c.tc : Thread Cert.MlpGradIdeal.nD Cert.MlpGradIdeal.τ).loc Cert.MlpGradIdeal.main_arg2)) (m ((c.tc : Thread Cert.MlpGradIdeal.nD Cert.MlpGradIdeal.τ).loc Cert.MlpGradIdeal.main_arg3)) (m ((c.tc : Thread Cert.MlpGradIdeal.nD Cert.MlpGradIdeal.τ).loc Cert.MlpGradIdeal.main_arg4)) (m ((c.tc : Thread Cert.MlpGradIdeal.nD Cert.MlpGradIdeal.τ).loc Cert.MlpGradIdeal.main_arg5)) (m ((c.tc : Thread Cert.MlpGradIdeal.nD Cert.MlpGradIdeal.τ).loc Cert.MlpGradIdeal.main_arg6)) (m ((c.tc : Thread Cert.MlpGradIdeal.nD Cert.MlpGradIdeal.τ).loc Cert.MlpGradIdeal.main_arg7)) (m ((c.tc : Thread Cert.MlpGradIdeal.nD Cert.MlpGradIdeal.τ).loc Cert.MlpGradIdeal.main_arg8)) (m ((c.tc : Thread Cert.MlpGradIdeal.nD Cert.MlpGradIdeal.τ).loc Cert.MlpGradIdeal.main_arg9)) (m ((c.tc : Thread Cert.MlpGradIdeal.nD Cert.MlpGradIdeal.τ).loc Cert.MlpGradIdeal.main_arg10))).2.2.2.2.2.1 = (fun _ => 1#1)
    ∧ (Cert.Pre_mlp_finite.fn (F := Ideal) (m ((c.tc : Thread Cert.MlpGradIdeal.nD Cert.MlpGradIdeal.τ).loc Cert.MlpGradIdeal.main_arg0)) (m ((c.tc : Thread Cert.MlpGradIdeal.nD Cert.MlpGradIdeal.τ).loc Cert.MlpGradIdeal.main_arg1)) (m ((c.tc : Thread Cert.MlpGradIdeal.nD Cert.MlpGradIdeal.τ).loc Cert.MlpGradIdeal.main_arg2)) (m ((c.tc : Thread Cert.MlpGradIdeal.nD Cert.MlpGradIdeal.τ).loc Cert.MlpGradIdeal.main_arg3)) (m ((c.tc : Thread Cert.MlpGradIdeal.nD Cert.MlpGradIdeal.τ).loc Cert.MlpGradIdeal.main_arg4)) (m ((c.tc : Thread Cert.MlpGradIdeal.nD Cert.MlpGradIdeal.τ).loc Cert.MlpGradIdeal.main_arg5)) (m ((c.tc : Thread Cert.MlpGradIdeal.nD Cert.MlpGradIdeal.τ).loc Cert.MlpGradIdeal.main_arg6)) (m ((c.tc : Thread Cert.MlpGradIdeal.nD Cert.MlpGradIdeal.τ).loc Cert.MlpGradIdeal.main_arg7)) (m ((c.tc : Thread Cert.MlpGradIdeal.nD Cert.MlpGradIdeal.τ).loc Cert.MlpGradIdeal.main_arg8)) (m ((c.tc : Thread Cert.MlpGradIdeal.nD Cert.MlpGradIdeal.τ).loc Cert.MlpGradIdeal.main_arg9)) (m ((c.tc : Thread Cert.MlpGradIdeal.nD Cert.MlpGradIdeal.τ).loc Cert.MlpGradIdeal.main_arg10))).2.2.2.2.2.2.1 = (fun _ => 1#1)
    ∧ (Cert.Pre_mlp_finite.fn (F := Ideal) (m ((c.tc : Thread Cert.MlpGradIdeal.nD Cert.MlpGradIdeal.τ).loc Cert.MlpGradIdeal.main_arg0)) (m ((c.tc : Thread Cert.MlpGradIdeal.nD Cert.MlpGradIdeal.τ).loc Cert.MlpGradIdeal.main_arg1)) (m ((c.tc : Thread Cert.MlpGradIdeal.nD Cert.MlpGradIdeal.τ).loc Cert.MlpGradIdeal.main_arg2)) (m ((c.tc : Thread Cert.MlpGradIdeal.nD Cert.MlpGradIdeal.τ).loc Cert.MlpGradIdeal.main_arg3)) (m ((c.tc : Thread Cert.MlpGradIdeal.nD Cert.MlpGradIdeal.τ).loc Cert.MlpGradIdeal.main_arg4)) (m ((c.tc : Thread Cert.MlpGradIdeal.nD Cert.MlpGradIdeal.τ).loc Cert.MlpGradIdeal.main_arg5)) (m ((c.tc : Thread Cert.MlpGradIdeal.nD Cert.MlpGradIdeal.τ).loc Cert.MlpGradIdeal.main_arg6)) (m ((c.tc : Thread Cert.MlpGradIdeal.nD Cert.MlpGradIdeal.τ).loc Cert.MlpGradIdeal.main_arg7)) (m ((c.tc : Thread Cert.MlpGradIdeal.nD Cert.MlpGradIdeal.τ).loc Cert.MlpGradIdeal.main_arg8)) (m ((c.tc : Thread Cert.MlpGradIdeal.nD Cert.MlpGradIdeal.τ).loc Cert.MlpGradIdeal.main_arg9)) (m ((c.tc : Thread Cert.MlpGradIdeal.nD Cert.MlpGradIdeal.τ).loc Cert.MlpGradIdeal.main_arg10))).2.2.2.2.2.2.2.1 = (fun _ => 1#1)
    ∧ (Cert.Pre_mlp_finite.fn (F := Ideal) (m ((c.tc : Thread Cert.MlpGradIdeal.nD Cert.MlpGradIdeal.τ).loc Cert.MlpGradIdeal.main_arg0)) (m ((c.tc : Thread Cert.MlpGradIdeal.nD Cert.MlpGradIdeal.τ).loc Cert.MlpGradIdeal.main_arg1)) (m ((c.tc : Thread Cert.MlpGradIdeal.nD Cert.MlpGradIdeal.τ).loc Cert.MlpGradIdeal.main_arg2)) (m ((c.tc : Thread Cert.MlpGradIdeal.nD Cert.MlpGradIdeal.τ).loc Cert.MlpGradIdeal.main_arg3)) (m ((c.tc : Thread Cert.MlpGradIdeal.nD Cert.MlpGradIdeal.τ).loc Cert.MlpGradIdeal.main_arg4)) (m ((c.tc : Thread Cert.MlpGradIdeal.nD Cert.MlpGradIdeal.τ).loc Cert.MlpGradIdeal.main_arg5)) (m ((c.tc : Thread Cert.MlpGradIdeal.nD Cert.MlpGradIdeal.τ).loc Cert.MlpGradIdeal.main_arg6)) (m ((c.tc : Thread Cert.MlpGradIdeal.nD Cert.MlpGradIdeal.τ).loc Cert.MlpGradIdeal.main_arg7)) (m ((c.tc : Thread Cert.MlpGradIdeal.nD Cert.MlpGradIdeal.τ).loc Cert.MlpGradIdeal.main_arg8)) (m ((c.tc : Thread Cert.MlpGradIdeal.nD Cert.MlpGradIdeal.τ).loc Cert.MlpGradIdeal.main_arg9)) (m ((c.tc : Thread Cert.MlpGradIdeal.nD Cert.MlpGradIdeal.τ).loc Cert.MlpGradIdeal.main_arg10))).2.2.2.2.2.2.2.2 = (fun _ => 1#1)

def Pre_MlpGradRefIdeal (m : (ℓ : Loc Cert.MlpGradRefIdeal.nD Cert.MlpGradRefIdeal.τ Cert.MlpGradRefIdeal.sig) → Buf (Elt Ideal) ℓ) : Prop :=
  True

def Pre_MlpGradRefIdeal_mlp_finite [hPre_mlp_finite : Cert.Pre_mlp_finite.Facts] (m : (ℓ : Loc Cert.MlpGradRefIdeal.nD Cert.MlpGradRefIdeal.τ Cert.MlpGradRefIdeal.sig) → Buf (Elt Ideal) ℓ) : Prop :=
  ∀ c : Dev Cert.MlpGradRefIdeal.nD,
    (Cert.Pre_mlp_finite.fn (F := Ideal) (m ((c.tc : Thread Cert.MlpGradRefIdeal.nD Cert.MlpGradRefIdeal.τ).loc Cert.MlpGradRefIdeal.main_arg0)) (m ((c.tc : Thread Cert.MlpGradRefIdeal.nD Cert.MlpGradRefIdeal.τ).loc Cert.MlpGradRefIdeal.main_arg1)) (m ((c.tc : Thread Cert.MlpGradRefIdeal.nD Cert.MlpGradRefIdeal.τ).loc Cert.MlpGradRefIdeal.main_arg2)) (m ((c.tc : Thread Cert.MlpGradRefIdeal.nD Cert.MlpGradRefIdeal.τ).loc Cert.MlpGradRefIdeal.main_arg3)) (m ((c.tc : Thread Cert.MlpGradRefIdeal.nD Cert.MlpGradRefIdeal.τ).loc Cert.MlpGradRefIdeal.main_arg4)) (m ((c.tc : Thread Cert.MlpGradRefIdeal.nD Cert.MlpGradRefIdeal.τ).loc Cert.MlpGradRefIdeal.main_arg5)) (m ((c.tc : Thread Cert.MlpGradRefIdeal.nD Cert.MlpGradRefIdeal.τ).loc Cert.MlpGradRefIdeal.main_arg6)) (m ((c.tc : Thread Cert.MlpGradRefIdeal.nD Cert.MlpGradRefIdeal.τ).loc Cert.MlpGradRefIdeal.main_arg7)) (m ((c.tc : Thread Cert.MlpGradRefIdeal.nD Cert.MlpGradRefIdeal.τ).loc Cert.MlpGradRefIdeal.main_arg8)) (m ((c.tc : Thread Cert.MlpGradRefIdeal.nD Cert.MlpGradRefIdeal.τ).loc Cert.MlpGradRefIdeal.main_arg9)) (m ((c.tc : Thread Cert.MlpGradRefIdeal.nD Cert.MlpGradRefIdeal.τ).loc Cert.MlpGradRefIdeal.main_arg10))).1 = (fun _ => 1#1)
    ∧ (Cert.Pre_mlp_finite.fn (F := Ideal) (m ((c.tc : Thread Cert.MlpGradRefIdeal.nD Cert.MlpGradRefIdeal.τ).loc Cert.MlpGradRefIdeal.main_arg0)) (m ((c.tc : Thread Cert.MlpGradRefIdeal.nD Cert.MlpGradRefIdeal.τ).loc Cert.MlpGradRefIdeal.main_arg1)) (m ((c.tc : Thread Cert.MlpGradRefIdeal.nD Cert.MlpGradRefIdeal.τ).loc Cert.MlpGradRefIdeal.main_arg2)) (m ((c.tc : Thread Cert.MlpGradRefIdeal.nD Cert.MlpGradRefIdeal.τ).loc Cert.MlpGradRefIdeal.main_arg3)) (m ((c.tc : Thread Cert.MlpGradRefIdeal.nD Cert.MlpGradRefIdeal.τ).loc Cert.MlpGradRefIdeal.main_arg4)) (m ((c.tc : Thread Cert.MlpGradRefIdeal.nD Cert.MlpGradRefIdeal.τ).loc Cert.MlpGradRefIdeal.main_arg5)) (m ((c.tc : Thread Cert.MlpGradRefIdeal.nD Cert.MlpGradRefIdeal.τ).loc Cert.MlpGradRefIdeal.main_arg6)) (m ((c.tc : Thread Cert.MlpGradRefIdeal.nD Cert.MlpGradRefIdeal.τ).loc Cert.MlpGradRefIdeal.main_arg7)) (m ((c.tc : Thread Cert.MlpGradRefIdeal.nD Cert.MlpGradRefIdeal.τ).loc Cert.MlpGradRefIdeal.main_arg8)) (m ((c.tc : Thread Cert.MlpGradRefIdeal.nD Cert.MlpGradRefIdeal.τ).loc Cert.MlpGradRefIdeal.main_arg9)) (m ((c.tc : Thread Cert.MlpGradRefIdeal.nD Cert.MlpGradRefIdeal.τ).loc Cert.MlpGradRefIdeal.main_arg10))).2.1 = (fun _ => 1#1)
    ∧ (Cert.Pre_mlp_finite.fn (F := Ideal) (m ((c.tc : Thread Cert.MlpGradRefIdeal.nD Cert.MlpGradRefIdeal.τ).loc Cert.MlpGradRefIdeal.main_arg0)) (m ((c.tc : Thread Cert.MlpGradRefIdeal.nD Cert.MlpGradRefIdeal.τ).loc Cert.MlpGradRefIdeal.main_arg1)) (m ((c.tc : Thread Cert.MlpGradRefIdeal.nD Cert.MlpGradRefIdeal.τ).loc Cert.MlpGradRefIdeal.main_arg2)) (m ((c.tc : Thread Cert.MlpGradRefIdeal.nD Cert.MlpGradRefIdeal.τ).loc Cert.MlpGradRefIdeal.main_arg3)) (m ((c.tc : Thread Cert.MlpGradRefIdeal.nD Cert.MlpGradRefIdeal.τ).loc Cert.MlpGradRefIdeal.main_arg4)) (m ((c.tc : Thread Cert.MlpGradRefIdeal.nD Cert.MlpGradRefIdeal.τ).loc Cert.MlpGradRefIdeal.main_arg5)) (m ((c.tc : Thread Cert.MlpGradRefIdeal.nD Cert.MlpGradRefIdeal.τ).loc Cert.MlpGradRefIdeal.main_arg6)) (m ((c.tc : Thread Cert.MlpGradRefIdeal.nD Cert.MlpGradRefIdeal.τ).loc Cert.MlpGradRefIdeal.main_arg7)) (m ((c.tc : Thread Cert.MlpGradRefIdeal.nD Cert.MlpGradRefIdeal.τ).loc Cert.MlpGradRefIdeal.main_arg8)) (m ((c.tc : Thread Cert.MlpGradRefIdeal.nD Cert.MlpGradRefIdeal.τ).loc Cert.MlpGradRefIdeal.main_arg9)) (m ((c.tc : Thread Cert.MlpGradRefIdeal.nD Cert.MlpGradRefIdeal.τ).loc Cert.MlpGradRefIdeal.main_arg10))).2.2.1 = (fun _ => 1#1)
    ∧ (Cert.Pre_mlp_finite.fn (F := Ideal) (m ((c.tc : Thread Cert.MlpGradRefIdeal.nD Cert.MlpGradRefIdeal.τ).loc Cert.MlpGradRefIdeal.main_arg0)) (m ((c.tc : Thread Cert.MlpGradRefIdeal.nD Cert.MlpGradRefIdeal.τ).loc Cert.MlpGradRefIdeal.main_arg1)) (m ((c.tc : Thread Cert.MlpGradRefIdeal.nD Cert.MlpGradRefIdeal.τ).loc Cert.MlpGradRefIdeal.main_arg2)) (m ((c.tc : Thread Cert.MlpGradRefIdeal.nD Cert.MlpGradRefIdeal.τ).loc Cert.MlpGradRefIdeal.main_arg3)) (m ((c.tc : Thread Cert.MlpGradRefIdeal.nD Cert.MlpGradRefIdeal.τ).loc Cert.MlpGradRefIdeal.main_arg4)) (m ((c.tc : Thread Cert.MlpGradRefIdeal.nD Cert.MlpGradRefIdeal.τ).loc Cert.MlpGradRefIdeal.main_arg5)) (m ((c.tc : Thread Cert.MlpGradRefIdeal.nD Cert.MlpGradRefIdeal.τ).loc Cert.MlpGradRefIdeal.main_arg6)) (m ((c.tc : Thread Cert.MlpGradRefIdeal.nD Cert.MlpGradRefIdeal.τ).loc Cert.MlpGradRefIdeal.main_arg7)) (m ((c.tc : Thread Cert.MlpGradRefIdeal.nD Cert.MlpGradRefIdeal.τ).loc Cert.MlpGradRefIdeal.main_arg8)) (m ((c.tc : Thread Cert.MlpGradRefIdeal.nD Cert.MlpGradRefIdeal.τ).loc Cert.MlpGradRefIdeal.main_arg9)) (m ((c.tc : Thread Cert.MlpGradRefIdeal.nD Cert.MlpGradRefIdeal.τ).loc Cert.MlpGradRefIdeal.main_arg10))).2.2.2.1 = (fun _ => 1#1)
    ∧ (Cert.Pre_mlp_finite.fn (F := Ideal) (m ((c.tc : Thread Cert.MlpGradRefIdeal.nD Cert.MlpGradRefIdeal.τ).loc Cert.MlpGradRefIdeal.main_arg0)) (m ((c.tc : Thread Cert.MlpGradRefIdeal.nD Cert.MlpGradRefIdeal.τ).loc Cert.MlpGradRefIdeal.main_arg1)) (m ((c.tc : Thread Cert.MlpGradRefIdeal.nD Cert.MlpGradRefIdeal.τ).loc Cert.MlpGradRefIdeal.main_arg2)) (m ((c.tc : Thread Cert.MlpGradRefIdeal.nD Cert.MlpGradRefIdeal.τ).loc Cert.MlpGradRefIdeal.main_arg3)) (m ((c.tc : Thread Cert.MlpGradRefIdeal.nD Cert.MlpGradRefIdeal.τ).loc Cert.MlpGradRefIdeal.main_arg4)) (m ((c.tc : Thread Cert.MlpGradRefIdeal.nD Cert.MlpGradRefIdeal.τ).loc Cert.MlpGradRefIdeal.main_arg5)) (m ((c.tc : Thread Cert.MlpGradRefIdeal.nD Cert.MlpGradRefIdeal.τ).loc Cert.MlpGradRefIdeal.main_arg6)) (m ((c.tc : Thread Cert.MlpGradRefIdeal.nD Cert.MlpGradRefIdeal.τ).loc Cert.MlpGradRefIdeal.main_arg7)) (m ((c.tc : Thread Cert.MlpGradRefIdeal.nD Cert.MlpGradRefIdeal.τ).loc Cert.MlpGradRefIdeal.main_arg8)) (m ((c.tc : Thread Cert.MlpGradRefIdeal.nD Cert.MlpGradRefIdeal.τ).loc Cert.MlpGradRefIdeal.main_arg9)) (m ((c.tc : Thread Cert.MlpGradRefIdeal.nD Cert.MlpGradRefIdeal.τ).loc Cert.MlpGradRefIdeal.main_arg10))).2.2.2.2.1 = (fun _ => 1#1)
    ∧ (Cert.Pre_mlp_finite.fn (F := Ideal) (m ((c.tc : Thread Cert.MlpGradRefIdeal.nD Cert.MlpGradRefIdeal.τ).loc Cert.MlpGradRefIdeal.main_arg0)) (m ((c.tc : Thread Cert.MlpGradRefIdeal.nD Cert.MlpGradRefIdeal.τ).loc Cert.MlpGradRefIdeal.main_arg1)) (m ((c.tc : Thread Cert.MlpGradRefIdeal.nD Cert.MlpGradRefIdeal.τ).loc Cert.MlpGradRefIdeal.main_arg2)) (m ((c.tc : Thread Cert.MlpGradRefIdeal.nD Cert.MlpGradRefIdeal.τ).loc Cert.MlpGradRefIdeal.main_arg3)) (m ((c.tc : Thread Cert.MlpGradRefIdeal.nD Cert.MlpGradRefIdeal.τ).loc Cert.MlpGradRefIdeal.main_arg4)) (m ((c.tc : Thread Cert.MlpGradRefIdeal.nD Cert.MlpGradRefIdeal.τ).loc Cert.MlpGradRefIdeal.main_arg5)) (m ((c.tc : Thread Cert.MlpGradRefIdeal.nD Cert.MlpGradRefIdeal.τ).loc Cert.MlpGradRefIdeal.main_arg6)) (m ((c.tc : Thread Cert.MlpGradRefIdeal.nD Cert.MlpGradRefIdeal.τ).loc Cert.MlpGradRefIdeal.main_arg7)) (m ((c.tc : Thread Cert.MlpGradRefIdeal.nD Cert.MlpGradRefIdeal.τ).loc Cert.MlpGradRefIdeal.main_arg8)) (m ((c.tc : Thread Cert.MlpGradRefIdeal.nD Cert.MlpGradRefIdeal.τ).loc Cert.MlpGradRefIdeal.main_arg9)) (m ((c.tc : Thread Cert.MlpGradRefIdeal.nD Cert.MlpGradRefIdeal.τ).loc Cert.MlpGradRefIdeal.main_arg10))).2.2.2.2.2.1 = (fun _ => 1#1)
    ∧ (Cert.Pre_mlp_finite.fn (F := Ideal) (m ((c.tc : Thread Cert.MlpGradRefIdeal.nD Cert.MlpGradRefIdeal.τ).loc Cert.MlpGradRefIdeal.main_arg0)) (m ((c.tc : Thread Cert.MlpGradRefIdeal.nD Cert.MlpGradRefIdeal.τ).loc Cert.MlpGradRefIdeal.main_arg1)) (m ((c.tc : Thread Cert.MlpGradRefIdeal.nD Cert.MlpGradRefIdeal.τ).loc Cert.MlpGradRefIdeal.main_arg2)) (m ((c.tc : Thread Cert.MlpGradRefIdeal.nD Cert.MlpGradRefIdeal.τ).loc Cert.MlpGradRefIdeal.main_arg3)) (m ((c.tc : Thread Cert.MlpGradRefIdeal.nD Cert.MlpGradRefIdeal.τ).loc Cert.MlpGradRefIdeal.main_arg4)) (m ((c.tc : Thread Cert.MlpGradRefIdeal.nD Cert.MlpGradRefIdeal.τ).loc Cert.MlpGradRefIdeal.main_arg5)) (m ((c.tc : Thread Cert.MlpGradRefIdeal.nD Cert.MlpGradRefIdeal.τ).loc Cert.MlpGradRefIdeal.main_arg6)) (m ((c.tc : Thread Cert.MlpGradRefIdeal.nD Cert.MlpGradRefIdeal.τ).loc Cert.MlpGradRefIdeal.main_arg7)) (m ((c.tc : Thread Cert.MlpGradRefIdeal.nD Cert.MlpGradRefIdeal.τ).loc Cert.MlpGradRefIdeal.main_arg8)) (m ((c.tc : Thread Cert.MlpGradRefIdeal.nD Cert.MlpGradRefIdeal.τ).loc Cert.MlpGradRefIdeal.main_arg9)) (m ((c.tc : Thread Cert.MlpGradRefIdeal.nD Cert.MlpGradRefIdeal.τ).loc Cert.MlpGradRefIdeal.main_arg10))).2.2.2.2.2.2.1 = (fun _ => 1#1)
    ∧ (Cert.Pre_mlp_finite.fn (F := Ideal) (m ((c.tc : Thread Cert.MlpGradRefIdeal.nD Cert.MlpGradRefIdeal.τ).loc Cert.MlpGradRefIdeal.main_arg0)) (m ((c.tc : Thread Cert.MlpGradRefIdeal.nD Cert.MlpGradRefIdeal.τ).loc Cert.MlpGradRefIdeal.main_arg1)) (m ((c.tc : Thread Cert.MlpGradRefIdeal.nD Cert.MlpGradRefIdeal.τ).loc Cert.MlpGradRefIdeal.main_arg2)) (m ((c.tc : Thread Cert.MlpGradRefIdeal.nD Cert.MlpGradRefIdeal.τ).loc Cert.MlpGradRefIdeal.main_arg3)) (m ((c.tc : Thread Cert.MlpGradRefIdeal.nD Cert.MlpGradRefIdeal.τ).loc Cert.MlpGradRefIdeal.main_arg4)) (m ((c.tc : Thread Cert.MlpGradRefIdeal.nD Cert.MlpGradRefIdeal.τ).loc Cert.MlpGradRefIdeal.main_arg5)) (m ((c.tc : Thread Cert.MlpGradRefIdeal.nD Cert.MlpGradRefIdeal.τ).loc Cert.MlpGradRefIdeal.main_arg6)) (m ((c.tc : Thread Cert.MlpGradRefIdeal.nD Cert.MlpGradRefIdeal.τ).loc Cert.MlpGradRefIdeal.main_arg7)) (m ((c.tc : Thread Cert.MlpGradRefIdeal.nD Cert.MlpGradRefIdeal.τ).loc Cert.MlpGradRefIdeal.main_arg8)) (m ((c.tc : Thread Cert.MlpGradRefIdeal.nD Cert.MlpGradRefIdeal.τ).loc Cert.MlpGradRefIdeal.main_arg9)) (m ((c.tc : Thread Cert.MlpGradRefIdeal.nD Cert.MlpGradRefIdeal.τ).loc Cert.MlpGradRefIdeal.main_arg10))).2.2.2.2.2.2.2.1 = (fun _ => 1#1)
    ∧ (Cert.Pre_mlp_finite.fn (F := Ideal) (m ((c.tc : Thread Cert.MlpGradRefIdeal.nD Cert.MlpGradRefIdeal.τ).loc Cert.MlpGradRefIdeal.main_arg0)) (m ((c.tc : Thread Cert.MlpGradRefIdeal.nD Cert.MlpGradRefIdeal.τ).loc Cert.MlpGradRefIdeal.main_arg1)) (m ((c.tc : Thread Cert.MlpGradRefIdeal.nD Cert.MlpGradRefIdeal.τ).loc Cert.MlpGradRefIdeal.main_arg2)) (m ((c.tc : Thread Cert.MlpGradRefIdeal.nD Cert.MlpGradRefIdeal.τ).loc Cert.MlpGradRefIdeal.main_arg3)) (m ((c.tc : Thread Cert.MlpGradRefIdeal.nD Cert.MlpGradRefIdeal.τ).loc Cert.MlpGradRefIdeal.main_arg4)) (m ((c.tc : Thread Cert.MlpGradRefIdeal.nD Cert.MlpGradRefIdeal.τ).loc Cert.MlpGradRefIdeal.main_arg5)) (m ((c.tc : Thread Cert.MlpGradRefIdeal.nD Cert.MlpGradRefIdeal.τ).loc Cert.MlpGradRefIdeal.main_arg6)) (m ((c.tc : Thread Cert.MlpGradRefIdeal.nD Cert.MlpGradRefIdeal.τ).loc Cert.MlpGradRefIdeal.main_arg7)) (m ((c.tc : Thread Cert.MlpGradRefIdeal.nD Cert.MlpGradRefIdeal.τ).loc Cert.MlpGradRefIdeal.main_arg8)) (m ((c.tc : Thread Cert.MlpGradRefIdeal.nD Cert.MlpGradRefIdeal.τ).loc Cert.MlpGradRefIdeal.main_arg9)) (m ((c.tc : Thread Cert.MlpGradRefIdeal.nD Cert.MlpGradRefIdeal.τ).loc Cert.MlpGradRefIdeal.main_arg10))).2.2.2.2.2.2.2.2 = (fun _ => 1#1)

def Pre_WoFwd (m : (ℓ : Loc Cert.WoFwd.nD Cert.WoFwd.τ Cert.WoFwd.sig) → Buf (Elt Bits) ℓ) : Prop :=
  True

def Pre_WoFwdIdeal (m : (ℓ : Loc Cert.WoFwdIdeal.nD Cert.WoFwdIdeal.τ Cert.WoFwdIdeal.sig) → Buf (Elt Ideal) ℓ) : Prop :=
  True

def Pre_WoFwdRefIdeal (m : (ℓ : Loc Cert.WoFwdRefIdeal.nD Cert.WoFwdRefIdeal.τ Cert.WoFwdRefIdeal.sig) → Buf (Elt Ideal) ℓ) : Prop :=
  True

def Pre_MlpFwd (m : (ℓ : Loc Cert.MlpFwd.nD Cert.MlpFwd.τ Cert.MlpFwd.sig) → Buf (Elt Bits) ℓ) : Prop :=
  True

def Pre_MlpFwdIdeal (m : (ℓ : Loc Cert.MlpFwdIdeal.nD Cert.MlpFwdIdeal.τ Cert.MlpFwdIdeal.sig) → Buf (Elt Ideal) ℓ) : Prop :=
  True

def Pre_MlpFwdRefIdeal (m : (ℓ : Loc Cert.MlpFwdRefIdeal.nD Cert.MlpFwdRefIdeal.τ Cert.MlpFwdRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_PoolFwd (m : (ℓ : Loc Cert.PoolFwd.nD Cert.PoolFwd.τ Cert.PoolFwd.sig) → Buf (Elt Bits) ℓ) : Prop :=
  True

def Pre_PoolFwdIdeal (m : (ℓ : Loc Cert.PoolFwdIdeal.nD Cert.PoolFwdIdeal.τ Cert.PoolFwdIdeal.sig) → Buf (Elt Ideal) ℓ) : Prop :=
  True

def Pre_PoolFwdIdeal_pool_fwd_finite [hPre_pool_fwd_finite : Cert.Pre_pool_fwd_finite.Facts] (m : (ℓ : Loc Cert.PoolFwdIdeal.nD Cert.PoolFwdIdeal.τ Cert.PoolFwdIdeal.sig) → Buf (Elt Ideal) ℓ) : Prop :=
  ∀ c : Dev Cert.PoolFwdIdeal.nD,
    (Cert.Pre_pool_fwd_finite.fn (F := Ideal) (m ((c.tc : Thread Cert.PoolFwdIdeal.nD Cert.PoolFwdIdeal.τ).loc Cert.PoolFwdIdeal.main_arg0)) (m ((c.tc : Thread Cert.PoolFwdIdeal.nD Cert.PoolFwdIdeal.τ).loc Cert.PoolFwdIdeal.main_arg1)) (m ((c.tc : Thread Cert.PoolFwdIdeal.nD Cert.PoolFwdIdeal.τ).loc Cert.PoolFwdIdeal.main_arg2))) = (fun _ => 1#1)

def Pre_PoolFwdRefIdeal (m : (ℓ : Loc Cert.PoolFwdRefIdeal.nD Cert.PoolFwdRefIdeal.τ Cert.PoolFwdRefIdeal.sig) → Buf (Elt Ideal) ℓ) : Prop :=
  True

def Pre_PoolFwdRefIdeal_pool_fwd_finite [hPre_pool_fwd_finite : Cert.Pre_pool_fwd_finite.Facts] (m : (ℓ : Loc Cert.PoolFwdRefIdeal.nD Cert.PoolFwdRefIdeal.τ Cert.PoolFwdRefIdeal.sig) → Buf (Elt Ideal) ℓ) : Prop :=
  ∀ c : Dev Cert.PoolFwdRefIdeal.nD,
    (Cert.Pre_pool_fwd_finite.fn (F := Ideal) (m ((c.tc : Thread Cert.PoolFwdRefIdeal.nD Cert.PoolFwdRefIdeal.τ).loc Cert.PoolFwdRefIdeal.main_arg0)) (m ((c.tc : Thread Cert.PoolFwdRefIdeal.nD Cert.PoolFwdRefIdeal.τ).loc Cert.PoolFwdRefIdeal.main_arg1)) (m ((c.tc : Thread Cert.PoolFwdRefIdeal.nD Cert.PoolFwdRefIdeal.τ).loc Cert.PoolFwdRefIdeal.main_arg2))) = (fun _ => 1#1)

def quiescent_LossGrad [hLossGrad : Cert.LossGrad.Facts] : Prop :=
  ∀ (m : (ℓ : Loc Cert.LossGrad.nD Cert.LossGrad.τ Cert.LossGrad.sig) → Buf (Elt Bits) ℓ) (g : Dev Cert.LossGrad.nD → PrngReg), Pre_LossGrad m →
    θ_run (Cert.LossGrad.defs (F := Bits)) (onTc (τ := Cert.LossGrad.τ) (Cert.LossGrad.main (F := Bits))) ⟨m, fun _ => 0, g⟩ (fun r => (∀ c : Dev Cert.LossGrad.nD,
      r.2.mem ((c.tc : Thread Cert.LossGrad.nD Cert.LossGrad.τ).loc Cert.LossGrad.main_arg0) = m ((c.tc : Thread Cert.LossGrad.nD Cert.LossGrad.τ).loc Cert.LossGrad.main_arg0)
      ∧ r.2.mem ((c.tc : Thread Cert.LossGrad.nD Cert.LossGrad.τ).loc Cert.LossGrad.main_arg1) = m ((c.tc : Thread Cert.LossGrad.nD Cert.LossGrad.τ).loc Cert.LossGrad.main_arg1))
      ∧ r.2.sem = fun _ => 0)

def quiescent_LossGradIdeal [hLossGradIdeal : Cert.LossGradIdeal.Facts] : Prop :=
  ∀ (m : (ℓ : Loc Cert.LossGradIdeal.nD Cert.LossGradIdeal.τ Cert.LossGradIdeal.sig) → Buf (Elt Ideal) ℓ) (g : Dev Cert.LossGradIdeal.nD → PrngReg), Pre_LossGradIdeal m →
    θ_run (Cert.LossGradIdeal.defs (F := Ideal)) (onTc (τ := Cert.LossGradIdeal.τ) (Cert.LossGradIdeal.main (F := Ideal))) ⟨m, fun _ => 0, g⟩ (fun r => (∀ c : Dev Cert.LossGradIdeal.nD,
      r.2.mem ((c.tc : Thread Cert.LossGradIdeal.nD Cert.LossGradIdeal.τ).loc Cert.LossGradIdeal.main_arg0) = m ((c.tc : Thread Cert.LossGradIdeal.nD Cert.LossGradIdeal.τ).loc Cert.LossGradIdeal.main_arg0)
      ∧ r.2.mem ((c.tc : Thread Cert.LossGradIdeal.nD Cert.LossGradIdeal.τ).loc Cert.LossGradIdeal.main_arg1) = m ((c.tc : Thread Cert.LossGradIdeal.nD Cert.LossGradIdeal.τ).loc Cert.LossGradIdeal.main_arg1))
      ∧ r.2.sem = fun _ => 0)

def quiescent_LossGradRefIdeal [hLossGradRefIdeal : Cert.LossGradRefIdeal.Facts] : Prop :=
  ∀ (m : (ℓ : Loc Cert.LossGradRefIdeal.nD Cert.LossGradRefIdeal.τ Cert.LossGradRefIdeal.sig) → Buf (Elt Ideal) ℓ) (g : Dev Cert.LossGradRefIdeal.nD → PrngReg), Pre_LossGradRefIdeal m →
    θ_run (Cert.LossGradRefIdeal.defs (F := Ideal)) (onTc (τ := Cert.LossGradRefIdeal.τ) (Cert.LossGradRefIdeal.main (F := Ideal))) ⟨m, fun _ => 0, g⟩ (fun r => (∀ c : Dev Cert.LossGradRefIdeal.nD,
      r.2.mem ((c.tc : Thread Cert.LossGradRefIdeal.nD Cert.LossGradRefIdeal.τ).loc Cert.LossGradRefIdeal.main_arg0) = m ((c.tc : Thread Cert.LossGradRefIdeal.nD Cert.LossGradRefIdeal.τ).loc Cert.LossGradRefIdeal.main_arg0)
      ∧ r.2.mem ((c.tc : Thread Cert.LossGradRefIdeal.nD Cert.LossGradRefIdeal.τ).loc Cert.LossGradRefIdeal.main_arg1) = m ((c.tc : Thread Cert.LossGradRefIdeal.nD Cert.LossGradRefIdeal.τ).loc Cert.LossGradRefIdeal.main_arg1))
      ∧ r.2.sem = fun _ => 0)

def quiescent_ConvGrad [hConvGrad : Cert.ConvGrad.Facts] : Prop :=
  ∀ (m : (ℓ : Loc Cert.ConvGrad.nD Cert.ConvGrad.τ Cert.ConvGrad.sig) → Buf (Elt Bits) ℓ) (g : Dev Cert.ConvGrad.nD → PrngReg), Pre_ConvGrad m →
    θ_run (Cert.ConvGrad.defs (F := Bits)) (onTc (τ := Cert.ConvGrad.τ) (Cert.ConvGrad.main (F := Bits))) ⟨m, fun _ => 0, g⟩ (fun r => (∀ c : Dev Cert.ConvGrad.nD,
      r.2.mem ((c.tc : Thread Cert.ConvGrad.nD Cert.ConvGrad.τ).loc Cert.ConvGrad.main_arg0) = m ((c.tc : Thread Cert.ConvGrad.nD Cert.ConvGrad.τ).loc Cert.ConvGrad.main_arg0)
      ∧ r.2.mem ((c.tc : Thread Cert.ConvGrad.nD Cert.ConvGrad.τ).loc Cert.ConvGrad.main_arg1) = m ((c.tc : Thread Cert.ConvGrad.nD Cert.ConvGrad.τ).loc Cert.ConvGrad.main_arg1)
      ∧ r.2.mem ((c.tc : Thread Cert.ConvGrad.nD Cert.ConvGrad.τ).loc Cert.ConvGrad.main_arg2) = m ((c.tc : Thread Cert.ConvGrad.nD Cert.ConvGrad.τ).loc Cert.ConvGrad.main_arg2)
      ∧ r.2.mem ((c.tc : Thread Cert.ConvGrad.nD Cert.ConvGrad.τ).loc Cert.ConvGrad.main_arg3) = m ((c.tc : Thread Cert.ConvGrad.nD Cert.ConvGrad.τ).loc Cert.ConvGrad.main_arg3))
      ∧ r.2.sem = fun _ => 0)

def quiescent_ConvGradIdeal [hConvGradIdeal : Cert.ConvGradIdeal.Facts] : Prop :=
  ∀ (m : (ℓ : Loc Cert.ConvGradIdeal.nD Cert.ConvGradIdeal.τ Cert.ConvGradIdeal.sig) → Buf (Elt Ideal) ℓ) (g : Dev Cert.ConvGradIdeal.nD → PrngReg), Pre_ConvGradIdeal m →
    θ_run (Cert.ConvGradIdeal.defs (F := Ideal)) (onTc (τ := Cert.ConvGradIdeal.τ) (Cert.ConvGradIdeal.main (F := Ideal))) ⟨m, fun _ => 0, g⟩ (fun r => (∀ c : Dev Cert.ConvGradIdeal.nD,
      r.2.mem ((c.tc : Thread Cert.ConvGradIdeal.nD Cert.ConvGradIdeal.τ).loc Cert.ConvGradIdeal.main_arg0) = m ((c.tc : Thread Cert.ConvGradIdeal.nD Cert.ConvGradIdeal.τ).loc Cert.ConvGradIdeal.main_arg0)
      ∧ r.2.mem ((c.tc : Thread Cert.ConvGradIdeal.nD Cert.ConvGradIdeal.τ).loc Cert.ConvGradIdeal.main_arg1) = m ((c.tc : Thread Cert.ConvGradIdeal.nD Cert.ConvGradIdeal.τ).loc Cert.ConvGradIdeal.main_arg1)
      ∧ r.2.mem ((c.tc : Thread Cert.ConvGradIdeal.nD Cert.ConvGradIdeal.τ).loc Cert.ConvGradIdeal.main_arg2) = m ((c.tc : Thread Cert.ConvGradIdeal.nD Cert.ConvGradIdeal.τ).loc Cert.ConvGradIdeal.main_arg2)
      ∧ r.2.mem ((c.tc : Thread Cert.ConvGradIdeal.nD Cert.ConvGradIdeal.τ).loc Cert.ConvGradIdeal.main_arg3) = m ((c.tc : Thread Cert.ConvGradIdeal.nD Cert.ConvGradIdeal.τ).loc Cert.ConvGradIdeal.main_arg3))
      ∧ r.2.sem = fun _ => 0)

def quiescent_ConvGradRefIdeal [hConvGradRefIdeal : Cert.ConvGradRefIdeal.Facts] : Prop :=
  ∀ (m : (ℓ : Loc Cert.ConvGradRefIdeal.nD Cert.ConvGradRefIdeal.τ Cert.ConvGradRefIdeal.sig) → Buf (Elt Ideal) ℓ) (g : Dev Cert.ConvGradRefIdeal.nD → PrngReg), Pre_ConvGradRefIdeal m →
    θ_run (Cert.ConvGradRefIdeal.defs (F := Ideal)) (onTc (τ := Cert.ConvGradRefIdeal.τ) (Cert.ConvGradRefIdeal.main (F := Ideal))) ⟨m, fun _ => 0, g⟩ (fun r => (∀ c : Dev Cert.ConvGradRefIdeal.nD,
      r.2.mem ((c.tc : Thread Cert.ConvGradRefIdeal.nD Cert.ConvGradRefIdeal.τ).loc Cert.ConvGradRefIdeal.main_arg0) = m ((c.tc : Thread Cert.ConvGradRefIdeal.nD Cert.ConvGradRefIdeal.τ).loc Cert.ConvGradRefIdeal.main_arg0)
      ∧ r.2.mem ((c.tc : Thread Cert.ConvGradRefIdeal.nD Cert.ConvGradRefIdeal.τ).loc Cert.ConvGradRefIdeal.main_arg1) = m ((c.tc : Thread Cert.ConvGradRefIdeal.nD Cert.ConvGradRefIdeal.τ).loc Cert.ConvGradRefIdeal.main_arg1)
      ∧ r.2.mem ((c.tc : Thread Cert.ConvGradRefIdeal.nD Cert.ConvGradRefIdeal.τ).loc Cert.ConvGradRefIdeal.main_arg2) = m ((c.tc : Thread Cert.ConvGradRefIdeal.nD Cert.ConvGradRefIdeal.τ).loc Cert.ConvGradRefIdeal.main_arg2)
      ∧ r.2.mem ((c.tc : Thread Cert.ConvGradRefIdeal.nD Cert.ConvGradRefIdeal.τ).loc Cert.ConvGradRefIdeal.main_arg3) = m ((c.tc : Thread Cert.ConvGradRefIdeal.nD Cert.ConvGradRefIdeal.τ).loc Cert.ConvGradRefIdeal.main_arg3))
      ∧ r.2.sem = fun _ => 0)

def quiescent_PoolGrad [hPoolGrad : Cert.PoolGrad.Facts] : Prop :=
  ∀ (m : (ℓ : Loc Cert.PoolGrad.nD Cert.PoolGrad.τ Cert.PoolGrad.sig) → Buf (Elt Bits) ℓ) (g : Dev Cert.PoolGrad.nD → PrngReg), Pre_PoolGrad m →
    θ_run (Cert.PoolGrad.defs (F := Bits)) (onTc (τ := Cert.PoolGrad.τ) (Cert.PoolGrad.main (F := Bits))) ⟨m, fun _ => 0, g⟩ (fun r => (∀ c : Dev Cert.PoolGrad.nD,
      r.2.mem ((c.tc : Thread Cert.PoolGrad.nD Cert.PoolGrad.τ).loc Cert.PoolGrad.main_arg0) = m ((c.tc : Thread Cert.PoolGrad.nD Cert.PoolGrad.τ).loc Cert.PoolGrad.main_arg0)
      ∧ r.2.mem ((c.tc : Thread Cert.PoolGrad.nD Cert.PoolGrad.τ).loc Cert.PoolGrad.main_arg1) = m ((c.tc : Thread Cert.PoolGrad.nD Cert.PoolGrad.τ).loc Cert.PoolGrad.main_arg1)
      ∧ r.2.mem ((c.tc : Thread Cert.PoolGrad.nD Cert.PoolGrad.τ).loc Cert.PoolGrad.main_arg2) = m ((c.tc : Thread Cert.PoolGrad.nD Cert.PoolGrad.τ).loc Cert.PoolGrad.main_arg2)
      ∧ r.2.mem ((c.tc : Thread Cert.PoolGrad.nD Cert.PoolGrad.τ).loc Cert.PoolGrad.main_arg3) = m ((c.tc : Thread Cert.PoolGrad.nD Cert.PoolGrad.τ).loc Cert.PoolGrad.main_arg3))
      ∧ r.2.sem = fun _ => 0)

def quiescent_PoolGradIdeal [hPoolGradIdeal : Cert.PoolGradIdeal.Facts] : Prop :=
  ∀ (m : (ℓ : Loc Cert.PoolGradIdeal.nD Cert.PoolGradIdeal.τ Cert.PoolGradIdeal.sig) → Buf (Elt Ideal) ℓ) (g : Dev Cert.PoolGradIdeal.nD → PrngReg), Pre_PoolGradIdeal m →
    θ_run (Cert.PoolGradIdeal.defs (F := Ideal)) (onTc (τ := Cert.PoolGradIdeal.τ) (Cert.PoolGradIdeal.main (F := Ideal))) ⟨m, fun _ => 0, g⟩ (fun r => (∀ c : Dev Cert.PoolGradIdeal.nD,
      r.2.mem ((c.tc : Thread Cert.PoolGradIdeal.nD Cert.PoolGradIdeal.τ).loc Cert.PoolGradIdeal.main_arg0) = m ((c.tc : Thread Cert.PoolGradIdeal.nD Cert.PoolGradIdeal.τ).loc Cert.PoolGradIdeal.main_arg0)
      ∧ r.2.mem ((c.tc : Thread Cert.PoolGradIdeal.nD Cert.PoolGradIdeal.τ).loc Cert.PoolGradIdeal.main_arg1) = m ((c.tc : Thread Cert.PoolGradIdeal.nD Cert.PoolGradIdeal.τ).loc Cert.PoolGradIdeal.main_arg1)
      ∧ r.2.mem ((c.tc : Thread Cert.PoolGradIdeal.nD Cert.PoolGradIdeal.τ).loc Cert.PoolGradIdeal.main_arg2) = m ((c.tc : Thread Cert.PoolGradIdeal.nD Cert.PoolGradIdeal.τ).loc Cert.PoolGradIdeal.main_arg2)
      ∧ r.2.mem ((c.tc : Thread Cert.PoolGradIdeal.nD Cert.PoolGradIdeal.τ).loc Cert.PoolGradIdeal.main_arg3) = m ((c.tc : Thread Cert.PoolGradIdeal.nD Cert.PoolGradIdeal.τ).loc Cert.PoolGradIdeal.main_arg3))
      ∧ r.2.sem = fun _ => 0)

def quiescent_PoolGradIdeal_pre_pool_finite [hPoolGradIdeal : Cert.PoolGradIdeal.Facts] [hPre_pool_finite : Cert.Pre_pool_finite.Facts] : Prop :=
  ∀ (m : (ℓ : Loc Cert.PoolGradIdeal.nD Cert.PoolGradIdeal.τ Cert.PoolGradIdeal.sig) → Buf (Elt Ideal) ℓ) (g : Dev Cert.PoolGradIdeal.nD → PrngReg), Pre_PoolGradIdeal_pool_finite m →
    θ_run (Cert.PoolGradIdeal.defs (F := Ideal)) (onTc (τ := Cert.PoolGradIdeal.τ) (Cert.PoolGradIdeal.main (F := Ideal))) ⟨m, fun _ => 0, g⟩ (fun r => (∀ c : Dev Cert.PoolGradIdeal.nD,
      r.2.mem ((c.tc : Thread Cert.PoolGradIdeal.nD Cert.PoolGradIdeal.τ).loc Cert.PoolGradIdeal.main_arg0) = m ((c.tc : Thread Cert.PoolGradIdeal.nD Cert.PoolGradIdeal.τ).loc Cert.PoolGradIdeal.main_arg0)
      ∧ r.2.mem ((c.tc : Thread Cert.PoolGradIdeal.nD Cert.PoolGradIdeal.τ).loc Cert.PoolGradIdeal.main_arg1) = m ((c.tc : Thread Cert.PoolGradIdeal.nD Cert.PoolGradIdeal.τ).loc Cert.PoolGradIdeal.main_arg1)
      ∧ r.2.mem ((c.tc : Thread Cert.PoolGradIdeal.nD Cert.PoolGradIdeal.τ).loc Cert.PoolGradIdeal.main_arg2) = m ((c.tc : Thread Cert.PoolGradIdeal.nD Cert.PoolGradIdeal.τ).loc Cert.PoolGradIdeal.main_arg2)
      ∧ r.2.mem ((c.tc : Thread Cert.PoolGradIdeal.nD Cert.PoolGradIdeal.τ).loc Cert.PoolGradIdeal.main_arg3) = m ((c.tc : Thread Cert.PoolGradIdeal.nD Cert.PoolGradIdeal.τ).loc Cert.PoolGradIdeal.main_arg3))
      ∧ r.2.sem = fun _ => 0)

def quiescent_PoolGradRefIdeal [hPoolGradRefIdeal : Cert.PoolGradRefIdeal.Facts] : Prop :=
  ∀ (m : (ℓ : Loc Cert.PoolGradRefIdeal.nD Cert.PoolGradRefIdeal.τ Cert.PoolGradRefIdeal.sig) → Buf (Elt Ideal) ℓ) (g : Dev Cert.PoolGradRefIdeal.nD → PrngReg), Pre_PoolGradRefIdeal m →
    θ_run (Cert.PoolGradRefIdeal.defs (F := Ideal)) (onTc (τ := Cert.PoolGradRefIdeal.τ) (Cert.PoolGradRefIdeal.main (F := Ideal))) ⟨m, fun _ => 0, g⟩ (fun r => (∀ c : Dev Cert.PoolGradRefIdeal.nD,
      r.2.mem ((c.tc : Thread Cert.PoolGradRefIdeal.nD Cert.PoolGradRefIdeal.τ).loc Cert.PoolGradRefIdeal.main_arg0) = m ((c.tc : Thread Cert.PoolGradRefIdeal.nD Cert.PoolGradRefIdeal.τ).loc Cert.PoolGradRefIdeal.main_arg0)
      ∧ r.2.mem ((c.tc : Thread Cert.PoolGradRefIdeal.nD Cert.PoolGradRefIdeal.τ).loc Cert.PoolGradRefIdeal.main_arg1) = m ((c.tc : Thread Cert.PoolGradRefIdeal.nD Cert.PoolGradRefIdeal.τ).loc Cert.PoolGradRefIdeal.main_arg1)
      ∧ r.2.mem ((c.tc : Thread Cert.PoolGradRefIdeal.nD Cert.PoolGradRefIdeal.τ).loc Cert.PoolGradRefIdeal.main_arg2) = m ((c.tc : Thread Cert.PoolGradRefIdeal.nD Cert.PoolGradRefIdeal.τ).loc Cert.PoolGradRefIdeal.main_arg2)
      ∧ r.2.mem ((c.tc : Thread Cert.PoolGradRefIdeal.nD Cert.PoolGradRefIdeal.τ).loc Cert.PoolGradRefIdeal.main_arg3) = m ((c.tc : Thread Cert.PoolGradRefIdeal.nD Cert.PoolGradRefIdeal.τ).loc Cert.PoolGradRefIdeal.main_arg3))
      ∧ r.2.sem = fun _ => 0)

def quiescent_PoolGradRefIdeal_pre_pool_finite [hPoolGradRefIdeal : Cert.PoolGradRefIdeal.Facts] [hPre_pool_finite : Cert.Pre_pool_finite.Facts] : Prop :=
  ∀ (m : (ℓ : Loc Cert.PoolGradRefIdeal.nD Cert.PoolGradRefIdeal.τ Cert.PoolGradRefIdeal.sig) → Buf (Elt Ideal) ℓ) (g : Dev Cert.PoolGradRefIdeal.nD → PrngReg), Pre_PoolGradRefIdeal_pool_finite m →
    θ_run (Cert.PoolGradRefIdeal.defs (F := Ideal)) (onTc (τ := Cert.PoolGradRefIdeal.τ) (Cert.PoolGradRefIdeal.main (F := Ideal))) ⟨m, fun _ => 0, g⟩ (fun r => (∀ c : Dev Cert.PoolGradRefIdeal.nD,
      r.2.mem ((c.tc : Thread Cert.PoolGradRefIdeal.nD Cert.PoolGradRefIdeal.τ).loc Cert.PoolGradRefIdeal.main_arg0) = m ((c.tc : Thread Cert.PoolGradRefIdeal.nD Cert.PoolGradRefIdeal.τ).loc Cert.PoolGradRefIdeal.main_arg0)
      ∧ r.2.mem ((c.tc : Thread Cert.PoolGradRefIdeal.nD Cert.PoolGradRefIdeal.τ).loc Cert.PoolGradRefIdeal.main_arg1) = m ((c.tc : Thread Cert.PoolGradRefIdeal.nD Cert.PoolGradRefIdeal.τ).loc Cert.PoolGradRefIdeal.main_arg1)
      ∧ r.2.mem ((c.tc : Thread Cert.PoolGradRefIdeal.nD Cert.PoolGradRefIdeal.τ).loc Cert.PoolGradRefIdeal.main_arg2) = m ((c.tc : Thread Cert.PoolGradRefIdeal.nD Cert.PoolGradRefIdeal.τ).loc Cert.PoolGradRefIdeal.main_arg2)
      ∧ r.2.mem ((c.tc : Thread Cert.PoolGradRefIdeal.nD Cert.PoolGradRefIdeal.τ).loc Cert.PoolGradRefIdeal.main_arg3) = m ((c.tc : Thread Cert.PoolGradRefIdeal.nD Cert.PoolGradRefIdeal.τ).loc Cert.PoolGradRefIdeal.main_arg3))
      ∧ r.2.sem = fun _ => 0)

def quiescent_SguGrad [hSguGrad : Cert.SguGrad.Facts] : Prop :=
  ∀ (m : (ℓ : Loc Cert.SguGrad.nD Cert.SguGrad.τ Cert.SguGrad.sig) → Buf (Elt Bits) ℓ) (g : Dev Cert.SguGrad.nD → PrngReg), Pre_SguGrad m →
    θ_run (Cert.SguGrad.defs (F := Bits)) (onTc (τ := Cert.SguGrad.τ) (Cert.SguGrad.main (F := Bits))) ⟨m, fun _ => 0, g⟩ (fun r => (∀ c : Dev Cert.SguGrad.nD,
      r.2.mem ((c.tc : Thread Cert.SguGrad.nD Cert.SguGrad.τ).loc Cert.SguGrad.main_arg0) = m ((c.tc : Thread Cert.SguGrad.nD Cert.SguGrad.τ).loc Cert.SguGrad.main_arg0)
      ∧ r.2.mem ((c.tc : Thread Cert.SguGrad.nD Cert.SguGrad.τ).loc Cert.SguGrad.main_arg1) = m ((c.tc : Thread Cert.SguGrad.nD Cert.SguGrad.τ).loc Cert.SguGrad.main_arg1)
      ∧ r.2.mem ((c.tc : Thread Cert.SguGrad.nD Cert.SguGrad.τ).loc Cert.SguGrad.main_arg2) = m ((c.tc : Thread Cert.SguGrad.nD Cert.SguGrad.τ).loc Cert.SguGrad.main_arg2)
      ∧ r.2.mem ((c.tc : Thread Cert.SguGrad.nD Cert.SguGrad.τ).loc Cert.SguGrad.main_arg3) = m ((c.tc : Thread Cert.SguGrad.nD Cert.SguGrad.τ).loc Cert.SguGrad.main_arg3)
      ∧ r.2.mem ((c.tc : Thread Cert.SguGrad.nD Cert.SguGrad.τ).loc Cert.SguGrad.main_arg4) = m ((c.tc : Thread Cert.SguGrad.nD Cert.SguGrad.τ).loc Cert.SguGrad.main_arg4))
      ∧ r.2.sem = fun _ => 0)

def quiescent_SguGradIdeal [hSguGradIdeal : Cert.SguGradIdeal.Facts] : Prop :=
  ∀ (m : (ℓ : Loc Cert.SguGradIdeal.nD Cert.SguGradIdeal.τ Cert.SguGradIdeal.sig) → Buf (Elt Ideal) ℓ) (g : Dev Cert.SguGradIdeal.nD → PrngReg), Pre_SguGradIdeal m →
    θ_run (Cert.SguGradIdeal.defs (F := Ideal)) (onTc (τ := Cert.SguGradIdeal.τ) (Cert.SguGradIdeal.main (F := Ideal))) ⟨m, fun _ => 0, g⟩ (fun r => (∀ c : Dev Cert.SguGradIdeal.nD,
      r.2.mem ((c.tc : Thread Cert.SguGradIdeal.nD Cert.SguGradIdeal.τ).loc Cert.SguGradIdeal.main_arg0) = m ((c.tc : Thread Cert.SguGradIdeal.nD Cert.SguGradIdeal.τ).loc Cert.SguGradIdeal.main_arg0)
      ∧ r.2.mem ((c.tc : Thread Cert.SguGradIdeal.nD Cert.SguGradIdeal.τ).loc Cert.SguGradIdeal.main_arg1) = m ((c.tc : Thread Cert.SguGradIdeal.nD Cert.SguGradIdeal.τ).loc Cert.SguGradIdeal.main_arg1)
      ∧ r.2.mem ((c.tc : Thread Cert.SguGradIdeal.nD Cert.SguGradIdeal.τ).loc Cert.SguGradIdeal.main_arg2) = m ((c.tc : Thread Cert.SguGradIdeal.nD Cert.SguGradIdeal.τ).loc Cert.SguGradIdeal.main_arg2)
      ∧ r.2.mem ((c.tc : Thread Cert.SguGradIdeal.nD Cert.SguGradIdeal.τ).loc Cert.SguGradIdeal.main_arg3) = m ((c.tc : Thread Cert.SguGradIdeal.nD Cert.SguGradIdeal.τ).loc Cert.SguGradIdeal.main_arg3)
      ∧ r.2.mem ((c.tc : Thread Cert.SguGradIdeal.nD Cert.SguGradIdeal.τ).loc Cert.SguGradIdeal.main_arg4) = m ((c.tc : Thread Cert.SguGradIdeal.nD Cert.SguGradIdeal.τ).loc Cert.SguGradIdeal.main_arg4))
      ∧ r.2.sem = fun _ => 0)

def quiescent_SguGradIdeal_pre_sgu_finite [hSguGradIdeal : Cert.SguGradIdeal.Facts] [hPre_sgu_finite : Cert.Pre_sgu_finite.Facts] : Prop :=
  ∀ (m : (ℓ : Loc Cert.SguGradIdeal.nD Cert.SguGradIdeal.τ Cert.SguGradIdeal.sig) → Buf (Elt Ideal) ℓ) (g : Dev Cert.SguGradIdeal.nD → PrngReg), Pre_SguGradIdeal_sgu_finite m →
    θ_run (Cert.SguGradIdeal.defs (F := Ideal)) (onTc (τ := Cert.SguGradIdeal.τ) (Cert.SguGradIdeal.main (F := Ideal))) ⟨m, fun _ => 0, g⟩ (fun r => (∀ c : Dev Cert.SguGradIdeal.nD,
      r.2.mem ((c.tc : Thread Cert.SguGradIdeal.nD Cert.SguGradIdeal.τ).loc Cert.SguGradIdeal.main_arg0) = m ((c.tc : Thread Cert.SguGradIdeal.nD Cert.SguGradIdeal.τ).loc Cert.SguGradIdeal.main_arg0)
      ∧ r.2.mem ((c.tc : Thread Cert.SguGradIdeal.nD Cert.SguGradIdeal.τ).loc Cert.SguGradIdeal.main_arg1) = m ((c.tc : Thread Cert.SguGradIdeal.nD Cert.SguGradIdeal.τ).loc Cert.SguGradIdeal.main_arg1)
      ∧ r.2.mem ((c.tc : Thread Cert.SguGradIdeal.nD Cert.SguGradIdeal.τ).loc Cert.SguGradIdeal.main_arg2) = m ((c.tc : Thread Cert.SguGradIdeal.nD Cert.SguGradIdeal.τ).loc Cert.SguGradIdeal.main_arg2)
      ∧ r.2.mem ((c.tc : Thread Cert.SguGradIdeal.nD Cert.SguGradIdeal.τ).loc Cert.SguGradIdeal.main_arg3) = m ((c.tc : Thread Cert.SguGradIdeal.nD Cert.SguGradIdeal.τ).loc Cert.SguGradIdeal.main_arg3)
      ∧ r.2.mem ((c.tc : Thread Cert.SguGradIdeal.nD Cert.SguGradIdeal.τ).loc Cert.SguGradIdeal.main_arg4) = m ((c.tc : Thread Cert.SguGradIdeal.nD Cert.SguGradIdeal.τ).loc Cert.SguGradIdeal.main_arg4))
      ∧ r.2.sem = fun _ => 0)

def quiescent_SguGradRefIdeal [hSguGradRefIdeal : Cert.SguGradRefIdeal.Facts] : Prop :=
  ∀ (m : (ℓ : Loc Cert.SguGradRefIdeal.nD Cert.SguGradRefIdeal.τ Cert.SguGradRefIdeal.sig) → Buf (Elt Ideal) ℓ) (g : Dev Cert.SguGradRefIdeal.nD → PrngReg), Pre_SguGradRefIdeal m →
    θ_run (Cert.SguGradRefIdeal.defs (F := Ideal)) (onTc (τ := Cert.SguGradRefIdeal.τ) (Cert.SguGradRefIdeal.main (F := Ideal))) ⟨m, fun _ => 0, g⟩ (fun r => (∀ c : Dev Cert.SguGradRefIdeal.nD,
      r.2.mem ((c.tc : Thread Cert.SguGradRefIdeal.nD Cert.SguGradRefIdeal.τ).loc Cert.SguGradRefIdeal.main_arg0) = m ((c.tc : Thread Cert.SguGradRefIdeal.nD Cert.SguGradRefIdeal.τ).loc Cert.SguGradRefIdeal.main_arg0)
      ∧ r.2.mem ((c.tc : Thread Cert.SguGradRefIdeal.nD Cert.SguGradRefIdeal.τ).loc Cert.SguGradRefIdeal.main_arg1) = m ((c.tc : Thread Cert.SguGradRefIdeal.nD Cert.SguGradRefIdeal.τ).loc Cert.SguGradRefIdeal.main_arg1)
      ∧ r.2.mem ((c.tc : Thread Cert.SguGradRefIdeal.nD Cert.SguGradRefIdeal.τ).loc Cert.SguGradRefIdeal.main_arg2) = m ((c.tc : Thread Cert.SguGradRefIdeal.nD Cert.SguGradRefIdeal.τ).loc Cert.SguGradRefIdeal.main_arg2)
      ∧ r.2.mem ((c.tc : Thread Cert.SguGradRefIdeal.nD Cert.SguGradRefIdeal.τ).loc Cert.SguGradRefIdeal.main_arg3) = m ((c.tc : Thread Cert.SguGradRefIdeal.nD Cert.SguGradRefIdeal.τ).loc Cert.SguGradRefIdeal.main_arg3)
      ∧ r.2.mem ((c.tc : Thread Cert.SguGradRefIdeal.nD Cert.SguGradRefIdeal.τ).loc Cert.SguGradRefIdeal.main_arg4) = m ((c.tc : Thread Cert.SguGradRefIdeal.nD Cert.SguGradRefIdeal.τ).loc Cert.SguGradRefIdeal.main_arg4))
      ∧ r.2.sem = fun _ => 0)

def quiescent_SguGradRefIdeal_pre_sgu_finite [hSguGradRefIdeal : Cert.SguGradRefIdeal.Facts] [hPre_sgu_finite : Cert.Pre_sgu_finite.Facts] : Prop :=
  ∀ (m : (ℓ : Loc Cert.SguGradRefIdeal.nD Cert.SguGradRefIdeal.τ Cert.SguGradRefIdeal.sig) → Buf (Elt Ideal) ℓ) (g : Dev Cert.SguGradRefIdeal.nD → PrngReg), Pre_SguGradRefIdeal_sgu_finite m →
    θ_run (Cert.SguGradRefIdeal.defs (F := Ideal)) (onTc (τ := Cert.SguGradRefIdeal.τ) (Cert.SguGradRefIdeal.main (F := Ideal))) ⟨m, fun _ => 0, g⟩ (fun r => (∀ c : Dev Cert.SguGradRefIdeal.nD,
      r.2.mem ((c.tc : Thread Cert.SguGradRefIdeal.nD Cert.SguGradRefIdeal.τ).loc Cert.SguGradRefIdeal.main_arg0) = m ((c.tc : Thread Cert.SguGradRefIdeal.nD Cert.SguGradRefIdeal.τ).loc Cert.SguGradRefIdeal.main_arg0)
      ∧ r.2.mem ((c.tc : Thread Cert.SguGradRefIdeal.nD Cert.SguGradRefIdeal.τ).loc Cert.SguGradRefIdeal.main_arg1) = m ((c.tc : Thread Cert.SguGradRefIdeal.nD Cert.SguGradRefIdeal.τ).loc Cert.SguGradRefIdeal.main_arg1)
      ∧ r.2.mem ((c.tc : Thread Cert.SguGradRefIdeal.nD Cert.SguGradRefIdeal.τ).loc Cert.SguGradRefIdeal.main_arg2) = m ((c.tc : Thread Cert.SguGradRefIdeal.nD Cert.SguGradRefIdeal.τ).loc Cert.SguGradRefIdeal.main_arg2)
      ∧ r.2.mem ((c.tc : Thread Cert.SguGradRefIdeal.nD Cert.SguGradRefIdeal.τ).loc Cert.SguGradRefIdeal.main_arg3) = m ((c.tc : Thread Cert.SguGradRefIdeal.nD Cert.SguGradRefIdeal.τ).loc Cert.SguGradRefIdeal.main_arg3)
      ∧ r.2.mem ((c.tc : Thread Cert.SguGradRefIdeal.nD Cert.SguGradRefIdeal.τ).loc Cert.SguGradRefIdeal.main_arg4) = m ((c.tc : Thread Cert.SguGradRefIdeal.nD Cert.SguGradRefIdeal.τ).loc Cert.SguGradRefIdeal.main_arg4))
      ∧ r.2.sem = fun _ => 0)

def quiescent_MlpGrad [hMlpGrad : Cert.MlpGrad.Facts] : Prop :=
  ∀ (m : (ℓ : Loc Cert.MlpGrad.nD Cert.MlpGrad.τ Cert.MlpGrad.sig) → Buf (Elt Bits) ℓ) (g : Dev Cert.MlpGrad.nD → PrngReg), Pre_MlpGrad m →
    θ_run (Cert.MlpGrad.defs (F := Bits)) (onTc (τ := Cert.MlpGrad.τ) (Cert.MlpGrad.main (F := Bits))) ⟨m, fun _ => 0, g⟩ (fun r => (∀ c : Dev Cert.MlpGrad.nD,
      r.2.mem ((c.tc : Thread Cert.MlpGrad.nD Cert.MlpGrad.τ).loc Cert.MlpGrad.main_arg0) = m ((c.tc : Thread Cert.MlpGrad.nD Cert.MlpGrad.τ).loc Cert.MlpGrad.main_arg0)
      ∧ r.2.mem ((c.tc : Thread Cert.MlpGrad.nD Cert.MlpGrad.τ).loc Cert.MlpGrad.main_arg1) = m ((c.tc : Thread Cert.MlpGrad.nD Cert.MlpGrad.τ).loc Cert.MlpGrad.main_arg1)
      ∧ r.2.mem ((c.tc : Thread Cert.MlpGrad.nD Cert.MlpGrad.τ).loc Cert.MlpGrad.main_arg2) = m ((c.tc : Thread Cert.MlpGrad.nD Cert.MlpGrad.τ).loc Cert.MlpGrad.main_arg2)
      ∧ r.2.mem ((c.tc : Thread Cert.MlpGrad.nD Cert.MlpGrad.τ).loc Cert.MlpGrad.main_arg3) = m ((c.tc : Thread Cert.MlpGrad.nD Cert.MlpGrad.τ).loc Cert.MlpGrad.main_arg3)
      ∧ r.2.mem ((c.tc : Thread Cert.MlpGrad.nD Cert.MlpGrad.τ).loc Cert.MlpGrad.main_arg4) = m ((c.tc : Thread Cert.MlpGrad.nD Cert.MlpGrad.τ).loc Cert.MlpGrad.main_arg4)
      ∧ r.2.mem ((c.tc : Thread Cert.MlpGrad.nD Cert.MlpGrad.τ).loc Cert.MlpGrad.main_arg5) = m ((c.tc : Thread Cert.MlpGrad.nD Cert.MlpGrad.τ).loc Cert.MlpGrad.main_arg5)
      ∧ r.2.mem ((c.tc : Thread Cert.MlpGrad.nD Cert.MlpGrad.τ).loc Cert.MlpGrad.main_arg6) = m ((c.tc : Thread Cert.MlpGrad.nD Cert.MlpGrad.τ).loc Cert.MlpGrad.main_arg6)
      ∧ r.2.mem ((c.tc : Thread Cert.MlpGrad.nD Cert.MlpGrad.τ).loc Cert.MlpGrad.main_arg7) = m ((c.tc : Thread Cert.MlpGrad.nD Cert.MlpGrad.τ).loc Cert.MlpGrad.main_arg7)
      ∧ r.2.mem ((c.tc : Thread Cert.MlpGrad.nD Cert.MlpGrad.τ).loc Cert.MlpGrad.main_arg8) = m ((c.tc : Thread Cert.MlpGrad.nD Cert.MlpGrad.τ).loc Cert.MlpGrad.main_arg8)
      ∧ r.2.mem ((c.tc : Thread Cert.MlpGrad.nD Cert.MlpGrad.τ).loc Cert.MlpGrad.main_arg9) = m ((c.tc : Thread Cert.MlpGrad.nD Cert.MlpGrad.τ).loc Cert.MlpGrad.main_arg9)
      ∧ r.2.mem ((c.tc : Thread Cert.MlpGrad.nD Cert.MlpGrad.τ).loc Cert.MlpGrad.main_arg10) = m ((c.tc : Thread Cert.MlpGrad.nD Cert.MlpGrad.τ).loc Cert.MlpGrad.main_arg10))
      ∧ r.2.sem = fun _ => 0)

def quiescent_MlpGradIdeal [hMlpGradIdeal : Cert.MlpGradIdeal.Facts] : Prop :=
  ∀ (m : (ℓ : Loc Cert.MlpGradIdeal.nD Cert.MlpGradIdeal.τ Cert.MlpGradIdeal.sig) → Buf (Elt Ideal) ℓ) (g : Dev Cert.MlpGradIdeal.nD → PrngReg), Pre_MlpGradIdeal m →
    θ_run (Cert.MlpGradIdeal.defs (F := Ideal)) (onTc (τ := Cert.MlpGradIdeal.τ) (Cert.MlpGradIdeal.main (F := Ideal))) ⟨m, fun _ => 0, g⟩ (fun r => (∀ c : Dev Cert.MlpGradIdeal.nD,
      r.2.mem ((c.tc : Thread Cert.MlpGradIdeal.nD Cert.MlpGradIdeal.τ).loc Cert.MlpGradIdeal.main_arg0) = m ((c.tc : Thread Cert.MlpGradIdeal.nD Cert.MlpGradIdeal.τ).loc Cert.MlpGradIdeal.main_arg0)
      ∧ r.2.mem ((c.tc : Thread Cert.MlpGradIdeal.nD Cert.MlpGradIdeal.τ).loc Cert.MlpGradIdeal.main_arg1) = m ((c.tc : Thread Cert.MlpGradIdeal.nD Cert.MlpGradIdeal.τ).loc Cert.MlpGradIdeal.main_arg1)
      ∧ r.2.mem ((c.tc : Thread Cert.MlpGradIdeal.nD Cert.MlpGradIdeal.τ).loc Cert.MlpGradIdeal.main_arg2) = m ((c.tc : Thread Cert.MlpGradIdeal.nD Cert.MlpGradIdeal.τ).loc Cert.MlpGradIdeal.main_arg2)
      ∧ r.2.mem ((c.tc : Thread Cert.MlpGradIdeal.nD Cert.MlpGradIdeal.τ).loc Cert.MlpGradIdeal.main_arg3) = m ((c.tc : Thread Cert.MlpGradIdeal.nD Cert.MlpGradIdeal.τ).loc Cert.MlpGradIdeal.main_arg3)
      ∧ r.2.mem ((c.tc : Thread Cert.MlpGradIdeal.nD Cert.MlpGradIdeal.τ).loc Cert.MlpGradIdeal.main_arg4) = m ((c.tc : Thread Cert.MlpGradIdeal.nD Cert.MlpGradIdeal.τ).loc Cert.MlpGradIdeal.main_arg4)
      ∧ r.2.mem ((c.tc : Thread Cert.MlpGradIdeal.nD Cert.MlpGradIdeal.τ).loc Cert.MlpGradIdeal.main_arg5) = m ((c.tc : Thread Cert.MlpGradIdeal.nD Cert.MlpGradIdeal.τ).loc Cert.MlpGradIdeal.main_arg5)
      ∧ r.2.mem ((c.tc : Thread Cert.MlpGradIdeal.nD Cert.MlpGradIdeal.τ).loc Cert.MlpGradIdeal.main_arg6) = m ((c.tc : Thread Cert.MlpGradIdeal.nD Cert.MlpGradIdeal.τ).loc Cert.MlpGradIdeal.main_arg6)
      ∧ r.2.mem ((c.tc : Thread Cert.MlpGradIdeal.nD Cert.MlpGradIdeal.τ).loc Cert.MlpGradIdeal.main_arg7) = m ((c.tc : Thread Cert.MlpGradIdeal.nD Cert.MlpGradIdeal.τ).loc Cert.MlpGradIdeal.main_arg7)
      ∧ r.2.mem ((c.tc : Thread Cert.MlpGradIdeal.nD Cert.MlpGradIdeal.τ).loc Cert.MlpGradIdeal.main_arg8) = m ((c.tc : Thread Cert.MlpGradIdeal.nD Cert.MlpGradIdeal.τ).loc Cert.MlpGradIdeal.main_arg8)
      ∧ r.2.mem ((c.tc : Thread Cert.MlpGradIdeal.nD Cert.MlpGradIdeal.τ).loc Cert.MlpGradIdeal.main_arg9) = m ((c.tc : Thread Cert.MlpGradIdeal.nD Cert.MlpGradIdeal.τ).loc Cert.MlpGradIdeal.main_arg9)
      ∧ r.2.mem ((c.tc : Thread Cert.MlpGradIdeal.nD Cert.MlpGradIdeal.τ).loc Cert.MlpGradIdeal.main_arg10) = m ((c.tc : Thread Cert.MlpGradIdeal.nD Cert.MlpGradIdeal.τ).loc Cert.MlpGradIdeal.main_arg10))
      ∧ r.2.sem = fun _ => 0)

def quiescent_MlpGradIdeal_pre_mlp_finite [hMlpGradIdeal : Cert.MlpGradIdeal.Facts] [hPre_mlp_finite : Cert.Pre_mlp_finite.Facts] : Prop :=
  ∀ (m : (ℓ : Loc Cert.MlpGradIdeal.nD Cert.MlpGradIdeal.τ Cert.MlpGradIdeal.sig) → Buf (Elt Ideal) ℓ) (g : Dev Cert.MlpGradIdeal.nD → PrngReg), Pre_MlpGradIdeal_mlp_finite m →
    θ_run (Cert.MlpGradIdeal.defs (F := Ideal)) (onTc (τ := Cert.MlpGradIdeal.τ) (Cert.MlpGradIdeal.main (F := Ideal))) ⟨m, fun _ => 0, g⟩ (fun r => (∀ c : Dev Cert.MlpGradIdeal.nD,
      r.2.mem ((c.tc : Thread Cert.MlpGradIdeal.nD Cert.MlpGradIdeal.τ).loc Cert.MlpGradIdeal.main_arg0) = m ((c.tc : Thread Cert.MlpGradIdeal.nD Cert.MlpGradIdeal.τ).loc Cert.MlpGradIdeal.main_arg0)
      ∧ r.2.mem ((c.tc : Thread Cert.MlpGradIdeal.nD Cert.MlpGradIdeal.τ).loc Cert.MlpGradIdeal.main_arg1) = m ((c.tc : Thread Cert.MlpGradIdeal.nD Cert.MlpGradIdeal.τ).loc Cert.MlpGradIdeal.main_arg1)
      ∧ r.2.mem ((c.tc : Thread Cert.MlpGradIdeal.nD Cert.MlpGradIdeal.τ).loc Cert.MlpGradIdeal.main_arg2) = m ((c.tc : Thread Cert.MlpGradIdeal.nD Cert.MlpGradIdeal.τ).loc Cert.MlpGradIdeal.main_arg2)
      ∧ r.2.mem ((c.tc : Thread Cert.MlpGradIdeal.nD Cert.MlpGradIdeal.τ).loc Cert.MlpGradIdeal.main_arg3) = m ((c.tc : Thread Cert.MlpGradIdeal.nD Cert.MlpGradIdeal.τ).loc Cert.MlpGradIdeal.main_arg3)
      ∧ r.2.mem ((c.tc : Thread Cert.MlpGradIdeal.nD Cert.MlpGradIdeal.τ).loc Cert.MlpGradIdeal.main_arg4) = m ((c.tc : Thread Cert.MlpGradIdeal.nD Cert.MlpGradIdeal.τ).loc Cert.MlpGradIdeal.main_arg4)
      ∧ r.2.mem ((c.tc : Thread Cert.MlpGradIdeal.nD Cert.MlpGradIdeal.τ).loc Cert.MlpGradIdeal.main_arg5) = m ((c.tc : Thread Cert.MlpGradIdeal.nD Cert.MlpGradIdeal.τ).loc Cert.MlpGradIdeal.main_arg5)
      ∧ r.2.mem ((c.tc : Thread Cert.MlpGradIdeal.nD Cert.MlpGradIdeal.τ).loc Cert.MlpGradIdeal.main_arg6) = m ((c.tc : Thread Cert.MlpGradIdeal.nD Cert.MlpGradIdeal.τ).loc Cert.MlpGradIdeal.main_arg6)
      ∧ r.2.mem ((c.tc : Thread Cert.MlpGradIdeal.nD Cert.MlpGradIdeal.τ).loc Cert.MlpGradIdeal.main_arg7) = m ((c.tc : Thread Cert.MlpGradIdeal.nD Cert.MlpGradIdeal.τ).loc Cert.MlpGradIdeal.main_arg7)
      ∧ r.2.mem ((c.tc : Thread Cert.MlpGradIdeal.nD Cert.MlpGradIdeal.τ).loc Cert.MlpGradIdeal.main_arg8) = m ((c.tc : Thread Cert.MlpGradIdeal.nD Cert.MlpGradIdeal.τ).loc Cert.MlpGradIdeal.main_arg8)
      ∧ r.2.mem ((c.tc : Thread Cert.MlpGradIdeal.nD Cert.MlpGradIdeal.τ).loc Cert.MlpGradIdeal.main_arg9) = m ((c.tc : Thread Cert.MlpGradIdeal.nD Cert.MlpGradIdeal.τ).loc Cert.MlpGradIdeal.main_arg9)
      ∧ r.2.mem ((c.tc : Thread Cert.MlpGradIdeal.nD Cert.MlpGradIdeal.τ).loc Cert.MlpGradIdeal.main_arg10) = m ((c.tc : Thread Cert.MlpGradIdeal.nD Cert.MlpGradIdeal.τ).loc Cert.MlpGradIdeal.main_arg10))
      ∧ r.2.sem = fun _ => 0)

def quiescent_MlpGradRefIdeal [hMlpGradRefIdeal : Cert.MlpGradRefIdeal.Facts] : Prop :=
  ∀ (m : (ℓ : Loc Cert.MlpGradRefIdeal.nD Cert.MlpGradRefIdeal.τ Cert.MlpGradRefIdeal.sig) → Buf (Elt Ideal) ℓ) (g : Dev Cert.MlpGradRefIdeal.nD → PrngReg), Pre_MlpGradRefIdeal m →
    θ_run (Cert.MlpGradRefIdeal.defs (F := Ideal)) (onTc (τ := Cert.MlpGradRefIdeal.τ) (Cert.MlpGradRefIdeal.main (F := Ideal))) ⟨m, fun _ => 0, g⟩ (fun r => (∀ c : Dev Cert.MlpGradRefIdeal.nD,
      r.2.mem ((c.tc : Thread Cert.MlpGradRefIdeal.nD Cert.MlpGradRefIdeal.τ).loc Cert.MlpGradRefIdeal.main_arg0) = m ((c.tc : Thread Cert.MlpGradRefIdeal.nD Cert.MlpGradRefIdeal.τ).loc Cert.MlpGradRefIdeal.main_arg0)
      ∧ r.2.mem ((c.tc : Thread Cert.MlpGradRefIdeal.nD Cert.MlpGradRefIdeal.τ).loc Cert.MlpGradRefIdeal.main_arg1) = m ((c.tc : Thread Cert.MlpGradRefIdeal.nD Cert.MlpGradRefIdeal.τ).loc Cert.MlpGradRefIdeal.main_arg1)
      ∧ r.2.mem ((c.tc : Thread Cert.MlpGradRefIdeal.nD Cert.MlpGradRefIdeal.τ).loc Cert.MlpGradRefIdeal.main_arg2) = m ((c.tc : Thread Cert.MlpGradRefIdeal.nD Cert.MlpGradRefIdeal.τ).loc Cert.MlpGradRefIdeal.main_arg2)
      ∧ r.2.mem ((c.tc : Thread Cert.MlpGradRefIdeal.nD Cert.MlpGradRefIdeal.τ).loc Cert.MlpGradRefIdeal.main_arg3) = m ((c.tc : Thread Cert.MlpGradRefIdeal.nD Cert.MlpGradRefIdeal.τ).loc Cert.MlpGradRefIdeal.main_arg3)
      ∧ r.2.mem ((c.tc : Thread Cert.MlpGradRefIdeal.nD Cert.MlpGradRefIdeal.τ).loc Cert.MlpGradRefIdeal.main_arg4) = m ((c.tc : Thread Cert.MlpGradRefIdeal.nD Cert.MlpGradRefIdeal.τ).loc Cert.MlpGradRefIdeal.main_arg4)
      ∧ r.2.mem ((c.tc : Thread Cert.MlpGradRefIdeal.nD Cert.MlpGradRefIdeal.τ).loc Cert.MlpGradRefIdeal.main_arg5) = m ((c.tc : Thread Cert.MlpGradRefIdeal.nD Cert.MlpGradRefIdeal.τ).loc Cert.MlpGradRefIdeal.main_arg5)
      ∧ r.2.mem ((c.tc : Thread Cert.MlpGradRefIdeal.nD Cert.MlpGradRefIdeal.τ).loc Cert.MlpGradRefIdeal.main_arg6) = m ((c.tc : Thread Cert.MlpGradRefIdeal.nD Cert.MlpGradRefIdeal.τ).loc Cert.MlpGradRefIdeal.main_arg6)
      ∧ r.2.mem ((c.tc : Thread Cert.MlpGradRefIdeal.nD Cert.MlpGradRefIdeal.τ).loc Cert.MlpGradRefIdeal.main_arg7) = m ((c.tc : Thread Cert.MlpGradRefIdeal.nD Cert.MlpGradRefIdeal.τ).loc Cert.MlpGradRefIdeal.main_arg7)
      ∧ r.2.mem ((c.tc : Thread Cert.MlpGradRefIdeal.nD Cert.MlpGradRefIdeal.τ).loc Cert.MlpGradRefIdeal.main_arg8) = m ((c.tc : Thread Cert.MlpGradRefIdeal.nD Cert.MlpGradRefIdeal.τ).loc Cert.MlpGradRefIdeal.main_arg8)
      ∧ r.2.mem ((c.tc : Thread Cert.MlpGradRefIdeal.nD Cert.MlpGradRefIdeal.τ).loc Cert.MlpGradRefIdeal.main_arg9) = m ((c.tc : Thread Cert.MlpGradRefIdeal.nD Cert.MlpGradRefIdeal.τ).loc Cert.MlpGradRefIdeal.main_arg9)
      ∧ r.2.mem ((c.tc : Thread Cert.MlpGradRefIdeal.nD Cert.MlpGradRefIdeal.τ).loc Cert.MlpGradRefIdeal.main_arg10) = m ((c.tc : Thread Cert.MlpGradRefIdeal.nD Cert.MlpGradRefIdeal.τ).loc Cert.MlpGradRefIdeal.main_arg10))
      ∧ r.2.sem = fun _ => 0)

def quiescent_MlpGradRefIdeal_pre_mlp_finite [hMlpGradRefIdeal : Cert.MlpGradRefIdeal.Facts] [hPre_mlp_finite : Cert.Pre_mlp_finite.Facts] : Prop :=
  ∀ (m : (ℓ : Loc Cert.MlpGradRefIdeal.nD Cert.MlpGradRefIdeal.τ Cert.MlpGradRefIdeal.sig) → Buf (Elt Ideal) ℓ) (g : Dev Cert.MlpGradRefIdeal.nD → PrngReg), Pre_MlpGradRefIdeal_mlp_finite m →
    θ_run (Cert.MlpGradRefIdeal.defs (F := Ideal)) (onTc (τ := Cert.MlpGradRefIdeal.τ) (Cert.MlpGradRefIdeal.main (F := Ideal))) ⟨m, fun _ => 0, g⟩ (fun r => (∀ c : Dev Cert.MlpGradRefIdeal.nD,
      r.2.mem ((c.tc : Thread Cert.MlpGradRefIdeal.nD Cert.MlpGradRefIdeal.τ).loc Cert.MlpGradRefIdeal.main_arg0) = m ((c.tc : Thread Cert.MlpGradRefIdeal.nD Cert.MlpGradRefIdeal.τ).loc Cert.MlpGradRefIdeal.main_arg0)
      ∧ r.2.mem ((c.tc : Thread Cert.MlpGradRefIdeal.nD Cert.MlpGradRefIdeal.τ).loc Cert.MlpGradRefIdeal.main_arg1) = m ((c.tc : Thread Cert.MlpGradRefIdeal.nD Cert.MlpGradRefIdeal.τ).loc Cert.MlpGradRefIdeal.main_arg1)
      ∧ r.2.mem ((c.tc : Thread Cert.MlpGradRefIdeal.nD Cert.MlpGradRefIdeal.τ).loc Cert.MlpGradRefIdeal.main_arg2) = m ((c.tc : Thread Cert.MlpGradRefIdeal.nD Cert.MlpGradRefIdeal.τ).loc Cert.MlpGradRefIdeal.main_arg2)
      ∧ r.2.mem ((c.tc : Thread Cert.MlpGradRefIdeal.nD Cert.MlpGradRefIdeal.τ).loc Cert.MlpGradRefIdeal.main_arg3) = m ((c.tc : Thread Cert.MlpGradRefIdeal.nD Cert.MlpGradRefIdeal.τ).loc Cert.MlpGradRefIdeal.main_arg3)
      ∧ r.2.mem ((c.tc : Thread Cert.MlpGradRefIdeal.nD Cert.MlpGradRefIdeal.τ).loc Cert.MlpGradRefIdeal.main_arg4) = m ((c.tc : Thread Cert.MlpGradRefIdeal.nD Cert.MlpGradRefIdeal.τ).loc Cert.MlpGradRefIdeal.main_arg4)
      ∧ r.2.mem ((c.tc : Thread Cert.MlpGradRefIdeal.nD Cert.MlpGradRefIdeal.τ).loc Cert.MlpGradRefIdeal.main_arg5) = m ((c.tc : Thread Cert.MlpGradRefIdeal.nD Cert.MlpGradRefIdeal.τ).loc Cert.MlpGradRefIdeal.main_arg5)
      ∧ r.2.mem ((c.tc : Thread Cert.MlpGradRefIdeal.nD Cert.MlpGradRefIdeal.τ).loc Cert.MlpGradRefIdeal.main_arg6) = m ((c.tc : Thread Cert.MlpGradRefIdeal.nD Cert.MlpGradRefIdeal.τ).loc Cert.MlpGradRefIdeal.main_arg6)
      ∧ r.2.mem ((c.tc : Thread Cert.MlpGradRefIdeal.nD Cert.MlpGradRefIdeal.τ).loc Cert.MlpGradRefIdeal.main_arg7) = m ((c.tc : Thread Cert.MlpGradRefIdeal.nD Cert.MlpGradRefIdeal.τ).loc Cert.MlpGradRefIdeal.main_arg7)
      ∧ r.2.mem ((c.tc : Thread Cert.MlpGradRefIdeal.nD Cert.MlpGradRefIdeal.τ).loc Cert.MlpGradRefIdeal.main_arg8) = m ((c.tc : Thread Cert.MlpGradRefIdeal.nD Cert.MlpGradRefIdeal.τ).loc Cert.MlpGradRefIdeal.main_arg8)
      ∧ r.2.mem ((c.tc : Thread Cert.MlpGradRefIdeal.nD Cert.MlpGradRefIdeal.τ).loc Cert.MlpGradRefIdeal.main_arg9) = m ((c.tc : Thread Cert.MlpGradRefIdeal.nD Cert.MlpGradRefIdeal.τ).loc Cert.MlpGradRefIdeal.main_arg9)
      ∧ r.2.mem ((c.tc : Thread Cert.MlpGradRefIdeal.nD Cert.MlpGradRefIdeal.τ).loc Cert.MlpGradRefIdeal.main_arg10) = m ((c.tc : Thread Cert.MlpGradRefIdeal.nD Cert.MlpGradRefIdeal.τ).loc Cert.MlpGradRefIdeal.main_arg10))
      ∧ r.2.sem = fun _ => 0)

def quiescent_WoFwd [hWoFwd : Cert.WoFwd.Facts] : Prop :=
  ∀ (m : (ℓ : Loc Cert.WoFwd.nD Cert.WoFwd.τ Cert.WoFwd.sig) → Buf (Elt Bits) ℓ) (g : Dev Cert.WoFwd.nD → PrngReg), Pre_WoFwd m →
    θ_run (Cert.WoFwd.defs (F := Bits)) (onTc (τ := Cert.WoFwd.τ) (Cert.WoFwd.main (F := Bits))) ⟨m, fun _ => 0, g⟩ (fun r => (∀ c : Dev Cert.WoFwd.nD,
      r.2.mem ((c.tc : Thread Cert.WoFwd.nD Cert.WoFwd.τ).loc Cert.WoFwd.main_arg0) = m ((c.tc : Thread Cert.WoFwd.nD Cert.WoFwd.τ).loc Cert.WoFwd.main_arg0)
      ∧ r.2.mem ((c.tc : Thread Cert.WoFwd.nD Cert.WoFwd.τ).loc Cert.WoFwd.main_arg1) = m ((c.tc : Thread Cert.WoFwd.nD Cert.WoFwd.τ).loc Cert.WoFwd.main_arg1)
      ∧ r.2.mem ((c.tc : Thread Cert.WoFwd.nD Cert.WoFwd.τ).loc Cert.WoFwd.main_arg2) = m ((c.tc : Thread Cert.WoFwd.nD Cert.WoFwd.τ).loc Cert.WoFwd.main_arg2)
      ∧ r.2.mem ((c.tc : Thread Cert.WoFwd.nD Cert.WoFwd.τ).loc Cert.WoFwd.main_arg3) = m ((c.tc : Thread Cert.WoFwd.nD Cert.WoFwd.τ).loc Cert.WoFwd.main_arg3)
      ∧ r.2.mem ((c.tc : Thread Cert.WoFwd.nD Cert.WoFwd.τ).loc Cert.WoFwd.main_arg4) = m ((c.tc : Thread Cert.WoFwd.nD Cert.WoFwd.τ).loc Cert.WoFwd.main_arg4)
      ∧ r.2.mem ((c.tc : Thread Cert.WoFwd.nD Cert.WoFwd.τ).loc Cert.WoFwd.main_arg5) = m ((c.tc : Thread Cert.WoFwd.nD Cert.WoFwd.τ).loc Cert.WoFwd.main_arg5)
      ∧ r.2.mem ((c.tc : Thread Cert.WoFwd.nD Cert.WoFwd.τ).loc Cert.WoFwd.main_arg6) = m ((c.tc : Thread Cert.WoFwd.nD Cert.WoFwd.τ).loc Cert.WoFwd.main_arg6))
      ∧ r.2.sem = fun _ => 0)

def quiescent_WoFwdIdeal [hWoFwdIdeal : Cert.WoFwdIdeal.Facts] : Prop :=
  ∀ (m : (ℓ : Loc Cert.WoFwdIdeal.nD Cert.WoFwdIdeal.τ Cert.WoFwdIdeal.sig) → Buf (Elt Ideal) ℓ) (g : Dev Cert.WoFwdIdeal.nD → PrngReg), Pre_WoFwdIdeal m →
    θ_run (Cert.WoFwdIdeal.defs (F := Ideal)) (onTc (τ := Cert.WoFwdIdeal.τ) (Cert.WoFwdIdeal.main (F := Ideal))) ⟨m, fun _ => 0, g⟩ (fun r => (∀ c : Dev Cert.WoFwdIdeal.nD,
      r.2.mem ((c.tc : Thread Cert.WoFwdIdeal.nD Cert.WoFwdIdeal.τ).loc Cert.WoFwdIdeal.main_arg0) = m ((c.tc : Thread Cert.WoFwdIdeal.nD Cert.WoFwdIdeal.τ).loc Cert.WoFwdIdeal.main_arg0)
      ∧ r.2.mem ((c.tc : Thread Cert.WoFwdIdeal.nD Cert.WoFwdIdeal.τ).loc Cert.WoFwdIdeal.main_arg1) = m ((c.tc : Thread Cert.WoFwdIdeal.nD Cert.WoFwdIdeal.τ).loc Cert.WoFwdIdeal.main_arg1)
      ∧ r.2.mem ((c.tc : Thread Cert.WoFwdIdeal.nD Cert.WoFwdIdeal.τ).loc Cert.WoFwdIdeal.main_arg2) = m ((c.tc : Thread Cert.WoFwdIdeal.nD Cert.WoFwdIdeal.τ).loc Cert.WoFwdIdeal.main_arg2)
      ∧ r.2.mem ((c.tc : Thread Cert.WoFwdIdeal.nD Cert.WoFwdIdeal.τ).loc Cert.WoFwdIdeal.main_arg3) = m ((c.tc : Thread Cert.WoFwdIdeal.nD Cert.WoFwdIdeal.τ).loc Cert.WoFwdIdeal.main_arg3)
      ∧ r.2.mem ((c.tc : Thread Cert.WoFwdIdeal.nD Cert.WoFwdIdeal.τ).loc Cert.WoFwdIdeal.main_arg4) = m ((c.tc : Thread Cert.WoFwdIdeal.nD Cert.WoFwdIdeal.τ).loc Cert.WoFwdIdeal.main_arg4)
      ∧ r.2.mem ((c.tc : Thread Cert.WoFwdIdeal.nD Cert.WoFwdIdeal.τ).loc Cert.WoFwdIdeal.main_arg5) = m ((c.tc : Thread Cert.WoFwdIdeal.nD Cert.WoFwdIdeal.τ).loc Cert.WoFwdIdeal.main_arg5)
      ∧ r.2.mem ((c.tc : Thread Cert.WoFwdIdeal.nD Cert.WoFwdIdeal.τ).loc Cert.WoFwdIdeal.main_arg6) = m ((c.tc : Thread Cert.WoFwdIdeal.nD Cert.WoFwdIdeal.τ).loc Cert.WoFwdIdeal.main_arg6))
      ∧ r.2.sem = fun _ => 0)

def quiescent_WoFwdRefIdeal [hWoFwdRefIdeal : Cert.WoFwdRefIdeal.Facts] : Prop :=
  ∀ (m : (ℓ : Loc Cert.WoFwdRefIdeal.nD Cert.WoFwdRefIdeal.τ Cert.WoFwdRefIdeal.sig) → Buf (Elt Ideal) ℓ) (g : Dev Cert.WoFwdRefIdeal.nD → PrngReg), Pre_WoFwdRefIdeal m →
    θ_run (Cert.WoFwdRefIdeal.defs (F := Ideal)) (onTc (τ := Cert.WoFwdRefIdeal.τ) (Cert.WoFwdRefIdeal.main (F := Ideal))) ⟨m, fun _ => 0, g⟩ (fun r => (∀ c : Dev Cert.WoFwdRefIdeal.nD,
      r.2.mem ((c.tc : Thread Cert.WoFwdRefIdeal.nD Cert.WoFwdRefIdeal.τ).loc Cert.WoFwdRefIdeal.main_arg0) = m ((c.tc : Thread Cert.WoFwdRefIdeal.nD Cert.WoFwdRefIdeal.τ).loc Cert.WoFwdRefIdeal.main_arg0)
      ∧ r.2.mem ((c.tc : Thread Cert.WoFwdRefIdeal.nD Cert.WoFwdRefIdeal.τ).loc Cert.WoFwdRefIdeal.main_arg1) = m ((c.tc : Thread Cert.WoFwdRefIdeal.nD Cert.WoFwdRefIdeal.τ).loc Cert.WoFwdRefIdeal.main_arg1)
      ∧ r.2.mem ((c.tc : Thread Cert.WoFwdRefIdeal.nD Cert.WoFwdRefIdeal.τ).loc Cert.WoFwdRefIdeal.main_arg2) = m ((c.tc : Thread Cert.WoFwdRefIdeal.nD Cert.WoFwdRefIdeal.τ).loc Cert.WoFwdRefIdeal.main_arg2)
      ∧ r.2.mem ((c.tc : Thread Cert.WoFwdRefIdeal.nD Cert.WoFwdRefIdeal.τ).loc Cert.WoFwdRefIdeal.main_arg3) = m ((c.tc : Thread Cert.WoFwdRefIdeal.nD Cert.WoFwdRefIdeal.τ).loc Cert.WoFwdRefIdeal.main_arg3)
      ∧ r.2.mem ((c.tc : Thread Cert.WoFwdRefIdeal.nD Cert.WoFwdRefIdeal.τ).loc Cert.WoFwdRefIdeal.main_arg4) = m ((c.tc : Thread Cert.WoFwdRefIdeal.nD Cert.WoFwdRefIdeal.τ).loc Cert.WoFwdRefIdeal.main_arg4)
      ∧ r.2.mem ((c.tc : Thread Cert.WoFwdRefIdeal.nD Cert.WoFwdRefIdeal.τ).loc Cert.WoFwdRefIdeal.main_arg5) = m ((c.tc : Thread Cert.WoFwdRefIdeal.nD Cert.WoFwdRefIdeal.τ).loc Cert.WoFwdRefIdeal.main_arg5)
      ∧ r.2.mem ((c.tc : Thread Cert.WoFwdRefIdeal.nD Cert.WoFwdRefIdeal.τ).loc Cert.WoFwdRefIdeal.main_arg6) = m ((c.tc : Thread Cert.WoFwdRefIdeal.nD Cert.WoFwdRefIdeal.τ).loc Cert.WoFwdRefIdeal.main_arg6))
      ∧ r.2.sem = fun _ => 0)

def quiescent_MlpFwd [hMlpFwd : Cert.MlpFwd.Facts] : Prop :=
  ∀ (m : (ℓ : Loc Cert.MlpFwd.nD Cert.MlpFwd.τ Cert.MlpFwd.sig) → Buf (Elt Bits) ℓ) (g : Dev Cert.MlpFwd.nD → PrngReg), Pre_MlpFwd m →
    θ_run (Cert.MlpFwd.defs (F := Bits)) (onTc (τ := Cert.MlpFwd.τ) (Cert.MlpFwd.main (F := Bits))) ⟨m, fun _ => 0, g⟩ (fun r => (∀ c : Dev Cert.MlpFwd.nD,
      r.2.mem ((c.tc : Thread Cert.MlpFwd.nD Cert.MlpFwd.τ).loc Cert.MlpFwd.main_arg0) = m ((c.tc : Thread Cert.MlpFwd.nD Cert.MlpFwd.τ).loc Cert.MlpFwd.main_arg0)
      ∧ r.2.mem ((c.tc : Thread Cert.MlpFwd.nD Cert.MlpFwd.τ).loc Cert.MlpFwd.main_arg1) = m ((c.tc : Thread Cert.MlpFwd.nD Cert.MlpFwd.τ).loc Cert.MlpFwd.main_arg1)
      ∧ r.2.mem ((c.tc : Thread Cert.MlpFwd.nD Cert.MlpFwd.τ).loc Cert.MlpFwd.main_arg2) = m ((c.tc : Thread Cert.MlpFwd.nD Cert.MlpFwd.τ).loc Cert.MlpFwd.main_arg2)
      ∧ r.2.mem ((c.tc : Thread Cert.MlpFwd.nD Cert.MlpFwd.τ).loc Cert.MlpFwd.main_arg3) = m ((c.tc : Thread Cert.MlpFwd.nD Cert.MlpFwd.τ).loc Cert.MlpFwd.main_arg3)
      ∧ r.2.mem ((c.tc : Thread Cert.MlpFwd.nD Cert.MlpFwd.τ).loc Cert.MlpFwd.main_arg4) = m ((c.tc : Thread Cert.MlpFwd.nD Cert.MlpFwd.τ).loc Cert.MlpFwd.main_arg4)
      ∧ r.2.mem ((c.tc : Thread Cert.MlpFwd.nD Cert.MlpFwd.τ).loc Cert.MlpFwd.main_arg5) = m ((c.tc : Thread Cert.MlpFwd.nD Cert.MlpFwd.τ).loc Cert.MlpFwd.main_arg5)
      ∧ r.2.mem ((c.tc : Thread Cert.MlpFwd.nD Cert.MlpFwd.τ).loc Cert.MlpFwd.main_arg6) = m ((c.tc : Thread Cert.MlpFwd.nD Cert.MlpFwd.τ).loc Cert.MlpFwd.main_arg6)
      ∧ r.2.mem ((c.tc : Thread Cert.MlpFwd.nD Cert.MlpFwd.τ).loc Cert.MlpFwd.main_arg7) = m ((c.tc : Thread Cert.MlpFwd.nD Cert.MlpFwd.τ).loc Cert.MlpFwd.main_arg7))
      ∧ r.2.sem = fun _ => 0)

def quiescent_MlpFwdIdeal [hMlpFwdIdeal : Cert.MlpFwdIdeal.Facts] : Prop :=
  ∀ (m : (ℓ : Loc Cert.MlpFwdIdeal.nD Cert.MlpFwdIdeal.τ Cert.MlpFwdIdeal.sig) → Buf (Elt Ideal) ℓ) (g : Dev Cert.MlpFwdIdeal.nD → PrngReg), Pre_MlpFwdIdeal m →
    θ_run (Cert.MlpFwdIdeal.defs (F := Ideal)) (onTc (τ := Cert.MlpFwdIdeal.τ) (Cert.MlpFwdIdeal.main (F := Ideal))) ⟨m, fun _ => 0, g⟩ (fun r => (∀ c : Dev Cert.MlpFwdIdeal.nD,
      r.2.mem ((c.tc : Thread Cert.MlpFwdIdeal.nD Cert.MlpFwdIdeal.τ).loc Cert.MlpFwdIdeal.main_arg0) = m ((c.tc : Thread Cert.MlpFwdIdeal.nD Cert.MlpFwdIdeal.τ).loc Cert.MlpFwdIdeal.main_arg0)
      ∧ r.2.mem ((c.tc : Thread Cert.MlpFwdIdeal.nD Cert.MlpFwdIdeal.τ).loc Cert.MlpFwdIdeal.main_arg1) = m ((c.tc : Thread Cert.MlpFwdIdeal.nD Cert.MlpFwdIdeal.τ).loc Cert.MlpFwdIdeal.main_arg1)
      ∧ r.2.mem ((c.tc : Thread Cert.MlpFwdIdeal.nD Cert.MlpFwdIdeal.τ).loc Cert.MlpFwdIdeal.main_arg2) = m ((c.tc : Thread Cert.MlpFwdIdeal.nD Cert.MlpFwdIdeal.τ).loc Cert.MlpFwdIdeal.main_arg2)
      ∧ r.2.mem ((c.tc : Thread Cert.MlpFwdIdeal.nD Cert.MlpFwdIdeal.τ).loc Cert.MlpFwdIdeal.main_arg3) = m ((c.tc : Thread Cert.MlpFwdIdeal.nD Cert.MlpFwdIdeal.τ).loc Cert.MlpFwdIdeal.main_arg3)
      ∧ r.2.mem ((c.tc : Thread Cert.MlpFwdIdeal.nD Cert.MlpFwdIdeal.τ).loc Cert.MlpFwdIdeal.main_arg4) = m ((c.tc : Thread Cert.MlpFwdIdeal.nD Cert.MlpFwdIdeal.τ).loc Cert.MlpFwdIdeal.main_arg4)
      ∧ r.2.mem ((c.tc : Thread Cert.MlpFwdIdeal.nD Cert.MlpFwdIdeal.τ).loc Cert.MlpFwdIdeal.main_arg5) = m ((c.tc : Thread Cert.MlpFwdIdeal.nD Cert.MlpFwdIdeal.τ).loc Cert.MlpFwdIdeal.main_arg5)
      ∧ r.2.mem ((c.tc : Thread Cert.MlpFwdIdeal.nD Cert.MlpFwdIdeal.τ).loc Cert.MlpFwdIdeal.main_arg6) = m ((c.tc : Thread Cert.MlpFwdIdeal.nD Cert.MlpFwdIdeal.τ).loc Cert.MlpFwdIdeal.main_arg6)
      ∧ r.2.mem ((c.tc : Thread Cert.MlpFwdIdeal.nD Cert.MlpFwdIdeal.τ).loc Cert.MlpFwdIdeal.main_arg7) = m ((c.tc : Thread Cert.MlpFwdIdeal.nD Cert.MlpFwdIdeal.τ).loc Cert.MlpFwdIdeal.main_arg7))
      ∧ r.2.sem = fun _ => 0)

def quiescent_MlpFwdRefIdeal [hMlpFwdRefIdeal : Cert.MlpFwdRefIdeal.Facts] : Prop :=
  ∀ (m : (ℓ : Loc Cert.MlpFwdRefIdeal.nD Cert.MlpFwdRefIdeal.τ Cert.MlpFwdRefIdeal.sig) → Buf (Elt Ideal) ℓ) (g : Dev Cert.MlpFwdRefIdeal.nD → PrngReg), Pre_MlpFwdRefIdeal m →
    θ_run (Cert.MlpFwdRefIdeal.defs (F := Ideal)) (onTc (τ := Cert.MlpFwdRefIdeal.τ) (Cert.MlpFwdRefIdeal.main (F := Ideal))) ⟨m, fun _ => 0, g⟩ (fun r => (∀ c : Dev Cert.MlpFwdRefIdeal.nD,
      r.2.mem ((c.tc : Thread Cert.MlpFwdRefIdeal.nD Cert.MlpFwdRefIdeal.τ).loc Cert.MlpFwdRefIdeal.main_arg0) = m ((c.tc : Thread Cert.MlpFwdRefIdeal.nD Cert.MlpFwdRefIdeal.τ).loc Cert.MlpFwdRefIdeal.main_arg0)
      ∧ r.2.mem ((c.tc : Thread Cert.MlpFwdRefIdeal.nD Cert.MlpFwdRefIdeal.τ).loc Cert.MlpFwdRefIdeal.main_arg1) = m ((c.tc : Thread Cert.MlpFwdRefIdeal.nD Cert.MlpFwdRefIdeal.τ).loc Cert.MlpFwdRefIdeal.main_arg1)
      ∧ r.2.mem ((c.tc : Thread Cert.MlpFwdRefIdeal.nD Cert.MlpFwdRefIdeal.τ).loc Cert.MlpFwdRefIdeal.main_arg2) = m ((c.tc : Thread Cert.MlpFwdRefIdeal.nD Cert.MlpFwdRefIdeal.τ).loc Cert.MlpFwdRefIdeal.main_arg2)
      ∧ r.2.mem ((c.tc : Thread Cert.MlpFwdRefIdeal.nD Cert.MlpFwdRefIdeal.τ).loc Cert.MlpFwdRefIdeal.main_arg3) = m ((c.tc : Thread Cert.MlpFwdRefIdeal.nD Cert.MlpFwdRefIdeal.τ).loc Cert.MlpFwdRefIdeal.main_arg3)
      ∧ r.2.mem ((c.tc : Thread Cert.MlpFwdRefIdeal.nD Cert.MlpFwdRefIdeal.τ).loc Cert.MlpFwdRefIdeal.main_arg4) = m ((c.tc : Thread Cert.MlpFwdRefIdeal.nD Cert.MlpFwdRefIdeal.τ).loc Cert.MlpFwdRefIdeal.main_arg4)
      ∧ r.2.mem ((c.tc : Thread Cert.MlpFwdRefIdeal.nD Cert.MlpFwdRefIdeal.τ).loc Cert.MlpFwdRefIdeal.main_arg5) = m ((c.tc : Thread Cert.MlpFwdRefIdeal.nD Cert.MlpFwdRefIdeal.τ).loc Cert.MlpFwdRefIdeal.main_arg5)
      ∧ r.2.mem ((c.tc : Thread Cert.MlpFwdRefIdeal.nD Cert.MlpFwdRefIdeal.τ).loc Cert.MlpFwdRefIdeal.main_arg6) = m ((c.tc : Thread Cert.MlpFwdRefIdeal.nD Cert.MlpFwdRefIdeal.τ).loc Cert.MlpFwdRefIdeal.main_arg6)
      ∧ r.2.mem ((c.tc : Thread Cert.MlpFwdRefIdeal.nD Cert.MlpFwdRefIdeal.τ).loc Cert.MlpFwdRefIdeal.main_arg7) = m ((c.tc : Thread Cert.MlpFwdRefIdeal.nD Cert.MlpFwdRefIdeal.τ).loc Cert.MlpFwdRefIdeal.main_arg7))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1))
      ∧ r.2.sem = fun _ => 0)

def quiescent_PoolFwd [hPoolFwd : Cert.PoolFwd.Facts] : Prop :=
  ∀ (m : (ℓ : Loc Cert.PoolFwd.nD Cert.PoolFwd.τ Cert.PoolFwd.sig) → Buf (Elt Bits) ℓ) (g : Dev Cert.PoolFwd.nD → PrngReg), Pre_PoolFwd m →
    θ_run (Cert.PoolFwd.defs (F := Bits)) (onTc (τ := Cert.PoolFwd.τ) (Cert.PoolFwd.main (F := Bits))) ⟨m, fun _ => 0, g⟩ (fun r => (∀ c : Dev Cert.PoolFwd.nD,
      r.2.mem ((c.tc : Thread Cert.PoolFwd.nD Cert.PoolFwd.τ).loc Cert.PoolFwd.main_arg0) = m ((c.tc : Thread Cert.PoolFwd.nD Cert.PoolFwd.τ).loc Cert.PoolFwd.main_arg0)
      ∧ r.2.mem ((c.tc : Thread Cert.PoolFwd.nD Cert.PoolFwd.τ).loc Cert.PoolFwd.main_arg1) = m ((c.tc : Thread Cert.PoolFwd.nD Cert.PoolFwd.τ).loc Cert.PoolFwd.main_arg1)
      ∧ r.2.mem ((c.tc : Thread Cert.PoolFwd.nD Cert.PoolFwd.τ).loc Cert.PoolFwd.main_arg2) = m ((c.tc : Thread Cert.PoolFwd.nD Cert.PoolFwd.τ).loc Cert.PoolFwd.main_arg2))
      ∧ r.2.sem = fun _ => 0)

def quiescent_PoolFwdIdeal [hPoolFwdIdeal : Cert.PoolFwdIdeal.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
      ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
      ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ r.2.sem = fun _ => 0)

def quiescent_PoolFwdIdeal_pre_pool_fwd_finite [hPoolFwdIdeal : Cert.PoolFwdIdeal.Facts] [hPre_pool_fwd_finite : Cert.Pre_pool_fwd_finite.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal_pool_fwd_finite m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
      ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
      ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ r.2.sem = fun _ => 0)

def quiescent_PoolFwdRefIdeal [hPoolFwdRefIdeal : Cert.PoolFwdRefIdeal.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0)
      ∧ r.2.mem ((c.tc : Thread Cert.PoolFwdRefIdeal.nD Cert.PoolFwdRefIdeal.τ).loc Cert.PoolFwdRefIdeal.main_arg1) = m ((c.tc : Thread Cert.PoolFwdRefIdeal.nD Cert.PoolFwdRefIdeal.τ).loc Cert.PoolFwdRefIdeal.main_arg1)
      ∧ r.2.mem ((c.tc : Thread Cert.PoolFwdRefIdeal.nD Cert.PoolFwdRefIdeal.τ).loc Cert.PoolFwdRefIdeal.main_arg2) = m ((c.tc : Thread Cert.PoolFwdRefIdeal.nD Cert.PoolFwdRefIdeal.τ).loc Cert.PoolFwdRefIdeal.main_arg2))
      ∧ r.2.sem = fun _ => 0)

def quiescent_PoolFwdRefIdeal_pre_pool_fwd_finite [hPoolFwdRefIdeal : Cert.PoolFwdRefIdeal.Facts] [hPre_pool_fwd_finite : Cert.Pre_pool_fwd_finite.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal_pool_fwd_finite m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0)
      ∧ r.2.mem ((c.tc : Thread Cert.PoolFwdRefIdeal.nD Cert.PoolFwdRefIdeal.τ).loc Cert.PoolFwdRefIdeal.main_arg1) = m ((c.tc : Thread Cert.PoolFwdRefIdeal.nD Cert.PoolFwdRefIdeal.τ).loc Cert.PoolFwdRefIdeal.main_arg1)
      ∧ r.2.mem ((c.tc : Thread Cert.PoolFwdRefIdeal.nD Cert.PoolFwdRefIdeal.τ).loc Cert.PoolFwdRefIdeal.main_arg2) = m ((c.tc : Thread Cert.PoolFwdRefIdeal.nD Cert.PoolFwdRefIdeal.τ).loc Cert.PoolFwdRefIdeal.main_arg2))
      ∧ r.2.sem = fun _ => 0)

def preserves_LossGrad_LossGradIdeal : Prop :=
  True

def algebraic_LossGradIdeal_LossGradRefIdeal [hLossGradIdeal : Cert.LossGradIdeal.Facts] [hLossGradRefIdeal : Cert.LossGradRefIdeal.Facts] : Prop :=
  ∀ (m : (ℓ : Loc Cert.LossGradIdeal.nD Cert.LossGradIdeal.τ Cert.LossGradIdeal.sig) → Buf (Elt Ideal) ℓ) (g : Dev Cert.LossGradIdeal.nD → PrngReg)
    (m' : (ℓ : Loc Cert.LossGradRefIdeal.nD Cert.LossGradRefIdeal.τ Cert.LossGradRefIdeal.sig) → Buf (Elt Ideal) ℓ) (g' : Dev Cert.LossGradRefIdeal.nD → PrngReg), Pre_LossGradIdeal m →
    (∀ c : Dev Cert.LossGradIdeal.nD,
      m' ((c.tc : Thread Cert.LossGradRefIdeal.nD Cert.LossGradRefIdeal.τ).loc Cert.LossGradRefIdeal.main_arg0) = m ((c.tc : Thread Cert.LossGradIdeal.nD Cert.LossGradIdeal.τ).loc Cert.LossGradIdeal.main_arg0)
      ∧ m' ((c.tc : Thread Cert.LossGradRefIdeal.nD Cert.LossGradRefIdeal.τ).loc Cert.LossGradRefIdeal.main_arg1) = m ((c.tc : Thread Cert.LossGradIdeal.nD Cert.LossGradIdeal.τ).loc Cert.LossGradIdeal.main_arg1)) →
    ∃ (v0 : (c : Dev Cert.LossGradIdeal.nD) → Buf (Elt Ideal) ((c.tc : Thread Cert.LossGradIdeal.nD Cert.LossGradIdeal.τ).loc Cert.LossGradIdeal.main_v0_0)) (v1 : (c : Dev Cert.LossGradIdeal.nD) → Buf (Elt Ideal) ((c.tc : Thread Cert.LossGradIdeal.nD Cert.LossGradIdeal.τ).loc Cert.LossGradIdeal.main_v0_1)),
      θ_run (Cert.LossGradIdeal.defs (F := Ideal)) (onTc (τ := Cert.LossGradIdeal.τ) (Cert.LossGradIdeal.main (F := Ideal))) ⟨m, fun _ => 0, g⟩ (fun r => ∀ c : Dev Cert.LossGradIdeal.nD,
          r.2.mem ((c.tc : Thread Cert.LossGradIdeal.nD Cert.LossGradIdeal.τ).loc Cert.LossGradIdeal.main_v0_0) = v0 c
          ∧ r.2.mem ((c.tc : Thread Cert.LossGradIdeal.nD Cert.LossGradIdeal.τ).loc Cert.LossGradIdeal.main_v0_1) = v1 c
          ∧ r.2.mem ((c.tc : Thread Cert.LossGradIdeal.nD Cert.LossGradIdeal.τ).loc Cert.LossGradIdeal.main_arg0) = m ((c.tc : Thread Cert.LossGradIdeal.nD Cert.LossGradIdeal.τ).loc Cert.LossGradIdeal.main_arg0)
          ∧ r.2.mem ((c.tc : Thread Cert.LossGradIdeal.nD Cert.LossGradIdeal.τ).loc Cert.LossGradIdeal.main_arg1) = m ((c.tc : Thread Cert.LossGradIdeal.nD Cert.LossGradIdeal.τ).loc Cert.LossGradIdeal.main_arg1))
      ∧ θ_run (Cert.LossGradRefIdeal.defs (F := Ideal)) (onTc (τ := Cert.LossGradRefIdeal.τ) (Cert.LossGradRefIdeal.main (F := Ideal))) ⟨m', fun _ => 0, g'⟩ (fun r => ∀ c : Dev Cert.LossGradRefIdeal.nD,
          r.2.mem ((c.tc : Thread Cert.LossGradRefIdeal.nD Cert.LossGradRefIdeal.τ).loc Cert.LossGradRefIdeal.main_v14) = v0 c
          ∧ r.2.mem ((c.tc : Thread Cert.LossGradRefIdeal.nD Cert.LossGradRefIdeal.τ).loc Cert.LossGradRefIdeal.main_v18) = v1 c
          ∧ r.2.mem ((c.tc : Thread Cert.LossGradRefIdeal.nD Cert.LossGradRefIdeal.τ).loc Cert.LossGradRefIdeal.main_arg0) = m' ((c.tc : Thread Cert.LossGradRefIdeal.nD Cert.LossGradRefIdeal.τ).loc Cert.LossGradRefIdeal.main_arg0)
          ∧ r.2.mem ((c.tc : Thread Cert.LossGradRefIdeal.nD Cert.LossGradRefIdeal.τ).loc Cert.LossGradRefIdeal.main_arg1) = m' ((c.tc : Thread Cert.LossGradRefIdeal.nD Cert.LossGradRefIdeal.τ).loc Cert.LossGradRefIdeal.main_arg1))

def preserves_ConvGrad_ConvGradIdeal : Prop :=
  True

def algebraic_ConvGradIdeal_ConvGradRefIdeal [hConvGradIdeal : Cert.ConvGradIdeal.Facts] [hConvGradRefIdeal : Cert.ConvGradRefIdeal.Facts] : Prop :=
  ∀ (m : (ℓ : Loc Cert.ConvGradIdeal.nD Cert.ConvGradIdeal.τ Cert.ConvGradIdeal.sig) → Buf (Elt Ideal) ℓ) (g : Dev Cert.ConvGradIdeal.nD → PrngReg)
    (m' : (ℓ : Loc Cert.ConvGradRefIdeal.nD Cert.ConvGradRefIdeal.τ Cert.ConvGradRefIdeal.sig) → Buf (Elt Ideal) ℓ) (g' : Dev Cert.ConvGradRefIdeal.nD → PrngReg), Pre_ConvGradIdeal m →
    (∀ c : Dev Cert.ConvGradIdeal.nD,
      m' ((c.tc : Thread Cert.ConvGradRefIdeal.nD Cert.ConvGradRefIdeal.τ).loc Cert.ConvGradRefIdeal.main_arg0) = m ((c.tc : Thread Cert.ConvGradIdeal.nD Cert.ConvGradIdeal.τ).loc Cert.ConvGradIdeal.main_arg0)
      ∧ m' ((c.tc : Thread Cert.ConvGradRefIdeal.nD Cert.ConvGradRefIdeal.τ).loc Cert.ConvGradRefIdeal.main_arg1) = m ((c.tc : Thread Cert.ConvGradIdeal.nD Cert.ConvGradIdeal.τ).loc Cert.ConvGradIdeal.main_arg1)
      ∧ m' ((c.tc : Thread Cert.ConvGradRefIdeal.nD Cert.ConvGradRefIdeal.τ).loc Cert.ConvGradRefIdeal.main_arg2) = m ((c.tc : Thread Cert.ConvGradIdeal.nD Cert.ConvGradIdeal.τ).loc Cert.ConvGradIdeal.main_arg2)
      ∧ m' ((c.tc : Thread Cert.ConvGradRefIdeal.nD Cert.ConvGradRefIdeal.τ).loc Cert.ConvGradRefIdeal.main_arg3) = m ((c.tc : Thread Cert.ConvGradIdeal.nD Cert.ConvGradIdeal.τ).loc Cert.ConvGradIdeal.main_arg3)) →
    ∃ (v0 : (c : Dev Cert.ConvGradIdeal.nD) → Buf (Elt Ideal) ((c.tc : Thread Cert.ConvGradIdeal.nD Cert.ConvGradIdeal.τ).loc Cert.ConvGradIdeal.main_v0_0)) (v1 : (c : Dev Cert.ConvGradIdeal.nD) → Buf (Elt Ideal) ((c.tc : Thread Cert.ConvGradIdeal.nD Cert.ConvGradIdeal.τ).loc Cert.ConvGradIdeal.main_v0_1)) (v2 : (c : Dev Cert.ConvGradIdeal.nD) → Buf (Elt Ideal) ((c.tc : Thread Cert.ConvGradIdeal.nD Cert.ConvGradIdeal.τ).loc Cert.ConvGradIdeal.main_v0_2)) (v3 : (c : Dev Cert.ConvGradIdeal.nD) → Buf (Elt Ideal) ((c.tc : Thread Cert.ConvGradIdeal.nD Cert.ConvGradIdeal.τ).loc Cert.ConvGradIdeal.main_v0_3)),
      θ_run (Cert.ConvGradIdeal.defs (F := Ideal)) (onTc (τ := Cert.ConvGradIdeal.τ) (Cert.ConvGradIdeal.main (F := Ideal))) ⟨m, fun _ => 0, g⟩ (fun r => ∀ c : Dev Cert.ConvGradIdeal.nD,
          r.2.mem ((c.tc : Thread Cert.ConvGradIdeal.nD Cert.ConvGradIdeal.τ).loc Cert.ConvGradIdeal.main_v0_0) = v0 c
          ∧ r.2.mem ((c.tc : Thread Cert.ConvGradIdeal.nD Cert.ConvGradIdeal.τ).loc Cert.ConvGradIdeal.main_v0_1) = v1 c
          ∧ r.2.mem ((c.tc : Thread Cert.ConvGradIdeal.nD Cert.ConvGradIdeal.τ).loc Cert.ConvGradIdeal.main_v0_2) = v2 c
          ∧ r.2.mem ((c.tc : Thread Cert.ConvGradIdeal.nD Cert.ConvGradIdeal.τ).loc Cert.ConvGradIdeal.main_v0_3) = v3 c
          ∧ r.2.mem ((c.tc : Thread Cert.ConvGradIdeal.nD Cert.ConvGradIdeal.τ).loc Cert.ConvGradIdeal.main_arg0) = m ((c.tc : Thread Cert.ConvGradIdeal.nD Cert.ConvGradIdeal.τ).loc Cert.ConvGradIdeal.main_arg0)
          ∧ r.2.mem ((c.tc : Thread Cert.ConvGradIdeal.nD Cert.ConvGradIdeal.τ).loc Cert.ConvGradIdeal.main_arg1) = m ((c.tc : Thread Cert.ConvGradIdeal.nD Cert.ConvGradIdeal.τ).loc Cert.ConvGradIdeal.main_arg1)
          ∧ r.2.mem ((c.tc : Thread Cert.ConvGradIdeal.nD Cert.ConvGradIdeal.τ).loc Cert.ConvGradIdeal.main_arg2) = m ((c.tc : Thread Cert.ConvGradIdeal.nD Cert.ConvGradIdeal.τ).loc Cert.ConvGradIdeal.main_arg2)
          ∧ r.2.mem ((c.tc : Thread Cert.ConvGradIdeal.nD Cert.ConvGradIdeal.τ).loc Cert.ConvGradIdeal.main_arg3) = m ((c.tc : Thread Cert.ConvGradIdeal.nD Cert.ConvGradIdeal.τ).loc Cert.ConvGradIdeal.main_arg3))
      ∧ θ_run (Cert.ConvGradRefIdeal.defs (F := Ideal)) (onTc (τ := Cert.ConvGradRefIdeal.τ) (Cert.ConvGradRefIdeal.main (F := Ideal))) ⟨m', fun _ => 0, g'⟩ (fun r => ∀ c : Dev Cert.ConvGradRefIdeal.nD,
          r.2.mem ((c.tc : Thread Cert.ConvGradRefIdeal.nD Cert.ConvGradRefIdeal.τ).loc Cert.ConvGradRefIdeal.main_v71) = v0 c
          ∧ r.2.mem ((c.tc : Thread Cert.ConvGradRefIdeal.nD Cert.ConvGradRefIdeal.τ).loc Cert.ConvGradRefIdeal.main_v73) = v1 c
          ∧ r.2.mem ((c.tc : Thread Cert.ConvGradRefIdeal.nD Cert.ConvGradRefIdeal.τ).loc Cert.ConvGradRefIdeal.main_v75) = v2 c
          ∧ r.2.mem ((c.tc : Thread Cert.ConvGradRefIdeal.nD Cert.ConvGradRefIdeal.τ).loc Cert.ConvGradRefIdeal.main_v65) = v3 c
          ∧ r.2.mem ((c.tc : Thread Cert.ConvGradRefIdeal.nD Cert.ConvGradRefIdeal.τ).loc Cert.ConvGradRefIdeal.main_arg0) = m' ((c.tc : Thread Cert.ConvGradRefIdeal.nD Cert.ConvGradRefIdeal.τ).loc Cert.ConvGradRefIdeal.main_arg0)
          ∧ r.2.mem ((c.tc : Thread Cert.ConvGradRefIdeal.nD Cert.ConvGradRefIdeal.τ).loc Cert.ConvGradRefIdeal.main_arg1) = m' ((c.tc : Thread Cert.ConvGradRefIdeal.nD Cert.ConvGradRefIdeal.τ).loc Cert.ConvGradRefIdeal.main_arg1)
          ∧ r.2.mem ((c.tc : Thread Cert.ConvGradRefIdeal.nD Cert.ConvGradRefIdeal.τ).loc Cert.ConvGradRefIdeal.main_arg2) = m' ((c.tc : Thread Cert.ConvGradRefIdeal.nD Cert.ConvGradRefIdeal.τ).loc Cert.ConvGradRefIdeal.main_arg2)
          ∧ r.2.mem ((c.tc : Thread Cert.ConvGradRefIdeal.nD Cert.ConvGradRefIdeal.τ).loc Cert.ConvGradRefIdeal.main_arg3) = m' ((c.tc : Thread Cert.ConvGradRefIdeal.nD Cert.ConvGradRefIdeal.τ).loc Cert.ConvGradRefIdeal.main_arg3))

def preserves_PoolGrad_PoolGradIdeal : Prop :=
  True

def algebraic_PoolGradIdeal_PoolGradRefIdeal_pre_pool_finite [hPoolGradIdeal : Cert.PoolGradIdeal.Facts] [hPoolGradRefIdeal : Cert.PoolGradRefIdeal.Facts] [hPre_pool_finite : Cert.Pre_pool_finite.Facts] : Prop :=
  ∀ (m : (ℓ : Loc Cert.PoolGradIdeal.nD Cert.PoolGradIdeal.τ Cert.PoolGradIdeal.sig) → Buf (Elt Ideal) ℓ) (g : Dev Cert.PoolGradIdeal.nD → PrngReg)
    (m' : (ℓ : Loc Cert.PoolGradRefIdeal.nD Cert.PoolGradRefIdeal.τ Cert.PoolGradRefIdeal.sig) → Buf (Elt Ideal) ℓ) (g' : Dev Cert.PoolGradRefIdeal.nD → PrngReg), Pre_PoolGradIdeal_pool_finite m →
    (∀ c : Dev Cert.PoolGradIdeal.nD,
      m' ((c.tc : Thread Cert.PoolGradRefIdeal.nD Cert.PoolGradRefIdeal.τ).loc Cert.PoolGradRefIdeal.main_arg0) = m ((c.tc : Thread Cert.PoolGradIdeal.nD Cert.PoolGradIdeal.τ).loc Cert.PoolGradIdeal.main_arg0)
      ∧ m' ((c.tc : Thread Cert.PoolGradRefIdeal.nD Cert.PoolGradRefIdeal.τ).loc Cert.PoolGradRefIdeal.main_arg1) = m ((c.tc : Thread Cert.PoolGradIdeal.nD Cert.PoolGradIdeal.τ).loc Cert.PoolGradIdeal.main_arg1)
      ∧ m' ((c.tc : Thread Cert.PoolGradRefIdeal.nD Cert.PoolGradRefIdeal.τ).loc Cert.PoolGradRefIdeal.main_arg2) = m ((c.tc : Thread Cert.PoolGradIdeal.nD Cert.PoolGradIdeal.τ).loc Cert.PoolGradIdeal.main_arg2)
      ∧ m' ((c.tc : Thread Cert.PoolGradRefIdeal.nD Cert.PoolGradRefIdeal.τ).loc Cert.PoolGradRefIdeal.main_arg3) = m ((c.tc : Thread Cert.PoolGradIdeal.nD Cert.PoolGradIdeal.τ).loc Cert.PoolGradIdeal.main_arg3)) →
    ∃ (v0 : (c : Dev Cert.PoolGradIdeal.nD) → Buf (Elt Ideal) ((c.tc : Thread Cert.PoolGradIdeal.nD Cert.PoolGradIdeal.τ).loc Cert.PoolGradIdeal.main_v1_0)) (v1 : (c : Dev Cert.PoolGradIdeal.nD) → Buf (Elt Ideal) ((c.tc : Thread Cert.PoolGradIdeal.nD Cert.PoolGradIdeal.τ).loc Cert.PoolGradIdeal.main_v1_1)) (v2 : (c : Dev Cert.PoolGradIdeal.nD) → Buf (Elt Ideal) ((c.tc : Thread Cert.PoolGradIdeal.nD Cert.PoolGradIdeal.τ).loc Cert.PoolGradIdeal.main_v1_2)),
      θ_run (Cert.PoolGradIdeal.defs (F := Ideal)) (onTc (τ := Cert.PoolGradIdeal.τ) (Cert.PoolGradIdeal.main (F := Ideal))) ⟨m, fun _ => 0, g⟩ (fun r => ∀ c : Dev Cert.PoolGradIdeal.nD,
          r.2.mem ((c.tc : Thread Cert.PoolGradIdeal.nD Cert.PoolGradIdeal.τ).loc Cert.PoolGradIdeal.main_v1_0) = v0 c
          ∧ r.2.mem ((c.tc : Thread Cert.PoolGradIdeal.nD Cert.PoolGradIdeal.τ).loc Cert.PoolGradIdeal.main_v1_1) = v1 c
          ∧ r.2.mem ((c.tc : Thread Cert.PoolGradIdeal.nD Cert.PoolGradIdeal.τ).loc Cert.PoolGradIdeal.main_v1_2) = v2 c
          ∧ r.2.mem ((c.tc : Thread Cert.PoolGradIdeal.nD Cert.PoolGradIdeal.τ).loc Cert.PoolGradIdeal.main_arg0) = m ((c.tc : Thread Cert.PoolGradIdeal.nD Cert.PoolGradIdeal.τ).loc Cert.PoolGradIdeal.main_arg0)
          ∧ r.2.mem ((c.tc : Thread Cert.PoolGradIdeal.nD Cert.PoolGradIdeal.τ).loc Cert.PoolGradIdeal.main_arg1) = m ((c.tc : Thread Cert.PoolGradIdeal.nD Cert.PoolGradIdeal.τ).loc Cert.PoolGradIdeal.main_arg1)
          ∧ r.2.mem ((c.tc : Thread Cert.PoolGradIdeal.nD Cert.PoolGradIdeal.τ).loc Cert.PoolGradIdeal.main_arg2) = m ((c.tc : Thread Cert.PoolGradIdeal.nD Cert.PoolGradIdeal.τ).loc Cert.PoolGradIdeal.main_arg2)
          ∧ r.2.mem ((c.tc : Thread Cert.PoolGradIdeal.nD Cert.PoolGradIdeal.τ).loc Cert.PoolGradIdeal.main_arg3) = m ((c.tc : Thread Cert.PoolGradIdeal.nD Cert.PoolGradIdeal.τ).loc Cert.PoolGradIdeal.main_arg3))
      ∧ θ_run (Cert.PoolGradRefIdeal.defs (F := Ideal)) (onTc (τ := Cert.PoolGradRefIdeal.τ) (Cert.PoolGradRefIdeal.main (F := Ideal))) ⟨m', fun _ => 0, g'⟩ (fun r => ∀ c : Dev Cert.PoolGradRefIdeal.nD,
          r.2.mem ((c.tc : Thread Cert.PoolGradRefIdeal.nD Cert.PoolGradRefIdeal.τ).loc Cert.PoolGradRefIdeal.main_v141) = v0 c
          ∧ r.2.mem ((c.tc : Thread Cert.PoolGradRefIdeal.nD Cert.PoolGradRefIdeal.τ).loc Cert.PoolGradRefIdeal.main_v84) = v1 c
          ∧ r.2.mem ((c.tc : Thread Cert.PoolGradRefIdeal.nD Cert.PoolGradRefIdeal.τ).loc Cert.PoolGradRefIdeal.main_v142) = v2 c
          ∧ r.2.mem ((c.tc : Thread Cert.PoolGradRefIdeal.nD Cert.PoolGradRefIdeal.τ).loc Cert.PoolGradRefIdeal.main_arg0) = m' ((c.tc : Thread Cert.PoolGradRefIdeal.nD Cert.PoolGradRefIdeal.τ).loc Cert.PoolGradRefIdeal.main_arg0)
          ∧ r.2.mem ((c.tc : Thread Cert.PoolGradRefIdeal.nD Cert.PoolGradRefIdeal.τ).loc Cert.PoolGradRefIdeal.main_arg1) = m' ((c.tc : Thread Cert.PoolGradRefIdeal.nD Cert.PoolGradRefIdeal.τ).loc Cert.PoolGradRefIdeal.main_arg1)
          ∧ r.2.mem ((c.tc : Thread Cert.PoolGradRefIdeal.nD Cert.PoolGradRefIdeal.τ).loc Cert.PoolGradRefIdeal.main_arg2) = m' ((c.tc : Thread Cert.PoolGradRefIdeal.nD Cert.PoolGradRefIdeal.τ).loc Cert.PoolGradRefIdeal.main_arg2)
          ∧ r.2.mem ((c.tc : Thread Cert.PoolGradRefIdeal.nD Cert.PoolGradRefIdeal.τ).loc Cert.PoolGradRefIdeal.main_arg3) = m' ((c.tc : Thread Cert.PoolGradRefIdeal.nD Cert.PoolGradRefIdeal.τ).loc Cert.PoolGradRefIdeal.main_arg3))

def preserves_SguGrad_SguGradIdeal : Prop :=
  IdealRules.named_const.Statement Cert.SguGradIdeal.κ "rsqrt2" .f32 0x3F3504F3#32 (((Real.sqrt 2)⁻¹ : ℝ) : EReal)
  ∧ IdealRules.named_const.Statement Cert.SguGradIdeal.κ "rsqrt2pi" .f32 0x3ECC422A#32 (((Real.sqrt (2 * Real.pi))⁻¹ : ℝ) : EReal)

def algebraic_SguGradIdeal_SguGradRefIdeal_pre_sgu_finite [hSguGradIdeal : Cert.SguGradIdeal.Facts] [hSguGradRefIdeal : Cert.SguGradRefIdeal.Facts] [hPre_sgu_finite : Cert.Pre_sgu_finite.Facts] : Prop :=
  ∀ (m : (ℓ : Loc Cert.SguGradIdeal.nD Cert.SguGradIdeal.τ Cert.SguGradIdeal.sig) → Buf (Elt Ideal) ℓ) (g : Dev Cert.SguGradIdeal.nD → PrngReg)
    (m' : (ℓ : Loc Cert.SguGradRefIdeal.nD Cert.SguGradRefIdeal.τ Cert.SguGradRefIdeal.sig) → Buf (Elt Ideal) ℓ) (g' : Dev Cert.SguGradRefIdeal.nD → PrngReg), Pre_SguGradIdeal_sgu_finite m →
    (∀ c : Dev Cert.SguGradIdeal.nD,
      m' ((c.tc : Thread Cert.SguGradRefIdeal.nD Cert.SguGradRefIdeal.τ).loc Cert.SguGradRefIdeal.main_arg0) = m ((c.tc : Thread Cert.SguGradIdeal.nD Cert.SguGradIdeal.τ).loc Cert.SguGradIdeal.main_arg0)
      ∧ m' ((c.tc : Thread Cert.SguGradRefIdeal.nD Cert.SguGradRefIdeal.τ).loc Cert.SguGradRefIdeal.main_arg1) = m ((c.tc : Thread Cert.SguGradIdeal.nD Cert.SguGradIdeal.τ).loc Cert.SguGradIdeal.main_arg1)
      ∧ m' ((c.tc : Thread Cert.SguGradRefIdeal.nD Cert.SguGradRefIdeal.τ).loc Cert.SguGradRefIdeal.main_arg2) = m ((c.tc : Thread Cert.SguGradIdeal.nD Cert.SguGradIdeal.τ).loc Cert.SguGradIdeal.main_arg2)
      ∧ m' ((c.tc : Thread Cert.SguGradRefIdeal.nD Cert.SguGradRefIdeal.τ).loc Cert.SguGradRefIdeal.main_arg3) = m ((c.tc : Thread Cert.SguGradIdeal.nD Cert.SguGradIdeal.τ).loc Cert.SguGradIdeal.main_arg3)
      ∧ m' ((c.tc : Thread Cert.SguGradRefIdeal.nD Cert.SguGradRefIdeal.τ).loc Cert.SguGradRefIdeal.main_arg4) = m ((c.tc : Thread Cert.SguGradIdeal.nD Cert.SguGradIdeal.τ).loc Cert.SguGradIdeal.main_arg4)) →
    ∃ (v0 : (c : Dev Cert.SguGradIdeal.nD) → Buf (Elt Ideal) ((c.tc : Thread Cert.SguGradIdeal.nD Cert.SguGradIdeal.τ).loc Cert.SguGradIdeal.main_v2_0)) (v1 : (c : Dev Cert.SguGradIdeal.nD) → Buf (Elt Ideal) ((c.tc : Thread Cert.SguGradIdeal.nD Cert.SguGradIdeal.τ).loc Cert.SguGradIdeal.main_v2_1)) (v2 : (c : Dev Cert.SguGradIdeal.nD) → Buf (Elt Ideal) ((c.tc : Thread Cert.SguGradIdeal.nD Cert.SguGradIdeal.τ).loc Cert.SguGradIdeal.main_v2_2)) (v3 : (c : Dev Cert.SguGradIdeal.nD) → Buf (Elt Ideal) ((c.tc : Thread Cert.SguGradIdeal.nD Cert.SguGradIdeal.τ).loc Cert.SguGradIdeal.main_v2_3)) (v4 : (c : Dev Cert.SguGradIdeal.nD) → Buf (Elt Ideal) ((c.tc : Thread Cert.SguGradIdeal.nD Cert.SguGradIdeal.τ).loc Cert.SguGradIdeal.main_v2_4)),
      θ_run (Cert.SguGradIdeal.defs (F := Ideal)) (onTc (τ := Cert.SguGradIdeal.τ) (Cert.SguGradIdeal.main (F := Ideal))) ⟨m, fun _ => 0, g⟩ (fun r => ∀ c : Dev Cert.SguGradIdeal.nD,
          r.2.mem ((c.tc : Thread Cert.SguGradIdeal.nD Cert.SguGradIdeal.τ).loc Cert.SguGradIdeal.main_v2_0) = v0 c
          ∧ r.2.mem ((c.tc : Thread Cert.SguGradIdeal.nD Cert.SguGradIdeal.τ).loc Cert.SguGradIdeal.main_v2_1) = v1 c
          ∧ r.2.mem ((c.tc : Thread Cert.SguGradIdeal.nD Cert.SguGradIdeal.τ).loc Cert.SguGradIdeal.main_v2_2) = v2 c
          ∧ r.2.mem ((c.tc : Thread Cert.SguGradIdeal.nD Cert.SguGradIdeal.τ).loc Cert.SguGradIdeal.main_v2_3) = v3 c
          ∧ r.2.mem ((c.tc : Thread Cert.SguGradIdeal.nD Cert.SguGradIdeal.τ).loc Cert.SguGradIdeal.main_v2_4) = v4 c
          ∧ r.2.mem ((c.tc : Thread Cert.SguGradIdeal.nD Cert.SguGradIdeal.τ).loc Cert.SguGradIdeal.main_arg0) = m ((c.tc : Thread Cert.SguGradIdeal.nD Cert.SguGradIdeal.τ).loc Cert.SguGradIdeal.main_arg0)
          ∧ r.2.mem ((c.tc : Thread Cert.SguGradIdeal.nD Cert.SguGradIdeal.τ).loc Cert.SguGradIdeal.main_arg1) = m ((c.tc : Thread Cert.SguGradIdeal.nD Cert.SguGradIdeal.τ).loc Cert.SguGradIdeal.main_arg1)
          ∧ r.2.mem ((c.tc : Thread Cert.SguGradIdeal.nD Cert.SguGradIdeal.τ).loc Cert.SguGradIdeal.main_arg2) = m ((c.tc : Thread Cert.SguGradIdeal.nD Cert.SguGradIdeal.τ).loc Cert.SguGradIdeal.main_arg2)
          ∧ r.2.mem ((c.tc : Thread Cert.SguGradIdeal.nD Cert.SguGradIdeal.τ).loc Cert.SguGradIdeal.main_arg3) = m ((c.tc : Thread Cert.SguGradIdeal.nD Cert.SguGradIdeal.τ).loc Cert.SguGradIdeal.main_arg3)
          ∧ r.2.mem ((c.tc : Thread Cert.SguGradIdeal.nD Cert.SguGradIdeal.τ).loc Cert.SguGradIdeal.main_arg4) = m ((c.tc : Thread Cert.SguGradIdeal.nD Cert.SguGradIdeal.τ).loc Cert.SguGradIdeal.main_arg4))
      ∧ θ_run (Cert.SguGradRefIdeal.defs (F := Ideal)) (onTc (τ := Cert.SguGradRefIdeal.τ) (Cert.SguGradRefIdeal.main (F := Ideal))) ⟨m', fun _ => 0, g'⟩ (fun r => ∀ c : Dev Cert.SguGradRefIdeal.nD,
          r.2.mem ((c.tc : Thread Cert.SguGradRefIdeal.nD Cert.SguGradRefIdeal.τ).loc Cert.SguGradRefIdeal.main_v127) = v0 c
          ∧ r.2.mem ((c.tc : Thread Cert.SguGradRefIdeal.nD Cert.SguGradRefIdeal.τ).loc Cert.SguGradRefIdeal.main_v130) = v1 c
          ∧ r.2.mem ((c.tc : Thread Cert.SguGradRefIdeal.nD Cert.SguGradRefIdeal.τ).loc Cert.SguGradRefIdeal.main_v131) = v2 c
          ∧ r.2.mem ((c.tc : Thread Cert.SguGradRefIdeal.nD Cert.SguGradRefIdeal.τ).loc Cert.SguGradRefIdeal.main_v77) = v3 c
          ∧ r.2.mem ((c.tc : Thread Cert.SguGradRefIdeal.nD Cert.SguGradRefIdeal.τ).loc Cert.SguGradRefIdeal.main_v132) = v4 c
          ∧ r.2.mem ((c.tc : Thread Cert.SguGradRefIdeal.nD Cert.SguGradRefIdeal.τ).loc Cert.SguGradRefIdeal.main_arg0) = m' ((c.tc : Thread Cert.SguGradRefIdeal.nD Cert.SguGradRefIdeal.τ).loc Cert.SguGradRefIdeal.main_arg0)
          ∧ r.2.mem ((c.tc : Thread Cert.SguGradRefIdeal.nD Cert.SguGradRefIdeal.τ).loc Cert.SguGradRefIdeal.main_arg1) = m' ((c.tc : Thread Cert.SguGradRefIdeal.nD Cert.SguGradRefIdeal.τ).loc Cert.SguGradRefIdeal.main_arg1)
          ∧ r.2.mem ((c.tc : Thread Cert.SguGradRefIdeal.nD Cert.SguGradRefIdeal.τ).loc Cert.SguGradRefIdeal.main_arg2) = m' ((c.tc : Thread Cert.SguGradRefIdeal.nD Cert.SguGradRefIdeal.τ).loc Cert.SguGradRefIdeal.main_arg2)
          ∧ r.2.mem ((c.tc : Thread Cert.SguGradRefIdeal.nD Cert.SguGradRefIdeal.τ).loc Cert.SguGradRefIdeal.main_arg3) = m' ((c.tc : Thread Cert.SguGradRefIdeal.nD Cert.SguGradRefIdeal.τ).loc Cert.SguGradRefIdeal.main_arg3)
          ∧ r.2.mem ((c.tc : Thread Cert.SguGradRefIdeal.nD Cert.SguGradRefIdeal.τ).loc Cert.SguGradRefIdeal.main_arg4) = m' ((c.tc : Thread Cert.SguGradRefIdeal.nD Cert.SguGradRefIdeal.τ).loc Cert.SguGradRefIdeal.main_arg4))

def preserves_MlpGrad_MlpGradIdeal : Prop :=
  True

def algebraic_MlpGradIdeal_MlpGradRefIdeal_pre_mlp_finite [hMlpGradIdeal : Cert.MlpGradIdeal.Facts] [hMlpGradRefIdeal : Cert.MlpGradRefIdeal.Facts] [hPre_mlp_finite : Cert.Pre_mlp_finite.Facts] : Prop :=
  ∀ (m : (ℓ : Loc Cert.MlpGradIdeal.nD Cert.MlpGradIdeal.τ Cert.MlpGradIdeal.sig) → Buf (Elt Ideal) ℓ) (g : Dev Cert.MlpGradIdeal.nD → PrngReg)
    (m' : (ℓ : Loc Cert.MlpGradRefIdeal.nD Cert.MlpGradRefIdeal.τ Cert.MlpGradRefIdeal.sig) → Buf (Elt Ideal) ℓ) (g' : Dev Cert.MlpGradRefIdeal.nD → PrngReg), Pre_MlpGradIdeal_mlp_finite m →
    (∀ c : Dev Cert.MlpGradIdeal.nD,
      m' ((c.tc : Thread Cert.MlpGradRefIdeal.nD Cert.MlpGradRefIdeal.τ).loc Cert.MlpGradRefIdeal.main_arg0) = m ((c.tc : Thread Cert.MlpGradIdeal.nD Cert.MlpGradIdeal.τ).loc Cert.MlpGradIdeal.main_arg0)
      ∧ m' ((c.tc : Thread Cert.MlpGradRefIdeal.nD Cert.MlpGradRefIdeal.τ).loc Cert.MlpGradRefIdeal.main_arg1) = m ((c.tc : Thread Cert.MlpGradIdeal.nD Cert.MlpGradIdeal.τ).loc Cert.MlpGradIdeal.main_arg1)
      ∧ m' ((c.tc : Thread Cert.MlpGradRefIdeal.nD Cert.MlpGradRefIdeal.τ).loc Cert.MlpGradRefIdeal.main_arg2) = m ((c.tc : Thread Cert.MlpGradIdeal.nD Cert.MlpGradIdeal.τ).loc Cert.MlpGradIdeal.main_arg2)
      ∧ m' ((c.tc : Thread Cert.MlpGradRefIdeal.nD Cert.MlpGradRefIdeal.τ).loc Cert.MlpGradRefIdeal.main_arg3) = m ((c.tc : Thread Cert.MlpGradIdeal.nD Cert.MlpGradIdeal.τ).loc Cert.MlpGradIdeal.main_arg3)
      ∧ m' ((c.tc : Thread Cert.MlpGradRefIdeal.nD Cert.MlpGradRefIdeal.τ).loc Cert.MlpGradRefIdeal.main_arg4) = m ((c.tc : Thread Cert.MlpGradIdeal.nD Cert.MlpGradIdeal.τ).loc Cert.MlpGradIdeal.main_arg4)
      ∧ m' ((c.tc : Thread Cert.MlpGradRefIdeal.nD Cert.MlpGradRefIdeal.τ).loc Cert.MlpGradRefIdeal.main_arg5) = m ((c.tc : Thread Cert.MlpGradIdeal.nD Cert.MlpGradIdeal.τ).loc Cert.MlpGradIdeal.main_arg5)
      ∧ m' ((c.tc : Thread Cert.MlpGradRefIdeal.nD Cert.MlpGradRefIdeal.τ).loc Cert.MlpGradRefIdeal.main_arg6) = m ((c.tc : Thread Cert.MlpGradIdeal.nD Cert.MlpGradIdeal.τ).loc Cert.MlpGradIdeal.main_arg6)
      ∧ m' ((c.tc : Thread Cert.MlpGradRefIdeal.nD Cert.MlpGradRefIdeal.τ).loc Cert.MlpGradRefIdeal.main_arg7) = m ((c.tc : Thread Cert.MlpGradIdeal.nD Cert.MlpGradIdeal.τ).loc Cert.MlpGradIdeal.main_arg7)
      ∧ m' ((c.tc : Thread Cert.MlpGradRefIdeal.nD Cert.MlpGradRefIdeal.τ).loc Cert.MlpGradRefIdeal.main_arg8) = m ((c.tc : Thread Cert.MlpGradIdeal.nD Cert.MlpGradIdeal.τ).loc Cert.MlpGradIdeal.main_arg8)
      ∧ m' ((c.tc : Thread Cert.MlpGradRefIdeal.nD Cert.MlpGradRefIdeal.τ).loc Cert.MlpGradRefIdeal.main_arg9) = m ((c.tc : Thread Cert.MlpGradIdeal.nD Cert.MlpGradIdeal.τ).loc Cert.MlpGradIdeal.main_arg9)
      ∧ m' ((c.tc : Thread Cert.MlpGradRefIdeal.nD Cert.MlpGradRefIdeal.τ).loc Cert.MlpGradRefIdeal.main_arg10) = m ((c.tc : Thread Cert.MlpGradIdeal.nD Cert.MlpGradIdeal.τ).loc Cert.MlpGradIdeal.main_arg10)) →
    ∃ (v0 : (c : Dev Cert.MlpGradIdeal.nD) → Buf (Elt Ideal) ((c.tc : Thread Cert.MlpGradIdeal.nD Cert.MlpGradIdeal.τ).loc Cert.MlpGradIdeal.main_v60_0)) (v1 : (c : Dev Cert.MlpGradIdeal.nD) → Buf (Elt Ideal) ((c.tc : Thread Cert.MlpGradIdeal.nD Cert.MlpGradIdeal.τ).loc Cert.MlpGradIdeal.main_v60_1)) (v2 : (c : Dev Cert.MlpGradIdeal.nD) → Buf (Elt Ideal) ((c.tc : Thread Cert.MlpGradIdeal.nD Cert.MlpGradIdeal.τ).loc Cert.MlpGradIdeal.main_v60_2)) (v3 : (c : Dev Cert.MlpGradIdeal.nD) → Buf (Elt Ideal) ((c.tc : Thread Cert.MlpGradIdeal.nD Cert.MlpGradIdeal.τ).loc Cert.MlpGradIdeal.main_v60_3)) (v4 : (c : Dev Cert.MlpGradIdeal.nD) → Buf (Elt Ideal) ((c.tc : Thread Cert.MlpGradIdeal.nD Cert.MlpGradIdeal.τ).loc Cert.MlpGradIdeal.main_v60_4)) (v5 : (c : Dev Cert.MlpGradIdeal.nD) → Buf (Elt Ideal) ((c.tc : Thread Cert.MlpGradIdeal.nD Cert.MlpGradIdeal.τ).loc Cert.MlpGradIdeal.main_v60_5)) (v6 : (c : Dev Cert.MlpGradIdeal.nD) → Buf (Elt Ideal) ((c.tc : Thread Cert.MlpGradIdeal.nD Cert.MlpGradIdeal.τ).loc Cert.MlpGradIdeal.main_v60_6)) (v7 : (c : Dev Cert.MlpGradIdeal.nD) → Buf (Elt Ideal) ((c.tc : Thread Cert.MlpGradIdeal.nD Cert.MlpGradIdeal.τ).loc Cert.MlpGradIdeal.main_v60_7)) (v8 : (c : Dev Cert.MlpGradIdeal.nD) → Buf (Elt Ideal) ((c.tc : Thread Cert.MlpGradIdeal.nD Cert.MlpGradIdeal.τ).loc Cert.MlpGradIdeal.main_v60_8)) (v9 : (c : Dev Cert.MlpGradIdeal.nD) → Buf (Elt Ideal) ((c.tc : Thread Cert.MlpGradIdeal.nD Cert.MlpGradIdeal.τ).loc Cert.MlpGradIdeal.main_v60_9)),
      θ_run (Cert.MlpGradIdeal.defs (F := Ideal)) (onTc (τ := Cert.MlpGradIdeal.τ) (Cert.MlpGradIdeal.main (F := Ideal))) ⟨m, fun _ => 0, g⟩ (fun r => ∀ c : Dev Cert.MlpGradIdeal.nD,
          r.2.mem ((c.tc : Thread Cert.MlpGradIdeal.nD Cert.MlpGradIdeal.τ).loc Cert.MlpGradIdeal.main_v60_0) = v0 c
          ∧ r.2.mem ((c.tc : Thread Cert.MlpGradIdeal.nD Cert.MlpGradIdeal.τ).loc Cert.MlpGradIdeal.main_v60_1) = v1 c
          ∧ r.2.mem ((c.tc : Thread Cert.MlpGradIdeal.nD Cert.MlpGradIdeal.τ).loc Cert.MlpGradIdeal.main_v60_2) = v2 c
          ∧ r.2.mem ((c.tc : Thread Cert.MlpGradIdeal.nD Cert.MlpGradIdeal.τ).loc Cert.MlpGradIdeal.main_v60_3) = v3 c
          ∧ r.2.mem ((c.tc : Thread Cert.MlpGradIdeal.nD Cert.MlpGradIdeal.τ).loc Cert.MlpGradIdeal.main_v60_4) = v4 c
          ∧ r.2.mem ((c.tc : Thread Cert.MlpGradIdeal.nD Cert.MlpGradIdeal.τ).loc Cert.MlpGradIdeal.main_v60_5) = v5 c
          ∧ r.2.mem ((c.tc : Thread Cert.MlpGradIdeal.nD Cert.MlpGradIdeal.τ).loc Cert.MlpGradIdeal.main_v60_6) = v6 c
          ∧ r.2.mem ((c.tc : Thread Cert.MlpGradIdeal.nD Cert.MlpGradIdeal.τ).loc Cert.MlpGradIdeal.main_v60_7) = v7 c
          ∧ r.2.mem ((c.tc : Thread Cert.MlpGradIdeal.nD Cert.MlpGradIdeal.τ).loc Cert.MlpGradIdeal.main_v60_8) = v8 c
          ∧ r.2.mem ((c.tc : Thread Cert.MlpGradIdeal.nD Cert.MlpGradIdeal.τ).loc Cert.MlpGradIdeal.main_v60_9) = v9 c
          ∧ r.2.mem ((c.tc : Thread Cert.MlpGradIdeal.nD Cert.MlpGradIdeal.τ).loc Cert.MlpGradIdeal.main_arg0) = m ((c.tc : Thread Cert.MlpGradIdeal.nD Cert.MlpGradIdeal.τ).loc Cert.MlpGradIdeal.main_arg0)
          ∧ r.2.mem ((c.tc : Thread Cert.MlpGradIdeal.nD Cert.MlpGradIdeal.τ).loc Cert.MlpGradIdeal.main_arg1) = m ((c.tc : Thread Cert.MlpGradIdeal.nD Cert.MlpGradIdeal.τ).loc Cert.MlpGradIdeal.main_arg1)
          ∧ r.2.mem ((c.tc : Thread Cert.MlpGradIdeal.nD Cert.MlpGradIdeal.τ).loc Cert.MlpGradIdeal.main_arg2) = m ((c.tc : Thread Cert.MlpGradIdeal.nD Cert.MlpGradIdeal.τ).loc Cert.MlpGradIdeal.main_arg2)
          ∧ r.2.mem ((c.tc : Thread Cert.MlpGradIdeal.nD Cert.MlpGradIdeal.τ).loc Cert.MlpGradIdeal.main_arg3) = m ((c.tc : Thread Cert.MlpGradIdeal.nD Cert.MlpGradIdeal.τ).loc Cert.MlpGradIdeal.main_arg3)
          ∧ r.2.mem ((c.tc : Thread Cert.MlpGradIdeal.nD Cert.MlpGradIdeal.τ).loc Cert.MlpGradIdeal.main_arg4) = m ((c.tc : Thread Cert.MlpGradIdeal.nD Cert.MlpGradIdeal.τ).loc Cert.MlpGradIdeal.main_arg4)
          ∧ r.2.mem ((c.tc : Thread Cert.MlpGradIdeal.nD Cert.MlpGradIdeal.τ).loc Cert.MlpGradIdeal.main_arg5) = m ((c.tc : Thread Cert.MlpGradIdeal.nD Cert.MlpGradIdeal.τ).loc Cert.MlpGradIdeal.main_arg5)
          ∧ r.2.mem ((c.tc : Thread Cert.MlpGradIdeal.nD Cert.MlpGradIdeal.τ).loc Cert.MlpGradIdeal.main_arg6) = m ((c.tc : Thread Cert.MlpGradIdeal.nD Cert.MlpGradIdeal.τ).loc Cert.MlpGradIdeal.main_arg6)
          ∧ r.2.mem ((c.tc : Thread Cert.MlpGradIdeal.nD Cert.MlpGradIdeal.τ).loc Cert.MlpGradIdeal.main_arg7) = m ((c.tc : Thread Cert.MlpGradIdeal.nD Cert.MlpGradIdeal.τ).loc Cert.MlpGradIdeal.main_arg7)
          ∧ r.2.mem ((c.tc : Thread Cert.MlpGradIdeal.nD Cert.MlpGradIdeal.τ).loc Cert.MlpGradIdeal.main_arg8) = m ((c.tc : Thread Cert.MlpGradIdeal.nD Cert.MlpGradIdeal.τ).loc Cert.MlpGradIdeal.main_arg8)
          ∧ r.2.mem ((c.tc : Thread Cert.MlpGradIdeal.nD Cert.MlpGradIdeal.τ).loc Cert.MlpGradIdeal.main_arg9) = m ((c.tc : Thread Cert.MlpGradIdeal.nD Cert.MlpGradIdeal.τ).loc Cert.MlpGradIdeal.main_arg9)
          ∧ r.2.mem ((c.tc : Thread Cert.MlpGradIdeal.nD Cert.MlpGradIdeal.τ).loc Cert.MlpGradIdeal.main_arg10) = m ((c.tc : Thread Cert.MlpGradIdeal.nD Cert.MlpGradIdeal.τ).loc Cert.MlpGradIdeal.main_arg10))
      ∧ θ_run (Cert.MlpGradRefIdeal.defs (F := Ideal)) (onTc (τ := Cert.MlpGradRefIdeal.τ) (Cert.MlpGradRefIdeal.main (F := Ideal))) ⟨m', fun _ => 0, g'⟩ (fun r => ∀ c : Dev Cert.MlpGradRefIdeal.nD,
          r.2.mem ((c.tc : Thread Cert.MlpGradRefIdeal.nD Cert.MlpGradRefIdeal.τ).loc Cert.MlpGradRefIdeal.main_v156) = v0 c
          ∧ r.2.mem ((c.tc : Thread Cert.MlpGradRefIdeal.nD Cert.MlpGradRefIdeal.τ).loc Cert.MlpGradRefIdeal.main_v157) = v1 c
          ∧ r.2.mem ((c.tc : Thread Cert.MlpGradRefIdeal.nD Cert.MlpGradRefIdeal.τ).loc Cert.MlpGradRefIdeal.main_v158) = v2 c
          ∧ r.2.mem ((c.tc : Thread Cert.MlpGradRefIdeal.nD Cert.MlpGradRefIdeal.τ).loc Cert.MlpGradRefIdeal.main_v154) = v3 c
          ∧ r.2.mem ((c.tc : Thread Cert.MlpGradRefIdeal.nD Cert.MlpGradRefIdeal.τ).loc Cert.MlpGradRefIdeal.main_v159) = v4 c
          ∧ r.2.mem ((c.tc : Thread Cert.MlpGradRefIdeal.nD Cert.MlpGradRefIdeal.τ).loc Cert.MlpGradRefIdeal.main_v155) = v5 c
          ∧ r.2.mem ((c.tc : Thread Cert.MlpGradRefIdeal.nD Cert.MlpGradRefIdeal.τ).loc Cert.MlpGradRefIdeal.main_v160) = v6 c
          ∧ r.2.mem ((c.tc : Thread Cert.MlpGradRefIdeal.nD Cert.MlpGradRefIdeal.τ).loc Cert.MlpGradRefIdeal.main_v161) = v7 c
          ∧ r.2.mem ((c.tc : Thread Cert.MlpGradRefIdeal.nD Cert.MlpGradRefIdeal.τ).loc Cert.MlpGradRefIdeal.main_v162) = v8 c
          ∧ r.2.mem ((c.tc : Thread Cert.MlpGradRefIdeal.nD Cert.MlpGradRefIdeal.τ).loc Cert.MlpGradRefIdeal.main_v163) = v9 c
          ∧ r.2.mem ((c.tc : Thread Cert.MlpGradRefIdeal.nD Cert.MlpGradRefIdeal.τ).loc Cert.MlpGradRefIdeal.main_arg0) = m' ((c.tc : Thread Cert.MlpGradRefIdeal.nD Cert.MlpGradRefIdeal.τ).loc Cert.MlpGradRefIdeal.main_arg0)
          ∧ r.2.mem ((c.tc : Thread Cert.MlpGradRefIdeal.nD Cert.MlpGradRefIdeal.τ).loc Cert.MlpGradRefIdeal.main_arg1) = m' ((c.tc : Thread Cert.MlpGradRefIdeal.nD Cert.MlpGradRefIdeal.τ).loc Cert.MlpGradRefIdeal.main_arg1)
          ∧ r.2.mem ((c.tc : Thread Cert.MlpGradRefIdeal.nD Cert.MlpGradRefIdeal.τ).loc Cert.MlpGradRefIdeal.main_arg2) = m' ((c.tc : Thread Cert.MlpGradRefIdeal.nD Cert.MlpGradRefIdeal.τ).loc Cert.MlpGradRefIdeal.main_arg2)
          ∧ r.2.mem ((c.tc : Thread Cert.MlpGradRefIdeal.nD Cert.MlpGradRefIdeal.τ).loc Cert.MlpGradRefIdeal.main_arg3) = m' ((c.tc : Thread Cert.MlpGradRefIdeal.nD Cert.MlpGradRefIdeal.τ).loc Cert.MlpGradRefIdeal.main_arg3)
          ∧ r.2.mem ((c.tc : Thread Cert.MlpGradRefIdeal.nD Cert.MlpGradRefIdeal.τ).loc Cert.MlpGradRefIdeal.main_arg4) = m' ((c.tc : Thread Cert.MlpGradRefIdeal.nD Cert.MlpGradRefIdeal.τ).loc Cert.MlpGradRefIdeal.main_arg4)
          ∧ r.2.mem ((c.tc : Thread Cert.MlpGradRefIdeal.nD Cert.MlpGradRefIdeal.τ).loc Cert.MlpGradRefIdeal.main_arg5) = m' ((c.tc : Thread Cert.MlpGradRefIdeal.nD Cert.MlpGradRefIdeal.τ).loc Cert.MlpGradRefIdeal.main_arg5)
          ∧ r.2.mem ((c.tc : Thread Cert.MlpGradRefIdeal.nD Cert.MlpGradRefIdeal.τ).loc Cert.MlpGradRefIdeal.main_arg6) = m' ((c.tc : Thread Cert.MlpGradRefIdeal.nD Cert.MlpGradRefIdeal.τ).loc Cert.MlpGradRefIdeal.main_arg6)
          ∧ r.2.mem ((c.tc : Thread Cert.MlpGradRefIdeal.nD Cert.MlpGradRefIdeal.τ).loc Cert.MlpGradRefIdeal.main_arg7) = m' ((c.tc : Thread Cert.MlpGradRefIdeal.nD Cert.MlpGradRefIdeal.τ).loc Cert.MlpGradRefIdeal.main_arg7)
          ∧ r.2.mem ((c.tc : Thread Cert.MlpGradRefIdeal.nD Cert.MlpGradRefIdeal.τ).loc Cert.MlpGradRefIdeal.main_arg8) = m' ((c.tc : Thread Cert.MlpGradRefIdeal.nD Cert.MlpGradRefIdeal.τ).loc Cert.MlpGradRefIdeal.main_arg8)
          ∧ r.2.mem ((c.tc : Thread Cert.MlpGradRefIdeal.nD Cert.MlpGradRefIdeal.τ).loc Cert.MlpGradRefIdeal.main_arg9) = m' ((c.tc : Thread Cert.MlpGradRefIdeal.nD Cert.MlpGradRefIdeal.τ).loc Cert.MlpGradRefIdeal.main_arg9)
          ∧ r.2.mem ((c.tc : Thread Cert.MlpGradRefIdeal.nD Cert.MlpGradRefIdeal.τ).loc Cert.MlpGradRefIdeal.main_arg10) = m' ((c.tc : Thread Cert.MlpGradRefIdeal.nD Cert.MlpGradRefIdeal.τ).loc Cert.MlpGradRefIdeal.main_arg10))

def preserves_WoFwd_WoFwdIdeal : Prop :=
  True

def algebraic_WoFwdIdeal_WoFwdRefIdeal [hWoFwdIdeal : Cert.WoFwdIdeal.Facts] [hWoFwdRefIdeal : Cert.WoFwdRefIdeal.Facts] : Prop :=
  ∀ (m : (ℓ : Loc Cert.WoFwdIdeal.nD Cert.WoFwdIdeal.τ Cert.WoFwdIdeal.sig) → Buf (Elt Ideal) ℓ) (g : Dev Cert.WoFwdIdeal.nD → PrngReg)
    (m' : (ℓ : Loc Cert.WoFwdRefIdeal.nD Cert.WoFwdRefIdeal.τ Cert.WoFwdRefIdeal.sig) → Buf (Elt Ideal) ℓ) (g' : Dev Cert.WoFwdRefIdeal.nD → PrngReg), Pre_WoFwdIdeal m →
    (∀ c : Dev Cert.WoFwdIdeal.nD,
      m' ((c.tc : Thread Cert.WoFwdRefIdeal.nD Cert.WoFwdRefIdeal.τ).loc Cert.WoFwdRefIdeal.main_arg0) = m ((c.tc : Thread Cert.WoFwdIdeal.nD Cert.WoFwdIdeal.τ).loc Cert.WoFwdIdeal.main_arg0)
      ∧ m' ((c.tc : Thread Cert.WoFwdRefIdeal.nD Cert.WoFwdRefIdeal.τ).loc Cert.WoFwdRefIdeal.main_arg1) = m ((c.tc : Thread Cert.WoFwdIdeal.nD Cert.WoFwdIdeal.τ).loc Cert.WoFwdIdeal.main_arg1)
      ∧ m' ((c.tc : Thread Cert.WoFwdRefIdeal.nD Cert.WoFwdRefIdeal.τ).loc Cert.WoFwdRefIdeal.main_arg2) = m ((c.tc : Thread Cert.WoFwdIdeal.nD Cert.WoFwdIdeal.τ).loc Cert.WoFwdIdeal.main_arg2)
      ∧ m' ((c.tc : Thread Cert.WoFwdRefIdeal.nD Cert.WoFwdRefIdeal.τ).loc Cert.WoFwdRefIdeal.main_arg3) = m ((c.tc : Thread Cert.WoFwdIdeal.nD Cert.WoFwdIdeal.τ).loc Cert.WoFwdIdeal.main_arg3)
      ∧ m' ((c.tc : Thread Cert.WoFwdRefIdeal.nD Cert.WoFwdRefIdeal.τ).loc Cert.WoFwdRefIdeal.main_arg4) = m ((c.tc : Thread Cert.WoFwdIdeal.nD Cert.WoFwdIdeal.τ).loc Cert.WoFwdIdeal.main_arg4)
      ∧ m' ((c.tc : Thread Cert.WoFwdRefIdeal.nD Cert.WoFwdRefIdeal.τ).loc Cert.WoFwdRefIdeal.main_arg5) = m ((c.tc : Thread Cert.WoFwdIdeal.nD Cert.WoFwdIdeal.τ).loc Cert.WoFwdIdeal.main_arg5)
      ∧ m' ((c.tc : Thread Cert.WoFwdRefIdeal.nD Cert.WoFwdRefIdeal.τ).loc Cert.WoFwdRefIdeal.main_arg6) = m ((c.tc : Thread Cert.WoFwdIdeal.nD Cert.WoFwdIdeal.τ).loc Cert.WoFwdIdeal.main_arg6)) →
    ∃ (v0 : (c : Dev Cert.WoFwdIdeal.nD) → Buf (Elt Ideal) ((c.tc : Thread Cert.WoFwdIdeal.nD Cert.WoFwdIdeal.τ).loc Cert.WoFwdIdeal.main_v6_0)) (v1 : (c : Dev Cert.WoFwdIdeal.nD) → Buf (Elt Ideal) ((c.tc : Thread Cert.WoFwdIdeal.nD Cert.WoFwdIdeal.τ).loc Cert.WoFwdIdeal.main_v6_1)) (v2 : (c : Dev Cert.WoFwdIdeal.nD) → Buf (Elt Ideal) ((c.tc : Thread Cert.WoFwdIdeal.nD Cert.WoFwdIdeal.τ).loc Cert.WoFwdIdeal.main_v6_2)),
      θ_run (Cert.WoFwdIdeal.defs (F := Ideal)) (onTc (τ := Cert.WoFwdIdeal.τ) (Cert.WoFwdIdeal.main (F := Ideal))) ⟨m, fun _ => 0, g⟩ (fun r => ∀ c : Dev Cert.WoFwdIdeal.nD,
          r.2.mem ((c.tc : Thread Cert.WoFwdIdeal.nD Cert.WoFwdIdeal.τ).loc Cert.WoFwdIdeal.main_v6_0) = v0 c
          ∧ r.2.mem ((c.tc : Thread Cert.WoFwdIdeal.nD Cert.WoFwdIdeal.τ).loc Cert.WoFwdIdeal.main_v6_1) = v1 c
          ∧ r.2.mem ((c.tc : Thread Cert.WoFwdIdeal.nD Cert.WoFwdIdeal.τ).loc Cert.WoFwdIdeal.main_v6_2) = v2 c
          ∧ r.2.mem ((c.tc : Thread Cert.WoFwdIdeal.nD Cert.WoFwdIdeal.τ).loc Cert.WoFwdIdeal.main_arg0) = m ((c.tc : Thread Cert.WoFwdIdeal.nD Cert.WoFwdIdeal.τ).loc Cert.WoFwdIdeal.main_arg0)
          ∧ r.2.mem ((c.tc : Thread Cert.WoFwdIdeal.nD Cert.WoFwdIdeal.τ).loc Cert.WoFwdIdeal.main_arg1) = m ((c.tc : Thread Cert.WoFwdIdeal.nD Cert.WoFwdIdeal.τ).loc Cert.WoFwdIdeal.main_arg1)
          ∧ r.2.mem ((c.tc : Thread Cert.WoFwdIdeal.nD Cert.WoFwdIdeal.τ).loc Cert.WoFwdIdeal.main_arg2) = m ((c.tc : Thread Cert.WoFwdIdeal.nD Cert.WoFwdIdeal.τ).loc Cert.WoFwdIdeal.main_arg2)
          ∧ r.2.mem ((c.tc : Thread Cert.WoFwdIdeal.nD Cert.WoFwdIdeal.τ).loc Cert.WoFwdIdeal.main_arg3) = m ((c.tc : Thread Cert.WoFwdIdeal.nD Cert.WoFwdIdeal.τ).loc Cert.WoFwdIdeal.main_arg3)
          ∧ r.2.mem ((c.tc : Thread Cert.WoFwdIdeal.nD Cert.WoFwdIdeal.τ).loc Cert.WoFwdIdeal.main_arg4) = m ((c.tc : Thread Cert.WoFwdIdeal.nD Cert.WoFwdIdeal.τ).loc Cert.WoFwdIdeal.main_arg4)
          ∧ r.2.mem ((c.tc : Thread Cert.WoFwdIdeal.nD Cert.WoFwdIdeal.τ).loc Cert.WoFwdIdeal.main_arg5) = m ((c.tc : Thread Cert.WoFwdIdeal.nD Cert.WoFwdIdeal.τ).loc Cert.WoFwdIdeal.main_arg5)
          ∧ r.2.mem ((c.tc : Thread Cert.WoFwdIdeal.nD Cert.WoFwdIdeal.τ).loc Cert.WoFwdIdeal.main_arg6) = m ((c.tc : Thread Cert.WoFwdIdeal.nD Cert.WoFwdIdeal.τ).loc Cert.WoFwdIdeal.main_arg6))
      ∧ θ_run (Cert.WoFwdRefIdeal.defs (F := Ideal)) (onTc (τ := Cert.WoFwdRefIdeal.τ) (Cert.WoFwdRefIdeal.main (F := Ideal))) ⟨m', fun _ => 0, g'⟩ (fun r => ∀ c : Dev Cert.WoFwdRefIdeal.nD,
          r.2.mem ((c.tc : Thread Cert.WoFwdRefIdeal.nD Cert.WoFwdRefIdeal.τ).loc Cert.WoFwdRefIdeal.main_v22) = v0 c
          ∧ r.2.mem ((c.tc : Thread Cert.WoFwdRefIdeal.nD Cert.WoFwdRefIdeal.τ).loc Cert.WoFwdRefIdeal.main_v18) = v1 c
          ∧ r.2.mem ((c.tc : Thread Cert.WoFwdRefIdeal.nD Cert.WoFwdRefIdeal.τ).loc Cert.WoFwdRefIdeal.main_v29) = v2 c
          ∧ r.2.mem ((c.tc : Thread Cert.WoFwdRefIdeal.nD Cert.WoFwdRefIdeal.τ).loc Cert.WoFwdRefIdeal.main_arg0) = m' ((c.tc : Thread Cert.WoFwdRefIdeal.nD Cert.WoFwdRefIdeal.τ).loc Cert.WoFwdRefIdeal.main_arg0)
          ∧ r.2.mem ((c.tc : Thread Cert.WoFwdRefIdeal.nD Cert.WoFwdRefIdeal.τ).loc Cert.WoFwdRefIdeal.main_arg1) = m' ((c.tc : Thread Cert.WoFwdRefIdeal.nD Cert.WoFwdRefIdeal.τ).loc Cert.WoFwdRefIdeal.main_arg1)
          ∧ r.2.mem ((c.tc : Thread Cert.WoFwdRefIdeal.nD Cert.WoFwdRefIdeal.τ).loc Cert.WoFwdRefIdeal.main_arg2) = m' ((c.tc : Thread Cert.WoFwdRefIdeal.nD Cert.WoFwdRefIdeal.τ).loc Cert.WoFwdRefIdeal.main_arg2)
          ∧ r.2.mem ((c.tc : Thread Cert.WoFwdRefIdeal.nD Cert.WoFwdRefIdeal.τ).loc Cert.WoFwdRefIdeal.main_arg3) = m' ((c.tc : Thread Cert.WoFwdRefIdeal.nD Cert.WoFwdRefIdeal.τ).loc Cert.WoFwdRefIdeal.main_arg3)
          ∧ r.2.mem ((c.tc : Thread Cert.WoFwdRefIdeal.nD Cert.WoFwdRefIdeal.τ).loc Cert.WoFwdRefIdeal.main_arg4) = m' ((c.tc : Thread Cert.WoFwdRefIdeal.nD Cert.WoFwdRefIdeal.τ).loc Cert.WoFwdRefIdeal.main_arg4)
          ∧ r.2.mem ((c.tc : Thread Cert.WoFwdRefIdeal.nD Cert.WoFwdRefIdeal.τ).loc Cert.WoFwdRefIdeal.main_arg5) = m' ((c.tc : Thread Cert.WoFwdRefIdeal.nD Cert.WoFwdRefIdeal.τ).loc Cert.WoFwdRefIdeal.main_arg5)
          ∧ r.2.mem ((c.tc : Thread Cert.WoFwdRefIdeal.nD Cert.WoFwdRefIdeal.τ).loc Cert.WoFwdRefIdeal.main_arg6) = m' ((c.tc : Thread Cert.WoFwdRefIdeal.nD Cert.WoFwdRefIdeal.τ).loc Cert.WoFwdRefIdeal.main_arg6))

def preserves_MlpFwd_MlpFwdIdeal : Prop :=
  True

def algebraic_MlpFwdIdeal_MlpFwdRefIdeal [hMlpFwdIdeal : Cert.MlpFwdIdeal.Facts] [hMlpFwdRefIdeal : Cert.MlpFwdRefIdeal.Facts] : Prop :=
  ∀ (m : (ℓ : Loc Cert.MlpFwdIdeal.nD Cert.MlpFwdIdeal.τ Cert.MlpFwdIdeal.sig) → Buf (Elt Ideal) ℓ) (g : Dev Cert.MlpFwdIdeal.nD → PrngReg)
    (m' : (ℓ : Loc Cert.MlpFwdRefIdeal.nD Cert.MlpFwdRefIdeal.τ Cert.MlpFwdRefIdeal.sig) → Buf (Elt Ideal) ℓ) (g' : Dev Cert.MlpFwdRefIdeal.nD → PrngReg), Pre_MlpFwdIdeal m →
    (∀ c : Dev Cert.MlpFwdIdeal.nD,
      m' ((c.tc : Thread Cert.MlpFwdRefIdeal.nD Cert.MlpFwdRefIdeal.τ).loc Cert.MlpFwdRefIdeal.main_arg0) = m ((c.tc : Thread Cert.MlpFwdIdeal.nD Cert.MlpFwdIdeal.τ).loc Cert.MlpFwdIdeal.main_arg0)
      ∧ m' ((c.tc : Thread Cert.MlpFwdRefIdeal.nD Cert.MlpFwdRefIdeal.τ).loc Cert.MlpFwdRefIdeal.main_arg1) = m ((c.tc : Thread Cert.MlpFwdIdeal.nD Cert.MlpFwdIdeal.τ).loc Cert.MlpFwdIdeal.main_arg1)
      ∧ m' ((c.tc : Thread Cert.MlpFwdRefIdeal.nD Cert.MlpFwdRefIdeal.τ).loc Cert.MlpFwdRefIdeal.main_arg2) = m ((c.tc : Thread Cert.MlpFwdIdeal.nD Cert.MlpFwdIdeal.τ).loc Cert.MlpFwdIdeal.main_arg2)
      ∧ m' ((c.tc : Thread Cert.MlpFwdRefIdeal.nD Cert.MlpFwdRefIdeal.τ).loc Cert.MlpFwdRefIdeal.main_arg3) = m ((c.tc : Thread Cert.MlpFwdIdeal.nD Cert.MlpFwdIdeal.τ).loc Cert.MlpFwdIdeal.main_arg3)
      ∧ m' ((c.tc : Thread Cert.MlpFwdRefIdeal.nD Cert.MlpFwdRefIdeal.τ).loc Cert.MlpFwdRefIdeal.main_arg4) = m ((c.tc : Thread Cert.MlpFwdIdeal.nD Cert.MlpFwdIdeal.τ).loc Cert.MlpFwdIdeal.main_arg4)
      ∧ m' ((c.tc : Thread Cert.MlpFwdRefIdeal.nD Cert.MlpFwdRefIdeal.τ).loc Cert.MlpFwdRefIdeal.main_arg5) = m ((c.tc : Thread Cert.MlpFwdIdeal.nD Cert.MlpFwdIdeal.τ).loc Cert.MlpFwdIdeal.main_arg5)
      ∧ m' ((c.tc : Thread Cert.MlpFwdRefIdeal.nD Cert.MlpFwdRefIdeal.τ).loc Cert.MlpFwdRefIdeal.main_arg6) = m ((c.tc : Thread Cert.MlpFwdIdeal.nD Cert.MlpFwdIdeal.τ).loc Cert.MlpFwdIdeal.main_arg6)
      ∧ m' ((c.tc : Thread Cert.MlpFwdRefIdeal.nD Cert.MlpFwdRefIdeal.τ).loc Cert.MlpFwdRefIdeal.main_arg7) = m ((c.tc : Thread Cert.MlpFwdIdeal.nD Cert.MlpFwdIdeal.τ).loc Cert.MlpFwdIdeal.main_arg7)) →
    ∃ (v0 : (c : Dev Cert.MlpFwdIdeal.nD) → Buf (Elt Ideal) ((c.tc : Thread Cert.MlpFwdIdeal.nD Cert.MlpFwdIdeal.τ).loc Cert.MlpFwdIdeal.main_v24_0)) (v1 : (c : Dev Cert.MlpFwdIdeal.nD) → Buf (Elt Ideal) ((c.tc : Thread Cert.MlpFwdIdeal.nD Cert.MlpFwdIdeal.τ).loc Cert.MlpFwdIdeal.main_v24_1)) (v2 : (c : Dev Cert.MlpFwdIdeal.nD) → Buf (Elt Ideal) ((c.tc : Thread Cert.MlpFwdIdeal.nD Cert.MlpFwdIdeal.τ).loc Cert.MlpFwdIdeal.main_v24_2)) (v3 : (c : Dev Cert.MlpFwdIdeal.nD) → Buf (Elt Ideal) ((c.tc : Thread Cert.MlpFwdIdeal.nD Cert.MlpFwdIdeal.τ).loc Cert.MlpFwdIdeal.main_v24_3)),
      θ_run (Cert.MlpFwdIdeal.defs (F := Ideal)) (onTc (τ := Cert.MlpFwdIdeal.τ) (Cert.MlpFwdIdeal.main (F := Ideal))) ⟨m, fun _ => 0, g⟩ (fun r => ∀ c : Dev Cert.MlpFwdIdeal.nD,
          r.2.mem ((c.tc : Thread Cert.MlpFwdIdeal.nD Cert.MlpFwdIdeal.τ).loc Cert.MlpFwdIdeal.main_v24_0) = v0 c
          ∧ r.2.mem ((c.tc : Thread Cert.MlpFwdIdeal.nD Cert.MlpFwdIdeal.τ).loc Cert.MlpFwdIdeal.main_v24_1) = v1 c
          ∧ r.2.mem ((c.tc : Thread Cert.MlpFwdIdeal.nD Cert.MlpFwdIdeal.τ).loc Cert.MlpFwdIdeal.main_v24_2) = v2 c
          ∧ r.2.mem ((c.tc : Thread Cert.MlpFwdIdeal.nD Cert.MlpFwdIdeal.τ).loc Cert.MlpFwdIdeal.main_v24_3) = v3 c
          ∧ r.2.mem ((c.tc : Thread Cert.MlpFwdIdeal.nD Cert.MlpFwdIdeal.τ).loc Cert.MlpFwdIdeal.main_arg0) = m ((c.tc : Thread Cert.MlpFwdIdeal.nD Cert.MlpFwdIdeal.τ).loc Cert.MlpFwdIdeal.main_arg0)
          ∧ r.2.mem ((c.tc : Thread Cert.MlpFwdIdeal.nD Cert.MlpFwdIdeal.τ).loc Cert.MlpFwdIdeal.main_arg1) = m ((c.tc : Thread Cert.MlpFwdIdeal.nD Cert.MlpFwdIdeal.τ).loc Cert.MlpFwdIdeal.main_arg1)
          ∧ r.2.mem ((c.tc : Thread Cert.MlpFwdIdeal.nD Cert.MlpFwdIdeal.τ).loc Cert.MlpFwdIdeal.main_arg2) = m ((c.tc : Thread Cert.MlpFwdIdeal.nD Cert.MlpFwdIdeal.τ).loc Cert.MlpFwdIdeal.main_arg2)
          ∧ r.2.mem ((c.tc : Thread Cert.MlpFwdIdeal.nD Cert.MlpFwdIdeal.τ).loc Cert.MlpFwdIdeal.main_arg3) = m ((c.tc : Thread Cert.MlpFwdIdeal.nD Cert.MlpFwdIdeal.τ).loc Cert.MlpFwdIdeal.main_arg3)
          ∧ r.2.mem ((c.tc : Thread Cert.MlpFwdIdeal.nD Cert.MlpFwdIdeal.τ).loc Cert.MlpFwdIdeal.main_arg4) = m ((c.tc : Thread Cert.MlpFwdIdeal.nD Cert.MlpFwdIdeal.τ).loc Cert.MlpFwdIdeal.main_arg4)
          ∧ r.2.mem ((c.tc : Thread Cert.MlpFwdIdeal.nD Cert.MlpFwdIdeal.τ).loc Cert.MlpFwdIdeal.main_arg5) = m ((c.tc : Thread Cert.MlpFwdIdeal.nD Cert.MlpFwdIdeal.τ).loc Cert.MlpFwdIdeal.main_arg5)
          ∧ r.2.mem ((c.tc : Thread Cert.MlpFwdIdeal.nD Cert.MlpFwdIdeal.τ).loc Cert.MlpFwdIdeal.main_arg6) = m ((c.tc : Thread Cert.MlpFwdIdeal.nD Cert.MlpFwdIdeal.τ).loc Cert.MlpFwdIdeal.main_arg6)
          ∧ r.2.mem ((c.tc : Thread Cert.MlpFwdIdeal.nD Cert.MlpFwdIdeal.τ).loc Cert.MlpFwdIdeal.main_arg7) = m ((c.tc : Thread Cert.MlpFwdIdeal.nD Cert.MlpFwdIdeal.τ).loc Cert.MlpFwdIdeal.main_arg7))
      ∧ θ_run (Cert.MlpFwdRefIdeal.defs (F := Ideal)) (onTc (τ := Cert.MlpFwdRefIdeal.τ) (Cert.MlpFwdRefIdeal.main (F := Ideal))) ⟨m', fun _ => 0, g'⟩ (fun r => ∀ c : Dev Cert.MlpFwdRefIdeal.nD,
          r.2.mem ((c.tc : Thread Cert.MlpFwdRefIdeal.nD Cert.MlpFwdRefIdeal.τ).loc Cert.MlpFwdRefIdeal.main_v24) = v0 c
          ∧ r.2.mem ((c.tc : Thread Cert.MlpFwdRefIdeal.nD Cert.MlpFwdRefIdeal.τ).loc Cert.MlpFwdRefIdeal.main_v50) = v1 c
          ∧ r.2.mem ((c.tc : Thread Cert.MlpFwdRefIdeal.nD Cert.MlpFwdRefIdeal.τ).loc Cert.MlpFwdRefIdeal.main_v46) = v2 c
          ∧ r.2.mem ((c.tc : Thread Cert.MlpFwdRefIdeal.nD Cert.MlpFwdRefIdeal.τ).loc Cert.MlpFwdRefIdeal.main_v56) = v3 c
          ∧ r.2.mem ((c.tc : Thread Cert.MlpFwdRefIdeal.nD Cert.MlpFwdRefIdeal.τ).loc Cert.MlpFwdRefIdeal.main_arg0) = m' ((c.tc : Thread Cert.MlpFwdRefIdeal.nD Cert.MlpFwdRefIdeal.τ).loc Cert.MlpFwdRefIdeal.main_arg0)
          ∧ r.2.mem ((c.tc : Thread Cert.MlpFwdRefIdeal.nD Cert.MlpFwdRefIdeal.τ).loc Cert.MlpFwdRefIdeal.main_arg1) = m' ((c.tc : Thread Cert.MlpFwdRefIdeal.nD Cert.MlpFwdRefIdeal.τ).loc Cert.MlpFwdRefIdeal.main_arg1)
          ∧ r.2.mem ((c.tc : Thread Cert.MlpFwdRefIdeal.nD Cert.MlpFwdRefIdeal.τ).loc Cert.MlpFwdRefIdeal.main_arg2) = m' ((c.tc : Thread Cert.MlpFwdRefIdeal.nD Cert.MlpFwdRefIdeal.τ).loc Cert.MlpFwdRefIdeal.main_arg2)
          ∧ r.2.mem ((c.tc : Thread Cert.MlpFwdRefIdeal.nD Cert.MlpFwdRefIdeal.τ).loc Cert.MlpFwdRefIdeal.main_arg3) = m' ((c.tc : Thread Cert.MlpFwdRefIdeal.nD Cert.MlpFwdRefIdeal.τ).loc Cert.MlpFwdRefIdeal.main_arg3)
          ∧ r.2.mem ((c.tc : Thread Cert.MlpFwdRefIdeal.nD Cert.MlpFwdRefIdeal.τ).loc Cert.MlpFwdRefIdeal.main_arg4) = m' ((c.tc : Thread Cert.MlpFwdRefIdeal.nD Cert.MlpFwdRefIdeal.τ).loc Cert.MlpFwdRefIdeal.main_arg4)
          ∧ r.2.mem ((c.tc : Thread Cert.MlpFwdRefIdeal.nD Cert.MlpFwdRefIdeal.τ).loc Cert.MlpFwdRefIdeal.main_arg5) = m' ((c.tc : Thread Cert.MlpFwdRefIdeal.nD Cert.MlpFwdRefIdeal.τ).loc Cert.MlpFwdRefIdeal.main_arg5)
          ∧ r.2.mem ((c.tc : Thread Cert.MlpFwdRefIdeal.nD Cert.MlpFwdRefIdeal.τ).loc Cert.MlpFwdRefIdeal.main_arg6) = m' ((c.tc : Thread Cert.MlpFwdRefIdeal.nD Cert.MlpFwdRefIdeal.τ).loc Cert.MlpFwdRefIdeal.main_arg6)
          ∧ r.2.mem ((c.tc : Thread Cert.MlpFwdRefIdeal.nD Cert.MlpFwdRefIdeal.τ).loc Cert.MlpFwdRefIdeal.main_arg7) = m' ((c.tc : Thread Cert.MlpFwdRefIdeal.nD Cert.MlpFwdRefIdeal.τ).loc Cert.MlpFwdRefIdeal.main_arg7))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)) →
    ∃ (v0 : (c : Dev Cert.ConvFwdIdeal.nD) → Buf (Elt Ideal) ((c.tc : Thread Cert.ConvFwdIdeal.nD Cert.ConvFwdIdeal.τ).loc Cert.ConvFwdIdeal.main_v0)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v0) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v31) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1))

def preserves_PoolFwd_PoolFwdIdeal : Prop :=
  True

def algebraic_PoolFwdIdeal_PoolFwdRefIdeal_pre_pool_fwd_finite [hPoolFwdIdeal : Cert.PoolFwdIdeal.Facts] [hPoolFwdRefIdeal : Cert.PoolFwdRefIdeal.Facts] [hPre_pool_fwd_finite : Cert.Pre_pool_fwd_finite.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg)
    (m' : (ℓ : Loc Cert.PoolFwdRefIdeal.nD Cert.PoolFwdRefIdeal.τ Cert.PoolFwdRefIdeal.sig) → Buf (Elt Ideal) ℓ) (g' : Dev Cert.PoolFwdRefIdeal.nD → PrngReg), Pre_PoolFwdIdeal_pool_fwd_finite m →
    (∀ c : Dev Cert.PoolFwdIdeal.nD,
      m' ((c.tc : Thread Cert.PoolFwdRefIdeal.nD Cert.PoolFwdRefIdeal.τ).loc Cert.PoolFwdRefIdeal.main_arg0) = m ((c.tc : Thread Cert.PoolFwdIdeal.nD Cert.PoolFwdIdeal.τ).loc Cert.PoolFwdIdeal.main_arg0)
      ∧ m' ((c.tc : Thread Cert.PoolFwdRefIdeal.nD Cert.PoolFwdRefIdeal.τ).loc Cert.PoolFwdRefIdeal.main_arg1) = m ((c.tc : Thread Cert.PoolFwdIdeal.nD Cert.PoolFwdIdeal.τ).loc Cert.PoolFwdIdeal.main_arg1)
      ∧ m' ((c.tc : Thread Cert.PoolFwdRefIdeal.nD Cert.PoolFwdRefIdeal.τ).loc Cert.PoolFwdRefIdeal.main_arg2) = m ((c.tc : Thread Cert.PoolFwdIdeal.nD Cert.PoolFwdIdeal.τ).loc Cert.PoolFwdIdeal.main_arg2)) →
    ∃ (v0 : (c : Dev Cert.PoolFwdIdeal.nD) → Buf (Elt Ideal) ((c.tc : Thread Cert.PoolFwdIdeal.nD Cert.PoolFwdIdeal.τ).loc Cert.PoolFwdIdeal.main_v1)),
      θ_run (Cert.PoolFwdIdeal.defs (F := Ideal)) (onTc (τ := Cert.PoolFwdIdeal.τ) (Cert.PoolFwdIdeal.main (F := Ideal))) ⟨m, fun _ => 0, g⟩ (fun r => ∀ c : Dev Cert.PoolFwdIdeal.nD,
          r.2.mem ((c.tc : Thread Cert.PoolFwdIdeal.nD Cert.PoolFwdIdeal.τ).loc Cert.PoolFwdIdeal.main_v1) = v0 c
          ∧ r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
          ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
          ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ θ_run (Cert.PoolFwdRefIdeal.defs (F := Ideal)) (onTc (τ := Cert.PoolFwdRefIdeal.τ) (Cert.PoolFwdRefIdeal.main (F := Ideal))) ⟨m', fun _ => 0, g'⟩ (fun r => ∀ c : Dev Cert.PoolFwdRefIdeal.nD,
          r.2.mem ((c.tc : Thread Cert.PoolFwdRefIdeal.nD Cert.PoolFwdRefIdeal.τ).loc Cert.PoolFwdRefIdeal.main_v68) = v0 c
          ∧ r.2.mem ((c.tc : Thread Cert.PoolFwdRefIdeal.nD Cert.PoolFwdRefIdeal.τ).loc Cert.PoolFwdRefIdeal.main_arg0) = m' ((c.tc : Thread Cert.PoolFwdRefIdeal.nD Cert.PoolFwdRefIdeal.τ).loc Cert.PoolFwdRefIdeal.main_arg0)
          ∧ r.2.mem ((c.tc : Thread Cert.PoolFwdRefIdeal.nD Cert.PoolFwdRefIdeal.τ).loc Cert.PoolFwdRefIdeal.main_arg1) = m' ((c.tc : Thread Cert.PoolFwdRefIdeal.nD Cert.PoolFwdRefIdeal.τ).loc Cert.PoolFwdRefIdeal.main_arg1)
          ∧ r.2.mem ((c.tc : Thread Cert.PoolFwdRefIdeal.nD Cert.PoolFwdRefIdeal.τ).loc Cert.PoolFwdRefIdeal.main_arg2) = m' ((c.tc : Thread Cert.PoolFwdRefIdeal.nD Cert.PoolFwdRefIdeal.τ).loc Cert.PoolFwdRefIdeal.main_arg2))

def Claim : Prop :=
  ∃ (hLossGrad : Cert.LossGrad.Facts) (hLossGradIdeal : Cert.LossGradIdeal.Facts) (hLossGradRefIdeal : Cert.LossGradRefIdeal.Facts) (hConvGrad : Cert.ConvGrad.Facts) (hConvGradIdeal : Cert.ConvGradIdeal.Facts) (hConvGradRefIdeal : Cert.ConvGradRefIdeal.Facts) (hPoolGrad : Cert.PoolGrad.Facts) (hPoolGradIdeal : Cert.PoolGradIdeal.Facts) (hPoolGradRefIdeal : Cert.PoolGradRefIdeal.Facts) (hSguGrad : Cert.SguGrad.Facts) (hSguGradIdeal : Cert.SguGradIdeal.Facts) (hSguGradRefIdeal : Cert.SguGradRefIdeal.Facts) (hMlpGrad : Cert.MlpGrad.Facts) (hMlpGradIdeal : Cert.MlpGradIdeal.Facts) (hMlpGradRefIdeal : Cert.MlpGradRefIdeal.Facts) (hWoFwd : Cert.WoFwd.Facts) (hWoFwdIdeal : Cert.WoFwdIdeal.Facts) (hWoFwdRefIdeal : Cert.WoFwdRefIdeal.Facts) (hMlpFwd : Cert.MlpFwd.Facts) (hMlpFwdIdeal : Cert.MlpFwdIdeal.Facts) (hMlpFwdRefIdeal : Cert.MlpFwdRefIdeal.Facts) (hConvFwd : Cert.ConvFwd.Facts) (hConvFwdIdeal : Cert.ConvFwdIdeal.Facts) (hConvFwdRefIdeal : Cert.ConvFwdRefIdeal.Facts) (hPoolFwd : Cert.PoolFwd.Facts) (hPoolFwdIdeal : Cert.PoolFwdIdeal.Facts) (hPoolFwdRefIdeal : Cert.PoolFwdRefIdeal.Facts) (hPre_pool_finite : Cert.Pre_pool_finite.Facts) (hPre_sgu_finite : Cert.Pre_sgu_finite.Facts) (hPre_mlp_finite : Cert.Pre_mlp_finite.Facts) (hPre_pool_fwd_finite : Cert.Pre_pool_fwd_finite.Facts),
    quiescent_LossGrad (hLossGrad := hLossGrad)
    ∧ quiescent_LossGradIdeal (hLossGradIdeal := hLossGradIdeal)
    ∧ quiescent_LossGradRefIdeal (hLossGradRefIdeal := hLossGradRefIdeal)
    ∧ quiescent_ConvGrad (hConvGrad := hConvGrad)
    ∧ quiescent_ConvGradIdeal (hConvGradIdeal := hConvGradIdeal)
    ∧ quiescent_ConvGradRefIdeal (hConvGradRefIdeal := hConvGradRefIdeal)
    ∧ quiescent_PoolGrad (hPoolGrad := hPoolGrad)
    ∧ quiescent_PoolGradIdeal (hPoolGradIdeal := hPoolGradIdeal)
    ∧ quiescent_PoolGradIdeal_pre_pool_finite (hPoolGradIdeal := hPoolGradIdeal) (hPre_pool_finite := hPre_pool_finite)
    ∧ quiescent_PoolGradRefIdeal (hPoolGradRefIdeal := hPoolGradRefIdeal)
    ∧ quiescent_PoolGradRefIdeal_pre_pool_finite (hPoolGradRefIdeal := hPoolGradRefIdeal) (hPre_pool_finite := hPre_pool_finite)
    ∧ quiescent_SguGrad (hSguGrad := hSguGrad)
    ∧ quiescent_SguGradIdeal (hSguGradIdeal := hSguGradIdeal)
    ∧ quiescent_SguGradIdeal_pre_sgu_finite (hSguGradIdeal := hSguGradIdeal) (hPre_sgu_finite := hPre_sgu_finite)
    ∧ quiescent_SguGradRefIdeal (hSguGradRefIdeal := hSguGradRefIdeal)
    ∧ quiescent_SguGradRefIdeal_pre_sgu_finite (hSguGradRefIdeal := hSguGradRefIdeal) (hPre_sgu_finite := hPre_sgu_finite)
    ∧ quiescent_MlpGrad (hMlpGrad := hMlpGrad)
    ∧ quiescent_MlpGradIdeal (hMlpGradIdeal := hMlpGradIdeal)
    ∧ quiescent_MlpGradIdeal_pre_mlp_finite (hMlpGradIdeal := hMlpGradIdeal) (hPre_mlp_finite := hPre_mlp_finite)
    ∧ quiescent_MlpGradRefIdeal (hMlpGradRefIdeal := hMlpGradRefIdeal)
    ∧ quiescent_MlpGradRefIdeal_pre_mlp_finite (hMlpGradRefIdeal := hMlpGradRefIdeal) (hPre_mlp_finite := hPre_mlp_finite)
    ∧ quiescent_WoFwd (hWoFwd := hWoFwd)
    ∧ quiescent_WoFwdIdeal (hWoFwdIdeal := hWoFwdIdeal)
    ∧ quiescent_WoFwdRefIdeal (hWoFwdRefIdeal := hWoFwdRefIdeal)
    ∧ quiescent_MlpFwd (hMlpFwd := hMlpFwd)
    ∧ quiescent_MlpFwdIdeal (hMlpFwdIdeal := hMlpFwdIdeal)
    ∧ quiescent_MlpFwdRefIdeal (hMlpFwdRefIdeal := hMlpFwdRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_PoolFwd (hPoolFwd := hPoolFwd)
    ∧ quiescent_PoolFwdIdeal (hPoolFwdIdeal := hPoolFwdIdeal)
    ∧ quiescent_PoolFwdIdeal_pre_pool_fwd_finite (hPoolFwdIdeal := hPoolFwdIdeal) (hPre_pool_fwd_finite := hPre_pool_fwd_finite)
    ∧ quiescent_PoolFwdRefIdeal (hPoolFwdRefIdeal := hPoolFwdRefIdeal)
    ∧ quiescent_PoolFwdRefIdeal_pre_pool_fwd_finite (hPoolFwdRefIdeal := hPoolFwdRefIdeal) (hPre_pool_fwd_finite := hPre_pool_fwd_finite)
    ∧ preserves_LossGrad_LossGradIdeal
    ∧ algebraic_LossGradIdeal_LossGradRefIdeal (hLossGradIdeal := hLossGradIdeal) (hLossGradRefIdeal := hLossGradRefIdeal)
    ∧ preserves_ConvGrad_ConvGradIdeal
    ∧ algebraic_ConvGradIdeal_ConvGradRefIdeal (hConvGradIdeal := hConvGradIdeal) (hConvGradRefIdeal := hConvGradRefIdeal)
    ∧ preserves_PoolGrad_PoolGradIdeal
    ∧ algebraic_PoolGradIdeal_PoolGradRefIdeal_pre_pool_finite (hPoolGradIdeal := hPoolGradIdeal) (hPoolGradRefIdeal := hPoolGradRefIdeal) (hPre_pool_finite := hPre_pool_finite)
    ∧ preserves_SguGrad_SguGradIdeal
    ∧ algebraic_SguGradIdeal_SguGradRefIdeal_pre_sgu_finite (hSguGradIdeal := hSguGradIdeal) (hSguGradRefIdeal := hSguGradRefIdeal) (hPre_sgu_finite := hPre_sgu_finite)
    ∧ preserves_MlpGrad_MlpGradIdeal
    ∧ algebraic_MlpGradIdeal_MlpGradRefIdeal_pre_mlp_finite (hMlpGradIdeal := hMlpGradIdeal) (hMlpGradRefIdeal := hMlpGradRefIdeal) (hPre_mlp_finite := hPre_mlp_finite)
    ∧ preserves_WoFwd_WoFwdIdeal
    ∧ algebraic_WoFwdIdeal_WoFwdRefIdeal (hWoFwdIdeal := hWoFwdIdeal) (hWoFwdRefIdeal := hWoFwdRefIdeal)
    ∧ preserves_MlpFwd_MlpFwdIdeal
    ∧ algebraic_MlpFwdIdeal_MlpFwdRefIdeal (hMlpFwdIdeal := hMlpFwdIdeal) (hMlpFwdRefIdeal := hMlpFwdRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_PoolFwd_PoolFwdIdeal
    ∧ algebraic_PoolFwdIdeal_PoolFwdRefIdeal_pre_pool_fwd_finite (hPoolFwdIdeal := hPoolFwdIdeal) (hPoolFwdRefIdeal := hPoolFwdRefIdeal) (hPre_pool_fwd_finite := hPre_pool_fwd_finite)
-- ==== Pre_mlp_finite.lean ====
abbrev S2048x1024 : Shape := ⟨2, ![2048, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S_ : Shape := ⟨0, ![]⟩

class Facts : Prop where
  bcast_S_S2048x1024 : S_.BroadcastsInDim S2048x1024 (![] : Fin 0 → Fin S2048x1024.rank)
  bcast_S_S1024x1024 : S_.BroadcastsInDim S1024x1024 (![] : Fin 0 → Fin S1024x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn_part1 {F : FTy → Type} [FloatOps F] (main_arg6 : FVec F S2816x1024 .f32) (main_arg7 : FVec F S1024 .f32) (main_arg9 : FVec F S2048x1024 .f32) (main_v2 : IVec S2048x1024 1) (main_v5 : IVec S2048x1024 1) (main_v8 : IVec S1024x1024 1) (main_v11 : IVec S1024 1) (main_v14 : IVec S1024 1) (main_v17 : IVec S1024x5632 1) : IVec S2048x1024 1 × IVec S2048x1024 1 × IVec S1024x1024 1 × IVec S1024 1 × IVec S1024 1 × IVec S1024x5632 1 × IVec S2816x1024 1 × IVec S1024 1 × IVec S2048x1024 1 :=
  let main_v18 : FVec F S2816x1024 .f32 := Host.absf main_arg6
  let main_cst_5 : FVec F S_ .f32 := constant S_ .f32 0x7F800000#32
  let main_v19 : FVec F S2816x1024 .f32 := broadcastInDim S2816x1024 ![] bcast_S_S2816x1024 main_cst_5
  let main_v20 : IVec S2816x1024 1 := cmpf .olt main_v18 main_v19
  let main_v21 : FVec F S1024 .f32 := Host.absf main_arg7
  let main_cst_6 : FVec F S_ .f32 := constant S_ .f32 0x7F800000#32
  let main_v22 : FVec F S1024 .f32 := broadcastInDim S1024 ![] bcast_S_S1024 main_cst_6
  let main_v23 : IVec S1024 1 := cmpf .olt main_v21 main_v22
  let main_v24 : FVec F S2048x1024 .f32 := Host.absf main_arg9
  let main_cst_7 : FVec F S_ .f32 := constant S_ .f32 0x7F800000#32
  let main_v25 : FVec F S2048x1024 .f32 := broadcastInDim S2048x1024 ![] bcast_S_S2048x1024 main_cst_7
  let main_v26 : IVec S2048x1024 1 := cmpf .olt main_v24 main_v25
  (main_v2, main_v5, main_v8, main_v11, main_v14, main_v17, main_v20, main_v23, main_v26)

def fn {F : FTy → Type} [FloatOps F] (main_arg0 : FVec F S2048x1024 .f32) (main_arg1 : FVec F S2048x1024 .f32) (main_arg2 : FVec F S1024x1024 .f32) (main_arg3 : FVec F S1024 .f32) (main_arg4 : FVec F S1024 .f32) (main_arg5 : FVec F S1024x5632 .f32) (main_arg6 : FVec F S2816x1024 .f32) (main_arg7 : FVec F S1024 .f32) (main_arg8 : FVec F S1024 .f32) (main_arg9 : FVec F S2048x1024 .f32) (main_arg10 : FVec F S1x1024 .f32) : IVec S2048x1024 1 × IVec S2048x1024 1 × IVec S1024x1024 1 × IVec S1024 1 × IVec S1024 1 × IVec S1024x5632 1 × IVec S2816x1024 1 × IVec S1024 1 × IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S1024x1024 .f32 := Host.absf main_arg2
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S1024x5632 .f32 := Host.absf main_arg5
  let main_cst_4 : FVec F S_ .f32 := constant S_ .f32 0x7F800000#32
  let main_v16 : FVec F S1024x5632 .f32 := broadcastInDim S1024x5632 ![] bcast_S_S1024x5632 main_cst_4
  let main_v17 : IVec S1024x5632 1 := cmpf .olt main_v15 main_v16
  fn_part1 (F := F) main_arg6 main_arg7 main_arg9 main_v2 main_v5 main_v8 main_v11 main_v14 main_v17
-- ==== Pre_pool_finite.lean ====
abbrev S2048x2176 : Shape := ⟨2, ![2048, 2176]⟩
abbrev S2048x1024 : Shape := ⟨2, ![2048, 1024]⟩
abbrev S4x64x64 : Shape := ⟨3, ![4, 64, 64]⟩
abbrev S256 : Shape := ⟨1, ![256]⟩
abbrev S_ : Shape := ⟨0, ![]⟩

class Facts : Prop where
  bcast_S_S2048x2176 : S_.BroadcastsInDim S2048x2176 (![] : Fin 0 → Fin S2048x2176.rank)
  bcast_S_S2048x1024 : S_.BroadcastsInDim S2048x1024 (![] : Fin 0 → Fin S2048x1024.rank)
  bcast_S_S4x64x64 : S_.BroadcastsInDim S4x64x64 (![] : Fin 0 → Fin S4x64x64.rank)
  bcast_S_S256 : S_.BroadcastsInDim S256 (![] : Fin 0 → Fin S256.rank)

variable [Facts]

def fn {F : FTy → Type} [FloatOps F] (main_arg0 : FVec F S2048x2176 .f32) (main_arg1 : FVec F S2048x1024 .f32) (main_arg2 : FVec F S4x64x64 .f32) (main_arg3 : FVec F S256 .f32) : IVec S2048x2176 1 × IVec S2048x1024 1 × IVec S4x64x64 1 × IVec S256 1 :=
  let main_v0 : FVec F S2048x2176 .f32 := Host.absf main_arg0
  let main_cst : FVec F S_ .f32 := constant S_ .f32 0x7F800000#32
  let main_v1 : FVec F S2048x2176 .f32 := broadcastInDim S2048x2176 ![] bcast_S_S2048x2176 main_cst
  let main_v2 : IVec S2048x2176 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S4x64x64 .f32 := Host.absf main_arg2
  let main_cst_1 : FVec F S_ .f32 := constant S_ .f32 0x7F800000#32
  let main_v7 : FVec F S4x64x64 .f32 := broadcastInDim S4x64x64 ![] bcast_S_S4x64x64 main_cst_1
  let main_v8 : IVec S4x64x64 1 := cmpf .olt main_v6 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  (main_v2, main_v5, main_v8, main_v11)
-- ==== Pre_pool_fwd_finite.lean ====
abbrev S2048x2176 : Shape := ⟨2, ![2048, 2176]⟩
abbrev S4x64x64 : Shape := ⟨3, ![4, 64, 64]⟩
abbrev S256 : Shape := ⟨1, ![256]⟩
abbrev S_ : Shape := ⟨0, ![]⟩

class Facts : Prop where
  bcast_S_S2048x2176 : S_.BroadcastsInDim S2048x2176 (![] : Fin 0 → Fin S2048x2176.rank)

variable [Facts]

def fn {F : FTy → Type} [FloatOps F] (main_arg0 : FVec F S2048x2176 .f32) (main_arg1 : FVec F S4x64x64 .f32) (main_arg2 : FVec F S256 .f32) : IVec S2048x2176 1 :=
  let main_v0 : FVec F S2048x2176 .f32 := Host.absf main_arg0
  let main_cst : FVec F S_ .f32 := constant S_ .f32 0x7F800000#32
  let main_v1 : FVec F S2048x2176 .f32 := broadcastInDim S2048x2176 ![] bcast_S_S2048x2176 main_cst
  let main_v2 : IVec S2048x2176 1 := cmpf .olt main_v0 main_v1
  main_v2
-- ==== Pre_sgu_finite.lean ====
abbrev S2048x2176 : Shape := ⟨2, ![2048, 2176]⟩
abbrev S2048x1024 : Shape := ⟨2, ![2048, 1024]⟩
abbrev S384 : Shape := ⟨1, ![384]⟩
abbrev S6x128x128 : Shape := ⟨3, ![6, 128, 128]⟩
abbrev S6x128 : Shape := ⟨2, ![6, 128]⟩
abbrev S_ : Shape := ⟨0, ![]⟩

class Facts : Prop where
  bcast_S_S2048x2176 : S_.BroadcastsInDim S2048x2176 (![] : Fin 0 → Fin S2048x2176.rank)
  bcast_S_S2048x1024 : S_.BroadcastsInDim S2048x1024 (![] : Fin 0 → Fin S2048x1024.rank)
  bcast_S_S384 : S_.BroadcastsInDim S384 (![] : Fin 0 → Fin S384.rank)
  bcast_S_S6x128x128 : S_.BroadcastsInDim S6x128x128 (![] : Fin 0 → Fin S6x128x128.rank)
  bcast_S_S6x128 : S_.BroadcastsInDim S6x128 (![] : Fin 0 → Fin S6x128.rank)

variable [Facts]

def fn {F : FTy → Type} [FloatOps F] (main_arg0 : FVec F S2048x2176 .f32) (main_arg1 : FVec F S2048x1024 .f32) (main_arg2 : FVec F S384 .f32) (main_arg3 : FVec F S6x128x128 .f32) (main_arg4 : FVec F S6x128 .f32) : IVec S2048x2176 1 × IVec S2048x1024 1 × IVec S384 1 × IVec S6x128x128 1 × IVec S6x128 1 :=
  let main_v0 : FVec F S2048x2176 .f32 := Host.absf main_arg0
  let main_cst : FVec F S_ .f32 := constant S_ .f32 0x7F800000#32
  let main_v1 : FVec F S2048x2176 .f32 := broadcastInDim S2048x2176 ![] bcast_S_S2048x2176 main_cst
  let main_v2 : IVec S2048x2176 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S384 .f32 := Host.absf main_arg2
  let main_cst_1 : FVec F S_ .f32 := constant S_ .f32 0x7F800000#32
  let main_v7 : FVec F S384 .f32 := broadcastInDim S384 ![] bcast_S_S384 main_cst_1
  let main_v8 : IVec S384 1 := cmpf .olt main_v6 main_v7
  let main_v9 : FVec F S6x128x128 .f32 := Host.absf main_arg3
  let main_cst_2 : FVec F S_ .f32 := constant S_ .f32 0x7F800000#32
  let main_v10 : FVec F S6x128x128 .f32 := broadcastInDim S6x128x128 ![] bcast_S_S6x128x128 main_cst_2
  let main_v11 : IVec S6x128x128 1 := cmpf .olt main_v9 main_v10
  let main_v12 : FVec F S6x128 .f32 := Host.absf main_arg4
  let main_cst_3 : FVec F S_ .f32 := constant S_ .f32 0x7F800000#32
  let main_v13 : FVec F S6x128 .f32 := broadcastInDim S6x128 ![] bcast_S_S6x128 main_cst_3
  let main_v14 : IVec S6x128 1 := cmpf .olt main_v12 main_v13
  (main_v2, main_v5, main_v8, main_v11, main_v14)
-- ==== LossGrad.lean ====
abbrev S2048x1024 : Shape := ⟨2, ![2048, 1024]⟩
abbrev S1x1024 : Shape := ⟨2, ![1, 1024]⟩
abbrev S512x1024 : Shape := ⟨2, ![512, 1024]⟩
abbrev S1024 : Shape := ⟨1, ![1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossGradRefIdeal.lean ====
abbrev S2048x1024 : Shape := ⟨2, ![2048, 1024]⟩
abbrev S_ : Shape := ⟨0, ![]⟩
abbrev S2048 : Shape := ⟨1, ![2048]⟩
abbrev S1024 : Shape := ⟨1, ![1024]⟩
abbrev S1x1024 : Shape := ⟨2, ![1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S1024, .f32⟩
  | .hbm, ⟨29, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_7 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]
-- ==== ConvGrad.lean ====
abbrev S2048x2176 : Shape := ⟨2, ![2048, 2176]⟩
abbrev S2048x1024 : Shape := ⟨2, ![2048, 1024]⟩
abbrev S3x384 : Shape := ⟨2, ![3, 384]⟩
abbrev S2048x384 : Shape := ⟨2, ![2048, 384]⟩
abbrev S2048x128 : Shape := ⟨2, ![2048, 128]⟩
abbrev S3x128 : Shape := ⟨2, ![3, 128]⟩
abbrev S1x128 : Shape := ⟨2, ![1, 128]⟩
abbrev S128 : Shape := ⟨1, ![128]⟩

abbrev nBuf : Space → Nat
  | .hbm => 8
  | .vmem => 18
  | .smem => 0
  | _ => 0

abbrev bufTy : (tb : Table) → Fin (tcTables nBuf tb) → BufTy
  | .hbm, ⟨0, _⟩ => ⟨S2048x2176, .f32⟩
  | .hbm, ⟨1, _⟩ => ⟨S2048x1024, .f32⟩
  | .hbm, ⟨2, _⟩ => ⟨S3x384, .f32⟩
  | .hbm, ⟨3, _⟩ => ⟨S2048x1024, .f32⟩
  | .hbm, ⟨4, _⟩ => ⟨S2048x384, .bf16⟩
  | .hbm, ⟨5, _⟩ => ⟨S2048x384, .bf16⟩
  | .hbm, ⟨6, _⟩ => ⟨S2048x384, .bf16⟩
  | .hbm, ⟨7, _⟩ => ⟨S3x384, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S3x128, .f32⟩
  | .local _ .vmem, ⟨9, _⟩ => ⟨S3x128, .f32⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S3x128, .f32⟩
  | .local _ .vmem, ⟨17, _⟩ => ⟨S3x128, .f32⟩
  | _, _ => ⟨S2048x2176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c3_i32 : BitVec 32 := 3#32
  let v0 : BitVec 32 := Scalar.addi c3_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c6_i32 : BitVec 32 := 6#32
  let v0 : BitVec 32 := Scalar.addi c6_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ConvGradRefIdeal.lean ====
abbrev S2048x2176 : Shape := ⟨2, ![2048, 2176]⟩
abbrev S2048x1024 : Shape := ⟨2, ![2048, 1024]⟩
abbrev S3x384 : Shape := ⟨2, ![3, 384]⟩
abbrev S2048x384 : Shape := ⟨2, ![2048, 384]⟩
abbrev S1x2048x384 : Shape := ⟨3, ![1, 2048, 384]⟩
abbrev S_ : Shape := ⟨0, ![]⟩
abbrev S1x2x384 : Shape := ⟨3, ![1, 2, 384]⟩
abbrev S1x2050x384 : Shape := ⟨3, ![1, 2050, 384]⟩
abbrev S1x384 : Shape := ⟨2, ![1, 384]⟩
abbrev S384 : Shape := ⟨1, ![384]⟩
abbrev S1x1x384 : Shape := ⟨3, ![1, 1, 384]⟩

abbrev nBuf : Space → Nat
  | .hbm => 94
  | .vmem => 0
  | .smem => 0
  | _ => 0

abbrev bufTy : (tb : Table) → Fin (tcTables nBuf tb) → BufTy
  | .hbm, ⟨0, _⟩ => ⟨S2048x2176, .f32⟩
  | .hbm, ⟨1, _⟩ => ⟨S2048x1024, .f32⟩
  | .hbm, ⟨2, _⟩ => ⟨S3x384, .f32⟩
  | .hbm, ⟨3, _⟩ => ⟨S2048x1024, .f32⟩
  | .hbm, ⟨4, _⟩ => ⟨S2048x384, .f32⟩
  | .hbm, ⟨5, _⟩ => ⟨S1x2048x384, .f32⟩
  | .hbm, ⟨6, _⟩ => ⟨S2048x384, .f32⟩
  | .hbm, ⟨7, _⟩ => ⟨S1x2048x384, .f32⟩
  | .hbm, ⟨8, _⟩ => ⟨S2048x384, .f32⟩
  | .hbm, ⟨9, _⟩ => ⟨S1x2048x384, .f32⟩
  | .hbm, ⟨10, _⟩ => ⟨S1x2048x384, .f32⟩
  | .hbm, ⟨11, _⟩ => ⟨S_, .f32⟩
  | .hbm, ⟨12, _⟩ => ⟨S1x2x384, .f32⟩
  | .hbm, ⟨13, _⟩ => ⟨S1x2050x384, .f32⟩
  | .hbm, ⟨14, _⟩ => ⟨S_, .f32⟩
  | .hbm, ⟨15, _⟩ => ⟨S1x2x384, .f32⟩
  | .hbm, ⟨16, _⟩ => ⟨S1x384, .f32⟩
  | .hbm, ⟨17, _⟩ => ⟨S384, .f32⟩
  | .hbm, ⟨18, _⟩ => ⟨S1x2048x384, .f32⟩
  | .hbm, ⟨19, _⟩ => ⟨S1x1x384, .f32⟩
  | .hbm, ⟨20, _⟩ => ⟨S1x2048x384, .f32⟩
  | .hbm, ⟨21, _⟩ => ⟨S1x2048x384, .f32⟩
  | .hbm, ⟨22, _⟩ => ⟨S1x384, .f32⟩
  | .hbm, ⟨23, _⟩ => ⟨S384, .f32⟩
  | .hbm, ⟨24, _⟩ => ⟨S1x2048x384, .f32⟩
  | .hbm, ⟨25, _⟩ => ⟨S1x1x384, .f32⟩
  | .hbm, ⟨26, _⟩ => ⟨S1x2048x384, .f32⟩
  | .hbm, ⟨27, _⟩ => ⟨S1x2048x384, .f32⟩
  | .hbm, ⟨28, _⟩ => ⟨S1x2048x384, .f32⟩
  | .hbm, ⟨29, _⟩ => ⟨S1x384, .f32⟩
  | .hbm, ⟨30, _⟩ => ⟨S384, .f32⟩
  | .hbm, ⟨31, _⟩ => ⟨S1x2048x384, .f32⟩
  | .hbm, ⟨32, _⟩ => ⟨S1x1x384, .f32⟩
  | .hbm, ⟨33, _⟩ => ⟨S1x2048x384, .f32⟩
  | .hbm, ⟨34, _⟩ => ⟨S1x2048x384, .f32⟩
  | .hbm, ⟨35, _⟩ => ⟨S1x2048x384, .f32⟩
  | .hbm, ⟨36, _⟩ => ⟨S1x2048x384, .f32⟩
  | .hbm, ⟨37, _⟩ => ⟨S2048x384, .f32⟩
  | .hbm, ⟨38, _⟩ => ⟨S1x2048x384, .f32⟩
  | .hbm, ⟨39, _⟩ => ⟨S1x2048x384, .f32⟩
  | .hbm, ⟨40, _⟩ => ⟨S1x2048x384, .f32⟩
  | .hbm, ⟨41, _⟩ => ⟨S1x2048x384, .f32⟩
  | .hbm, ⟨42, _⟩ => ⟨S1x2048x384, .f32⟩
  | .hbm, ⟨43, _⟩ => ⟨S1x2048x384, .f32⟩
  | .hbm, ⟨44, _⟩ => ⟨S_, .f32⟩
  | .hbm, ⟨45, _⟩ => ⟨S1x384, .f32⟩
  | .hbm, ⟨46, _⟩ => ⟨S1x1x384, .f32⟩
  | .hbm, ⟨47, _⟩ => ⟨S_, .f32⟩
  | .hbm, ⟨48, _⟩ => ⟨S384, .f32⟩
  | .hbm, ⟨49, _⟩ => ⟨S_, .f32⟩
  | .hbm, ⟨50, _⟩ => ⟨S1x2050x384, .f32⟩
  | .hbm, ⟨51, _⟩ => ⟨S1x384, .f32⟩
  | .hbm, ⟨52, _⟩ => ⟨S_, .f32⟩
  | .hbm, ⟨53, _⟩ => ⟨S3x384, .f32⟩
  | .hbm, ⟨54, _⟩ => ⟨S1x2048x384, .f32⟩
  | .hbm, ⟨55, _⟩ => ⟨S1x2048x384, .f32⟩
  | .hbm, ⟨56, _⟩ => ⟨S1x2048x384, .f32⟩
  | .hbm, ⟨57, _⟩ => ⟨S_, .f32⟩
  | .hbm, ⟨58, _⟩ => ⟨S1x384, .f32⟩
  | .hbm, ⟨59, _⟩ => ⟨S1x1x384, .f32⟩
  | .hbm, ⟨60, _⟩ => ⟨S_, .f32⟩
  | .hbm, ⟨61, _⟩ => ⟨S384, .f32⟩
  | .hbm, ⟨62, _⟩ => ⟨S_, .f32⟩
  | .hbm, ⟨63, _⟩ => ⟨S1x2050x384, .f32⟩
  | .hbm, ⟨64, _⟩ => ⟨S1x2050x384, .f32⟩
  | .hbm, ⟨65, _⟩ => ⟨S1x384, .f32⟩
  | .hbm, ⟨66, _⟩ => ⟨S_, .f32⟩
  | .hbm, ⟨67, _⟩ => ⟨S3x384, .f32⟩
  | .hbm, ⟨68, _⟩ => ⟨S3x384, .f32⟩
  | .hbm, ⟨69, _⟩ => ⟨S1x2048x384, .f32⟩
  | .hbm, ⟨70, _⟩ => ⟨S1x2048x384, .f32⟩
  | .hbm, ⟨71, _⟩ => ⟨S1x2048x384, .f32⟩
  | .hbm, ⟨72, _⟩ => ⟨S_, .f32⟩
  | .hbm, ⟨73, _⟩ => ⟨S1x384, .f32⟩
  | .hbm, ⟨74, _⟩ => ⟨S1x1x384, .f32⟩
  | .hbm, ⟨75, _⟩ => ⟨S_, .f32⟩
  | .hbm, ⟨76, _⟩ => ⟨S384, .f32⟩
  | .hbm, ⟨77, _⟩ => ⟨S_, .f32⟩
  | .hbm, ⟨78, _⟩ => ⟨S1x2050x384, .f32⟩
  | .hbm, ⟨79, _⟩ => ⟨S1x2050x384, .f32⟩
  | .hbm, ⟨80, _⟩ => ⟨S1x384, .f32⟩
  | .hbm, ⟨81, _⟩ => ⟨S_, .f32⟩
  | .hbm, ⟨82, _⟩ => ⟨S3x384, .f32⟩
  | .hbm, ⟨83, _⟩ => ⟨S3x384, .f32⟩
  | .hbm, ⟨84, _⟩ => ⟨S1x2x384, .f32⟩
  | .hbm, ⟨85, _⟩ => ⟨S1x2048x384, .f32⟩
  | .hbm, ⟨86, _⟩ => ⟨S1x2048x384, .f32⟩
  | .hbm, ⟨87, _⟩ => ⟨S1x2048x384, .f32⟩
  | .hbm, ⟨88, _⟩ => ⟨S2048x384, .f32⟩
  | .hbm, ⟨89, _⟩ => ⟨S2048x384, .bf16⟩
  | .hbm, ⟨90, _⟩ => ⟨S2048x384, .f32⟩
  | .hbm, ⟨91, _⟩ => ⟨S2048x384, .bf16⟩
  | .hbm, ⟨92, _⟩ => ⟨S2048x384, .f32⟩
  | .hbm, ⟨93, _⟩ => ⟨S2048x384, .bf16⟩
  | _, _ => ⟨S2048x2176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst_1 : Ref sig .tc := ⟨.hbm, 44, rfl⟩
abbrev main_v38 : Ref sig .tc := ⟨.hbm, 45, rfl⟩
abbrev main_v39 : Ref sig .tc := ⟨.hbm, 46, rfl⟩
abbrev main_cst_2 : Ref sig .tc := ⟨.hbm, 47, rfl⟩
abbrev main_v40 : Ref sig .tc := ⟨.hbm, 48, rfl⟩
abbrev main_cst_3 : Ref sig .tc := ⟨.hbm, 49, rfl⟩
abbrev main_v41 : Ref sig .tc := ⟨.hbm, 50, rfl⟩
abbrev main_v42 : Ref sig .tc := ⟨.hbm, 51, rfl⟩
abbrev main_cst_4 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_5 : Ref sig .tc := ⟨.hbm, 57, rfl⟩
abbrev main_v47 : Ref sig .tc := ⟨.hbm, 58, rfl⟩
abbrev main_v48 : Ref sig .tc := ⟨.hbm, 59, rfl⟩
abbrev main_cst_6 : Ref sig .tc := ⟨.hbm, 60, rfl⟩
abbrev main_v49 : Ref sig .tc := ⟨.hbm, 61, rfl⟩
abbrev main_cst_7 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_8 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_9 : Ref sig .tc := ⟨.hbm, 72, rfl⟩
abbrev main_v58 : Ref sig .tc := ⟨.hbm, 73, rfl⟩
abbrev main_v59 : Ref sig .tc := ⟨.hbm, 74, rfl⟩
abbrev main_cst_10 : Ref sig .tc := ⟨.hbm, 75, rfl⟩
abbrev main_v60 : Ref sig .tc := ⟨.hbm, 76, rfl⟩
abbrev main_cst_11 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_12 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩

abbrev nD : Nat := 1
abbrev τ : Topo := Topo.v7x

variable {F : FTy → Type} [FloatOps F]
-- ==== PoolGrad.lean ====
abbrev S2048x2176 : Shape := ⟨2, ![2048, 2176]⟩
abbrev S2048x1024 : Shape := ⟨2, ![2048, 1024]⟩
abbrev S4x64x64 : Shape := ⟨3, ![4, 64, 64]⟩
abbrev S256 : Shape := ⟨1, ![256]⟩
abbrev S1x256 : Shape := ⟨2, ![1, 256]⟩
abbrev S2048x256 : Shape := ⟨2, ![2048, 256]⟩
abbrev S2048x128 : Shape := ⟨2, ![2048, 128]⟩
abbrev S2x64x64 : Shape := ⟨3, ![2, 64, 64]⟩
abbrev S1x128 : Shape := ⟨2, ![1, 128]⟩
abbrev S64x64 : Shape := ⟨2, ![64, 64]⟩
abbrev S1x64x64 : Shape := ⟨3, ![1, 64, 64]⟩
abbrev S64x128 : Shape := ⟨2, ![64, 128]⟩
abbrev S128x128 : Shape := ⟨2, ![128, 128]⟩
abbrev S128 : Shape := ⟨1, ![128]⟩

abbrev nBuf : Space → Nat
  | .hbm => 8
  | .vmem => 14
  | .smem => 0
  | _ => 0

abbrev bufTy : (tb : Table) → Fin (tcTables nBuf tb) → BufTy
  | .hbm, ⟨0, _⟩ => ⟨S2048x2176, .f32⟩
  | .hbm, ⟨1, _⟩ => ⟨S2048x1024, .f32⟩
  | .hbm, ⟨2, _⟩ => ⟨S4x64x64, .f32⟩
  | .hbm, ⟨3, _⟩ => ⟨S256, .f32⟩
  | .hbm, ⟨4, _⟩ => ⟨S1x256, .f32⟩
  | .hbm, ⟨5, _⟩ => ⟨S2048x256, .bf16⟩
  | .hbm, ⟨6, _⟩ => ⟨S4x64x64, .f32⟩
  | .hbm, ⟨7, _⟩ => ⟨S1x256, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2x64x64, .f32⟩
  | .local _ .vmem, ⟨5, _⟩ => ⟨S2x64x64, .f32⟩
  | .local _ .vmem, ⟨6, _⟩ => ⟨S1x128, .f32⟩
  | .local _ .vmem, ⟨7, _⟩ => ⟨S1x128, .f32⟩
  | .local _ .vmem, ⟨8, _⟩ => ⟨S2048x128, .bf16⟩
  | .local _ .vmem, ⟨9, _⟩ => ⟨S2048x128, .bf16⟩
  | .local _ .vmem, ⟨10, _⟩ => ⟨S2x64x64, .f32⟩
  | .local _ .vmem, ⟨11, _⟩ => ⟨S2x64x64, .f32⟩
  | .local _ .vmem, ⟨12, _⟩ => ⟨S1x128, .f32⟩
  | .local _ .vmem, ⟨13, _⟩ => ⟨S1x128, .f32⟩
  | _, _ => ⟨S2048x2176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c9_i32 : BitVec 32 := 9#32
  let v0 : BitVec 32 := Scalar.addi c9_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c3_i32 : BitVec 32 := 3#32
  let v0 : BitVec 32 := Scalar.addi c3_i32 arg0
  let c0_i32 : BitVec 32 := 0#32
  let c0_i32_0 : BitVec 32 := 0#32
  ![c0_i32.toNat, v0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PoolGradRefIdeal.lean ====
abbrev S2048x2176 : Shape := ⟨2, ![2048, 2176]⟩
abbrev S2048x1024 : Shape := ⟨2, ![2048, 1024]⟩
abbrev S4x64x64 : Shape := ⟨3, ![4, 64, 64]⟩
abbrev S256 : Shape := ⟨1, ![256]⟩
abbrev S2048x256 : Shape := ⟨2, ![2048, 256]⟩
abbrev S1x2048x256 : Shape := ⟨3, ![1, 2048, 256]⟩
abbrev S1x2048x4x64 : Shape := ⟨4, ![1, 2048, 4, 64]⟩
abbrev S_ : Shape := ⟨0, ![]⟩
abbrev S2048 : Shape := ⟨1, ![2048]⟩
abbrev S1x2048x1x64 : Shape := ⟨4, ![1, 2048, 1, 64]⟩
abbrev S1x2048x64 : Shape := ⟨3, ![1, 2048, 64]⟩
abbrev S1x2x64 : Shape := ⟨3, ![1, 2, 64]⟩
abbrev S1x2050x64 : Shape := ⟨3, ![1, 2050, 64]⟩
abbrev S1x2048x1 : Shape := ⟨3, ![1, 2048, 1]⟩
abbrev S1x4x64 : Shape := ⟨3, ![1, 4, 64]⟩
abbrev S1x2052x64 : Shape := ⟨3, ![1, 2052, 64]⟩
abbrev S1x8x64 : Shape := ⟨3, ![1, 8, 64]⟩
abbrev S1x2056x64 : Shape := ⟨3, ![1, 2056, 64]⟩
abbrev S1x16x64 : Shape := ⟨3, ![1, 16, 64]⟩
abbrev S1x2064x64 : Shape := ⟨3, ![1, 2064, 64]⟩
abbrev S4x64x1x2048 : Shape := ⟨4, ![4, 64, 1, 2048]⟩
abbrev S1x1x256 : Shape := ⟨3, ![1, 1, 256]⟩
abbrev S1x256 : Shape := ⟨2, ![1, 256]⟩
abbrev S4x1x2048x64 : Shape := ⟨4, ![4, 1, 2048, 64]⟩

abbrev nBuf : Space → Nat
  | .hbm => 178
  | .vmem => 0
  | .smem => 0
  | _ => 0

abbrev hbmTy0_0 (i : Nat) : BufTy := match i % 128 with
  | 0 => ⟨S2048x2176, .f32⟩
  | 1 => ⟨S2048x1024, .f32⟩
  | 2 => ⟨S4x64x64, .f32⟩
  | 3 => ⟨S256, .f32⟩
  | 4 => ⟨S2048x256, .f32⟩
  | 5 => ⟨S1x2048x256, .f32⟩
  | 6 => ⟨S1x2048x4x64, .f32⟩
  | 7 => ⟨S_, .f32⟩
  | 8 => ⟨S_, .f32⟩
  | 9 => ⟨S1x2048x4x64, .f32⟩
  | 10 => ⟨S2048, .f32⟩
  | 11 => ⟨S_, .f32⟩
  | 12 => ⟨S2048, .f32⟩
  | 13 => ⟨S2048, .f32⟩
  | 14 => ⟨S1x2048x1x64, .f32⟩
  | 15 => ⟨S1x2048x64, .f32⟩
  | 16 => ⟨S_, .f32⟩
  | 17 => ⟨S1x2x64, .f32⟩
  | 18 => ⟨S1x2050x64, .f32⟩
  | 19 => ⟨S_, .f32⟩
  | 20 => ⟨S1x2x64, .f32⟩
  | 21 => ⟨S1x2048x64, .f32⟩
  | 22 => ⟨S1x2048x64, .f32⟩
  | 23 => ⟨S1x2048x64, .f32⟩
  | 24 => ⟨S_, .f32⟩
  | 25 => ⟨S2048, .f32⟩
  | 26 => ⟨S2048, .f32⟩
  | 27 => ⟨S1x2048x1, .f32⟩
  | 28 => ⟨S1x2048x64, .f32⟩
  | 29 => ⟨S1x2048x64, .f32⟩
  | 30 => ⟨S1x2048x1x64, .f32⟩
  | 31 => ⟨S1x2048x64, .f32⟩
  | 32 => ⟨S_, .f32⟩
  | 33 => ⟨S1x4x64, .f32⟩
  | 34 => ⟨S1x2052x64, .f32⟩
  | 35 => ⟨S_, .f32⟩
  | 36 => ⟨S1x4x64, .f32⟩
  | 37 => ⟨S1x2048x64, .f32⟩
  | 38 => ⟨S1x2048x64, .f32⟩
  | 39 => ⟨S1x2048x64, .f32⟩
  | 40 => ⟨S_, .f32⟩
  | 41 => ⟨S2048, .f32⟩
  | 42 => ⟨S2048, .f32⟩
  | 43 => ⟨S1x2048x1, .f32⟩
  | 44 => ⟨S1x2048x64, .f32⟩
  | 45 => ⟨S1x2048x64, .f32⟩
  | 46 => ⟨S1x2048x1x64, .f32⟩
  | 47 => ⟨S1x2048x64, .f32⟩
  | 48 => ⟨S_, .f32⟩
  | 49 => ⟨S1x8x64, .f32⟩
  | 50 => ⟨S1x2056x64, .f32⟩
  | 51 => ⟨S_, .f32⟩
  | 52 => ⟨S1x8x64, .f32⟩
  | 53 => ⟨S1x2048x64, .f32⟩
  | 54 => ⟨S1x2048x64, .f32⟩
  | 55 => ⟨S1x2048x64, .f32⟩
  | 56 => ⟨S_, .f32⟩
  | 57 => ⟨S2048, .f32⟩
  | 58 => ⟨S2048, .f32⟩
  | 59 => ⟨S1x2048x1, .f32⟩
  | 60 => ⟨S1x2048x64, .f32⟩
  | 61 => ⟨S1x2048x64, .f32⟩
  | 62 => ⟨S1x2048x1x64, .f32⟩
  | 63 => ⟨S1x2048x64, .f32⟩
  | 64 => ⟨S_, .f32⟩
  | 65 => ⟨S1x16x64, .f32⟩
  | 66 => ⟨S1x2064x64, .f32⟩
  | 67 => ⟨S_, .f32⟩
  | 68 => ⟨S1x16x64, .f32⟩
  | 69 => ⟨S1x2048x64, .f32⟩
  | 70 => ⟨S1x2048x64, .f32⟩
  | 71 => ⟨S1x2048x64, .f32⟩
  | 72 => ⟨S_, .f32⟩
  | 73 => ⟨S2048, .f32⟩
  | 74 => ⟨S2048, .f32⟩
  | 75 => ⟨S1x2048x1, .f32⟩
  | 76 => ⟨S1x2048x64, .f32⟩
  | 77 => ⟨S1x2048x64, .f32⟩
  | 78 => ⟨S1x2048x1x64, .f32⟩
  | 79 => ⟨S1x2048x1x64, .f32⟩
  | 80 => ⟨S1x2048x1x64, .f32⟩
  | 81 => ⟨S1x2048x1x64, .f32⟩
  | 82 => ⟨S1x2048x4x64, .f32⟩
  | 83 => ⟨S1x2048x4x64, .f32⟩
  | 84 => ⟨S4x64x1x2048, .f32⟩
  | 85 => ⟨S1x2048x4x64, .f32⟩
  | 86 => ⟨S1x2048x256, .f32⟩
  | 87 => ⟨S1x1x256, .f32⟩
  | 88 => ⟨S1x2048x256, .f32⟩
  | 89 => ⟨S1x2048x256, .f32⟩
  | 90 => ⟨S2048x256, .f32⟩
  | 91 => ⟨S1x2048x256, .f32⟩
  | 92 => ⟨S1x2048x256, .f32⟩
  | 93 => ⟨S_, .f32⟩
  | 94 => ⟨S1x256, .f32⟩
  | 95 => ⟨S1x1x256, .f32⟩
  | 96 => ⟨S1x2048x256, .f32⟩
  | 97 => ⟨S1x2048x256, .f32⟩
  | 98 => ⟨S_, .f32⟩
  | 99 => ⟨S256, .f32⟩
  | 100 => ⟨S1x2048x4x64, .f32⟩
  | 101 => ⟨S4x64x1x2048, .f32⟩
  | 102 => ⟨S4x1x2048x64, .f32⟩
  | 103 => ⟨S1x2048x4x64, .f32⟩
  | 104 => ⟨S4x64x64, .f32⟩
  | 105 => ⟨S4x64x64, .f32⟩
  | 106 => ⟨S1x2048x4x64, .f32⟩
  | 107 => ⟨S1x2048x1x64, .f32⟩
  | 108 => ⟨S1x2048x64, .f32⟩
  | 109 => ⟨S1x2048x1x64, .f32⟩
  | 110 => ⟨S1x2048x64, .f32⟩
  | 111 => ⟨S1x2048x1x64, .f32⟩
  | 112 => ⟨S1x2048x64, .f32⟩
  | 113 => ⟨S1x2048x1x64, .f32⟩
  | 114 => ⟨S1x2048x64, .f32⟩
  | 115 => ⟨S1x2048x64, .f32⟩
  | 116 => ⟨S1x2048x64, .f32⟩
  | 117 => ⟨S1x2048x64, .f32⟩
  | 118 => ⟨S_, .f32⟩
  | 119 => ⟨S1x2064x64, .f32⟩
  | 120 => ⟨S_, .f32⟩
  | 121 => ⟨S1x2064x64, .f32⟩
  | 122 => ⟨S1x2064x64, .f32⟩
  | 123 => ⟨S1x16x64, .f32⟩
  | 124 => ⟨S1x2048x64, .f32⟩
  | 125 => ⟨S1x2048x1x64, .f32⟩
  | 126 => ⟨S_, .f32⟩
  | 127 => ⟨S1x2048x4x64, .f32⟩
  | _ => ⟨S2048x2176, .f32⟩

abbrev hbmTy0_1 (i : Nat) : BufTy := match i % 128 with
  | 0 => ⟨S1x2048x64, .f32⟩
  | 1 => ⟨S1x2048x64, .f32⟩
  | 2 => ⟨S1x2048x64, .f32⟩
  | 3 => ⟨S_, .f32⟩
  | 4 => ⟨S1x2056x64, .f32⟩
  | 5 => ⟨S_, .f32⟩
  | 6 => ⟨S1x2056x64, .f32⟩
  | 7 => ⟨S1x2056x64, .f32⟩
  | 8 => ⟨S1x8x64, .f32⟩
  | 9 => ⟨S1x2048x64, .f32⟩
  | 10 => ⟨S1x2048x1x64, .f32⟩
  | 11 => ⟨S_, .f32⟩
  | 12 => ⟨S1x2048x4x64, .f32⟩
  | 13 => ⟨S1x2048x4x64, .f32⟩
  | 14 => ⟨S1x2048x64, .f32⟩
  | 15 => ⟨S1x2048x64, .f32⟩
  | 16 => ⟨S1x2048x64, .f32⟩
  | 17 => ⟨S_, .f32⟩
  | 18 => ⟨S1x2052x64, .f32⟩
  | 19 => ⟨S_, .f32⟩
  | 20 => ⟨S1x2052x64, .f32⟩
  | 21 => ⟨S1x2052x64, .f32⟩
  | 22 => ⟨S1x4x64, .f32⟩
  | 23 => ⟨S1x2048x64, .f32⟩
  | 24 => ⟨S1x2048x1x64, .f32⟩
  | 25 => ⟨S_, .f32⟩
  | 26 => ⟨S1x2048x4x64, .f32⟩
  | 27 => ⟨S1x2048x4x64, .f32⟩
  | 28 => ⟨S1x2048x64, .f32⟩
  | 29 => ⟨S1x2048x64, .f32⟩
  | 30 => ⟨S1x2048x64, .f32⟩
  | 31 => ⟨S_, .f32⟩
  | 32 => ⟨S1x2050x64, .f32⟩
  | 33 => ⟨S_, .f32⟩
  | 34 => ⟨S1x2050x64, .f32⟩
  | 35 => ⟨S1x2050x64, .f32⟩
  | 36 => ⟨S1x2x64, .f32⟩
  | 37 => ⟨S1x2048x64, .f32⟩
  | 38 => ⟨S1x2048x1x64, .f32⟩
  | 39 => ⟨S_, .f32⟩
  | 40 => ⟨S1x2048x4x64, .f32⟩
  | 41 => ⟨S1x2048x4x64, .f32⟩
  | 42 => ⟨S_, .f32⟩
  | 43 => ⟨S_, .f32⟩
  | 44 => ⟨S1x2048x4x64, .f32⟩
  | 45 => ⟨S1x2048x4x64, .f32⟩
  | 46 => ⟨S1x2048x256, .f32⟩
  | 47 => ⟨S2048x256, .f32⟩
  | 48 => ⟨S2048x256, .bf16⟩
  | 49 => ⟨S1x256, .f32⟩
  | _ => ⟨S2048x2176, .f32⟩

abbrev hbmTy (i : Nat) : BufTy := match i / 128 with
  | 0 => hbmTy0_0 i
  | 1 => hbmTy0_1 i
  | _ => ⟨S2048x2176, .f32⟩

abbrev bufTy : (tb : Table) → Fin (tcTables nBuf tb) → BufTy
  | .hbm, ⟨i, _⟩ => hbmTy i
  | _, _ => ⟨S2048x2176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_call0_cst : Ref sig .tc := ⟨.hbm, 7, rfl⟩
abbrev main_call0_call0_v0 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_9 : Ref sig .tc := ⟨.hbm, 64, rfl⟩
abbrev main_v48 : Ref sig .tc := ⟨.hbm, 65, rfl⟩
abbrev main_v49 : Ref sig .tc := ⟨.hbm, 66, rfl⟩
abbrev main_cst_10 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_11 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_cst_12 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_cst_13 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_cst_14 : Ref sig .tc := ⟨.hbm, 118, rfl⟩
abbrev main_v97 : Ref sig .tc := ⟨.hbm, 119, rfl⟩
abbrev main_cst_15 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_cst_16 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_cst_17 : Ref sig .tc := ⟨.hbm, 131, rfl⟩
abbrev main_v107 : Ref sig .tc := ⟨.hbm, 132, rfl⟩
abbrev main_cst_18 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_cst_19 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_cst_20 : Ref sig .tc := ⟨.hbm, 145, rfl⟩
abbrev main_v118 : Ref sig .tc := ⟨.hbm, 146, rfl⟩
abbrev main_cst_21 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_cst_22 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_cst_23 : Ref sig .tc := ⟨.hbm, 159, rfl⟩
abbrev main_v129 : Ref sig .tc := ⟨.hbm, 160, rfl⟩
abbrev main_cst_24 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_cst_25 : Ref sig .tc := ⟨.hbm, 167, rfl⟩
abbrev main_v135 : Ref sig .tc := ⟨.hbm, 168, rfl⟩
abbrev main_v136 : Ref sig .tc := ⟨.hbm, 169, rfl⟩
abbrev main_call1_call0_cst : Ref sig .tc := ⟨.hbm, 170, rfl⟩
abbrev main_call1_call0_v0 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩

abbrev nD : Nat := 1
abbrev τ : Topo := Topo.v7x

variable {F : FTy → Type} [FloatOps F]
-- ==== SguGrad.lean ====
abbrev S2048x2176 : Shape := ⟨2, ![2048, 2176]⟩
abbrev S2048x1024 : Shape := ⟨2, ![2048, 1024]⟩
abbrev S384 : Shape := ⟨1, ![384]⟩
abbrev S6x128x128 : Shape := ⟨3, ![6, 128, 128]⟩
abbrev S6x128 : Shape := ⟨2, ![6, 128]⟩
abbrev S1x384 : Shape := ⟨2, ![1, 384]⟩
abbrev S6x128x1 : Shape := ⟨3, ![6, 128, 1]⟩
abbrev S2048x384 : Shape := ⟨2, ![2048, 384]⟩
abbrev S2048x128 : Shape := ⟨2, ![2048, 128]⟩
abbrev S1x128 : Shape := ⟨2, ![1, 128]⟩
abbrev S2x128x128 : Shape := ⟨3, ![2, 128, 128]⟩
abbrev S2x128x1 : Shape := ⟨3, ![2, 128, 1]⟩
abbrev S128x128 : Shape := ⟨2, ![128, 128]⟩
abbrev S1x128x128 : Shape := ⟨3, ![1, 128, 128]⟩
abbrev S1x128x1 : Shape := ⟨3, ![1, 128, 1]⟩
abbrev S128x1 : Shape := ⟨2, ![128, 1]⟩
abbrev S128 : Shape := ⟨1, ![128]⟩

abbrev nBuf : Space → Nat
  | .hbm => 12
  | .vmem => 22
  | .smem => 0
  | _ => 0

abbrev bufTy : (tb : Table) → Fin (tcTables nBuf tb) → BufTy
  | .hbm, ⟨0, _⟩ => ⟨S2048x2176, .f32⟩
  | .hbm, ⟨1, _⟩ => ⟨S2048x1024, .f32⟩
  | .hbm, ⟨2, _⟩ => ⟨S384, .f32⟩
  | .hbm, ⟨3, _⟩ => ⟨S6x128x128, .f32⟩
  | .hbm, ⟨4, _⟩ => ⟨S6x128, .f32⟩
  | .hbm, ⟨5, _⟩ => ⟨S1x384, .f32⟩
  | .hbm, ⟨6, _⟩ => ⟨S6x128x1, .f32⟩
  | .hbm, ⟨7, _⟩ => ⟨S2048x384, .bf16⟩
  | .hbm, ⟨8, _⟩ => ⟨S2048x384, .bf16⟩
  | .hbm, ⟨9, _⟩ => ⟨S1x384, .f32⟩
  | .hbm, ⟨10, _⟩ => ⟨S6x128x128, .f32⟩
  | .hbm, ⟨11, _⟩ => ⟨S6x128x1, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S1x128, .f32⟩
  | .local _ .vmem, ⟨5, _⟩ => ⟨S1x128, .f32⟩
  | .local _ .vmem, ⟨6, _⟩ => ⟨S2x128x128, .f32⟩
  | .local _ .vmem, ⟨7, _⟩ => ⟨S2x128x128, .f32⟩
  | .local _ .vmem, ⟨8, _⟩ => ⟨S2x128x1, .f32⟩
  | .local _ .vmem, ⟨9, _⟩ => ⟨S2x128x1, .f32⟩
  | .local _ .vmem, ⟨10, _⟩ => ⟨S2048x128, .f32⟩
  | .local _ .vmem, ⟨11, _⟩ => ⟨S2048x128, .f32⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S1x128, .f32⟩
  | .local _ .vmem, ⟨17, _⟩ => ⟨S1x128, .f32⟩
  | .local _ .vmem, ⟨18, _⟩ => ⟨S2x128x128, .f32⟩
  | .local _ .vmem, ⟨19, _⟩ => ⟨S2x128x128, .f32⟩
  | .local _ .vmem, ⟨20, _⟩ => ⟨S2x128x1, .f32⟩
  | .local _ .vmem, ⟨21, _⟩ => ⟨S2x128x1, .f32⟩
  | _, _ => ⟨S2048x2176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![3], ![false]⟩

@[reducible] def k0_t1_loop : Scf.Loop 32 :=
  let c0_i32 : BitVec 32 := 0#32
  let c16_i32 : BitVec 32 := 16#32
  let v32 : BitVec 32 := Scalar.addi c0_i32 c16_i32
  let c1_i32 : BitVec 32 := 1#32
  ⟨c0_i32, v32, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32 : BitVec 32 := 128#32
  let v47 : BitVec 32 := Scalar.muli arg12 c128_i32
  v47
def k0_off1 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32 : BitVec 32 := 128#32
  let v47 : BitVec 32 := Scalar.muli arg12 c128_i32
  let v48 : BitVec 32 := v47
  let v49 : Index := Scalar.indexCast v48
  let c0_39 : Index := 0#32
  ![v49.toNat, 0]
def cc0_transform_0 (i : grid0.Coords) : Fin 2 → Nat :=
  let arg0 : BitVec 32 := BitVec.ofNat 32 (i 0).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c14_i32 : BitVec 32 := 14#32
  let v0 : BitVec 32 := Scalar.addi c14_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c5_i32 : BitVec 32 := 5#32
  let v0 : BitVec 32 := Scalar.addi c5_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x128x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== SguGradIdeal.lean ====
variable {F : FTy → Type} [FloatOps F] [Named F]
def κ : String → Option EReal := fun
  | "rsqrt2" => some (((Real.sqrt 2)⁻¹ : ℝ) : EReal)
  | "rsqrt2pi" => some (((Real.sqrt (2 * Real.pi))⁻¹ : ℝ) : EReal)
  | _ => none
-- ==== SguGradRefIdeal.lean ====
abbrev S2048x2176 : Shape := ⟨2, ![2048, 2176]⟩
abbrev S2048x1024 : Shape := ⟨2, ![2048, 1024]⟩
abbrev S384 : Shape := ⟨1, ![384]⟩
abbrev S6x128x128 : Shape := ⟨3, ![6, 128, 128]⟩
abbrev S6x128 : Shape := ⟨2, ![6, 128]⟩
abbrev S2048x768 : Shape := ⟨2, ![2048, 768]⟩
abbrev S1x2048x768 : Shape := ⟨3, ![1, 2048, 768]⟩
abbrev S_ : Shape := ⟨0, ![]⟩
abbrev S1x2048x384 : Shape := ⟨3, ![1, 2048, 384]⟩
abbrev S1x2048x6x64 : Shape := ⟨4, ![1, 2048, 6, 64]⟩
abbrev S1x2048x6 : Shape := ⟨3, ![1, 2048, 6]⟩
abbrev S1x2048x6x1 : Shape := ⟨4, ![1, 2048, 6, 1]⟩
abbrev S6x64 : Shape := ⟨2, ![6, 64]⟩
abbrev S1x1x6x64 : Shape := ⟨4, ![1, 1, 6, 64]⟩
abbrev S1x16x128x6x64 : Shape := ⟨5, ![1, 16, 128, 6, 64]⟩
abbrev S128x128 : Shape := ⟨2, ![128, 128]⟩
abbrev S1x128x128 : Shape := ⟨3, ![1, 128, 128]⟩
abbrev S6x1x16x64x128 : Shape := ⟨5, ![6, 1, 16, 64, 128]⟩
abbrev S128x6 : Shape := ⟨2, ![128, 6]⟩
abbrev S1x1x128x6x1 : Shape := ⟨5, ![1, 1, 128, 6, 1]⟩
abbrev S2048x384 : Shape := ⟨2, ![2048, 384]⟩
abbrev S1x128x6 : Shape := ⟨3, ![1, 128, 6]⟩
abbrev S1x6x64 : Shape := ⟨3, ![1, 6, 64]⟩
abbrev S2048x6 : Shape := ⟨2, ![2048, 6]⟩
abbrev S1x384 : Shape := ⟨2, ![1, 384]⟩
abbrev S6x128x1 : Shape := ⟨3, ![6, 128, 1]⟩

abbrev nBuf : Space → Nat
  | .hbm => 172
  | .vmem => 0
  | .smem => 0
  | _ => 0

abbrev hbmTy0_0 (i : Nat) : BufTy := match i % 128 with
  | 0 => ⟨S2048x2176, .f32⟩
  | 1 => ⟨S2048x1024, .f32⟩
  | 2 => ⟨S384, .f32⟩
  | 3 => ⟨S6x128x128, .f32⟩
  | 4 => ⟨S6x128, .f32⟩
  | 5 => ⟨S2048x768, .f32⟩
  | 6 => ⟨S1x2048x768, .f32⟩
  | 7 => ⟨S_, .f32⟩
  | 8 => ⟨S1x2048x768, .f32⟩
  | 9 => ⟨S1x2048x768, .f32⟩
  | 10 => ⟨S1x2048x768, .f32⟩
  | 11 => ⟨S_, .f32⟩
  | 12 => ⟨S_, .f32⟩
  | 13 => ⟨S1x2048x768, .f32⟩
  | 14 => ⟨S1x2048x768, .f32⟩
  | 15 => ⟨S_, .f32⟩
  | 16 => ⟨S_, .f32⟩
  | 17 => ⟨S_, .f32⟩
  | 18 => ⟨S_, .f32⟩
  | 19 => ⟨S_, .f32⟩
  | 20 => ⟨S1x2048x768, .f32⟩
  | 21 => ⟨S_, .f32⟩
  | 22 => ⟨S1x2048x768, .f32⟩
  | 23 => ⟨S1x2048x768, .f32⟩
  | 24 => ⟨S1x2048x768, .f32⟩
  | 25 => ⟨S1x2048x768, .f32⟩
  | 26 => ⟨S1x2048x768, .f32⟩
  | 27 => ⟨S1x2048x768, .f32⟩
  | 28 => ⟨S1x2048x384, .f32⟩
  | 29 => ⟨S1x2048x384, .f32⟩
  | 30 => ⟨S1x2048x6x64, .f32⟩
  | 31 => ⟨S_, .f32⟩
  | 32 => ⟨S1x2048x6, .f32⟩
  | 33 => ⟨S1x2048x6x1, .f32⟩
  | 34 => ⟨S_, .f32⟩
  | 35 => ⟨S1x2048x6x1, .f32⟩
  | 36 => ⟨S1x2048x6x1, .f32⟩
  | 37 => ⟨S1x2048x6x64, .f32⟩
  | 38 => ⟨S1x2048x6x64, .f32⟩
  | 39 => ⟨S1x2048x6x64, .f32⟩
  | 40 => ⟨S_, .f32⟩
  | 41 => ⟨S1x2048x6x64, .f32⟩
  | 42 => ⟨S1x2048x6x64, .f32⟩
  | 43 => ⟨S_, .f32⟩
  | 44 => ⟨S1x2048x6, .f32⟩
  | 45 => ⟨S1x2048x6x1, .f32⟩
  | 46 => ⟨S_, .f32⟩
  | 47 => ⟨S1x2048x6x1, .f32⟩
  | 48 => ⟨S1x2048x6x1, .f32⟩
  | 49 => ⟨S1x2048x6x64, .f32⟩
  | 50 => ⟨S1x2048x6x64, .f32⟩
  | 51 => ⟨S_, .f32⟩
  | 52 => ⟨S1x2048x6x1, .f32⟩
  | 53 => ⟨S1x2048x6x1, .f32⟩
  | 54 => ⟨S1x2048x6x1, .f32⟩
  | 55 => ⟨S1x2048x6x1, .f32⟩
  | 56 => ⟨S_, .f32⟩
  | 57 => ⟨S1x2048x6x1, .f32⟩
  | 58 => ⟨S1x2048x6x1, .f32⟩
  | 59 => ⟨S1x2048x6x64, .f32⟩
  | 60 => ⟨S1x2048x6x64, .f32⟩
  | 61 => ⟨S6x64, .f32⟩
  | 62 => ⟨S1x1x6x64, .f32⟩
  | 63 => ⟨S1x2048x6x64, .f32⟩
  | 64 => ⟨S1x2048x6x64, .f32⟩
  | 65 => ⟨S1x16x128x6x64, .f32⟩
  | 66 => ⟨S_, .f32⟩
  | 67 => ⟨S128x128, .f32⟩
  | 68 => ⟨S128x128, .i32⟩
  | 69 => ⟨S_, .i32⟩
  | 70 => ⟨S128x128, .i32⟩
  | 71 => ⟨S128x128, .i32⟩
  | 72 => ⟨S128x128, .i32⟩
  | 73 => ⟨S128x128, .i1⟩
  | 74 => ⟨S_, .f32⟩
  | 75 => ⟨S128x128, .f32⟩
  | 76 => ⟨S128x128, .f32⟩
  | 77 => ⟨S1x128x128, .f32⟩
  | 78 => ⟨S6x128x128, .f32⟩
  | 79 => ⟨S6x128x128, .f32⟩
  | 80 => ⟨S6x1x16x64x128, .f32⟩
  | 81 => ⟨S1x16x128x6x64, .f32⟩
  | 82 => ⟨S128x6, .f32⟩
  | 83 => ⟨S1x1x128x6x1, .f32⟩
  | 84 => ⟨S1x16x128x6x64, .f32⟩
  | 85 => ⟨S1x16x128x6x64, .f32⟩
  | 86 => ⟨S1x2048x384, .f32⟩
  | 87 => ⟨S1x2048x384, .f32⟩
  | 88 => ⟨S2048x384, .f32⟩
  | 89 => ⟨S1x2048x384, .f32⟩
  | 90 => ⟨S1x2048x384, .f32⟩
  | 91 => ⟨S1x2048x384, .f32⟩
  | 92 => ⟨S1x16x128x6x64, .f32⟩
  | 93 => ⟨S_, .f32⟩
  | 94 => ⟨S1x128x6, .f32⟩
  | 95 => ⟨S1x1x128x6x1, .f32⟩
  | 96 => ⟨S_, .f32⟩
  | 97 => ⟨S128x6, .f32⟩
  | 98 => ⟨S6x128, .f32⟩
  | 99 => ⟨S6x1x16x64x128, .f32⟩
  | 100 => ⟨S6x128x128, .f32⟩
  | 101 => ⟨S6x1x16x64x128, .f32⟩
  | 102 => ⟨S1x16x128x6x64, .f32⟩
  | 103 => ⟨S6x128x128, .f32⟩
  | 104 => ⟨S6x128x128, .f32⟩
  | 105 => ⟨S1x2048x6x64, .f32⟩
  | 106 => ⟨S1x2048x6x64, .f32⟩
  | 107 => ⟨S_, .f32⟩
  | 108 => ⟨S1x6x64, .f32⟩
  | 109 => ⟨S1x1x6x64, .f32⟩
  | 110 => ⟨S1x2048x6x64, .f32⟩
  | 111 => ⟨S1x2048x6x64, .f32⟩
  | 112 => ⟨S_, .f32⟩
  | 113 => ⟨S6x64, .f32⟩
  | 114 => ⟨S384, .f32⟩
  | 115 => ⟨S1x2048x6x64, .f32⟩
  | 116 => ⟨S_, .f32⟩
  | 117 => ⟨S1x2048x6, .f32⟩
  | 118 => ⟨S1x2048x6x1, .f32⟩
  | 119 => ⟨S1x2048x6x64, .f32⟩
  | 120 => ⟨S1x2048x6x64, .f32⟩
  | 121 => ⟨S1x2048x6x1, .f32⟩
  | 122 => ⟨S1x2048x6x64, .f32⟩
  | 123 => ⟨S_, .f32⟩
  | 124 => ⟨S1x2048x6, .f32⟩
  | 125 => ⟨S1x2048x6x1, .f32⟩
  | 126 => ⟨S_, .f32⟩
  | 127 => ⟨S1x2048x6x1, .f32⟩
  | _ => ⟨S2048x2176, .f32⟩

abbrev hbmTy0_1 (i : Nat) : BufTy := match i % 128 with
  | 0 => ⟨S1x2048x6x1, .f32⟩
  | 1 => ⟨S_, .f32⟩
  | 2 => ⟨S2048x6, .f32⟩
  | 3 => ⟨S1x2048x6, .f32⟩
  | 4 => ⟨S1x2048x6x64, .f32⟩
  | 5 => ⟨S1x2048x6x64, .f32⟩
  | 6 => ⟨S1x2048x6x64, .f32⟩
  | 7 => ⟨S_, .f32⟩
  | 8 => ⟨S1x2048x6, .f32⟩
  | 9 => ⟨S1x2048x6x1, .f32⟩
  | 10 => ⟨S1x2048x6x64, .f32⟩
  | 11 => ⟨S1x2048x6x1, .f32⟩
  | 12 => ⟨S_, .f32⟩
  | 13 => ⟨S1x2048x6x1, .f32⟩
  | 14 => ⟨S1x2048x6x1, .f32⟩
  | 15 => ⟨S_, .f32⟩
  | 16 => ⟨S2048x6, .f32⟩
  | 17 => ⟨S1x2048x6, .f32⟩
  | 18 => ⟨S1x2048x6x64, .f32⟩
  | 19 => ⟨S1x2048x6x64, .f32⟩
  | 20 => ⟨S1x2048x384, .f32⟩
  | 21 => ⟨S_, .f32⟩
  | 22 => ⟨S1x2048x768, .f32⟩
  | 23 => ⟨S_, .f32⟩
  | 24 => ⟨S1x2048x768, .f32⟩
  | 25 => ⟨S1x2048x768, .f32⟩
  | 26 => ⟨S1x2048x768, .f32⟩
  | 27 => ⟨S1x2048x768, .f32⟩
  | 28 => ⟨S1x2048x768, .f32⟩
  | 29 => ⟨S1x2048x768, .f32⟩
  | 30 => ⟨S1x2048x768, .f32⟩
  | 31 => ⟨S1x2048x768, .f32⟩
  | 32 => ⟨S_, .f32⟩
  | 33 => ⟨S1x2048x768, .f32⟩
  | 34 => ⟨S1x2048x768, .f32⟩
  | 35 => ⟨S1x2048x768, .f32⟩
  | 36 => ⟨S1x2048x384, .f32⟩
  | 37 => ⟨S2048x384, .f32⟩
  | 38 => ⟨S2048x384, .bf16⟩
  | 39 => ⟨S1x2048x384, .f32⟩
  | 40 => ⟨S2048x384, .f32⟩
  | 41 => ⟨S2048x384, .bf16⟩
  | 42 => ⟨S1x384, .f32⟩
  | 43 => ⟨S6x128x1, .f32⟩
  | _ => ⟨S2048x2176, .f32⟩

abbrev hbmTy (i : Nat) : BufTy := match i / 128 with
  | 0 => hbmTy0_0 i
  | 1 => hbmTy0_1 i
  | _ => ⟨S2048x2176, .f32⟩

abbrev bufTy : (tb : Table) → Fin (tcTables nBuf tb) → BufTy
  | .hbm, ⟨i, _⟩ => hbmTy i
  | _, _ => ⟨S2048x2176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_10 : Ref sig .tc := ⟨.hbm, 66, rfl⟩
abbrev main_v50 : Ref sig .tc := ⟨.hbm, 67, rfl⟩
abbrev main_call0_v0 : Ref sig .tc := ⟨.hbm, 68, rfl⟩
abbrev main_call0_c : Ref sig .tc := ⟨.hbm, 69, rfl⟩
abbrev main_call0_v1 : Ref sig .tc := ⟨.hbm, 70, rfl⟩
abbrev main_call0_v2 : Ref sig .tc := ⟨.hbm, 71, rfl⟩
abbrev main_call0_v3 : Ref sig .tc := ⟨.hbm, 72, rfl⟩
abbrev main_call0_v4 : Ref sig .tc := ⟨.hbm, 73, rfl⟩
abbrev main_call0_cst : Ref sig .tc := ⟨.hbm, 74, rfl⟩
abbrev main_call0_v5 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_11 : Ref sig .tc := ⟨.hbm, 93, rfl⟩
abbrev main_v68 : Ref sig .tc := ⟨.hbm, 94, rfl⟩
abbrev main_v69 : Ref sig .tc := ⟨.hbm, 95, rfl⟩
abbrev main_cst_12 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_13 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_14 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_15 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_cst_16 : Ref sig .tc := ⟨.hbm, 123, rfl⟩
abbrev main_v93 : Ref sig .tc := ⟨.hbm, 124, rfl⟩
abbrev main_v94 : Ref sig .tc := ⟨.hbm, 125, rfl⟩
abbrev main_cst_17 : Ref sig .tc := ⟨.hbm, 126, rfl⟩
abbrev main_v95 : Ref sig .tc := ⟨.hbm, 127, rfl⟩
abbrev main_v96 : Ref sig .tc := ⟨.hbm, 128, rfl⟩
abbrev main_cst_18 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_cst_19 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_cst_20 : Ref sig .tc := ⟨.hbm, 140, rfl⟩
abbrev main_v106 : Ref sig .tc := ⟨.hbm, 141, rfl⟩
abbrev main_v107 : Ref sig .tc := ⟨.hbm, 142, rfl⟩
abbrev main_cst_21 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_cst_22 : Ref sig .tc := ⟨.hbm, 149, rfl⟩
abbrev main_v113 : Ref sig .tc := ⟨.hbm, 150, rfl⟩
abbrev main_cst_23 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_cst_24 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩

abbrev nD : Nat := 1
abbrev τ : Topo := Topo.v7x

variable {F : FTy → Type} [FloatOps F]
-- ==== MlpGrad.lean ====
abbrev S2048x1024 : Shape := ⟨2, ![2048, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S2048x5632 : Shape := ⟨2, ![2048, 5632]⟩
abbrev S2048x2816 : Shape := ⟨2, ![2048, 2816]⟩
abbrev S256x1024 : Shape := ⟨2, ![256, 1024]⟩
abbrev S256x1 : Shape := ⟨2, ![256, 1]⟩
abbrev S256x5632 : Shape := ⟨2, ![256, 5632]⟩
abbrev S256x2816 : Shape := ⟨2, ![256, 2816]⟩
abbrev S256 : Shape := ⟨1, ![256]⟩

abbrev nBuf : Space → Nat
  | .hbm => 101
  | .vmem => 33
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S1024, .f32⟩
  | .hbm, ⟨8, _⟩ => ⟨S1024, .f32⟩
  | .hbm, ⟨9, _⟩ => ⟨S2048x1024, .f32⟩
  | .hbm, ⟨10, _⟩ => ⟨S1x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048, .f32⟩
  | .hbm, ⟨27, _⟩ => ⟨S2048x1, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S_, .f32⟩
  | .hbm, ⟨32, _⟩ => ⟨S2048x1, .f32⟩
  | .hbm, ⟨33, _⟩ => ⟨S2048x1, .f32⟩
  | .hbm, ⟨34, _⟩ => ⟨S2048x1, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S1x1024, .f32⟩
  | .hbm, ⟨40, _⟩ => ⟨S2048x1024, .f32⟩
  | .hbm, ⟨41, _⟩ => ⟨S2048x1024, .f32⟩
  | .hbm, ⟨42, _⟩ => ⟨S1x1024, .f32⟩
  | .hbm, ⟨43, _⟩ => ⟨S2048x1024, .f32⟩
  | .hbm, ⟨44, _⟩ => ⟨S2048x1024, .f32⟩
  | .hbm, ⟨45, _⟩ => ⟨S2048x5632, .f32⟩
  | .hbm, ⟨46, _⟩ => ⟨S2048x2816, .f32⟩
  | .hbm, ⟨47, _⟩ => ⟨S2048x2816, .f32⟩
  | .hbm, ⟨48, _⟩ => ⟨S_, .f32⟩
  | .hbm, ⟨49, _⟩ => ⟨S2048x1024, .f32⟩
  | .hbm, ⟨50, _⟩ => ⟨S2048x1024, .f32⟩
  | .hbm, ⟨51, _⟩ => ⟨S2048x2816, .f32⟩
  | .hbm, ⟨52, _⟩ => ⟨S2048x2816, .f32⟩
  | .hbm, ⟨53, _⟩ => ⟨S_, .f32⟩
  | .hbm, ⟨54, _⟩ => ⟨S2048x2816, .f32⟩
  | .hbm, ⟨55, _⟩ => ⟨S2048x2816, .f32⟩
  | .hbm, ⟨56, _⟩ => ⟨S_, .f32⟩
  | .hbm, ⟨57, _⟩ => ⟨S2048x2816, .f32⟩
  | .hbm, ⟨58, _⟩ => ⟨S2048x2816, .f32⟩
  | .hbm, ⟨59, _⟩ => ⟨S2048x2816, .f32⟩
  | .hbm, ⟨60, _⟩ => ⟨S2048x2816, .f32⟩
  | .hbm, ⟨61, _⟩ => ⟨S2048x1024, .f32⟩
  | .hbm, ⟨62, _⟩ => ⟨S2048x1024, .f32⟩
  | .hbm, ⟨63, _⟩ => ⟨S_, .f32⟩
  | .hbm, ⟨64, _⟩ => ⟨S2048, .f32⟩
  | .hbm, ⟨65, _⟩ => ⟨S2048x1, .f32⟩
  | .hbm, ⟨66, _⟩ => ⟨S_, .f32⟩
  | .hbm, ⟨67, _⟩ => ⟨S2048x1, .f32⟩
  | .hbm, ⟨68, _⟩ => ⟨S2048x1, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S_, .f32⟩
  | .hbm, ⟨73, _⟩ => ⟨S2048, .f32⟩
  | .hbm, ⟨74, _⟩ => ⟨S2048x1, .f32⟩
  | .hbm, ⟨75, _⟩ => ⟨S_, .f32⟩
  | .hbm, ⟨76, _⟩ => ⟨S2048x1, .f32⟩
  | .hbm, ⟨77, _⟩ => ⟨S2048x1, .f32⟩
  | .hbm, ⟨78, _⟩ => ⟨S_, .f32⟩
  | .hbm, ⟨79, _⟩ => ⟨S2048x1, .f32⟩
  | .hbm, ⟨80, _⟩ => ⟨S2048x1, .f32⟩
  | .hbm, ⟨81, _⟩ => ⟨S2048x1, .f32⟩
  | .hbm, ⟨82, _⟩ => ⟨S2048x1024, .f32⟩
  | .hbm, ⟨83, _⟩ => ⟨S2048x1024, .f32⟩
  | .hbm, ⟨84, _⟩ => ⟨S2048x1024, .f32⟩
  | .hbm, ⟨85, _⟩ => ⟨S2048x1024, .f32⟩
  | .hbm, ⟨86, _⟩ => ⟨S1x1024, .f32⟩
  | .hbm, ⟨87, _⟩ => ⟨S1024x5632, .bf16⟩
  | .hbm, ⟨88, _⟩ => ⟨S2816x1024, .bf16⟩
  | .hbm, ⟨89, _⟩ => ⟨S1x1024, .f32⟩
  | .hbm, ⟨90, _⟩ => ⟨S1024x1024, .bf16⟩
  | .hbm, ⟨91, _⟩ => ⟨S2048x1024, .bf16⟩
  | .hbm, ⟨92, _⟩ => ⟨S2048x2816, .bf16⟩
  | .hbm, ⟨93, _⟩ => ⟨S2048x5632, .bf16⟩
  | .hbm, ⟨94, _⟩ => ⟨S2048x1024, .f32⟩
  | .hbm, ⟨95, _⟩ => ⟨S2048x1024, .bf16⟩
  | .hbm, ⟨96, _⟩ => ⟨S2048x1024, .f32⟩
  | .hbm, ⟨97, _⟩ => ⟨S1x1024, .f32⟩
  | .hbm, ⟨98, _⟩ => ⟨S1x1024, .f32⟩
  | .hbm, ⟨99, _⟩ => ⟨S1x1024, .f32⟩
  | .hbm, ⟨100, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1, .f32⟩
  | .local _ .vmem, ⟨5, _⟩ => ⟨S256x1, .f32⟩
  | .local _ .vmem, ⟨6, _⟩ => ⟨S1x1024, .f32⟩
  | .local _ .vmem, ⟨7, _⟩ => ⟨S256x5632, .f32⟩
  | .local _ .vmem, ⟨8, _⟩ => ⟨S256x5632, .f32⟩
  | .local _ .vmem, ⟨9, _⟩ => ⟨S1024x5632, .bf16⟩
  | .local _ .vmem, ⟨10, _⟩ => ⟨S2816x1024, .bf16⟩
  | .local _ .vmem, ⟨11, _⟩ => ⟨S256x1024, .f32⟩
  | .local _ .vmem, ⟨12, _⟩ => ⟨S256x1024, .f32⟩
  | .local _ .vmem, ⟨13, _⟩ => ⟨S256x1, .f32⟩
  | .local _ .vmem, ⟨14, _⟩ => ⟨S256x1, .f32⟩
  | .local _ .vmem, ⟨15, _⟩ => ⟨S1x1024, .f32⟩
  | .local _ .vmem, ⟨16, _⟩ => ⟨S1024x1024, .bf16⟩
  | .local _ .vmem, ⟨17, _⟩ => ⟨S256x1024, .bf16⟩
  | .local _ .vmem, ⟨18, _⟩ => ⟨S256x1024, .bf16⟩
  | .local _ .vmem, ⟨19, _⟩ => ⟨S256x2816, .bf16⟩
  | .local _ .vmem, ⟨20, _⟩ => ⟨S256x2816, .bf16⟩
  | .local _ .vmem, ⟨21, _⟩ => ⟨S256x5632, .bf16⟩
  | .local _ .vmem, ⟨22, _⟩ => ⟨S256x5632, .bf16⟩
  | .local _ .vmem, ⟨23, _⟩ => ⟨S256x1024, .f32⟩
  | .local _ .vmem, ⟨24, _⟩ => ⟨S256x1024, .f32⟩
  | .local _ .vmem, ⟨25, _⟩ => ⟨S256x1024, .bf16⟩
  | .local _ .vmem, ⟨26, _⟩ => ⟨S256x1024, .bf16⟩
  | .local _ .vmem, ⟨27, _⟩ => ⟨S256x1024, .f32⟩
  | .local _ .vmem, ⟨28, _⟩ => ⟨S256x1024, .f32⟩
  | .local _ .vmem, ⟨29, _⟩ => ⟨S1x1024, .f32⟩
  | .local _ .vmem, ⟨30, _⟩ => ⟨S1x1024, .f32⟩
  | .local _ .vmem, ⟨31, _⟩ => ⟨S1x1024, .f32⟩
  | .local _ .vmem, ⟨32, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩
abbrev main_cst_4 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_6 : Ref sig .tc := ⟨.hbm, 63, rfl⟩
abbrev main_v37 : Ref sig .tc := ⟨.hbm, 64, rfl⟩
abbrev main_v38 : Ref sig .tc := ⟨.hbm, 65, rfl⟩
abbrev main_cst_7 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_8 : Ref sig .tc := ⟨.hbm, 72, rfl⟩
abbrev main_v44 : Ref sig .tc := ⟨.hbm, 73, rfl⟩
abbrev main_v45 : Ref sig .tc := ⟨.hbm, 74, rfl⟩
abbrev main_cst_9 : Ref sig .tc := ⟨.hbm, 75, rfl⟩
abbrev main_v46 : Ref sig .tc := ⟨.hbm, 76, rfl⟩
abbrev main_v47 : Ref sig .tc := ⟨.hbm, 77, rfl⟩
abbrev main_cst_10 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60_0 : Ref sig .tc := ⟨.hbm, 91, rfl⟩
abbrev main_v60_1 : Ref sig .tc := ⟨.hbm, 92, rfl⟩
abbrev main_v60_2 : Ref sig .tc := ⟨.hbm, 93, rfl⟩
abbrev main_v60_3 : Ref sig .tc := ⟨.hbm, 94, rfl⟩
abbrev main_v60_4 : Ref sig .tc := ⟨.hbm, 95, rfl⟩
abbrev main_v60_5 : Ref sig .tc := ⟨.hbm, 96, rfl⟩
abbrev main_v60_6 : Ref sig .tc := ⟨.hbm, 97, rfl⟩
abbrev main_v60_7 : Ref sig .tc := ⟨.hbm, 98, rfl⟩
abbrev main_v60_8 : Ref sig .tc := ⟨.hbm, 99, rfl⟩
abbrev main_v60_9 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg18_0 : Ref sig .tc := ⟨.vmem, 30, rfl⟩
abbrev cc0_stg19_0 : Ref sig .tc := ⟨.vmem, 31, rfl⟩
abbrev cc0_stg20_0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem18_0 : DmaSem sig := 30
abbrev cc0_sem19_0 : DmaSem sig := 31
abbrev cc0_sem20_0 : DmaSem sig := 32

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x5632 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x5632 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== MlpGradRefIdeal.lean ====
abbrev S2048x1024 : Shape := ⟨2, ![2048, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S_ : Shape := ⟨0, ![]⟩
abbrev S2048x5632 : Shape := ⟨2, ![2048, 5632]⟩
abbrev S2048 : Shape := ⟨1, ![2048]⟩
abbrev S2048x1 : Shape := ⟨2, ![2048, 1]⟩
abbrev S2048x2816 : Shape := ⟨2, ![2048, 2816]⟩

abbrev nBuf : Space → Nat
  | .hbm => 234
  | .vmem => 0
  | .smem => 0
  | _ => 0

abbrev hbmTy0_0 (i : Nat) : BufTy := match i % 128 with
  | 0 => ⟨S2048x1024, .f32⟩
  | 1 => ⟨S2048x1024, .f32⟩
  | 2 => ⟨S1024x1024, .f32⟩
  | 3 => ⟨S1024, .f32⟩
  | 4 => ⟨S1024, .f32⟩
  | 5 => ⟨S1024x5632, .f32⟩
  | 6 => ⟨S2816x1024, .f32⟩
  | 7 => ⟨S1024, .f32⟩
  | 8 => ⟨S1024, .f32⟩
  | 9 => ⟨S2048x1024, .f32⟩
  | 10 => ⟨S1x1024, .f32⟩
  | 11 => ⟨S_, .f32⟩
  | 12 => ⟨S2048x1024, .f32⟩
  | 13 => ⟨S_, .f32⟩
  | 14 => ⟨S2048x5632, .f32⟩
  | 15 => ⟨S_, .f32⟩
  | 16 => ⟨S2048x1024, .f32⟩
  | 17 => ⟨S_, .f32⟩
  | 18 => ⟨S2048x1024, .f32⟩
  | 19 => ⟨S2048x1024, .f32⟩
  | 20 => ⟨S2048x1024, .f32⟩
  | 21 => ⟨S2048x1024, .f32⟩
  | 22 => ⟨S2048x1024, .f32⟩
  | 23 => ⟨S_, .f32⟩
  | 24 => ⟨S2048, .f32⟩
  | 25 => ⟨S2048x1, .f32⟩
  | 26 => ⟨S_, .f32⟩
  | 27 => ⟨S2048x1, .f32⟩
  | 28 => ⟨S2048x1, .f32⟩
  | 29 => ⟨S2048x1024, .f32⟩
  | 30 => ⟨S2048x1024, .f32⟩
  | 31 => ⟨S2048x1024, .f32⟩
  | 32 => ⟨S_, .f32⟩
  | 33 => ⟨S2048x1024, .f32⟩
  | 34 => ⟨S2048x1024, .f32⟩
  | 35 => ⟨S_, .f32⟩
  | 36 => ⟨S2048, .f32⟩
  | 37 => ⟨S2048x1, .f32⟩
  | 38 => ⟨S_, .f32⟩
  | 39 => ⟨S2048x1, .f32⟩
  | 40 => ⟨S2048x1, .f32⟩
  | 41 => ⟨S2048x1024, .f32⟩
  | 42 => ⟨S2048x1024, .f32⟩
  | 43 => ⟨S_, .f32⟩
  | 44 => ⟨S2048x1, .f32⟩
  | 45 => ⟨S2048x1, .f32⟩
  | 46 => ⟨S2048x1, .f32⟩
  | 47 => ⟨S2048x1, .f32⟩
  | 48 => ⟨S_, .f32⟩
  | 49 => ⟨S2048x1, .f32⟩
  | 50 => ⟨S2048x1, .f32⟩
  | 51 => ⟨S2048x1024, .f32⟩
  | 52 => ⟨S2048x1024, .f32⟩
  | 53 => ⟨S1x1024, .f32⟩
  | 54 => ⟨S2048x1024, .f32⟩
  | 55 => ⟨S2048x1024, .f32⟩
  | 56 => ⟨S1x1024, .f32⟩
  | 57 => ⟨S2048x1024, .f32⟩
  | 58 => ⟨S2048x1024, .f32⟩
  | 59 => ⟨S2048x5632, .f32⟩
  | 60 => ⟨S2048x5632, .f32⟩
  | 61 => ⟨S2048x2816, .f32⟩
  | 62 => ⟨S2048x2816, .f32⟩
  | 63 => ⟨S2048x2816, .f32⟩
  | 64 => ⟨S2048x2816, .f32⟩
  | 65 => ⟨S_, .f32⟩
  | 66 => ⟨S2048x2816, .f32⟩
  | 67 => ⟨S2048x2816, .f32⟩
  | 68 => ⟨S_, .f32⟩
  | 69 => ⟨S2048x2816, .f32⟩
  | 70 => ⟨S2048x2816, .f32⟩
  | 71 => ⟨S_, .f32⟩
  | 72 => ⟨S2048x2816, .f32⟩
  | 73 => ⟨S2048x2816, .f32⟩
  | 74 => ⟨S2048x2816, .f32⟩
  | 75 => ⟨S2048x2816, .f32⟩
  | 76 => ⟨S2048x2816, .f32⟩
  | 77 => ⟨S_, .f32⟩
  | 78 => ⟨S2048x1024, .f32⟩
  | 79 => ⟨S2048x1024, .f32⟩
  | 80 => ⟨S2048x1024, .f32⟩
  | 81 => ⟨S2048x1024, .f32⟩
  | 82 => ⟨S2048x1024, .f32⟩
  | 83 => ⟨S_, .f32⟩
  | 84 => ⟨S2048, .f32⟩
  | 85 => ⟨S2048x1, .f32⟩
  | 86 => ⟨S_, .f32⟩
  | 87 => ⟨S2048x1, .f32⟩
  | 88 => ⟨S2048x1, .f32⟩
  | 89 => ⟨S2048x1024, .f32⟩
  | 90 => ⟨S2048x1024, .f32⟩
  | 91 => ⟨S2048x1024, .f32⟩
  | 92 => ⟨S_, .f32⟩
  | 93 => ⟨S2048x1024, .f32⟩
  | 94 => ⟨S2048x1024, .f32⟩
  | 95 => ⟨S_, .f32⟩
  | 96 => ⟨S2048, .f32⟩
  | 97 => ⟨S2048x1, .f32⟩
  | 98 => ⟨S_, .f32⟩
  | 99 => ⟨S2048x1, .f32⟩
  | 100 => ⟨S2048x1, .f32⟩
  | 101 => ⟨S2048x1024, .f32⟩
  | 102 => ⟨S2048x1024, .f32⟩
  | 103 => ⟨S_, .f32⟩
  | 104 => ⟨S2048x1, .f32⟩
  | 105 => ⟨S2048x1, .f32⟩
  | 106 => ⟨S2048x1, .f32⟩
  | 107 => ⟨S2048x1, .f32⟩
  | 108 => ⟨S_, .f32⟩
  | 109 => ⟨S2048x1, .f32⟩
  | 110 => ⟨S2048x1, .f32⟩
  | 111 => ⟨S2048x1024, .f32⟩
  | 112 => ⟨S2048x1024, .f32⟩
  | 113 => ⟨S1x1024, .f32⟩
  | 114 => ⟨S2048x1024, .f32⟩
  | 115 => ⟨S2048x1024, .f32⟩
  | 116 => ⟨S1x1024, .f32⟩
  | 117 => ⟨S2048x1024, .f32⟩
  | 118 => ⟨S2048x1024, .f32⟩
  | 119 => ⟨S2048x1024, .f32⟩
  | 120 => ⟨S_, .f32⟩
  | 121 => ⟨S1024, .f32⟩
  | 122 => ⟨S1x1024, .f32⟩
  | 123 => ⟨S_, .f32⟩
  | 124 => ⟨S1024, .f32⟩
  | 125 => ⟨S2048x1024, .f32⟩
  | 126 => ⟨S_, .f32⟩
  | 127 => ⟨S1024, .f32⟩
  | _ => ⟨S2048x1024, .f32⟩

abbrev hbmTy0_1 (i : Nat) : BufTy := match i % 128 with
  | 0 => ⟨S1x1024, .f32⟩
  | 1 => ⟨S2048x1024, .f32⟩
  | 2 => ⟨S2048x1024, .f32⟩
  | 3 => ⟨S_, .f32⟩
  | 4 => ⟨S1024, .f32⟩
  | 5 => ⟨S2048x1024, .f32⟩
  | 6 => ⟨S_, .f32⟩
  | 7 => ⟨S2048, .f32⟩
  | 8 => ⟨S2048x1, .f32⟩
  | 9 => ⟨S2048x1024, .f32⟩
  | 10 => ⟨S2048x1024, .f32⟩
  | 11 => ⟨S2048x1, .f32⟩
  | 12 => ⟨S2048x1024, .f32⟩
  | 13 => ⟨S_, .f32⟩
  | 14 => ⟨S2048, .f32⟩
  | 15 => ⟨S2048x1, .f32⟩
  | 16 => ⟨S_, .f32⟩
  | 17 => ⟨S2048x1, .f32⟩
  | 18 => ⟨S2048x1, .f32⟩
  | 19 => ⟨S_, .f32⟩
  | 20 => ⟨S2048, .f32⟩
  | 21 => ⟨S2048x1024, .f32⟩
  | 22 => ⟨S2048x1024, .f32⟩
  | 23 => ⟨S2048x1024, .f32⟩
  | 24 => ⟨S_, .f32⟩
  | 25 => ⟨S2048, .f32⟩
  | 26 => ⟨S2048x1, .f32⟩
  | 27 => ⟨S2048x1024, .f32⟩
  | 28 => ⟨S2048x1, .f32⟩
  | 29 => ⟨S_, .f32⟩
  | 30 => ⟨S2048x1, .f32⟩
  | 31 => ⟨S2048x1, .f32⟩
  | 32 => ⟨S_, .f32⟩
  | 33 => ⟨S2048, .f32⟩
  | 34 => ⟨S2048x1024, .f32⟩
  | 35 => ⟨S2048x1024, .f32⟩
  | 36 => ⟨S2048x2816, .f32⟩
  | 37 => ⟨S_, .f32⟩
  | 38 => ⟨S2048x1024, .f32⟩
  | 39 => ⟨S2048x1024, .f32⟩
  | 40 => ⟨S2048x2816, .f32⟩
  | 41 => ⟨S2048x2816, .f32⟩
  | 42 => ⟨S2048x2816, .f32⟩
  | 43 => ⟨S2048x2816, .f32⟩
  | 44 => ⟨S2048x2816, .f32⟩
  | 45 => ⟨S2048x2816, .f32⟩
  | 46 => ⟨S_, .f32⟩
  | 47 => ⟨S2048x5632, .f32⟩
  | 48 => ⟨S_, .f32⟩
  | 49 => ⟨S2048x5632, .f32⟩
  | 50 => ⟨S2048x5632, .f32⟩
  | 51 => ⟨S2048x1024, .f32⟩
  | 52 => ⟨S2048x1024, .f32⟩
  | 53 => ⟨S_, .f32⟩
  | 54 => ⟨S1024, .f32⟩
  | 55 => ⟨S1x1024, .f32⟩
  | 56 => ⟨S_, .f32⟩
  | 57 => ⟨S1024, .f32⟩
  | 58 => ⟨S2048x1024, .f32⟩
  | 59 => ⟨S_, .f32⟩
  | 60 => ⟨S1024, .f32⟩
  | 61 => ⟨S1x1024, .f32⟩
  | 62 => ⟨S2048x1024, .f32⟩
  | 63 => ⟨S2048x1024, .f32⟩
  | 64 => ⟨S_, .f32⟩
  | 65 => ⟨S1024, .f32⟩
  | 66 => ⟨S2048x1024, .f32⟩
  | 67 => ⟨S_, .f32⟩
  | 68 => ⟨S2048, .f32⟩
  | 69 => ⟨S2048x1, .f32⟩
  | 70 => ⟨S2048x1024, .f32⟩
  | 71 => ⟨S2048x1024, .f32⟩
  | 72 => ⟨S2048x1, .f32⟩
  | 73 => ⟨S2048x1024, .f32⟩
  | 74 => ⟨S_, .f32⟩
  | 75 => ⟨S2048, .f32⟩
  | 76 => ⟨S2048x1, .f32⟩
  | 77 => ⟨S_, .f32⟩
  | 78 => ⟨S2048x1, .f32⟩
  | 79 => ⟨S2048x1, .f32⟩
  | 80 => ⟨S_, .f32⟩
  | 81 => ⟨S2048, .f32⟩
  | 82 => ⟨S2048x1024, .f32⟩
  | 83 => ⟨S2048x1024, .f32⟩
  | 84 => ⟨S2048x1024, .f32⟩
  | 85 => ⟨S_, .f32⟩
  | 86 => ⟨S2048, .f32⟩
  | 87 => ⟨S2048x1, .f32⟩
  | 88 => ⟨S2048x1024, .f32⟩
  | 89 => ⟨S2048x1, .f32⟩
  | 90 => ⟨S_, .f32⟩
  | 91 => ⟨S2048x1, .f32⟩
  | 92 => ⟨S2048x1, .f32⟩
  | 93 => ⟨S_, .f32⟩
  | 94 => ⟨S2048, .f32⟩
  | 95 => ⟨S2048x1024, .f32⟩
  | 96 => ⟨S2048x1024, .f32⟩
  | 97 => ⟨S2048x1024, .f32⟩
  | 98 => ⟨S2048x1024, .bf16⟩
  | 99 => ⟨S2048x2816, .bf16⟩
  | 100 => ⟨S2048x5632, .bf16⟩
  | 101 => ⟨S2048x1024, .bf16⟩
  | 102 => ⟨S1x1024, .f32⟩
  | 103 => ⟨S1x1024, .f32⟩
  | 104 => ⟨S1x1024, .f32⟩
  | 105 => ⟨S1x1024, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_cst_1 : Ref sig .tc := ⟨.hbm, 15, rfl⟩
abbrev main_v2 : Ref sig .tc := ⟨.hbm, 16, rfl⟩
abbrev main_cst_2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_v8 : Ref sig .tc := ⟨.hbm, 24, rfl⟩
abbrev main_v9 : Ref sig .tc := ⟨.hbm, 25, rfl⟩
abbrev main_cst_4 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_5 : Ref sig .tc := ⟨.hbm, 32, rfl⟩
abbrev main_v15 : Ref sig .tc := ⟨.hbm, 33, rfl⟩
abbrev main_v16 : Ref sig .tc := ⟨.hbm, 34, rfl⟩
abbrev main_cst_6 : Ref sig .tc := ⟨.hbm, 35, rfl⟩
abbrev main_v17 : Ref sig .tc := ⟨.hbm, 36, rfl⟩
abbrev main_v18 : Ref sig .tc := ⟨.hbm, 37, rfl⟩
abbrev main_cst_7 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_8 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_9 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_call0_v0 : Ref sig .tc := ⟨.hbm, 63, rfl⟩
abbrev main_call0_v1 : Ref sig .tc := ⟨.hbm, 64, rfl⟩
abbrev main_call0_cst : Ref sig .tc := ⟨.hbm, 65, rfl⟩
abbrev main_call0_v2 : Ref sig .tc := ⟨.hbm, 66, rfl⟩
abbrev main_call0_v3 : Ref sig .tc := ⟨.hbm, 67, rfl⟩
abbrev main_call0_cst_0 : Ref sig .tc := ⟨.hbm, 68, rfl⟩
abbrev main_call0_v4 : Ref sig .tc := ⟨.hbm, 69, rfl⟩
abbrev main_v41_2 : Ref sig .tc := ⟨.hbm, 70, rfl⟩
abbrev main_call0_cst_1 : Ref sig .tc := ⟨.hbm, 71, rfl⟩
abbrev main_call0_v6 : Ref sig .tc := ⟨.hbm, 72, rfl⟩
abbrev main_call0_v7 : Ref sig .tc := ⟨.hbm, 73, rfl⟩
abbrev main_v41_1 : Ref sig .tc := ⟨.hbm, 74, rfl⟩
abbrev main_v41_0 : Ref sig .tc := ⟨.hbm, 75, rfl⟩
abbrev main_v42 : Ref sig .tc := ⟨.hbm, 76, rfl⟩
abbrev main_cst_10 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_cst_11 : Ref sig .tc := ⟨.hbm, 83, rfl⟩
abbrev main_v48 : Ref sig .tc := ⟨.hbm, 84, rfl⟩
abbrev main_v49 : Ref sig .tc := ⟨.hbm, 85, rfl⟩
abbrev main_cst_12 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_cst_13 : Ref sig .tc := ⟨.hbm, 92, rfl⟩
abbrev main_v55 : Ref sig .tc := ⟨.hbm, 93, rfl⟩
abbrev main_v56 : Ref sig .tc := ⟨.hbm, 94, rfl⟩
abbrev main_cst_14 : Ref sig .tc := ⟨.hbm, 95, rfl⟩
abbrev main_v57 : Ref sig .tc := ⟨.hbm, 96, rfl⟩
abbrev main_v58 : Ref sig .tc := ⟨.hbm, 97, rfl⟩
abbrev main_cst_15 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_cst_16 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_17 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_cst_18 : Ref sig .tc := ⟨.hbm, 120, rfl⟩
abbrev main_v78 : Ref sig .tc := ⟨.hbm, 121, rfl⟩
abbrev main_v79 : Ref sig .tc := ⟨.hbm, 122, rfl⟩
abbrev main_cst_19 : Ref sig .tc := ⟨.hbm, 123, rfl⟩
abbrev main_v80 : Ref sig .tc := ⟨.hbm, 124, rfl⟩
abbrev main_v81 : Ref sig .tc := ⟨.hbm, 125, rfl⟩
abbrev main_cst_20 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_cst_21 : Ref sig .tc := ⟨.hbm, 131, rfl⟩
abbrev main_v86 : Ref sig .tc := ⟨.hbm, 132, rfl⟩
abbrev main_v87 : Ref sig .tc := ⟨.hbm, 133, rfl⟩
abbrev main_cst_22 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_cst_23 : Ref sig .tc := ⟨.hbm, 141, rfl⟩
abbrev main_v94 : Ref sig .tc := ⟨.hbm, 142, rfl⟩
abbrev main_v95 : Ref sig .tc := ⟨.hbm, 143, rfl⟩
abbrev main_cst_24 : Ref sig .tc := ⟨.hbm, 144, rfl⟩
abbrev main_v96 : Ref sig .tc := ⟨.hbm, 145, rfl⟩
abbrev main_v97 : Ref sig .tc := ⟨.hbm, 146, rfl⟩
abbrev main_cst_25 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_cst_26 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_cst_27 : Ref sig .tc := ⟨.hbm, 157, rfl⟩
abbrev main_v106 : Ref sig .tc := ⟨.hbm, 158, rfl⟩
abbrev main_v107 : Ref sig .tc := ⟨.hbm, 159, rfl⟩
abbrev main_cst_28 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_cst_29 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_call1_v0 : Ref sig .tc := ⟨.hbm, 170, rfl⟩
abbrev main_call1_v1 : Ref sig .tc := ⟨.hbm, 171, rfl⟩
abbrev main_call1_v2 : Ref sig .tc := ⟨.hbm, 172, rfl⟩
abbrev main_v116 : Ref sig .tc := ⟨.hbm, 173, rfl⟩
abbrev main_cst_30 : Ref sig .tc := ⟨.hbm, 174, rfl⟩
abbrev main_v117 : Ref sig .tc := ⟨.hbm, 175, rfl⟩
abbrev main_cst_31 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_cst_32 : Ref sig .tc := ⟨.hbm, 181, rfl⟩
abbrev main_v122 : Ref sig .tc := ⟨.hbm, 182, rfl⟩
abbrev main_v123 : Ref sig .tc := ⟨.hbm, 183, rfl⟩
abbrev main_cst_33 : Ref sig .tc := ⟨.hbm, 184, rfl⟩
abbrev main_v124 : Ref sig .tc := ⟨.hbm, 185, rfl⟩
abbrev main_v125 : Ref sig .tc := ⟨.hbm, 186, rfl⟩
abbrev main_cst_34 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_cst_35 : Ref sig .tc := ⟨.hbm, 192, rfl⟩
abbrev main_v130 : Ref sig .tc := ⟨.hbm, 193, rfl⟩
abbrev main_v131 : Ref sig .tc := ⟨.hbm, 194, rfl⟩
abbrev main_cst_36 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_cst_37 : Ref sig .tc := ⟨.hbm, 202, rfl⟩
abbrev main_v138 : Ref sig .tc := ⟨.hbm, 203, rfl⟩
abbrev main_v139 : Ref sig .tc := ⟨.hbm, 204, rfl⟩
abbrev main_cst_38 : Ref sig .tc := ⟨.hbm, 205, rfl⟩
abbrev main_v140 : Ref sig .tc := ⟨.hbm, 206, rfl⟩
abbrev main_v141 : Ref sig .tc := ⟨.hbm, 207, rfl⟩
abbrev main_cst_39 : Ref sig .tc := ⟨.hbm, 208, rfl⟩
abbrev main_v142 : Ref sig .tc := ⟨.hbm, 209, rfl⟩
abbrev main_v143 : Ref sig .tc := ⟨.hbm, 210, rfl⟩
abbrev main_v144 : Ref sig .tc := ⟨.hbm, 211, rfl⟩
abbrev main_v145 : Ref sig .tc := ⟨.hbm, 212, rfl⟩
abbrev main_cst_40 : Ref sig .tc := ⟨.hbm, 213, rfl⟩
abbrev main_v146 : Ref sig .tc := ⟨.hbm, 214, rfl⟩
abbrev main_v147 : Ref sig .tc := ⟨.hbm, 215, rfl⟩
abbrev main_v148 : Ref sig .tc := ⟨.hbm, 216, rfl⟩
abbrev main_v149 : Ref sig .tc := ⟨.hbm, 217, rfl⟩
abbrev main_cst_41 : Ref sig .tc := ⟨.hbm, 218, rfl⟩
abbrev main_v150 : Ref sig .tc := ⟨.hbm, 219, rfl⟩
abbrev main_v151 : Ref sig .tc := ⟨.hbm, 220, rfl⟩
abbrev main_cst_42 : Ref sig .tc := ⟨.hbm, 221, rfl⟩
abbrev main_v152 : Ref sig .tc := ⟨.hbm, 222, rfl⟩
abbrev main_v153 : Ref sig .tc := ⟨.hbm, 223, rfl⟩
abbrev main_v154 : Ref sig .tc := ⟨.hbm, 224, rfl⟩
abbrev main_v155 : Ref sig .tc := ⟨.hbm, 225, rfl⟩
abbrev main_v156 : Ref sig .tc := ⟨.hbm, 226, rfl⟩
abbrev main_v157 : Ref sig .tc := ⟨.hbm, 227, rfl⟩
abbrev main_v158 : Ref sig .tc := ⟨.hbm, 228, rfl⟩
abbrev main_v159 : Ref sig .tc := ⟨.hbm, 229, rfl⟩
abbrev main_v160 : Ref sig .tc := ⟨.hbm, 230, rfl⟩
abbrev main_v161 : Ref sig .tc := ⟨.hbm, 231, rfl⟩
abbrev main_v162 : Ref sig .tc := ⟨.hbm, 232, rfl⟩
abbrev main_v163 : Ref sig .tc := ⟨.hbm, 233, rfl⟩

abbrev nD : Nat := 1
abbrev τ : Topo := Topo.v7x

variable {F : FTy → Type} [FloatOps F]
-- ==== WoFwd.lean ====
abbrev S2048x384 : Shape := ⟨2, ![2048, 384]⟩
abbrev S2048x256 : Shape := ⟨2, ![2048, 256]⟩
abbrev S2048x1024 : Shape := ⟨2, ![2048, 1024]⟩
abbrev S1024x1024 : Shape := ⟨2, ![1024, 1024]⟩
abbrev S1024 : Shape := ⟨1, ![1024]⟩
abbrev S1x1024 : Shape := ⟨2, ![1, 1024]⟩
abbrev S2048x1 : Shape := ⟨2, ![2048, 1]⟩
abbrev S512x384 : Shape := ⟨2, ![512, 384]⟩
abbrev S512x256 : Shape := ⟨2, ![512, 256]⟩
abbrev S512x1024 : Shape := ⟨2, ![512, 1024]⟩
abbrev S512x1 : Shape := ⟨2, ![512, 1]⟩
abbrev S384x1024 : Shape := ⟨2, ![384, 1024]⟩
abbrev S256x1024 : Shape := ⟨2, ![256, 1024]⟩
abbrev S512 : Shape := ⟨1, ![512]⟩

abbrev nBuf : Space → Nat
  | .hbm => 16
  | .vmem => 17
  | .smem => 0
  | _ => 0

abbrev bufTy : (tb : Table) → Fin (tcTables nBuf tb) → BufTy
  | .hbm, ⟨0, _⟩ => ⟨S2048x384, .f32⟩
  | .hbm, ⟨1, _⟩ => ⟨S2048x256, .f32⟩
  | .hbm, ⟨2, _⟩ => ⟨S2048x384, .f32⟩
  | .hbm, ⟨3, _⟩ => ⟨S2048x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S2048x384, .bf16⟩
  | .hbm, ⟨8, _⟩ => ⟨S2048x256, .bf16⟩
  | .hbm, ⟨9, _⟩ => ⟨S2048x384, .bf16⟩
  | .hbm, ⟨10, _⟩ => ⟨S1024x1024, .bf16⟩
  | .hbm, ⟨11, _⟩ => ⟨S1x1024, .f32⟩
  | .hbm, ⟨12, _⟩ => ⟨S1x1024, .f32⟩
  | .hbm, ⟨13, _⟩ => ⟨S2048x1024, .f32⟩
  | .hbm, ⟨14, _⟩ => ⟨S2048x1, .f32⟩
  | .hbm, ⟨15, _⟩ => ⟨S2048x1024, .bf16⟩
  | .local _ .vmem, ⟨0, _⟩ => ⟨S512x384, .bf16⟩
  | .local _ .vmem, ⟨1, _⟩ => ⟨S512x384, .bf16⟩
  | .local _ .vmem, ⟨2, _⟩ => ⟨S512x256, .bf16⟩
  | .local _ .vmem, ⟨3, _⟩ => ⟨S512x256, .bf16⟩
  | .local _ .vmem, ⟨4, _⟩ => ⟨S512x384, .bf16⟩
  | .local _ .vmem, ⟨5, _⟩ => ⟨S512x384, .bf16⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1, .f32⟩
  | .local _ .vmem, ⟨14, _⟩ => ⟨S512x1, .f32⟩
  | .local _ .vmem, ⟨15, _⟩ => ⟨S512x1024, .bf16⟩
  | .local _ .vmem, ⟨16, _⟩ => ⟨S512x1024, .bf16⟩
  | _, _ => ⟨S2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== WoFwdRefIdeal.lean ====
abbrev S2048x384 : Shape := ⟨2, ![2048, 384]⟩
abbrev S2048x256 : Shape := ⟨2, ![2048, 256]⟩
abbrev S2048x1024 : Shape := ⟨2, ![2048, 1024]⟩
abbrev S1024x1024 : Shape := ⟨2, ![1024, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S2048x384, .f32⟩
  | .hbm, ⟨1, _⟩ => ⟨S2048x256, .f32⟩
  | .hbm, ⟨2, _⟩ => ⟨S2048x384, .f32⟩
  | .hbm, ⟨3, _⟩ => ⟨S2048x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S2048x1, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S1x1024, .f32⟩
  | .hbm, ⟨37, _⟩ => ⟨S2048x1024, .f32⟩
  | .hbm, ⟨38, _⟩ => ⟨S2048x1024, .f32⟩
  | .hbm, ⟨39, _⟩ => ⟨S1x1024, .f32⟩
  | .hbm, ⟨40, _⟩ => ⟨S2048x1024, .f32⟩
  | .hbm, ⟨41, _⟩ => ⟨S2048x1024, .f32⟩
  | .hbm, ⟨42, _⟩ => ⟨S2048x1024, .bf16⟩
  | _, _ => ⟨S2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== MlpFwd.lean ====
abbrev S2048x1024 : Shape := ⟨2, ![2048, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x5632 : Shape := ⟨2, ![2048, 5632]⟩
abbrev S256x1024 : Shape := ⟨2, ![256, 1024]⟩
abbrev S256x5632 : Shape := ⟨2, ![256, 5632]⟩
abbrev S256x1 : Shape := ⟨2, ![256, 1]⟩
abbrev S256x2816 : Shape := ⟨2, ![256, 2816]⟩
abbrev S256 : Shape := ⟨1, ![256]⟩

abbrev nBuf : Space → Nat
  | .hbm => 41
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x1, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S1x1024, .f32⟩
  | .hbm, ⟨32, _⟩ => ⟨S1x1024, .f32⟩
  | .hbm, ⟨33, _⟩ => ⟨S1024x5632, .bf16⟩
  | .hbm, ⟨34, _⟩ => ⟨S2816x1024, .bf16⟩
  | .hbm, ⟨35, _⟩ => ⟨S1x1024, .f32⟩
  | .hbm, ⟨36, _⟩ => ⟨S1x1024, .f32⟩
  | .hbm, ⟨37, _⟩ => ⟨S2048x5632, .f32⟩
  | .hbm, ⟨38, _⟩ => ⟨S2048x1024, .f32⟩
  | .hbm, ⟨39, _⟩ => ⟨S2048x1, .f32⟩
  | .hbm, ⟨40, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1024x5632, .bf16⟩
  | .local _ .vmem, ⟨5, _⟩ => ⟨S2816x1024, .bf16⟩
  | .local _ .vmem, ⟨6, _⟩ => ⟨S1x1024, .f32⟩
  | .local _ .vmem, ⟨7, _⟩ => ⟨S1x1024, .f32⟩
  | .local _ .vmem, ⟨8, _⟩ => ⟨S256x5632, .f32⟩
  | .local _ .vmem, ⟨9, _⟩ => ⟨S256x5632, .f32⟩
  | .local _ .vmem, ⟨10, _⟩ => ⟨S256x1024, .f32⟩
  | .local _ .vmem, ⟨11, _⟩ => ⟨S256x1024, .f32⟩
  | .local _ .vmem, ⟨12, _⟩ => ⟨S256x1, .f32⟩
  | .local _ .vmem, ⟨13, _⟩ => ⟨S256x1, .f32⟩
  | .local _ .vmem, ⟨14, _⟩ => ⟨S256x1024, .f32⟩
  | .local _ .vmem, ⟨15, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24_0 : Ref sig .tc := ⟨.hbm, 37, rfl⟩
abbrev main_v24_1 : Ref sig .tc := ⟨.hbm, 38, rfl⟩
abbrev main_v24_2 : Ref sig .tc := ⟨.hbm, 39, rfl⟩
abbrev main_v24_3 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x5632 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MlpFwdRefIdeal.lean ====
abbrev S2048x1024 : Shape := ⟨2, ![2048, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x5632 : Shape := ⟨2, ![2048, 5632]⟩
abbrev S2048x2816 : Shape := ⟨2, ![2048, 2816]⟩

abbrev nBuf : Space → Nat
  | .hbm => 84
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S2048x1, .f32⟩
  | .hbm, ⟨29, _⟩ => ⟨S2048x1024, .f32⟩
  | .hbm, ⟨30, _⟩ => ⟨S2048x1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S1x1024, .f32⟩
  | .hbm, ⟨35, _⟩ => ⟨S2048x1024, .f32⟩
  | .hbm, ⟨36, _⟩ => ⟨S2048x1024, .f32⟩
  | .hbm, ⟨37, _⟩ => ⟨S2048x5632, .f32⟩
  | .hbm, ⟨38, _⟩ => ⟨S2048x2816, .f32⟩
  | .hbm, ⟨39, _⟩ => ⟨S2048x2816, .f32⟩
  | .hbm, ⟨40, _⟩ => ⟨S_, .f32⟩
  | .hbm, ⟨41, _⟩ => ⟨S2048x1024, .f32⟩
  | .hbm, ⟨42, _⟩ => ⟨S2048x1024, .f32⟩
  | .hbm, ⟨43, _⟩ => ⟨S2048x2816, .f32⟩
  | .hbm, ⟨44, _⟩ => ⟨S2048x2816, .f32⟩
  | .hbm, ⟨45, _⟩ => ⟨S_, .f32⟩
  | .hbm, ⟨46, _⟩ => ⟨S2048x2816, .f32⟩
  | .hbm, ⟨47, _⟩ => ⟨S2048x2816, .f32⟩
  | .hbm, ⟨48, _⟩ => ⟨S_, .f32⟩
  | .hbm, ⟨49, _⟩ => ⟨S2048x2816, .f32⟩
  | .hbm, ⟨50, _⟩ => ⟨S2048x2816, .f32⟩
  | .hbm, ⟨51, _⟩ => ⟨S2048x2816, .f32⟩
  | .hbm, ⟨52, _⟩ => ⟨S2048x2816, .f32⟩
  | .hbm, ⟨53, _⟩ => ⟨S2048x1024, .f32⟩
  | .hbm, ⟨54, _⟩ => ⟨S2048x1024, .f32⟩
  | .hbm, ⟨55, _⟩ => ⟨S_, .f32⟩
  | .hbm, ⟨56, _⟩ => ⟨S2048, .f32⟩
  | .hbm, ⟨57, _⟩ => ⟨S2048x1, .f32⟩
  | .hbm, ⟨58, _⟩ => ⟨S_, .f32⟩
  | .hbm, ⟨59, _⟩ => ⟨S2048x1, .f32⟩
  | .hbm, ⟨60, _⟩ => ⟨S2048x1, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S_, .f32⟩
  | .hbm, ⟨65, _⟩ => ⟨S2048, .f32⟩
  | .hbm, ⟨66, _⟩ => ⟨S2048x1, .f32⟩
  | .hbm, ⟨67, _⟩ => ⟨S_, .f32⟩
  | .hbm, ⟨68, _⟩ => ⟨S2048x1, .f32⟩
  | .hbm, ⟨69, _⟩ => ⟨S2048x1, .f32⟩
  | .hbm, ⟨70, _⟩ => ⟨S_, .f32⟩
  | .hbm, ⟨71, _⟩ => ⟨S2048x1, .f32⟩
  | .hbm, ⟨72, _⟩ => ⟨S2048x1, .f32⟩
  | .hbm, ⟨73, _⟩ => ⟨S2048x1, .f32⟩
  | .hbm, ⟨74, _⟩ => ⟨S2048x1024, .f32⟩
  | .hbm, ⟨75, _⟩ => ⟨S2048x1024, .f32⟩
  | .hbm, ⟨76, _⟩ => ⟨S2048x1024, .f32⟩
  | .hbm, ⟨77, _⟩ => ⟨S2048x1024, .f32⟩
  | .hbm, ⟨78, _⟩ => ⟨S1x1024, .f32⟩
  | .hbm, ⟨79, _⟩ => ⟨S2048x1024, .f32⟩
  | .hbm, ⟨80, _⟩ => ⟨S2048x1024, .f32⟩
  | .hbm, ⟨81, _⟩ => ⟨S1x1024, .f32⟩
  | .hbm, ⟨82, _⟩ => ⟨S2048x1024, .f32⟩
  | .hbm, ⟨83, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_5 : Ref sig .tc := ⟨.hbm, 55, rfl⟩
abbrev main_v33 : Ref sig .tc := ⟨.hbm, 56, rfl⟩
abbrev main_v34 : Ref sig .tc := ⟨.hbm, 57, rfl⟩
abbrev main_cst_6 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_7 : Ref sig .tc := ⟨.hbm, 64, rfl⟩
abbrev main_v40 : Ref sig .tc := ⟨.hbm, 65, rfl⟩
abbrev main_v41 : Ref sig .tc := ⟨.hbm, 66, rfl⟩
abbrev main_cst_8 : Ref sig .tc := ⟨.hbm, 67, rfl⟩
abbrev main_v42 : Ref sig .tc := ⟨.hbm, 68, rfl⟩
abbrev main_v43 : Ref sig .tc := ⟨.hbm, 69, rfl⟩
abbrev main_cst_9 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩

abbrev nD : Nat := 1
abbrev τ : Topo := Topo.v7x

variable {F : FTy → Type} [FloatOps F]
-- ==== ConvFwd.lean ====
abbrev S2048x2176 : Shape := ⟨2, ![2048, 2176]⟩
abbrev S3x384 : Shape := ⟨2, ![3, 384]⟩
abbrev S2048x384 : Shape := ⟨2, ![2048, 384]⟩
abbrev S2048x128 : Shape := ⟨2, ![2048, 128]⟩
abbrev S3x128 : Shape := ⟨2, ![3, 128]⟩
abbrev S1x128 : Shape := ⟨2, ![1, 128]⟩

abbrev nBuf : Space → Nat
  | .hbm => 3
  | .vmem => 10
  | .smem => 0
  | _ => 0

abbrev bufTy : (tb : Table) → Fin (tcTables nBuf tb) → BufTy
  | .hbm, ⟨0, _⟩ => ⟨S2048x2176, .f32⟩
  | .hbm, ⟨1, _⟩ => ⟨S3x384, .f32⟩
  | .hbm, ⟨2, _⟩ => ⟨S2048x384, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S3x128, .f32⟩
  | .local _ .vmem, ⟨7, _⟩ => ⟨S3x128, .f32⟩
  | .local _ .vmem, ⟨8, _⟩ => ⟨S2048x128, .bf16⟩
  | .local _ .vmem, ⟨9, _⟩ => ⟨S2048x128, .bf16⟩
  | _, _ => ⟨S2048x2176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c3_i32 : BitVec 32 := 3#32
  let v0 : BitVec 32 := Scalar.addi c3_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c6_i32 : BitVec 32 := 6#32
  let v0 : BitVec 32 := Scalar.addi c6_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ConvFwdRefIdeal.lean ====
abbrev S2048x2176 : Shape := ⟨2, ![2048, 2176]⟩
abbrev S3x384 : Shape := ⟨2, ![3, 384]⟩
abbrev S2048x384 : Shape := ⟨2, ![2048, 384]⟩
abbrev S1x2048x384 : Shape := ⟨3, ![1, 2048, 384]⟩
abbrev S_ : Shape := ⟨0, ![]⟩
abbrev S1x2x384 : Shape := ⟨3, ![1, 2, 384]⟩
abbrev S1x2050x384 : Shape := ⟨3, ![1, 2050, 384]⟩
abbrev S1x384 : Shape := ⟨2, ![1, 384]⟩
abbrev S384 : Shape := ⟨1, ![384]⟩
abbrev S1x1x384 : Shape := ⟨3, ![1, 1, 384]⟩

abbrev nBuf : Space → Nat
  | .hbm => 35
  | .vmem => 0
  | .smem => 0
  | _ => 0

abbrev bufTy : (tb : Table) → Fin (tcTables nBuf tb) → BufTy
  | .hbm, ⟨0, _⟩ => ⟨S2048x2176, .f32⟩
  | .hbm, ⟨1, _⟩ => ⟨S3x384, .f32⟩
  | .hbm, ⟨2, _⟩ => ⟨S2048x384, .f32⟩
  | .hbm, ⟨3, _⟩ => ⟨S1x2048x384, .f32⟩
  | .hbm, ⟨4, _⟩ => ⟨S2048x384, .f32⟩
  | .hbm, ⟨5, _⟩ => ⟨S1x2048x384, .f32⟩
  | .hbm, ⟨6, _⟩ => ⟨S2048x384, .f32⟩
  | .hbm, ⟨7, _⟩ => ⟨S1x2048x384, .f32⟩
  | .hbm, ⟨8, _⟩ => ⟨S1x2048x384, .f32⟩
  | .hbm, ⟨9, _⟩ => ⟨S_, .f32⟩
  | .hbm, ⟨10, _⟩ => ⟨S1x2x384, .f32⟩
  | .hbm, ⟨11, _⟩ => ⟨S1x2050x384, .f32⟩
  | .hbm, ⟨12, _⟩ => ⟨S1x384, .f32⟩
  | .hbm, ⟨13, _⟩ => ⟨S384, .f32⟩
  | .hbm, ⟨14, _⟩ => ⟨S1x2048x384, .f32⟩
  | .hbm, ⟨15, _⟩ => ⟨S1x1x384, .f32⟩
  | .hbm, ⟨16, _⟩ => ⟨S1x2048x384, .f32⟩
  | .hbm, ⟨17, _⟩ => ⟨S1x2048x384, .f32⟩
  | .hbm, ⟨18, _⟩ => ⟨S1x384, .f32⟩
  | .hbm, ⟨19, _⟩ => ⟨S384, .f32⟩
  | .hbm, ⟨20, _⟩ => ⟨S1x2048x384, .f32⟩
  | .hbm, ⟨21, _⟩ => ⟨S1x1x384, .f32⟩
  | .hbm, ⟨22, _⟩ => ⟨S1x2048x384, .f32⟩
  | .hbm, ⟨23, _⟩ => ⟨S1x2048x384, .f32⟩
  | .hbm, ⟨24, _⟩ => ⟨S1x2048x384, .f32⟩
  | .hbm, ⟨25, _⟩ => ⟨S1x384, .f32⟩
  | .hbm, ⟨26, _⟩ => ⟨S384, .f32⟩
  | .hbm, ⟨27, _⟩ => ⟨S1x2048x384, .f32⟩
  | .hbm, ⟨28, _⟩ => ⟨S1x1x384, .f32⟩
  | .hbm, ⟨29, _⟩ => ⟨S1x2048x384, .f32⟩
  | .hbm, ⟨30, _⟩ => ⟨S1x2048x384, .f32⟩
  | .hbm, ⟨31, _⟩ => ⟨S1x2048x384, .f32⟩
  | .hbm, ⟨32, _⟩ => ⟨S1x2048x384, .f32⟩
  | .hbm, ⟨33, _⟩ => ⟨S2048x384, .f32⟩
  | .hbm, ⟨34, _⟩ => ⟨S2048x384, .bf16⟩
  | _, _ => ⟨S2048x2176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩

abbrev nD : Nat := 1
abbrev τ : Topo := Topo.v7x

variable {F : FTy → Type} [FloatOps F]
-- ==== PoolFwd.lean ====
abbrev S2048x2176 : Shape := ⟨2, ![2048, 2176]⟩
abbrev S4x64x64 : Shape := ⟨3, ![4, 64, 64]⟩
abbrev S256 : Shape := ⟨1, ![256]⟩
abbrev S1x256 : Shape := ⟨2, ![1, 256]⟩
abbrev S2048x256 : Shape := ⟨2, ![2048, 256]⟩
abbrev S2048x128 : Shape := ⟨2, ![2048, 128]⟩
abbrev S2x64x64 : Shape := ⟨3, ![2, 64, 64]⟩
abbrev S1x128 : Shape := ⟨2, ![1, 128]⟩
abbrev S64x64 : Shape := ⟨2, ![64, 64]⟩
abbrev S1x64x64 : Shape := ⟨3, ![1, 64, 64]⟩
abbrev S64x128 : Shape := ⟨2, ![64, 128]⟩
abbrev S128x128 : Shape := ⟨2, ![128, 128]⟩

abbrev nBuf : Space → Nat
  | .hbm => 5
  | .vmem => 8
  | .smem => 0
  | _ => 0

abbrev bufTy : (tb : Table) → Fin (tcTables nBuf tb) → BufTy
  | .hbm, ⟨0, _⟩ => ⟨S2048x2176, .f32⟩
  | .hbm, ⟨1, _⟩ => ⟨S4x64x64, .f32⟩
  | .hbm, ⟨2, _⟩ => ⟨S256, .f32⟩
  | .hbm, ⟨3, _⟩ => ⟨S1x256, .f32⟩
  | .hbm, ⟨4, _⟩ => ⟨S2048x256, .bf16⟩
  | .local _ .vmem, ⟨0, _⟩ => ⟨S2048x128, .f32⟩
  | .local _ .vmem, ⟨1, _⟩ => ⟨S2048x128, .f32⟩
  | .local _ .vmem, ⟨2, _⟩ => ⟨S2x64x64, .f32⟩
  | .local _ .vmem, ⟨3, _⟩ => ⟨S2x64x64, .f32⟩
  | .local _ .vmem, ⟨4, _⟩ => ⟨S1x128, .f32⟩
  | .local _ .vmem, ⟨5, _⟩ => ⟨S1x128, .f32⟩
  | .local _ .vmem, ⟨6, _⟩ => ⟨S2048x128, .bf16⟩
  | .local _ .vmem, ⟨7, _⟩ => ⟨S2048x128, .bf16⟩
  | _, _ => ⟨S2048x2176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c9_i32 : BitVec 32 := 9#32
  let v0 : BitVec 32 := Scalar.addi c9_i32 arg0
  let c0_i32 : BitVec 32 := 0#32
  let c0_i32_0 : BitVec 32 := 0#32
  ![c0_i32.toNat, v0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PoolFwdRefIdeal.lean ====
abbrev S2048x2176 : Shape := ⟨2, ![2048, 2176]⟩
abbrev S4x64x64 : Shape := ⟨3, ![4, 64, 64]⟩
abbrev S256 : Shape := ⟨1, ![256]⟩
abbrev S2048x256 : Shape := ⟨2, ![2048, 256]⟩
abbrev S1x2048x256 : Shape := ⟨3, ![1, 2048, 256]⟩
abbrev S1x2048x4x64 : Shape := ⟨4, ![1, 2048, 4, 64]⟩
abbrev S_ : Shape := ⟨0, ![]⟩
abbrev S2048 : Shape := ⟨1, ![2048]⟩
abbrev S1x2048x1x64 : Shape := ⟨4, ![1, 2048, 1, 64]⟩
abbrev S1x2048x64 : Shape := ⟨3, ![1, 2048, 64]⟩
abbrev S1x2x64 : Shape := ⟨3, ![1, 2, 64]⟩
abbrev S1x2050x64 : Shape := ⟨3, ![1, 2050, 64]⟩
abbrev S1x2048x1 : Shape := ⟨3, ![1, 2048, 1]⟩
abbrev S1x4x64 : Shape := ⟨3, ![1, 4, 64]⟩
abbrev S1x2052x64 : Shape := ⟨3, ![1, 2052, 64]⟩
abbrev S1x8x64 : Shape := ⟨3, ![1, 8, 64]⟩
abbrev S1x2056x64 : Shape := ⟨3, ![1, 2056, 64]⟩
abbrev S1x16x64 : Shape := ⟨3, ![1, 16, 64]⟩
abbrev S1x2064x64 : Shape := ⟨3, ![1, 2064, 64]⟩
abbrev S4x64x1x2048 : Shape := ⟨4, ![4, 64, 1, 2048]⟩
abbrev S1x1x256 : Shape := ⟨3, ![1, 1, 256]⟩

abbrev nBuf : Space → Nat
  | .hbm => 83
  | .vmem => 0
  | .smem => 0
  | _ => 0

abbrev bufTy : (tb : Table) → Fin (tcTables nBuf tb) → BufTy
  | .hbm, ⟨0, _⟩ => ⟨S2048x2176, .f32⟩
  | .hbm, ⟨1, _⟩ => ⟨S4x64x64, .f32⟩
  | .hbm, ⟨2, _⟩ => ⟨S256, .f32⟩
  | .hbm, ⟨3, _⟩ => ⟨S2048x256, .f32⟩
  | .hbm, ⟨4, _⟩ => ⟨S1x2048x256, .f32⟩
  | .hbm, ⟨5, _⟩ => ⟨S1x2048x4x64, .f32⟩
  | .hbm, ⟨6, _⟩ => ⟨S_, .f32⟩
  | .hbm, ⟨7, _⟩ => ⟨S_, .f32⟩
  | .hbm, ⟨8, _⟩ => ⟨S1x2048x4x64, .f32⟩
  | .hbm, ⟨9, _⟩ => ⟨S2048, .f32⟩
  | .hbm, ⟨10, _⟩ => ⟨S_, .f32⟩
  | .hbm, ⟨11, _⟩ => ⟨S2048, .f32⟩
  | .hbm, ⟨12, _⟩ => ⟨S2048, .f32⟩
  | .hbm, ⟨13, _⟩ => ⟨S1x2048x1x64, .f32⟩
  | .hbm, ⟨14, _⟩ => ⟨S1x2048x64, .f32⟩
  | .hbm, ⟨15, _⟩ => ⟨S_, .f32⟩
  | .hbm, ⟨16, _⟩ => ⟨S1x2x64, .f32⟩
  | .hbm, ⟨17, _⟩ => ⟨S1x2050x64, .f32⟩
  | .hbm, ⟨18, _⟩ => ⟨S1x2048x64, .f32⟩
  | .hbm, ⟨19, _⟩ => ⟨S1x2048x64, .f32⟩
  | .hbm, ⟨20, _⟩ => ⟨S1x2048x64, .f32⟩
  | .hbm, ⟨21, _⟩ => ⟨S_, .f32⟩
  | .hbm, ⟨22, _⟩ => ⟨S2048, .f32⟩
  | .hbm, ⟨23, _⟩ => ⟨S2048, .f32⟩
  | .hbm, ⟨24, _⟩ => ⟨S1x2048x1, .f32⟩
  | .hbm, ⟨25, _⟩ => ⟨S1x2048x64, .f32⟩
  | .hbm, ⟨26, _⟩ => ⟨S1x2048x64, .f32⟩
  | .hbm, ⟨27, _⟩ => ⟨S1x2048x1x64, .f32⟩
  | .hbm, ⟨28, _⟩ => ⟨S1x2048x64, .f32⟩
  | .hbm, ⟨29, _⟩ => ⟨S_, .f32⟩
  | .hbm, ⟨30, _⟩ => ⟨S1x4x64, .f32⟩
  | .hbm, ⟨31, _⟩ => ⟨S1x2052x64, .f32⟩
  | .hbm, ⟨32, _⟩ => ⟨S1x2048x64, .f32⟩
  | .hbm, ⟨33, _⟩ => ⟨S1x2048x64, .f32⟩
  | .hbm, ⟨34, _⟩ => ⟨S1x2048x64, .f32⟩
  | .hbm, ⟨35, _⟩ => ⟨S_, .f32⟩
  | .hbm, ⟨36, _⟩ => ⟨S2048, .f32⟩
  | .hbm, ⟨37, _⟩ => ⟨S2048, .f32⟩
  | .hbm, ⟨38, _⟩ => ⟨S1x2048x1, .f32⟩
  | .hbm, ⟨39, _⟩ => ⟨S1x2048x64, .f32⟩
  | .hbm, ⟨40, _⟩ => ⟨S1x2048x64, .f32⟩
  | .hbm, ⟨41, _⟩ => ⟨S1x2048x1x64, .f32⟩
  | .hbm, ⟨42, _⟩ => ⟨S1x2048x64, .f32⟩
  | .hbm, ⟨43, _⟩ => ⟨S_, .f32⟩
  | .hbm, ⟨44, _⟩ => ⟨S1x8x64, .f32⟩
  | .hbm, ⟨45, _⟩ => ⟨S1x2056x64, .f32⟩
  | .hbm, ⟨46, _⟩ => ⟨S1x2048x64, .f32⟩
  | .hbm, ⟨47, _⟩ => ⟨S1x2048x64, .f32⟩
  | .hbm, ⟨48, _⟩ => ⟨S1x2048x64, .f32⟩
  | .hbm, ⟨49, _⟩ => ⟨S_, .f32⟩
  | .hbm, ⟨50, _⟩ => ⟨S2048, .f32⟩
  | .hbm, ⟨51, _⟩ => ⟨S2048, .f32⟩
  | .hbm, ⟨52, _⟩ => ⟨S1x2048x1, .f32⟩
  | .hbm, ⟨53, _⟩ => ⟨S1x2048x64, .f32⟩
  | .hbm, ⟨54, _⟩ => ⟨S1x2048x64, .f32⟩
  | .hbm, ⟨55, _⟩ => ⟨S1x2048x1x64, .f32⟩
  | .hbm, ⟨56, _⟩ => ⟨S1x2048x64, .f32⟩
  | .hbm, ⟨57, _⟩ => ⟨S_, .f32⟩
  | .hbm, ⟨58, _⟩ => ⟨S1x16x64, .f32⟩
  | .hbm, ⟨59, _⟩ => ⟨S1x2064x64, .f32⟩
  | .hbm, ⟨60, _⟩ => ⟨S1x2048x64, .f32⟩
  | .hbm, ⟨61, _⟩ => ⟨S1x2048x64, .f32⟩
  | .hbm, ⟨62, _⟩ => ⟨S1x2048x64, .f32⟩
  | .hbm, ⟨63, _⟩ => ⟨S_, .f32⟩
  | .hbm, ⟨64, _⟩ => ⟨S2048, .f32⟩
  | .hbm, ⟨65, _⟩ => ⟨S2048, .f32⟩
  | .hbm, ⟨66, _⟩ => ⟨S1x2048x1, .f32⟩
  | .hbm, ⟨67, _⟩ => ⟨S1x2048x64, .f32⟩
  | .hbm, ⟨68, _⟩ => ⟨S1x2048x64, .f32⟩
  | .hbm, ⟨69, _⟩ => ⟨S1x2048x1x64, .f32⟩
  | .hbm, ⟨70, _⟩ => ⟨S1x2048x1x64, .f32⟩
  | .hbm, ⟨71, _⟩ => ⟨S1x2048x1x64, .f32⟩
  | .hbm, ⟨72, _⟩ => ⟨S1x2048x1x64, .f32⟩
  | .hbm, ⟨73, _⟩ => ⟨S1x2048x4x64, .f32⟩
  | .hbm, ⟨74, _⟩ => ⟨S1x2048x4x64, .f32⟩
  | .hbm, ⟨75, _⟩ => ⟨S4x64x1x2048, .f32⟩
  | .hbm, ⟨76, _⟩ => ⟨S1x2048x4x64, .f32⟩
  | .hbm, ⟨77, _⟩ => ⟨S1x2048x256, .f32⟩
  | .hbm, ⟨78, _⟩ => ⟨S1x1x256, .f32⟩
  | .hbm, ⟨79, _⟩ => ⟨S1x2048x256, .f32⟩
  | .hbm, ⟨80, _⟩ => ⟨S1x2048x256, .f32⟩
  | .hbm, ⟨81, _⟩ => ⟨S2048x256, .f32⟩
  | .hbm, ⟨82, _⟩ => ⟨S2048x256, .bf16⟩
  | _, _ => ⟨S2048x2176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_call0_cst : Ref sig .tc := ⟨.hbm, 6, rfl⟩
abbrev main_call0_call0_v0 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_6 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_7 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩

abbrev nD : Nat := 1
abbrev τ : Topo := Topo.v7x

variable {F : FTy → Type} [FloatOps F]
-- ==== Proof.Loss.lean ====
/- The head of the backward pass: the gradient of the loss at the last layer's output and, per feature,
   the sum of the squared errors. -/
module

public import proofs.«01_k».proof.Proof.Gen.LossGradIdeal.Frame
public import proofs.«01_k».proof.Proof.Gen.LossGradRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Loss

open Cert.LossGradIdeal Cert.LossGradIdeal.Gen

variable (m : (ℓ : Loc nD τ sig) → Buf (Elt Ideal) ℓ)

/-- Dividing the error by the number of features is multiplying it by `1/1024`. -/
theorem rcp : Ideal.ofBits .f32 0x3A800000#32 = ((1 / 1024 : ℝ) : EReal) := by
  simp [Ideal.ofBits, Ideal.ieee, -EReal.coe_mul]; norm_num
theorem half : Ideal.ofBits .f32 0x3F000000#32 = ((1 / 2 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num
theorem features : Ideal.ofBits .f32 0x44800000#32 = ((1024 : ℝ) : EReal) := by
  simp [Ideal.ofBits, Ideal.ieee, -EReal.coe_mul]; norm_num

/-- The loss's derivative at the last layer's output: the error over the number of features. -/
def dy (Y T : FVec Ideal S2048x1024 .f32) : FVec Ideal S2048x1024 .f32 :=
  fun i => (Y i - T i) * ((1 / 1024 : ℝ) : EReal)

/-- Per feature, the sum over all rows of the squared error. -/
def sq (Y T : FVec Ideal S2048x1024 .f32) : FVec Ideal S1x1024 .f32 :=
  fun i => ∑ r : Fin 2048, (Y (ix2 r (i 1)) - T (ix2 r (i 1))) * (Y (ix2 r (i 1)) - T (ix2 r (i 1)))

/-- Every window's block index: the rows move with the point, the block of the sums stays. -/
theorem idx : ∀ t : Fin cfg0.N, win0_0.index t = ![t.val, 0] ∧ win0_1.index t = ![t.val, 0]
    ∧ win0_2.index t = ![t.val, 0] ∧ win0_3.index t = ![0, 0] :=
  (by decide +kernel : ∀ t : Fin grid0.N, _)

/-- What a point stores of the gradient is the gradient at the rows of its block. -/
theorem dy_point (c : Dev nD) (t : Fin cfg0.N) (y) : k0_pay3 (F := Ideal) (iblk m c 0 t) (iblk m c 1 t) y
    = dy (m ((c : Thread nD τ).loc main_arg0)) (m ((c : Thread nD τ).loc main_arg1)) (((cfg0.win 2).blk t).view.emb y) := by
  pointwise [k0_pay3, k0_pay2, dy, rcp]
  blk_point [iblk, V, idx t]

/-- The gradient's array after the run. -/
theorem dy_final (c : Dev nD) : (dats m 0 c).arrAt 2 (cfgs 0).N
    = dy (m ((c : Thread nD τ).loc main_arg0)) (m ((c : Thread nD τ).loc main_arg1)) := by
  refine (dats m 0 c).arrAt_eq_of_covers 2 _ (by decide +kernel) fun t _ y => ?_
  blk_simp
  rw [after0_2]
  by_cases h : t.val % 4 = 0
  · rw [outsAt0_A m c t h]; dsimp only; frame_out; exact dy_point m c t y
  · rw [outsAt0_B m c t h]; dsimp only; frame_out; exact dy_point m c t y

/-- The first point starts the sums at zero. -/
theorem sq_zero (j : S1x1024.Idx) : k0_pay1 (F := Ideal) j = 0 := by pointwise [k0_pay1]

/-- Every point adds the squared errors of its 512 rows. -/
theorem sq_step (X Y : Vec Ideal S512x1024 .f32) (A : Vec Ideal S1x1024 .f32) (j : S1x1024.Idx) :
    k0_pay4 X Y A j = A j
      + ∑ r : Fin 512, (X (ix2 r (j 1)) - Y (ix2 r (j 1))) * (X (ix2 r (j 1)) - Y (ix2 r (j 1))) := by
  pointwise [k0_pay4, k0_pay2]

/-- The sums' array after the run. -/
theorem sq_final (c : Dev nD) : (dats m 0 c).arrAt 3 (cfgs 0).N
    = sq (m ((c : Thread nD τ).loc main_arg0)) (m ((c : Thread nD τ).loc main_arg1)) := by
  refine (dats m 0 c).arrAt_eq_of_after_last 3 t0_3 (by decide +kernel) _ fun j => ?_
  blk_simp
  rw [after0_3, Pipeline.eq_sum_fin_of_reset_step_apply_last (fun n h => (outsAt0 m c n h).2) 4 (fun _ => 0) _
    (fun t h j => by rw [outsAt0_A m c t h]; frame_out; rw [sq_step, sq_zero])
    (fun t h j => by rw [outsAt0_B m c t h]; frame_out; rw [sq_step])
    (le_of_eq N_0) t0_3 rfl j, zero_add]
  unfold sq
  refine Fin.sum_mul_add_congr fun s k hl => ?_
  blk_point [iblk, V, idx s]

end Cert.Loss
end
-- ==== Proof.LossRef.lean ====
/- The loss head's results as the reference writes them: jax's derivative of the loss, and the squares summed. -/
module

public import proofs.«01_k».proof.Proof.Gen.LossGradRefIdeal.Run
public import proofs.«01_k».proof.Proof.Loss

@[expose] public section

set_option maxRecDepth 16384

noncomputable section

open Idealize.ShloMosaic Idealize.ShloMosaic.TcCoe Idealize.SL.Sem

namespace Cert.LossRef

open Cert.LossGradRefIdeal Cert.LossGradRefIdeal.Gen Cert.Loss

/-- The reference's gradient, with jax's factors `1/2`, `1/1024` and `2` in place. -/
theorem dy_ref (Y T : FVec Ideal S2048x1024 .f32) :
    (mulf (broadcastInDim S2048x1024 ![0] bcast_S2048_S2048x1024_0
      (Host.divf (broadcastInDim S2048 ![] bcast_S_S2048
        (mulf (constant S_ .f32 0x3F000000#32) (constant S_ .f32 0x3F800000#32)))
        (broadcastInDim S2048 ![] bcast_S_S2048
          (constant S_ .f32 0x44800000#32))))
      (mulf (broadcastInDim S2048x1024 ![] bcast_S_S2048x1024
        (constant S_ .f32 0x40000000#32)) (subf Y T))
      : FVec Ideal S2048x1024 .f32) = dy Y T := by
  funext i
  pointwise [dy]
  rw [features, two, half, Ideal.div_coe (by norm_num), ← mul_assoc, ← EReal.coe_mul, ← EReal.coe_mul, mul_comm]
  norm_num

/-- The reference's sums of squares. -/
theorem sq_ref (Y T : FVec Ideal S2048x1024 .f32) :
    (broadcastInDim S1x1024 ![1] bcast_S1024_S1x1024_1
      (Host.reduceAdd (mulf (subf Y T) (subf Y T)) (constant S_ .f32 0x00000000#32)
        reducesTo_S2048x1024_S1024_d0 h_S_)
      : FVec Ideal S1x1024 .f32) = sq Y T := by
  funext i
  pointwise [Cert.Loss.sq]

end Cert.LossRef
end
-- ==== Proof.LossPair.lean ====
/- The claims about the loss head: the frames of its programs and the value claim. -/
module

public import proofs.«01_k».proof.Defs
public import proofs.«01_k».proof.Proof.Gen.LossGrad.Frame
public import proofs.«01_k».proof.Proof.Gen.LossGradIdeal.Frame
public import proofs.«01_k».proof.Proof.LossRef
public import Idealize.ShloMosaic.Lib.Claim

@[expose] public section

set_option maxRecDepth 16384

noncomputable section

open Idealize.ShloMosaic Idealize.SL.Sem

namespace Cert.LossPair

/-- The kernel runs, leaves its arguments as they were and ends with every counter at zero. -/
theorem frame : Cert.quiescent_LossGrad := fun m ρ _ => Cert.LossGrad.Gen.frame m ρ
theorem frame_ideal : Cert.quiescent_LossGradIdeal := fun m ρ _ => Cert.LossGradIdeal.Gen.frame m ρ

/-- So does the reference, which has no counter. -/
theorem frame_ref : Cert.quiescent_LossGradRefIdeal :=
  fun m g _ => (θ_run _ _ _).mono
    (fun r h => ⟨fun c => (h c).2.2, sem_eq_zero_of_no_sems (sig := Cert.LossGradRefIdeal.sig) (by decide) r.2⟩)
    (Cert.LossGradRefIdeal.Value.run m g)

/-- Over the reals the kernel computes what the reference does. -/
theorem algebraic : Cert.algebraic_LossGradIdeal_LossGradRefIdeal := by
  pair_intro
  · run_from Cert.LossGradIdeal.Gen.run_main m g
  · refine (θ_run _ _ _).mono (fun r h c => ⟨(h c).1.trans ?_, (h c).2.1.trans ?_, (h c).2.2⟩) (Cert.LossGradRefIdeal.Value.run m' g')
    · rw [Cert.Loss.dy_final m c, (hagree c).1, (hagree c).2]; exact Cert.LossRef.dy_ref _ _
    · rw [Cert.Loss.sq_final m c, (hagree c).1, (hagree c).2]; exact Cert.LossRef.sq_ref _ _

end Cert.LossPair
end
-- ==== Proof.Rows.lean ====
/- Columns of one sequence: shifts down and up the rows, and the comparisons and rotations that a kernel spells them with. -/
module

public import Idealize.ShloMosaic.Lib.Pipeline.ValueKit

@[expose] public section

noncomputable section

open Idealize.ShloMosaic

namespace Cert.Rows

/-- A column moved `k` rows down, zeros moving in at the top. -/
def down (k : Nat) (f : Fin 2048 → EReal) (t : Fin 2048) : EReal :=
  if t.val < k then 0 else f ⟨t.val - k, by omega⟩

/-- A column moved `k` rows up, zeros moving in at the bottom. -/
def up (k : Nat) (f : Fin 2048 → EReal) (t : Fin 2048) : EReal :=
  if h : t.val + k < 2048 then f ⟨t.val + k, h⟩ else 0

theorem down_zero (f : Fin 2048 → EReal) (t : Fin 2048) : down 0 f t = f t := by simp [down]

/-- A factor leaves a shift. -/
theorem down_mul (k : Nat) (w : EReal) (f : Fin 2048 → EReal) (t : Fin 2048) :
    down k (fun r => w * f r) t = w * down k f t := by
  unfold down; split <;> simp

/-- A small number read back from its word. -/
theorem toInt_small (n : Nat) (h : n < 2147483648) : (BitVec.ofNat 32 n).toInt = n := by
  have h1 : (BitVec.ofNat 32 n).toNat = n := by simp [BitVec.toNat_ofNat]; omega
  rw [BitVec.toInt_eq_toNat_of_lt (by omega), h1]

/-- A selection by "at least `k`" on a row number. -/
theorem select_ge {α : Type} (n k : Nat) (hn : n < 2147483648) (hk : k < 2147483648) (a b : α) :
    Scalar.select (IntOp.cmpi .sge (BitVec.ofNat 32 n) (BitVec.ofNat 32 k)) a b = if n < k then b else a := by
  have h : (BitVec.ofNat 32 k).sle (BitVec.ofNat 32 n) = decide (k ≤ n) := by
    rw [BitVec.sle_eq_decide, toInt_small n hn, toInt_small k hk]; simp
  by_cases hc : n < k
  · have hd : decide (k ≤ n) = false := by simpa using hc
    simp [Scalar.select, IntOp.cmpi, h, hc, hd]
  · have hd : decide (k ≤ n) = true := by simpa using hc
    simp [Scalar.select, IntOp.cmpi, h, hc, hd]

/-- A selection by "less than `k`" on a row number. -/
theorem select_lt {α : Type} (n k : Nat) (hn : n < 2147483648) (hk : k < 2147483648) (a b : α) :
    Scalar.select (IntOp.cmpi .slt (BitVec.ofNat 32 n) (BitVec.ofNat 32 k)) a b = if n < k then a else b := by
  have h : (BitVec.ofNat 32 n).slt (BitVec.ofNat 32 k) = decide (n < k) := by
    rw [BitVec.slt_eq_decide, toInt_small n hn, toInt_small k hk]; simp
  by_cases hc : n < k
  · simp [Scalar.select, IntOp.cmpi, h, hc]
  · have hd : decide (n < k) = false := by simpa using hc
    simp [Scalar.select, IntOp.cmpi, h, hc, hd]

/-- A shift down as the kernels write it: the column rotated by `k`, zeros selected in the first `k` rows. -/
theorem down_spelt (k : Nat) (hk : k ≤ 2048) (f : Fin 2048 → EReal) (t : Fin 2048)
    (hb : (t.val + 2048 - k) % 2048 < 2048) :
    Scalar.select (IntOp.cmpi .sge (BitVec.ofNat 32 t.val) (BitVec.ofNat 32 k)) (f ⟨(t.val + 2048 - k) % 2048, hb⟩) 0
      = down k f t := by
  rw [select_ge _ _ (by omega) (by omega)]
  unfold down
  split
  · rfl
  · congr 2; omega

/-- A shift up as the kernels write it: the column rotated by `2048 - k`, zeros selected in the last `k` rows. -/
theorem up_spelt (k j : Nat) (hk : j + k = 2048) (f : Fin 2048 → EReal) (t : Fin 2048)
    (hb : (t.val + 2048 - j) % 2048 < 2048) :
    Scalar.select (IntOp.cmpi .slt (BitVec.ofNat 32 t.val) (BitVec.ofNat 32 j)) (f ⟨(t.val + 2048 - j) % 2048, hb⟩) 0
      = up k f t := by
  rw [select_lt _ _ (by omega) (by omega)]
  unfold up
  by_cases h : t.val < j
  · rw [if_pos h, dif_pos (by omega)]; congr 2; omega
  · rw [if_neg h, dif_neg (by omega)]

/-- A sum over the first two axes of an array where both have one entry. -/
theorem sum_lead {n : Nat} (h : (⟨3, ![1, 1, n]⟩ : Shape).ReducesTo [0, 1] ⟨1, ![n]⟩) (v : (⟨3, ![1, 1, n]⟩ : Shape).Idx → EReal) (c : Fin n) :
    ∑ i ∈ Finset.univ.filter (fun i => h.drop i = ix1 c), v i = v (ix3 0 0 c) := by
  have e : Finset.univ.filter (fun i => h.drop i = ix1 c) = {ix3 0 0 c} := by
    ext i
    simp only [Finset.mem_filter, Finset.mem_univ, true_and, Finset.mem_singleton]
    constructor
    · intro e
      funext a; apply Fin.ext
      match a with
      | ⟨0, _⟩ => exact congrArg Fin.val (Subsingleton.elim (α := Fin 1) (i 0) 0)
      | ⟨1, _⟩ => exact congrArg Fin.val (Subsingleton.elim (α := Fin 1) (i 1) 0)
      | ⟨2, _⟩ => exact congrArg Fin.val (congrFun e 0)
    · rintro rfl
      funext b; apply Fin.ext
      match b with
      | ⟨0, _⟩ => rfl
  rw [e, Finset.sum_singleton]

end Cert.Rows
end
-- ==== Proof.Conv.lean ====
/- The gated convolution's gradients. -/
module

public import proofs.«01_k».proof.Proof.Gen.ConvGradIdeal.Frame
public import proofs.«01_k».proof.Proof.Gen.ConvGradRefIdeal.Run
public import proofs.«01_k».proof.Proof.Rows

@[expose] public section

set_option maxRecDepth 16384

noncomputable section

open Idealize.ShloMosaic Idealize.ShloMosaic.TcCoe Idealize.SL.Sem
open Idealize.ShloMosaic.Pipeline (Dat)
open Cert.Rows

namespace Cert.Conv

open Cert.ConvGradIdeal Cert.ConvGradIdeal.Gen

/-- The convolution of one channel: the newest row has the last tap. -/
def conv (w : Fin 3 → EReal) (z : Fin 2048 → EReal) (t : Fin 2048) : EReal :=
  down 2 (fun r => w 0 * z r) t + down 1 (fun r => w 1 * z r) t + w 2 * z t

/-- The convolution's transpose on one channel: every row goes back to the rows it was read in. -/
def convT (w : Fin 3 → EReal) (g : Fin 2048 → EReal) (t : Fin 2048) : EReal :=
  w 2 * g t + up 1 (fun r => w 1 * g r) t + up 2 (fun r => w 0 * g r) t

/-! ### What the body stores, column by column -/

/-- The gate's gradient. -/
theorem pay4 (a b w d) (r : Fin 2048) (c : Fin 128) : k0_pay4 (F := Ideal) a b w d (ix2 r c)
    = d (ix2 r c) * conv (fun s => w (ix2 s c)) (fun q => b (ix2 q c) * a (ix2 q c)) r := by
  unfold conv
  rw [← down_spelt 2 (by omega) _ _ (by omega), ← down_spelt 1 (by omega) _ _ (by omega)]
  pointwise [k0_pay4, k0_pay3]

/-- The gradient at the convolution's input. -/
theorem pay9 (w) (d b : FVec Ideal S2048x128 .f32) (r : Fin 2048) (c : Fin 128) :
    k0_pay9 (F := Ideal) w (k0_pay5 d b) (k0_pay6 w d b) (k0_pay7 w) (iota .tc S2048x128 32 [0] iota_S2048x128_d0_w32) k0_pay8 (ix2 r c)
    = convT (fun s => w (ix2 s c)) (fun q => d (ix2 q c) * b (ix2 q c)) r := by
  unfold convT
  rw [← up_spelt 2 2046 (by omega) _ _ (by omega), ← up_spelt 1 2047 (by omega) _ _ (by omega)]
  pointwise [k0_pay9, k0_pay6, k0_pay5, k0_pay7, k0_pay8]
theorem pay10 (e w) (d b : FVec Ideal S2048x128 .f32) (r : Fin 2048) (c : Fin 128) :
    k0_pay10 (F := Ideal) e w (k0_pay5 d b) (k0_pay6 w d b) (k0_pay7 w) (iota .tc S2048x128 32 [0] iota_S2048x128_d0_w32) k0_pay8 (ix2 r c)
    = convT (fun s => w (ix2 s c)) (fun q => d (ix2 q c) * b (ix2 q c)) r * e (ix2 r c) := by
  rw [← pay9]; rfl
theorem pay11 (e w) (d b : FVec Ideal S2048x128 .f32) (r : Fin 2048) (c : Fin 128) :
    k0_pay11 (F := Ideal) e w (k0_pay5 d b) (k0_pay6 w d b) (k0_pay7 w) (iota .tc S2048x128 32 [0] iota_S2048x128_d0_w32) k0_pay8 (ix2 r c)
    = convT (fun s => w (ix2 s c)) (fun q => d (ix2 q c) * b (ix2 q c)) r * e (ix2 r c) := by
  rw [← pay9]; rfl
theorem pay12 (a b d e) (o : Fin 1) (c : Fin 128) : k0_pay12 (F := Ideal) (k0_pay3 a b) (k0_pay5 d e) (ix2 o c)
    = ∑ t : Fin 2048, down 2 (fun r => d (ix2 t c) * e (ix2 t c) * (b (ix2 r c) * a (ix2 r c))) t := by
  simp only [← down_spelt 2 (by omega) _ _ (Nat.mod_lt _ (by omega))]
  pointwise [k0_pay12, k0_pay3, k0_pay5]
theorem pay1 (a b d e) (o : Fin 1) (c : Fin 128) : k0_pay1 (F := Ideal) (k0_pay5 d e) (k0_pay13 (k0_pay3 a b)) (ix2 o c)
    = ∑ t : Fin 2048, down 1 (fun r => d (ix2 t c) * e (ix2 t c) * (b (ix2 r c) * a (ix2 r c))) t := by
  simp only [← down_spelt 1 (by omega) _ _ (Nat.mod_lt _ (by omega))]
  pointwise [k0_pay1, k0_pay13, k0_pay3, k0_pay5]
theorem pay2 (a b d e) (o : Fin 1) (c : Fin 128) : k0_pay2 (F := Ideal) (k0_pay3 a b) (k0_pay5 d e) (ix2 o c)
    = ∑ t : Fin 2048, down 0 (fun r => d (ix2 t c) * e (ix2 t c) * (b (ix2 r c) * a (ix2 r c))) t := by
  simp only [down, Nat.not_lt_zero, if_false, Nat.sub_zero]
  pointwise [k0_pay2, k0_pay3, k0_pay5]

/-! ### The gradients over the whole arrays -/

section
variable (P : FVec Ideal S2048x2176 .f32) (D : FVec Ideal S2048x1024 .f32) (W : FVec Ideal S3x384 .f32)

/-- One channel of the value branch, of the two gates and of the cotangent, and its taps. -/
def xa (c : Fin 384) (t : Fin 2048) : EReal := P (ix2 t ⟨c, by omega⟩)
def gb (c : Fin 384) (t : Fin 2048) : EReal := P (ix2 t ⟨384 + c, by omega⟩)
def gc (c : Fin 384) (t : Fin 2048) : EReal := P (ix2 t ⟨768 + c, by omega⟩)
def ct (c : Fin 384) (t : Fin 2048) : EReal := D (ix2 t ⟨c, by omega⟩)
def taps (c : Fin 384) (s : Fin 3) : EReal := W (ix2 s c)

/-- The gradient at the value branch, at the two gates and at the taps, at one row and channel. -/
def dxaAt (t : Fin 2048) (c : Fin 384) : EReal := convT (taps W c) (fun q => ct D c q * gb P c q) t * gc P c t
def dgbAt (t : Fin 2048) (c : Fin 384) : EReal := ct D c t * conv (taps W c) (fun q => gc P c q * xa P c q) t
def dgcAt (t : Fin 2048) (c : Fin 384) : EReal := convT (taps W c) (fun q => ct D c q * gb P c q) t * xa P c t
def dwAt (s : Fin 3) (c : Fin 384) : EReal :=
  ∑ t : Fin 2048, down (2 - s.val) (fun q => ct D c t * gb P c t * (gc P c q * xa P c q)) t

def dxa : FVec Ideal S2048x384 .bf16 := fun i => dxaAt P D W (i 0) (i 1)
def dgb : FVec Ideal S2048x384 .bf16 := fun i => dgbAt P D W (i 0) (i 1)
def dgc : FVec Ideal S2048x384 .bf16 := fun i => dgcAt P D W (i 0) (i 1)
def dw : FVec Ideal S3x384 .f32 := fun i => dwAt P D (i 0) (i 1)
end

/-! ### The blocks of one point: all rows of 128 channels -/

theorem idx : ∀ t : Fin cfg0.N, win0_0.index t = ![0, t.val] ∧ win0_1.index t = ![0, 3 + t.val]
    ∧ win0_2.index t = ![0, 6 + t.val] ∧ win0_3.index t = ![0, t.val] ∧ win0_4.index t = ![0, t.val]
    ∧ win0_5.index t = ![0, t.val] ∧ win0_6.index t = ![0, t.val] ∧ win0_7.index t = ![0, t.val]
    ∧ win0_8.index t = ![0, t.val] :=
  (by decide +kernel : ∀ t : Fin grid0.N, _)

/-- The channel at lane `x` of point `t`. -/
def lane (t : Fin cfg0.N) (x : Fin 128) : Fin 384 := ⟨t.val * 128 + x.val, by have := lt_of_lt_of_eq t.isLt N_0; omega⟩

variable (m : (ℓ : Loc nD τ sig) → Buf (Elt Ideal) ℓ) (c : Dev nD) (t : Fin cfg0.N)

theorem read0 (r : Fin 2048) (x : Fin 128) : iblk m c 0 t (ix2 r x) = xa (m ((c : Thread nD τ).loc main_arg0)) (lane t x) r := by
  unfold xa lane; blk_ext [iblk, V, idx t]
theorem read1 (r : Fin 2048) (x : Fin 128) : iblk m c 1 t (ix2 r x) = gb (m ((c : Thread nD τ).loc main_arg0)) (lane t x) r := by
  unfold gb lane; blk_ext [iblk, V, idx t]
theorem read2 (r : Fin 2048) (x : Fin 128) : iblk m c 2 t (ix2 r x) = gc (m ((c : Thread nD τ).loc main_arg0)) (lane t x) r := by
  unfold gc lane; blk_ext [iblk, V, idx t]
theorem read3 (r : Fin 2048) (x : Fin 128) : iblk m c 3 t (ix2 r x) = ct (m ((c : Thread nD τ).loc main_arg1)) (lane t x) r := by
  unfold ct lane; blk_ext [iblk, V, idx t]
theorem read4 (s : Fin 3) (x : Fin 128) : iblk m c 4 t (ix2 s x) = taps (m ((c : Thread nD τ).loc main_arg2)) (lane t x) s := by
  unfold taps lane; blk_ext [iblk, V, idx t]
theorem emb5 (r : Fin 2048) (x : Fin 128) : ((cfg0.win 5).blk t).view.emb (ix2 r x) = ix2 r (lane t x) := by
  unfold lane; blk_ext [idx t]
theorem emb6 (r : Fin 2048) (x : Fin 128) : ((cfg0.win 6).blk t).view.emb (ix2 r x) = ix2 r (lane t x) := by
  unfold lane; blk_ext [idx t]
theorem emb7 (r : Fin 2048) (x : Fin 128) : ((cfg0.win 7).blk t).view.emb (ix2 r x) = ix2 r (lane t x) := by
  unfold lane; blk_ext [idx t]
theorem emb8 (s : Fin 3) (x : Fin 128) : ((cfg0.win 8).blk t).view.emb (ix2 s x) = ix2 s (lane t x) := by
  unfold lane; blk_ext [idx t]

/-! ### The arrays after the run -/

theorem dxa_final : (dats m 0 c).arrAt 5 (cfgs 0).N
    = dxa (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]; unfold outsAt0; frame_out
  idx_vars y
  rw [pay10]
  simp only [read0 m c t, read1 m c t, read2 m c t, read3 m c t, read4 m c t]
  exact congrArg (dxa _ _ _) (emb5 t y0 y1).symm

theorem dgb_final : (dats m 0 c).arrAt 6 (cfgs 0).N
    = dgb (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]; unfold outsAt0; frame_out
  idx_vars y
  rw [pay4]
  simp only [read0 m c t, read1 m c t, read2 m c t, read3 m c t, read4 m c t]
  exact congrArg (dgb _ _ _) (emb6 t y0 y1).symm

theorem dgc_final : (dats m 0 c).arrAt 7 (cfgs 0).N
    = dgc (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]; unfold outsAt0; frame_out
  idx_vars y
  rw [pay11]
  simp only [read0 m c t, read1 m c t, read2 m c t, read3 m c t, read4 m c t]
  exact congrArg (dgc _ _ _) (emb7 t y0 y1).symm

theorem dw_final : (dats m 0 c).arrAt 8 (cfgs 0).N
    = dw (m ((c : Thread nD τ).loc main_arg0)) (m ((c : Thread nD τ).loc main_arg1)) := by
  refine (dats m 0 c).arrAt_eq_of_covers 8 _ (by decide +kernel) fun t _ y => ?_
  blk_simp
  rw [after0_8]; unfold outsAt0; frame_out
  idx_vars y
  refine Eq.trans ?_ (congrArg (dw _ _) (emb8 t y0 y1).symm)
  canon_tiles x h
  · have e0 : y0 = 2 := Fin.ext (show y0.val = 2 by have h' : y0.val = 2 + (x 0).val := h0; omega)
    have e1 : (x 1 : Fin 128) = y1 := Fin.ext (h1.symm : (x 1).val = y1.val)
    idx_vars x
    rw [pay2]
    simp only [read0 m c t, read1 m c t, read2 m c t, read3 m c t]
    subst e0; subst e1; rfl
  · have e0 : y0 = 1 := Fin.ext (show y0.val = 1 by have h' : y0.val = 1 + (x 0).val := h0; omega)
    have e1 : (x 1 : Fin 128) = y1 := Fin.ext (h1.symm : (x 1).val = y1.val)
    idx_vars x
    rw [pay1]
    simp only [read0 m c t, read1 m c t, read2 m c t, read3 m c t]
    subst e0; subst e1; rfl
  · have e0 : y0 = 0 := Fin.ext (show y0.val = 0 by have h' : y0.val = (x 0).val := h0; omega)
    have e1 : (x 1 : Fin 128) = y1 := Fin.ext (h1.symm : (x 1).val = y1.val)
    idx_vars x
    rw [pay12]
    simp only [read0 m c t, read1 m c t, read2 m c t, read3 m c t]
    subst e0; subst e1; rfl

end Cert.Conv
end
-- ==== Proof.ConvRef.lean ====
/- The gated convolution's gradients as the reference writes them: jax's derivative of the forward lines. -/
module

public import proofs.«01_k».proof.Proof.Gen.ConvGradRefIdeal.Run
public import proofs.«01_k».proof.Proof.Conv

@[expose] public section

set_option maxRecDepth 16384

noncomputable section

open Idealize.ShloMosaic Idealize.ShloMosaic.TcCoe Idealize.SL.Sem
open Cert.Rows

namespace Cert.ConvRef

open Cert.ConvGradRefIdeal Cert.ConvGradRefIdeal.Gen Cert.Conv

/-! ### The values of the reference that several results share -/

section
variable (P : FVec Ideal S2048x2176 .f32) (D : FVec Ideal S2048x1024 .f32) (W : FVec Ideal S3x384 .f32)

/-- The value branch, the two gates and the cotangent. -/
abbrev hA : FVec Ideal S1x2048x384 .f32 :=
  broadcastInDim S1x2048x384 ![1, 2] bcast_S2048x384_S1x2048x384_1_2 (extractStridedSlice S2048x384 ![0, 0] P slices_S2048x2176_S2048x384_0_0)
abbrev hB : FVec Ideal S1x2048x384 .f32 :=
  broadcastInDim S1x2048x384 ![1, 2] bcast_S2048x384_S1x2048x384_1_2 (extractStridedSlice S2048x384 ![0, 384] P slices_S2048x2176_S2048x384_0_384)
abbrev hC : FVec Ideal S1x2048x384 .f32 :=
  broadcastInDim S1x2048x384 ![1, 2] bcast_S2048x384_S1x2048x384_1_2 (extractStridedSlice S2048x384 ![0, 768] P slices_S2048x2176_S2048x384_0_768)
abbrev hD : FVec Ideal S1x2048x384 .f32 :=
  broadcastInDim S1x2048x384 ![1, 2] bcast_S2048x384_S1x2048x384_1_2 (extractStridedSlice S2048x384 ![0, 0] D slices_S2048x1024_S2048x384_0_0)

/-- One row of taps, sliced out, in every row of the sequence. -/
abbrev hTap (v : FVec Ideal S1x384 .f32) : FVec Ideal S1x2048x384 .f32 :=
  broadcastInDim S1x2048x384 ![0, 1, 2] bcast_S1x1x384_S1x2048x384_0_1_2 (broadcastInDim S1x1x384 ![2] bcast_S384_S1x1x384_2 (shapeCast _ v shapeCasts_S1x384_S384))
abbrev hW0 : FVec Ideal S1x2048x384 .f32 := hTap (extractStridedSlice S1x384 ![0, 0] W slices_S3x384_S1x384_0_0)
abbrev hW1 : FVec Ideal S1x2048x384 .f32 := hTap (extractStridedSlice S1x384 ![1, 0] W slices_S3x384_S1x384_1_0)
abbrev hW2 : FVec Ideal S1x2048x384 .f32 := hTap (extractStridedSlice S1x384 ![2, 0] W slices_S3x384_S1x384_2_0)

/-- The word zero. -/
abbrev hZero : FVec Ideal S_ .f32 := constant S_ .f32 0x00000000#32

/-- The gated input under two rows of zeros, and its three windows. -/
abbrev hPad : FVec Ideal S1x2050x384 .f32 :=
  concatenate S1x2050x384 1 [⟨S1x2x384, (broadcastInDim S1x2x384 ![] bcast_S_S1x2x384 hZero)⟩, ⟨S1x2048x384, (mulf (hC P) (hA P))⟩] concatenates_S1x2x384_S1x2048x384_S1x2050x384_d1
abbrev hP0 : FVec Ideal S1x2048x384 .f32 := extractStridedSlice S1x2048x384 ![0, 0, 0] (hPad P) slices_S1x2050x384_S1x2048x384_0_0_0
abbrev hP1 : FVec Ideal S1x2048x384 .f32 := extractStridedSlice S1x2048x384 ![0, 1, 0] (hPad P) slices_S1x2050x384_S1x2048x384_0_1_0
abbrev hP2 : FVec Ideal S1x2048x384 .f32 := extractStridedSlice S1x2048x384 ![0, 2, 0] (hPad P) slices_S1x2050x384_S1x2048x384_0_2_0

/-- The gradient at the convolution's input: every tap's part put back where its window lies, without the two rows of zeros. -/
abbrev hT : FVec Ideal S1x2048x384 .f32 :=
  extractStridedSlice S1x2048x384 ![0, 2, 0] (addf (addf
    (pad S1x2050x384 ![0, 2, 0] ![0, 0, 0] ![0, 0, 0] (mulf (hW2 W) (mulf (hB P) (hD D))) hZero pads_S1x2048x384_S1x2050x384_000_200_000 h_S_)
    (pad S1x2050x384 ![0, 1, 0] ![0, 1, 0] ![0, 0, 0] (mulf (hW1 W) (mulf (hB P) (hD D))) hZero pads_S1x2048x384_S1x2050x384_000_110_000 h_S_))
    (pad S1x2050x384 ![0, 0, 0] ![0, 2, 0] ![0, 0, 0] (mulf (hW0 W) (mulf (hB P) (hD D))) hZero pads_S1x2048x384_S1x2050x384_000_020_000 h_S_)) slices_S1x2050x384_S1x2048x384_0_2_0

/-- One tap's gradient: the sum over the rows and then over the one sequence. -/
abbrev hS (X : FVec Ideal S1x2048x384 .f32) : FVec Ideal S384 .f32 :=
  Host.reduceAdd (shapeCast _ (Host.reduceAdd (mulf (mulf (hB P) (hD D)) X) hZero reducesTo_S1x2048x384_S1x384_d1 h_S_) shapeCasts_S1x384_S1x1x384) hZero reducesTo_S1x1x384_S384_d0_1 h_S_

/-! ### What they are -/

theorem hS_at (X : FVec Ideal S1x2048x384 .f32) (c : Fin 384) :
    hS P D X (ix1 c) = ∑ t : Fin 2048, ct D c t * gb P c t * X (ix3 0 t c) := by
  show Ideal.hostReduceAdd reducesTo_S1x1x384_S384_d0_1 _ _ _ = _
  unfold Ideal.hostReduceAdd
  rw [sum_lead]
  pointwise [ct, gb]
  exact Finset.sum_congr rfl fun t _ => by rw [mul_comm (P _)]

/-- The windows of the padded input are the input moved down. -/
theorem hP0_at (t : Fin 2048) (c : Fin 384) : hP0 P (ix3 0 t c) = down 2 (fun q => gc P c q * xa P c q) t := by
  pointwise [down, gc, xa]
  split <;> rfl
theorem hP1_at (t : Fin 2048) (c : Fin 384) : hP1 P (ix3 0 t c) = down 1 (fun q => gc P c q * xa P c q) t := by
  pointwise [down, gc, xa]
  by_cases h : t.val < 1
  · rw [dif_pos (by omega), if_pos h]
  · have e : 1 + t.val - 2 = t.val - 1 := by omega
    rw [dif_neg (by omega), if_neg h]; simp only [e]
theorem hP2_at (t : Fin 2048) (c : Fin 384) : hP2 P (ix3 0 t c) = gc P c t * xa P c t := by
  pointwise [gc, xa]

theorem hT_at (t : Fin 2048) (c : Fin 384) : hT P D W (ix3 0 t c) = convT (taps W c) (fun q => ct D c q * gb P c q) t := by
  pointwise [convT, up, taps, ct, gb]
  have e1 : t.val + 2 - 1 = t.val + 1 := by omega
  have e2 : 2 + t.val = t.val + 2 := by omega
  have e3 : (1 ≤ t.val + 2 ∧ t.val + 1 < 2048) = (t.val + 1 < 2048) := by rw [eq_iff_iff]; omega
  simp only [mul_comm (P _) (D _), e2, e1, e3]

/-! ### The results -/

theorem dxa_ref : (truncf .bf16 (shapeCast _ (mulf (hC P) (hT P D W)) shapeCasts_S1x2048x384_S2048x384) bitsLt_bf16_f32 : FVec Ideal S2048x384 .bf16)
    = dxa P D W := by
  funext i
  idx_vars i
  show _ = convT (taps W i1) (fun q => ct D i1 q * gb P i1 q) i0 * gc P i1 i0
  rw [← hT_at, mul_comm]
  pointwise [gc]

theorem dgc_ref : (truncf .bf16 (shapeCast _ (mulf (hT P D W) (hA P)) shapeCasts_S1x2048x384_S2048x384) bitsLt_bf16_f32 : FVec Ideal S2048x384 .bf16)
    = dgc P D W := by
  funext i
  idx_vars i
  show _ = convT (taps W i1) (fun q => ct D i1 q * gb P i1 q) i0 * xa P i1 i0
  rw [← hT_at]
  pointwise [xa]

theorem dgb_ref : (truncf .bf16 (shapeCast _ (mulf (hD D) (addf (addf (mulf (hW0 W) (hP0 P)) (mulf (hW1 W) (hP1 P))) (mulf (hW2 W) (hP2 P)))) shapeCasts_S1x2048x384_S2048x384) bitsLt_bf16_f32 : FVec Ideal S2048x384 .bf16)
    = dgb P D W := by
  funext i
  idx_vars i
  show _ = ct D i1 i0 * conv (taps W i1) (fun q => gc P i1 q * xa P i1 q) i0
  rw [conv, down_mul, down_mul, ← hP0_at, ← hP1_at, ← hP2_at]
  pointwise [ct, taps]

theorem dw_ref : (addf (addf
      (pad S3x384 ![2, 0] ![0, 0] ![0, 0] (broadcastInDim S1x384 ![1] bcast_S384_S1x384_1 (hS P D (hP2 P))) hZero pads_S1x384_S3x384_200_000 h_S_)
      (pad S3x384 ![1, 0] ![1, 0] ![0, 0] (broadcastInDim S1x384 ![1] bcast_S384_S1x384_1 (hS P D (hP1 P))) hZero pads_S1x384_S3x384_110_000 h_S_))
      (pad S3x384 ![0, 0] ![2, 0] ![0, 0] (broadcastInDim S1x384 ![1] bcast_S384_S1x384_1 (hS P D (hP0 P))) hZero pads_S1x384_S3x384_020_000 h_S_) : FVec Ideal S3x384 .f32)
    = dw P D := by
  have h0 (c) := hS_at P D (hP0 P) c
  have h1 (c) := hS_at P D (hP1 P) c
  have h2 (c) := hS_at P D (hP2 P) c
  simp only [hP0_at, hP1_at, hP2_at] at h0 h1 h2
  generalize hS P D (hP0 P) = s0 at h0 ⊢
  generalize hS P D (hP1 P) = s1 at h1 ⊢
  generalize hS P D (hP2 P) = s2 at h2 ⊢
  funext i
  idx_vars i
  pointwise [dw, dwAt]
  simp only [h0, h1, h2, down_mul]
  match i0 with
  | 0 => simp
  | 1 => simp
  | 2 => simp [down_zero]

end

end Cert.ConvRef
end
-- ==== Proof.ConvPair.lean ====
/- The claims about the gated convolution's gradients: the frames of its programs and the value claim. -/
module

public import proofs.«01_k».proof.Defs
public import proofs.«01_k».proof.Proof.Gen.ConvGrad.Frame
public import proofs.«01_k».proof.Proof.Gen.ConvGradIdeal.Frame
public import proofs.«01_k».proof.Proof.ConvRef
public import Idealize.ShloMosaic.Lib.Claim

@[expose] public section

set_option maxRecDepth 16384

noncomputable section

open Idealize.ShloMosaic Idealize.SL.Sem

namespace Cert.ConvPair

/-- The kernel runs, leaves its arguments as they were and ends with every counter at zero. -/
theorem frame : Cert.quiescent_ConvGrad := fun m ρ _ => Cert.ConvGrad.Gen.frame m ρ
theorem frame_ideal : Cert.quiescent_ConvGradIdeal := fun m ρ _ => Cert.ConvGradIdeal.Gen.frame m ρ

/-- So does the reference, which has no counter. -/
theorem frame_ref : Cert.quiescent_ConvGradRefIdeal :=
  fun m g _ => (θ_run _ _ _).mono
    (fun r h => ⟨fun c => (h c).2.2.2.2, sem_eq_zero_of_no_sems (sig := Cert.ConvGradRefIdeal.sig) (by decide) r.2⟩)
    (Cert.ConvGradRefIdeal.Value.run m g)

/-- Over the reals the kernel computes what the reference does. -/
theorem algebraic : Cert.algebraic_ConvGradIdeal_ConvGradRefIdeal := by
  pair_intro
  · run_from Cert.ConvGradIdeal.Gen.run_main m g
  · run_from Cert.ConvGradRefIdeal.Value.run m' g'
    · rw [Cert.Conv.dxa_final m c]; exact Cert.ConvRef.dxa_ref _ _ _
    · rw [Cert.Conv.dgb_final m c]; exact Cert.ConvRef.dgb_ref _ _ _
    · rw [Cert.Conv.dgc_final m c]; exact Cert.ConvRef.dgc_ref _ _ _
    · rw [Cert.Conv.dw_final m c, ← (hagree c).1, ← (hagree c).2.1]; exact Cert.ConvRef.dw_ref _ _

end Cert.ConvPair
end
-- ==== Proof.PoolMath.lean ====
/- Sums over a window of rows of one column, and the ways in which a kernel and a running sum spell them. -/
module

public import proofs.«01_k».proof.Proof.Rows

@[expose] public section

noncomputable section

open Idealize.ShloMosaic
open Cert.Rows

namespace Cert.Pool

/-- The sum of a row and the `w - 1` rows before it (rows before the first count as zero). -/
def trail (w : Nat) (f : Fin 2048 → EReal) (t : Fin 2048) : EReal := ∑ i ∈ Finset.range w, down i f t

/-- The sum of a row and the `w - 1` rows after it. -/
def lead (w : Nat) (f : Fin 2048 → EReal) (t : Fin 2048) : EReal := ∑ i ∈ Finset.range w, up i f t

/-- How many rows the window at row `t` holds. -/
def cnt (w : Nat) (t : Fin 2048) : EReal := (((min (t.val + 1) w : ℕ) : ℝ) : EReal)

theorem down_down (a b : Nat) (f : Fin 2048 → EReal) (t : Fin 2048) : down a (down b f) t = down (a + b) f t := by
  unfold down
  by_cases h1 : t.val < a
  · rw [if_pos h1, if_pos (by omega)]
  · rw [if_neg h1]
    by_cases h2 : t.val - a < b
    · rw [if_pos h2, if_pos (by omega)]
    · rw [if_neg h2, if_neg (by omega)]
      exact congrArg f (Fin.ext (by simp only; omega))

theorem up_up (a b : Nat) (f : Fin 2048 → EReal) (t : Fin 2048) : up a (up b f) t = up (a + b) f t := by
  unfold up
  by_cases h1 : t.val + a < 2048
  · rw [dif_pos h1]
    by_cases h2 : t.val + a + b < 2048
    · rw [dif_pos h2, dif_pos (by omega)]
      exact congrArg f (Fin.ext (by simp only; omega))
    · rw [dif_neg h2, dif_neg (by omega)]
  · rw [dif_neg h1, dif_neg (by omega)]

theorem up_zero (f : Fin 2048 → EReal) (t : Fin 2048) : up 0 f t = f t := by simp [up]

theorem down_sum (k : Nat) (s : Finset ℕ) (g : ℕ → Fin 2048 → EReal) (t : Fin 2048) :
    down k (fun r => ∑ i ∈ s, g i r) t = ∑ i ∈ s, down k (g i) t := by
  unfold down; split <;> simp

theorem up_sum (k : Nat) (s : Finset ℕ) (g : ℕ → Fin 2048 → EReal) (t : Fin 2048) :
    up k (fun r => ∑ i ∈ s, g i r) t = ∑ i ∈ s, up k (g i) t := by
  unfold up; split <;> simp

/-- A window twice as long is a window and the same window moved by its length. -/
theorem trail_double (n : Nat) (f : Fin 2048 → EReal) (t : Fin 2048) :
    trail n f t + down n (trail n f) t = trail (n + n) f t := by
  unfold trail
  rw [Finset.sum_range_add, down_sum]
  simp only [down_down]

theorem lead_double (n : Nat) (f : Fin 2048 → EReal) (t : Fin 2048) :
    lead n f t + up n (lead n f) t = lead (n + n) f t := by
  unfold lead
  rw [Finset.sum_range_add, up_sum]
  simp only [up_up]

theorem trail_one (f : Fin 2048 → EReal) : trail 1 f = f := by
  funext t; simp [trail, down_zero]
theorem lead_one (f : Fin 2048 → EReal) : lead 1 f = f := by
  funext t; simp [lead, up_zero]

/-! ### Windows as differences of running sums -/

/-- The running sum of a column of numbers, up to and including row `t`. -/
def run (f : ℕ → ℝ) (t : ℕ) : ℝ := ∑ j ∈ Finset.range (t + 1), f j

/-- A window is the running sum less the running sum `w` rows earlier. -/
theorem run_sub (f : ℕ → ℝ) (w t : ℕ) :
    run f t - (if t < w then 0 else run f (t - w)) = ∑ i ∈ Finset.range w, if t < i then 0 else f (t - i) := by
  induction w with
  | zero => simp
  | succ w ih =>
    rw [Finset.sum_range_succ, ← ih]
    by_cases h : t < w
    · simp [h, show t < w + 1 by omega]
    · by_cases e : t = w
      · subst e; simp [run]
      · obtain ⟨d, rfl⟩ : ∃ d, t = w + 1 + d := ⟨t - (w + 1), by omega⟩
        have e1 : w + 1 + d - w = d + 1 := by omega
        have e2 : w + 1 + d - (w + 1) = d := by omega
        rw [if_neg (by omega), if_neg (by omega), if_neg (by omega), e1, e2]
        simp only [run, Finset.sum_range_succ _ (d + 1)]
        ring

/-- The sums backwards: what the differences of a column with itself `w` rows later add up to from a row on. -/
theorem diff_sum (f : ℕ → ℝ) (hf : ∀ j, 2048 ≤ j → f j = 0) (w t : ℕ) (ht : t ≤ 2048) :
    ∑ j ∈ Finset.range (2048 - t), (f (t + j) - f (t + j + w)) = ∑ i ∈ Finset.range w, f (t + i) := by
  induction w with
  | zero => simp
  | succ w ih =>
    rw [Finset.sum_range_succ, ← ih]
    have h : ∑ j ∈ Finset.range (2048 - t), (f (t + j + w) - f (t + (j + 1) + w)) = f (t + w) := by
      rw [Finset.sum_range_sub' (fun j => f (t + j + w)), hf (t + (2048 - t) + w) (by omega)]; simp
    rw [← h, ← Finset.sum_add_distrib]
    refine Finset.sum_congr rfl fun j _ => ?_
    have e : t + j + (w + 1) = t + (j + 1) + w := by omega
    rw [e]; ring

/-! ### Columns of numbers -/

/-- A sum of numbers, as an extended real. -/
theorem coe_sum {ι : Type*} (s : Finset ι) (f : ι → ℝ) : ((∑ i ∈ s, f i : ℝ) : EReal) = ∑ i ∈ s, (f i : EReal) :=
  map_sum (⟨⟨fun x : ℝ => (x : EReal), EReal.coe_zero⟩, EReal.coe_add⟩ : ℝ →+ EReal) f s

/-- A column continued by zeros. -/
def ext (r : Fin 2048 → ℝ) (j : ℕ) : ℝ := if h : j < 2048 then r ⟨j, h⟩ else 0

theorem ext_zero (r : Fin 2048 → ℝ) (j : ℕ) (h : 2048 ≤ j) : ext r j = 0 := dif_neg (by omega)

theorem down_coe (r : Fin 2048 → ℝ) (i : ℕ) (t : Fin 2048) :
    down i (fun q => (r q : EReal)) t = ((if t.val < i then 0 else ext r (t.val - i) : ℝ) : EReal) := by
  unfold down
  split
  · rfl
  · rw [ext, dif_pos (by omega)]

theorem up_coe (r : Fin 2048 → ℝ) (i : ℕ) (t : Fin 2048) :
    up i (fun q => (r q : EReal)) t = ((ext r (t.val + i) : ℝ) : EReal) := by
  unfold up ext
  split <;> rfl

theorem trail_coe (r : Fin 2048 → ℝ) (w : ℕ) (t : Fin 2048) :
    trail w (fun q => (r q : EReal)) t = ((run (ext r) t.val - (if t.val < w then 0 else run (ext r) (t.val - w)) : ℝ) : EReal) := by
  rw [run_sub, coe_sum]
  exact Finset.sum_congr rfl fun i _ => down_coe r i t

theorem lead_coe (r : Fin 2048 → ℝ) (w : ℕ) (t : Fin 2048) :
    lead w (fun q => (r q : EReal)) t
      = ((∑ j ∈ Finset.range (2048 - t.val), (ext r (t.val + j) - ext r (t.val + j + w)) : ℝ) : EReal) := by
  rw [diff_sum _ (ext_zero r) _ _ (by omega), coe_sum]
  exact Finset.sum_congr rfl fun i _ => up_coe r i t

/-- The running sum as a window of 2048 rows that ends at row `t`. -/
theorem run_window (r : Fin 2048 → ℝ) (t : Fin 2048) :
    (∑ k : Fin 2048, if h : 2047 ≤ t.val + k.val then ((r ⟨t.val + k.val - 2047, by omega⟩ : ℝ) : EReal) else 0)
      = ((run (ext r) t.val : ℝ) : EReal) := by
  have h1 : ∀ k : Fin 2048, (if h : 2047 ≤ t.val + k.val then ((r ⟨t.val + k.val - 2047, by omega⟩ : ℝ) : EReal) else 0)
      = ((if 2047 ≤ t.val + k.val then ext r (t.val + k.val - 2047) else 0 : ℝ) : EReal) := by
    intro k
    split
    · rw [ext, dif_pos (by omega)]
    · rfl
  simp only [h1]
  rw [← coe_sum, Fin.sum_univ_eq_sum_range (fun k => if 2047 ≤ t.val + k then ext r (t.val + k - 2047) else 0) 2048]
  congr 1
  rw [← Finset.sum_filter]
  unfold run
  refine Finset.sum_nbij' (fun k => t.val + k - 2047) (fun j => j + 2047 - t.val) ?_ ?_ ?_ ?_ ?_ <;>
    simp only [Finset.mem_filter, Finset.mem_range] <;> intros <;> first | omega | trivial

/-- The sum of a column from row `t` on, as a window of 2048 rows that begins there. -/
theorem tail_window (g : ℕ → ℝ) (t : Fin 2048) :
    (∑ k : Fin 2048, if h : t.val + k.val < 2048 then ((g (t.val + k.val) : ℝ) : EReal) else 0)
      = ((∑ j ∈ Finset.range (2048 - t.val), g (t.val + j) : ℝ) : EReal) := by
  have h1 : ∀ k : Fin 2048, (if h : t.val + k.val < 2048 then ((g (t.val + k.val) : ℝ) : EReal) else 0)
      = ((if t.val + k.val < 2048 then g (t.val + k.val) else 0 : ℝ) : EReal) := by
    intro k; split <;> rfl
  simp only [h1]
  rw [← coe_sum, Fin.sum_univ_eq_sum_range (fun k => if t.val + k < 2048 then g (t.val + k) else 0) 2048]
  congr 1
  rw [← Finset.sum_filter]
  refine Finset.sum_congr (Finset.ext fun k => ?_) fun _ _ => rfl
  simp only [Finset.mem_filter, Finset.mem_range]; omega

theorem cnt_pos (w : ℕ) (hw : 0 < w) (t : Fin 2048) : (((min (t.val + 1) w : ℕ) : ℝ)) ≠ 0 := by
  have : 0 < min (t.val + 1) w := by omega
  exact_mod_cast this.ne'

/-- A quotient by a window's count is a number. -/
theorem div_cnt (w : ℕ) (hw : 0 < w) (x : ℝ) (t : Fin 2048) :
    Ideal.div (x : EReal) (cnt w t) = ((x * (1 / ((min (t.val + 1) w : ℕ) : ℝ)) : ℝ) : EReal) := by
  rw [cnt, Ideal.div_coe (cnt_pos w hw t), EReal.coe_mul]

end Cert.Pool
end
-- ==== Proof.Pool.lean ====
/- The pooling mixer's gradients. -/
module

public import proofs.«01_k».proof.Proof.Gen.PoolGradIdeal.Frame
public import proofs.«01_k».proof.Proof.PoolMath

@[expose] public section

set_option maxRecDepth 16384

noncomputable section

open Idealize.ShloMosaic Idealize.ShloMosaic.TcCoe Idealize.SL.Sem
open Idealize.ShloMosaic.Pipeline (Dat)
open Cert.Rows

namespace Cert.Pool

open Cert.PoolGradIdeal Cert.PoolGradIdeal.Gen

/-! ### What the body computes, column by column -/

/-- The windows of 2, 4, 8 and 16 rows, each from the one before. -/
theorem pay4 (a) (r : Fin 2048) (c : Fin 128) : k0_pay4 (F := Ideal) a (ix2 r c) = trail 2 (fun q => a (ix2 q c)) r := by
  rw [← trail_double 1, trail_one, ← down_spelt 1 (by omega) _ _ (Nat.mod_lt _ (by omega))]
  pointwise [k0_pay4]
theorem pay5 (a) (r : Fin 2048) (c : Fin 128) : k0_pay5 (F := Ideal) a (ix2 r c) = trail 4 (fun q => a (ix2 q c)) r := by
  rw [← trail_double 2, ← down_spelt 2 (by omega) _ _ (Nat.mod_lt _ (by omega)), ← pay4, ← pay4]
  pointwise [k0_pay5]
theorem pay6 (a) (r : Fin 2048) (c : Fin 128) : k0_pay6 (F := Ideal) a (ix2 r c) = trail 8 (fun q => a (ix2 q c)) r := by
  rw [← trail_double 4, ← down_spelt 4 (by omega) _ _ (Nat.mod_lt _ (by omega)), ← pay5, ← pay5]
  pointwise [k0_pay6]
theorem pay7 (a) (r : Fin 2048) (c : Fin 128) : k0_pay7 (F := Ideal) a (ix2 r c) = trail 16 (fun q => a (ix2 q c)) r := by
  rw [← trail_double 8, ← down_spelt 8 (by omega) _ _ (Nat.mod_lt _ (by omega)), ← pay6, ← pay6]
  pointwise [k0_pay7]

/-- The window of lane `x` at point `k`. -/
def winAt (k : Fin 2) (x : Fin 128) : ℕ := if x.val < 64 then (if k.val = 0 then 2 else 8) else (if k.val = 0 then 4 else 16)

theorem select_first {α : Type} (k : Fin 2) (a b : α) :
    Scalar.select (Scalar.cmpi .eq (BitVec.ofNat 32 k.val) 0#32) a b = if k.val = 0 then a else b := by
  fin_cases k <;> rfl

/-- The lanes' and points' selections together. -/
theorem select_win {α : Type} (k : Fin 2) (x : Fin 128) (f : ℕ → α) :
    Scalar.select (IntOp.cmpi .slt (BitVec.ofNat 32 x.val) 64#32)
      (Scalar.select (Scalar.cmpi .eq (BitVec.ofNat 32 k.val) 0#32) (f 2) (f 8))
      (Scalar.select (Scalar.cmpi .eq (BitVec.ofNat 32 k.val) 0#32) (f 4) (f 16)) = f (winAt k x) := by
  rw [select_lt x.val 64 (by omega) (by omega), select_first, select_first]
  unfold winAt
  split <;> split <;> rfl

/-- The smaller of a row's number, counted from 1, and a window. -/
theorem count_word (n w : ℕ) (hn : n < 2048) (hw : w < 2048) :
    FloatOps.sitofp (F := Ideal) FTy.f32 (IntOp.minsi (IntOp.addi (BitVec.ofNat 32 n) 1#32) (BitVec.ofNat 32 w))
      = (((min (n + 1) w : ℕ) : ℝ) : EReal) := by
  have e : IntOp.addi (BitVec.ofNat 32 n) 1#32 = BitVec.ofNat 32 (n + 1) := by
    simp only [IntOp.addi]; rw [BitVec.ofNat_add]
  have h : (IntOp.minsi (BitVec.ofNat 32 (n + 1)) (BitVec.ofNat 32 w)) = BitVec.ofNat 32 (min (n + 1) w) := by
    simp only [IntOp.minsi, BitVec.sle_eq_decide, BitVec.slt_eq_decide, toInt_small (n + 1) (by omega), toInt_small w (by omega)]
    by_cases h : n + 1 ≤ w
    · rw [min_eq_left h]
      split
      · rfl
      · rename_i h'; simp only [decide_eq_true_eq, not_lt] at h'; rw [show w = n + 1 by omega]
    · rw [min_eq_right (by omega)]
      split
      · rename_i h'; simp only [decide_eq_true_eq] at h'; omega
      · rfl
  rw [e, h]
  show (((BitVec.ofNat 32 (min (n + 1) w)).toInt : ℝ) : EReal) = _
  rw [toInt_small _ (by omega)]
  simp

theorem pay9 (i : grid0.Coords) (r : Fin 2048) (c : Fin 128) : k0_pay9 (F := Ideal) (k0_pay3 i) (ix2 r c) = cnt (winAt (i 0) c) r := by
  pointwise [k0_pay9, k0_pay3, k0_pay2]
  rw [select_win (i 0) c (fun w => BitVec.ofNat 32 w), count_word _ _ r.isLt (by unfold winAt; split <;> split <;> omega)]
  rfl

/-- A window's mean less the row itself. -/
theorem pay11 (i : grid0.Coords) (a) (r : Fin 2048) (c : Fin 128) :
    k0_pay11 (F := Ideal) a k0_pay2 (Scalar.cmpi .eq (BitVec.ofNat 32 (i 0).val) 0#32) (k0_pay3 i) (k0_pay5 a) (k0_pay7 a) (k0_pay8 i a) (ix2 r c)
    = Ideal.div (trail (winAt (i 0) c) (fun q => a (ix2 q c)) r) (cnt (winAt (i 0) c) r) - a (ix2 r c) := by
  pointwise [k0_pay11, k0_pay8, k0_pay2]
  rw [pay9, pay4, pay5, pay6, pay7, select_win (i 0) c (fun w => trail w (fun q => a (ix2 q c)) r)]

/-- The lane at channel `e` of the group that lane `c` belongs to. -/
def mate (c : Fin 128) (e : Fin 64) : Fin 128 := ⟨c.val / 64 * 64 + e.val, by omega⟩

/-- The channel of lane `c` in its group. -/
def chan (c : Fin 128) : Fin 64 := ⟨c.val % 64, by omega⟩

/-- The weights of the group that lane `c` belongs to. -/
def wsel (u v : Vec Ideal S1x64x64 .f32) (c : Fin 128) (a b : Fin 64) : EReal :=
  if c.val < 64 then u (ix3 0 a b) else v (ix3 0 a b)

theorem pay10 (u v) (a b : Fin 128) : k0_pay10 (F := Ideal) u v (ix2 a b)
    = if a.val / 64 = b.val / 64 then wsel u v a (chan a) (chan b) else 0 := by
  pointwise [k0_pay10, wsel, chan]
  by_cases ha : a.val < 64
  · rw [dif_pos ha]
    by_cases hb : b.val < 64
    · rw [dif_pos hb, if_pos (show a.val / 64 = b.val / 64 by omega), if_pos ha]
      congr 2 <;> (apply Fin.ext; simp only; omega)
    · rw [dif_neg hb, if_neg (show ¬ a.val / 64 = b.val / 64 by omega)]
  · rw [dif_neg ha]
    by_cases hb : b.val < 64
    · rw [dif_pos hb, if_neg (show ¬ a.val / 64 = b.val / 64 by omega)]
    · rw [dif_neg hb, if_pos (show a.val / 64 = b.val / 64 by omega), if_neg ha]
      congr 2 <;> (apply Fin.ext; simp only; omega)

/-- A sum over the lanes of which only one group's lanes are not zero. -/
theorem sum_group (c : Fin 128) (f : Fin 128 → EReal) :
    (∑ a : Fin 128, if a.val / 64 = c.val / 64 then f a else 0) = ∑ e : Fin 64, f (mate c e) := by
  rw [← Finset.sum_filter]
  refine (Finset.sum_nbij (mate c) ?_ ?_ ?_ (fun _ _ => rfl)).symm
  · intro e _; simp only [Finset.mem_filter, Finset.mem_univ, true_and, mate]; omega
  · intro a _ b _ h; have := congrArg Fin.val h; simp only [mate] at this; apply Fin.ext; omega
  · intro a ha
    simp only [Finset.coe_filter, Finset.mem_univ, true_and, Set.mem_setOf_eq] at ha
    exact ⟨chan a, by simp, Fin.ext (by simp only [mate, chan]; omega)⟩

theorem chan_mate (c : Fin 128) (e : Fin 64) : chan (mate c e) = e := Fin.ext (by simp only [mate, chan]; omega)
theorem wsel_mate (u v) (c : Fin 128) (e : Fin 64) : wsel u v (mate c e) = wsel u v c := by
  funext a b
  have h : (mate c e).val < 64 ↔ c.val < 64 := by simp only [mate]; omega
  simp only [wsel, h]

/-- A product with the two groups' weights, the groups side by side. -/
theorem sum_left (u v) (f : Fin 128 → EReal) (c : Fin 128) :
    ∑ a : Fin 128, f a * k0_pay10 (F := Ideal) u v (ix2 a c) = ∑ e : Fin 64, f (mate c e) * wsel u v c e (chan c) := by
  simp only [pay10, mul_ite, mul_zero]
  rw [sum_group c (fun a => f a * wsel u v a (chan a) (chan c))]
  simp only [chan_mate, wsel_mate]
theorem sum_right (u v) (f : Fin 128 → EReal) (c : Fin 128) :
    ∑ a : Fin 128, f a * k0_pay10 (F := Ideal) u v (ix2 c a) = ∑ e : Fin 64, f (mate c e) * wsel u v c (chan c) e := by
  simp only [pay10, mul_ite, mul_zero, @eq_comm _ (c.val / 64)]
  rw [sum_group c (fun a => f a * wsel u v c (chan c) (chan a))]
  simp only [chan_mate]

/-- The scale's gradient, the gradients at the product's two operands, and the cotangent of the product. -/
theorem pay12 (p v3 v4 v9 v23 v37 v38 u v dy) (o : Fin 1) (c : Fin 128) : k0_pay12 (F := Ideal) p v3 v4 v9 v23 v37 v38 u v dy (ix2 o c)
   = ∑ t : Fin 2048, dy (ix2 t c) * ∑ e : Fin 64, k0_pay11 (F := Ideal) p v3 v4 v9 v23 v37 v38 (ix2 t (mate c e)) * wsel u v c e (chan c) := by
  refine Eq.trans ?_ (Finset.sum_congr rfl fun t _ =>
    congrArg (dy (ix2 t c) * ·) (sum_left u v (fun a => k0_pay11 (F := Ideal) p v3 v4 v9 v23 v37 v38 (ix2 t a)) c))
  pointwise [k0_pay12]
theorem pay13 (dy s) (r : Fin 2048) (c : Fin 128) : k0_pay13 (F := Ideal) dy s (ix2 r c) = dy (ix2 r c) * s (ix2 0 c) := by
  pointwise [k0_pay13]
theorem pay17 (u v) (dp) (r : Fin 2048) (c : Fin 128) : k0_pay17 (F := Ideal) (k0_pay10 u v) dp (ix2 r c)
   = ∑ e : Fin 64, dp (ix2 r (mate c e)) * wsel u v c (chan c) e := by
  rw [← sum_right u v (fun a => dp (ix2 r a))]
  pointwise [k0_pay17]
theorem pay14 (p v3 v4 v9 v23 v37 v38 dy s) (a c : Fin 128) : k0_pay14 (F := Ideal) p v3 v4 v9 v23 v37 v38 dy s (ix2 a c)
   = ∑ t : Fin 2048, k0_pay11 (F := Ideal) p v3 v4 v9 v23 v37 v38 (ix2 t a) * (dy (ix2 t c) * s (ix2 0 c)) := by
  pointwise [k0_pay14, k0_pay13]
theorem pay15 (p v3 v4 v9 v23 v37 v38 dy s) (o : Fin 1) (a c : Fin 64) : k0_pay15 (F := Ideal) p v3 v4 v9 v23 v37 v38 dy s (ix3 o a c)
   = k0_pay14 (F := Ideal) p v3 v4 v9 v23 v37 v38 dy s (ix2 ⟨a.val, by omega⟩ ⟨c.val, by omega⟩) := by
  pointwise [k0_pay15]
theorem pay16 (g) (o : Fin 1) (a c : Fin 64) : k0_pay16 (F := Ideal) g (ix3 o a c) = g (ix2 ⟨64 + a.val, by omega⟩ ⟨64 + c.val, by omega⟩) := by
  pointwise [k0_pay16]

section
variable (cn : FVec Ideal S2048x128 .f32) (wb : FVec Ideal S128x128 .bf16) (dp : FVec Ideal S2048x128 .bf16)

/-- The gradient at a window's sum. -/
def quot (c : Fin 128) (q : Fin 2048) : EReal := Ideal.div (k0_pay17 (F := Ideal) wb dp (ix2 q c)) (cn (ix2 q c))

/-- The windows of 2, 4 and 8 rows backwards, each from the one before. -/
theorem pay18 (r : Fin 2048) (c : Fin 128) : k0_pay18 (F := Ideal) cn wb dp (ix2 r c) = lead 2 (quot cn wb dp c) r := by
  rw [← lead_double 1, lead_one, ← up_spelt 1 2047 (by omega) _ _ (Nat.mod_lt _ (by omega))]
  pointwise [k0_pay18, quot]
theorem pay19 (r : Fin 2048) (c : Fin 128) : k0_pay19 (F := Ideal) cn wb dp (ix2 r c) = lead 4 (quot cn wb dp c) r := by
  rw [← lead_double 2, ← up_spelt 2 2046 (by omega) _ _ (Nat.mod_lt _ (by omega)), ← pay18, ← pay18]
  pointwise [k0_pay19]
theorem pay20 (r : Fin 2048) (c : Fin 128) : k0_pay20 (F := Ideal) cn wb dp (ix2 r c) = lead 8 (quot cn wb dp c) r := by
  rw [← lead_double 4, ← up_spelt 4 2044 (by omega) _ _ (Nat.mod_lt _ (by omega)), ← pay19, ← pay19]
  pointwise [k0_pay20]

/-- The gradient at the input: back through the windows, less what the row itself gave. -/
theorem pay1 (i : grid0.Coords) (r : Fin 2048) (c : Fin 128) :
    k0_pay1 (F := Ideal) (k0_pay17 wb dp) (k0_pay21 (BitVec.ofNat 32 (i 0).val) cn wb dp) (k0_pay22 (BitVec.ofNat 32 (i 0).val) cn wb dp) k0_pay23 (ix2 r c)
    = lead (winAt (i 0) c) (quot cn wb dp c) r - k0_pay17 (F := Ideal) wb dp (ix2 r c) := by
  rw [← select_win (i 0) c (fun w => lead w (quot cn wb dp c) r)]
  beta_reduce
  rw [← lead_double 8, ← up_spelt 8 2040 (by omega) _ _ (Nat.mod_lt _ (by omega)), ← pay18, ← pay19, ← pay20, ← pay20]
  pointwise [k0_pay1, k0_pay21, k0_pay22, k0_pay23]
end

/-! ### The gradients over the whole arrays -/

section
variable (P : FVec Ideal S2048x2176 .f32) (D : FVec Ideal S2048x1024 .f32) (W : FVec Ideal S4x64x64 .f32) (S : FVec Ideal S256 .f32)

/-- The window of a group. -/
def win (g : Fin 4) : ℕ := 2 ^ (g.val + 1)

/-- One channel of one group: of the input, of the cotangent and of the product's cotangent. -/
def px (g : Fin 4) (c : Fin 64) (t : Fin 2048) : EReal := P (ix2 t ⟨1152 + (g.val * 64 + c.val), by omega⟩)
def dy (g : Fin 4) (c : Fin 64) (t : Fin 2048) : EReal := D (ix2 t ⟨384 + (g.val * 64 + c.val), by omega⟩)
def dpre (g : Fin 4) (c : Fin 64) (t : Fin 2048) : EReal := dy D g c t * S (ix1 ⟨g.val * 64 + c.val, by omega⟩)

/-- A window's mean less the row itself, and the gradient at it. -/
def dv (g : Fin 4) (c : Fin 64) (t : Fin 2048) : EReal := Ideal.div (trail (win g) (px P g c) t) (cnt (win g) t) - px P g c t
def dd (g : Fin 4) (c : Fin 64) (t : Fin 2048) : EReal := ∑ e : Fin 64, dpre D S g e t * W (ix3 g c e)

/-- The gradients at one entry of the input, of the groups' weights and of the scale. -/
def dpAt (g : Fin 4) (c : Fin 64) (t : Fin 2048) : EReal :=
  lead (win g) (fun q => Ideal.div (dd D W S g c q) (cnt (win g) q)) t - dd D W S g c t
def dwAt (g : Fin 4) (c e : Fin 64) : EReal := ∑ t : Fin 2048, dv P g c t * dpre D S g e t
def dscAt (g : Fin 4) (c : Fin 64) : EReal := ∑ t : Fin 2048, dy D g c t * ∑ e : Fin 64, dv P g e t * W (ix3 g e c)

/-- The group and the channel in it of a column of the pooled channels. -/
def grp (n : Fin 256) : Fin 4 := ⟨n.val / 64, by omega⟩
def chn (n : Fin 256) : Fin 64 := ⟨n.val % 64, by omega⟩

def dp : FVec Ideal S2048x256 .bf16 := fun i => dpAt D W S (grp (i 1)) (chn (i 1)) (i 0)
def dw : FVec Ideal S4x64x64 .f32 := fun i => dwAt P D S (i 0) (i 1) (i 2)
def dsc : FVec Ideal S1x256 .f32 := fun i => dscAt P D W (grp (i 1)) (chn (i 1))
end

/-! ### The blocks of one point: all rows of two groups -/

theorem idx : ∀ t : Fin cfg0.N, win0_0.index t = ![0, 9 + t.val] ∧ win0_1.index t = ![0, 3 + t.val]
    ∧ win0_2.index t = ![t.val, 0, 0] ∧ win0_3.index t = ![0, t.val] ∧ win0_4.index t = ![0, t.val]
    ∧ win0_5.index t = ![t.val, 0, 0] ∧ win0_6.index t = ![0, t.val] ∧ (grid0.coords t 0).val = t.val :=
  (by decide +kernel : ∀ t : Fin grid0.N, _)

/-- The column at lane `x` of point `t`, and the group there. -/
def lane (t : Fin cfg0.N) (x : Fin 128) : Fin 256 := ⟨t.val * 128 + x.val, by have := lt_of_lt_of_eq t.isLt N_0; omega⟩
def grpAt (t : Fin cfg0.N) (x : Fin 128) : Fin 4 := ⟨t.val * 2 + x.val / 64, by have := lt_of_lt_of_eq t.isLt N_0; omega⟩

theorem grp_lane (t : Fin cfg0.N) (x : Fin 128) : grp (lane t x) = grpAt t x := Fin.ext (by simp only [grp, lane, grpAt]; omega)
theorem chn_lane (t : Fin cfg0.N) (x : Fin 128) : chn (lane t x) = chan x := Fin.ext (by simp only [chn, lane, chan]; omega)
theorem grp_mate (t : Fin cfg0.N) (x : Fin 128) (e : Fin 64) : grpAt t (mate x e) = grpAt t x :=
  Fin.ext (by simp only [grpAt, mate]; omega)
theorem winAt_eq (t : Fin cfg0.N) (x : Fin 128) : winAt (grid0.coords t 0) x = win (grpAt t x) := by
  have h : ∀ (t : Fin grid0.N) (b : Fin 2), (if b = 0 then (if (grid0.coords t 0).val = 0 then 2 else 8) else (if (grid0.coords t 0).val = 0 then 4 else 16))
      = 2 ^ (t.val * 2 + b.val + 1) := by decide +kernel
  have := h t ⟨x.val / 64, by omega⟩
  unfold winAt win grpAt
  rw [← this]
  refine if_congr ?_ rfl rfl
  simp only [Fin.ext_iff, Fin.val_zero]; omega

variable (m : (ℓ : Loc nD τ sig) → Buf (Elt Ideal) ℓ) (c : Dev nD) (t : Fin cfg0.N)

theorem read0 (r : Fin 2048) (x : Fin 128) : iblk m c 0 t (ix2 r x) = px (m ((c : Thread nD τ).loc main_arg0)) (grpAt t x) (chan x) r := by
  unfold px grpAt chan; blk_ext [iblk, V, idx t]
theorem read1 (r : Fin 2048) (x : Fin 128) : iblk m c 1 t (ix2 r x) = dy (m ((c : Thread nD τ).loc main_arg1)) (grpAt t x) (chan x) r := by
  unfold dy grpAt chan; blk_ext [iblk, V, idx t]
theorem read2 (b : Fin 2) (x y : Fin 64) : iblk m c 2 t (ix3 b x y)
    = m ((c : Thread nD τ).loc main_arg2) (ix3 ⟨t.val * 2 + b.val, by have := lt_of_lt_of_eq t.isLt N_0; omega⟩ x y) := by
  blk_ext [iblk, V, idx t]
theorem read3 (o : Fin 1) (x : Fin 128) : iblk m c 3 t (ix2 o x)
    = m ((c : Thread nD τ).loc main_arg3) (ix1 ⟨(grpAt t x).val * 64 + (chan x).val, by omega⟩) := by
  have e : ((cfg0.win 3).blk t).view.emb (ix2 o x) = ix2 o (lane t x) := by unfold lane; blk_ext [idx t]
  blk_simp [iblk]
  entry_read
  refine (congrArg (broadcastInDim S1x256 ![1] bcast_S256_S1x256_1 (m (c, Proc.tc.devRef main_arg3))) e).trans ?_
  pointwise
  exact congrArg (fun n => m ((c : Thread nD τ).loc main_arg3) (ix1 n)) (Fin.ext (by simp only [lane, grpAt, chan]; omega))

/-- The weights of a lane's group, of the block that holds both groups'. -/
theorem wsel_ld (w : Vec Ideal S2x64x64 .f32) (x : Fin 128) (a b : Fin 64) : wsel (View.ld w r0_1) (View.ld w r0_2) x a b
    = w (ix3 ⟨x.val / 64, by omega⟩ a b) := by
  unfold wsel
  split
  · refine View.ld_unit_apply_of w _ _ _ _ _ fun d => ?_
    match d with
    | ⟨0, _⟩ => show x.val / 64 = 0 + 0; omega
    | ⟨1, _⟩ => show a.val = 0 + a.val; omega
    | ⟨2, _⟩ => show b.val = 0 + b.val; omega
  · refine View.ld_unit_apply_of w _ _ _ _ _ fun d => ?_
    match d with
    | ⟨0, _⟩ => show x.val / 64 = 1 + 0; omega
    | ⟨1, _⟩ => show a.val = 0 + a.val; omega
    | ⟨2, _⟩ => show b.val = 0 + b.val; omega

theorem emb4 (r : Fin 2048) (x : Fin 128) : ((cfg0.win 4).blk t).view.emb (ix2 r x) = ix2 r (lane t x) := by
  unfold lane; blk_ext [idx t]
theorem emb5 (b : Fin 2) (x y : Fin 64) : ((cfg0.win 5).blk t).view.emb (ix3 b x y)
    = ix3 ⟨t.val * 2 + b.val, by have := lt_of_lt_of_eq t.isLt N_0; omega⟩ x y := by
  blk_ext [idx t]
theorem emb6 (o : Fin 1) (x : Fin 128) : ((cfg0.win 6).blk t).view.emb (ix2 o x) = ix2 o (lane t x) := by
  unfold lane; blk_ext [idx t]

/-! ### The arrays after the run -/

theorem dp_final : (dats m 0 c).arrAt 4 (cfgs 0).N
    = dp (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; unfold_out out0_4; frame_out
  idx_vars y
  rw [pay1]
  unfold quot
  simp only [pay9, pay17, pay13, read1 m c t, read3 m c t, wsel_ld, read2 m c t, grp_mate, chan_mate, winAt_eq]
  refine Eq.trans ?_ (congrArg (dp _ _ _) (emb4 t y0 y1).symm)
  show _ = dpAt _ _ _ (grp (lane t y1)) (chn (lane t y1)) y0
  rw [grp_lane, chn_lane]; rfl
theorem dsc_final : (dats m 0 c).arrAt 6 (cfgs 0).N
    = dsc (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]; unfold_out out0_6; frame_out
  idx_vars y
  rw [pay12]
  simp only [pay11, read0 m c t, read1 m c t, wsel_ld, read2 m c t, grp_mate, chan_mate, winAt_eq]
  refine Eq.trans ?_ (congrArg (dsc _ _ _) (emb6 t y0 y1).symm)
  show _ = dscAt _ _ _ (grp (lane t y1)) (chn (lane t y1))
  rw [grp_lane, chn_lane]; rfl
/-- An entry of the product of the two operands, both lanes in one group. -/
theorem pay14_read (x y : Fin 128) (g : Fin 4) (a e : Fin 64) (hx : grpAt t x = g ∧ chan x = a) (hy : grpAt t y = g ∧ chan y = e) :
    k0_pay14 (F := Ideal) (iblk m c 0 t) k0_pay2 (Scalar.cmpi .eq (BitVec.ofNat 32 (grid0.coords t 0).val) 0#32) (k0_pay3 (grid0.coords t))
      (k0_pay5 (iblk m c 0 t)) (k0_pay7 (iblk m c 0 t)) (k0_pay8 (grid0.coords t) (iblk m c 0 t)) (iblk m c 1 t) (iblk m c 3 t) (ix2 x y)
    = dwAt (m ((c : Thread nD τ).loc main_arg0)) (m ((c : Thread nD τ).loc main_arg1)) (m ((c : Thread nD τ).loc main_arg3)) g a e := by
  rw [pay14]
  simp only [pay11, read0 m c t, read1 m c t, read3 m c t, winAt_eq, hx, hy]
  rfl

/-- An entry of the weights' gradient that a point writes. -/
theorem dw_cell (P D S) (y : ((cfg0.win 5).xblock (cfg0.grid.coords t)).Idx) (b : Fin 2) (a e : Fin 64) (h0 : (y 0).val = b.val)
    (h1 : (y 1).val = a.val) (h2 : (y 2).val = e.val) : dw P D S (((cfg0.win 5).blk t).view.emb y)
      = dwAt P D S ⟨t.val * 2 + b.val, by have := lt_of_lt_of_eq t.isLt N_0; omega⟩ a e := by
  have hy : y = ix3 b a e := by
    funext d
    apply Fin.ext
    match d with
    | ⟨0, _⟩ => exact h0
    | ⟨1, _⟩ => exact h1
    | ⟨2, _⟩ => exact h2
  subst hy
  exact (congrArg (dw P D S) (emb5 t b a e)).trans rfl

theorem dw_final : (dats m 0 c).arrAt 5 (cfgs 0).N
    = dw (m ((c : Thread nD τ).loc main_arg0)) (m ((c : Thread nD τ).loc main_arg1)) (m ((c : Thread nD τ).loc main_arg3)) := by
  refine (dats m 0 c).arrAt_eq_of_covers 5 _ (by decide +kernel) fun t _ y => ?_
  blk_simp
  rw [after0_5]; unfold_out out0_5
  canon_tiles y h
  · frame_out
    idx_vars y
    rw [pay16, pay14_read m c t _ _ ⟨t.val * 2 + 1, by have := lt_of_lt_of_eq t.isLt N_0; omega⟩ y1 y2]
    · exact (dw_cell t _ _ _ y 1 y1 y2 (by rw [h0]; simp) h1 h2).symm
    all_goals exact ⟨Fin.ext (by simp only [grpAt]; omega), Fin.ext (by simp only [chan]; omega)⟩
  · frame_out
    idx_vars y
    rw [pay15, pay14_read m c t _ _ ⟨t.val * 2, by have := lt_of_lt_of_eq t.isLt N_0; omega⟩ y1 y2]
    · exact (dw_cell t _ _ _ _ 0 y1 y2 (by rw [h0]; simp) h1 h2).symm
    all_goals exact ⟨Fin.ext (by simp only [grpAt]; omega), Fin.ext (by simp only [chan]; omega)⟩

end Cert.Pool
end
-- ==== Proof.PoolRef.lean ====
/- The pooling mixer's gradients as the reference writes them: jax's derivative of the forward lines, windows as differences of running sums. -/
module

public import proofs.«01_k».proof.Proof.Gen.PoolGradRefIdeal.Run
public import proofs.«01_k».proof.Proof.Pool

@[expose] public section

set_option maxRecDepth 16384

noncomputable section

open Idealize.ShloMosaic Idealize.ShloMosaic.TcCoe Idealize.SL.Sem
open Cert.Rows

namespace Cert.PoolRef

open Cert.PoolGradRefIdeal Cert.PoolGradRefIdeal.Gen Cert.Pool

/-- A sum over a window of one sequence's rows, all of them long: the rows in the sequence are summed. -/
theorem window_sum (lo hi : Nat) (h : S1x2048x4x64.ReduceWindows (![1, 2048, 1, 1] : Fin 4 → Nat) ![1, 1, 1, 1] ![0, lo, 0, 0] ![0, hi, 0, 0] S1x2048x4x64)
    (x : FVec Ideal S1x2048x4x64 .f32) (t : Fin 2048) (g : Fin 4) (c : Fin 64) :
    Ideal.hostReduceWindowAdd (![1, 2048, 1, 1] : Fin 4 → Nat) ![1, 1, 1, 1] ![0, lo, 0, 0] ![0, hi, 0, 0] h x 0 (ix4 0 t g c)
      = ∑ k : Fin 2048, if h : lo ≤ t.val + k.val ∧ t.val + k.val - lo < 2048 then x (ix4 0 ⟨t.val + k.val - lo, h.2⟩ g c) else 0 := by
  unfold Ideal.hostReduceWindowAdd Host.reduceWindow
  have fold : ∀ (n : Nat) (f : Fin n → EReal), (List.finRange n).foldl (fun r i => r + f i) 0 = ∑ i, f i := by
    intro n f
    rw [← List.sum_ofFn]
    rw [List.ofFn_eq_map, List.sum_eq_foldl, List.foldl_map]
  simp only []
  rw [fold]
  refine (Equiv.sum_comp (Shape.rowMajor (⟨4, ![1, 2048, 1, 1]⟩ : Shape)).symm (fun w : (⟨4, ![1, 2048, 1, 1]⟩ : Shape).Idx =>
    if hin : ∀ a : Fin 4, (![0, lo, 0, 0] : Fin 4 → Nat) a ≤ ((ix4 0 t g c : S1x2048x4x64.Idx) a).val * (![1, 1, 1, 1] : Fin 4 → Nat) a + (w a).val
        ∧ ((ix4 0 t g c : S1x2048x4x64.Idx) a).val * (![1, 1, 1, 1] : Fin 4 → Nat) a + (w a).val - (![0, lo, 0, 0] : Fin 4 → Nat) a < S1x2048x4x64.size a
      then x (fun a => ⟨((ix4 0 t g c : S1x2048x4x64.Idx) a).val * (![1, 1, 1, 1] : Fin 4 → Nat) a + (w a).val - (![0, lo, 0, 0] : Fin 4 → Nat) a, (hin a).2⟩)
      else 0)).trans ?_
  refine (Finset.sum_nbij' (fun k : Fin 2048 => (ix4 0 k 0 0 : (⟨4, ![1, 2048, 1, 1]⟩ : Shape).Idx)) (fun w => w 1) (fun _ _ => Finset.mem_univ _)
    (fun _ _ => Finset.mem_univ _) (fun _ _ => rfl) (fun w _ => ?_) (fun k _ => ?_)).symm
  · funext a; apply Fin.ext
    match a with
    | ⟨0, _⟩ => exact congrArg Fin.val (Subsingleton.elim (α := Fin 1) 0 (w 0))
    | ⟨1, _⟩ => rfl
    | ⟨2, _⟩ => exact congrArg Fin.val (Subsingleton.elim (α := Fin 1) 0 (w 2))
    | ⟨3, _⟩ => exact congrArg Fin.val (Subsingleton.elim (α := Fin 1) 0 (w 3))
  · by_cases h : lo ≤ t.val + k.val ∧ t.val + k.val - lo < 2048
    · rw [dif_pos h, dif_pos (fun a => by
        match a with
        | ⟨0, _⟩ => exact ⟨Nat.zero_le _, Nat.zero_lt_one⟩
        | ⟨1, _⟩ => exact ⟨(show lo ≤ t.val * 1 + k.val by omega), (show t.val * 1 + k.val - lo < 2048 by omega)⟩
        | ⟨2, _⟩ => exact ⟨Nat.zero_le _, (show g.val * 1 + 0 - 0 < 4 by omega)⟩
        | ⟨3, _⟩ => exact ⟨Nat.zero_le _, (show c.val * 1 + 0 - 0 < 64 by omega)⟩)]
      refine congrArg x (funext fun a => Fin.ext ?_)
      match a with
      | ⟨0, _⟩ => rfl
      | ⟨1, _⟩ => show t.val + k.val - lo = t.val * 1 + k.val - lo; omega
      | ⟨2, _⟩ => show g.val = g.val * 1 + 0 - 0; omega
      | ⟨3, _⟩ => show c.val = c.val * 1 + 0 - 0; omega
    · rw [dif_neg h, dif_neg]
      intro e
      have := e 1
      change lo ≤ t.val * 1 + k.val ∧ t.val * 1 + k.val - lo < 2048 at this
      exact h (by omega)

section
variable (P : FVec Ideal S2048x2176 .f32) (D : FVec Ideal S2048x1024 .f32) (W : FVec Ideal S4x64x64 .f32) (S : FVec Ideal S256 .f32)

/-- The word zero, the input by groups, its running sums, and one group's columns of such an array. -/
abbrev hZero : FVec Ideal S_ .f32 := constant S_ .f32 0x00000000#32
abbrev hX : FVec Ideal S1x2048x4x64 .f32 :=
  shapeCast _ (broadcastInDim S1x2048x256 ![1, 2] bcast_S2048x256_S1x2048x256_1_2 (extractStridedSlice S2048x256 ![0, 1152] P slices_S2048x2176_S2048x256_0_1152)) shapeCasts_S1x2048x256_S1x2048x4x64
abbrev hRun : FVec Ideal S1x2048x4x64 .f32 :=
  Host.reduceWindowAdd ![1, 2048, 1, 1] ![1, 1, 1, 1] ![0, 2047, 0, 0] ![0, 0, 0, 0] (hX P) (broadcastInDim S_ ![] bcast_S_S_ hZero) reduceWindows_S1x2048x4x64_S1x2048x4x64_w1s1p0_0_w2048s1p2047_0_w1s1p0_0_w1s1p0_0 h_S_
abbrev hG0 (Y : FVec Ideal S1x2048x4x64 .f32) : FVec Ideal S1x2048x64 .f32 :=
  shapeCast _ (extractStridedSlice S1x2048x1x64 ![0, 0, 0, 0] Y slices_S1x2048x4x64_S1x2048x1x64_0_0_0_0) shapeCasts_S1x2048x1x64_S1x2048x64
abbrev hG1 (Y : FVec Ideal S1x2048x4x64 .f32) : FVec Ideal S1x2048x64 .f32 :=
  shapeCast _ (extractStridedSlice S1x2048x1x64 ![0, 0, 1, 0] Y slices_S1x2048x4x64_S1x2048x1x64_0_0_1_0) shapeCasts_S1x2048x1x64_S1x2048x64
abbrev hG2 (Y : FVec Ideal S1x2048x4x64 .f32) : FVec Ideal S1x2048x64 .f32 :=
  shapeCast _ (extractStridedSlice S1x2048x1x64 ![0, 0, 2, 0] Y slices_S1x2048x4x64_S1x2048x1x64_0_0_2_0) shapeCasts_S1x2048x1x64_S1x2048x64
abbrev hG3 (Y : FVec Ideal S1x2048x4x64 .f32) : FVec Ideal S1x2048x64 .f32 :=
  shapeCast _ (extractStridedSlice S1x2048x1x64 ![0, 0, 3, 0] Y slices_S1x2048x4x64_S1x2048x1x64_0_0_3_0) shapeCasts_S1x2048x1x64_S1x2048x64

/-- How many rows a window holds, row by row; the window is given as a word. -/
abbrev hCnt (w : BitVec 32) : FVec Ideal S1x2048x64 .f32 :=
  broadcastInDim S1x2048x64 ![0, 1, 2] bcast_S1x2048x1_S1x2048x64_0_1_2 (broadcastInDim S1x2048x1 ![1] bcast_S2048_S1x2048x1_1
    (minimumf (addf (broadcastInDim S2048 ![] bcast_S_S2048 (constant S_ .f32 0x3F800000#32)) (sitofp .f32 (iotaInDim S2048 32 0))) (broadcastInDim S2048 ![] bcast_S_S2048 (constant S_ .f32 w))))

/-- The cotangent, and the cotangent of the product. -/
abbrev hD : FVec Ideal S1x2048x256 .f32 :=
  broadcastInDim S1x2048x256 ![1, 2] bcast_S2048x256_S1x2048x256_1_2 (extractStridedSlice S2048x256 ![0, 384] D slices_S2048x1024_S2048x256_0_384)
abbrev hPre : FVec Ideal S4x64x1x2048 .f32 :=
  transpose S4x64x1x2048 [2, 3, 0, 1] (shapeCast _ (mulf (hD D) (broadcastInDim S1x2048x256 ![0, 1, 2] bcast_S1x1x256_S1x2048x256_0_1_2 (broadcastInDim S1x1x256 ![2] bcast_S256_S1x1x256_2 S))) shapeCasts_S1x2048x256_S1x2048x4x64) transposes_S1x2048x4x64_S4x64x1x2048_2_3_0_1

/-- The gradient at the means less the rows. -/
abbrev hDd : FVec Ideal S1x2048x4x64 .f32 :=
  transpose S1x2048x4x64 [1, 2, 0, 3] (Host.dotGeneral dot_S4x64x1x2048_S4x64x64_S4x1x2048x64_1_2_23_1_0_0 none (hPre D S) W) transposes_S4x1x2048x64_S1x2048x4x64_1_2_0_3

theorem hX_at (t : Fin 2048) (g : Fin 4) (c : Fin 64) : hX P (ix4 0 t g c) = px P g c t := by
  pointwise [px]
theorem hRun_at (t : Fin 2048) (g : Fin 4) (c : Fin 64) (r : Fin 2048 → ℝ) (hr : ∀ q, px P g c q = (r q : EReal)) :
    hRun P (ix4 0 t g c) = ((run (ext r) t.val : ℝ) : EReal) := by
  have h0 : (broadcastInDim S_ ![] bcast_S_S_ hZero) (Shape.Idx.first h_S_) = 0 := by pointwise
  show Ideal.hostReduceWindowAdd _ _ _ ![0, 0, 0, 0] reduceWindows_S1x2048x4x64_S1x2048x4x64_w1s1p0_0_w2048s1p2047_0_w1s1p0_0_w1s1p0_0 _ _ _ = _
  rw [h0, window_sum, ← run_window]
  refine Finset.sum_congr rfl fun k _ => ?_
  simp only [hX_at, hr]
  by_cases h : 2047 ≤ t.val + k.val
  · rw [dif_pos h, dif_pos ⟨h, by omega⟩]
  · rw [dif_neg h, dif_neg (fun e => h e.1)]
theorem hDd_at (t : Fin 2048) (g : Fin 4) (c : Fin 64) : hDd D W S (ix4 0 t g c) = dd D W S g c t := by
  pointwise [dd, dpre, dy]

/-- A window's count as a word: the row's number, counted from 1, or the window. -/
theorem hCnt_at (w : BitVec 32) (n : ℕ) (hw : Ideal.ofBits .f32 w = ((n : ℝ) : EReal)) (t : Fin 2048) (c : Fin 64) : hCnt w (ix3 0 t c) = cnt n t := by
  pointwise
  rw [hw]
  have e : FloatOps.sitofp (F := Ideal) FTy.f32 (BitVec.ofNat 32 t.val) = ((t.val : ℝ) : EReal) := by
    show (((BitVec.ofNat 32 t.val).toInt : ℝ) : EReal) = _
    rw [toInt_small _ (by omega)]; simp
  rw [e, cnt, Nat.cast_min, EReal.coe_strictMono.monotone.map_min]
  congr 1
  push_cast
  rw [add_comm]
theorem word2 : Ideal.ofBits .f32 0x40000000#32 = (((2 : ℕ) : ℝ) : EReal) := by simp [Ideal.ofBits, Ideal.ieee, -EReal.coe_mul]; norm_num
theorem word4 : Ideal.ofBits .f32 0x40800000#32 = (((4 : ℕ) : ℝ) : EReal) := by simp [Ideal.ofBits, Ideal.ieee, -EReal.coe_mul]; norm_num
theorem word8 : Ideal.ofBits .f32 0x41000000#32 = (((8 : ℕ) : ℝ) : EReal) := by simp [Ideal.ofBits, Ideal.ieee, -EReal.coe_mul]; norm_num
theorem word16 : Ideal.ofBits .f32 0x41800000#32 = (((16 : ℕ) : ℝ) : EReal) := by simp [Ideal.ofBits, Ideal.ieee, -EReal.coe_mul]; norm_num

/-- A running sum's column under `w` rows of zeros, less itself `w` rows earlier. -/
abbrev hDiff0 (Y : FVec Ideal S1x2048x64 .f32) : FVec Ideal S1x2048x64 .f32 :=
  subf (extractStridedSlice S1x2048x64 ![0, 2, 0] (concatenate S1x2050x64 1 [⟨S1x2x64, (broadcastInDim S1x2x64 ![] bcast_S_S1x2x64 hZero)⟩, ⟨S1x2048x64, Y⟩] concatenates_S1x2x64_S1x2048x64_S1x2050x64_d1) slices_S1x2050x64_S1x2048x64_0_2_0)
    (extractStridedSlice S1x2048x64 ![0, 0, 0] (concatenate S1x2050x64 1 [⟨S1x2x64, (broadcastInDim S1x2x64 ![] bcast_S_S1x2x64 hZero)⟩, ⟨S1x2048x64, Y⟩] concatenates_S1x2x64_S1x2048x64_S1x2050x64_d1) slices_S1x2050x64_S1x2048x64_0_0_0)
abbrev hDiff1 (Y : FVec Ideal S1x2048x64 .f32) : FVec Ideal S1x2048x64 .f32 :=
  subf (extractStridedSlice S1x2048x64 ![0, 4, 0] (concatenate S1x2052x64 1 [⟨S1x4x64, (broadcastInDim S1x4x64 ![] bcast_S_S1x4x64 hZero)⟩, ⟨S1x2048x64, Y⟩] concatenates_S1x4x64_S1x2048x64_S1x2052x64_d1) slices_S1x2052x64_S1x2048x64_0_4_0)
    (extractStridedSlice S1x2048x64 ![0, 0, 0] (concatenate S1x2052x64 1 [⟨S1x4x64, (broadcastInDim S1x4x64 ![] bcast_S_S1x4x64 hZero)⟩, ⟨S1x2048x64, Y⟩] concatenates_S1x4x64_S1x2048x64_S1x2052x64_d1) slices_S1x2052x64_S1x2048x64_0_0_0)
abbrev hDiff2 (Y : FVec Ideal S1x2048x64 .f32) : FVec Ideal S1x2048x64 .f32 :=
  subf (extractStridedSlice S1x2048x64 ![0, 8, 0] (concatenate S1x2056x64 1 [⟨S1x8x64, (broadcastInDim S1x8x64 ![] bcast_S_S1x8x64 hZero)⟩, ⟨S1x2048x64, Y⟩] concatenates_S1x8x64_S1x2048x64_S1x2056x64_d1) slices_S1x2056x64_S1x2048x64_0_8_0)
    (extractStridedSlice S1x2048x64 ![0, 0, 0] (concatenate S1x2056x64 1 [⟨S1x8x64, (broadcastInDim S1x8x64 ![] bcast_S_S1x8x64 hZero)⟩, ⟨S1x2048x64, Y⟩] concatenates_S1x8x64_S1x2048x64_S1x2056x64_d1) slices_S1x2056x64_S1x2048x64_0_0_0)
abbrev hDiff3 (Y : FVec Ideal S1x2048x64 .f32) : FVec Ideal S1x2048x64 .f32 :=
  subf (extractStridedSlice S1x2048x64 ![0, 16, 0] (concatenate S1x2064x64 1 [⟨S1x16x64, (broadcastInDim S1x16x64 ![] bcast_S_S1x16x64 hZero)⟩, ⟨S1x2048x64, Y⟩] concatenates_S1x16x64_S1x2048x64_S1x2064x64_d1) slices_S1x2064x64_S1x2048x64_0_16_0)
    (extractStridedSlice S1x2048x64 ![0, 0, 0] (concatenate S1x2064x64 1 [⟨S1x16x64, (broadcastInDim S1x16x64 ![] bcast_S_S1x16x64 hZero)⟩, ⟨S1x2048x64, Y⟩] concatenates_S1x16x64_S1x2048x64_S1x2064x64_d1) slices_S1x2064x64_S1x2048x64_0_0_0)
theorem hDiff0_at (Y : FVec Ideal S1x2048x64 .f32) (t : Fin 2048) (c : Fin 64) : hDiff0 Y (ix3 0 t c) = Y (ix3 0 t c) - down 2 (fun q => Y (ix3 0 q c)) t := by
  pointwise [down]
  rfl
theorem hDiff1_at (Y : FVec Ideal S1x2048x64 .f32) (t : Fin 2048) (c : Fin 64) : hDiff1 Y (ix3 0 t c) = Y (ix3 0 t c) - down 4 (fun q => Y (ix3 0 q c)) t := by
  pointwise [down]
  rfl
theorem hDiff2_at (Y : FVec Ideal S1x2048x64 .f32) (t : Fin 2048) (c : Fin 64) : hDiff2 Y (ix3 0 t c) = Y (ix3 0 t c) - down 8 (fun q => Y (ix3 0 q c)) t := by
  pointwise [down]
  rfl
theorem hDiff3_at (Y : FVec Ideal S1x2048x64 .f32) (t : Fin 2048) (c : Fin 64) : hDiff3 Y (ix3 0 t c) = Y (ix3 0 t c) - down 16 (fun q => Y (ix3 0 q c)) t := by
  pointwise [down]
  rfl

/-- A difference of running sums over a count: a window's mean. -/
theorem mean_at (w : ℕ) (b : BitVec 32) (hb : Ideal.ofBits .f32 b = ((w : ℝ) : EReal)) (f : Fin 2048 → EReal) (r : Fin 2048 → ℝ) (hr : ∀ q, f q = (r q : EReal))
    (Y Z : FVec Ideal S1x2048x64 .f32) (t : Fin 2048) (c : Fin 64) (hY : ∀ q, Y (ix3 0 q c) = ((run (ext r) q.val : ℝ) : EReal))
    (hZ : Z (ix3 0 t c) = Y (ix3 0 t c) - down w (fun q => Y (ix3 0 q c)) t) :
    Host.divf Z (hCnt b) (ix3 0 t c) = Ideal.div (trail w f t) (cnt w t) := by
  have hd : down w (fun q => Y (ix3 0 q c)) t = ((if t.val < w then 0 else run (ext r) (t.val - w) : ℝ) : EReal) := by
    simp only [hY]; unfold down; split <;> rfl
  show Ideal.div (Z (ix3 0 t c)) (hCnt b (ix3 0 t c)) = _
  rw [hCnt_at b w hb, hZ, hd, hY, ← EReal.coe_sub, ← trail_coe, ← funext hr]

/-- Four groups side by side. -/
abbrev hStack (A B C E : FVec Ideal S1x2048x64 .f32) : FVec Ideal S1x2048x4x64 .f32 :=
  concatenate S1x2048x4x64 2 [⟨S1x2048x1x64, (broadcastInDim S1x2048x1x64 ![0, 1, 3] bcast_S1x2048x64_S1x2048x1x64_0_1_3 A)⟩, ⟨S1x2048x1x64, (broadcastInDim S1x2048x1x64 ![0, 1, 3] bcast_S1x2048x64_S1x2048x1x64_0_1_3 B)⟩, ⟨S1x2048x1x64, (broadcastInDim S1x2048x1x64 ![0, 1, 3] bcast_S1x2048x64_S1x2048x1x64_0_1_3 C)⟩, ⟨S1x2048x1x64, (broadcastInDim S1x2048x1x64 ![0, 1, 3] bcast_S1x2048x64_S1x2048x1x64_0_1_3 E)⟩] concatenates_S1x2048x1x64_S1x2048x1x64_S1x2048x1x64_S1x2048x1x64_S1x2048x4x64_d2
theorem hStack_at (A B C E : FVec Ideal S1x2048x64 .f32) (t : Fin 2048) (g : Fin 4) (c : Fin 64) :
    hStack A B C E (ix4 0 t g c) = (![A, B, C, E] : Fin 4 → _) g (ix3 0 t c) := by
  match g with
  | 0 => pointwise
  | 1 => pointwise
  | 2 => pointwise
  | 3 => pointwise

/-- The four means, and the means less the rows. -/
abbrev hMean0 : FVec Ideal S1x2048x64 .f32 := Host.divf (hDiff0 (hG0 (hRun P))) (hCnt 0x40000000#32)
abbrev hMean1 : FVec Ideal S1x2048x64 .f32 := Host.divf (hDiff1 (hG1 (hRun P))) (hCnt 0x40800000#32)
abbrev hMean2 : FVec Ideal S1x2048x64 .f32 := Host.divf (hDiff2 (hG2 (hRun P))) (hCnt 0x41000000#32)
abbrev hMean3 : FVec Ideal S1x2048x64 .f32 := Host.divf (hDiff3 (hG3 (hRun P))) (hCnt 0x41800000#32)
abbrev hDv : FVec Ideal S1x2048x4x64 .f32 := subf (hStack (hMean0 P) (hMean1 P) (hMean2 P) (hMean3 P)) (hX P)

theorem hDv_at (p : S2048x2176.Idx → ℝ) (hp : ∀ i, P i = (p i : EReal)) (t : Fin 2048) (g : Fin 4) (c : Fin 64) : hDv P (ix4 0 t g c) = dv P g c t := by
  have hr : ∀ g q, px P g c q = ((p (ix2 q ⟨1152 + (g.val * 64 + c.val), by omega⟩) : ℝ) : EReal) := fun g q => hp _
  have hY : ∀ g q, hRun P (ix4 0 q g c) = _ := fun g q => hRun_at P q g c _ (hr g)
  show hStack _ _ _ _ (ix4 0 t g c) - hX P (ix4 0 t g c) = _
  rw [hStack_at, hX_at, dv]
  congr 1
  match g with
  | 0 => exact mean_at 2 _ word2 _ _ (hr 0) (hG0 (hRun P)) _ t c (fun q => (by pointwise : hG0 (hRun P) (ix3 0 q c) = hRun P (ix4 0 q 0 c)).trans (hY 0 q)) (hDiff0_at _ t c)
  | 1 => exact mean_at 4 _ word4 _ _ (hr 1) (hG1 (hRun P)) _ t c (fun q => (by pointwise : hG1 (hRun P) (ix3 0 q c) = hRun P (ix4 0 q 1 c)).trans (hY 1 q)) (hDiff1_at _ t c)
  | 2 => exact mean_at 8 _ word8 _ _ (hr 2) (hG2 (hRun P)) _ t c (fun q => (by pointwise : hG2 (hRun P) (ix3 0 q c) = hRun P (ix4 0 q 2 c)).trans (hY 2 q)) (hDiff2_at _ t c)
  | 3 => exact mean_at 16 _ word16 _ _ (hr 3) (hG3 (hRun P)) _ t c (fun q => (by pointwise : hG3 (hRun P) (ix3 0 q c) = hRun P (ix4 0 q 3 c)).trans (hY 3 q)) (hDiff3_at _ t c)

/-- A column moved up, the row's number added after the shift. -/
theorem up_front (w : Nat) (f : Fin 2048 → EReal) (t : Fin 2048) : (if h : w + t.val < 2048 then f ⟨w + t.val, h⟩ else 0) = up w f t := by
  unfold up
  by_cases h : t.val + w < 2048
  · rw [dif_pos h, dif_pos (show w + t.val < 2048 by omega)]
    exact congrArg f (Fin.ext (Nat.add_comm _ _))
  · rw [dif_neg h, dif_neg (show ¬ w + t.val < 2048 by omega)]

/-- The derivative of a difference of a column and itself `w` rows earlier: less the entry `w` rows later. -/
abbrev hBack0 (E : FVec Ideal S1x2048x64 .f32) : FVec Ideal S1x2048x1x64 .f32 :=
  broadcastInDim S1x2048x1x64 ![0, 1, 3] bcast_S1x2048x64_S1x2048x1x64_0_1_3 (extractStridedSlice S1x2048x64 ![0, 2, 0] (addf
    (pad S1x2050x64 ![0, 0, 0] ![0, 2, 0] ![0, 0, 0] (Host.negf E) hZero pads_S1x2048x64_S1x2050x64_000_020_000 h_S_)
    (pad S1x2050x64 ![0, 2, 0] ![0, 0, 0] ![0, 0, 0] E hZero pads_S1x2048x64_S1x2050x64_000_200_000 h_S_)) slices_S1x2050x64_S1x2048x64_0_2_0)
abbrev hBack1 (E : FVec Ideal S1x2048x64 .f32) : FVec Ideal S1x2048x1x64 .f32 :=
  broadcastInDim S1x2048x1x64 ![0, 1, 3] bcast_S1x2048x64_S1x2048x1x64_0_1_3 (extractStridedSlice S1x2048x64 ![0, 4, 0] (addf
    (pad S1x2052x64 ![0, 0, 0] ![0, 4, 0] ![0, 0, 0] (Host.negf E) hZero pads_S1x2048x64_S1x2052x64_000_040_000 h_S_)
    (pad S1x2052x64 ![0, 4, 0] ![0, 0, 0] ![0, 0, 0] E hZero pads_S1x2048x64_S1x2052x64_000_400_000 h_S_)) slices_S1x2052x64_S1x2048x64_0_4_0)
abbrev hBack2 (E : FVec Ideal S1x2048x64 .f32) : FVec Ideal S1x2048x1x64 .f32 :=
  broadcastInDim S1x2048x1x64 ![0, 1, 3] bcast_S1x2048x64_S1x2048x1x64_0_1_3 (extractStridedSlice S1x2048x64 ![0, 8, 0] (addf
    (pad S1x2056x64 ![0, 0, 0] ![0, 8, 0] ![0, 0, 0] (Host.negf E) hZero pads_S1x2048x64_S1x2056x64_000_080_000 h_S_)
    (pad S1x2056x64 ![0, 8, 0] ![0, 0, 0] ![0, 0, 0] E hZero pads_S1x2048x64_S1x2056x64_000_800_000 h_S_)) slices_S1x2056x64_S1x2048x64_0_8_0)
abbrev hBack3 (E : FVec Ideal S1x2048x64 .f32) : FVec Ideal S1x2048x1x64 .f32 :=
  broadcastInDim S1x2048x1x64 ![0, 1, 3] bcast_S1x2048x64_S1x2048x1x64_0_1_3 (extractStridedSlice S1x2048x64 ![0, 16, 0] (addf
    (pad S1x2064x64 ![0, 0, 0] ![0, 16, 0] ![0, 0, 0] (Host.negf E) hZero pads_S1x2048x64_S1x2064x64_000_0160_000 h_S_)
    (pad S1x2064x64 ![0, 16, 0] ![0, 0, 0] ![0, 0, 0] E hZero pads_S1x2048x64_S1x2064x64_000_1600_000 h_S_)) slices_S1x2064x64_S1x2048x64_0_16_0)
theorem hBack0_at (E : FVec Ideal S1x2048x64 .f32) (t : Fin 2048) (c : Fin 64) : hBack0 E (ix4 0 t 0 c) = up 2 (fun q => - E (ix3 0 q c)) t + E (ix3 0 t c) := by
  pointwise
  exact congrArg (· + _) (up_front _ (fun q => - E (ix3 0 q c)) t)
theorem hBack1_at (E : FVec Ideal S1x2048x64 .f32) (t : Fin 2048) (c : Fin 64) : hBack1 E (ix4 0 t 0 c) = up 4 (fun q => - E (ix3 0 q c)) t + E (ix3 0 t c) := by
  pointwise
  exact congrArg (· + _) (up_front _ (fun q => - E (ix3 0 q c)) t)
theorem hBack2_at (E : FVec Ideal S1x2048x64 .f32) (t : Fin 2048) (c : Fin 64) : hBack2 E (ix4 0 t 0 c) = up 8 (fun q => - E (ix3 0 q c)) t + E (ix3 0 t c) := by
  pointwise
  exact congrArg (· + _) (up_front _ (fun q => - E (ix3 0 q c)) t)
theorem hBack3_at (E : FVec Ideal S1x2048x64 .f32) (t : Fin 2048) (c : Fin 64) : hBack3 E (ix4 0 t 0 c) = up 16 (fun q => - E (ix3 0 q c)) t + E (ix3 0 t c) := by
  pointwise
  exact congrArg (· + _) (up_front _ (fun q => - E (ix3 0 q c)) t)

/-- Four groups, each placed among zeros, added. -/
abbrev hPlace (A B C E : FVec Ideal S1x2048x1x64 .f32) : FVec Ideal S1x2048x4x64 .f32 :=
  addf (addf (addf (pad S1x2048x4x64 ![0, 0, 3, 0] ![0, 0, 0, 0] ![0, 0, 0, 0] E hZero pads_S1x2048x1x64_S1x2048x4x64_000_000_300_000 h_S_)
    (pad S1x2048x4x64 ![0, 0, 2, 0] ![0, 0, 1, 0] ![0, 0, 0, 0] C hZero pads_S1x2048x1x64_S1x2048x4x64_000_000_210_000 h_S_))
    (pad S1x2048x4x64 ![0, 0, 1, 0] ![0, 0, 2, 0] ![0, 0, 0, 0] B hZero pads_S1x2048x1x64_S1x2048x4x64_000_000_120_000 h_S_))
    (pad S1x2048x4x64 ![0, 0, 0, 0] ![0, 0, 3, 0] ![0, 0, 0, 0] A hZero pads_S1x2048x1x64_S1x2048x4x64_000_000_030_000 h_S_)
theorem hPlace_at (A B C E : FVec Ideal S1x2048x1x64 .f32) (t : Fin 2048) (g : Fin 4) (c : Fin 64) :
    hPlace A B C E (ix4 0 t g c) = (![A, B, C, E] : Fin 4 → _) g (ix4 0 t 0 c) := by
  match g with
  | 0 => pointwise
  | 1 => pointwise
  | 2 => pointwise
  | 3 => pointwise

/-- Sums from a row to the end. -/
abbrev hTail (Y : FVec Ideal S1x2048x4x64 .f32) : FVec Ideal S1x2048x4x64 .f32 :=
  Host.reduceWindowAdd ![1, 2048, 1, 1] ![1, 1, 1, 1] ![0, 0, 0, 0] ![0, 2047, 0, 0] Y (broadcastInDim S_ ![] bcast_S_S_ hZero) reduceWindows_S1x2048x4x64_S1x2048x4x64_w1s1p0_0_w2048s1p0_2047_w1s1p0_0_w1s1p0_0 h_S_
theorem hTail_at (Y : FVec Ideal S1x2048x4x64 .f32) (w : ℕ) (ev : Fin 2048 → ℝ) (t : Fin 2048) (g : Fin 4) (c : Fin 64)
    (hY : ∀ q, Y (ix4 0 q g c) = up w (fun q => - ((ev q : ℝ) : EReal)) q + (ev q : EReal)) :
    hTail Y (ix4 0 t g c) = lead w (fun q => (ev q : EReal)) t := by
  have h0 : (broadcastInDim S_ ![] bcast_S_S_ hZero) (Shape.Idx.first h_S_) = 0 := by pointwise
  show Ideal.hostReduceWindowAdd _ _ _ ![0, 2047, 0, 0] reduceWindows_S1x2048x4x64_S1x2048x4x64_w1s1p0_0_w2048s1p0_2047_w1s1p0_0_w1s1p0_0 _ _ _ = _
  have hY' : ∀ q, Y (ix4 0 q g c) = ((ext ev q.val - ext ev (q.val + w) : ℝ) : EReal) := by
    intro q
    have e := up_coe (fun q => - ev q) w q
    simp only [EReal.coe_neg] at e
    rw [hY, e, ← EReal.coe_add]
    congr 1
    have h1 : ext (fun q => - ev q) (q.val + w) = - ext ev (q.val + w) := by unfold ext; split <;> simp
    have h2 : ext ev q.val = ev q := by unfold ext; rw [dif_pos q.isLt]
    rw [h1, h2]; ring
  rw [h0, window_sum, lead_coe, ← tail_window (fun j => ext ev j - ext ev (j + w))]
  refine Finset.sum_congr rfl fun k _ => ?_
  simp only [hY']
  by_cases h : t.val + k.val < 2048
  · rw [dif_pos h, dif_pos ⟨Nat.zero_le _, h⟩]; rfl
  · rw [dif_neg h, dif_neg (fun e => h e.2)]

variable (d : S2048x1024.Idx → ℝ) (hd : ∀ i, D i = (d i : EReal)) (w : S4x64x64.Idx → ℝ) (hw : ∀ i, W i = (w i : EReal)) (s : S256.Idx → ℝ) (hs : ∀ i, S i = (s i : EReal))

/-- The gradient at the means less the rows, of numbers. -/
def ddr (g : Fin 4) (c : Fin 64) (t : Fin 2048) : ℝ :=
  ∑ e : Fin 64, d (ix2 t ⟨384 + (g.val * 64 + e.val), by omega⟩) * s (ix1 ⟨g.val * 64 + e.val, by omega⟩) * w (ix3 g c e)
include hd hw hs in
theorem dd_coe (g : Fin 4) (c : Fin 64) (t : Fin 2048) : dd D W S g c t = ((ddr d w s g c t : ℝ) : EReal) := by
  rw [ddr, coe_sum]
  refine Finset.sum_congr rfl fun e _ => ?_
  rw [dpre, dy, hd, hw, hs, EReal.coe_mul, EReal.coe_mul]

abbrev hE0 : FVec Ideal S1x2048x64 .f32 := Host.divf (hG0 (hDd D W S)) (hCnt 0x40000000#32)
abbrev hE1 : FVec Ideal S1x2048x64 .f32 := Host.divf (hG1 (hDd D W S)) (hCnt 0x40800000#32)
abbrev hE2 : FVec Ideal S1x2048x64 .f32 := Host.divf (hG2 (hDd D W S)) (hCnt 0x41000000#32)
abbrev hE3 : FVec Ideal S1x2048x64 .f32 := Host.divf (hG3 (hDd D W S)) (hCnt 0x41800000#32)

theorem quot_at (n : ℕ) (b : BitVec 32) (hb : Ideal.ofBits .f32 b = ((n : ℝ) : EReal)) (hn : 0 < n) (Y : FVec Ideal S1x2048x64 .f32) (c : Fin 64) (r : Fin 2048 → ℝ)
    (hY : ∀ q, Y (ix3 0 q c) = (r q : EReal)) (q : Fin 2048) :
    Host.divf Y (hCnt b) (ix3 0 q c) = ((r q * (1 / ((min (q.val + 1) n : ℕ) : ℝ)) : ℝ) : EReal) := by
  show Ideal.div (Y (ix3 0 q c)) (hCnt b (ix3 0 q c)) = _
  rw [hCnt_at b n hb, hY, div_cnt n hn]

abbrev hDp : FVec Ideal S2048x256 .bf16 :=
  truncf .bf16 (shapeCast _ (shapeCast _ (addf (Host.negf (hDd D W S)) (hTail (hPlace (hBack0 (hE0 D W S)) (hBack1 (hE1 D W S)) (hBack2 (hE2 D W S)) (hBack3 (hE3 D W S))))) shapeCasts_S1x2048x4x64_S1x2048x256) shapeCasts_S1x2048x256_S2048x256) bitsLt_bf16_f32

include hd hw hs in
/-- One group of the four, from the means' gradients to the sums. -/
theorem back_at (q : Fin 2048) (g : Fin 4) (c : Fin 64) : hPlace (hBack0 (hE0 D W S)) (hBack1 (hE1 D W S)) (hBack2 (hE2 D W S)) (hBack3 (hE3 D W S)) (ix4 0 q g c)
    = up (win g) (fun q => - ((ddr d w s g c q * (1 / ((min (q.val + 1) (win g) : ℕ) : ℝ)) : ℝ) : EReal)) q + ((ddr d w s g c q * (1 / ((min (q.val + 1) (win g) : ℕ) : ℝ)) : ℝ) : EReal) := by
  have hY : ∀ g q, hDd D W S (ix4 0 q g c) = _ := fun g q => (hDd_at D W S q g c).trans (dd_coe D W S d hd w hw s hs g c q)
  rw [hPlace_at]
  match g with
  | 0 => exact (hBack0_at _ q c).trans (by simp only [quot_at 2 _ word2 (by omega) (hG0 (hDd D W S)) c _ (fun q => (by pointwise : hG0 (hDd D W S) (ix3 0 q c) = hDd D W S (ix4 0 q 0 c)).trans (hY 0 q))]; rfl)
  | 1 => exact (hBack1_at _ q c).trans (by simp only [quot_at 4 _ word4 (by omega) (hG1 (hDd D W S)) c _ (fun q => (by pointwise : hG1 (hDd D W S) (ix3 0 q c) = hDd D W S (ix4 0 q 1 c)).trans (hY 1 q))]; rfl)
  | 2 => exact (hBack2_at _ q c).trans (by simp only [quot_at 8 _ word8 (by omega) (hG2 (hDd D W S)) c _ (fun q => (by pointwise : hG2 (hDd D W S) (ix3 0 q c) = hDd D W S (ix4 0 q 2 c)).trans (hY 2 q))]; rfl)
  | 3 => exact (hBack3_at _ q c).trans (by simp only [quot_at 16 _ word16 (by omega) (hG3 (hDd D W S)) c _ (fun q => (by pointwise : hG3 (hDd D W S) (ix3 0 q c) = hDd D W S (ix4 0 q 3 c)).trans (hY 3 q))]; rfl)

include hd hw hs in
theorem dp_ref : hDp D W S = dp D W S := by
  funext i
  idx_vars i; generalize i0 = t; generalize i1 = n
  have e : hDp D W S (ix2 t n) = - hDd D W S (ix4 0 t (grp n) (chn n)) + hTail (hPlace (hBack0 (hE0 D W S)) (hBack1 (hE1 D W S)) (hBack2 (hE2 D W S)) (hBack3 (hE3 D W S))) (ix4 0 t (grp n) (chn n)) := by
    pointwise [grp, chn]
  show _ = dpAt D W S (grp n) (chn n) t
  rw [e, hTail_at _ (win (grp n)) _ t (grp n) (chn n) (fun q => back_at D W S d hd w hw s hs q _ _), hDd_at, dpAt, sub_eq_add_neg, add_comm]
  congr 1
  refine congrArg (fun f => lead _ f t) (funext fun q => ?_)
  rw [dd_coe D W S d hd w hw s hs, div_cnt _ (by unfold win; positivity)]

/-- The groups' weights' gradient and the scale's gradient, as the reference writes them of the means less the rows. -/
abbrev hDw (Y : FVec Ideal S1x2048x4x64 .f32) : FVec Ideal S4x64x64 .f32 :=
  transpose S4x64x64 [0, 2, 1] (Host.dotGeneral dot_S4x64x1x2048_S1x2048x4x64_S4x64x64_23_01_1_3_0_2 none (hPre D S) Y) transposes_S4x64x64_S4x64x64_0_2_1
abbrev hDsc (Y : FVec Ideal S1x2048x4x64 .f32) : FVec Ideal S1x256 .f32 :=
  broadcastInDim S1x256 ![1] bcast_S256_S1x256_1 (Host.reduceAdd (shapeCast _ (Host.reduceAdd (mulf (shapeCast _ (transpose S1x2048x4x64 [2, 3, 0, 1] (Host.dotGeneral dot_S4x64x64_S1x2048x4x64_S4x64x1x2048_1_3_2_01_0_2 none W Y) transposes_S4x64x1x2048_S1x2048x4x64_2_3_0_1) shapeCasts_S1x2048x4x64_S1x2048x256) (hD D)) hZero reducesTo_S1x2048x256_S1x256_d1 h_S_) shapeCasts_S1x256_S1x1x256) hZero reducesTo_S1x1x256_S256_d0_1 h_S_)

theorem hDw_at (Y : FVec Ideal S1x2048x4x64 .f32) (g : Fin 4) (a b : Fin 64) : hDw D S Y (ix3 g a b) = ∑ t : Fin 2048, Y (ix4 0 t g a) * dpre D S g b t := by
  pointwise [dpre, dy]
  rw [Fin.sum_univ_one]
  exact Finset.sum_congr rfl fun t _ => mul_comm (_ * _) (Y _)

theorem hDsc_at (Y : FVec Ideal S1x2048x4x64 .f32) (z : Fin 1) (n : Fin 256) :
    hDsc D W Y (ix2 z n) = ∑ t : Fin 2048, dy D (grp n) (chn n) t * ∑ e : Fin 64, Y (ix4 0 t (grp n) e) * W (ix3 (grp n) e (chn n)) := by
  have h1 : hDsc D W Y (ix2 z n) = Ideal.hostReduceAdd reducesTo_S1x1x256_S256_d0_1 (shapeCast _ (Host.reduceAdd (mulf (shapeCast _ (transpose S1x2048x4x64 [2, 3, 0, 1] (Host.dotGeneral dot_S4x64x64_S1x2048x4x64_S4x64x1x2048_1_3_2_01_0_2 none W Y) transposes_S4x64x1x2048_S1x2048x4x64_2_3_0_1) shapeCasts_S1x2048x4x64_S1x2048x256) (hD D)) hZero reducesTo_S1x2048x256_S1x256_d1 h_S_) shapeCasts_S1x256_S1x1x256) 0 (ix1 n) := by
    pointwise
  rw [h1]
  unfold Ideal.hostReduceAdd
  rw [sum_lead]
  pointwise [dy, grp, chn]
  refine Finset.sum_congr rfl fun t _ => ?_
  rw [mul_comm]
  congr 1
  · exact congrArg (fun k => D (ix2 t k)) (Fin.ext (by simp only; omega))
  · exact Finset.sum_congr rfl fun e _ => mul_comm _ _

theorem dw_ref (p : S2048x2176.Idx → ℝ) (hp : ∀ i, P i = (p i : EReal)) : hDw D S (hDv P) = dw P D S := by
  funext i
  idx_vars i; generalize i0 = g; generalize i1 = a; generalize i2 = b
  show _ = dwAt P D S g a b
  rw [hDw_at]
  exact Finset.sum_congr rfl fun t _ => by rw [hDv_at P p hp]

theorem dsc_ref (p : S2048x2176.Idx → ℝ) (hp : ∀ i, P i = (p i : EReal)) : hDsc D W (hDv P) = dsc P D W := by
  funext i
  idx_vars i; generalize i0 = z; generalize i1 = n
  show _ = dscAt P D W (grp n) (chn n)
  rw [hDsc_at]
  simp only [hDv_at P p hp, dscAt]
end

end Cert.PoolRef
end
-- ==== Proof.Finite.lean ====
/- Arrays of numbers: what a precondition of finite arguments says. -/
module

public import Idealize.ShloMosaic.Lib.StableHlo
public import Idealize.ShloMosaic.PureOps
public import Idealize.ShloMosaic.PureOps.Ideal
public import Idealize.ShloMosaic.Lib.ValueIdxCore

@[expose] public section

noncomputable section

open Idealize.ShloMosaic Idealize.ShloMosaic.ValueIdx

namespace Cert.Finite

/-- The word of positive infinity. -/
theorem word_inf : Ideal.ofBits .f32 0x7F800000#32 = ⊤ := by simp [Ideal.ofBits, Ideal.ieee]

/-- An entry smaller than infinity in absolute value is a number. -/
theorem real_of_abs_lt (x : EReal) (h : max x (-x) < ⊤) : ∃ r : ℝ, x = (r : EReal) := by
  induction x with
  | bot => simp at h
  | top => simp at h
  | coe r => exact ⟨r, rfl⟩

/-- An array whose entries are all smaller than infinity in absolute value is an array of numbers. -/
theorem real_of_pre {S : Shape} (hb : (⟨0, ![]⟩ : Shape).BroadcastsInDim S (![] : Fin 0 → Fin S.rank)) (x : FVec Ideal S .f32)
    (h : cmpf .olt (Host.absf x) (broadcastInDim S ![] hb (constant ⟨0, ![]⟩ .f32 0x7F800000#32)) = fun _ => 1) :
    ∃ r : S.Idx → ℝ, ∀ i, x i = (r i : EReal) := by
  have e : ∀ i, ∃ r : ℝ, x i = (r : EReal) := by
    intro i
    apply real_of_abs_lt
    have hi := congrFun h i
    rw [← word_inf]
    by_contra hn
    have : cmpf .olt (Host.absf x) (broadcastInDim S ![] hb (constant ⟨0, ![]⟩ .f32 0x7F800000#32)) i = 0#1 := by
      show BitVec.ofBool (decide (max (x i) (-(x i)) < Ideal.ofBits .f32 0x7F800000#32)) = 0#1
      rw [decide_eq_false hn]; rfl
    rw [this] at hi
    exact absurd hi (by decide)
  exact ⟨fun i => (e i).choose, fun i => (e i).choose_spec⟩

/-- A table of numbers read at natural numbers. -/
def nat1 {n : ℕ} [NeZero n] (p : Shape.Idx ⟨1, ![n]⟩ → ℝ) (i : ℕ) : ℝ := p (ix1 (Fin.ofNat n i))
def nat2 {n k : ℕ} [NeZero n] [NeZero k] (p : Shape.Idx ⟨2, ![n, k]⟩ → ℝ) (i j : ℕ) : ℝ := p (ix2 (Fin.ofNat n i) (Fin.ofNat k j))
def nat3 {n k l : ℕ} [NeZero n] [NeZero k] [NeZero l] (p : Shape.Idx ⟨3, ![n, k, l]⟩ → ℝ) (i j o : ℕ) : ℝ :=
  p (ix3 (Fin.ofNat n i) (Fin.ofNat k j) (Fin.ofNat l o))

theorem nat1_at {n : ℕ} [NeZero n] (p : Shape.Idx ⟨1, ![n]⟩ → ℝ) (i : Fin n) : nat1 p i.val = p (ix1 i) := by
  unfold nat1; rw [Fin.ofNat_val_eq_self]
theorem nat2_at {n k : ℕ} [NeZero n] [NeZero k] (p : Shape.Idx ⟨2, ![n, k]⟩ → ℝ) (i : Fin n) (j : Fin k) : nat2 p i.val j.val = p (ix2 i j) := by
  unfold nat2; rw [Fin.ofNat_val_eq_self, Fin.ofNat_val_eq_self]
theorem nat3_at {n k l : ℕ} [NeZero n] [NeZero k] [NeZero l] (p : Shape.Idx ⟨3, ![n, k, l]⟩ → ℝ) (i : Fin n) (j : Fin k) (o : Fin l) :
    nat3 p i.val j.val o.val = p (ix3 i j o) := by
  unfold nat3; rw [Fin.ofNat_val_eq_self, Fin.ofNat_val_eq_self, Fin.ofNat_val_eq_self]

end Cert.Finite
end
-- ==== Proof.PoolPair.lean ====
/- The claims about the pooling mixer's gradients: the frames of its programs and the value claim. -/
module

public import proofs.«01_k».proof.Defs
public import proofs.«01_k».proof.Proof.Gen.PoolGrad.Frame
public import proofs.«01_k».proof.Proof.Gen.PoolGradIdeal.Frame
public import proofs.«01_k».proof.Proof.PoolRef
public import proofs.«01_k».proof.Proof.Finite
public import Idealize.ShloMosaic.Lib.Claim

@[expose] public section

set_option maxRecDepth 16384

noncomputable section

open Idealize.ShloMosaic Idealize.SL.Sem

namespace Cert.PoolPair

/-- The precondition's shapes fit. -/
instance facts_finite : Cert.Pre_pool_finite.Facts := ⟨by decide, by decide, by decide, by decide⟩

/-- The kernel runs, leaves its arguments as they were and ends with every counter at zero. -/
theorem frame : Cert.quiescent_PoolGrad := fun m ρ _ => Cert.PoolGrad.Gen.frame m ρ
theorem frame_ideal : Cert.quiescent_PoolGradIdeal := fun m ρ _ => Cert.PoolGradIdeal.Gen.frame m ρ
theorem frame_finite : Cert.quiescent_PoolGradIdeal_pre_pool_finite := fun m ρ _ => Cert.PoolGradIdeal.Gen.frame m ρ

/-- So does the reference, which has no counter. -/
theorem frame_ref : Cert.quiescent_PoolGradRefIdeal :=
  fun m g _ => (θ_run _ _ _).mono
    (fun r h => ⟨fun c => (h c).2.2.2, sem_eq_zero_of_no_sems (sig := Cert.PoolGradRefIdeal.sig) (by decide) r.2⟩)
    (Cert.PoolGradRefIdeal.Value.run m g)

theorem frame_ref_finite : Cert.quiescent_PoolGradRefIdeal_pre_pool_finite := fun m g _ => frame_ref m g trivial

/-- Over the reals, on finite arguments, the kernel computes what the reference does. -/
theorem algebraic : Cert.algebraic_PoolGradIdeal_PoolGradRefIdeal_pre_pool_finite := by
  pair_intro
  · run_from Cert.PoolGradIdeal.Gen.run_main m g
  · refine (θ_run _ _ _).mono (fun r h c => ?_) (Cert.PoolGradRefIdeal.Value.run m' g')
    have hf := hpre c
    obtain ⟨p, hp⟩ := Finite.real_of_pre _ _ hf.1
    obtain ⟨d, hd⟩ := Finite.real_of_pre _ _ hf.2.1
    obtain ⟨w, hw⟩ := Finite.real_of_pre _ _ hf.2.2.1
    obtain ⟨s, hs⟩ := Finite.real_of_pre _ _ hf.2.2.2
    rw [← (hagree c).1] at hp; rw [← (hagree c).2.1] at hd; rw [← (hagree c).2.2.1] at hw; rw [← (hagree c).2.2.2] at hs
    refine ⟨(h c).1.trans ?_, (h c).2.1.trans ?_, (h c).2.2.1.trans ?_, (h c).2.2.2⟩
    · rw [Cert.Pool.dp_final m c, ← (hagree c).2.1, ← (hagree c).2.2.1, ← (hagree c).2.2.2]; exact Cert.PoolRef.dp_ref _ _ _ d hd w hw s hs
    · rw [Cert.Pool.dw_final m c, ← (hagree c).1, ← (hagree c).2.1, ← (hagree c).2.2.2]; exact Cert.PoolRef.dw_ref _ _ _ p hp
    · rw [Cert.Pool.dsc_final m c, ← (hagree c).1, ← (hagree c).2.1, ← (hagree c).2.2.1]; exact Cert.PoolRef.dsc_ref _ _ _ p hp

end Cert.PoolPair
end
-- ==== Proof.GeluMath.lean ====
/- Numbers for the exact gelu and for a normalisation: the values of both at a real number, as a kernel and as `jax.numpy`
   spell them. -/
module

public import proofs.«01_k».proof.Proof.Rows

@[expose] public section

noncomputable section

open Idealize.ShloMosaic

namespace Cert.Gelu

/-- The error function at a number. -/
def erfR (r : ℝ) : ℝ := 2 / Real.sqrt Real.pi * ∫ t in (0 : ℝ)..r, Real.exp (-(t ^ 2))

/-- The exact gelu. -/
def gel (x : ℝ) : ℝ := 1 / 2 * x * (1 + erfR (x * (Real.sqrt 2)⁻¹))

/-- Its derivative. -/
def dgel (x : ℝ) : ℝ :=
  1 / 2 * (1 + erfR (x * (Real.sqrt 2)⁻¹)) + x * ((Real.sqrt (2 * Real.pi))⁻¹ * Real.exp (-1 / 2 * x * x))

/-- The guard that a normalisation adds to a variance. -/
def eps : ℝ := 2748779 / 274877906944

theorem eps_pos : 0 < eps := by norm_num [eps]

theorem erf_coe (r : ℝ) : Ideal.erf (r : EReal) = (erfR r : EReal) := Ideal.erf_coe r

theorem word_half : Ideal.ofBits .f32 0x3F000000#32 = ((1 / 2 : ℝ) : EReal) := by
  simp [Ideal.ofBits, Ideal.ieee, -EReal.coe_mul]; norm_num
theorem word_neg_half : Ideal.ofBits .f32 0xBF000000#32 = ((-1 / 2 : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num
theorem word_neg_one : Ideal.ofBits .f32 0xBF800000#32 = ((-1 : ℝ) : EReal) := by
  simp [Ideal.ofBits, Ideal.ieee, -EReal.coe_mul]; norm_num
theorem word_64 : Ideal.ofBits .f32 0x42800000#32 = ((64 : ℝ) : EReal) := by
  simp [Ideal.ofBits, Ideal.ieee, -EReal.coe_mul]; norm_num
theorem word_64th : Ideal.ofBits .f32 0x3C800000#32 = ((1 / 64 : ℝ) : EReal) := by
  simp [Ideal.ofBits, Ideal.ieee, -EReal.coe_mul]; norm_num
theorem word_eps : Ideal.ofBits .f32 0x3727C5AC#32 = (eps : EReal) := by
  unfold eps; simp [Ideal.ofBits, Ideal.ieee, -EReal.coe_mul]; norm_num

/-- The gelu as a kernel spells it. -/
theorem gel_kernel (x : ℝ) :
    Ideal.ofBits .f32 0x3F000000#32 * (x : EReal) * (1 + Ideal.erf ((x : EReal) * (((Real.sqrt 2)⁻¹ : ℝ) : EReal))) = (gel x : EReal) := by
  rw [word_half, ← EReal.coe_mul, ← EReal.coe_mul, erf_coe, ← EReal.coe_one, ← EReal.coe_add, ← EReal.coe_mul]; rfl

/-- Its derivative as a kernel spells it. -/
theorem dgel_kernel (x : ℝ) :
    Ideal.ofBits .f32 0x3F000000#32 * (1 + Ideal.erf ((x : EReal) * (((Real.sqrt 2)⁻¹ : ℝ) : EReal)))
      + (x : EReal) * ((((Real.sqrt (2 * Real.pi))⁻¹ : ℝ) : EReal) * Ideal.exp (Ideal.ofBits .f32 0xBF000000#32 * (x : EReal) * (x : EReal))) = (dgel x : EReal) := by
  rw [word_half, word_neg_half, ← EReal.coe_mul, erf_coe, ← EReal.coe_one, ← EReal.coe_add, ← EReal.coe_mul, ← EReal.coe_mul, ← EReal.coe_mul,
    Ideal.exp_coe, ← EReal.coe_mul, ← EReal.coe_mul, ← EReal.coe_add]; rfl

theorem rsqrt_two : Ideal.rsqrt (Ideal.ofBits .f32 0x40000000#32) = (((Real.sqrt 2)⁻¹ : ℝ) : EReal) := by
  rw [word_two, Ideal.rsqrt_coe, if_neg (by norm_num), if_neg (by norm_num)]

theorem acos_neg_one : Ideal.acos (Ideal.ofBits .f32 0xBF800000#32) = (Real.pi : EReal) := by
  rw [word_neg_one]
  show (if (-1 : ℝ) ≤ -1 ∧ (-1 : ℝ) ≤ 1 then ((Real.arccos (-1) : ℝ) : EReal) else ⊥) = _
  rw [if_pos (by norm_num), Real.arccos_neg_one]

/-- The factor 2/√π as the host spells it. -/
theorem slope : Ideal.ofBits .f32 0x40000000#32 * Ideal.rsqrt (Ideal.acos (Ideal.ofBits .f32 0xBF800000#32)) = ((2 * (Real.sqrt Real.pi)⁻¹ : ℝ) : EReal) := by
  rw [acos_neg_one, word_two, Ideal.rsqrt_coe, if_neg (not_lt.mpr Real.pi_pos.le), if_neg Real.pi_pos.ne', ← EReal.coe_mul]

/-- The complementary error function in the host's gelu. -/
theorem erfc_host (x : ℝ) : Ideal.erfc (-(x : EReal) * (((Real.sqrt 2)⁻¹ : ℝ) : EReal)) = ((1 + erfR (x * (Real.sqrt 2)⁻¹) : ℝ) : EReal) := by
  rw [neg_mul, Ideal.erfc_neg, ← EReal.coe_mul, erf_coe, ← EReal.coe_one, ← EReal.coe_add]

/-- The gelu as the host spells it. -/
theorem gel_host (x : ℝ) :
    Ideal.ofBits .f32 0x3F000000#32 * (x : EReal) * ((1 + erfR (x * (Real.sqrt 2)⁻¹) : ℝ) : EReal) = (gel x : EReal) := by
  rw [word_half, ← EReal.coe_mul, ← EReal.coe_mul]; rfl

/-- The gradient through the host's gelu, at a cotangent `c`. -/
theorem dgel_host (x c : ℝ) :
    -(-(2 * (Real.sqrt Real.pi)⁻¹) * Real.exp (-(-x * (Real.sqrt 2)⁻¹ * (-x * (Real.sqrt 2)⁻¹))) * (1 / 2 * x * c) * (Real.sqrt 2)⁻¹)
      + 1 / 2 * (c * (1 + erfR (x * (Real.sqrt 2)⁻¹))) = c * dgel x := by
  have h2 : (Real.sqrt 2)⁻¹ * (Real.sqrt 2)⁻¹ = 1 / 2 := by
    rw [← mul_inv, Real.mul_self_sqrt (by norm_num)]; norm_num
  have he : -(-x * (Real.sqrt 2)⁻¹ * (-x * (Real.sqrt 2)⁻¹)) = -1 / 2 * x * x := by
    calc _ = -(x * x * ((Real.sqrt 2)⁻¹ * (Real.sqrt 2)⁻¹)) := by ring
      _ = _ := by rw [h2]; ring
  have hs : (Real.sqrt (2 * Real.pi))⁻¹ = (Real.sqrt 2)⁻¹ * (Real.sqrt Real.pi)⁻¹ := by
    rw [Real.sqrt_mul (by norm_num), mul_inv]
  rw [he, dgel, hs]
  ring

/-- The gradient through a normalisation: the three terms that come back by the row, by its variance and by its mean. -/
theorem norm_back {ι : Type} [Fintype ι] (n : ℝ) (c ct : ι → ℝ) (hc : ∑ j, c j = 0) (r e : ℝ) (he : e ≠ 0) (hr : r * r * e = 1) (i : ι) :
    ct i * r + (∑ j, c j * ct j) * (-1 / 2 * (r / e)) / n * (2 * c i)
        + (∑ j, -(ct j * r) + ∑ j, -((∑ j, c j * ct j) * (-1 / 2 * (r / e)) / n * (2 * c j))) / n
      = r * (ct i - (∑ j, ct j) / n - c i * r * ((∑ j, ct j * (c j * r)) / n)) := by
  have h1 : ∑ j, -(ct j * r) = -((∑ j, ct j) * r) := by rw [Finset.sum_neg_distrib, Finset.sum_mul]
  have h2 : ∀ k : ℝ, ∑ j, -(k * (2 * c j)) = 0 := by
    intro k
    rw [Finset.sum_neg_distrib, ← Finset.mul_sum, ← Finset.mul_sum, hc]; simp
  have h3 : ∑ j, ct j * (c j * r) = (∑ j, c j * ct j) * r := by
    rw [Finset.sum_mul]; exact Finset.sum_congr rfl fun j _ => by ring
  have h4 : r / e = r * (r * r) := by
    rw [div_eq_iff he]; calc r = r * 1 := by ring
      _ = r * (r * r * e) := by rw [hr]
      _ = _ := by ring
  rw [h1, h2, h3, h4]
  generalize ∑ j, c j * ct j = S
  ring

end Cert.Gelu
end
-- ==== Proof.SguMath.lean ====
/- The gradients of the spatial gating unit over the real numbers, entry by entry: rows and columns are natural numbers, a row
   `r` is row `r % 128` of chunk `r / 128`, a column `q` is of head `q / 64`. -/
module

public import proofs.«01_k».proof.Proof.GeluMath

@[expose] public section

noncomputable section

open Idealize.ShloMosaic

namespace Cert.SguMath

open Cert.Gelu

/-- The mean of a row over the columns of a head. -/
def hm (a : ℕ → ℕ → ℝ) (r q : ℕ) : ℝ := (∑ d : Fin 64, a r (64 * (q / 64) + d.val)) / 64

/-- A row less its mean. -/
def cen (a : ℕ → ℕ → ℝ) (r q : ℕ) : ℝ := a r q - hm a r q

/-- The guarded variance of a row. -/
def vare (a : ℕ → ℕ → ℝ) (r q : ℕ) : ℝ := hm (fun r q => cen a r q * cen a r q) r q + eps

/-- One over the square root of the guarded variance. -/
def rstd (a : ℕ → ℕ → ℝ) (r q : ℕ) : ℝ := (Real.sqrt (vare a r q))⁻¹

/-- The gelu of an array. -/
def gelA (a : ℕ → ℕ → ℝ) (r q : ℕ) : ℝ := gel (a r q)

/-- The normalised second half. -/
def vn (v : ℕ → ℕ → ℝ) (r q : ℕ) : ℝ := cen (gelA v) r q * rstd (gelA v) r q

/-- A mixing matrix below its diagonal. -/
def tri (w : ℕ → ℕ → ℕ → ℝ) (h t s : ℕ) : ℝ := if t < s then 0 else w h t s

section grads
variable (u v dy : ℕ → ℕ → ℝ) (g : ℕ → ℝ) (w : ℕ → ℕ → ℕ → ℝ) (b : ℕ → ℕ → ℝ)

/-- The scaled normalised rows. -/
def vg (r q : ℕ) : ℝ := vn v r q * g q

/-- The mixed rows of the chunk. -/
def mixed (r q : ℕ) : ℝ := (∑ s : Fin 128, tri w (q / 64) (r % 128) s.val * vg v g (128 * (r / 128) + s.val) q) + b (q / 64) (r % 128)

/-- The gradient of the first half. -/
def du (r q : ℕ) : ℝ := dy r q * mixed v g w b r q * dgel (u r q)

/-- The cotangent of the mixed rows. -/
def dm (r q : ℕ) : ℝ := dy r q * gel (u r q)

/-- The cotangent of the scaled rows, back through the mixing. -/
def back (r q : ℕ) : ℝ := ∑ t : Fin 128, tri w (q / 64) t.val (r % 128) * dm u dy (128 * (r / 128) + t.val) q

/-- The cotangent of the normalised rows. -/
def ct (r q : ℕ) : ℝ := back u dy w r q * g q

/-- The gradient through the normalisation. -/
def dnorm (r q : ℕ) : ℝ :=
  rstd (gelA v) r q * (ct u dy g w r q - hm (ct u dy g w) r q - vn v r q * hm (fun r q => ct u dy g w r q * vn v r q) r q)

/-- The gradient of the second half. -/
def dv (r q : ℕ) : ℝ := dnorm u v dy g w r q * dgel (v r q)

/-- The gradient of the gain. -/
def dg (q : ℕ) : ℝ := ∑ n : Fin 16, ∑ t : Fin 128, back u dy w (128 * n.val + t.val) q * vn v (128 * n.val + t.val) q

/-- The gradient of a mixing matrix. -/
def dw (h t s : ℕ) : ℝ :=
  if t < s then 0 else ∑ n : Fin 16, ∑ d : Fin 64, dm u dy (128 * n.val + t) (64 * h + d.val) * vg v g (128 * n.val + s) (64 * h + d.val)

/-- The gradient of a bias. -/
def db (h t : ℕ) : ℝ := ∑ n : Fin 16, ∑ d : Fin 64, dm u dy (128 * n.val + t) (64 * h + d.val)
end grads

/-- The two halves of the unit's input, as columns of the projections, and the unit's columns of the cotangent. -/
def U (P : ℕ → ℕ → ℝ) (r q : ℕ) : ℝ := P r (1408 + q)
def Vh (P : ℕ → ℕ → ℝ) (r q : ℕ) : ℝ := P r (1792 + q)
def Dy (D : ℕ → ℕ → ℝ) (r q : ℕ) : ℝ := D r (640 + q)

/-- What lies in a tile of 128 rows and 128 columns. -/
def tile (a : ℕ → ℕ → ℝ) (k j : ℕ) (r x : ℕ) : ℝ := a (128 * k + r) (128 * j + x)

/-- A head's columns share their mean. -/
theorem hm_head (a : ℕ → ℕ → ℝ) (r h : ℕ) (d : Fin 64) : hm a r (64 * h + d.val) = (∑ d : Fin 64, a r (64 * h + d.val)) / 64 := by
  unfold hm; rw [show (64 * h + d.val) / 64 = h by omega]
theorem rstd_head (a : ℕ → ℕ → ℝ) (r h : ℕ) (d : Fin 64) : rstd a r (64 * h + d.val) = rstd a r (64 * h) := by
  unfold rstd vare
  exact congrArg (fun x => (Real.sqrt (x + eps))⁻¹) ((hm_head _ r h d).trans (hm_head (fun r q => cen a r q * cen a r q) r h 0).symm)

theorem vare_pos (a : ℕ → ℕ → ℝ) (r q : ℕ) : 0 < vare a r q := by
  have h : 0 ≤ hm (fun r q => cen a r q * cen a r q) r q :=
    div_nonneg (Finset.sum_nonneg fun d _ => mul_self_nonneg _) (by norm_num)
  have := eps_pos
  unfold vare; linarith

theorem rstd_sq (a : ℕ → ℕ → ℝ) (r q : ℕ) : rstd a r q * rstd a r q * vare a r q = 1 := by
  unfold rstd
  rw [← mul_inv, Real.mul_self_sqrt (vare_pos a r q).le, inv_mul_cancel₀ (vare_pos a r q).ne']

theorem rsqrt_vare (a : ℕ → ℕ → ℝ) (r q : ℕ) : Ideal.rsqrt (vare a r q : EReal) = (rstd a r q : EReal) := by
  rw [Ideal.rsqrt_coe, if_neg (not_lt.mpr (vare_pos a r q).le), if_neg (vare_pos a r q).ne']; rfl

/-- A row less its mean sums to zero over a head. -/
theorem sum_cen (a : ℕ → ℕ → ℝ) (r h : ℕ) : ∑ d : Fin 64, cen a r (64 * h + d.val) = 0 := by
  have e := hm_head a r h
  unfold cen
  rw [Finset.sum_sub_distrib, Finset.sum_congr rfl fun d _ => e d]
  simp; ring

/-- The choice by "a lane of the first head". -/
theorem lane_select (n : ℕ) (hn : n < 128) (a b : EReal) :
    Scalar.select (IntOp.cmpi .slt (BitVec.ofNat 32 n) 64#32) a b = if n < 64 then a else b :=
  Cert.Rows.select_lt n 64 (by omega) (by omega) a b

theorem split_lanes (F : Fin 128 → EReal) : ∑ y, F y = ∑ d : Fin 64, F ⟨d.val, by omega⟩ + ∑ d : Fin 64, F ⟨64 + d.val, by omega⟩ :=
  Fin.sum_univ_add (a := 64) (b := 64) F

/-- The lanes of the first head alone. -/
theorem lanes_lo (F : Fin 128 → EReal) :
    ∑ y : Fin 128, Scalar.select (IntOp.cmpi .slt (BitVec.ofNat 32 y.val) 64#32) (F y) 0 = ∑ d : Fin 64, F ⟨d.val, by omega⟩ :=
  (split_lanes _).trans ((congrArg₂ (· + ·)
    (Finset.sum_congr rfl fun d _ => (lane_select d.val (by omega) _ _).trans (if_pos d.isLt))
    (Finset.sum_eq_zero fun d _ => (lane_select (64 + d.val) (by omega) _ _).trans (if_neg (by omega)))).trans (add_zero _))

/-- The lanes of the second head alone. -/
theorem lanes_hi (F : Fin 128 → EReal) :
    ∑ y : Fin 128, Scalar.select (IntOp.cmpi .slt (BitVec.ofNat 32 y.val) 64#32) 0 (F y) = ∑ d : Fin 64, F ⟨64 + d.val, by omega⟩ :=
  (split_lanes _).trans ((congrArg₂ (· + ·)
    (Finset.sum_eq_zero fun d _ => (lane_select d.val (by omega) _ _).trans (if_pos d.isLt))
    (Finset.sum_congr rfl fun d _ => (lane_select (64 + d.val) (by omega) _ _).trans (if_neg (by omega)))).trans (zero_add _))

/-- A sum of numbers is their sum as extended numbers. -/
theorem coe_sum {ι : Type} (s : Finset ι) (f : ι → ℝ) : ((∑ i ∈ s, f i : ℝ) : EReal) = ∑ i ∈ s, (f i : EReal) := by
  classical
  induction s using Finset.induction_on with
  | empty => simp
  | insert a t h ih => rw [Finset.sum_insert h, Finset.sum_insert h, EReal.coe_add, ih]

/-- The sum of a lane's head. -/
theorem lanes (f : ℕ → ℝ) (x : ℕ) (hx : x < 128) :
    Scalar.select (IntOp.cmpi .slt (BitVec.ofNat 32 x) 64#32)
        (∑ y : Fin 128, Scalar.select (IntOp.cmpi .slt (BitVec.ofNat 32 y.val) 64#32) ((f y.val : ℝ) : EReal) 0)
        (∑ y : Fin 128, Scalar.select (IntOp.cmpi .slt (BitVec.ofNat 32 y.val) 64#32) (0 : EReal) ((f y.val : ℝ) : EReal))
      = ((∑ d : Fin 64, f (64 * (x / 64) + d.val) : ℝ) : EReal) := by
  rw [lane_select _ hx, lanes_lo, lanes_hi, coe_sum]
  by_cases h : x < 64
  · rw [if_pos h]
    exact Finset.sum_congr rfl fun d _ => by rw [show x / 64 = 0 by omega, Nat.mul_zero, Nat.zero_add]
  · rw [if_neg h]
    exact Finset.sum_congr rfl fun d _ => by rw [show x / 64 = 1 by omega, Nat.mul_one]

/-- The mean of a lane's head, where the row lies in a tile. -/
theorem lanes_mean (a : ℕ → ℕ → ℝ) (r j x : ℕ) (hx : x < 128) :
    Scalar.select (IntOp.cmpi .slt (BitVec.ofNat 32 x) 64#32)
        (∑ y : Fin 128, Scalar.select (IntOp.cmpi .slt (BitVec.ofNat 32 y.val) 64#32) ((a r (128 * j + y.val) : ℝ) : EReal) 0)
        (∑ y : Fin 128, Scalar.select (IntOp.cmpi .slt (BitVec.ofNat 32 y.val) 64#32) (0 : EReal) ((a r (128 * j + y.val) : ℝ) : EReal))
        * Ideal.ofBits .f32 0x3C800000#32
      = ((hm a r (128 * j + x) : ℝ) : EReal) := by
  rw [lanes (fun y => a r (128 * j + y)) x hx, word_64th, ← EReal.coe_mul]
  unfold hm
  rw [Finset.sum_congr rfl fun (d : Fin 64) _ => congrArg (a r) (show 128 * j + (64 * (x / 64) + d.val) = 64 * ((128 * j + x) / 64) + d.val by omega)]
  congr 1; ring

end Cert.SguMath
end
-- ==== Proof.SguTile.lean ====
/- What the kernel computes on a tile of 128 rows and 128 columns, over the extended reals and from numbers: each of its values is
   the entry of the corresponding array of `SguMath`. -/
module

public import proofs.«01_k».proof.Proof.Gen.SguGradIdeal.Skeleton
public import proofs.«01_k».proof.Proof.SguMath
public import Idealize.ShloMosaic.Lib.Pipeline.ValueKit

@[expose] public section

set_option maxRecDepth 8192
set_option maxHeartbeats 1000000

noncomputable section

namespace Cert.Sgu

open Cert.SguGradIdeal Cert.SguGradIdeal.Gen
open Idealize.ShloMosaic Idealize.ShloMosaic.TcCoe
open Cert.SguMath Cert.Gelu

/-- The tile of row block `k` and column block `j` of an array of numbers. -/
def T (a : ℕ → ℕ → ℝ) (k j : ℕ) : S128x128.Idx → EReal := fun y => ((a (128 * k + (y 0).val) (128 * j + (y 1).val) : ℝ) : EReal)

variable (k j : ℕ)

theorem named_rsqrt2 : (Named.named (F := Ideal) κ "rsqrt2" 0x3F3504F3#32 : Ideal .f32) = (((Real.sqrt 2)⁻¹ : ℝ) : EReal) := rfl
theorem named_rsqrt2pi : (Named.named (F := Ideal) κ "rsqrt2pi" 0x3ECC422A#32 : Ideal .f32) = (((Real.sqrt (2 * Real.pi))⁻¹ : ℝ) : EReal) := rfl

/-- A row of gains of column block `j`. -/
def G (g : ℕ → ℝ) (j : ℕ) : S1x128.Idx → EReal := fun y => ((g (128 * j + (y 1).val) : ℝ) : EReal)
/-- The mixing matrix of head `h` below its diagonal, and its transpose. -/
def Wm (w : ℕ → ℕ → ℕ → ℝ) (h : ℕ) : S128x128.Idx → EReal := fun y => ((tri w h (y 0).val (y 1).val : ℝ) : EReal)
def Wt (w : ℕ → ℕ → ℕ → ℝ) (h : ℕ) : S128x128.Idx → EReal := fun y => ((tri w h (y 1).val (y 0).val : ℝ) : EReal)
/-- The bias of head `h`. -/
def Bc (b : ℕ → ℕ → ℝ) (h : ℕ) : S128x1.Idx → EReal := fun y => ((b h (y 0).val : ℝ) : EReal)

theorem gel_k (x : ℝ) : Ideal.ofBits .f32 0x3F000000#32 * (x : EReal) * (1 + FloatOps.erf (F := Ideal) (φ := .f32) ((x : EReal) * Named.named (F := Ideal) (φ := .f32) κ "rsqrt2" 0x3F3504F3#32)) = (gel x : EReal) :=
  gel_kernel x

/-- The choice between the values of a tile's two heads. -/
theorem lane_head (f : ℕ → ℝ) (x : ℕ) (hx : x < 128) :
    Scalar.select (IntOp.cmpi .slt (BitVec.ofNat 32 x) 64#32) ((f (2 * j) : ℝ) : EReal) ((f (2 * j + 1) : ℝ) : EReal)
      = ((f ((128 * j + x) / 64) : ℝ) : EReal) := by
  rw [lane_select _ hx]
  by_cases h : x < 64
  · rw [if_pos h, show (128 * j + x) / 64 = 2 * j by omega]
  · rw [if_neg h, show (128 * j + x) / 64 = 2 * j + 1 by omega]

theorem pay4 (u : ℕ → ℕ → ℝ) : k0_pay4 (F := Ideal) (T u k j) = T (gelA u) k j := by
  funext y; idx_vars y
  pointwise [k0_pay4, T]
  exact gel_kernel _

theorem pay5 (v : ℕ → ℕ → ℝ) : k0_pay5 (F := Ideal) k0_pay25 (T v k j) = T (cen (gelA v)) k j := by
  funext y; idx_vars y
  pointwise [k0_pay5, k0_pay25, T]
  simp only [gel_k]
  rw [show ∀ r q, gel (v r q) = gelA v r q from fun _ _ => rfl]
  refine (congrArg (_ - ·) (lanes_mean (gelA v) _ j y1.val y1.isLt)).trans ?_
  rw [← EReal.coe_sub]; rfl

theorem pay6 (v : ℕ → ℕ → ℝ) : k0_pay6 (F := Ideal) k0_pay25 (T v k j) = T (fun r q => cen (gelA v) r q * cen (gelA v) r q) k j := by
  unfold k0_pay6; rw [pay5]
  funext y; idx_vars y
  pointwise [T]
  rw [← EReal.coe_mul]

theorem pay7 (a : ℕ → ℕ → ℝ) : k0_pay7 (F := Ideal) k0_pay25 (T (fun r q => cen a r q * cen a r q) k j) = T (rstd a) k j := by
  funext y; idx_vars y
  pointwise [k0_pay7, k0_pay25, T]
  refine Eq.trans ?_ (rsqrt_vare a _ _)
  refine congrArg Ideal.rsqrt ?_
  refine (congrArg (· + _) (lanes_mean (fun r q => cen a r q * cen a r q) _ j y1.val y1.isLt)).trans ?_
  rw [word_eps, ← EReal.coe_add]; rfl

theorem pay8 (v : ℕ → ℕ → ℝ) : k0_pay8 (F := Ideal) k0_pay25 (T (cen (gelA v)) k j) (T (fun r q => cen (gelA v) r q * cen (gelA v) r q) k j) = T (vn v) k j := by
  unfold k0_pay8; rw [pay7]
  funext y; idx_vars y
  pointwise [T]
  rw [← EReal.coe_mul]; rfl

theorem pay9 (v : ℕ → ℕ → ℝ) (g : ℕ → ℝ) : k0_pay9 (F := Ideal) k0_pay25 (G g j) (T (cen (gelA v)) k j) (T (fun r q => cen (gelA v) r q * cen (gelA v) r q) k j) = T (vg v g) k j := by
  unfold k0_pay9; rw [pay8]
  funext y; idx_vars y
  pointwise [T, G]
  rw [← EReal.coe_mul]; rfl

theorem pay10 (v dy : ℕ → ℕ → ℝ) (g : ℕ → ℝ) (w : ℕ → ℕ → ℕ → ℝ) (b : ℕ → ℕ → ℝ) :
    k0_pay10 (F := Ideal) k0_pay25 (Wm w (2 * j)) (Wm w (2 * j + 1)) (G g j) (Bc b (2 * j)) (Bc b (2 * j + 1)) (T (cen (gelA v)) k j) (T (fun r q => cen (gelA v) r q * cen (gelA v) r q) k j) (T dy k j)
      = T (fun r q => dy r q * mixed v g w b r q) k j := by
  unfold k0_pay10; rw [pay9]
  funext y; idx_vars y
  pointwise [T, Wm, Bc, k0_pay25]
  rw [EReal.coe_mul]
  refine congrArg (_ * ·) ?_
  simp only [← EReal.coe_mul, ← coe_sum, ← EReal.coe_add]
  refine (lane_head j (fun h => (∑ s : Fin 128, tri w h y0.val s.val * vg v g (128 * k + s.val) (128 * j + y1.val)) + b h y0.val) y1.val y1.isLt).trans ?_
  unfold mixed
  rw [show (128 * k + y0.val) % 128 = y0.val by omega, show (128 * k + y0.val) / 128 = k by omega]

theorem pay16 (u dy : ℕ → ℕ → ℝ) : k0_pay16 (F := Ideal) (T (gelA u) k j) (T dy k j) = T (dm u dy) k j := by
  funext y; idx_vars y
  pointwise [k0_pay16, k0_pay13, T]
  rw [← EReal.coe_mul]; rfl

theorem pay20 (u dy : ℕ → ℕ → ℝ) (w : ℕ → ℕ → ℕ → ℝ) :
    k0_pay20 (F := Ideal) k0_pay25 (Wt w (2 * j)) (Wt w (2 * j + 1)) (T (dm u dy) k j) = T (back u dy w) k j := by
  funext y; idx_vars y
  pointwise [k0_pay20, T, Wt, k0_pay25]
  simp only [← EReal.coe_mul, ← coe_sum]
  refine (lane_head j (fun h => ∑ t : Fin 128, tri w h t.val y0.val * dm u dy (128 * k + t.val) (128 * j + y1.val)) y1.val y1.isLt).trans ?_
  unfold back
  rw [show (128 * k + y0.val) % 128 = y0.val by omega, show (128 * k + y0.val) / 128 = k by omega]

theorem pay22 (u dy : ℕ → ℕ → ℝ) (g : ℕ → ℝ) (w : ℕ → ℕ → ℕ → ℝ) :
    k0_pay22 (F := Ideal) k0_pay25 (Wt w (2 * j)) (Wt w (2 * j + 1)) (G g j) (T (dm u dy) k j) = T (ct u dy g w) k j := by
  unfold k0_pay22; rw [pay20]
  funext y; idx_vars y
  pointwise [T, G]
  rw [← EReal.coe_mul]; rfl

theorem pay23 (v c : ℕ → ℕ → ℝ) :
    k0_pay23 (F := Ideal) k0_pay25 (T (rstd (gelA v)) k j) (T (vn v) k j) (T c k j) (Scalar.ofBits .f32 0x00000000#32)
      = T (fun r q => rstd (gelA v) r q * (c r q - hm c r q - vn v r q * hm (fun r q => c r q * vn v r q) r q)) k j := by
  funext y; idx_vars y
  pointwise [k0_pay23, T, k0_pay25]
  rw [lanes_mean c _ j y1.val y1.isLt]
  simp only [← EReal.coe_mul]
  rw [lanes_mean (fun r q => c r q * vn v r q) _ j y1.val y1.isLt]
  simp only [← EReal.coe_mul, ← EReal.coe_sub]

/-- What a chunk adds to the gradient of the first head's mixing matrix, before the mask. -/
theorem pay18 (u v dy : ℕ → ℕ → ℝ) (g : ℕ → ℝ) (p : S1x128x128.Idx → EReal) (y : S1x128x128.Idx) :
    k0_pay18 (F := Ideal) k0_pay25 (T (vg v g) k j) (T (dm u dy) k j) (Scalar.ofBits .bf16 0x0000#16) p y
      = p y + ((∑ d : Fin 64, dm u dy (128 * k + (y 1).val) (64 * (2 * j) + d.val) * vg v g (128 * k + (y 2).val) (64 * (2 * j) + d.val) : ℝ) : EReal) := by
  idx_vars y
  pointwise [k0_pay18, k0_pay17, T, k0_pay25]
  obtain rfl : y0 = 0 := Subsingleton.elim _ _
  simp only [← EReal.coe_mul]
  rw [lanes_lo, coe_sum, show 64 * (2 * j) = 128 * j by omega]

/-- What a chunk adds to the gradient of the second head's mixing matrix, before the mask. -/
theorem pay19 (u v dy : ℕ → ℕ → ℝ) (g : ℕ → ℝ) (p : S1x128x128.Idx → EReal) (y : S1x128x128.Idx) :
    k0_pay19 (F := Ideal) k0_pay25 (T (vg v g) k j) (T (dm u dy) k j) (Scalar.ofBits .bf16 0x0000#16) p y
      = p y + ((∑ d : Fin 64, dm u dy (128 * k + (y 1).val) (64 * (2 * j + 1) + d.val) * vg v g (128 * k + (y 2).val) (64 * (2 * j + 1) + d.val) : ℝ) : EReal) := by
  idx_vars y
  pointwise [k0_pay19, k0_pay17, T, k0_pay25]
  obtain rfl : y0 = 0 := Subsingleton.elim _ _
  simp only [← EReal.coe_mul]
  rw [lanes_hi, coe_sum]
  simp only [show ∀ d, 64 * (2 * j + 1) + d = 128 * j + (64 + d) from fun d => by omega]

/-- What a chunk adds to the gradient of the first head's bias. -/
theorem pay14 (u dy : ℕ → ℕ → ℝ) (p : S1x128x1.Idx → EReal) (y : S1x128x1.Idx) :
    k0_pay14 (F := Ideal) k0_pay25 (T (gelA u) k j) (T dy k j) p y
      = p y + ((∑ d : Fin 64, dm u dy (128 * k + (y 1).val) (64 * (2 * j) + d.val) : ℝ) : EReal) := by
  idx_vars y
  pointwise [k0_pay14, k0_pay13, T, k0_pay25]
  obtain rfl : y0 = 0 := Subsingleton.elim _ _
  obtain rfl : y2 = 0 := Subsingleton.elim _ _
  simp only [← EReal.coe_mul]
  rw [lanes_lo, coe_sum, show 64 * (2 * j) = 128 * j by omega]; rfl

/-- What a chunk adds to the gradient of the second head's bias. -/
theorem pay15 (u dy : ℕ → ℕ → ℝ) (p : S1x128x1.Idx → EReal) (y : S1x128x1.Idx) :
    k0_pay15 (F := Ideal) k0_pay25 (T (gelA u) k j) (T dy k j) p y
      = p y + ((∑ d : Fin 64, dm u dy (128 * k + (y 1).val) (64 * (2 * j + 1) + d.val) : ℝ) : EReal) := by
  idx_vars y
  pointwise [k0_pay15, k0_pay13, T, k0_pay25]
  obtain rfl : y0 = 0 := Subsingleton.elim _ _
  obtain rfl : y2 = 0 := Subsingleton.elim _ _
  simp only [← EReal.coe_mul]
  rw [lanes_hi, coe_sum]
  simp only [show ∀ d, 64 * (2 * j + 1) + d = 128 * j + (64 + d) from fun d => by omega]; rfl

/-- What a chunk adds to the gradient of the gain. -/
theorem pay21 (u v dy : ℕ → ℕ → ℝ) (w : ℕ → ℕ → ℕ → ℝ) (p : S1x128.Idx → EReal) (y : S1x128.Idx) :
    k0_pay21 (F := Ideal) k0_pay25 (Wt w (2 * j)) (Wt w (2 * j + 1)) (T (vn v) k j) (T (dm u dy) k j) p y
      = p y + ((∑ t : Fin 128, back u dy w (128 * k + t.val) (128 * j + (y 1).val) * vn v (128 * k + t.val) (128 * j + (y 1).val) : ℝ) : EReal) := by
  unfold k0_pay21; rw [pay20]
  idx_vars y
  pointwise [T]
  simp only [← EReal.coe_mul, ← coe_sum]

/-- The gradient through the gelu of the first half. -/
theorem pay12 (u c : ℕ → ℕ → ℝ) : k0_pay12 (F := Ideal) (T u k j) (T c k j) (k0_pay11 (T u k j)) (Scalar.ofBits .f32 0xBF000000#32) = T (fun r q => c r q * dgel (u r q)) k j := by
  funext y; idx_vars y
  pointwise [k0_pay12, k0_pay11, T]
  exact (congrArg (_ * ·) (dgel_kernel _)).trans (EReal.coe_mul _ _).symm

/-- The gradient through the gelu of the second half. -/
theorem pay1 (v c : ℕ → ℕ → ℝ) : k0_pay1 (F := Ideal) (T v k j) (T c k j) (k0_pay24 (T v k j)) = T (fun r q => c r q * dgel (v r q)) k j := by
  funext y; idx_vars y
  pointwise [k0_pay1, k0_pay24, T]
  exact (congrArg (_ * ·) (dgel_kernel _)).trans (EReal.coe_mul _ _).symm

/-- A mixing matrix below its diagonal, as read from a block of one head. -/
theorem mask (n m : ℕ) (hn : n < 128) (hm : m < 128) (a : EReal) :
    Scalar.select (IntOp.cmpi .sge (BitVec.ofNat 32 n) (BitVec.ofNat 32 m)) a 0 = if n < m then 0 else a :=
  Cert.Rows.select_ge n m (by omega) (by omega) a 0

theorem coe_tri (w : ℕ → ℕ → ℕ → ℝ) (h t s : ℕ) : (if t < s then (0 : EReal) else (w h t s : EReal)) = ((tri w h t s : ℝ) : EReal) := by
  unfold tri; split <;> rfl

section masks
variable (w : ℕ → ℕ → ℕ → ℝ) (h : ℕ) (x : S1x128x128.Idx → EReal) (hx : ∀ t s : Fin 128, x (ix3 0 t s) = ((w h t.val s.val : ℝ) : EReal))
include hx

theorem pay29 : k0_pay29 (F := Ideal) x = Wm w h := by
  funext y; idx_vars y
  pointwise [k0_pay29, k0_pay27, k0_pay26, Wm]
  rw [hx, mask _ _ y0.isLt y1.isLt, coe_tri]
theorem pay30 : k0_pay30 (F := Ideal) x = Wm w h := by
  funext y; idx_vars y
  pointwise [k0_pay30, k0_pay28, k0_pay26, Wm]
  rw [hx, mask _ _ y0.isLt y1.isLt, coe_tri]
theorem pay31 : k0_pay31 (F := Ideal) x = Wt w h := by
  funext y; idx_vars y
  pointwise [k0_pay31, k0_pay27, k0_pay26, Wt]
  rw [hx, mask _ _ y1.isLt y0.isLt, coe_tri]
theorem pay32 : k0_pay32 (F := Ideal) x = Wt w h := by
  funext y; idx_vars y
  pointwise [k0_pay32, k0_pay28, k0_pay26, Wt]
  rw [hx, mask _ _ y1.isLt y0.isLt, coe_tri]
end masks

section bias
variable (b : ℕ → ℕ → ℝ) (h : ℕ) (x : S1x128x1.Idx → EReal) (hx : ∀ t : Fin 128, x (ix3 0 t 0) = ((b h t.val : ℝ) : EReal))
include hx

theorem pay34 : k0_pay34 (F := Ideal) x = Bc b h := by
  funext y; idx_vars y
  pointwise [k0_pay34, Bc]
  exact hx _
theorem pay35 : k0_pay35 (F := Ideal) x = Bc b h := by
  funext y; idx_vars y
  pointwise [k0_pay35, Bc]
  exact hx _
end bias

/-- The masked sums of the two heads. -/
theorem pay2 (x : S1x128x128.Idx → EReal) (y : S1x128x128.Idx) : k0_pay2 (F := Ideal) k0_pay26 x y = if (y 1).val < (y 2).val then 0 else x y := by
  idx_vars y
  pointwise [k0_pay2, k0_pay26]
  obtain rfl : y0 = 0 := Subsingleton.elim _ _
  exact mask _ _ y1.isLt y2.isLt _
theorem pay3 (x : S1x128x128.Idx → EReal) (y : S1x128x128.Idx) : k0_pay3 (F := Ideal) k0_pay26 x y = if (y 1).val < (y 2).val then 0 else x y := by
  idx_vars y
  pointwise [k0_pay3, k0_pay26]
  obtain rfl : y0 = 0 := Subsingleton.elim _ _
  exact mask _ _ y1.isLt y2.isLt _

theorem pay33 (g : S1x128.Idx → EReal) : k0_pay33 (F := Ideal) g = g := by
  funext y; idx_vars y
  pointwise [k0_pay33]
theorem pay36 (y) : k0_pay36 (F := Ideal) y = 0 := by
  idx_vars y
  pointwise [k0_pay36]
theorem pay37 (y) : k0_pay37 (F := Ideal) y = 0 := by
  idx_vars y
  pointwise [k0_pay37]
theorem pay38 (y) : k0_pay38 (F := Ideal) y = 0 := by
  idx_vars y
  pointwise [k0_pay38]

end Cert.Sgu
end
-- ==== Proof.SguRun.lean ====
/- One run of the gradient kernel of the spatial gating unit, over any reading of the floats: what a grid
   point computes from its blocks, chunk by chunk, and that the body leaves exactly that. -/
module

public import proofs.«01_k».proof.Proof.Gen.SguGradIdeal.Skeleton
public import Idealize.ShloMosaic.Lib.Exec
public import Idealize.ShloMosaic.Lib.Tactic
public import Idealize.ShloMosaic.Lib.Pipeline.Kit
public import Idealize.ShloMosaic.Lib.VecWindow
public import Idealize.ShloMosaic.Lib.Pipeline.ValueKit

@[expose] public section

set_option maxRecDepth 8192
set_option maxHeartbeats 4000000

noncomputable section

namespace Cert.Sgu

open Cert.SguGradIdeal Cert.SguGradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow (window put)

variable {F : FTy → Type} [FloatOps F] [Named F]

local notation "𝕄" => MT nD τ sig Unit (Elt F) ℕ (UR sig nD τ) ℕ

/-! ## What a chunk of 128 rows gives -/

/-- Chunk `k` of an array of rows. -/
def rows {α : Type} (x : S2048x128.Idx → α) (k : ℕ) : S128x128.Idx → α :=
  fun y => x (ix2 ⟨(128 * k + (y 0).val) % 2048, Nat.mod_lt _ (by decide)⟩ (y 1))

/-- A load of chunk `k` reads those rows. -/
theorem window_rows {α : Type} (x : S2048x128.Idx → α) (k : Fin k0_t1_loop.trips) (inb) :
    window x ![128 * k.val, 0] S128x128.size inb = rows x k.val := by
  have hk : k.val < 16 := Nat.lt_of_lt_of_le k.isLt k0_t1_abs.2.1
  funext y
  refine congrArg x (funext fun a => ?_)
  match a with
  | ⟨0, _⟩ =>
    refine Fin.ext ?_
    have h0 := (y 0).isLt
    have : (y 0).val < 128 := h0
    show 128 * k.val + 1 * (y 0).val = (128 * k.val + (y 0).val) % 2048
    omega
  | ⟨1, _⟩ =>
    refine Fin.ext ?_
    show 0 + 1 * (y 1).val = (y 1).val
    omega

/-- Rows put at another chunk leave chunk `j`. -/
theorem rows_put_ne {α : Type} (x : S2048x128.Idx → α) (w) {k j : ℕ} (hk : k < 16) (hj : j < 16) (h : j ≠ k) :
    rows (put x ![128 * k, 0] S128x128.size w) j = rows x j := by
  funext y
  have h0 : (y 0).val < 128 := (y 0).isLt
  refine dif_neg fun hall => ?_
  have := hall 0
  have e : (128 * j + (y 0).val) % 2048 = 128 * j + (y 0).val := Nat.mod_eq_of_lt (by omega)
  have h1 : 128 * k ≤ (128 * j + (y 0).val) % 2048 ∧ (128 * j + (y 0).val) % 2048 < 128 * k + 128 := this
  omega

/-- Rows put at chunk `k` are that chunk. -/
theorem rows_put_same {α : Type} (x : S2048x128.Idx → α) (w : S128x128.Idx → α) (k : Fin k0_t1_loop.trips) :
    rows (put x ![128 * k.val, 0] S128x128.size w) k.val = w := by
  have hk : k.val < 16 := Nat.lt_of_lt_of_le k.isLt k0_t1_abs.2.1
  have inb : ∀ a, (![128 * k.val, 0] : Fin 2 → ℕ) a + S128x128.size a ≤ S2048x128.size a := k0_off1_eq k ▸ k0_off1_inb k
  rw [← window_rows _ k inb]
  exact VecWindow.window_put_same (s := S2048x128) x ![128 * k.val, 0] S128x128.size inb w

/-- Chunks given up to `k`, and rows put at chunk `k`: chunks given up to `k + 1`. -/
theorem chunks_succ {α : Type} {x y : S2048x128.Idx → α} {f : ℕ → S128x128.Idx → α} {k : Fin k0_t1_loop.trips}
    (e : y = put x ![128 * k.val, 0] S128x128.size (f k.val)) (h : ∀ j < k.val, j < 16 → rows x j = f j) :
    ∀ j < k.val + 1, j < 16 → rows y j = f j := by
  intro j hj h16
  rw [e]
  rcases Nat.lt_succ_iff_lt_or_eq.mp hj with hlt | rfl
  · rw [rows_put_ne x _ (Nat.lt_of_lt_of_le k.isLt k0_t1_abs.2.1) h16 (by omega)]; exact h j hlt h16
  · exact rows_put_same x _ k

section chunk
variable (lo : IVec S1x128 1) (wm0 wm1 wt0 wt1 : FVec F S128x128 .bf16) (g : FVec F S1x128 .f32) (b0 b1 : FVec F S128x1 .f32)
  (u v dy : Vec F S128x128 .f32)

/-- The gradient of the chunk's first half, from the halves and the cotangent. -/
def duC : FVec F S128x128 .bf16 :=
  k0_pay12 u (k0_pay10 lo wm0 wm1 g b0 b1 (k0_pay5 lo v) (k0_pay6 lo v) dy) (k0_pay11 u) (Scalar.ofBits .f32 0xBF000000#32)
/-- The cotangent of the mixed rows. -/
def dmC : FVec F S128x128 .bf16 := k0_pay16 (k0_pay4 u) dy
/-- The normalised second half. -/
def vnC : FVec F S128x128 .f32 := k0_pay8 lo (k0_pay5 lo v) (k0_pay6 lo v)
/-- The gradient of the chunk's second half. -/
def dvC : FVec F S128x128 .bf16 :=
  k0_pay1 v (k0_pay23 lo (k0_pay7 lo (k0_pay6 lo v)) (vnC lo v) (k0_pay22 lo wt0 wt1 g (dmC u dy)) (Scalar.ofBits .f32 0x00000000#32)) (k0_pay24 v)
/-- What the chunk adds to the gradient of the gain. -/
def dgC (p : Vec F S1x128 .f32) : Vec F S1x128 .f32 := k0_pay21 lo wt0 wt1 (vnC lo v) (dmC u dy) p
/-- What the chunk adds to the two heads' mixing matrices. -/
def dwC (p : Vec F S2x128x128 .f32) : Vec F S2x128x128 .f32 :=
  put (put p ![0, 0, 0] S1x128x128.size (k0_pay18 lo (k0_pay9 lo g (k0_pay5 lo v) (k0_pay6 lo v)) (dmC u dy) (Scalar.ofBits .bf16 0x0000#16) (window p ![0, 0, 0] S1x128x128.size inb_S2x128x128_S1x128x128_0_0_0)))
    ![1, 0, 0] S1x128x128.size (k0_pay19 lo (k0_pay9 lo g (k0_pay5 lo v) (k0_pay6 lo v)) (dmC u dy) (Scalar.ofBits .bf16 0x0000#16) (window p ![1, 0, 0] S1x128x128.size inb_S2x128x128_S1x128x128_1_0_0))
/-- What the chunk adds to the two heads' biases. -/
def dbC (p : Vec F S2x128x1 .f32) : Vec F S2x128x1 .f32 :=
  put (put p ![0, 0, 0] S1x128x1.size (k0_pay14 lo (k0_pay4 u) dy (window p ![0, 0, 0] S1x128x1.size inb_S2x128x1_S1x128x1_0_0_0)))
    ![1, 0, 0] S1x128x1.size (k0_pay15 lo (k0_pay4 u) dy (window p ![1, 0, 0] S1x128x1.size inb_S2x128x1_S1x128x1_1_0_0))
end chunk

/-- One trip of the loop: every buffer it writes reads what the chunk gives, put over what it read before. -/
theorem trip (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S1x128 .f32) (harg3 : arg3.IsWhole)
    (arg4 : Memref sig .tc .vmem S2x128x128 .f32) (harg4 : arg4.IsWhole) (arg5 : Memref sig .tc .vmem S2x128x1 .f32) (harg5 : arg5.IsWhole) (arg6 : Memref sig .tc .vmem S2048x128 .f32) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S1x128 .f32) (harg9 : arg9.IsWhole) (arg10 : Memref sig .tc .vmem S2x128x128 .f32) (harg10 : arg10.IsWhole) (arg11 : Memref sig .tc .vmem S2x128x1 .f32) (harg11 : arg11.IsWhole)
    (lo : IVec S1x128 1) (wm0 wm1 wt0 wt1 : FVec F S128x128 .bf16) (g : FVec F S1x128 .f32) (b0 b1 : FVec F S128x1 .f32)
    (X1 : BufTy.Contents (Elt F) arg1.view.ty) (X2 : BufTy.Contents (Elt F) arg2.view.ty) (X6 : BufTy.Contents (Elt F) arg6.view.ty)
    (k : Fin k0_t1_loop.trips) (E : Set ℕ) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty)
    (u v dy : Vec F S128x128 .f32) (hu : rows (arg1.view.read (Elt F) X1) k.val = u) (hv : rows (arg2.view.read (Elt F) X2) k.val = v) (hdy : rows (arg6.view.read (Elt F) X6) k.val = dy) :
    iprop((arg1.view.loc (c : Thread nD τ) ↦[arg1.view.set]{fullShare} X1) ∗ (arg2.view.loc (c : Thread nD τ) ↦[arg2.view.set]{fullShare} X2) ∗ (arg6.view.loc (c : Thread nD τ) ↦[arg6.view.set]{fullShare} X6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) : sProp 𝕄)
      ⊢ wp frame (wpE (defs₀ (F := F)) Variants.none (c : Thread nD τ) none) E (k0_t1_body (F := F) i arg1 harg1 arg2 harg2 arg3 harg3 arg4 harg4 arg5 harg5 arg6 harg6 arg7 harg7 arg8 harg8 arg9 harg9 arg10 harg10 arg11 harg11 lo wm0 wm1 wt0 wt1 g b0 b1 k PUnit.unit)
          (fun _ => iprop((arg1.view.loc (c : Thread nD τ) ↦[arg1.view.set]{fullShare} X1) ∗ (arg2.view.loc (c : Thread nD τ) ↦[arg2.view.set]{fullShare} X2) ∗ (arg6.view.loc (c : Thread nD τ) ↦[arg6.view.set]{fullShare} X6)
            ∗ (∃ f, (arg7.view.loc (c : Thread nD τ) ↦[arg7.view.set]{fullShare} f) ∗ ⌜arg7.view.read (Elt F) f = put (arg7.view.read (Elt F) f7) ![128 * k.val, 0] S128x128.size (duC lo wm0 wm1 g b0 b1 u v dy)⌝)
            ∗ (∃ f, (arg8.view.loc (c : Thread nD τ) ↦[arg8.view.set]{fullShare} f) ∗ ⌜arg8.view.read (Elt F) f = put (arg8.view.read (Elt F) f8) ![128 * k.val, 0] S128x128.size (dvC lo wt0 wt1 g u v dy)⌝)
            ∗ (∃ f, (arg9.view.loc (c : Thread nD τ) ↦[arg9.view.set]{fullShare} f) ∗ ⌜arg9.view.read (Elt F) f = dgC lo wt0 wt1 u v dy (arg9.view.read (Elt F) f9)⌝)
            ∗ (∃ f, (arg10.view.loc (c : Thread nD τ) ↦[arg10.view.set]{fullShare} f) ∗ ⌜arg10.view.read (Elt F) f = dwC lo g u v dy (arg10.view.read (Elt F) f10)⌝)
            ∗ (∃ f, (arg11.view.loc (c : Thread nD τ) ↦[arg11.view.set]{fullShare} f) ∗ ⌜arg11.view.read (Elt F) f = dbC lo u dy (arg11.view.read (Elt F) f11)⌝))) := by
  have hk : k.val < 16 := Nat.lt_of_lt_of_le k.isLt k0_t1_abs.2.1
  have inb : ∀ a, (![128 * k.val, 0] : Fin 2 → ℕ) a + S128x128.size a ≤ S2048x128.size a := k0_off1_eq k ▸ k0_off1_inb k
  have ru : View.readAt (Elt F) arg1.view (Rect.unit (s := S2048x128) (k0_off1 k) S128x128.size (k0_off1_inb k)).toLoadRect X1 = u :=
    (View.readAt_unit arg1.view X1 _ (k0_off1_eq k) inb).trans ((window_rows _ k inb).trans hu)
  have rv : View.readAt (Elt F) arg2.view (Rect.unit (s := S2048x128) (k0_off1 k) S128x128.size (k0_off1_inb k)).toLoadRect X2 = v :=
    (View.readAt_unit arg2.view X2 _ (k0_off1_eq k) inb).trans ((window_rows _ k inb).trans hv)
  have rdy : View.readAt (Elt F) arg6.view (Rect.unit (s := S2048x128) (k0_off1 k) S128x128.size (k0_off1_inb k)).toLoadRect X6 = dy :=
    (View.readAt_unit arg6.view X6 _ (k0_off1_eq k) inb).trans ((window_rows _ k inb).trans hdy)
  clear hu hv hdy
  subst ru rv rdy
  unfold k0_t1_body
  iintro ⟨HR_arg1, HR_arg2, HR_arg6, HW_arg7, HW_arg8, HW_arg9, HW_arg10, HW_arg11⟩
  sl_exec
  sl_step
  isplitl [HR_arg1]; · iexact HR_arg1
  isplitl [HR_arg2]; · iexact HR_arg2
  isplitl [HR_arg6]; · iexact HR_arg6
  isplitl [HW_arg7]
  · iexists _; isplitl [HW_arg7]; · iexact HW_arg7
    ipureintro
    refine (View.read_writes_cons_put arg7.view f7 _ _ [] (k0_off1_eq k)).trans ?_
    rfl
  isplitl [HW_arg8]
  · iexists _; isplitl [HW_arg8]; · iexact HW_arg8
    ipureintro
    refine (View.read_writes_cons_put arg8.view f8 _ _ [] (k0_off1_eq k)).trans ?_
    rfl
  isplitl [HW_arg9]
  · iexists _; isplitl [HW_arg9]; · iexact HW_arg9
    ipureintro
    refine (View.read_writes_full arg9.view f9 _ _ []).trans ?_
    rw [← View.readAt_full arg9.view f9 inb_S1x128_S1x128_0_0]; rfl
  isplitl [HW_arg10]
  · iexists _; isplitl [HW_arg10]; · iexact HW_arg10
    ipureintro
    refine (View.read_writes_cons_put arg10.view f10 _ _ _ rfl).trans ?_
    rw [View.read_writes_cons_put arg10.view f10 _ _ [] rfl]
    rfl
  iexists _; isplitl [HW_arg11]; · iexact HW_arg11
  ipureintro
  refine (View.read_writes_cons_put arg11.view f11 _ _ _ rfl).trans ?_
  rw [View.read_writes_cons_put arg11.view f11 _ _ [] rfl]
  rfl

/-! ## The sixteen chunks of a block -/

section block
variable (x0 x1 : Vec F S2048x128 .f32) (x2 : Vec F S1x128 .f32) (x3 : Vec F S2x128x128 .f32) (x4 : Vec F S2x128x1 .f32) (x5 : Vec F S2048x128 .f32)

/-- The two heads' mixing matrices and biases, as the block stages them. -/
def w0 : Vec F S1x128x128 .f32 := window x3 ![0, 0, 0] S1x128x128.size inb_S2x128x128_S1x128x128_0_0_0
def w1 : Vec F S1x128x128 .f32 := window x3 ![1, 0, 0] S1x128x128.size inb_S2x128x128_S1x128x128_1_0_0
def bias0 : Vec F S1x128x1 .f32 := window x4 ![0, 0, 0] S1x128x1.size inb_S2x128x1_S1x128x1_0_0_0
def bias1 : Vec F S1x128x1 .f32 := window x4 ![1, 0, 0] S1x128x1.size inb_S2x128x1_S1x128x1_1_0_0

/-- Chunk `k` of the gradients of the two halves. -/
def duK (k : ℕ) : FVec F S128x128 .bf16 :=
  duC k0_pay25 (k0_pay29 (w0 x3)) (k0_pay30 (w1 x3)) (k0_pay33 x2) (k0_pay34 (bias0 x4)) (k0_pay35 (bias1 x4)) (rows x0 k) (rows x1 k) (rows x5 k)
def dvK (k : ℕ) : FVec F S128x128 .bf16 :=
  dvC k0_pay25 (k0_pay31 (w0 x3)) (k0_pay32 (w1 x3)) (k0_pay33 x2) (rows x0 k) (rows x1 k) (rows x5 k)
/-- The three sums after `k` chunks. -/
def dgK : ℕ → Vec F S1x128 .f32
  | 0 => k0_pay36
  | k + 1 => dgC k0_pay25 (k0_pay31 (w0 x3)) (k0_pay32 (w1 x3)) (rows x0 k) (rows x1 k) (rows x5 k) (dgK k)
def dwK : ℕ → Vec F S2x128x128 .f32
  | 0 => k0_pay37
  | k + 1 => dwC k0_pay25 (k0_pay33 x2) (rows x0 k) (rows x1 k) (rows x5 k) (dwK k)
def dbK : ℕ → Vec F S2x128x1 .f32
  | 0 => k0_pay38
  | k + 1 => dbC k0_pay25 (rows x0 k) (rows x5 k) (dbK k)

/-- The rows of an array given chunk by chunk. -/
def stack {α : Type} (f : ℕ → S128x128.Idx → α) : S2048x128.Idx → α :=
  fun y => f ((y 0).val / 128) (ix2 ⟨(y 0).val % 128, Nat.mod_lt _ (by decide)⟩ (y 1))

/-- An array whose sixteen chunks are given is their stack. -/
theorem eq_stack {α : Type} (x : S2048x128.Idx → α) (f : ℕ → S128x128.Idx → α) (h : ∀ k < 16, rows x k = f k) : x = stack f := by
  funext y
  have h0 : (y 0).val < 2048 := (y 0).isLt
  unfold stack
  rw [← h _ (by omega)]
  refine congrArg x (funext fun a => ?_)
  match a with
  | ⟨0, _⟩ =>
    refine Fin.ext ?_
    show (y 0).val = (128 * ((y 0).val / 128) + (y 0).val % 128) % 2048
    omega
  | ⟨1, _⟩ => rfl

/-- The blocks the body leaves. -/
def out6 : Vec F S2048x128 .bf16 := stack (duK x0 x1 x2 x3 x4 x5)
def out7 : Vec F S2048x128 .bf16 := stack (dvK x0 x1 x2 x3 x5)
def out8 : Vec F S1x128 .f32 := dgK x0 x1 x3 x5 16
def out9 : Vec F S2x128x128 .f32 :=
  put (put (dwK x0 x1 x2 x5 16) ![0, 0, 0] S1x128x128.size (k0_pay2 k0_pay26 (window (dwK x0 x1 x2 x5 16) ![0, 0, 0] S1x128x128.size inb_S2x128x128_S1x128x128_0_0_0)))
    ![1, 0, 0] S1x128x128.size (k0_pay3 k0_pay26 (window (dwK x0 x1 x2 x5 16) ![1, 0, 0] S1x128x128.size inb_S2x128x128_S1x128x128_1_0_0))
def out10 : Vec F S2x128x1 .f32 := dbK x0 x5 16
end block

/-- Before trip `k`: the inputs as they were, the first `k` chunks of the two halves' gradients, the sums of `k` chunks. -/
def chunksDone (c : Dev nD) (arg1 : Memref sig .tc .vmem S2048x128 .f32) (arg2 : Memref sig .tc .vmem S2048x128 .f32) (arg6 : Memref sig .tc .vmem S2048x128 .f32) (arg7 : Memref sig .tc .vmem S2048x128 .bf16) (arg8 : Memref sig .tc .vmem S2048x128 .bf16) (arg9 : Memref sig .tc .vmem S1x128 .f32) (arg10 : Memref sig .tc .vmem S2x128x128 .f32) (arg11 : Memref sig .tc .vmem S2x128x1 .f32)
    (X1 : BufTy.Contents (Elt F) arg1.view.ty) (X2 : BufTy.Contents (Elt F) arg2.view.ty) (X6 : BufTy.Contents (Elt F) arg6.view.ty)
    (x0 x1 : Vec F S2048x128 .f32) (x2 : Vec F S1x128 .f32) (x3 : Vec F S2x128x128 .f32) (x4 : Vec F S2x128x1 .f32) (x5 : Vec F S2048x128 .f32)
    (k : ℕ) (_ : PUnit.{1}) : sProp 𝕄 :=
  iprop((arg1.view.loc (c : Thread nD τ) ↦[arg1.view.set]{fullShare} X1) ∗ (arg2.view.loc (c : Thread nD τ) ↦[arg2.view.set]{fullShare} X2) ∗ (arg6.view.loc (c : Thread nD τ) ↦[arg6.view.set]{fullShare} X6)
    ∗ (∃ f, (arg7.view.loc (c : Thread nD τ) ↦[arg7.view.set]{fullShare} f) ∗ ⌜∀ j < k, j < 16 → rows (arg7.view.read (Elt F) f) j = duK x0 x1 x2 x3 x4 x5 j⌝)
    ∗ (∃ f, (arg8.view.loc (c : Thread nD τ) ↦[arg8.view.set]{fullShare} f) ∗ ⌜∀ j < k, j < 16 → rows (arg8.view.read (Elt F) f) j = dvK x0 x1 x2 x3 x5 j⌝)
    ∗ (∃ f, (arg9.view.loc (c : Thread nD τ) ↦[arg9.view.set]{fullShare} f) ∗ ⌜arg9.view.read (Elt F) f = dgK x0 x1 x3 x5 k⌝)
    ∗ (∃ f, (arg10.view.loc (c : Thread nD τ) ↦[arg10.view.set]{fullShare} f) ∗ ⌜arg10.view.read (Elt F) f = dwK x0 x1 x2 x5 k⌝)
    ∗ (∃ f, (arg11.view.loc (c : Thread nD τ) ↦[arg11.view.set]{fullShare} f) ∗ ⌜arg11.view.read (Elt F) f = dbK x0 x5 k⌝))

/-- A load of a window of a buffer that reads `x` is that window of `x`. -/
theorem readAt_unread {s : Shape} {e : EltTy} {a : Memref sig .tc .vmem s e} (ha : a.IsWhole) (x : Vec F s e) (o size : Fin s.rank → ℕ) (inb) :
    View.readAt (Elt F) a.view (Rect.unit (s := s) o size inb).toLoadRect (ha.unread x) = window x o size inb :=
  (View.readAt_unit a.view _ _ rfl inb).trans (by rw [ha.read_unread])

/-- A load of the whole buffer is what it reads. -/
theorem readAt_gain {a : Memref sig .tc .vmem S1x128 .f32} (ha : a.IsWhole) (x : Vec F S1x128 .f32) (inb) :
    View.readAt (Elt F) a.view (Rect.unit (s := S1x128) ![0, 0] S1x128.size inb).toLoadRect (ha.unread x) = x :=
  (View.readAt_full a.view (ha.unread x) inb).trans (by rw [ha.read_unread])

/-- The body at a grid point: from the blocks of its inputs it leaves the blocks above, and the inputs as they were. -/
theorem body_run (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S1x128 .f32) (harg3 : arg3.IsWhole)
    (arg4 : Memref sig .tc .vmem S2x128x128 .f32) (harg4 : arg4.IsWhole) (arg5 : Memref sig .tc .vmem S2x128x1 .f32) (harg5 : arg5.IsWhole) (arg6 : Memref sig .tc .vmem S2048x128 .f32) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S1x128 .f32) (harg9 : arg9.IsWhole) (arg10 : Memref sig .tc .vmem S2x128x128 .f32) (harg10 : arg10.IsWhole) (arg11 : Memref sig .tc .vmem S2x128x1 .f32) (harg11 : arg11.IsWhole)
    (x0 x1 : Vec F S2048x128 .f32) (x2 : Vec F S1x128 .f32) (x3 : Vec F S2x128x128 .f32) (x4 : Vec F S2x128x1 .f32) (x5 : Vec F S2048x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out6 x0 x1 x2 x3 x4 x5) ∗ owns (c : Thread nD τ) arg8 fullShare (out7 x0 x1 x2 x3 x5) ∗ owns (c : Thread nD τ) arg9 fullShare (out8 x0 x1 x3 x5)
            ∗ owns (c : Thread nD τ) arg10 fullShare (out9 x0 x1 x2 x5) ∗ owns (c : Thread nD τ) arg11 fullShare (out10 x0 x5)) -∗ K ⟨⟩))
      ⊢ wp frame (wpE (defs₀ (F := F)) Variants.none c none) E (cc0_sgu_bwd i arg1 harg1 arg2 harg2 arg3 harg3 arg4 harg4 arg5 harg5 arg6 harg6 arg7 harg7 arg8 harg8 arg9 harg9 arg10 harg10 arg11 harg11) K := by
  simp only [cc0_sgu_bwd_eq_skeleton]; unfold cc0_sgu_bwd_skel
  simp only [k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  have e4 (o : Fin 3 → ℕ) (inb) : View.readAt (Elt F) arg4.view (Rect.unit (s := S2x128x128) o S1x128x128.size inb).toLoadRect (harg4.unread x3) = window x3 o S1x128x128.size inb :=
    readAt_unread harg4 x3 o S1x128x128.size inb
  have e5 (o : Fin 3 → ℕ) (inb) : View.readAt (Elt F) arg5.view (Rect.unit (s := S2x128x1) o S1x128x1.size inb).toLoadRect (harg5.unread x4) = window x4 o S1x128x1.size inb :=
    readAt_unread harg5 x4 o S1x128x1.size inb
  have e3 (inb) : View.readAt (Elt F) arg3.view (Rect.unit (s := S1x128) ![0, 0] S1x128.size inb).toLoadRect (harg3.unread x2) = x2 :=
    readAt_gain harg3 x2 inb
  sl_exec
  have q0 : body_run.sl.r x3 = k0_pay29 (w0 x3) := rfl
  have q1 : body_run.sl.r_1 x3 = k0_pay30 (w1 x3) := rfl
  have q2 : body_run.sl.r_2 x3 = k0_pay31 (w0 x3) := rfl
  have q3 : body_run.sl.r_3 x3 = k0_pay32 (w1 x3) := rfl
  have q4 : body_run.sl.r_4 x4 = k0_pay34 (bias0 x4) := rfl
  have q5 : body_run.sl.r_5 x4 = k0_pay35 (bias1 x4) := rfl
  rw [q0, q1, q2, q3, q4, q5]
  sl_for (chunksDone c arg1 arg2 arg6 arg7 arg8 arg9 arg10 arg11 (harg1.unread x0) (harg2.unread x1) (harg6.unread x5) x0 x1 x2 x3 x4 x5) $$ [H0 H1 H5 H6 H7 H8 H9 H10]
  · intro k acc
    unfold chunksDone
    iintro ⟨H0, H1, H5, ⟨%g7, H7, %h7⟩, ⟨%g8, H8, %h8⟩, ⟨%g9, H9, %h9⟩, ⟨%g10, H10, %h10⟩, ⟨%g11, H11, %h11⟩⟩
    iapply (wp_wand_r frame (wpE (defs₀ (F := F)) Variants.none (c : Thread nD τ) none)) $$ [H0 H1 H5 H7 H8 H9 H10 H11]
    isplitl [H0 H1 H5 H7 H8 H9 H10 H11]
    · iapply (trip c i arg1 harg1 arg2 harg2 arg3 harg3 arg4 harg4 arg5 harg5 arg6 harg6 arg7 harg7 arg8 harg8 arg9 harg9 arg10 harg10 arg11 harg11 k0_pay25 (k0_pay29 (w0 x3)) (k0_pay30 (w1 x3)) (k0_pay31 (w0 x3)) (k0_pay32 (w1 x3)) (k0_pay33 x2) (k0_pay34 (bias0 x4)) (k0_pay35 (bias1 x4))
        (harg1.unread x0) (harg2.unread x1) (harg6.unread x5) k E g7 g8 g9 g10 g11 (rows x0 k.val) (rows x1 k.val) (rows x5 k.val) (by rw [hf0]) (by rw [hf1]) (by rw [hf5]))
      isplitl [H0]; · iexact H0
      isplitl [H1]; · iexact H1
      isplitl [H5]; · iexact H5
      isplitl [H7]; · iexact H7
      isplitl [H8]; · iexact H8
      isplitl [H9]; · iexact H9
      isplitl [H10]; · iexact H10
      iexact H11
    iintro %_ ⟨H0, H1, H5, ⟨%p7, H7, %r7⟩, ⟨%p8, H8, %r8⟩, ⟨%p9, H9, %r9⟩, ⟨%p10, H10, %r10⟩, ⟨%p11, H11, %r11⟩⟩
    isplitl [H0]; · iexact H0
    isplitl [H1]; · iexact H1
    isplitl [H5]; · iexact H5
    isplitl [H7]; · iexists p7; isplitl [H7]; · iexact H7
                    ipureintro; exact chunks_succ r7 h7
    isplitl [H8]; · iexists p8; isplitl [H8]; · iexact H8
                    ipureintro; exact chunks_succ r8 h8
    isplitl [H9]; · iexists p9; isplitl [H9]; · iexact H9
                    ipureintro; rw [r9, h9]; rfl
    isplitl [H10]; · iexists p10; isplitl [H10]; · iexact H10
                     ipureintro; rw [r10, h10]; rfl
    iexists p11; isplitl [H11]; · iexact H11
    ipureintro; rw [r11, h11]; rfl
  · unfold chunksDone
    isplitl [H0]; · iexact H0
    isplitl [H1]; · iexact H1
    isplitl [H5]; · iexact H5
    isplitl [H6]; · iexists f6; isplitl [H6]; · iexact H6
                    ipureintro; exact fun j hj => absurd hj (Nat.not_lt_zero j)
    isplitl [H7]; · iexists f7; isplitl [H7]; · iexact H7
                    ipureintro; exact fun j hj => absurd hj (Nat.not_lt_zero j)
    isplitl [H8]; · iexists _; isplitl [H8]; · iexact H8
                    ipureintro; exact View.read_writes_full arg9.view _ _ _ []
    isplitl [H9]; · iexists _; isplitl [H9]; · iexact H9
                    ipureintro; exact View.read_writes_full arg10.view _ _ _ []
    iexists _; isplitl [H10]; · iexact H10
    ipureintro; exact View.read_writes_full arg11.view _ _ _ []
  iintro %acc HI
  unfold chunksDone
  icases HI with ⟨H0, H1, H5, ⟨%g7, H7, %h7⟩, ⟨%g8, H8, %h8⟩, ⟨%g9, H9, %h9⟩, ⟨%g10, H10, %h10⟩, ⟨%g11, H11, %h11⟩⟩
  have htrips : k0_t1_loop.trips = 16 := by decide
  have htr : Scf.trips k0_t1_loop.lb k0_t1_loop.ub k0_t1_loop.st = 16 := htrips
  clear htrips
  rw [htr] at h7 h8 h9 h10 h11
  sl_exec
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H7]; · iexists _; isplitr; · ipureintro; exact eq_stack _ _ fun j hj => h7 j hj hj
                  iexact H7
  isplitl [H8]; · iexists _; isplitr; · ipureintro; exact eq_stack _ _ fun j hj => h8 j hj hj
                  iexact H8
  isplitl [H9]; · iexists _; isplitr; · ipureintro; exact h9
                  iexact H9
  isplitl [H10]
  · iexists _
    isplitr
    swap; · iexact H10
    · ipureintro
      refine (View.read_writes_cons_put arg10.view g10 _ _ _ rfl).trans ?_
      rw [View.read_writes_cons_put arg10.view g10 _ _ [] rfl]
      unfold out9
      rw [← h10]
      rfl
  iexists _; isplitr; · ipureintro; exact h11
  iexact H11

end Cert.Sgu

end
-- ==== Proof.SguBlock.lean ====
/- What the kernel leaves at a grid point, from blocks of numbers: entry by entry the gradients of `SguMath`. -/
module

public import proofs.«01_k».proof.Proof.SguTile
public import proofs.«01_k».proof.Proof.SguRun

@[expose] public section

set_option maxRecDepth 8192
set_option maxHeartbeats 1000000

noncomputable section

namespace Cert.Sgu

open Cert.SguGradIdeal Cert.SguGradIdeal.Gen
open Idealize.ShloMosaic Idealize.ShloMosaic.TcCoe
open Cert.SguMath Cert.Gelu
open VecWindow (window put)

/-- Column block `j` of an array of numbers, all 2048 rows. -/
def Col (a : ℕ → ℕ → ℝ) (j : ℕ) : S2048x128.Idx → EReal := fun y => ((a (y 0).val (128 * j + (y 1).val) : ℝ) : EReal)

theorem rows_col (a : ℕ → ℕ → ℝ) (j k : ℕ) (hk : k < 16) : rows (Col a j) k = T a k j := by
  funext y
  have h0 : (y 0).val < 128 := (y 0).isLt
  have e : (128 * k + (y 0).val) % 2048 = 128 * k + (y 0).val := Nat.mod_eq_of_lt (by omega)
  show ((a ((128 * k + (y 0).val) % 2048) (128 * j + (y 1).val) : ℝ) : EReal) = _
  rw [e]; rfl

/-- A stack of tiles is the column block. -/
theorem stack_tiles (a : ℕ → ℕ → ℝ) (j : ℕ) (f : ℕ → S128x128.Idx → EReal) (h : ∀ k < 16, f k = T a k j) (r : Fin 2048) (x : Fin 128) :
    stack f (ix2 r x) = ((a r.val (128 * j + x.val) : ℝ) : EReal) := by
  have e : stack f (ix2 r x) = f (r.val / 128) (ix2 ⟨r.val % 128, Nat.mod_lt _ (by decide)⟩ x) := rfl
  rw [e, h _ (by omega)]
  show ((a (128 * (r.val / 128) + r.val % 128) (128 * j + x.val) : ℝ) : EReal) = _
  rw [Nat.div_add_mod]

/-- The one-head block of a two-head block. -/
theorem window_w {α : Type} (x : S2x128x128.Idx → α) (i : Fin 2) (inb) (t s : Fin 128) :
    window x ![i.val, 0, 0] S1x128x128.size inb (ix3 0 t s) = x (ix3 i t s) := by
  refine congrArg x (funext fun a => Fin.ext ?_)
  match a with
  | ⟨0, _⟩ => show i.val + 1 * 0 = i.val; omega
  | ⟨1, _⟩ => show 0 + 1 * t.val = t.val; omega
  | ⟨2, _⟩ => show 0 + 1 * s.val = s.val; omega

theorem window_b {α : Type} (x : S2x128x1.Idx → α) (i : Fin 2) (inb) (t : Fin 128) :
    window x ![i.val, 0, 0] S1x128x1.size inb (ix3 0 t 0) = x (ix3 i t 0) := by
  refine congrArg x (funext fun a => Fin.ext ?_)
  match a with
  | ⟨0, _⟩ => show i.val + 1 * 0 = i.val; omega
  | ⟨1, _⟩ => show 0 + 1 * t.val = t.val; omega
  | ⟨2, _⟩ => show 0 + 1 * 0 = 0; omega

/-- Both heads put, one after the other. -/
theorem puts_w {α : Type} (x : S2x128x128.Idx → α) (a b : S1x128x128.Idx → α) (i : Fin 2) (t s : Fin 128) :
    put (put x ![0, 0, 0] S1x128x128.size a) ![1, 0, 0] S1x128x128.size b (ix3 i t s) = if i.val = 0 then a (ix3 0 t s) else b (ix3 0 t s) := by
  by_cases hi : i.val = 0
  · rw [if_pos hi]
    obtain rfl : i = 0 := Fin.ext hi
    rw [← window_w (put (put x ![0, 0, 0] S1x128x128.size a) ![1, 0, 0] S1x128x128.size b) 0 inb_S2x128x128_S1x128x128_0_0_0]
    show window (put (put x ![0, 0, 0] S1x128x128.size a) ![1, 0, 0] S1x128x128.size b) ![0, 0, 0] S1x128x128.size inb_S2x128x128_S1x128x128_0_0_0 _ = _
    rw [VecWindow.window_put_of_disjoint (s := S2x128x128) _ _ _ _ _ _ _ (0 : Fin 3) (Or.inl (show 0 + 1 ≤ 1 from le_rfl))]
    exact congrFun (VecWindow.window_put_same (s := S2x128x128) x ![0, 0, 0] S1x128x128.size inb_S2x128x128_S1x128x128_0_0_0 a) _
  · rw [if_neg hi]
    obtain rfl : i = 1 := Fin.ext (by show i.val = 1; omega)
    rw [← window_w (put (put x ![0, 0, 0] S1x128x128.size a) ![1, 0, 0] S1x128x128.size b) 1 inb_S2x128x128_S1x128x128_1_0_0]
    exact congrFun (VecWindow.window_put_same (s := S2x128x128) _ ![1, 0, 0] S1x128x128.size inb_S2x128x128_S1x128x128_1_0_0 b) _

theorem puts_b {α : Type} (x : S2x128x1.Idx → α) (a b : S1x128x1.Idx → α) (i : Fin 2) (t : Fin 128) :
    put (put x ![0, 0, 0] S1x128x1.size a) ![1, 0, 0] S1x128x1.size b (ix3 i t 0) = if i.val = 0 then a (ix3 0 t 0) else b (ix3 0 t 0) := by
  by_cases hi : i.val = 0
  · rw [if_pos hi]
    obtain rfl : i = 0 := Fin.ext hi
    rw [← window_b (put (put x ![0, 0, 0] S1x128x1.size a) ![1, 0, 0] S1x128x1.size b) 0 inb_S2x128x1_S1x128x1_0_0_0]
    show window (put (put x ![0, 0, 0] S1x128x1.size a) ![1, 0, 0] S1x128x1.size b) ![0, 0, 0] S1x128x1.size inb_S2x128x1_S1x128x1_0_0_0 _ = _
    rw [VecWindow.window_put_of_disjoint (s := S2x128x1) _ _ _ _ _ _ _ (0 : Fin 3) (Or.inl (show 0 + 1 ≤ 1 from le_rfl))]
    exact congrFun (VecWindow.window_put_same (s := S2x128x1) x ![0, 0, 0] S1x128x1.size inb_S2x128x1_S1x128x1_0_0_0 a) _
  · rw [if_neg hi]
    obtain rfl : i = 1 := Fin.ext (by show i.val = 1; omega)
    rw [← window_b (put (put x ![0, 0, 0] S1x128x1.size a) ![1, 0, 0] S1x128x1.size b) 1 inb_S2x128x1_S1x128x1_1_0_0]
    exact congrFun (VecWindow.window_put_same (s := S2x128x1) _ ![1, 0, 0] S1x128x1.size inb_S2x128x1_S1x128x1_1_0_0 b) _

section point
variable (u v dy : ℕ → ℕ → ℝ) (g : ℕ → ℝ) (w : ℕ → ℕ → ℕ → ℝ) (b : ℕ → ℕ → ℝ) (j : ℕ)
  (x3 : S2x128x128.Idx → EReal) (x4 : S2x128x1.Idx → EReal)

theorem duK_eq (h3 : ∀ (i : Fin 2) (t s : Fin 128), x3 (ix3 i t s) = ((w (2 * j + i.val) t.val s.val : ℝ) : EReal))
    (h4 : ∀ (i : Fin 2) (t : Fin 128), x4 (ix3 i t 0) = ((b (2 * j + i.val) t.val : ℝ) : EReal)) (k : ℕ) (hk : k < 16) :
    duK (F := Ideal) (Col u j) (Col v j) (G g j) x3 x4 (Col dy j) k = T (du u v dy g w b) k j := by
  unfold duK duC
  rw [rows_col _ _ _ hk, rows_col _ _ _ hk, rows_col _ _ _ hk, pay29 w (2 * j) (w0 (F := Ideal) x3) fun t s => (window_w x3 0 _ t s).trans (h3 0 t s),
    pay30 w (2 * j + 1) (w1 (F := Ideal) x3) fun t s => (window_w x3 1 _ t s).trans (h3 1 t s),
    pay34 b (2 * j) (bias0 (F := Ideal) x4) fun t => (window_b x4 0 _ t).trans (h4 0 t), pay35 b (2 * j + 1) (bias1 (F := Ideal) x4) fun t => (window_b x4 1 _ t).trans (h4 1 t),
    pay33, pay5, pay6, pay10, pay12]
  rfl

theorem vnC_eq (k : ℕ) : vnC (F := Ideal) k0_pay25 (T v k j) = T (vn v) k j := by
  unfold vnC; rw [pay5, pay6, pay8]
theorem dmC_eq (k : ℕ) : dmC (F := Ideal) (T u k j) (T dy k j) = T (dm u dy) k j := by
  unfold dmC; rw [pay4, pay16]

theorem dvK_eq (h3 : ∀ (i : Fin 2) (t s : Fin 128), x3 (ix3 i t s) = ((w (2 * j + i.val) t.val s.val : ℝ) : EReal)) (k : ℕ) (hk : k < 16) :
    dvK (F := Ideal) (Col u j) (Col v j) (G g j) x3 (Col dy j) k = T (dv u v dy g w) k j := by
  unfold dvK dvC
  rw [rows_col _ _ _ hk, rows_col _ _ _ hk, rows_col _ _ _ hk, pay31 w (2 * j) (w0 (F := Ideal) x3) fun t s => (window_w x3 0 _ t s).trans (h3 0 t s),
    pay32 w (2 * j + 1) (w1 (F := Ideal) x3) fun t s => (window_w x3 1 _ t s).trans (h3 1 t s),
    pay33, vnC_eq, dmC_eq, pay6, pay7, pay22, pay23, pay1]
  rfl

/-- What the sums hold after `k` chunks. -/
theorem dgK_eq (h3 : ∀ (i : Fin 2) (t s : Fin 128), x3 (ix3 i t s) = ((w (2 * j + i.val) t.val s.val : ℝ) : EReal)) (y : S1x128.Idx) (k : ℕ) (hk : k ≤ 16) :
    dgK (F := Ideal) (Col u j) (Col v j) x3 (Col dy j) k y
      = ((∑ n ∈ Finset.range k, ∑ t : Fin 128, back u dy w (128 * n + t.val) (128 * j + (y 1).val) * vn v (128 * n + t.val) (128 * j + (y 1).val) : ℝ) : EReal) := by
  induction k with
  | zero => exact (pay36 y).trans (by simp)
  | succ k ih =>
    unfold dgK dgC
    rw [rows_col _ _ _ hk, rows_col _ _ _ hk, rows_col _ _ _ hk, pay31 w (2 * j) (w0 (F := Ideal) x3) fun t s => (window_w x3 0 _ t s).trans (h3 0 t s),
      pay32 w (2 * j + 1) (w1 (F := Ideal) x3) fun t s => (window_w x3 1 _ t s).trans (h3 1 t s), vnC_eq, dmC_eq, pay21, ih (by omega), ← EReal.coe_add,
      ← Finset.sum_range_succ]

theorem dwK_eq (i : Fin 2) (t s : Fin 128) (k : ℕ) (hk : k ≤ 16) :
    dwK (F := Ideal) (Col u j) (Col v j) (G g j) (Col dy j) k (ix3 i t s)
      = ((∑ n ∈ Finset.range k, ∑ d : Fin 64, dm u dy (128 * n + t.val) (64 * (2 * j + i.val) + d.val) * vg v g (128 * n + s.val) (64 * (2 * j + i.val) + d.val) : ℝ) : EReal) := by
  induction k with
  | zero => exact (pay37 _).trans (by simp)
  | succ k ih =>
    unfold dwK dwC
    rw [rows_col _ _ _ hk, rows_col _ _ _ hk, rows_col _ _ _ hk, pay33, dmC_eq, pay5, pay6, pay9, puts_w]
    rw [Finset.sum_range_succ, EReal.coe_add, ← ih (by omega)]
    by_cases hi : i.val = 0
    · obtain rfl : i = 0 := Fin.ext hi
      rw [if_pos hi, pay18]; exact congrArg (· + _) (window_w _ 0 _ t s)
    · obtain rfl : i = 1 := Fin.ext (by show i.val = 1; omega)
      rw [if_neg hi, pay19]; exact congrArg (· + _) (window_w _ 1 _ t s)

theorem dbK_eq (i : Fin 2) (t : Fin 128) (k : ℕ) (hk : k ≤ 16) :
    dbK (F := Ideal) (Col u j) (Col dy j) k (ix3 i t 0)
      = ((∑ n ∈ Finset.range k, ∑ d : Fin 64, dm u dy (128 * n + t.val) (64 * (2 * j + i.val) + d.val) : ℝ) : EReal) := by
  induction k with
  | zero => exact (pay38 _).trans (by simp)
  | succ k ih =>
    unfold dbK dbC
    rw [rows_col _ _ _ hk, rows_col _ _ _ hk, pay4, puts_b]
    rw [Finset.sum_range_succ, EReal.coe_add, ← ih (by omega)]
    by_cases hi : i.val = 0
    · obtain rfl : i = 0 := Fin.ext hi
      rw [if_pos hi, pay14]; exact congrArg (· + _) (window_b _ 0 _ t)
    · obtain rfl : i = 1 := Fin.ext (by show i.val = 1; omega)
      rw [if_neg hi, pay15]; exact congrArg (· + _) (window_b _ 1 _ t)

/-! ### The five blocks -/

theorem out6_eq (h3 : ∀ (i : Fin 2) (t s : Fin 128), x3 (ix3 i t s) = ((w (2 * j + i.val) t.val s.val : ℝ) : EReal))
    (h4 : ∀ (i : Fin 2) (t : Fin 128), x4 (ix3 i t 0) = ((b (2 * j + i.val) t.val : ℝ) : EReal)) (r : Fin 2048) (x : Fin 128) :
    out6 (F := Ideal) (Col u j) (Col v j) (G g j) x3 x4 (Col dy j) (ix2 r x) = ((du u v dy g w b r.val (128 * j + x.val) : ℝ) : EReal) :=
  stack_tiles _ j _ (fun k hk => duK_eq u v dy g w b j x3 x4 h3 h4 k hk) r x

theorem out7_eq (h3 : ∀ (i : Fin 2) (t s : Fin 128), x3 (ix3 i t s) = ((w (2 * j + i.val) t.val s.val : ℝ) : EReal)) (r : Fin 2048) (x : Fin 128) :
    out7 (F := Ideal) (Col u j) (Col v j) (G g j) x3 (Col dy j) (ix2 r x) = ((dv u v dy g w r.val (128 * j + x.val) : ℝ) : EReal) :=
  stack_tiles _ j _ (fun k hk => dvK_eq u v dy g w j x3 h3 k hk) r x

theorem out8_eq (h3 : ∀ (i : Fin 2) (t s : Fin 128), x3 (ix3 i t s) = ((w (2 * j + i.val) t.val s.val : ℝ) : EReal)) (o : Fin 1) (x : Fin 128) :
    out8 (F := Ideal) (Col u j) (Col v j) x3 (Col dy j) (ix2 o x) = ((dg u v dy w (128 * j + x.val) : ℝ) : EReal) := by
  unfold out8 dg
  rw [dgK_eq u v dy w j x3 h3 _ 16 le_rfl, Finset.sum_range]; rfl

theorem out9_eq (i : Fin 2) (t s : Fin 128) :
    out9 (F := Ideal) (Col u j) (Col v j) (G g j) (Col dy j) (ix3 i t s) = ((dw u v dy g (2 * j + i.val) t.val s.val : ℝ) : EReal) := by
  unfold out9 dw
  rw [puts_w, pay2, pay3]
  have e : (∑ n : Fin 16, ∑ d : Fin 64, dm u dy (128 * n.val + t.val) (64 * (2 * j + i.val) + d.val) * vg v g (128 * n.val + s.val) (64 * (2 * j + i.val) + d.val))
      = ∑ n ∈ Finset.range 16, ∑ d : Fin 64, dm u dy (128 * n + t.val) (64 * (2 * j + i.val) + d.val) * vg v g (128 * n + s.val) (64 * (2 * j + i.val) + d.val) :=
    (Finset.sum_range (n := 16) fun n => ∑ d : Fin 64, dm u dy (128 * n + t.val) (64 * (2 * j + i.val) + d.val) * vg v g (128 * n + s.val) (64 * (2 * j + i.val) + d.val)).symm
  rw [e]
  have split : ∀ z : EReal, (if i.val = 0 then (if t.val < s.val then 0 else z) else (if t.val < s.val then 0 else z)) = if t.val < s.val then 0 else z :=
    fun z => ite_self _
  by_cases hts : t.val < s.val
  · rw [if_pos (show (ix3 (0 : Fin 1) t s 1).val < (ix3 (0 : Fin 1) t s 2).val from hts), if_pos (show (ix3 (0 : Fin 1) t s 1).val < (ix3 (0 : Fin 1) t s 2).val from hts),
      ite_self, if_pos hts]; rfl
  · rw [if_neg (show ¬ (ix3 (0 : Fin 1) t s 1).val < (ix3 (0 : Fin 1) t s 2).val from hts), if_neg (show ¬ (ix3 (0 : Fin 1) t s 1).val < (ix3 (0 : Fin 1) t s 2).val from hts),
      if_neg hts, ← dwK_eq u v dy g j i t s 16 le_rfl]
    by_cases hi : i.val = 0
    · obtain rfl : i = 0 := Fin.ext hi
      rw [if_pos hi]; exact window_w _ 0 _ t s
    · obtain rfl : i = 1 := Fin.ext (by show i.val = 1; omega)
      rw [if_neg hi]; exact window_w _ 1 _ t s

theorem out10_eq (i : Fin 2) (t : Fin 128) :
    out10 (F := Ideal) (Col u j) (Col dy j) (ix3 i t 0) = ((db u dy (2 * j + i.val) t.val : ℝ) : EReal) := by
  unfold out10 db
  rw [dbK_eq u dy j i t 16 le_rfl, Finset.sum_range]
end point

end Cert.Sgu
end
-- ==== Proof.SguFrame.lean ====
/- The frame of the gating unit's backward call: the pipeline's data from `body_run`, its launch, and the same for the words. -/
module

public import proofs.«01_k».proof.Proof.SguRun
public import proofs.«01_k».proof.Proof.Gen.SguGradIdeal.Frame.Runs
public import proofs.«01_k».proof.Proof.Gen.SguGrad
public import proofs.«01_k».proof.Defs
public import Idealize.ShloMosaic.Lib.Claim

@[expose] public section

set_option maxRecDepth 16384

noncomputable section

namespace Cert.Sgu

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.SguGradIdeal Cert.SguGradIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The pipeline's data: after a point every input's buffer holds its block still, every output's what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 (iblk m c 0 t) (iblk m c 1 t) (iblk m c 2 t) (iblk m c 3 t) (iblk m c 4 t) (iblk m c 5 t)
    | ⟨7, _⟩ => out7 (iblk m c 0 t) (iblk m c 1 t) (iblk m c 2 t) (iblk m c 3 t) (iblk m c 5 t)
    | ⟨8, _⟩ => out8 (iblk m c 0 t) (iblk m c 1 t) (iblk m c 3 t) (iblk m c 5 t)
    | ⟨9, _⟩ => out9 (iblk m c 0 t) (iblk m c 1 t) (iblk m c 2 t) (iblk m c 5 t)
    | ⟨10, _⟩ => out10 (iblk m c 0 t) (iblk m c 5 t)
  Φ _ := Pipeline.ΦA spec0 c
  q w := Pipeline.shareOf spec0 w
  owed _ := 0

theorem dats_A (c : Dev nD) (w : Fin cfg0.W) : (dats m 0 c).A w = V m c (Pipeline.arrRef spec0 w) := by
  dsimp only [dats]

/-- Before the body an input's buffer holds its block. -/
theorem found0 (c : Dev nD) (t : Fin cfg0.N) (d) : (dats m 0 c).before 0 t d = iblk m c 0 t :=
  before0_0_of m (dats m 0 c) (dats_A m c 0) (fun _ => by dsimp only [dats]) t d
theorem found1 (c : Dev nD) (t : Fin cfg0.N) (d) : (dats m 0 c).before 1 t d = iblk m c 1 t :=
  before0_1_of m (dats m 0 c) (dats_A m c 1) (fun _ => by dsimp only [dats]) t d
theorem found2 (c : Dev nD) (t : Fin cfg0.N) (d) : (dats m 0 c).before 2 t d = iblk m c 2 t :=
  before0_2_of m (dats m 0 c) (dats_A m c 2) (fun _ => by dsimp only [dats]) t d
theorem found3 (c : Dev nD) (t : Fin cfg0.N) (d) : (dats m 0 c).before 3 t d = iblk m c 3 t :=
  before0_3_of m (dats m 0 c) (dats_A m c 3) (fun _ => by dsimp only [dats]) t d
theorem found4 (c : Dev nD) (t : Fin cfg0.N) (d) : (dats m 0 c).before 4 t d = iblk m c 4 t :=
  before0_4_of m (dats m 0 c) (dats_A m c 4) (fun _ => by dsimp only [dats]) t d
theorem found5 (c : Dev nD) (t : Fin cfg0.N) (d) : (dats m 0 c).before 5 t d = iblk m c 5 t :=
  before0_5_of m (dats m 0 c) (dats_A m c 5) (fun _ => by dsimp only [dats]) t d

set_option maxHeartbeats 1600000 in
/-- The body at a point, with the buffers as the pipeline hands them over and takes them back. -/
theorem body_sound (c : Dev nD) (t : Fin cfg0.N) :
    iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)) : sProp 𝕄)
      ⊢ wp frame (wpE (defs₀ (F := F)) Variants.none c none) Set.univ (bodyAt0 t) (fun _ =>
    iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))) := by
  unfold bodyAt0
  simp only [found0, found1, found2, found3, found4, found5]
  rw [show (dats m 0 c).Φ t.succ = (dats m 0 c).Φ t.castSucc from rfl,
    show (dats m 0 c).owesAt () t.succ = (dats m 0 c).owesAt () t.castSucc from rfl]
  rw [show (dats m 0 c).after 0 t = iblk m c 0 t from by dsimp only [dats]]
  rw [show (dats m 0 c).after 1 t = iblk m c 1 t from by dsimp only [dats]]
  rw [show (dats m 0 c).after 2 t = iblk m c 2 t from by dsimp only [dats]]
  rw [show (dats m 0 c).after 3 t = iblk m c 3 t from by dsimp only [dats]]
  rw [show (dats m 0 c).after 4 t = iblk m c 4 t from by dsimp only [dats]]
  rw [show (dats m 0 c).after 5 t = iblk m c 5 t from by dsimp only [dats]]
  rw [show (dats m 0 c).after 6 t = out6 (iblk m c 0 t) (iblk m c 1 t) (iblk m c 2 t) (iblk m c 3 t) (iblk m c 4 t) (iblk m c 5 t) from by dsimp only [dats]]
  rw [show (dats m 0 c).after 7 t = out7 (iblk m c 0 t) (iblk m c 1 t) (iblk m c 2 t) (iblk m c 3 t) (iblk m c 5 t) from by dsimp only [dats]]
  rw [show (dats m 0 c).after 8 t = out8 (iblk m c 0 t) (iblk m c 1 t) (iblk m c 3 t) (iblk m c 5 t) from by dsimp only [dats]]
  rw [show (dats m 0 c).after 9 t = out9 (iblk m c 0 t) (iblk m c 1 t) (iblk m c 2 t) (iblk m c 5 t) from by dsimp only [dats]]
  rw [show (dats m 0 c).after 10 t = out10 (iblk m c 0 t) (iblk m c 5 t) from by dsimp only [dats]]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_run c (grid0.coords t) _ _ _ _ _ _ _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  iintro H
  isplitl [HΦ]; · iexact HΦ
  isplitl [Ho]; · iexact Ho
  iexact H

/-- The body table's row at a point is the body at that point's buffers. -/
theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (body_sound m c t) rfl .rfl fun _ => .rfl

set_option backward.isDefEq.respectTransparency.types false in
/-- The launch: every run ends, with the pipeline's arrays as its data say and every counter at zero. -/
theorem launch : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := dats_A m) (hΦ := fun _ _ => rfl)

theorem run : θ_run defs (onTc (τ := τ) (main (F := F))) (s₀ m ρ) (Pipeline.FramePost cfgs (dats m) 0 (V m)) :=
  (θ_run defs _ _).mono (fun _ h => h.1) (launch m ρ)

/-- The frame at any values: the arguments end as they began, the counters at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (dats_A m) (run m ρ)) ((θ_run defs _ _).mono (fun _ h => h.2) (launch m ρ))

/-- A named constant read as the word it was printed as. -/
local instance asWord : Named Bits := ⟨fun _ _ {φ} b => FloatOps.ofBits φ b⟩

/-- The word program runs the same bodies, with the words in the place of the named constants. -/
theorem bodies_eq : Cert.SguGrad.defs₀ (F := Bits) = Cert.SguGradIdeal.defs₀ (F := Bits) := by
  unfold Cert.SguGrad.defs₀ Cert.SguGradIdeal.defs₀
  refine congrArg _ (funext fun l => ?_)
  match l with
  | ⟨0, _⟩ => exact funext fun x => rfl

theorem frame : Cert.quiescent_SguGrad := fun m ρ _ => by
  have h := frame_any (F := Bits) m ρ
  have e := bodies_eq
  unfold Cert.SguGrad.defs Cert.SguGradIdeal.defs at *
  rw [e]; exact h

end Cert.Sgu

end
-- ==== Proof.SguValue.lean ====
/- What the gradient kernel of the spatial gating unit leaves in its results, from arguments that are arrays of numbers. -/
module

public import proofs.«01_k».proof.Proof.SguBlock
public import proofs.«01_k».proof.Proof.SguFrame
public import Idealize.ShloMosaic.Lib.Claim

@[expose] public section

set_option maxRecDepth 8192
set_option maxHeartbeats 1000000

noncomputable section

namespace Cert.Sgu

open Cert.SguGradIdeal Cert.SguGradIdeal.Gen
open Idealize.ShloMosaic Idealize.ShloMosaic.TcCoe Idealize.ShloMosaic.Tactic
open Cert.SguMath

theorem idx : ∀ t : Fin cfg0.N, win0_0.index t = ![0, 11 + t.val] ∧ win0_1.index t = ![0, 14 + t.val]
    ∧ win0_2.index t = ![0, t.val] ∧ win0_3.index t = ![t.val, 0, 0] ∧ win0_4.index t = ![t.val, 0, 0]
    ∧ win0_5.index t = ![0, 5 + t.val] ∧ win0_6.index t = ![0, t.val] ∧ win0_7.index t = ![0, t.val]
    ∧ win0_8.index t = ![0, t.val] ∧ win0_9.index t = ![t.val, 0, 0] ∧ win0_10.index t = ![t.val, 0, 0] :=
  (by decide +kernel : ∀ t : Fin grid0.N, _)

/-- The column at lane `x` of point `t`, and the head at place `i`. -/
def lane (t : Fin cfg0.N) (x : Fin 128) : Fin 384 := ⟨128 * t.val + x.val, by have := lt_of_lt_of_eq t.isLt N_0; omega⟩
def head (t : Fin cfg0.N) (i : Fin 2) : Fin 6 := ⟨2 * t.val + i.val, by have := lt_of_lt_of_eq t.isLt N_0; omega⟩

variable (m : (ℓ : Loc nD τ sig) → Buf (Elt Ideal) ℓ) (c : Dev nD) (t : Fin cfg0.N)
  (P D : ℕ → ℕ → ℝ) (g : ℕ → ℝ) (w : ℕ → ℕ → ℕ → ℝ) (b : ℕ → ℕ → ℝ)

section blocks
theorem read0 (hP : ∀ (r : Fin 2048) (q : Fin 2176), m ((c : Thread nD τ).loc main_arg0) (ix2 r q) = ((P r.val q.val : ℝ) : EReal)) :
    iblk m c 0 t = Col (U P) t.val := by
  funext y; idx_vars y
  have ht := lt_of_lt_of_eq t.isLt N_0
  refine Eq.trans ?_ ((hP y0 ⟨1408 + (128 * t.val + y1.val), by omega⟩).trans rfl)
  blk_ext [iblk, V, idx t]
theorem read1 (hP : ∀ (r : Fin 2048) (q : Fin 2176), m ((c : Thread nD τ).loc main_arg0) (ix2 r q) = ((P r.val q.val : ℝ) : EReal)) :
    iblk m c 1 t = Col (Vh P) t.val := by
  funext y; idx_vars y
  have ht := lt_of_lt_of_eq t.isLt N_0
  refine Eq.trans ?_ ((hP y0 ⟨1792 + (128 * t.val + y1.val), by omega⟩).trans rfl)
  blk_ext [iblk, V, idx t]
theorem read5 (hD : ∀ (r : Fin 2048) (q : Fin 1024), m ((c : Thread nD τ).loc main_arg1) (ix2 r q) = ((D r.val q.val : ℝ) : EReal)) :
    iblk m c 5 t = Col (Dy D) t.val := by
  funext y; idx_vars y
  have ht := lt_of_lt_of_eq t.isLt N_0
  refine Eq.trans ?_ ((hD y0 ⟨640 + (128 * t.val + y1.val), by omega⟩).trans rfl)
  blk_ext [iblk, V, idx t]
theorem read3 (hw : ∀ (h : Fin 6) (r s : Fin 128), m ((c : Thread nD τ).loc main_arg3) (ix3 h r s) = ((w h.val r.val s.val : ℝ) : EReal)) (i : Fin 2) (r s : Fin 128) :
    iblk m c 3 t (ix3 i r s) = ((w (2 * t.val + i.val) r.val s.val : ℝ) : EReal) := by
  refine Eq.trans ?_ (hw (head t i) r s)
  unfold head
  blk_ext [iblk, V, idx t]
theorem emb2 (o : Fin 1) (x : Fin 128) : ((cfg0.win 2).blk t).view.emb (ix2 o x) = ix2 o (lane t x) := by
  unfold lane; blk_ext [idx t]
theorem emb4 (i : Fin 2) (r : Fin 128) (o : Fin 1) : ((cfg0.win 4).blk t).view.emb (ix3 i r o) = ix3 (head t i) r o := by
  unfold head; blk_ext [idx t]
theorem read2 (hg : ∀ q : Fin 384, m ((c : Thread nD τ).loc main_arg2) (ix1 q) = ((g q.val : ℝ) : EReal)) :
    iblk m c 2 t = G g t.val := by
  funext y; idx_vars y
  refine Eq.trans ?_ ((hg (lane t y1)).trans rfl)
  blk_simp [iblk]
  entry_read
  refine (congrArg (broadcastInDim S1x384 ![1] bcast_S384_S1x384_1 (m (c, Proc.tc.devRef main_arg2))) (emb2 t y0 y1)).trans ?_
  pointwise
theorem read4 (hb : ∀ (h : Fin 6) (r : Fin 128), m ((c : Thread nD τ).loc main_arg4) (ix2 h r) = ((b h.val r.val : ℝ) : EReal)) (i : Fin 2) (r : Fin 128) :
    iblk m c 4 t (ix3 i r 0) = ((b (2 * t.val + i.val) r.val : ℝ) : EReal) := by
  refine Eq.trans ?_ (hb (head t i) r)
  blk_simp [iblk]
  entry_read
  refine (congrArg (broadcastInDim S6x128x1 ![0, 1] bcast_S6x128_S6x128x1_0_1 (m (c, Proc.tc.devRef main_arg4))) (emb4 t i r 0)).trans ?_
  pointwise
theorem emb6 (r : Fin 2048) (x : Fin 128) : ((cfg0.win 6).blk t).view.emb (ix2 r x) = ix2 r (lane t x) := by
  unfold lane; blk_ext [idx t]
theorem emb7 (r : Fin 2048) (x : Fin 128) : ((cfg0.win 7).blk t).view.emb (ix2 r x) = ix2 r (lane t x) := by
  unfold lane; blk_ext [idx t]
theorem emb8 (o : Fin 1) (x : Fin 128) : ((cfg0.win 8).blk t).view.emb (ix2 o x) = ix2 o (lane t x) := by
  unfold lane; blk_ext [idx t]
theorem emb9 (i : Fin 2) (r s : Fin 128) : ((cfg0.win 9).blk t).view.emb (ix3 i r s) = ix3 (head t i) r s := by
  unfold head; blk_ext [idx t]
theorem emb10 (i : Fin 2) (r : Fin 128) (o : Fin 1) : ((cfg0.win 10).blk t).view.emb (ix3 i r o) = ix3 (head t i) r o := by
  unfold head; blk_ext [idx t]
end blocks

/-- The five results as arrays. -/
def duA : FVec Ideal S2048x384 .bf16 := fun y => ((du (U P) (Vh P) (Dy D) g w b (y 0).val (y 1).val : ℝ) : EReal)
def dvA : FVec Ideal S2048x384 .bf16 := fun y => ((dv (U P) (Vh P) (Dy D) g w (y 0).val (y 1).val : ℝ) : EReal)
def dgA : FVec Ideal S1x384 .f32 := fun y => ((dg (U P) (Vh P) (Dy D) w (y 1).val : ℝ) : EReal)
def dwA : FVec Ideal S6x128x128 .f32 := fun y => ((dw (U P) (Vh P) (Dy D) g (y 0).val (y 1).val (y 2).val : ℝ) : EReal)
def dbA : FVec Ideal S6x128x1 .f32 := fun y => ((db (U P) (Dy D) (y 0).val (y 1).val : ℝ) : EReal)

theorem duA_at (r : Fin 2048) (q : Fin 384) : duA P D g w b (ix2 r q) = ((du (U P) (Vh P) (Dy D) g w b r.val q.val : ℝ) : EReal) := rfl
theorem dvA_at (r : Fin 2048) (q : Fin 384) : dvA P D g w (ix2 r q) = ((dv (U P) (Vh P) (Dy D) g w r.val q.val : ℝ) : EReal) := rfl
theorem dgA_at (o : Fin 1) (q : Fin 384) : dgA P D w (ix2 o q) = ((dg (U P) (Vh P) (Dy D) w q.val : ℝ) : EReal) := rfl
theorem dwA_at (h : Fin 6) (r s : Fin 128) : dwA P D g (ix3 h r s) = ((dw (U P) (Vh P) (Dy D) g h.val r.val s.val : ℝ) : EReal) := rfl
theorem dbA_at (h : Fin 6) (r : Fin 128) (o : Fin 1) : dbA P D (ix3 h r o) = ((db (U P) (Dy D) h.val r.val : ℝ) : EReal) := rfl

theorem lane_val (x : Fin 128) : (lane t x).val = 128 * t.val + x.val := rfl
theorem head_val (i : Fin 2) : (head t i).val = 2 * t.val + i.val := rfl

variable (hP : ∀ (r : Fin 2048) (q : Fin 2176), m ((c : Thread nD τ).loc main_arg0) (ix2 r q) = ((P r.val q.val : ℝ) : EReal))
  (hD : ∀ (r : Fin 2048) (q : Fin 1024), m ((c : Thread nD τ).loc main_arg1) (ix2 r q) = ((D r.val q.val : ℝ) : EReal))
  (hg : ∀ q : Fin 384, m ((c : Thread nD τ).loc main_arg2) (ix1 q) = ((g q.val : ℝ) : EReal))
  (hw : ∀ (h : Fin 6) (r s : Fin 128), m ((c : Thread nD τ).loc main_arg3) (ix3 h r s) = ((w h.val r.val s.val : ℝ) : EReal))
  (hb : ∀ (h : Fin 6) (r : Fin 128), m ((c : Thread nD τ).loc main_arg4) (ix2 h r) = ((b h.val r.val : ℝ) : EReal))

include hP hD hg hw hb in
theorem du_final : (dats m 0 c).arrAt 6 (cfgs 0).N = duA P D g w b := by
  refine (dats m 0 c).arrAt_eq_of_covers 6 _ (by decide +kernel) fun t _ y => ?_
  blk_simp
  dsimp only [dats]
  idx_vars y
  rw [read0 m c t P hP, read1 m c t P hP, read2 m c t g hg, read5 m c t D hD,
    out6_eq (U P) (Vh P) (Dy D) g w b t.val _ _ (read3 m c t w hw) (read4 m c t b hb)]
  refine Eq.trans ?_ (congrArg (duA P D g w b) (emb6 t y0 y1).symm)
  rw [duA_at, lane_val]

include hP hD hg hw in
theorem dv_final : (dats m 0 c).arrAt 7 (cfgs 0).N = dvA P D g w := by
  refine (dats m 0 c).arrAt_eq_of_covers 7 _ (by decide +kernel) fun t _ y => ?_
  blk_simp
  dsimp only [dats]
  idx_vars y
  rw [read0 m c t P hP, read1 m c t P hP, read2 m c t g hg, read5 m c t D hD,
    out7_eq (U P) (Vh P) (Dy D) g w t.val _ (read3 m c t w hw)]
  refine Eq.trans ?_ (congrArg (dvA P D g w) (emb7 t y0 y1).symm)
  rw [dvA_at, lane_val]

include hP hD hw in
theorem dg_final : (dats m 0 c).arrAt 8 (cfgs 0).N = dgA P D w := by
  refine (dats m 0 c).arrAt_eq_of_covers 8 _ (by decide +kernel) fun t _ y => ?_
  blk_simp
  dsimp only [dats]
  idx_vars y
  rw [read0 m c t P hP, read1 m c t P hP, read5 m c t D hD,
    out8_eq (U P) (Vh P) (Dy D) w t.val _ (read3 m c t w hw)]
  refine Eq.trans ?_ (congrArg (dgA P D w) (emb8 t y0 y1).symm)
  rw [dgA_at, lane_val]

include hP hD hg in
theorem dw_final : (dats m 0 c).arrAt 9 (cfgs 0).N = dwA P D g := by
  refine (dats m 0 c).arrAt_eq_of_covers 9 _ (by decide +kernel) fun t _ y => ?_
  blk_simp
  dsimp only [dats]
  idx_vars y
  rw [read0 m c t P hP, read1 m c t P hP, read2 m c t g hg, read5 m c t D hD, out9_eq (U P) (Vh P) (Dy D) g t.val]
  refine Eq.trans ?_ (congrArg (dwA P D g) (emb9 t y0 y1 y2).symm)
  rw [dwA_at, head_val]

include hP hD in
theorem db_final : (dats m 0 c).arrAt 10 (cfgs 0).N = dbA P D := by
  refine (dats m 0 c).arrAt_eq_of_covers 10 _ (by decide +kernel) fun t _ y => ?_
  blk_simp
  dsimp only [dats]
  idx_vars y
  obtain rfl : y2 = 0 := Subsingleton.elim _ _
  rw [read0 m c t P hP, read5 m c t D hD, out10_eq (U P) (Dy D) t.val]
  refine Eq.trans ?_ (congrArg (dbA P D) (emb10 t y0 y1 0).symm)
  rw [dbA_at, head_val]

end Cert.Sgu
end
-- ==== Proof.SguSums.lean ====
/- Sums over several axes at once, in the reference's gradients of the spatial gating unit. -/
module

public import proofs.«01_k».proof.Proof.Gen.SguGradRefIdeal
public import proofs.«01_k».proof.Proof.Rows

@[expose] public section

set_option maxRecDepth 16384

noncomputable section

namespace Cert.SguRef

open Cert.SguGradRefIdeal Cert.SguGradRefIdeal.Gen
open Idealize.ShloMosaic Idealize.ShloMosaic.TcCoe

/-- A sum over a fibre, by a list of the fibre's indices. -/
theorem sum_fibre {ι : Type} [Fintype ι] {s t : Shape} {axes : List (Fin s.rank)} (h : s.ReducesTo axes t) (x : s.Idx → EReal) (j : t.Idx)
    (e : ι → s.Idx) (he : ∀ k, h.drop (e k) = j) (inv : s.Idx → ι) (hl : ∀ k, inv (e k) = k) (hr : ∀ i, h.drop i = j → e (inv i) = i) :
    Ideal.hostReduceAdd h x 0 j = ∑ k, x (e k) := by
  unfold Ideal.hostReduceAdd
  rw [zero_add]
  symm
  refine Finset.sum_bij' (fun k _ => e k) (fun i _ => inv i) ?_ ?_ ?_ ?_ ?_
  · intro k _; exact Finset.mem_filter.mpr ⟨Finset.mem_univ _, he k⟩
  · intro i _; exact Finset.mem_univ _
  · intro k _; exact hl k
  · intro i hi; exact hr i (Finset.mem_filter.mp hi).2
  · intro k _; rfl

/-- A sum over the first and last axis, both of one entry. -/
theorem sum_ends (x : S1x2048x6x1.Idx → EReal) (r : Fin 2048) (h : Fin 6) :
    Ideal.hostReduceAdd reducesTo_S1x2048x6x1_S2048x6_d0_3 x 0 (ix2 r h) = x (ix4 0 r h 0) := by
  rw [sum_fibre reducesTo_S1x2048x6x1_S2048x6_d0_3 x (ix2 r h) (fun _ : Unit => ix4 0 r h 0) ?_ (fun _ => ()) ?_ ?_]
  · simp
  · intro _; funext b; match b with
    | ⟨0, _⟩ => rfl
    | ⟨1, _⟩ => rfl
  · intro _; rfl
  · intro i hi; funext a; apply Fin.ext
    match a with
    | ⟨0, _⟩ => exact congrArg Fin.val (Subsingleton.elim (α := Fin 1) 0 (i 0))
    | ⟨1, _⟩ => exact (congrArg Fin.val (congrFun hi 0)).symm
    | ⟨2, _⟩ => exact (congrArg Fin.val (congrFun hi 1)).symm
    | ⟨3, _⟩ => exact congrArg Fin.val (Subsingleton.elim (α := Fin 1) 0 (i 3))

/-- A sum over the first two axes, both of one entry. -/
theorem sum_front (x : S1x1x6x64.Idx → EReal) (h : Fin 6) (d : Fin 64) :
    Ideal.hostReduceAdd reducesTo_S1x1x6x64_S6x64_d0_1 x 0 (ix2 h d) = x (ix4 0 0 h d) := by
  rw [sum_fibre reducesTo_S1x1x6x64_S6x64_d0_1 x (ix2 h d) (fun _ : Unit => ix4 0 0 h d) ?_ (fun _ => ()) ?_ ?_]
  · simp
  · intro _; funext b; match b with
    | ⟨0, _⟩ => rfl
    | ⟨1, _⟩ => rfl
  · intro _; rfl
  · intro i hi; funext a; apply Fin.ext
    match a with
    | ⟨0, _⟩ => exact congrArg Fin.val (Subsingleton.elim (α := Fin 1) 0 (i 0))
    | ⟨1, _⟩ => exact congrArg Fin.val (Subsingleton.elim (α := Fin 1) 0 (i 1))
    | ⟨2, _⟩ => exact (congrArg Fin.val (congrFun hi 0)).symm
    | ⟨3, _⟩ => exact (congrArg Fin.val (congrFun hi 1)).symm

/-- A sum over three axes of one entry. -/
theorem sum_three (x : S1x1x128x6x1.Idx → EReal) (r : Fin 128) (h : Fin 6) :
    Ideal.hostReduceAdd reducesTo_S1x1x128x6x1_S128x6_d0_1_4 x 0 (ix2 r h) = x (ix5 0 0 r h 0) := by
  rw [sum_fibre reducesTo_S1x1x128x6x1_S128x6_d0_1_4 x (ix2 r h) (fun _ : Unit => ix5 0 0 r h 0) ?_ (fun _ => ()) ?_ ?_]
  · simp
  · intro _; funext b; match b with
    | ⟨0, _⟩ => rfl
    | ⟨1, _⟩ => rfl
  · intro _; rfl
  · intro i hi; funext a; apply Fin.ext
    match a with
    | ⟨0, _⟩ => exact congrArg Fin.val (Subsingleton.elim (α := Fin 1) 0 (i 0))
    | ⟨1, _⟩ => exact congrArg Fin.val (Subsingleton.elim (α := Fin 1) 0 (i 1))
    | ⟨2, _⟩ => exact (congrArg Fin.val (congrFun hi 0)).symm
    | ⟨3, _⟩ => exact (congrArg Fin.val (congrFun hi 1)).symm
    | ⟨4, _⟩ => exact congrArg Fin.val (Subsingleton.elim (α := Fin 1) 0 (i 4))

/-- A sum over the chunks and the columns of a head. -/
theorem sum_chunks (x : S1x16x128x6x64.Idx → EReal) (o : Fin 1) (r : Fin 128) (h : Fin 6) :
    Ideal.hostReduceAdd reducesTo_S1x16x128x6x64_S1x128x6_d1_4 x 0 (ix3 o r h) = ∑ n : Fin 16, ∑ d : Fin 64, x (ix5 o n r h d) := by
  rw [sum_fibre reducesTo_S1x16x128x6x64_S1x128x6_d1_4 x (ix3 o r h) (fun p : Fin 16 × Fin 64 => ix5 o p.1 r h p.2) ?_ (fun i => (i 1, i 4)) ?_ ?_]
  · exact Fintype.sum_prod_type _
  · intro _; funext b; match b with
    | ⟨0, _⟩ => rfl
    | ⟨1, _⟩ => rfl
    | ⟨2, _⟩ => rfl
  · intro _; rfl
  · intro i hi; funext a; apply Fin.ext
    match a with
    | ⟨0, _⟩ => exact (congrArg Fin.val (congrFun hi 0)).symm
    | ⟨1, _⟩ => rfl
    | ⟨2, _⟩ => exact (congrArg Fin.val (congrFun hi 1)).symm
    | ⟨3, _⟩ => exact (congrArg Fin.val (congrFun hi 2)).symm
    | ⟨4, _⟩ => rfl

/-- The entry of the contraction at a chunk and a column of the head. -/
def chunkCol (p : Fin 16 × Fin 64) : dot_S6x1x16x64x128_S1x16x128x6x64_S6x128x128_123_014_4_2_0_3.contr.Idx :=
  fun a => match (show Fin 3 from a) with
    | ⟨0, _⟩ => (0 : Fin 1)
    | ⟨1, _⟩ => (p.1 : Fin 16)
    | ⟨2, _⟩ => (p.2 : Fin 64)

/-- The product of a head's two tables over the chunks and its columns. -/
theorem dot_chunks (x : FVec Ideal S6x1x16x64x128 .f32) (y : FVec Ideal S1x16x128x6x64 .f32) (h : Fin 6) (t s : Fin 128) :
    Host.dotGeneral (F := Ideal) dot_S6x1x16x64x128_S1x16x128x6x64_S6x128x128_123_014_4_2_0_3 none x y (ix3 h t s)
      = ∑ n : Fin 16, ∑ d : Fin 64, x (ix5 h 0 n d t) * y (ix5 0 n s h d) := by
  simp only [Host.dotGeneral]
  rw [Ideal.dotGeneral_apply]
  rw [← Fintype.sum_prod_type (f := fun p : Fin 16 × Fin 64 => x (ix5 h 0 p.1 p.2 t) * y (ix5 0 p.1 s h p.2))]
  symm
  refine Finset.sum_bij' (fun p _ => chunkCol p) (fun k _ => ((k (show Fin 3 from 1) : Fin 16), (k (show Fin 3 from 2) : Fin 64))) ?_ ?_ ?_ ?_ ?_
  · intro _ _; exact Finset.mem_univ _
  · intro _ _; exact Finset.mem_univ _
  · intro _ _; rfl
  · intro k _; funext a
    match (show Fin 3 from a) with
    | ⟨0, _⟩ => exact Subsingleton.elim (α := Fin 1) _ _
    | ⟨1, _⟩ => rfl
    | ⟨2, _⟩ => rfl
  · intro p _
    refine congrArg₂ (· * ·) (congrArg x ?_) (congrArg y ?_)
    · funext a; apply Fin.ext
      match a with
      | ⟨0, _⟩ => rfl
      | ⟨1, _⟩ => rfl
      | ⟨2, _⟩ => rfl
      | ⟨3, _⟩ => rfl
      | ⟨4, _⟩ => rfl
    · funext a; apply Fin.ext
      match a with
      | ⟨0, _⟩ => rfl
      | ⟨1, _⟩ => rfl
      | ⟨2, _⟩ => rfl
      | ⟨3, _⟩ => rfl
      | ⟨4, _⟩ => rfl

end Cert.SguRef
end
-- ==== Proof.SguRef.lean ====
/- The reference's gradients of the spatial gating unit, from arguments that are arrays of numbers: each of its arrays, entry by
   entry, down to the gradients of `SguMath`. -/
module

public import proofs.«01_k».proof.Proof.Gen.SguGradRefIdeal.Run
public import proofs.«01_k».proof.Proof.SguSums
public import proofs.«01_k».proof.Proof.SguMath

@[expose] public section

set_option maxRecDepth 16384
set_option maxHeartbeats 2000000

noncomputable section

namespace Cert.SguRef

open Cert.SguGradRefIdeal Cert.SguGradRefIdeal.Gen Cert.SguGradRefIdeal.Value
open Idealize.ShloMosaic Idealize.ShloMosaic.TcCoe Idealize.ShloMosaic.Tactic
open Cert.SguMath Cert.Gelu

variable (V0 : Valuation τ sig (Elt Ideal)) (P D : ℕ → ℕ → ℝ) (g : ℕ → ℝ) (w : ℕ → ℕ → ℕ → ℝ) (b : ℕ → ℕ → ℝ)
  (hP : ∀ (r : Fin 2048) (q : Fin 2176), V0 (Proc.devRef .tc main_arg0) (ix2 r q) = ((P r.val q.val : ℝ) : EReal))
  (hD : ∀ (r : Fin 2048) (q : Fin 1024), V0 (Proc.devRef .tc main_arg1) (ix2 r q) = ((D r.val q.val : ℝ) : EReal))
  (hg : ∀ q : Fin 384, V0 (Proc.devRef .tc main_arg2) (ix1 q) = ((g q.val : ℝ) : EReal))
  (hw : ∀ (h : Fin 6) (r s : Fin 128), V0 (Proc.devRef .tc main_arg3) (ix3 h r s) = ((w h.val r.val s.val : ℝ) : EReal))
  (hb : ∀ (h : Fin 6) (r : Fin 128), V0 (Proc.devRef .tc main_arg4) (ix2 h r) = ((b h.val r.val : ℝ) : EReal))

include hP in
theorem v1 (o : Fin 1) (r : Fin 2048) (q : Fin 768) : res_main_v1 V0 (ix3 o r q) = ((U P r.val q.val : ℝ) : EReal) := by
  pointwise [res_main_v1]
  exact hP r ⟨1408 + q.val, by omega⟩

theorem v5 (y) : res_main_v5 V0 y = (((Real.sqrt 2)⁻¹ : ℝ) : EReal) := by
  pointwise [res_main_v5]
  exact rsqrt_two

include hP in
theorem v3 (o : Fin 1) (r : Fin 2048) (q : Fin 768) : res_main_v3 V0 (ix3 o r q) = ((1 / 2 * U P r.val q.val : ℝ) : EReal) := by
  pointwise [res_main_v3]
  rw [v1 V0 P hP, word_half, ← EReal.coe_mul]

include hP in
theorem v7 (o : Fin 1) (r : Fin 2048) (q : Fin 768) : res_main_v7 V0 (ix3 o r q) = ((-U P r.val q.val * (Real.sqrt 2)⁻¹ : ℝ) : EReal) := by
  pointwise [res_main_v7]
  rw [v1 V0 P hP, v5 V0, EReal.coe_mul, EReal.coe_neg]

include hP in
theorem v11 (o : Fin 1) (r : Fin 2048) (q : Fin 768) : res_main_v11 V0 (ix3 o r q) = ((1 + erfR (U P r.val q.val * (Real.sqrt 2)⁻¹) : ℝ) : EReal) := by
  refine Eq.trans (show _ = Ideal.erfc (res_main_v7 V0 (ix3 o r q)) from rfl) ?_
  rw [v7 V0 P hP, EReal.coe_mul, EReal.coe_neg]
  exact erfc_host _

include hP in
theorem v18 (o : Fin 1) (r : Fin 2048) (q : Fin 768) : res_main_v18 V0 (ix3 o r q) = ((gel (U P r.val q.val) : ℝ) : EReal) := by
  pointwise [res_main_v18]
  rw [v3 V0 P hP, v11 V0 P hP, ← EReal.coe_mul]; rfl

theorem div_64 (x : ℝ) : Ideal.div (x : EReal) (Ideal.ofBits .f32 0x42800000#32) = ((x / 64 : ℝ) : EReal) := by
  rw [word_64, Ideal.div_coe (by norm_num), ← EReal.coe_mul]; congr 1; ring

theorem mean_host (f : Fin 64 → ℝ) : Ideal.div (∑ x, ((f x : ℝ) : EReal)) (Ideal.ofBits .f32 0x42800000#32) = (((∑ x, f x) / 64 : ℝ) : EReal) := by
  rw [← coe_sum, div_64]

include hP in
theorem v19 (o : Fin 1) (r : Fin 2048) (q : Fin 384) : res_main_v19 V0 (ix3 o r q) = ((gel (U P r.val q.val) : ℝ) : EReal) := by
  pointwise [res_main_v19]
  rw [v18 V0 P hP]

include hP in
theorem v21 (o : Fin 1) (r : Fin 2048) (h : Fin 6) (d : Fin 64) : res_main_v21 V0 (ix4 o r h d) = ((gelA (Vh P) r.val (64 * h.val + d.val) : ℝ) : EReal) := by
  pointwise [res_main_v21]
  rw [v18 V0 P hP]
  exact congrArg (fun k => ((gel (P r.val k) : ℝ) : EReal)) (show 1408 + (384 + (h.val * 64 + d.val)) = 1792 + (64 * h.val + d.val) by omega)

include hP in
theorem v25 (o : Fin 1) (r : Fin 2048) (h : Fin 6) (d : Fin 1) : res_main_v25 V0 (ix4 o r h d) = (((∑ d : Fin 64, gelA (Vh P) r.val (64 * h.val + d.val)) / 64 : ℝ) : EReal) := by
  pointwise [res_main_v25]
  simp only [v21 V0 P hP]
  exact mean_host _

include hP in
theorem v27 (o : Fin 1) (r : Fin 2048) (h : Fin 6) (d : Fin 64) : res_main_v27 V0 (ix4 o r h d) = ((cen (gelA (Vh P)) r.val (64 * h.val + d.val) : ℝ) : EReal) := by
  pointwise [res_main_v27]
  rw [v21 V0 P hP, v25 V0 P hP, ← EReal.coe_sub, ← hm_head (gelA (Vh P)) r.val h.val d]; rfl

include hP in
theorem v36 (o : Fin 1) (r : Fin 2048) (h : Fin 6) (d : Fin 64) : res_main_v36 V0 (ix4 o r h d) = ((cen (gelA (Vh P)) r.val (64 * h.val + d.val) : ℝ) : EReal) :=
  v27 V0 P hP o r h d

include hP in
theorem v38 (o : Fin 1) (r : Fin 2048) (h : Fin 6) (e : Fin 1) : res_main_v38 V0 (ix4 o r h e) = ((vare (gelA (Vh P)) r.val (64 * h.val) : ℝ) : EReal) := by
  pointwise [res_main_v38]
  simp only [v27 V0 P hP, ← EReal.coe_mul]
  rw [mean_host, word_eps, ← EReal.coe_add]
  exact congrArg (fun x => ((x + eps : ℝ) : EReal)) (hm_head (fun r q => cen (gelA (Vh P)) r q * cen (gelA (Vh P)) r q) r.val h.val 0).symm

include hP in
theorem v39 (o : Fin 1) (r : Fin 2048) (h : Fin 6) (e : Fin 1) : res_main_v39 V0 (ix4 o r h e) = ((rstd (gelA (Vh P)) r.val (64 * h.val) : ℝ) : EReal) := by
  pointwise [res_main_v39]
  rw [v38 V0 P hP]
  exact rsqrt_vare _ _ _

include hP in
theorem v44 (o : Fin 1) (r : Fin 2048) (h : Fin 6) (d : Fin 64) : res_main_v44 V0 (ix4 o r h d) = ((vn (Vh P) r.val (64 * h.val + d.val) : ℝ) : EReal) := by
  pointwise [res_main_v44]
  rw [v36 V0 P hP, v39 V0 P hP, ← EReal.coe_mul, ← rstd_head (gelA (Vh P)) r.val h.val d]; rfl

include hg in
theorem v46 (o o' : Fin 1) (h : Fin 6) (d : Fin 64) : res_main_v46 V0 (ix4 o o' h d) = ((g (64 * h.val + d.val) : ℝ) : EReal) := by
  pointwise [res_main_v46]
  rw [hg]
  exact congrArg (fun k => ((g k : ℝ) : EReal)) (show h.val * 64 + d.val = 64 * h.val + d.val by omega)

include hP hg in
theorem v49 (o : Fin 1) (n : Fin 16) (s : Fin 128) (h : Fin 6) (d : Fin 64) :
    res_main_v49 V0 (ix5 o n s h d) = ((vg (Vh P) g (128 * n.val + s.val) (64 * h.val + d.val) : ℝ) : EReal) := by
  pointwise [res_main_v49]
  rw [v44 V0 P hP, v46 V0 g hg, ← EReal.coe_mul]
  exact congrArg (fun k => ((vg (Vh P) g k (64 * h.val + d.val) : ℝ) : EReal)) (show n.val * 128 + s.val = 128 * n.val + s.val by omega)

theorem v52 (o : Fin 1) (n : Fin 128) (s : Fin 128) : res_main_v52 V0 (ix3 o n s) = (if n.val < s.val then 0 else 1 : EReal) := by
  pointwise [res_main_v52]
  rw [show IntOp.addi (BitVec.ofNat 32 n.val) 0#32 = BitVec.ofNat 32 n.val from BitVec.add_zero _, Cert.Rows.select_ge n.val s.val (by omega) (by omega)]

include hw in
theorem v54 (h : Fin 6) (t s : Fin 128) : res_main_v54 V0 (ix3 h t s) = ((tri w h.val t.val s.val : ℝ) : EReal) := by
  pointwise [res_main_v54]
  rw [hw, v52]
  unfold tri
  split <;> simp

include hP hg hw hb in
theorem v61 (o : Fin 1) (r : Fin 2048) (q : Fin 384) : res_main_v61 V0 (ix3 o r q) = ((mixed (Vh P) g w b r.val q.val : ℝ) : EReal) := by
  pointwise [res_main_v61]
  simp only [v49 V0 P g hP hg, v54 V0 w hw, hb, ← EReal.coe_mul, ← coe_sum, ← EReal.coe_add]
  refine congrArg (fun x => ((x + b (q.val / 64) (r.val % 128) : ℝ) : EReal)) (Finset.sum_congr rfl fun s _ => ?_)
  rw [mul_comm, show 64 * (q.val / 64) + q.val % 64 = q.val by omega]

include hD in
theorem v64 (o : Fin 1) (r : Fin 2048) (q : Fin 384) : res_main_v64 V0 (ix3 o r q) = ((Dy D r.val q.val : ℝ) : EReal) := by
  pointwise [res_main_v64]
  exact hD r ⟨640 + q.val, by omega⟩

include hP hD in
theorem v67 (o : Fin 1) (n : Fin 16) (s : Fin 128) (h : Fin 6) (d : Fin 64) :
    res_main_v67 V0 (ix5 o n s h d) = ((dm (U P) (Dy D) (128 * n.val + s.val) (64 * h.val + d.val) : ℝ) : EReal) := by
  pointwise [res_main_v67]
  rw [v19 V0 P hP, v64 V0 D hD, ← EReal.coe_mul, mul_comm]
  exact congrArg₂ (fun k l => ((dm (U P) (Dy D) k l : ℝ) : EReal)) (show n.val * 128 + s.val = 128 * n.val + s.val by omega)
    (show h.val * 64 + d.val = 64 * h.val + d.val by omega)

include hP hD hw in
theorem v78 (o : Fin 1) (r : Fin 2048) (h : Fin 6) (d : Fin 64) :
    res_main_v78 V0 (ix4 o r h d) = ((back (U P) (Dy D) w r.val (64 * h.val + d.val) : ℝ) : EReal) := by
  pointwise [res_main_v78, res_main_v72]
  simp only [v67 V0 P D hP hD, v54 V0 w hw, ← EReal.coe_mul, ← coe_sum]
  refine congrArg (fun x : ℝ => (x : EReal)) (Finset.sum_congr rfl fun s _ => ?_)
  rw [mul_comm, show (64 * h.val + d.val) / 64 = h.val by omega]

include hP hD hw hg in
theorem v83 (o : Fin 1) (r : Fin 2048) (h : Fin 6) (d : Fin 64) :
    res_main_v83 V0 (ix4 o r h d) = ((ct (U P) (Dy D) g w r.val (64 * h.val + d.val) : ℝ) : EReal) := by
  pointwise [res_main_v83]
  rw [v78 V0 P D w hP hD hw, v46 V0 g hg, ← EReal.coe_mul]; rfl

include hP hD hw hg in
theorem v90 (o : Fin 1) (r : Fin 2048) (h : Fin 6) (d : Fin 64) :
    res_main_v90 V0 (ix4 o r h d) = ((ct (U P) (Dy D) g w r.val (64 * h.val + d.val) * rstd (gelA (Vh P)) r.val (64 * h.val) : ℝ) : EReal) := by
  pointwise [res_main_v90]
  rw [v83 V0 P D g w hP hD hg hw, v39 V0 P hP, ← EReal.coe_mul]

include hP hD hw hg in
theorem v100 (o : Fin 1) (r : Fin 2048) (h : Fin 6) (d : Fin 64) :
    res_main_v100 V0 (ix4 o r h d)
      = (((∑ j : Fin 64, cen (gelA (Vh P)) r.val (64 * h.val + j.val) * ct (U P) (Dy D) g w r.val (64 * h.val + j.val))
          * (-1 / 2 * (rstd (gelA (Vh P)) r.val (64 * h.val) / vare (gelA (Vh P)) r.val (64 * h.val))) / 64
          * (2 * cen (gelA (Vh P)) r.val (64 * h.val + d.val)) : ℝ) : EReal) := by
  pointwise [res_main_v100]
  rw [sum_ends]
  pointwise
  simp only [v36 V0 P hP, v83 V0 P D g w hP hD hg hw, v27 V0 P hP, v39 V0 P hP, v38 V0 P hP, word_two, word_neg_half, ← EReal.coe_mul, ← coe_sum]
  rw [Ideal.div_coe (vare_pos _ _ _).ne', ← EReal.coe_mul, ← EReal.coe_mul, ← EReal.coe_mul, div_64, ← EReal.coe_mul]
  congr 1; ring

include hP hD hw hg in
theorem v115_hi (o : Fin 1) (r : Fin 2048) (q : Fin 384) :
    res_main_v115 V0 (ix3 o r ⟨384 + q.val, by omega⟩) = ((dnorm (U P) (Vh P) (Dy D) g w r.val q.val : ℝ) : EReal) := by
  pointwise [res_main_v115]
  rw [sum_ends, dif_neg (fun h => by
    have e : (384 + q.val - 0) / (0 + 1) < 384 := (h (show Fin 3 from 2)).2.2
    omega)]
  pointwise
  simp only [v90 V0 P D g w hP hD hg hw, v100 V0 P D g w hP hD hg hw, ← EReal.coe_neg, ← coe_sum, ← EReal.coe_add]
  rw [div_64, ← EReal.coe_add]
  refine congrArg (fun x : ℝ => (x : EReal)) ((norm_back 64 (fun d : Fin 64 => cen (gelA (Vh P)) r.val (64 * (q.val / 64) + d.val))
    (fun d : Fin 64 => ct (U P) (Dy D) g w r.val (64 * (q.val / 64) + d.val)) (sum_cen _ _ _) (rstd (gelA (Vh P)) r.val (64 * (q.val / 64)))
    (vare (gelA (Vh P)) r.val (64 * (q.val / 64))) (vare_pos _ _ _).ne' (rstd_sq _ _ _) ⟨q.val % 64, by omega⟩).trans ?_)
  unfold dnorm vn hm
  have e : 64 * (q.val / 64) + q.val % 64 = q.val := by omega
  have hr := fun d : Fin 64 => rstd_head (gelA (Vh P)) r.val (q.val / 64) d
  have hq := hr ⟨q.val % 64, by omega⟩
  simp only [e] at hq ⊢
  simp only [hr, hq]

include hP hD hw hg hb in
theorem v115_lo (o : Fin 1) (r : Fin 2048) (q : Fin 384) :
    res_main_v115 V0 (ix3 o r ⟨q.val, by omega⟩) = ((Dy D r.val q.val * mixed (Vh P) g w b r.val q.val : ℝ) : EReal) := by
  pointwise [res_main_v115]
  rw [dif_neg (fun h => h.1), dif_pos (fun a => by
    match (show Fin 3 from a) with
    | ⟨0, _⟩ => exact ⟨Nat.zero_le _, Nat.mod_one _, by show (o.val - 0) / (0 + 1) < 1; omega⟩
    | ⟨1, _⟩ => exact ⟨Nat.zero_le _, Nat.mod_one _, by show (r.val - 0) / (0 + 1) < 2048; omega⟩
    | ⟨2, _⟩ => exact ⟨Nat.zero_le _, Nat.mod_one _, by show (q.val - 0) / (0 + 1) < 384; omega⟩)]
  rw [v64 V0 D hD, v61 V0 P g w b hP hg hw hb, ← EReal.coe_mul, zero_add]

include hP in
theorem v124 (c : ℝ) (o : Fin 1) (r : Fin 2048) (q : Fin 768) (hc : res_main_v115 V0 (ix3 o r q) = (c : EReal)) :
    res_main_v124 V0 (ix3 o r q) = ((c * dgel (U P r.val q.val) : ℝ) : EReal) := by
  pointwise [res_main_v124]
  rw [v7 V0 P hP, v3 V0 P hP, v5 V0, v11 V0 P hP, hc, slope, word_half]
  simp only [← EReal.coe_neg, ← EReal.coe_mul, Ideal.exp_coe, ← EReal.coe_add]
  exact congrArg (fun x : ℝ => (x : EReal)) (dgel_host _ _)

include hP hD hw hg hb in
/-- The gradient of the first half. -/
theorem du_ref (r : Fin 2048) (q : Fin 384) :
    res_main_v124 V0 (ix3 0 r ⟨q.val, by omega⟩) = ((du (U P) (Vh P) (Dy D) g w b r.val q.val : ℝ) : EReal) :=
  v124 V0 P hP _ 0 r ⟨q.val, by omega⟩ (v115_lo V0 P D g w b hP hD hg hw hb 0 r q)

include hP hD hw hg in
/-- The gradient of the second half. -/
theorem dv_ref (r : Fin 2048) (q : Fin 384) :
    res_main_v124 V0 (ix3 0 r ⟨384 + q.val, by omega⟩) = ((dv (U P) (Vh P) (Dy D) g w r.val q.val : ℝ) : EReal) :=
  (v124 V0 P hP _ 0 r ⟨384 + q.val, by omega⟩ (v115_hi V0 P D g w hP hD hg hw 0 r q)).trans
    (congrArg (fun k => ((dnorm (U P) (Vh P) (Dy D) g w r.val q.val * dgel (P r.val k) : ℝ) : EReal)) (show 1408 + (384 + q.val) = 1792 + q.val by omega))

theorem sum_rows (f : ℕ → ℝ) : ∑ r : Fin 2048, f r.val = ∑ n : Fin 16, ∑ t : Fin 128, f (128 * n.val + t.val) := by
  rw [← Fintype.sum_prod_type (f := fun p : Fin 16 × Fin 128 => f (128 * p.1.val + p.2.val))]
  symm
  refine Fintype.sum_equiv (finProdFinEquiv (m := 16) (n := 128)) _ _ fun p => ?_
  rw [show (finProdFinEquiv p : Fin (16 * 128)).val = p.2.val + 128 * p.1.val from rfl, add_comm]

include hP hD hw in
/-- The gradient of the gain. -/
theorem dg_ref (o : Fin 1) (q : Fin 384) :
    broadcastInDim S1x384 ![1] bcast_S384_S1x384_1 (shapeCast S384 (Host.reduceAdd (shapeCast S1x1x6x64 (Host.reduceAdd (mulf (res_main_v44 V0) (res_main_v78 V0)) (constant S_ .f32 0x00000000#32) reducesTo_S1x2048x6x64_S1x6x64_d1 h_S_) shapeCasts_S1x6x64_S1x1x6x64) (constant S_ .f32 0x00000000#32) reducesTo_S1x1x6x64_S6x64_d0_1 h_S_) shapeCasts_S6x64_S384) (ix2 o q)
      = ((dg (U P) (Vh P) (Dy D) w q.val : ℝ) : EReal) := by
  pointwise
  rw [sum_front]
  pointwise
  simp only [v44 V0 P hP, v78 V0 P D w hP hD hw, ← EReal.coe_mul, ← coe_sum]
  refine congrArg (fun x : ℝ => (x : EReal)) ((sum_rows fun r => vn (Vh P) r (64 * (q.val / 64) + q.val % 64) * back (U P) (Dy D) w r (64 * (q.val / 64) + q.val % 64)).trans ?_)
  rw [show 64 * (q.val / 64) + q.val % 64 = q.val by omega]
  exact Finset.sum_congr rfl fun n _ => Finset.sum_congr rfl fun t _ => mul_comm _ _

include hP hD hg in
/-- The gradient of the mixing matrices. -/
theorem dw_ref (h : Fin 6) (t s : Fin 128) :
    mulf (Host.dotGeneral (φ₁ := .f32) (φ₂ := .f32) dot_S6x1x16x64x128_S1x16x128x6x64_S6x128x128_123_014_4_2_0_3 none (res_main_v72 V0) (res_main_v49 V0)) (broadcastInDim S6x128x128 ![0, 1, 2] bcast_S1x128x128_S6x128x128_0_1_2 (res_main_v52 V0)) (ix3 h t s)
      = ((dw (U P) (Vh P) (Dy D) g h.val t.val s.val : ℝ) : EReal) := by
  refine Eq.trans (congrArg₂ (fun a b : EReal => a * b) (dot_chunks (res_main_v72 V0) (res_main_v49 V0) h t s) rfl) ?_
  pointwise [res_main_v72]
  simp only [v67 V0 P D hP hD, v49 V0 P g hP hg, v52, ← EReal.coe_mul, ← coe_sum]
  unfold dw
  split <;> simp

include hP hD in
/-- The gradient of the biases. -/
theorem db_ref (h : Fin 6) (t : Fin 128) (o : Fin 1) :
    broadcastInDim S6x128x1 ![0, 1] bcast_S6x128_S6x128x1_0_1 (transpose S6x128 [1, 0] (Host.reduceAdd (shapeCast S1x1x128x6x1 (Host.reduceAdd (res_main_v67 V0) (constant S_ .f32 0x00000000#32) reducesTo_S1x16x128x6x64_S1x128x6_d1_4 h_S_) shapeCasts_S1x128x6_S1x1x128x6x1) (constant S_ .f32 0x00000000#32) reducesTo_S1x1x128x6x1_S128x6_d0_1_4 h_S_) transposes_S128x6_S6x128_1_0) (ix3 h t o)
      = ((db (U P) (Dy D) h.val t.val : ℝ) : EReal) := by
  pointwise
  rw [sum_three]
  pointwise
  rw [sum_chunks]
  simp only [v67 V0 P D hP hD, ← coe_sum]
  rfl

end Cert.SguRef
end
-- ==== Proof.SguPair.lean ====
/- The claims about the gradients of the spatial gating unit: the frames of its programs and the value claim. -/
module

public import proofs.«01_k».proof.Defs
public import proofs.«01_k».proof.Proof.SguValue
public import proofs.«01_k».proof.Proof.SguRef
public import proofs.«01_k».proof.Proof.Finite
public import Idealize.ShloMosaic.Lib.Claim

@[expose] public section

set_option maxRecDepth 16384
set_option maxHeartbeats 1000000

noncomputable section

open Idealize.ShloMosaic Idealize.ShloMosaic.TcCoe Idealize.SL.Sem

namespace Cert.SguPair

/-- The precondition's shapes fit. -/
instance facts_finite : Cert.Pre_sgu_finite.Facts := ⟨by decide, by decide, by decide, by decide, by decide⟩

/-- The kernel runs, leaves its arguments as they were and ends with every counter at zero. -/
theorem frame : Cert.quiescent_SguGrad := Cert.Sgu.frame
theorem frame_ideal : Cert.quiescent_SguGradIdeal := fun m ρ _ => Cert.Sgu.frame_any m ρ
theorem frame_finite : Cert.quiescent_SguGradIdeal_pre_sgu_finite := fun m ρ _ => Cert.Sgu.frame_any m ρ

/-- So does the reference, which has no counter. -/
theorem frame_ref : Cert.quiescent_SguGradRefIdeal :=
  fun m g _ => (θ_run _ _ _).mono
    (fun r h => ⟨fun c => (h c).2.2.2.2.2, sem_eq_zero_of_no_sems (sig := Cert.SguGradRefIdeal.sig) (by decide) r.2⟩)
    (Cert.SguGradRefIdeal.Value.run m g)

theorem frame_ref_finite : Cert.quiescent_SguGradRefIdeal_pre_sgu_finite := fun m g _ => frame_ref m g trivial

/-- The named constants' words are the nearest ones to the numbers that they name. -/
theorem preserves : Cert.preserves_SguGrad_SguGradIdeal :=
  ⟨IdealRules.named_const.statement Cert.SguGradIdeal.κ "rsqrt2" .f32 0x3F3504F3#32 (((Real.sqrt 2)⁻¹ : ℝ) : EReal) rfl,
   IdealRules.named_const.statement Cert.SguGradIdeal.κ "rsqrt2pi" .f32 0x3ECC422A#32 (((Real.sqrt (2 * Real.pi))⁻¹ : ℝ) : EReal) rfl⟩

section results
open Cert.SguGradRefIdeal Cert.SguGradRefIdeal.Gen Cert.SguGradRefIdeal.Value
variable (V0 : Valuation τ sig (Elt Ideal)) (P D : ℕ → ℕ → ℝ) (g : ℕ → ℝ) (w : ℕ → ℕ → ℕ → ℝ) (b : ℕ → ℕ → ℝ)
  (hP : ∀ (r : Fin 2048) (q : Fin 2176), V0 (Proc.devRef .tc main_arg0) (ix2 r q) = ((P r.val q.val : ℝ) : EReal))
  (hD : ∀ (r : Fin 2048) (q : Fin 1024), V0 (Proc.devRef .tc main_arg1) (ix2 r q) = ((D r.val q.val : ℝ) : EReal))
  (hg : ∀ q : Fin 384, V0 (Proc.devRef .tc main_arg2) (ix1 q) = ((g q.val : ℝ) : EReal))
  (hw : ∀ (h : Fin 6) (r s : Fin 128), V0 (Proc.devRef .tc main_arg3) (ix3 h r s) = ((w h.val r.val s.val : ℝ) : EReal))
  (hb : ∀ (h : Fin 6) (r : Fin 128), V0 (Proc.devRef .tc main_arg4) (ix2 h r) = ((b h.val r.val : ℝ) : EReal))

include hP hD hg hw hb in
/-- The reference's first result. -/
theorem du_eq : truncf .bf16 (shapeCast S2048x384 (extractStridedSlice S1x2048x384 ![0, 0, 0] (res_main_v124 V0) slices_S1x2048x768_S1x2048x384_0_0_0) shapeCasts_S1x2048x384_S2048x384) bitsLt_bf16_f32
    = Cert.Sgu.duA P D g w b := by
  funext y; idx_vars y
  rw [Cert.Sgu.duA_at]
  refine Eq.trans ?_ (Cert.SguRef.du_ref V0 P D g w b hP hD hg hw hb y0 y1)
  pointwise

include hP hD hg hw in
/-- The reference's second result. -/
theorem dv_eq : truncf .bf16 (shapeCast S2048x384 (extractStridedSlice S1x2048x384 ![0, 0, 384] (res_main_v124 V0) slices_S1x2048x768_S1x2048x384_0_0_384) shapeCasts_S1x2048x384_S2048x384) bitsLt_bf16_f32
    = Cert.Sgu.dvA P D g w := by
  funext y; idx_vars y
  rw [Cert.Sgu.dvA_at]
  refine Eq.trans ?_ (Cert.SguRef.dv_ref V0 P D g w hP hD hg hw y0 y1)
  pointwise
end results

/-- Over the reals, on finite arguments, the kernel computes what the reference does. -/
theorem algebraic : Cert.algebraic_SguGradIdeal_SguGradRefIdeal_pre_sgu_finite := by
  pair_intro
  · run_from Cert.Sgu.run m g
  · refine (θ_run _ _ _).mono (fun r h c => ?_) (Cert.SguGradRefIdeal.Value.run m' g')
    have hf := hpre c
    obtain ⟨p, hp⟩ := Finite.real_of_pre _ _ hf.1
    obtain ⟨d, hd⟩ := Finite.real_of_pre _ _ hf.2.1
    obtain ⟨g0, hg⟩ := Finite.real_of_pre _ _ hf.2.2.1
    obtain ⟨w, hw⟩ := Finite.real_of_pre _ _ hf.2.2.2.1
    obtain ⟨b, hb⟩ := Finite.real_of_pre _ _ hf.2.2.2.2
    have kP : ∀ r q, m ((c : Thread Cert.SguGradIdeal.nD Cert.SguGradIdeal.τ).loc Cert.SguGradIdeal.main_arg0) (ix2 r q) = ((Finite.nat2 p r.val q.val : ℝ) : EReal) :=
      fun r q => (hp _).trans (congrArg _ (Finite.nat2_at p r q).symm)
    have kD : ∀ r q, m ((c : Thread Cert.SguGradIdeal.nD Cert.SguGradIdeal.τ).loc Cert.SguGradIdeal.main_arg1) (ix2 r q) = ((Finite.nat2 d r.val q.val : ℝ) : EReal) :=
      fun r q => (hd _).trans (congrArg _ (Finite.nat2_at d r q).symm)
    have kg : ∀ q, m ((c : Thread Cert.SguGradIdeal.nD Cert.SguGradIdeal.τ).loc Cert.SguGradIdeal.main_arg2) (ix1 q) = ((Finite.nat1 g0 q.val : ℝ) : EReal) :=
      fun q => (hg _).trans (congrArg _ (Finite.nat1_at g0 q).symm)
    have kw : ∀ a r q, m ((c : Thread Cert.SguGradIdeal.nD Cert.SguGradIdeal.τ).loc Cert.SguGradIdeal.main_arg3) (ix3 a r q) = ((Finite.nat3 w a.val r.val q.val : ℝ) : EReal) :=
      fun a r q => (hw _).trans (congrArg _ (Finite.nat3_at w a r q).symm)
    have kb : ∀ r q, m ((c : Thread Cert.SguGradIdeal.nD Cert.SguGradIdeal.τ).loc Cert.SguGradIdeal.main_arg4) (ix2 r q) = ((Finite.nat2 b r.val q.val : ℝ) : EReal) :=
      fun r q => (hb _).trans (congrArg _ (Finite.nat2_at b r q).symm)
    have ha := hagree c
    have rP := fun r q => (congrFun ha.1 (ix2 r q)).trans (kP r q)
    have rD := fun r q => (congrFun ha.2.1 (ix2 r q)).trans (kD r q)
    have rg := fun q => (congrFun ha.2.2.1 (ix1 q)).trans (kg q)
    have rw' := fun a r q => (congrFun ha.2.2.2.1 (ix3 a r q)).trans (kw a r q)
    have rb := fun r q => (congrFun ha.2.2.2.2 (ix2 r q)).trans (kb r q)
    refine ⟨(h c).1.trans ?_, (h c).2.1.trans ?_, (h c).2.2.1.trans ?_, (h c).2.2.2.1.trans ?_, (h c).2.2.2.2.1.trans ?_, (h c).2.2.2.2.2⟩
    · rw [Cert.Sgu.du_final m c _ _ _ _ _ kP kD kg kw kb]; exact du_eq (StableHlo.launchContents m' c) _ _ _ _ _ rP rD rg rw' rb
    · rw [Cert.Sgu.dv_final m c _ _ _ _ kP kD kg kw]; exact dv_eq (StableHlo.launchContents m' c) _ _ _ _ rP rD rg rw'
    · rw [Cert.Sgu.dg_final m c _ _ _ kP kD kw]; funext y; idx_vars y; exact Cert.SguRef.dg_ref (StableHlo.launchContents m' c) _ _ _ rP rD rw' y0 y1
    · rw [Cert.Sgu.dw_final m c _ _ _ kP kD kg]; funext y; idx_vars y; exact Cert.SguRef.dw_ref (StableHlo.launchContents m' c) _ _ _ rP rD rg y0 y1 y2
    · rw [Cert.Sgu.db_final m c _ _ kP kD]; funext y; idx_vars y; exact Cert.SguRef.db_ref (StableHlo.launchContents m' c) _ _ rP rD y0 y1 y2

end Cert.SguPair
end
-- ==== Proof.MlpRun.lean ====
/- One run of the gradient kernel of the gated feed-forward layer and its two norms, over any reading of the
   floats: what a grid point computes from its blocks, and that the body leaves exactly that. -/
module

public import proofs.«01_k».proof.Proof.Gen.MlpGradIdeal.Frame.Runs
public import Idealize.ShloMosaic.Lib.Exec
public import Idealize.ShloMosaic.Lib.Tactic
public import Idealize.ShloMosaic.Lib.Pipeline.Kit
public import Idealize.ShloMosaic.Lib.VecWindow
public import Idealize.ShloMosaic.Lib.Pipeline.ValueKit

@[expose] public section

set_option maxRecDepth 16384
set_option maxHeartbeats 4000000

noncomputable section

namespace Cert.Mlp

open Cert.MlpGradIdeal Cert.MlpGradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow (window put)

variable {F : FTy → Type} [FloatOps F]

local notation "𝕄" => MT nD τ sig Unit (Elt F) ℕ (UR sig nD τ) ℕ

/-! ## What a grid point gives, from its blocks

`x0` is the cotangent, `x1` and `x2` the second norm's normalised rows and reciprocal deviations, `x3` its gain,
`x4` the gate and up columns, `x5`, `x6` the two matrices of the layer, `x7`, `x8`, `x9` the first norm's, `x10`
the output projection. -/

section point
variable (x0 x1 : Vec F S256x1024 .f32) (x2 : Vec F S256x1 .f32) (x3 : Vec F S1x1024 .f32) (x4 : Vec F S256x5632 .f32) (x5 : Vec F S1024x5632 .bf16)
  (x6 : Vec F S2816x1024 .bf16) (x7 : Vec F S256x1024 .f32) (x8 : Vec F S256x1 .f32) (x9 : Vec F S1x1024 .f32) (x10 : Vec F S1024x1024 .bf16)

/-- Two halves side by side. -/
def halves {α : Type} (a b : S256x2816.Idx → α) : S256x5632.Idx → α := fun y =>
  if h : (y 1).val < 2816 then a (ix2 (y 0) ⟨(y 1).val, h⟩)
  else b (ix2 (y 0) ⟨(y 1).val - 2816, by have h1 : (y 1).val < 5632 := (y 1).isLt; omega⟩)

/-- The gate's columns. -/
def gate : Vec F S256x2816 .f32 := window x4 ![0, 0] S256x2816.size inb_S256x5632_S256x2816_0_0
/-- The up columns. -/
def up : Vec F S256x2816 .f32 := window x4 ![0, 2816] S256x2816.size inb_S256x5632_S256x2816_0_2816
/-- The width as a float. -/
def width : F .f32 := Scalar.ofBits .f32 0x44800000#32

/-- The second norm's cotangent. -/
def out11 : FVec F S256x1024 .bf16 := k0_pay16 (k0_pay8 x1) (k0_pay11 x0 x3) (k0_pay12 x2) (k0_pay13 x0 x3) (k0_pay14 x0 x1 x3) width
/-- The activation. -/
def out12 : FVec F S256x2816 .bf16 := k0_pay22 (gate x4) (up x4)
/-- The gate's gradient. -/
def dgateC : FVec F S256x2816 .bf16 :=
  k0_pay23 (k0_pay8 x1) (k0_pay11 x0 x3) (k0_pay12 x2) (k0_pay13 x0 x3) (k0_pay14 x0 x1 x3) width x6 (gate x4) (up x4)
/-- The up columns' gradient. -/
def dupC : FVec F S256x2816 .bf16 :=
  k0_pay24 (k0_pay8 x1) (k0_pay11 x0 x3) (k0_pay12 x2) (k0_pay13 x0 x3) (k0_pay14 x0 x1 x3) width x6 (gate x4)
/-- Both, side by side. -/
def out13 : FVec F S256x5632 .bf16 := halves (dgateC x0 x1 x2 x3 x4 x6) (dupC x0 x1 x2 x3 x4 x6)
/-- The second norm's cotangent along the residual. -/
def resC : FVec F S256x1024 .f32 := k0_pay25 (k0_pay8 x1) (k0_pay11 x0 x3) (k0_pay12 x2) (k0_pay13 x0 x3) (k0_pay14 x0 x1 x3) width
/-- The first norm's cotangent. -/
def out14 : FVec F S256x1024 .f32 :=
  k0_pay1 (k0_pay27 x7) (k0_pay30 (resC x0 x1 x2 x3) (out13 x0 x1 x2 x3 x4 x6) x5 x9) (k0_pay31 x8)
    (k0_pay32 (resC x0 x1 x2 x3) (out13 x0 x1 x2 x3 x4 x6) x5 x9) (k0_pay33 (resC x0 x1 x2 x3) (out13 x0 x1 x2 x3 x4 x6) x5 x7 x9)
/-- The same in half words. -/
def out15 : FVec F S256x1024 .bf16 :=
  k0_pay2 (k0_pay27 x7) (k0_pay30 (resC x0 x1 x2 x3) (out13 x0 x1 x2 x3 x4 x6) x5 x9) (k0_pay31 x8)
    (k0_pay32 (resC x0 x1 x2 x3) (out13 x0 x1 x2 x3 x4 x6) x5 x9) (k0_pay33 (resC x0 x1 x2 x3) (out13 x0 x1 x2 x3 x4 x6) x5 x7 x9)
/-- The cotangent of the mixer's output. -/
def out16 : FVec F S256x1024 .f32 :=
  k0_pay3 (k0_pay27 x7) (k0_pay30 (resC x0 x1 x2 x3) (out13 x0 x1 x2 x3 x4 x6) x5 x9) (k0_pay31 x8)
    (k0_pay32 (resC x0 x1 x2 x3) (out13 x0 x1 x2 x3 x4 x6) x5 x9) (k0_pay33 (resC x0 x1 x2 x3) (out13 x0 x1 x2 x3 x4 x6) x5 x7 x9) x10
/-- The second gain's gradient after the point, from the one before it. -/
def gg2C (p : Vec F S1x1024 .f32) : Vec F S1x1024 .f32 := k0_pay9 x0 x1 p
/-- The second shift's. -/
def gb2C (p : Vec F S1x1024 .f32) : Vec F S1x1024 .f32 := k0_pay10 x0 p
/-- The first gain's. -/
def gg1C (p : Vec F S1x1024 .f32) : Vec F S1x1024 .f32 := k0_pay28 (resC x0 x1 x2 x3) (out13 x0 x1 x2 x3 x4 x6) x5 x7 p
/-- The first shift's. -/
def gb1C (p : Vec F S1x1024 .f32) : Vec F S1x1024 .f32 := k0_pay29 (resC x0 x1 x2 x3) (out13 x0 x1 x2 x3 x4 x6) x5 p

end point

open Classical in
/-- Where a running sum begins at a point: zero at the first, else what it held. -/
def start (i : grid0.Coords) (p : Vec F S1x1024 .f32) : Vec F S1x1024 .f32 := if cond0_0 i then k0_pay4 else p

/-- Two stores of halves leave the halves. -/
theorem put_halves {α : Type} (z : S256x5632.Idx → α) (a b : S256x2816.Idx → α) :
    put (put z ![0, 0] S256x2816.size a) ![0, 2816] S256x2816.size b = halves a b := by
  funext y
  have h0 : (y 0).val < 256 := (y 0).isLt
  have h1 : (y 1).val < 5632 := (y 1).isLt
  unfold halves
  by_cases h : (y 1).val < 2816
  · rw [dif_pos h]
    refine (dif_neg fun hall => ?_).trans ((dif_pos ?_).trans (congrArg a (funext fun d => ?_)))
    · have e : 2816 ≤ (y 1).val ∧ (y 1).val < 2816 + 2816 := hall 1
      omega
    · intro d
      match d with
      | ⟨0, _⟩ => show 0 ≤ (y 0).val ∧ (y 0).val < 0 + 256; omega
      | ⟨1, _⟩ => show 0 ≤ (y 1).val ∧ (y 1).val < 0 + 2816; omega
    · match d with
      | ⟨0, _⟩ => rfl
      | ⟨1, _⟩ => rfl
  · rw [dif_neg h]
    refine (dif_pos ?_).trans (congrArg b (funext fun d => ?_))
    · intro d
      match d with
      | ⟨0, _⟩ => show 0 ≤ (y 0).val ∧ (y 0).val < 0 + 256; omega
      | ⟨1, _⟩ => show 2816 ≤ (y 1).val ∧ (y 1).val < 2816 + 2816; omega
    · match d with
      | ⟨0, _⟩ => rfl
      | ⟨1, _⟩ => rfl

/-- The whole read after two stores of halves. -/
theorem read_halves {e : EltTy} (v : View sig .tc .vmem S256x5632 e) (f) (a b : S256x2816.Idx → Elt F e) (L) :
    v.read (Elt F) (v.writes (Elt F) f (⟨Rect.unit ![0, 2816] S256x2816.size inb_S256x5632_S256x2816_0_2816, b⟩
      :: ⟨Rect.unit ![0, 0] S256x2816.size inb_S256x5632_S256x2816_0_0, a⟩ :: L)) = halves a b := by
  rw [View.read_writes_cons_put v f _ _ _ rfl, View.read_writes_cons_put v f _ _ _ rfl]
  exact put_halves _ a b

/-- A load of the whole after two stores of halves. -/
theorem cov_halves {e : EltTy} (v : View sig .tc .vmem S256x5632 e) (a b : S256x2816.Idx → Elt F e) :
    v.readCov (Val := Elt F) [⟨Rect.unit ![0, 2816] S256x2816.size inb_S256x5632_S256x2816_0_2816, b⟩, ⟨Rect.unit ![0, 0] S256x2816.size inb_S256x5632_S256x2816_0_0, a⟩]
      (Rect.unit ![0, 0] S256x5632.size inb_S256x5632_S256x5632_0_0).toLoadRect = halves a b :=
  (View.readAt_full v _ _).trans (read_halves v _ a b [])

/-- A load of a window of a buffer that reads `x` is that window of `x`. -/
theorem load_window {s : Shape} {e : EltTy} {a : Memref sig .tc .vmem s e} (ha : a.IsWhole) (x : Vec F s e) (o size : Fin s.rank → ℕ) (inb) :
    View.readAt (Elt F) a.view (Rect.unit (s := s) o size inb).toLoadRect (ha.unread x) = window x o size inb :=
  (View.readAt_unit a.view _ _ rfl inb).trans (by rw [ha.read_unread])

/-- A load of a whole buffer that reads `x` is `x`. -/
theorem load_whole {s : Shape} {e : EltTy} {a : Memref sig .tc .vmem s e} (ha : a.IsWhole) (x : Vec F s e) (o : Fin s.rank → ℕ) (inb) :
    View.readAt (Elt F) a.view (Rect.unit (s := s) o s.size inb).toLoadRect (ha.unread x) = x :=
  (View.readAt_full a.view (ha.unread x) inb).trans (by rw [ha.read_unread])

/-- The body at a grid point: from the blocks of its inputs and the running sums it leaves the values above, and the inputs as they were. -/
theorem body_run (c : Dev nD) (i : grid0.Coords)
    (arg1 : Memref sig .tc .vmem S256x1024 .f32) (harg1 : arg1.IsWhole) (arg2 : Memref sig .tc .vmem S256x1024 .f32) (harg2 : arg2.IsWhole) (arg3 : Memref sig .tc .vmem S256x1 .f32) (harg3 : arg3.IsWhole) (arg4 : Memref sig .tc .vmem S1x1024 .f32) (harg4 : arg4.IsWhole) (arg5 : Memref sig .tc .vmem S256x5632 .f32) (harg5 : arg5.IsWhole) (arg6 : Memref sig .tc .vmem S1024x5632 .bf16) (harg6 : arg6.IsWhole) (arg7 : Memref sig .tc .vmem S2816x1024 .bf16) (harg7 : arg7.IsWhole) (arg8 : Memref sig .tc .vmem S256x1024 .f32) (harg8 : arg8.IsWhole) (arg9 : Memref sig .tc .vmem S256x1 .f32) (harg9 : arg9.IsWhole) (arg10 : Memref sig .tc .vmem S1x1024 .f32) (harg10 : arg10.IsWhole) (arg11 : Memref sig .tc .vmem S1024x1024 .bf16) (harg11 : arg11.IsWhole) (arg13 : Memref sig .tc .vmem S256x1024 .bf16) (harg13 : arg13.IsWhole) (arg14 : Memref sig .tc .vmem S256x2816 .bf16) (harg14 : arg14.IsWhole) (arg15 : Memref sig .tc .vmem S256x5632 .bf16) (harg15 : arg15.IsWhole) (arg16 : Memref sig .tc .vmem S256x1024 .f32) (harg16 : arg16.IsWhole) (arg17 : Memref sig .tc .vmem S256x1024 .bf16) (harg17 : arg17.IsWhole) (arg18 : Memref sig .tc .vmem S256x1024 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1x1024 .f32) (harg22 : arg22.IsWhole)
    (x0 x1 : Vec F S256x1024 .f32) (x2 : Vec F S256x1 .f32) (x3 : Vec F S1x1024 .f32) (x4 : Vec F S256x5632 .f32) (x5 : Vec F S1024x5632 .bf16)
    (x6 : Vec F S2816x1024 .bf16) (x7 : Vec F S256x1024 .f32) (x8 : Vec F S256x1 .f32) (x9 : Vec F S1x1024 .f32) (x10 : Vec F S1024x1024 .bf16)
    (p0 p1 p2 p3 : Vec F S1x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
        ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
        ∗ owns (c : Thread nD τ) arg19 fullShare p0 ∗ owns (c : Thread nD τ) arg20 fullShare p1 ∗ owns (c : Thread nD τ) arg21 fullShare p2 ∗ owns (c : Thread nD τ) arg22 fullShare p3
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
            ∗ owns (c : Thread nD τ) arg13 fullShare (out11 x0 x1 x2 x3) ∗ owns (c : Thread nD τ) arg14 fullShare (out12 x4) ∗ owns (c : Thread nD τ) arg15 fullShare (out13 x0 x1 x2 x3 x4 x6) ∗ owns (c : Thread nD τ) arg16 fullShare (out14 x0 x1 x2 x3 x4 x5 x6 x7 x8 x9) ∗ owns (c : Thread nD τ) arg17 fullShare (out15 x0 x1 x2 x3 x4 x5 x6 x7 x8 x9) ∗ owns (c : Thread nD τ) arg18 fullShare (out16 x0 x1 x2 x3 x4 x5 x6 x7 x8 x9 x10) ∗ owns (c : Thread nD τ) arg19 fullShare (gg2C x0 x1 (start i p0)) ∗ owns (c : Thread nD τ) arg20 fullShare (gb2C x0 (start i p1)) ∗ owns (c : Thread nD τ) arg21 fullShare (gg1C x0 x1 x2 x3 x4 x5 x6 x7 (start i p2)) ∗ owns (c : Thread nD τ) arg22 fullShare (gb1C x0 x1 x2 x3 x4 x5 x6 (start i p3))) -∗ K ⟨⟩))
      ⊢ wp frame (wpE (defs₀ (F := F)) Variants.none c none) E (cc0_mlp_bwd i arg1 harg1 arg2 harg2 arg3 harg3 arg4 harg4 arg5 harg5 arg6 harg6 arg7 harg7 arg8 harg8 arg9 harg9 arg10 harg10 arg11 harg11 (Memref.whole main_arg10) (Memref.isWhole_whole _) arg13 harg13 arg14 harg14 arg15 harg15 arg16 harg16 arg17 harg17 arg18 harg18 arg19 harg19 arg20 harg20 arg21 harg21 arg22 harg22) K := by
  simp only [cc0_mlp_bwd_eq_skeleton]; unfold cc0_mlp_bwd_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%f19, %hf19, H19⟩, ⟨%f20, %hf20, H20⟩, ⟨%f21, %hf21, H21⟩, ⟨%f22, %hf22, H22⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg19.eq_unread hf19; obtain rfl := harg20.eq_unread hf20; obtain rfl := harg21.eq_unread hf21; obtain rfl := harg22.eq_unread hf22
  unfold start
  have e0 := load_whole harg1 x0 ![0, 0] inb_S256x1024_S256x1024_0_0
  have e1 := load_whole harg2 x1 ![0, 0] inb_S256x1024_S256x1024_0_0
  have e2 := load_whole harg3 x2 ![0, 0] inb_S256x1_S256x1_0_0
  have e3 := load_whole harg4 x3 ![0, 0] inb_S1x1024_S1x1024_0_0
  have e4 : View.readAt (Elt F) arg5.view (Rect.unit (s := S256x5632) ![0, 0] S256x2816.size inb_S256x5632_S256x2816_0_0).toLoadRect (harg5.unread x4) = gate x4 :=
    load_window harg5 x4 ![0, 0] S256x2816.size inb_S256x5632_S256x2816_0_0
  have e4' : View.readAt (Elt F) arg5.view (Rect.unit (s := S256x5632) ![0, 2816] S256x2816.size inb_S256x5632_S256x2816_0_2816).toLoadRect (harg5.unread x4) = up x4 :=
    load_window harg5 x4 ![0, 2816] S256x2816.size inb_S256x5632_S256x2816_0_2816
  have e5 := load_whole harg6 x5 ![0, 0] inb_S1024x5632_S1024x5632_0_0
  have e6 := load_whole harg7 x6 ![0, 0] inb_S2816x1024_S2816x1024_0_0
  have e7 := load_whole harg8 x7 ![0, 0] inb_S256x1024_S256x1024_0_0
  have e8 := load_whole harg9 x8 ![0, 0] inb_S256x1_S256x1_0_0
  have e9 := load_whole harg10 x9 ![0, 0] inb_S1x1024_S1x1024_0_0
  have e10 := load_whole harg11 x10 ![0, 0] inb_S1024x1024_S1024x1024_0_0
  have s0 := load_whole harg19 p0 ![0, 0] inb_S1x1024_S1x1024_0_0
  have s1 := load_whole harg20 p1 ![0, 0] inb_S1x1024_S1x1024_0_0
  have s2 := load_whole harg21 p2 ![0, 0] inb_S1x1024_S1x1024_0_0
  have s3 := load_whole harg22 p3 ![0, 0] inb_S1x1024_S1x1024_0_0
  by_cases hc0 : cond0_0 i
  · simp only [if_pos hc0]
    sl_exec (disch := first | sl_exact hc0)
    sl_step
    iapply Hk
    have q6 : body_run.sl.v70 arg15 x0 x1 x2 x3 x4 x6 = out13 x0 x1 x2 x3 x4 x6 := cov_halves arg15.view _ _
    have q9 : body_run.sl.r_1 arg15 x0 x1 x2 x3 x4 x5 x6 x9 = k0_pay30 (resC x0 x1 x2 x3) (out13 x0 x1 x2 x3 x4 x6) x5 x9 :=
      congrArg (fun z => k0_pay30 (resC x0 x1 x2 x3) z x5 x9) q6
    have q10 : body_run.sl.r_2 arg15 x0 x1 x2 x3 x4 x5 x6 x9 = k0_pay32 (resC x0 x1 x2 x3) (out13 x0 x1 x2 x3 x4 x6) x5 x9 :=
      congrArg (fun z => k0_pay32 (resC x0 x1 x2 x3) z x5 x9) q6
    have q11 : body_run.sl.r_3 arg15 x0 x1 x2 x3 x4 x5 x6 x7 x9 = k0_pay33 (resC x0 x1 x2 x3) (out13 x0 x1 x2 x3 x4 x6) x5 x7 x9 :=
      congrArg (fun z => k0_pay33 (resC x0 x1 x2 x3) z x5 x7 x9) q6
    isplitl [H0]
    · iexists _; isplitr; swap; · iexact H0
      ipureintro; exact harg1.read_unread _
    isplitl [H1]
    · iexists _; isplitr; swap; · iexact H1
      ipureintro; exact harg2.read_unread _
    isplitl [H2]
    · iexists _; isplitr; swap; · iexact H2
      ipureintro; exact harg3.read_unread _
    isplitl [H3]
    · iexists _; isplitr; swap; · iexact H3
      ipureintro; exact harg4.read_unread _
    isplitl [H4]
    · iexists _; isplitr; swap; · iexact H4
      ipureintro; exact harg5.read_unread _
    isplitl [H5]
    · iexists _; isplitr; swap; · iexact H5
      ipureintro; exact harg6.read_unread _
    isplitl [H6]
    · iexists _; isplitr; swap; · iexact H6
      ipureintro; exact harg7.read_unread _
    isplitl [H7]
    · iexists _; isplitr; swap; · iexact H7
      ipureintro; exact harg8.read_unread _
    isplitl [H8]
    · iexists _; isplitr; swap; · iexact H8
      ipureintro; exact harg9.read_unread _
    isplitl [H9]
    · iexists _; isplitr; swap; · iexact H9
      ipureintro; exact harg10.read_unread _
    isplitl [H10]
    · iexists _; isplitr; swap; · iexact H10
      ipureintro; exact harg11.read_unread _
    isplitl [H13]
    · iexists _; isplitr; swap; · iexact H13
      ipureintro
      exact View.read_writes_full arg13.view _ _ _ _
    isplitl [H14]
    · iexists _; isplitr; swap; · iexact H14
      ipureintro
      exact View.read_writes_full arg14.view _ _ _ _
    isplitl [H15]
    · iexists _; isplitr; swap; · iexact H15
      ipureintro
      exact read_halves arg15.view _ _ _ []
    isplitl [H16]
    · iexists _; isplitr; swap; · iexact H16
      ipureintro
      exact (View.read_writes_full arg16.view _ _ _ _).trans (by rw [q9, q10, q11]; rfl)
    isplitl [H17]
    · iexists _; isplitr; swap; · iexact H17
      ipureintro
      exact (View.read_writes_full arg17.view _ _ _ _).trans (by rw [q9, q10, q11]; rfl)
    isplitl [H18]
    · iexists _; isplitr; swap; · iexact H18
      ipureintro
      exact (View.read_writes_full arg18.view _ _ _ _).trans (by rw [q9, q10, q11]; rfl)
    isplitl [H19]
    · iexists _; isplitr; swap; · iexact H19
      ipureintro
      exact (View.read_writes_full arg19.view _ _ _ _).trans (by rw [show body_run.sl.v6 arg19 = (k0_pay4 : FVec F S1x1024 .f32) from View.readCov_full arg19.view _ _ _ _]; rfl)
    isplitl [H20]
    · iexists _; isplitr; swap; · iexact H20
      ipureintro
      exact (View.read_writes_full arg20.view _ _ _ _).trans (by rw [show body_run.sl.v13 arg20 = (k0_pay4 : FVec F S1x1024 .f32) from View.readCov_full arg20.view _ _ _ _]; rfl)
    isplitl [H21]
    · iexists _; isplitr; swap; · iexact H21
      ipureintro
      exact (View.read_writes_full arg21.view _ _ _ _).trans (by rw [q6, show body_run.sl.v78 arg21 = (k0_pay4 : FVec F S1x1024 .f32) from View.readCov_full arg21.view _ _ _ _]; rfl)
    iexists _; isplitr; swap; · iexact H22
    ipureintro
    exact (View.read_writes_full arg22.view _ _ _ _).trans (by rw [q6, show body_run.sl.v85 arg22 = (k0_pay4 : FVec F S1x1024 .f32) from View.readCov_full arg22.view _ _ _ _]; rfl)
  · simp only [if_neg hc0]
    sl_exec (disch := first | sl_exact hc0)
    sl_step
    iapply Hk
    have q6 : body_run.sl.v70_1 arg15 x0 x1 x2 x3 x4 x6 = out13 x0 x1 x2 x3 x4 x6 := cov_halves arg15.view _ _
    have q9 : body_run.sl.r_5 arg15 x0 x1 x2 x3 x4 x5 x6 x9 = k0_pay30 (resC x0 x1 x2 x3) (out13 x0 x1 x2 x3 x4 x6) x5 x9 :=
      congrArg (fun z => k0_pay30 (resC x0 x1 x2 x3) z x5 x9) q6
    have q10 : body_run.sl.r_6 arg15 x0 x1 x2 x3 x4 x5 x6 x9 = k0_pay32 (resC x0 x1 x2 x3) (out13 x0 x1 x2 x3 x4 x6) x5 x9 :=
      congrArg (fun z => k0_pay32 (resC x0 x1 x2 x3) z x5 x9) q6
    have q11 : body_run.sl.r_7 arg15 x0 x1 x2 x3 x4 x5 x6 x7 x9 = k0_pay33 (resC x0 x1 x2 x3) (out13 x0 x1 x2 x3 x4 x6) x5 x7 x9 :=
      congrArg (fun z => k0_pay33 (resC x0 x1 x2 x3) z x5 x7 x9) q6
    isplitl [H0]
    · iexists _; isplitr; swap; · iexact H0
      ipureintro; exact harg1.read_unread _
    isplitl [H1]
    · iexists _; isplitr; swap; · iexact H1
      ipureintro; exact harg2.read_unread _
    isplitl [H2]
    · iexists _; isplitr; swap; · iexact H2
      ipureintro; exact harg3.read_unread _
    isplitl [H3]
    · iexists _; isplitr; swap; · iexact H3
      ipureintro; exact harg4.read_unread _
    isplitl [H4]
    · iexists _; isplitr; swap; · iexact H4
      ipureintro; exact harg5.read_unread _
    isplitl [H5]
    · iexists _; isplitr; swap; · iexact H5
      ipureintro; exact harg6.read_unread _
    isplitl [H6]
    · iexists _; isplitr; swap; · iexact H6
      ipureintro; exact harg7.read_unread _
    isplitl [H7]
    · iexists _; isplitr; swap; · iexact H7
      ipureintro; exact harg8.read_unread _
    isplitl [H8]
    · iexists _; isplitr; swap; · iexact H8
      ipureintro; exact harg9.read_unread _
    isplitl [H9]
    · iexists _; isplitr; swap; · iexact H9
      ipureintro; exact harg10.read_unread _
    isplitl [H10]
    · iexists _; isplitr; swap; · iexact H10
      ipureintro; exact harg11.read_unread _
    isplitl [H13]
    · iexists _; isplitr; swap; · iexact H13
      ipureintro
      exact View.read_writes_full arg13.view _ _ _ _
    isplitl [H14]
    · iexists _; isplitr; swap; · iexact H14
      ipureintro
      exact View.read_writes_full arg14.view _ _ _ _
    isplitl [H15]
    · iexists _; isplitr; swap; · iexact H15
      ipureintro
      exact read_halves arg15.view _ _ _ []
    isplitl [H16]
    · iexists _; isplitr; swap; · iexact H16
      ipureintro
      exact (View.read_writes_full arg16.view _ _ _ _).trans (by rw [q9, q10, q11]; rfl)
    isplitl [H17]
    · iexists _; isplitr; swap; · iexact H17
      ipureintro
      exact (View.read_writes_full arg17.view _ _ _ _).trans (by rw [q9, q10, q11]; rfl)
    isplitl [H18]
    · iexists _; isplitr; swap; · iexact H18
      ipureintro
      exact (View.read_writes_full arg18.view _ _ _ _).trans (by rw [q9, q10, q11]; rfl)
    isplitl [H19]
    · iexists _; isplitr; swap; · iexact H19
      ipureintro
      exact View.read_writes_full arg19.view _ _ _ _
    isplitl [H20]
    · iexists _; isplitr; swap; · iexact H20
      ipureintro
      exact View.read_writes_full arg20.view _ _ _ _
    isplitl [H21]
    · iexists _; isplitr; swap; · iexact H21
      ipureintro
      exact (View.read_writes_full arg21.view _ _ _ _).trans (by rw [q6]; rfl)
    iexists _; isplitr; swap; · iexact H22
    ipureintro
    exact (View.read_writes_full arg22.view _ _ _ _).trans (by rw [q6]; rfl)

end Cert.Mlp

end
-- ==== Proof.MlpMath.lean ====
/- The gradients of a layer's two norms and of its gated unit over the real numbers, entry by entry: rows and columns are
   natural numbers. -/
module

public import proofs.«01_k».proof.Proof.SguMath

@[expose] public section

noncomputable section

open Idealize.ShloMosaic

namespace Cert.MlpMath

open Cert.Gelu

/-- The factor of the residual, as its word reads. -/
def alpha : ℝ := 14107901 / 8388608

/-- The mean of a row. -/
def rm (a : ℕ → ℕ → ℝ) (r : ℕ) : ℝ := (∑ d : Fin 1024, a r d.val) / 1024

/-- A row less its mean, its guarded variance, one over the root of that, and the normalised row. -/
def cen (a : ℕ → ℕ → ℝ) (r q : ℕ) : ℝ := a r q - rm a r
def vare (a : ℕ → ℕ → ℝ) (r : ℕ) : ℝ := rm (fun r q => cen a r q * cen a r q) r + eps
def rstd (a : ℕ → ℕ → ℝ) (r : ℕ) : ℝ := (Real.sqrt (vare a r))⁻¹
def xh (a : ℕ → ℕ → ℝ) (r q : ℕ) : ℝ := cen a r q * rstd a r

/-- The gradient through a norm at a cotangent `c`, from the normalised rows and their scales. -/
def back (x : ℕ → ℕ → ℝ) (s : ℕ → ℝ) (c : ℕ → ℕ → ℝ) (r q : ℕ) : ℝ :=
  s r * (c r q - rm c r - x r q * rm (fun r q => c r q * x r q) r)

/-- The logistic function. -/
def sg (x : ℝ) : ℝ := (1 + Real.exp (-x))⁻¹

section kernel
variable (dy x2 : ℕ → ℕ → ℝ) (s2 g2 : ℕ → ℝ) (gu wgu wd x1 : ℕ → ℕ → ℝ) (s1 g1 : ℕ → ℝ) (wo : ℕ → ℕ → ℝ)

/-- The gradients in the order in which they are computed, from the forward pass's normalised rows `x1`, `x2`, their scales
    `s1`, `s2` and the gated unit's inputs `gu`. -/
def dz2 : ℕ → ℕ → ℝ := back x2 s2 fun r q => dy r q * g2 q
def act (r j : ℕ) : ℝ := gu r j * sg (gu r j) * gu r (2816 + j)
def dact (r j : ℕ) : ℝ := ∑ q : Fin 1024, dz2 dy x2 s2 g2 r q.val * wd j q.val
def dgate (r j : ℕ) : ℝ := dact dy x2 s2 g2 wd r j * gu r (2816 + j) * (sg (gu r j) * (1 + gu r j * (1 - sg (gu r j))))
def dup (r j : ℕ) : ℝ := dact dy x2 s2 g2 wd r j * (gu r j * sg (gu r j))
def dgu (r j : ℕ) : ℝ := if j < 2816 then dgate dy x2 s2 g2 gu wd r j else dup dy x2 s2 g2 gu wd r (j - 2816)
def dh (r q : ℕ) : ℝ := alpha * dz2 dy x2 s2 g2 r q + ∑ j : Fin 5632, dgu dy x2 s2 g2 gu wd r j.val * wgu q j.val
def dz1 : ℕ → ℕ → ℝ := back x1 s1 fun r q => dh dy x2 s2 g2 gu wgu wd r q * g1 q
def dm (r k : ℕ) : ℝ := ∑ q : Fin 1024, dz1 dy x2 s2 g2 gu wgu wd x1 s1 g1 r q.val * wo k q.val
def gg2 (q : ℕ) : ℝ := ∑ r : Fin 2048, dy r.val q * x2 r.val q
def gb2 (q : ℕ) : ℝ := ∑ r : Fin 2048, dy r.val q
def gg1 (q : ℕ) : ℝ := ∑ r : Fin 2048, dh dy x2 s2 g2 gu wgu wd r.val q * x1 r.val q
def gb1 (q : ℕ) : ℝ := ∑ r : Fin 2048, dh dy x2 s2 g2 gu wgu wd r.val q
end kernel

section forward
variable (mix x wo : ℕ → ℕ → ℝ) (g1 b1 : ℕ → ℝ) (wgu wd : ℕ → ℕ → ℝ)

/-- The forward pass: the rows before each norm and the gated unit's inputs. -/
def z1 (r q : ℕ) : ℝ := alpha * x r q + ∑ k : Fin 1024, mix r k.val * wo k.val q
def hid (r q : ℕ) : ℝ := xh (z1 mix x wo) r q * g1 q + b1 q
def gus (r j : ℕ) : ℝ := ∑ k : Fin 1024, hid mix x wo g1 b1 r k.val * wgu k.val j
def z2 (r q : ℕ) : ℝ := alpha * hid mix x wo g1 b1 r q + ∑ k : Fin 2816, act (gus mix x wo g1 b1 wgu) r k.val * wd k.val q
end forward

/-- The arguments. -/
structure Args where
  mix : ℕ → ℕ → ℝ
  x : ℕ → ℕ → ℝ
  wo : ℕ → ℕ → ℝ
  g1 : ℕ → ℝ
  b1 : ℕ → ℝ
  wgu : ℕ → ℕ → ℝ
  wd : ℕ → ℕ → ℝ
  g2 : ℕ → ℝ
  dy : ℕ → ℕ → ℝ

namespace Args
variable (A : Args)

/-- What the forward pass makes of the arguments, and the gradients. -/
def Z1 : ℕ → ℕ → ℝ := z1 A.mix A.x A.wo
def H : ℕ → ℕ → ℝ := hid A.mix A.x A.wo A.g1 A.b1
def G : ℕ → ℕ → ℝ := gus A.mix A.x A.wo A.g1 A.b1 A.wgu
def Z2 : ℕ → ℕ → ℝ := z2 A.mix A.x A.wo A.g1 A.b1 A.wgu A.wd
def DZ2 : ℕ → ℕ → ℝ := dz2 A.dy (xh A.Z2) (rstd A.Z2) A.g2
def Act : ℕ → ℕ → ℝ := act A.G
def DAct : ℕ → ℕ → ℝ := dact A.dy (xh A.Z2) (rstd A.Z2) A.g2 A.wd
def DGu : ℕ → ℕ → ℝ := dgu A.dy (xh A.Z2) (rstd A.Z2) A.g2 A.G A.wd
def DH : ℕ → ℕ → ℝ := dh A.dy (xh A.Z2) (rstd A.Z2) A.g2 A.G A.wgu A.wd
def DZ1 : ℕ → ℕ → ℝ := dz1 A.dy (xh A.Z2) (rstd A.Z2) A.g2 A.G A.wgu A.wd (xh A.Z1) (rstd A.Z1) A.g1
def DM : ℕ → ℕ → ℝ := dm A.dy (xh A.Z2) (rstd A.Z2) A.g2 A.G A.wgu A.wd (xh A.Z1) (rstd A.Z1) A.g1 A.wo
def GG2 : ℕ → ℝ := gg2 A.dy (xh A.Z2)
def GB2 : ℕ → ℝ := gb2 A.dy
def GG1 : ℕ → ℝ := gg1 A.dy (xh A.Z2) (rstd A.Z2) A.g2 A.G A.wgu A.wd (xh A.Z1)
def GB1 : ℕ → ℝ := gb1 A.dy (xh A.Z2) (rstd A.Z2) A.g2 A.G A.wgu A.wd
end Args

theorem vare_pos (a : ℕ → ℕ → ℝ) (r : ℕ) : 0 < vare a r := by
  have h : 0 ≤ rm (fun r q => cen a r q * cen a r q) r :=
    div_nonneg (Finset.sum_nonneg fun d _ => mul_self_nonneg _) (by norm_num)
  have := eps_pos
  unfold vare; linarith

theorem rstd_sq (a : ℕ → ℕ → ℝ) (r : ℕ) : rstd a r * rstd a r * vare a r = 1 := by
  unfold rstd
  rw [← mul_inv, Real.mul_self_sqrt (vare_pos a r).le, inv_mul_cancel₀ (vare_pos a r).ne']

theorem rsqrt_vare (a : ℕ → ℕ → ℝ) (r : ℕ) : Ideal.rsqrt (vare a r : EReal) = (rstd a r : EReal) := by
  rw [Ideal.rsqrt_coe, if_neg (not_lt.mpr (vare_pos a r).le), if_neg (vare_pos a r).ne']; rfl

/-- A row less its mean sums to zero. -/
theorem sum_cen (a : ℕ → ℕ → ℝ) (r : ℕ) : ∑ d : Fin 1024, cen a r d.val = 0 := by
  unfold cen rm
  rw [Finset.sum_sub_distrib]
  simp; ring

theorem word_1024 : Ideal.ofBits .f32 0x44800000#32 = ((1024 : ℝ) : EReal) := by
  simp [Ideal.ofBits, Ideal.ieee, -EReal.coe_mul]; norm_num
theorem word_alpha : Ideal.ofBits .f32 0x3FD744FD#32 = (alpha : EReal) := by
  unfold alpha; simp [Ideal.ofBits, Ideal.ieee, -EReal.coe_mul]; norm_num

/-- A mean as it is computed. -/
theorem div_1024 (x : ℝ) : Ideal.div (x : EReal) (Ideal.ofBits .f32 0x44800000#32) = ((x / 1024 : ℝ) : EReal) := by
  rw [word_1024, Ideal.div_coe (by norm_num), ← EReal.coe_mul]; congr 1; ring

end Cert.MlpMath
end
-- ==== Proof.MlpBlock.lean ====
/- What the kernel computes of a block of 256 rows, over the extended reals and from numbers: each of its values is the
   entry of the corresponding array of `MlpMath`. -/
module

public import proofs.«01_k».proof.Proof.MlpRun
public import proofs.«01_k».proof.Proof.MlpMath

@[expose] public section

set_option maxRecDepth 16384
set_option maxHeartbeats 1000000

noncomputable section

namespace Cert.Mlp

open Cert.MlpGradIdeal Cert.MlpGradIdeal.Gen
open Idealize.ShloMosaic Idealize.ShloMosaic.TcCoe
open Cert.Gelu Cert.MlpMath
open Cert.SguMath (coe_sum)

/-- Block `k` of 256 rows of an array of numbers, of each width; of a column; a row; whole matrices. -/
def B (a : ℕ → ℕ → ℝ) (k : ℕ) : S256x1024.Idx → EReal := fun y => ((a (256 * k + (y 0).val) (y 1).val : ℝ) : EReal)
def B2 (a : ℕ → ℕ → ℝ) (k : ℕ) : S256x2816.Idx → EReal := fun y => ((a (256 * k + (y 0).val) (y 1).val : ℝ) : EReal)
def B5 (a : ℕ → ℕ → ℝ) (k : ℕ) : S256x5632.Idx → EReal := fun y => ((a (256 * k + (y 0).val) (y 1).val : ℝ) : EReal)
def Col (s : ℕ → ℝ) (k : ℕ) : S256x1.Idx → EReal := fun y => ((s (256 * k + (y 0).val) : ℝ) : EReal)
def Rw (g : ℕ → ℝ) : S1x1024.Idx → EReal := fun y => ((g (y 1).val : ℝ) : EReal)
def M1 (a : ℕ → ℕ → ℝ) : S1024x1024.Idx → EReal := fun y => ((a (y 0).val (y 1).val : ℝ) : EReal)
def M2 (a : ℕ → ℕ → ℝ) : S2816x1024.Idx → EReal := fun y => ((a (y 0).val (y 1).val : ℝ) : EReal)
def M5 (a : ℕ → ℕ → ℝ) : S1024x5632.Idx → EReal := fun y => ((a (y 0).val (y 1).val : ℝ) : EReal)

/-- The logistic function of a number. -/
theorem logistic_coe (x : ℝ) : Ideal.logistic (x : EReal) = ((sg x : ℝ) : EReal) := Ideal.logistic_coe x

variable (k : ℕ)

theorem pay8 (x : ℕ → ℕ → ℝ) : k0_pay8 (F := Ideal) (B x k) = B x k := by
  funext y; idx_vars y
  pointwise [k0_pay8]

theorem pay11 (dy : ℕ → ℕ → ℝ) (g : ℕ → ℝ) : k0_pay11 (F := Ideal) (B dy k) (Rw g) = B (fun r q => dy r q * g q) k := by
  funext y; idx_vars y
  pointwise [k0_pay11, B, Rw]
  rw [← EReal.coe_mul]

theorem pay12 (s : ℕ → ℝ) : k0_pay12 (F := Ideal) (Col s k) = Col s k := by
  funext y; idx_vars y
  pointwise [k0_pay12]

theorem pay13 (dy : ℕ → ℕ → ℝ) (g : ℕ → ℝ) : k0_pay13 (F := Ideal) (B dy k) (Rw g) = Col (rm fun r q => dy r q * g q) k := by
  unfold k0_pay13; rw [pay11]
  funext y; idx_vars y
  pointwise [B, Col]
  rw [← coe_sum, div_1024]; rfl

theorem pay14 (dy x : ℕ → ℕ → ℝ) (g : ℕ → ℝ) :
    k0_pay14 (F := Ideal) (B dy k) (B x k) (Rw g) = Col (fun r => ∑ d : Fin 1024, dy r d.val * g d.val * x r d.val) k := by
  unfold k0_pay14; rw [pay11, pay8]
  funext y; idx_vars y
  pointwise [B, Col]
  simp only [← EReal.coe_mul, ← coe_sum]

theorem pay15 (x c : ℕ → ℕ → ℝ) (s : ℕ → ℝ) :
    k0_pay15 (F := Ideal) (B x k) (B c k) (Col s k) (Col (rm c) k) (Col (fun r => ∑ d : Fin 1024, c r d.val * x r d.val) k) width = B (back x s c) k := by
  funext y; idx_vars y
  pointwise [k0_pay15, width, B, Col]
  rw [div_1024]
  simp only [← EReal.coe_mul, ← EReal.coe_sub]; rfl

variable (dy x2 : ℕ → ℕ → ℝ) (s2 g2 : ℕ → ℝ) (gu wgu wd x1 : ℕ → ℕ → ℝ) (s1 g1 : ℕ → ℝ) (wo : ℕ → ℕ → ℝ)

theorem out11_eq : out11 (F := Ideal) (B dy k) (B x2 k) (Col s2 k) (Rw g2) = B (dz2 dy x2 s2 g2) k := by
  unfold out11 k0_pay16
  rw [pay8, pay11, pay12, pay13, pay14, pay15]
  rfl

theorem gate_eq : gate (F := Ideal) (B5 gu k) = B2 gu k := by
  funext y; idx_vars y
  show ((gu (256 * k + (0 + 1 * y0.val)) (0 + 1 * y1.val) : ℝ) : EReal) = ((gu (256 * k + y0.val) y1.val : ℝ) : EReal)
  simp only [zero_add, one_mul]

theorem up_eq : up (F := Ideal) (B5 gu k) = B2 (fun r j => gu r (2816 + j)) k := by
  funext y; idx_vars y
  show ((gu (256 * k + (0 + 1 * y0.val)) (2816 + 1 * y1.val) : ℝ) : EReal) = ((gu (256 * k + y0.val) (2816 + y1.val) : ℝ) : EReal)
  simp only [zero_add, one_mul]

theorem pay20 (a : ℕ → ℕ → ℝ) : k0_pay20 (F := Ideal) (B2 a k) = B2 (fun r j => sg (a r j)) k := by
  funext y; idx_vars y
  pointwise [k0_pay20, k0_pay18, B2]
  exact logistic_coe _

theorem pay21 (a : ℕ → ℕ → ℝ) : k0_pay21 (F := Ideal) (B2 a k) = B2 (fun r j => a r j * sg (a r j)) k := by
  unfold k0_pay21; rw [pay20]
  funext y; idx_vars y
  pointwise [k0_pay18, B2]
  rw [← EReal.coe_mul]

theorem out12_eq : out12 (F := Ideal) (B5 gu k) = B2 (act gu) k := by
  unfold out12 k0_pay22
  rw [gate_eq, up_eq, pay21]
  funext y; idx_vars y
  pointwise [k0_pay19, B2]
  rw [← EReal.coe_mul]; rfl

theorem pay17 : k0_pay17 (F := Ideal) (k0_pay8 (B x2 k)) (k0_pay11 (B dy k) (Rw g2)) (k0_pay12 (Col s2 k)) (k0_pay13 (B dy k) (Rw g2)) (k0_pay14 (B dy k) (B x2 k) (Rw g2)) width (M2 wd)
    = B2 (dact dy x2 s2 g2 wd) k := by
  have e := out11_eq k dy x2 s2 g2
  unfold out11 at e
  unfold k0_pay17
  rw [e]
  funext y; idx_vars y
  pointwise [B, B2, M2]
  simp only [← EReal.coe_mul, ← coe_sum]; rfl

theorem dgateC_eq : dgateC (F := Ideal) (B dy k) (B x2 k) (Col s2 k) (Rw g2) (B5 gu k) (M2 wd) = B2 (dgate dy x2 s2 g2 gu wd) k := by
  unfold dgateC k0_pay23
  rw [gate_eq, up_eq, pay17, pay20]
  funext y; idx_vars y
  pointwise [k0_pay18, k0_pay19, B2]
  simp only [← EReal.coe_one, ← EReal.coe_mul, ← EReal.coe_sub, ← EReal.coe_add]; rfl

theorem dupC_eq : dupC (F := Ideal) (B dy k) (B x2 k) (Col s2 k) (Rw g2) (B5 gu k) (M2 wd) = B2 (dup dy x2 s2 g2 gu wd) k := by
  unfold dupC k0_pay24
  rw [gate_eq, pay17, pay21]
  funext y; idx_vars y
  pointwise [B2]
  rw [← EReal.coe_mul]; rfl

theorem out13_eq : out13 (F := Ideal) (B dy k) (B x2 k) (Col s2 k) (Rw g2) (B5 gu k) (M2 wd) = B5 (dgu dy x2 s2 g2 gu wd) k := by
  unfold out13
  rw [dgateC_eq, dupC_eq]
  funext y; idx_vars y
  unfold halves B5 B2 dgu
  by_cases h : y1.val < 2816
  · rw [dif_pos (show (ix2 y0 y1 1).val < 2816 from h), if_pos (show (ix2 y0 y1 1).val < 2816 from h)]; rfl
  · rw [dif_neg (show ¬ (ix2 y0 y1 1).val < 2816 from h), if_neg (show ¬ (ix2 y0 y1 1).val < 2816 from h)]; rfl

theorem pay26 : k0_pay26 (F := Ideal) (resC (B dy k) (B x2 k) (Col s2 k) (Rw g2)) (B5 (dgu dy x2 s2 g2 gu wd) k) (M5 wgu) = B (dh dy x2 s2 g2 gu wgu wd) k := by
  unfold resC k0_pay25 k0_pay26
  rw [pay8, pay11, pay12, pay13, pay14, pay15]
  funext y; idx_vars y
  pointwise [B, B5, M5]
  simp only [word_alpha, ← EReal.coe_mul, ← coe_sum, ← EReal.coe_add]; rfl

theorem pay27 (x : ℕ → ℕ → ℝ) : k0_pay27 (F := Ideal) (B x k) = B x k := by
  funext y; idx_vars y
  pointwise [k0_pay27]

theorem pay31 (s : ℕ → ℝ) : k0_pay31 (F := Ideal) (Col s k) = Col s k := by
  funext y; idx_vars y
  pointwise [k0_pay31]

/-- The first norm's cotangent times its gain, its mean, and its sum against the normalised rows. -/
def c1 (r q : ℕ) : ℝ := dh dy x2 s2 g2 gu wgu wd r q * g1 q

theorem pay30 : k0_pay30 (F := Ideal) (resC (B dy k) (B x2 k) (Col s2 k) (Rw g2)) (B5 (dgu dy x2 s2 g2 gu wd) k) (M5 wgu) (Rw g1)
    = B (c1 dy x2 s2 g2 gu wgu wd g1) k := by
  unfold k0_pay30; rw [pay26]
  funext y; idx_vars y
  pointwise [B, Rw]
  rw [← EReal.coe_mul]; rfl

theorem pay32 : k0_pay32 (F := Ideal) (resC (B dy k) (B x2 k) (Col s2 k) (Rw g2)) (B5 (dgu dy x2 s2 g2 gu wd) k) (M5 wgu) (Rw g1)
    = Col (rm (c1 dy x2 s2 g2 gu wgu wd g1)) k := by
  unfold k0_pay32; rw [pay30]
  funext y; idx_vars y
  pointwise [B, Col]
  rw [← coe_sum, div_1024]; rfl

theorem pay33 : k0_pay33 (F := Ideal) (resC (B dy k) (B x2 k) (Col s2 k) (Rw g2)) (B5 (dgu dy x2 s2 g2 gu wd) k) (M5 wgu) (B x1 k) (Rw g1)
    = Col (fun r => ∑ d : Fin 1024, c1 dy x2 s2 g2 gu wgu wd g1 r d.val * x1 r d.val) k := by
  unfold k0_pay33; rw [pay30, pay27]
  funext y; idx_vars y
  pointwise [B, Col]
  simp only [← EReal.coe_mul, ← coe_sum]

theorem pay1 (x c : ℕ → ℕ → ℝ) (s : ℕ → ℝ) :
    k0_pay1 (F := Ideal) (B x k) (B c k) (Col s k) (Col (rm c) k) (Col (fun r => ∑ d : Fin 1024, c r d.val * x r d.val) k) = B (back x s c) k :=
  pay15 k x c s

theorem out14_eq : out14 (F := Ideal) (B dy k) (B x2 k) (Col s2 k) (Rw g2) (B5 gu k) (M5 wgu) (M2 wd) (B x1 k) (Col s1 k) (Rw g1)
    = B (dz1 dy x2 s2 g2 gu wgu wd x1 s1 g1) k := by
  unfold out14
  rw [out13_eq, pay27, pay30, pay31, pay32, pay33, pay1]; rfl

theorem out15_eq : out15 (F := Ideal) (B dy k) (B x2 k) (Col s2 k) (Rw g2) (B5 gu k) (M5 wgu) (M2 wd) (B x1 k) (Col s1 k) (Rw g1)
    = B (dz1 dy x2 s2 g2 gu wgu wd x1 s1 g1) k :=
  out14_eq k dy x2 s2 g2 gu wgu wd x1 s1 g1

theorem out16_eq : out16 (F := Ideal) (B dy k) (B x2 k) (Col s2 k) (Rw g2) (B5 gu k) (M5 wgu) (M2 wd) (B x1 k) (Col s1 k) (Rw g1) (M1 wo)
    = B (dm dy x2 s2 g2 gu wgu wd x1 s1 g1 wo) k := by
  have e := out15_eq k dy x2 s2 g2 gu wgu wd x1 s1 g1
  unfold out15 at e
  unfold out16 k0_pay3
  rw [e]
  funext y; idx_vars y
  pointwise [B, M1]
  simp only [← EReal.coe_mul, ← coe_sum]; rfl

/-- What a point adds to the four running sums. -/
theorem gg2C_eq (p : S1x1024.Idx → EReal) (y : S1x1024.Idx) :
    gg2C (F := Ideal) (B dy k) (B x2 k) p y = p y + ((∑ r : Fin 256, dy (256 * k + r.val) (y 1).val * x2 (256 * k + r.val) (y 1).val : ℝ) : EReal) := by
  idx_vars y
  unfold gg2C k0_pay9; rw [pay8]
  pointwise [B]
  simp only [← EReal.coe_mul, ← coe_sum]

theorem gb2C_eq (p : S1x1024.Idx → EReal) (y : S1x1024.Idx) :
    gb2C (F := Ideal) (B dy k) p y = p y + ((∑ r : Fin 256, dy (256 * k + r.val) (y 1).val : ℝ) : EReal) := by
  idx_vars y
  pointwise [gb2C, k0_pay10, B]
  simp only [← coe_sum]

theorem gg1C_eq (p : S1x1024.Idx → EReal) (y : S1x1024.Idx) :
    gg1C (F := Ideal) (B dy k) (B x2 k) (Col s2 k) (Rw g2) (B5 gu k) (M5 wgu) (M2 wd) (B x1 k) p y
      = p y + ((∑ r : Fin 256, dh dy x2 s2 g2 gu wgu wd (256 * k + r.val) (y 1).val * x1 (256 * k + r.val) (y 1).val : ℝ) : EReal) := by
  idx_vars y
  unfold gg1C k0_pay28; rw [out13_eq, pay26, pay27]
  pointwise [B]
  simp only [← EReal.coe_mul, ← coe_sum]

theorem gb1C_eq (p : S1x1024.Idx → EReal) (y : S1x1024.Idx) :
    gb1C (F := Ideal) (B dy k) (B x2 k) (Col s2 k) (Rw g2) (B5 gu k) (M5 wgu) (M2 wd) p y
      = p y + ((∑ r : Fin 256, dh dy x2 s2 g2 gu wgu wd (256 * k + r.val) (y 1).val : ℝ) : EReal) := by
  idx_vars y
  unfold gb1C k0_pay29; rw [out13_eq, pay26]
  pointwise [B]
  simp only [← coe_sum]

end Cert.Mlp
end
-- ==== Proof.MlpRef.lean ====
/- The reference's gradients of the feed-forward layer and its two norms, from arguments that are arrays of numbers: each of its
   arrays, entry by entry, down to the gradients of `MlpMath`. -/
module

public import proofs.«01_k».proof.Proof.Gen.MlpGradRefIdeal.Run
public import proofs.«01_k».proof.Proof.MlpMath

@[expose] public section

set_option maxRecDepth 16384
set_option maxHeartbeats 2000000

noncomputable section

namespace Cert.MlpRef

open Cert.MlpGradRefIdeal Cert.MlpGradRefIdeal.Gen Cert.MlpGradRefIdeal.Value
open Idealize.ShloMosaic Idealize.ShloMosaic.TcCoe Idealize.ShloMosaic.Tactic
open Cert.Gelu Cert.MlpMath
open Cert.SguMath (coe_sum)

/-- The reference's arguments are the numbers `A`. -/
structure Holds (V0 : Valuation τ sig (Elt Ideal)) (A : Args) : Prop where
  mix : ∀ (r : Fin 2048) (q : Fin 1024), V0 (Proc.devRef .tc main_arg0) (ix2 r q) = ((A.mix r.val q.val : ℝ) : EReal)
  x : ∀ (r : Fin 2048) (q : Fin 1024), V0 (Proc.devRef .tc main_arg1) (ix2 r q) = ((A.x r.val q.val : ℝ) : EReal)
  wo : ∀ (r : Fin 1024) (q : Fin 1024), V0 (Proc.devRef .tc main_arg2) (ix2 r q) = ((A.wo r.val q.val : ℝ) : EReal)
  wgu : ∀ (r : Fin 1024) (q : Fin 5632), V0 (Proc.devRef .tc main_arg5) (ix2 r q) = ((A.wgu r.val q.val : ℝ) : EReal)
  wd : ∀ (r : Fin 2816) (q : Fin 1024), V0 (Proc.devRef .tc main_arg6) (ix2 r q) = ((A.wd r.val q.val : ℝ) : EReal)
  dy : ∀ (r : Fin 2048) (q : Fin 1024), V0 (Proc.devRef .tc main_arg9) (ix2 r q) = ((A.dy r.val q.val : ℝ) : EReal)
  g1 : ∀ q : Fin 1024, V0 (Proc.devRef .tc main_arg3) (ix1 q) = ((A.g1 q.val : ℝ) : EReal)
  b1 : ∀ q : Fin 1024, V0 (Proc.devRef .tc main_arg4) (ix1 q) = ((A.b1 q.val : ℝ) : EReal)
  g2 : ∀ q : Fin 1024, V0 (Proc.devRef .tc main_arg7) (ix1 q) = ((A.g2 q.val : ℝ) : EReal)

theorem mean_host (f : Fin 1024 → ℝ) : Ideal.div (∑ x, ((f x : ℝ) : EReal)) (Ideal.ofBits .f32 0x44800000#32) = (((∑ x, f x) / 1024 : ℝ) : EReal) := by
  rw [← coe_sum, div_1024]

theorem via_var (a r e c : ℝ) (he : e ≠ 0) :
    Ideal.div ((a : EReal) * (((-1 / 2 : ℝ) : EReal) * Ideal.div (r : EReal) (e : EReal))) (Ideal.ofBits .f32 0x44800000#32) * ((2 * c : ℝ) : EReal)
      = ((a * (-1 / 2 * (r / e)) / 1024 * (2 * c) : ℝ) : EReal) := by
  rw [Ideal.div_coe he, ← EReal.coe_mul, ← EReal.coe_mul, ← EReal.coe_mul, div_1024, ← EReal.coe_mul]
  congr 1; rw [mul_one_div]

/-- The logistic function as it is computed. -/
theorem sg_host (x : ℝ) : Ideal.div 1 (1 + Ideal.exp (-(x : EReal))) = ((sg x : ℝ) : EReal) := by
  have h : (1 + Real.exp (-x) : ℝ) ≠ 0 := by positivity
  rw [← EReal.coe_neg, Ideal.exp_coe, ← EReal.coe_one, ← EReal.coe_add, Ideal.div_coe h, ← EReal.coe_mul, one_mul]
  simp [sg]

variable (V0 : Valuation τ sig (Elt Ideal)) (A : Args) (h : Holds V0 A)

include h in
theorem v7 (r : Fin 2048) (q : Fin 1024) : res_main_v7 V0 (ix2 r q) = ((A.Z1 r.val q.val : ℝ) : EReal) := by
  pointwise [res_main_v7]
  simp only [h.x, h.mix, h.wo, word_alpha, ← EReal.coe_mul, ← coe_sum, ← EReal.coe_add, add_zero]; rfl

include h in
theorem v11 (r : Fin 2048) (o : Fin 1) : res_main_v11 V0 (ix2 r o) = ((rm A.Z1 r.val : ℝ) : EReal) := by
  pointwise [res_main_v11]
  simp only [v7 V0 A h]
  exact mean_host _

include h in
theorem v13 (r : Fin 2048) (q : Fin 1024) : res_main_v13 V0 (ix2 r q) = ((cen A.Z1 r.val q.val : ℝ) : EReal) := by
  pointwise [res_main_v13]
  rw [v7 V0 A h, v11 V0 A h, ← EReal.coe_sub]; rfl

include h in
theorem v22 (r : Fin 2048) (q : Fin 1024) : res_main_v22 V0 (ix2 r q) = ((cen A.Z1 r.val q.val : ℝ) : EReal) := by
  pointwise [res_main_v22]
  rw [v7 V0 A h, v11 V0 A h, ← EReal.coe_sub]; rfl

include h in
theorem v24 (r : Fin 2048) (o : Fin 1) : res_main_v24 V0 (ix2 r o) = ((vare A.Z1 r.val : ℝ) : EReal) := by
  pointwise [res_main_v24]
  simp only [v13 V0 A h, ← EReal.coe_mul]
  rw [mean_host, word_eps, ← EReal.coe_add]; rfl

include h in
theorem v25 (r : Fin 2048) (o : Fin 1) : res_main_v25 V0 (ix2 r o) = ((rstd A.Z1 r.val : ℝ) : EReal) := by
  pointwise [res_main_v25]
  rw [v24 V0 A h]
  exact rsqrt_vare _ _

include h in
theorem v30 (r : Fin 2048) (q : Fin 1024) : res_main_v30 V0 (ix2 r q) = ((xh A.Z1 r.val q.val : ℝ) : EReal) := by
  pointwise [res_main_v30]
  rw [v22 V0 A h, v25 V0 A h, ← EReal.coe_mul]; rfl

include h in
theorem v31 (o : Fin 1) (q : Fin 1024) : res_main_v31 V0 (ix2 o q) = ((A.g1 q.val : ℝ) : EReal) := by
  pointwise [res_main_v31]
  exact h.g1 q

include h in
theorem v36 (r : Fin 2048) (q : Fin 1024) : res_main_v36 V0 (ix2 r q) = ((A.H r.val q.val : ℝ) : EReal) := by
  pointwise [res_main_v36]
  rw [v30 V0 A h, v31 V0 A h, h.b1, ← EReal.coe_mul, ← EReal.coe_add]; rfl

include h in
theorem v38 (r : Fin 2048) (q : Fin 5632) : res_main_v38 V0 (ix2 r q) = ((A.G r.val q.val : ℝ) : EReal) := by
  pointwise [res_main_v38]
  simp only [v36 V0 A h, h.wgu, ← EReal.coe_mul, ← coe_sum, add_zero]; rfl

include h in
theorem v39 (r : Fin 2048) (q : Fin 2816) : res_main_v39 V0 (ix2 r q) = ((A.G r.val q.val : ℝ) : EReal) := by
  pointwise [res_main_v39]
  exact v38 V0 A h r ⟨q.val, by omega⟩

include h in
theorem v40 (r : Fin 2048) (q : Fin 2816) : res_main_v40 V0 (ix2 r q) = ((A.G r.val (2816 + q.val) : ℝ) : EReal) := by
  pointwise [res_main_v40]
  exact v38 V0 A h r ⟨2816 + q.val, by omega⟩

include h in
theorem v41_2 (r : Fin 2048) (q : Fin 2816) : res_main_v41_2 V0 (ix2 r q) = ((sg (A.G r.val q.val) : ℝ) : EReal) := by
  pointwise [res_main_v41_2]
  rw [v39 V0 A h]
  exact sg_host _

include h in
theorem v41_0 (r : Fin 2048) (q : Fin 2816) : res_main_v41_0 V0 (ix2 r q) = ((A.G r.val q.val * sg (A.G r.val q.val) : ℝ) : EReal) := by
  pointwise [res_main_v41_0]
  rw [v39 V0 A h, v41_2 V0 A h, ← EReal.coe_mul]

include h in
theorem v42 (r : Fin 2048) (q : Fin 2816) : res_main_v42 V0 (ix2 r q) = ((A.Act r.val q.val : ℝ) : EReal) := by
  pointwise [res_main_v42]
  rw [v41_0 V0 A h, v40 V0 A h, ← EReal.coe_mul]; rfl

include h in
theorem v47 (r : Fin 2048) (q : Fin 1024) : res_main_v47 V0 (ix2 r q) = ((A.Z2 r.val q.val : ℝ) : EReal) := by
  pointwise [res_main_v47]
  simp only [v36 V0 A h, v42 V0 A h, h.wd, word_alpha, ← EReal.coe_mul, ← coe_sum, ← EReal.coe_add, add_zero]; rfl

include h in
theorem v51 (r : Fin 2048) (o : Fin 1) : res_main_v51 V0 (ix2 r o) = ((rm A.Z2 r.val : ℝ) : EReal) := by
  pointwise [res_main_v51]
  simp only [v47 V0 A h]
  exact mean_host _

include h in
theorem v53 (r : Fin 2048) (q : Fin 1024) : res_main_v53 V0 (ix2 r q) = ((cen A.Z2 r.val q.val : ℝ) : EReal) := by
  pointwise [res_main_v53]
  rw [v47 V0 A h, v51 V0 A h, ← EReal.coe_sub]; rfl

include h in
theorem v62 (r : Fin 2048) (q : Fin 1024) : res_main_v62 V0 (ix2 r q) = ((cen A.Z2 r.val q.val : ℝ) : EReal) := by
  pointwise [res_main_v62]
  rw [v47 V0 A h, v51 V0 A h, ← EReal.coe_sub]; rfl

include h in
theorem v64 (r : Fin 2048) (o : Fin 1) : res_main_v64 V0 (ix2 r o) = ((vare A.Z2 r.val : ℝ) : EReal) := by
  pointwise [res_main_v64]
  simp only [v53 V0 A h, ← EReal.coe_mul]
  rw [mean_host, word_eps, ← EReal.coe_add]; rfl

include h in
theorem v65 (r : Fin 2048) (o : Fin 1) : res_main_v65 V0 (ix2 r o) = ((rstd A.Z2 r.val : ℝ) : EReal) := by
  pointwise [res_main_v65]
  rw [v64 V0 A h]
  exact rsqrt_vare _ _

include h in
theorem v70 (r : Fin 2048) (q : Fin 1024) : res_main_v70 V0 (ix2 r q) = ((xh A.Z2 r.val q.val : ℝ) : EReal) := by
  pointwise [res_main_v70]
  rw [v62 V0 A h, v65 V0 A h, ← EReal.coe_mul]; rfl

include h in
theorem v71 (o : Fin 1) (q : Fin 1024) : res_main_v71 V0 (ix2 o q) = ((A.g2 q.val : ℝ) : EReal) := by
  pointwise [res_main_v71]
  exact h.g2 q

include h in
theorem v77 (r : Fin 2048) (q : Fin 1024) : res_main_v77 V0 (ix2 r q) = ((A.dy r.val q.val : ℝ) : EReal) := by
  pointwise [res_main_v77]
  exact h.dy r q

include h in
theorem v85 (r : Fin 2048) (q : Fin 1024) : res_main_v85 V0 (ix2 r q) = ((A.dy r.val q.val * A.g2 q.val : ℝ) : EReal) := by
  pointwise [res_main_v85]
  rw [v77 V0 A h, v71 V0 A h, ← EReal.coe_mul]

include h in
theorem v91 (r : Fin 2048) (q : Fin 1024) : res_main_v91 V0 (ix2 r q) = ((A.dy r.val q.val * A.g2 q.val * rstd A.Z2 r.val : ℝ) : EReal) := by
  pointwise [res_main_v91]
  rw [v85 V0 A h, v65 V0 A h, ← EReal.coe_mul]

include h in
theorem v100 (r : Fin 2048) (q : Fin 1024) : res_main_v100 V0 (ix2 r q) = (((∑ j : Fin 1024, cen A.Z2 r.val j.val * (A.dy r.val j.val * A.g2 j.val)) * (-1 / 2 * (rstd A.Z2 r.val / vare A.Z2 r.val)) / 1024 * (2 * cen A.Z2 r.val q.val) : ℝ) : EReal) := by
  pointwise [res_main_v100]
  simp only [Finset.univ_unique, Finset.sum_singleton, v62 V0 A h, v85 V0 A h, v53 V0 A h, v65 V0 A h, v64 V0 A h, word_two, word_neg_half, ← EReal.coe_mul, ← coe_sum]
  exact via_var _ _ _ _ (vare_pos _ _).ne'

include h in
theorem v110 (r : Fin 2048) (q : Fin 1024) : res_main_v110 V0 (ix2 r q) = ((A.DZ2 r.val q.val : ℝ) : EReal) := by
  pointwise [res_main_v110]
  simp only [Finset.univ_unique, Finset.sum_singleton, v91 V0 A h, v100 V0 A h, ← EReal.coe_neg, ← coe_sum, ← EReal.coe_add]
  rw [div_1024, ← EReal.coe_add]
  exact congrArg (fun x : ℝ => (x : EReal)) (norm_back 1024 (fun j : Fin 1024 => cen A.Z2 r.val j.val) (fun j : Fin 1024 => A.dy r.val j.val * A.g2 j.val) (sum_cen _ _) (rstd A.Z2 r.val)
    (vare A.Z2 r.val) (vare_pos _ _).ne' (rstd_sq _ _) q)

include h in
theorem v111 (r : Fin 2048) (q : Fin 2816) : res_main_v111 V0 (ix2 r q) = ((A.DAct r.val q.val : ℝ) : EReal) := by
  pointwise [res_main_v111]
  simp only [v110 V0 A h, h.wd, ← EReal.coe_mul, ← coe_sum]; rfl

include h in
theorem v115 (r : Fin 2048) (q : Fin 2816) : res_main_v115 V0 (ix2 r q) = ((A.DAct r.val q.val * A.G r.val (2816 + q.val) : ℝ) : EReal) := by
  pointwise [res_main_v115]
  rw [v111 V0 A h, v40 V0 A h, ← EReal.coe_mul]

include h in
theorem v119_lo (r : Fin 2048) (q : Fin 2816) : res_main_v119 V0 (ix2 r ⟨q.val, by omega⟩) = ((A.DGu r.val q.val : ℝ) : EReal) := by
  pointwise [res_main_v119]
  rw [dif_neg (fun e => absurd (e (show Fin 2 from 1)).1 (by show ¬ 2816 ≤ q.val; omega)), dif_pos (fun a => by
    match (show Fin 2 from a) with
    | ⟨0, _⟩ => exact ⟨Nat.zero_le _, Nat.mod_one _, by show (r.val - 0) / (0 + 1) < 2048; omega⟩
    | ⟨1, _⟩ => exact ⟨Nat.zero_le _, Nat.mod_one _, by show (q.val - 0) / (0 + 1) < 2816; omega⟩)]
  simp only [v115 V0 A h, v39 V0 A h, v41_2 V0 A h, ← EReal.coe_mul, ← EReal.coe_one, ← EReal.coe_sub, ← EReal.coe_add, zero_add]
  refine congrArg (fun x : ℝ => (x : EReal)) ?_
  rw [show A.DGu r.val q.val = dgate A.dy (xh A.Z2) (rstd A.Z2) A.g2 A.G A.wd r.val q.val from if_pos q.isLt]
  unfold dgate Args.DAct
  ring

include h in
theorem v119_hi (r : Fin 2048) (q : Fin 2816) : res_main_v119 V0 (ix2 r ⟨2816 + q.val, by omega⟩) = ((A.DGu r.val (2816 + q.val) : ℝ) : EReal) := by
  pointwise [res_main_v119]
  rw [dif_pos (fun a => by
    match (show Fin 2 from a) with
    | ⟨0, _⟩ => exact ⟨Nat.zero_le _, Nat.mod_one _, by show (r.val - 0) / (0 + 1) < 2048; omega⟩
    | ⟨1, _⟩ => exact ⟨Nat.le_add_right _ _, Nat.mod_one _, by show (2816 + q.val - 2816) / (0 + 1) < 2816; omega⟩),
    dif_neg (fun e => absurd (e (show Fin 2 from 1)).2.2 (by show ¬ (2816 + q.val - 0) / (0 + 1) < 2816; omega))]
  rw [v41_0 V0 A h, v111 V0 A h, ← EReal.coe_mul, add_zero]
  refine congrArg (fun x : ℝ => (x : EReal)) ?_
  rw [show A.DGu r.val (2816 + q.val) = dup A.dy (xh A.Z2) (rstd A.Z2) A.g2 A.G A.wd r.val (2816 + q.val - 2816) from if_neg (by omega),
    Nat.add_sub_cancel_left]
  exact mul_comm _ _

include h in
theorem v119 (r : Fin 2048) (q : Fin 5632) : res_main_v119 V0 (ix2 r q) = ((A.DGu r.val q.val : ℝ) : EReal) := by
  by_cases hq : q.val < 2816
  · exact v119_lo V0 A h r ⟨q.val, hq⟩
  · have e : q = ⟨2816 + (q.val - 2816), by omega⟩ := Fin.ext (by show q.val = 2816 + (q.val - 2816); omega)
    rw [e]
    exact v119_hi V0 A h r ⟨q.val - 2816, by omega⟩

include h in
theorem v121 (r : Fin 2048) (q : Fin 1024) : res_main_v121 V0 (ix2 r q) = ((A.DH r.val q.val : ℝ) : EReal) := by
  pointwise [res_main_v121]
  simp only [v110 V0 A h, v119 V0 A h, h.wgu, word_alpha, ← EReal.coe_mul, ← coe_sum, ← EReal.coe_add]; rfl

include h in
theorem v129 (r : Fin 2048) (q : Fin 1024) : res_main_v129 V0 (ix2 r q) = ((A.DH r.val q.val * A.g1 q.val : ℝ) : EReal) := by
  pointwise [res_main_v129]
  rw [v121 V0 A h, v31 V0 A h, ← EReal.coe_mul]

include h in
theorem v135 (r : Fin 2048) (q : Fin 1024) : res_main_v135 V0 (ix2 r q) = ((A.DH r.val q.val * A.g1 q.val * rstd A.Z1 r.val : ℝ) : EReal) := by
  pointwise [res_main_v135]
  rw [v129 V0 A h, v25 V0 A h, ← EReal.coe_mul]

include h in
theorem v144 (r : Fin 2048) (q : Fin 1024) : res_main_v144 V0 (ix2 r q) = (((∑ j : Fin 1024, cen A.Z1 r.val j.val * (A.DH r.val j.val * A.g1 j.val)) * (-1 / 2 * (rstd A.Z1 r.val / vare A.Z1 r.val)) / 1024 * (2 * cen A.Z1 r.val q.val) : ℝ) : EReal) := by
  pointwise [res_main_v144]
  simp only [Finset.univ_unique, Finset.sum_singleton, v22 V0 A h, v129 V0 A h, v13 V0 A h, v25 V0 A h, v24 V0 A h, word_two, word_neg_half, ← EReal.coe_mul, ← coe_sum]
  exact via_var _ _ _ _ (vare_pos _ _).ne'

include h in
theorem v154 (r : Fin 2048) (q : Fin 1024) : res_main_v154 V0 (ix2 r q) = ((A.DZ1 r.val q.val : ℝ) : EReal) := by
  pointwise [res_main_v154]
  simp only [Finset.univ_unique, Finset.sum_singleton, v135 V0 A h, v144 V0 A h, ← EReal.coe_neg, ← coe_sum, ← EReal.coe_add]
  rw [div_1024, ← EReal.coe_add]
  exact congrArg (fun x : ℝ => (x : EReal)) (norm_back 1024 (fun j : Fin 1024 => cen A.Z1 r.val j.val) (fun j : Fin 1024 => A.DH r.val j.val * A.g1 j.val) (sum_cen _ _) (rstd A.Z1 r.val)
    (vare A.Z1 r.val) (vare_pos _ _).ne' (rstd_sq _ _) q)

/-- The sum down the rows of an array, as a row. -/
def downRows (x : S2048x1024.Idx → EReal) : S1x1024.Idx → EReal :=
  broadcastInDim S1x1024 ![1] bcast_S1024_S1x1024_1 (Host.reduceAdd (F := Ideal) (φ := .f32) (shapeCast S1x1024 (Host.reduceAdd (F := Ideal) (φ := .f32) x (constant S_ .f32 0x00000000#32)
    reducesTo_S2048x1024_S1024_d0 h_S_) shapeCasts_S1024_S1x1024) (constant S_ .f32 0x00000000#32) reducesTo_S1x1024_S1024_d0 h_S_)

theorem downRows_at (x : S2048x1024.Idx → EReal) (f : ℕ → ℕ → ℝ) (hx : ∀ (r : Fin 2048) (q : Fin 1024), x (ix2 r q) = ((f r.val q.val : ℝ) : EReal)) (o : Fin 1) (q : Fin 1024) :
    downRows x (ix2 o q) = ((∑ r : Fin 2048, f r.val q.val : ℝ) : EReal) := by
  pointwise [downRows]
  simp only [Finset.univ_unique, Finset.sum_singleton, hx, ← coe_sum]

include h in
/-- The gradients of the two norms' gains and shifts. -/
theorem gg2_ref (o : Fin 1) (q : Fin 1024) : downRows (mulf (F := Ideal) (φ := .f32) (res_main_v70 V0) (res_main_v77 V0)) (ix2 o q) = ((A.GG2 q.val : ℝ) : EReal) :=
  downRows_at _ (fun r q => A.dy r q * xh A.Z2 r q) (fun r q => by
    pointwise
    rw [v70 V0 A h, v77 V0 A h, ← EReal.coe_mul, mul_comm]) o q

include h in
theorem gb2_ref (o : Fin 1) (q : Fin 1024) : downRows (V0 (Proc.devRef .tc main_arg9)) (ix2 o q) = ((A.GB2 q.val : ℝ) : EReal) :=
  downRows_at _ A.dy h.dy o q

include h in
theorem gg1_ref (o : Fin 1) (q : Fin 1024) : downRows (mulf (F := Ideal) (φ := .f32) (res_main_v30 V0) (res_main_v121 V0)) (ix2 o q) = ((A.GG1 q.val : ℝ) : EReal) :=
  downRows_at _ (fun r q => A.DH r q * xh A.Z1 r q) (fun r q => by
    pointwise
    rw [v30 V0 A h, v121 V0 A h, ← EReal.coe_mul, mul_comm]) o q

include h in
theorem gb1_ref (o : Fin 1) (q : Fin 1024) : downRows (res_main_v121 V0) (ix2 o q) = ((A.GB1 q.val : ℝ) : EReal) :=
  downRows_at _ A.DH (v121 V0 A h) o q

include h in
/-- The gradient of the mixed heads. -/
theorem dm_ref (r : Fin 2048) (q : Fin 1024) :
    Host.dotGeneral (φ₁ := .f32) (φ₂ := .f32) dot_S2048x1024_S1024x1024_S2048x1024_1_1_0_0_n_n none (res_main_v154 V0) (V0 (Proc.devRef .tc main_arg2)) (ix2 r q)
      = ((A.DM r.val q.val : ℝ) : EReal) := by
  pointwise
  simp only [v154 V0 A h, h.wo, ← EReal.coe_mul, ← coe_sum]; rfl

end Cert.MlpRef
end
-- ==== Proof.MlpHost.lean ====
/- What the feed-forward layer's backward call is handed: the forward pass's arrays, which the lines before it compute, as functions
   of the arguments, and from numbers as the forward pass of `MlpMath`. -/
module

public import proofs.«01_k».proof.Proof.MlpBlock
public import proofs.«01_k».proof.Proof.MlpRef
public import Idealize.ShloMosaic.Lib.Claim

@[expose] public section

set_option maxRecDepth 16384
set_option maxHeartbeats 2000000

noncomputable section

namespace Cert.Mlp

open Cert.MlpGradIdeal Cert.MlpGradIdeal.Gen
open Idealize.ShloMosaic Idealize.ShloMosaic.TcCoe Idealize.ShloMosaic.Tactic
open Cert.Gelu Cert.MlpMath
open Cert.SguMath (coe_sum)
open Cert.MlpRef (mean_host sg_host)

section arrays
/-- A row's mean, one over its deviation, and the normalised rows. -/
def meanH (z : FVec Ideal S2048x1024 .f32) : FVec Ideal S2048x1 .f32 :=
  Host.divf (broadcastInDim S2048x1 ![0] bcast_S2048_S2048x1_0 (Host.reduceAdd z (constant S_ .f32 0x00000000#32) reducesTo_S2048x1024_S2048_d1 h_S_))
    (broadcastInDim S2048x1 ![] bcast_S_S2048x1 (constant S_ .f32 0x44800000#32))
def cenH (z : FVec Ideal S2048x1024 .f32) : FVec Ideal S2048x1024 .f32 :=
  subf z (broadcastInDim S2048x1024 ![0, 1] bcast_S2048x1_S2048x1024_0_1 (meanH z))
def rstdH (z : FVec Ideal S2048x1024 .f32) : FVec Ideal S2048x1 .f32 :=
  Host.rsqrt (addf (meanH (mulf (cenH z) (cenH z))) (broadcastInDim S2048x1 ![] bcast_S_S2048x1 (constant S_ .f32 0x3727C5AC#32)))
def xhH (z : FVec Ideal S2048x1024 .f32) : FVec Ideal S2048x1024 .f32 :=
  mulf (cenH z) (broadcastInDim S2048x1024 ![0, 1] bcast_S2048x1_S2048x1024_0_1 (rstdH z))

variable (mix x : FVec Ideal S2048x1024 .f32) (wo : FVec Ideal S1024x1024 .f32) (g1 b1 : FVec Ideal S1024 .f32)
  (wgu : FVec Ideal S1024x5632 .f32) (wd : FVec Ideal S2816x1024 .f32)

/-- The residual's factor at every entry. -/
def alphaH : FVec Ideal S2048x1024 .f32 := broadcastInDim S2048x1024 ![] bcast_S_S2048x1024 (constant S_ .f32 0x3FD744FD#32)
/-- A row under every row. -/
def rowH (g : FVec Ideal S1024 .f32) : FVec Ideal S2048x1024 .f32 :=
  broadcastInDim S2048x1024 ![0, 1] bcast_S1x1024_S2048x1024_0_1 (broadcastInDim S1x1024 ![1] bcast_S1024_S1x1024_1 g)
/-- The rows before the first norm, after it, the gated unit's inputs, its activation, and the rows before the second norm. -/
def z1H : FVec Ideal S2048x1024 .f32 := addf (mulf alphaH x) (Host.dotGeneral dot_S2048x1024_S1024x1024_S2048x1024_1_0_0_1_n_n none mix wo)
def hidH : FVec Ideal S2048x1024 .f32 := addf (mulf (xhH (z1H mix x wo)) (rowH g1)) (rowH b1)
def guH : FVec Ideal S2048x5632 .f32 := Host.dotGeneral dot_S2048x1024_S1024x5632_S2048x5632_1_0_0_1_n_n none (hidH mix x wo g1 b1) wgu
def siluH (a : FVec Ideal S2048x2816 .f32) : FVec Ideal S2048x2816 .f32 :=
  mulf a (Host.divf (broadcastInDim S2048x2816 ![] bcast_S_S2048x2816 (constant S_ .f32 0x3F800000#32))
    (addf (broadcastInDim S2048x2816 ![] bcast_S_S2048x2816 (constant S_ .f32 0x3F800000#32)) (Host.exp (Host.negf a))))
def actH (gu : FVec Ideal S2048x5632 .f32) : FVec Ideal S2048x2816 .f32 :=
  mulf (siluH (extractStridedSlice S2048x2816 ![0, 0] gu slices_S2048x5632_S2048x2816_0_0)) (extractStridedSlice S2048x2816 ![0, 2816] gu slices_S2048x5632_S2048x2816_0_2816)
def z2H : FVec Ideal S2048x1024 .f32 :=
  addf (mulf alphaH (hidH mix x wo g1 b1)) (Host.dotGeneral dot_S2048x2816_S2816x1024_S2048x1024_1_0_0_1_n_n none (actH (guH mix x wo g1 b1 wgu)) wd)
end arrays

/-! ## From numbers -/
section numbers
variable (z : FVec Ideal S2048x1024 .f32) (a : ℕ → ℕ → ℝ) (hz : ∀ (r : Fin 2048) (q : Fin 1024), z (ix2 r q) = ((a r.val q.val : ℝ) : EReal))

include hz in
theorem meanH_at (r : Fin 2048) (o : Fin 1) : meanH z (ix2 r o) = ((rm a r.val : ℝ) : EReal) := by
  pointwise [meanH]
  simp only [hz]
  exact mean_host _

include hz in
theorem cenH_at (r : Fin 2048) (q : Fin 1024) : cenH z (ix2 r q) = ((cen a r.val q.val : ℝ) : EReal) := by
  pointwise [cenH]
  rw [hz, meanH_at z a hz, ← EReal.coe_sub]; rfl

include hz in
theorem rstdH_at (r : Fin 2048) (o : Fin 1) : rstdH z (ix2 r o) = ((rstd a r.val : ℝ) : EReal) := by
  have hm := meanH_at (mulf (cenH z) (cenH z)) (fun r q => cen a r q * cen a r q) (fun r q => by
    pointwise; rw [cenH_at z a hz, ← EReal.coe_mul]) r o
  pointwise [rstdH]
  rw [hm, word_eps, ← EReal.coe_add]
  exact rsqrt_vare a r.val

include hz in
theorem xhH_at (r : Fin 2048) (q : Fin 1024) : xhH z (ix2 r q) = ((xh a r.val q.val : ℝ) : EReal) := by
  pointwise [xhH]
  rw [cenH_at z a hz, rstdH_at z a hz, ← EReal.coe_mul]; rfl
end numbers

section args
variable {mix x : FVec Ideal S2048x1024 .f32} {wo : FVec Ideal S1024x1024 .f32} {g1 b1 : FVec Ideal S1024 .f32}
  {wgu : FVec Ideal S1024x5632 .f32} {wd : FVec Ideal S2816x1024 .f32} (A : Args)
  (hmix : ∀ (r : Fin 2048) (q : Fin 1024), mix (ix2 r q) = ((A.mix r.val q.val : ℝ) : EReal))
  (hx : ∀ (r : Fin 2048) (q : Fin 1024), x (ix2 r q) = ((A.x r.val q.val : ℝ) : EReal))
  (hwo : ∀ (r : Fin 1024) (q : Fin 1024), wo (ix2 r q) = ((A.wo r.val q.val : ℝ) : EReal))
  (hg1 : ∀ q : Fin 1024, g1 (ix1 q) = ((A.g1 q.val : ℝ) : EReal))
  (hb1 : ∀ q : Fin 1024, b1 (ix1 q) = ((A.b1 q.val : ℝ) : EReal))
  (hwgu : ∀ (r : Fin 1024) (q : Fin 5632), wgu (ix2 r q) = ((A.wgu r.val q.val : ℝ) : EReal))
  (hwd : ∀ (r : Fin 2816) (q : Fin 1024), wd (ix2 r q) = ((A.wd r.val q.val : ℝ) : EReal))

theorem rowH_at (g : FVec Ideal S1024 .f32) (r : Fin 2048) (q : Fin 1024) : rowH g (ix2 r q) = g (ix1 q) := by
  pointwise [rowH]

theorem alphaH_at (r : Fin 2048) (q : Fin 1024) : alphaH (ix2 r q) = ((alpha : ℝ) : EReal) := by
  pointwise [alphaH]; exact word_alpha

include hmix hx hwo in
theorem z1H_at (r : Fin 2048) (q : Fin 1024) : z1H mix x wo (ix2 r q) = ((A.Z1 r.val q.val : ℝ) : EReal) := by
  pointwise [z1H]
  simp only [alphaH_at, hx, hmix, hwo, ← EReal.coe_mul, ← coe_sum, ← EReal.coe_add]; rfl

include hmix hx hwo hg1 hb1 in
theorem hidH_at (r : Fin 2048) (q : Fin 1024) : hidH mix x wo g1 b1 (ix2 r q) = ((A.H r.val q.val : ℝ) : EReal) := by
  pointwise [hidH]
  rw [xhH_at _ _ (z1H_at A hmix hx hwo), rowH_at, rowH_at, hg1, hb1, ← EReal.coe_mul, ← EReal.coe_add]; rfl

include hmix hx hwo hg1 hb1 hwgu in
theorem guH_at (r : Fin 2048) (q : Fin 5632) : guH mix x wo g1 b1 wgu (ix2 r q) = ((A.G r.val q.val : ℝ) : EReal) := by
  pointwise [guH]
  simp only [hidH_at A hmix hx hwo hg1 hb1, hwgu, ← EReal.coe_mul, ← coe_sum]; rfl

theorem actH_at (gu : FVec Ideal S2048x5632 .f32) (G : ℕ → ℕ → ℝ) (h : ∀ (r : Fin 2048) (q : Fin 5632), gu (ix2 r q) = ((G r.val q.val : ℝ) : EReal))
    (r : Fin 2048) (q : Fin 2816) : actH gu (ix2 r q) = ((act G r.val q.val : ℝ) : EReal) := by
  pointwise [actH, siluH]
  rw [h, h, sg_host, ← EReal.coe_mul, ← EReal.coe_mul]; rfl

include hmix hx hwo hg1 hb1 hwgu hwd in
theorem z2H_at (r : Fin 2048) (q : Fin 1024) : z2H mix x wo g1 b1 wgu wd (ix2 r q) = ((A.Z2 r.val q.val : ℝ) : EReal) := by
  pointwise [z2H]
  simp only [alphaH_at, hidH_at A hmix hx hwo hg1 hb1, hwd, actH_at _ _ (guH_at A hmix hx hwo hg1 hb1 hwgu), ← EReal.coe_mul, ← coe_sum, ← EReal.coe_add]; rfl
end args

section reads
variable (m : (ℓ : Loc nD τ sig) → Buf (Elt Ideal) ℓ) (c : Dev nD)

theorem V17 : V m c main_v17 = rstdH (z1H (m ((c : Thread nD τ).loc main_arg0)) (m ((c : Thread nD τ).loc main_arg1)) (m ((c : Thread nD τ).loc main_arg2))) := rfl
theorem V21 : V m c main_v21 = xhH (z1H (m ((c : Thread nD τ).loc main_arg0)) (m ((c : Thread nD τ).loc main_arg1)) (m ((c : Thread nD τ).loc main_arg2))) := rfl
theorem V28 : V m c main_v28 = guH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := rfl
theorem V50 : V m c main_v50 = rstdH (z2H (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := rfl
theorem V54 : V m c main_v54 = xhH (z2H (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := rfl

theorem V55 : V m c main_v55 = broadcastInDim S1x1024 ![1] bcast_S1024_S1x1024_1 (m ((c : Thread nD τ).loc main_arg7) : FVec Ideal S1024 .f32) := rfl
theorem V58 : V m c main_v58 = broadcastInDim S1x1024 ![1] bcast_S1024_S1x1024_1 (m ((c : Thread nD τ).loc main_arg3) : FVec Ideal S1024 .f32) := rfl
theorem V56 : (V m c main_v56 : S1024x5632.Idx → EReal) = (m ((c : Thread nD τ).loc main_arg5) : S1024x5632.Idx → EReal) := rfl
theorem V57 : (V m c main_v57 : S2816x1024.Idx → EReal) = (m ((c : Thread nD τ).loc main_arg6) : S2816x1024.Idx → EReal) := rfl
theorem V59 : (V m c main_v59 : S1024x1024.Idx → EReal) = (m ((c : Thread nD τ).loc main_arg2) : S1024x1024.Idx → EReal) := rfl
end reads

end Cert.Mlp
end
-- ==== Proof.MlpFrame.lean ====
/- The frame of the feed-forward layer's backward call: the pipeline's data from `body_run`, its launch, and the same for the words. -/
module

public import proofs.«01_k».proof.Proof.MlpRun
public import proofs.«01_k».proof.Proof.Gen.MlpGrad
public import proofs.«01_k».proof.Defs
public import Idealize.ShloMosaic.Lib.Claim

@[expose] public section

set_option maxRecDepth 16384

noncomputable section

namespace Cert.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.MlpGradIdeal Cert.MlpGradIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Point `n` of the grid. -/
def pt (n : ℕ) : Fin cfg0.N := ⟨n % 8, Nat.lt_of_lt_of_eq (Nat.mod_lt _ (by decide)) (show 8 = cfg0.N from N_0.symm)⟩

theorem pt_val (t : Fin cfg0.N) : pt t.val = t :=
  Fin.ext (Nat.mod_eq_of_lt (Nat.lt_of_lt_of_eq t.isLt (show cfg0.N = 8 from N_0)))

/-- A sum that runs over the points: `f t p` is its value after point `t` if it was `p` before. -/
def sumK (f : Fin cfg0.N → Vec F S1x1024 .f32 → Vec F S1x1024 .f32) : ℕ → Vec F S1x1024 .f32
  | 0 => f (pt 0) k0_pay4
  | n + 1 => f (pt (n + 1)) (sumK f n)

/-- What the body leaves of a running sum is its value after the point. -/
theorem sumK_step (f : Fin cfg0.N → Vec F S1x1024 .f32 → Vec F S1x1024 .f32) (t : Fin cfg0.N) (p : Vec F S1x1024 .f32)
    (hp : t.val ≠ 0 → p = sumK f (t.val - 1)) : f t (start (grid0.coords t) p) = sumK f t.val := by
  have hN : t.val < 8 := Nat.lt_of_lt_of_eq t.isLt (show cfg0.N = 8 from N_0)
  unfold start
  by_cases h : t.val = 0
  · rw [if_pos ((hcond0_0 t).mpr (by omega)), h]
    exact congrFun (congrArg f ((pt_val t).symm.trans (congrArg pt h))) k0_pay4
  · rw [if_neg (fun hc => h (by have := (hcond0_0 t).mp hc; omega)), hp h]
    obtain ⟨n, hn⟩ := Nat.exists_eq_succ_of_ne_zero h
    rw [hn]
    exact congrFun (congrArg f ((pt_val t).symm.trans (congrArg pt hn))) _

/-- The four running sums' steps, from the blocks of a point. -/
def gg2S (c : Dev nD) (t : Fin cfg0.N) (p : Vec F S1x1024 .f32) : Vec F S1x1024 .f32 := gg2C (iblk m c 0 t) (iblk m c 1 t) p
def gb2S (c : Dev nD) (t : Fin cfg0.N) (p : Vec F S1x1024 .f32) : Vec F S1x1024 .f32 := gb2C (iblk m c 0 t) p
def gg1S (c : Dev nD) (t : Fin cfg0.N) (p : Vec F S1x1024 .f32) : Vec F S1x1024 .f32 :=
  gg1C (iblk m c 0 t) (iblk m c 1 t) (iblk m c 2 t) (iblk m c 3 t) (iblk m c 4 t) (iblk m c 5 t) (iblk m c 6 t) (iblk m c 7 t) p
def gb1S (c : Dev nD) (t : Fin cfg0.N) (p : Vec F S1x1024 .f32) : Vec F S1x1024 .f32 :=
  gb1C (iblk m c 0 t) (iblk m c 1 t) (iblk m c 2 t) (iblk m c 3 t) (iblk m c 4 t) (iblk m c 5 t) (iblk m c 6 t) p

/-- The pipeline's data: after a point every input's buffer holds its block still, every output's what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out11 (iblk m c 0 t) (iblk m c 1 t) (iblk m c 2 t) (iblk m c 3 t)
    | ⟨12, _⟩ => out12 (iblk m c 4 t)
    | ⟨13, _⟩ => out13 (iblk m c 0 t) (iblk m c 1 t) (iblk m c 2 t) (iblk m c 3 t) (iblk m c 4 t) (iblk m c 6 t)
    | ⟨14, _⟩ => out14 (iblk m c 0 t) (iblk m c 1 t) (iblk m c 2 t) (iblk m c 3 t) (iblk m c 4 t) (iblk m c 5 t) (iblk m c 6 t) (iblk m c 7 t) (iblk m c 8 t) (iblk m c 9 t)
    | ⟨15, _⟩ => out15 (iblk m c 0 t) (iblk m c 1 t) (iblk m c 2 t) (iblk m c 3 t) (iblk m c 4 t) (iblk m c 5 t) (iblk m c 6 t) (iblk m c 7 t) (iblk m c 8 t) (iblk m c 9 t)
    | ⟨16, _⟩ => out16 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨17, _⟩ => sumK (gg2S m c) t.val
    | ⟨18, _⟩ => sumK (gb2S m c) t.val
    | ⟨19, _⟩ => sumK (gg1S m c) t.val
    | ⟨20, _⟩ => sumK (gb1S m c) t.val
    | ⟨_ + 21, h⟩ => absurd h (Nat.not_lt.2 (Nat.le_add_left _ _))
  Φ _ := Pipeline.ΦA spec0 c
  q _ := fullShare
  owed _ := 0

theorem dats_A (c : Dev nD) (w : Fin cfg0.W) : (dats m 0 c).A w = V m c (Pipeline.arrRef spec0 w) := by
  dsimp only [dats]

/-- Before the body an input's buffer holds its block. -/
theorem found0 (c : Dev nD) (t : Fin cfg0.N) (d) : (dats m 0 c).before 0 t d = iblk m c 0 t :=
  before0_0_of m (dats m 0 c) (dats_A m c 0) (fun _ => by dsimp only [dats]) t d
theorem found1 (c : Dev nD) (t : Fin cfg0.N) (d) : (dats m 0 c).before 1 t d = iblk m c 1 t :=
  before0_1_of m (dats m 0 c) (dats_A m c 1) (fun _ => by dsimp only [dats]) t d
theorem found2 (c : Dev nD) (t : Fin cfg0.N) (d) : (dats m 0 c).before 2 t d = iblk m c 2 t :=
  before0_2_of m (dats m 0 c) (dats_A m c 2) (fun _ => by dsimp only [dats]) t d
theorem found3 (c : Dev nD) (t : Fin cfg0.N) (d) : (dats m 0 c).before 3 t d = iblk m c 3 t :=
  before0_3_of m (dats m 0 c) (dats_A m c 3) (fun _ => by dsimp only [dats]) t d
theorem found4 (c : Dev nD) (t : Fin cfg0.N) (d) : (dats m 0 c).before 4 t d = iblk m c 4 t :=
  before0_4_of m (dats m 0 c) (dats_A m c 4) (fun _ => by dsimp only [dats]) t d
theorem found5 (c : Dev nD) (t : Fin cfg0.N) (d) : (dats m 0 c).before 5 t d = iblk m c 5 t :=
  before0_5_of m (dats m 0 c) (dats_A m c 5) (fun _ => by dsimp only [dats]) t d
theorem found6 (c : Dev nD) (t : Fin cfg0.N) (d) : (dats m 0 c).before 6 t d = iblk m c 6 t :=
  before0_6_of m (dats m 0 c) (dats_A m c 6) (fun _ => by dsimp only [dats]) t d
theorem found7 (c : Dev nD) (t : Fin cfg0.N) (d) : (dats m 0 c).before 7 t d = iblk m c 7 t :=
  before0_7_of m (dats m 0 c) (dats_A m c 7) (fun _ => by dsimp only [dats]) t d
theorem found8 (c : Dev nD) (t : Fin cfg0.N) (d) : (dats m 0 c).before 8 t d = iblk m c 8 t :=
  before0_8_of m (dats m 0 c) (dats_A m c 8) (fun _ => by dsimp only [dats]) t d
theorem found9 (c : Dev nD) (t : Fin cfg0.N) (d) : (dats m 0 c).before 9 t d = iblk m c 9 t :=
  before0_9_of m (dats m 0 c) (dats_A m c 9) (fun _ => by dsimp only [dats]) t d
theorem found10 (c : Dev nD) (t : Fin cfg0.N) (d) : (dats m 0 c).before 10 t d = iblk m c 10 t :=
  before0_10_of m (dats m 0 c) (dats_A m c 10) (fun _ => by dsimp only [dats]) t d

/-- What the body leaves of a running sum, from what it found in the buffer: the buffer was not written back since the point before. -/
theorem left17 (c : Dev nD) (t : Fin cfg0.N) (d) : gg2S m c t (start (grid0.coords t) ((dats m 0 c).before 17 t d)) = sumK (gg2S m c) t.val := by
  have hN : t.val < 8 := Nat.lt_of_lt_of_eq t.isLt (show cfg0.N = 8 from N_0)
  refine sumK_step _ t _ fun h0 => ?_
  rw [Dat.before_out_kept _ 17 rfl t (by omega) (Bool.eq_false_iff.mpr fun h => by have := (flush0_17 _).mp h; dsimp only at this; omega)
    (fun _ => rfl) (fun _ _ => rfl)]
  dsimp only [dats]
theorem left18 (c : Dev nD) (t : Fin cfg0.N) (d) : gb2S m c t (start (grid0.coords t) ((dats m 0 c).before 18 t d)) = sumK (gb2S m c) t.val := by
  have hN : t.val < 8 := Nat.lt_of_lt_of_eq t.isLt (show cfg0.N = 8 from N_0)
  refine sumK_step _ t _ fun h0 => ?_
  rw [Dat.before_out_kept _ 18 rfl t (by omega) (Bool.eq_false_iff.mpr fun h => by have := (flush0_18 _).mp h; dsimp only at this; omega)
    (fun _ => rfl) (fun _ _ => rfl)]
  dsimp only [dats]
theorem left19 (c : Dev nD) (t : Fin cfg0.N) (d) : gg1S m c t (start (grid0.coords t) ((dats m 0 c).before 19 t d)) = sumK (gg1S m c) t.val := by
  have hN : t.val < 8 := Nat.lt_of_lt_of_eq t.isLt (show cfg0.N = 8 from N_0)
  refine sumK_step _ t _ fun h0 => ?_
  rw [Dat.before_out_kept _ 19 rfl t (by omega) (Bool.eq_false_iff.mpr fun h => by have := (flush0_19 _).mp h; dsimp only at this; omega)
    (fun _ => rfl) (fun _ _ => rfl)]
  dsimp only [dats]
theorem left20 (c : Dev nD) (t : Fin cfg0.N) (d) : gb1S m c t (start (grid0.coords t) ((dats m 0 c).before 20 t d)) = sumK (gb1S m c) t.val := by
  have hN : t.val < 8 := Nat.lt_of_lt_of_eq t.isLt (show cfg0.N = 8 from N_0)
  refine sumK_step _ t _ fun h0 => ?_
  rw [Dat.before_out_kept _ 20 rfl t (by omega) (Bool.eq_false_iff.mpr fun h => by have := (flush0_20 _).mp h; dsimp only at this; omega)
    (fun _ => rfl) (fun _ _ => rfl)]
  dsimp only [dats]

set_option maxHeartbeats 3200000 in
/-- The body at a point, with the buffers as the pipeline hands them over and takes them back. -/
theorem body_sound (c : Dev nD) (t : Fin cfg0.N) :
    iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d)) : sProp 𝕄)
      ⊢ wp frame (wpE (defs₀ (F := F)) Variants.none c none) Set.univ (bodyAt0 t) (fun _ =>
    iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t))) := by
  unfold bodyAt0
  simp only [found0, found1, found2, found3, found4, found5, found6, found7, found8, found9, found10]
  rw [show (dats m 0 c).Φ t.succ = (dats m 0 c).Φ t.castSucc from rfl,
    show (dats m 0 c).owesAt () t.succ = (dats m 0 c).owesAt () t.castSucc from rfl]
  rw [show (dats m 0 c).after 0 t = iblk m c 0 t from by dsimp only [dats]]
  rw [show (dats m 0 c).after 1 t = iblk m c 1 t from by dsimp only [dats]]
  rw [show (dats m 0 c).after 2 t = iblk m c 2 t from by dsimp only [dats]]
  rw [show (dats m 0 c).after 3 t = iblk m c 3 t from by dsimp only [dats]]
  rw [show (dats m 0 c).after 4 t = iblk m c 4 t from by dsimp only [dats]]
  rw [show (dats m 0 c).after 5 t = iblk m c 5 t from by dsimp only [dats]]
  rw [show (dats m 0 c).after 6 t = iblk m c 6 t from by dsimp only [dats]]
  rw [show (dats m 0 c).after 7 t = iblk m c 7 t from by dsimp only [dats]]
  rw [show (dats m 0 c).after 8 t = iblk m c 8 t from by dsimp only [dats]]
  rw [show (dats m 0 c).after 9 t = iblk m c 9 t from by dsimp only [dats]]
  rw [show (dats m 0 c).after 10 t = iblk m c 10 t from by dsimp only [dats]]
  rw [show (dats m 0 c).after 11 t = out11 (iblk m c 0 t) (iblk m c 1 t) (iblk m c 2 t) (iblk m c 3 t) from by dsimp only [dats]]
  rw [show (dats m 0 c).after 12 t = out12 (iblk m c 4 t) from by dsimp only [dats]]
  rw [show (dats m 0 c).after 13 t = out13 (iblk m c 0 t) (iblk m c 1 t) (iblk m c 2 t) (iblk m c 3 t) (iblk m c 4 t) (iblk m c 6 t) from by dsimp only [dats]]
  rw [show (dats m 0 c).after 14 t = out14 (iblk m c 0 t) (iblk m c 1 t) (iblk m c 2 t) (iblk m c 3 t) (iblk m c 4 t) (iblk m c 5 t) (iblk m c 6 t) (iblk m c 7 t) (iblk m c 8 t) (iblk m c 9 t) from by dsimp only [dats]]
  rw [show (dats m 0 c).after 15 t = out15 (iblk m c 0 t) (iblk m c 1 t) (iblk m c 2 t) (iblk m c 3 t) (iblk m c 4 t) (iblk m c 5 t) (iblk m c 6 t) (iblk m c 7 t) (iblk m c 8 t) (iblk m c 9 t) from by dsimp only [dats]]
  rw [show (dats m 0 c).after 16 t = out16 (iblk m c 0 t) (iblk m c 1 t) (iblk m c 2 t) (iblk m c 3 t) (iblk m c 4 t) (iblk m c 5 t) (iblk m c 6 t) (iblk m c 7 t) (iblk m c 8 t) (iblk m c 9 t) (iblk m c 10 t) from by dsimp only [dats]]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  rw [show (dats m 0 c).after 17 t = _ from (show (dats m 0 c).after 17 t = sumK (gg2S m c) t.val from by dsimp only [dats]).trans (left17 m c t d17).symm]
  rw [show (dats m 0 c).after 18 t = _ from (show (dats m 0 c).after 18 t = sumK (gb2S m c) t.val from by dsimp only [dats]).trans (left18 m c t d18).symm]
  rw [show (dats m 0 c).after 19 t = _ from (show (dats m 0 c).after 19 t = sumK (gg1S m c) t.val from by dsimp only [dats]).trans (left19 m c t d19).symm]
  rw [show (dats m 0 c).after 20 t = _ from (show (dats m 0 c).after 20 t = sumK (gb1S m c) t.val from by dsimp only [dats]).trans (left20 m c t d20).symm]
  iapply (body_run c (grid0.coords t) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) ((dats m 0 c).before 17 t d17) ((dats m 0 c).before 18 t d18) ((dats m 0 c).before 19 t d19) ((dats m 0 c).before 20 t d20) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexact H17
  isplitl [H18]; · iexact H18
  isplitl [H19]; · iexact H19
  isplitl [H20]; · iexact H20
  iintro H
  isplitl [HΦ]; · iexact HΦ
  isplitl [Ho]; · iexact Ho
  iexact H

/-- The body table's row at a point is the body at that point's buffers. -/
theorem row (t : Fin cfg0.N) : defs₀ (F := F) .tc cfg0.body (cfg0.bodyArgs t (cfg0.slots t)) = bodyAt0 t := by
  unfold defs₀; rw [Defs.onTc_tc]

set_option maxHeartbeats 4000000 in
theorem obligation (c : Dev nD) : BodyObligation (dats (F := F) m 0 c) (defs₀ (F := F)) Variants.none () Set.univ := fun t => by
  rw [bigSep_W0, bigSep_W0, row]
  exact triple_restated (body_sound m c t) rfl .rfl fun _ => .rfl

set_option backward.isDefEq.respectTransparency.types false in
/-- The launch: every run ends, with the pipeline's arrays as its data say and every counter at zero. -/
theorem launch : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := dats_A m) (hΦ := fun _ _ => rfl)

theorem run : θ_run defs (onTc (τ := τ) (main (F := F))) (s₀ m ρ) (Pipeline.FramePost cfgs (dats m) 0 (V m)) :=
  (θ_run defs _ _).mono (fun _ h => h.1) (launch m ρ)

/-- The frame at any values: the arguments end as they began, the counters at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m) (dats_A m) (run m ρ)) ((θ_run defs _ _).mono (fun _ h => h.2) (launch m ρ))

set_option maxHeartbeats 8000000 in
/-- The word program runs the same bodies. -/
theorem bodies_eq : Cert.MlpGrad.defs₀ (F := Bits) = Cert.MlpGradIdeal.defs₀ (F := Bits) := by
  unfold Cert.MlpGrad.defs₀ Cert.MlpGradIdeal.defs₀
  refine congrArg _ (funext fun l => ?_)
  match l with
  | ⟨0, _⟩ => exact funext fun x => rfl

set_option maxHeartbeats 8000000 in
theorem frame : Cert.quiescent_MlpGrad := fun m ρ _ => by
  have h := frame_any (F := Bits) m ρ
  have e := bodies_eq
  unfold Cert.MlpGrad.defs Cert.MlpGradIdeal.defs at *
  rw [e]; exact h

end Cert.Mlp

end
-- ==== Proof.MlpValue.lean ====
/- What the feed-forward layer's backward call leaves in its results, from arguments that are arrays of numbers: the gradients of
   `MlpMath`. -/
module

public import proofs.«01_k».proof.Proof.MlpHost
public import proofs.«01_k».proof.Proof.MlpFrame

@[expose] public section

set_option maxRecDepth 16384
set_option maxHeartbeats 1000000

noncomputable section

namespace Cert.Mlp

open Cert.MlpGradIdeal Cert.MlpGradIdeal.Gen
open Idealize.ShloMosaic Idealize.ShloMosaic.TcCoe Idealize.ShloMosaic.Tactic
open Cert.Gelu Cert.MlpMath
open Cert.SguMath (coe_sum)

/-- Where each operand's block lies: the blocks of rows follow the points, the others are whole. -/
theorem idx : ∀ t : Fin cfg0.N, win0_0.index t = ![t.val, 0]
    ∧ win0_1.index t = ![t.val, 0]
    ∧ win0_2.index t = ![t.val, 0]
    ∧ win0_3.index t = ![0, 0]
    ∧ win0_4.index t = ![t.val, 0]
    ∧ win0_5.index t = ![0, 0]
    ∧ win0_6.index t = ![0, 0]
    ∧ win0_7.index t = ![t.val, 0]
    ∧ win0_8.index t = ![t.val, 0]
    ∧ win0_9.index t = ![0, 0]
    ∧ win0_10.index t = ![0, 0]
    ∧ win0_11.index t = ![t.val, 0]
    ∧ win0_12.index t = ![t.val, 0]
    ∧ win0_13.index t = ![t.val, 0]
    ∧ win0_14.index t = ![t.val, 0]
    ∧ win0_15.index t = ![t.val, 0]
    ∧ win0_16.index t = ![t.val, 0]
    ∧ win0_17.index t = ![0, 0]
    ∧ win0_18.index t = ![0, 0]
    ∧ win0_19.index t = ![0, 0]
    ∧ win0_20.index t = ![0, 0] :=
  (by decide +kernel : ∀ t : Fin grid0.N, _)

/-- The kernel's arguments are the numbers `A`. -/
structure Starts (m : (ℓ : Loc nD τ sig) → Buf (Elt Ideal) ℓ) (c : Dev nD) (A : Args) : Prop where
  mix : ∀ (r : Fin 2048) (q : Fin 1024), m ((c : Thread nD τ).loc main_arg0) (ix2 r q) = ((A.mix r.val q.val : ℝ) : EReal)
  x : ∀ (r : Fin 2048) (q : Fin 1024), m ((c : Thread nD τ).loc main_arg1) (ix2 r q) = ((A.x r.val q.val : ℝ) : EReal)
  wo : ∀ (r : Fin 1024) (q : Fin 1024), m ((c : Thread nD τ).loc main_arg2) (ix2 r q) = ((A.wo r.val q.val : ℝ) : EReal)
  g1 : ∀ q : Fin 1024, m ((c : Thread nD τ).loc main_arg3) (ix1 q) = ((A.g1 q.val : ℝ) : EReal)
  b1 : ∀ q : Fin 1024, m ((c : Thread nD τ).loc main_arg4) (ix1 q) = ((A.b1 q.val : ℝ) : EReal)
  wgu : ∀ (r : Fin 1024) (q : Fin 5632), m ((c : Thread nD τ).loc main_arg5) (ix2 r q) = ((A.wgu r.val q.val : ℝ) : EReal)
  wd : ∀ (r : Fin 2816) (q : Fin 1024), m ((c : Thread nD τ).loc main_arg6) (ix2 r q) = ((A.wd r.val q.val : ℝ) : EReal)
  g2 : ∀ q : Fin 1024, m ((c : Thread nD τ).loc main_arg7) (ix1 q) = ((A.g2 q.val : ℝ) : EReal)
  dy : ∀ (r : Fin 2048) (q : Fin 1024), m ((c : Thread nD τ).loc main_arg9) (ix2 r q) = ((A.dy r.val q.val : ℝ) : EReal)

/-- Row `x` of the block of point `t`. -/
def rowAt (t : Fin cfg0.N) (x : Fin 256) : Fin 2048 := ⟨256 * t.val + x.val, by have := lt_of_lt_of_eq t.isLt N_0; omega⟩
theorem rowAt_val (t : Fin cfg0.N) (x : Fin 256) : (rowAt t x).val = 256 * t.val + x.val := rfl

variable (m : (ℓ : Loc nD τ sig) → Buf (Elt Ideal) ℓ) (c : Dev nD) (A : Args) (t : Fin cfg0.N)

section embeddings
theorem emb0 (r : Fin 256) (q : Fin 1024) : ((cfg0.win 0).blk t).view.emb (ix2 r q) = ix2 (rowAt t r) q := by
  unfold rowAt; blk_ext [idx t]
theorem emb1 (r : Fin 256) (q : Fin 1024) : ((cfg0.win 1).blk t).view.emb (ix2 r q) = ix2 (rowAt t r) q := by
  unfold rowAt; blk_ext [idx t]
theorem emb2 (r : Fin 256) (q : Fin 1) : ((cfg0.win 2).blk t).view.emb (ix2 r q) = ix2 (rowAt t r) q := by
  unfold rowAt; blk_ext [idx t]
theorem emb3 (r : Fin 1) (q : Fin 1024) : ((cfg0.win 3).blk t).view.emb (ix2 r q) = ix2 r q := by
  blk_ext [idx t]
theorem emb4 (r : Fin 256) (q : Fin 5632) : ((cfg0.win 4).blk t).view.emb (ix2 r q) = ix2 (rowAt t r) q := by
  unfold rowAt; blk_ext [idx t]
theorem emb5 (r : Fin 1024) (q : Fin 5632) : ((cfg0.win 5).blk t).view.emb (ix2 r q) = ix2 r q := by
  blk_ext [idx t]
theorem emb6 (r : Fin 2816) (q : Fin 1024) : ((cfg0.win 6).blk t).view.emb (ix2 r q) = ix2 r q := by
  blk_ext [idx t]
theorem emb7 (r : Fin 256) (q : Fin 1024) : ((cfg0.win 7).blk t).view.emb (ix2 r q) = ix2 (rowAt t r) q := by
  unfold rowAt; blk_ext [idx t]
theorem emb8 (r : Fin 256) (q : Fin 1) : ((cfg0.win 8).blk t).view.emb (ix2 r q) = ix2 (rowAt t r) q := by
  unfold rowAt; blk_ext [idx t]
theorem emb9 (r : Fin 1) (q : Fin 1024) : ((cfg0.win 9).blk t).view.emb (ix2 r q) = ix2 r q := by
  blk_ext [idx t]
theorem emb10 (r : Fin 1024) (q : Fin 1024) : ((cfg0.win 10).blk t).view.emb (ix2 r q) = ix2 r q := by
  blk_ext [idx t]
theorem emb11 (r : Fin 256) (q : Fin 1024) : ((cfg0.win 11).blk t).view.emb (ix2 r q) = ix2 (rowAt t r) q := by
  unfold rowAt; blk_ext [idx t]
theorem emb12 (r : Fin 256) (q : Fin 2816) : ((cfg0.win 12).blk t).view.emb (ix2 r q) = ix2 (rowAt t r) q := by
  unfold rowAt; blk_ext [idx t]
theorem emb13 (r : Fin 256) (q : Fin 5632) : ((cfg0.win 13).blk t).view.emb (ix2 r q) = ix2 (rowAt t r) q := by
  unfold rowAt; blk_ext [idx t]
theorem emb14 (r : Fin 256) (q : Fin 1024) : ((cfg0.win 14).blk t).view.emb (ix2 r q) = ix2 (rowAt t r) q := by
  unfold rowAt; blk_ext [idx t]
theorem emb15 (r : Fin 256) (q : Fin 1024) : ((cfg0.win 15).blk t).view.emb (ix2 r q) = ix2 (rowAt t r) q := by
  unfold rowAt; blk_ext [idx t]
theorem emb16 (r : Fin 256) (q : Fin 1024) : ((cfg0.win 16).blk t).view.emb (ix2 r q) = ix2 (rowAt t r) q := by
  unfold rowAt; blk_ext [idx t]
theorem emb17 (r : Fin 1) (q : Fin 1024) : ((cfg0.win 17).blk t).view.emb (ix2 r q) = ix2 r q := by
  blk_ext [idx t]
theorem emb18 (r : Fin 1) (q : Fin 1024) : ((cfg0.win 18).blk t).view.emb (ix2 r q) = ix2 r q := by
  blk_ext [idx t]
theorem emb19 (r : Fin 1) (q : Fin 1024) : ((cfg0.win 19).blk t).view.emb (ix2 r q) = ix2 r q := by
  blk_ext [idx t]
theorem emb20 (r : Fin 1) (q : Fin 1024) : ((cfg0.win 20).blk t).view.emb (ix2 r q) = ix2 r q := by
  blk_ext [idx t]
end embeddings

variable (h : Starts m c A)

/-! ## What a point reads -/
/-- A vector as a row. -/
theorem row_at (g : FVec Ideal S1024 .f32) (o : Fin 1) (q : Fin 1024) : broadcastInDim S1x1024 ![1] bcast_S1024_S1x1024_1 g (ix2 o q) = g (ix1 q) := by
  pointwise

include h in
theorem read0 : iblk m c 0 t = B A.dy t.val := by
  funext y; idx_vars y
  blk_simp [iblk]
  exact (congrArg (V m c main_arg9) (emb0 t y0 y1)).trans ((congrFun (V_main_arg9 m c) _).trans (h.dy (rowAt t y0) y1))

include h in
theorem read1 : iblk m c 1 t = B (xh A.Z2) t.val := by
  funext y; idx_vars y
  blk_simp [iblk]
  exact (congrArg (V m c main_v54) (emb1 t y0 y1)).trans ((congrFun (V54 m c) _).trans (xhH_at _ _ (z2H_at A h.mix h.x h.wo h.g1 h.b1 h.wgu h.wd) (rowAt t y0) y1))

include h in
theorem read2 : iblk m c 2 t = Col (rstd A.Z2) t.val := by
  funext y; idx_vars y
  blk_simp [iblk]
  exact (congrArg (V m c main_v50) (emb2 t y0 y1)).trans ((congrFun (V50 m c) _).trans (rstdH_at _ _ (z2H_at A h.mix h.x h.wo h.g1 h.b1 h.wgu h.wd) (rowAt t y0) y1))

include h in
theorem read3 : iblk m c 3 t = Rw A.g2 := by
  funext y; idx_vars y
  blk_simp [iblk]
  exact (congrArg (V m c main_v55) (emb3 t y0 y1)).trans ((congrFun (V55 m c) _).trans (Eq.trans (row_at _ y0 y1) (h.g2 y1)))

include h in
theorem read4 : iblk m c 4 t = B5 A.G t.val := by
  funext y; idx_vars y
  blk_simp [iblk]
  exact (congrArg (V m c main_v28) (emb4 t y0 y1)).trans ((congrFun (V28 m c) _).trans (guH_at A h.mix h.x h.wo h.g1 h.b1 h.wgu (rowAt t y0) y1))

include h in
theorem read5 : iblk m c 5 t = M5 A.wgu := by
  funext y; idx_vars y
  blk_simp [iblk]
  exact (congrArg (V m c main_v56) (emb5 t y0 y1)).trans ((congrFun (V56 m c) _).trans (h.wgu y0 y1))

include h in
theorem read6 : iblk m c 6 t = M2 A.wd := by
  funext y; idx_vars y
  blk_simp [iblk]
  exact (congrArg (V m c main_v57) (emb6 t y0 y1)).trans ((congrFun (V57 m c) _).trans (h.wd y0 y1))

include h in
theorem read7 : iblk m c 7 t = B (xh A.Z1) t.val := by
  funext y; idx_vars y
  blk_simp [iblk]
  exact (congrArg (V m c main_v21) (emb7 t y0 y1)).trans ((congrFun (V21 m c) _).trans (xhH_at _ _ (z1H_at A h.mix h.x h.wo) (rowAt t y0) y1))

include h in
theorem read8 : iblk m c 8 t = Col (rstd A.Z1) t.val := by
  funext y; idx_vars y
  blk_simp [iblk]
  exact (congrArg (V m c main_v17) (emb8 t y0 y1)).trans ((congrFun (V17 m c) _).trans (rstdH_at _ _ (z1H_at A h.mix h.x h.wo) (rowAt t y0) y1))

include h in
theorem read9 : iblk m c 9 t = Rw A.g1 := by
  funext y; idx_vars y
  blk_simp [iblk]
  exact (congrArg (V m c main_v58) (emb9 t y0 y1)).trans ((congrFun (V58 m c) _).trans (Eq.trans (row_at _ y0 y1) (h.g1 y1)))

include h in
theorem read10 : iblk m c 10 t = M1 A.wo := by
  funext y; idx_vars y
  blk_simp [iblk]
  exact (congrArg (V m c main_v59) (emb10 t y0 y1)).trans ((congrFun (V59 m c) _).trans (h.wo y0 y1))

/-! ## The results -/
def dz2A : FVec Ideal S2048x1024 .bf16 := fun y => ((A.DZ2 (y 0).val (y 1).val : ℝ) : EReal)
theorem dz2A_at (r : Fin 2048) (q : Fin 1024) : dz2A A (ix2 r q) = ((A.DZ2 r.val q.val : ℝ) : EReal) := rfl
include h in
theorem dz2_final : (dats m 0 c).arrAt 11 (cfgs 0).N = dz2A A := by
  refine (dats m 0 c).arrAt_eq_of_covers 11 _ (by decide +kernel) fun t _ y => ?_
  blk_simp
  dsimp only [dats]
  idx_vars y
  rw [read0 m c A t h, read1 m c A t h, read2 m c A t h, read3 m c A t h, out11_eq]
  refine Eq.trans ?_ (congrArg (dz2A A) (emb11 t y0 y1).symm)
  rw [dz2A_at, rowAt_val]; rfl

def actA : FVec Ideal S2048x2816 .bf16 := fun y => ((A.Act (y 0).val (y 1).val : ℝ) : EReal)
theorem actA_at (r : Fin 2048) (q : Fin 2816) : actA A (ix2 r q) = ((A.Act r.val q.val : ℝ) : EReal) := rfl
include h in
theorem act_final : (dats m 0 c).arrAt 12 (cfgs 0).N = actA A := by
  refine (dats m 0 c).arrAt_eq_of_covers 12 _ (by decide +kernel) fun t _ y => ?_
  blk_simp
  dsimp only [dats]
  idx_vars y
  rw [read4 m c A t h, out12_eq]
  refine Eq.trans ?_ (congrArg (actA A) (emb12 t y0 y1).symm)
  rw [actA_at, rowAt_val]; rfl

def dguA : FVec Ideal S2048x5632 .bf16 := fun y => ((A.DGu (y 0).val (y 1).val : ℝ) : EReal)
theorem dguA_at (r : Fin 2048) (q : Fin 5632) : dguA A (ix2 r q) = ((A.DGu r.val q.val : ℝ) : EReal) := rfl
include h in
theorem dgu_final : (dats m 0 c).arrAt 13 (cfgs 0).N = dguA A := by
  refine (dats m 0 c).arrAt_eq_of_covers 13 _ (by decide +kernel) fun t _ y => ?_
  blk_simp
  dsimp only [dats]
  idx_vars y
  rw [read0 m c A t h, read1 m c A t h, read2 m c A t h, read3 m c A t h, read4 m c A t h, read6 m c A t h, out13_eq]
  refine Eq.trans ?_ (congrArg (dguA A) (emb13 t y0 y1).symm)
  rw [dguA_at, rowAt_val]; rfl

def dz1A : FVec Ideal S2048x1024 .f32 := fun y => ((A.DZ1 (y 0).val (y 1).val : ℝ) : EReal)
theorem dz1A_at (r : Fin 2048) (q : Fin 1024) : dz1A A (ix2 r q) = ((A.DZ1 r.val q.val : ℝ) : EReal) := rfl
include h in
theorem dz1_final : (dats m 0 c).arrAt 14 (cfgs 0).N = dz1A A := by
  refine (dats m 0 c).arrAt_eq_of_covers 14 _ (by decide +kernel) fun t _ y => ?_
  blk_simp
  dsimp only [dats]
  idx_vars y
  rw [read0 m c A t h, read1 m c A t h, read2 m c A t h, read3 m c A t h, read4 m c A t h, read5 m c A t h, read6 m c A t h, read7 m c A t h, read8 m c A t h, read9 m c A t h, out14_eq]
  refine Eq.trans ?_ (congrArg (dz1A A) (emb14 t y0 y1).symm)
  rw [dz1A_at, rowAt_val]; rfl

def dz1bA : FVec Ideal S2048x1024 .bf16 := fun y => ((A.DZ1 (y 0).val (y 1).val : ℝ) : EReal)
theorem dz1bA_at (r : Fin 2048) (q : Fin 1024) : dz1bA A (ix2 r q) = ((A.DZ1 r.val q.val : ℝ) : EReal) := rfl
include h in
theorem dz1b_final : (dats m 0 c).arrAt 15 (cfgs 0).N = dz1bA A := by
  refine (dats m 0 c).arrAt_eq_of_covers 15 _ (by decide +kernel) fun t _ y => ?_
  blk_simp
  dsimp only [dats]
  idx_vars y
  rw [read0 m c A t h, read1 m c A t h, read2 m c A t h, read3 m c A t h, read4 m c A t h, read5 m c A t h, read6 m c A t h, read7 m c A t h, read8 m c A t h, read9 m c A t h, out15_eq]
  refine Eq.trans ?_ (congrArg (dz1bA A) (emb15 t y0 y1).symm)
  rw [dz1bA_at, rowAt_val]; rfl

def dmA : FVec Ideal S2048x1024 .f32 := fun y => ((A.DM (y 0).val (y 1).val : ℝ) : EReal)
theorem dmA_at (r : Fin 2048) (q : Fin 1024) : dmA A (ix2 r q) = ((A.DM r.val q.val : ℝ) : EReal) := rfl
include h in
theorem dm_final : (dats m 0 c).arrAt 16 (cfgs 0).N = dmA A := by
  refine (dats m 0 c).arrAt_eq_of_covers 16 _ (by decide +kernel) fun t _ y => ?_
  blk_simp
  dsimp only [dats]
  idx_vars y
  rw [read0 m c A t h, read1 m c A t h, read2 m c A t h, read3 m c A t h, read4 m c A t h, read5 m c A t h, read6 m c A t h, read7 m c A t h, read8 m c A t h, read9 m c A t h, read10 m c A t h, out16_eq]
  refine Eq.trans ?_ (congrArg (dmA A) (emb16 t y0 y1).symm)
  rw [dmA_at, rowAt_val]; rfl

/-- A sum that runs over the points, if every point adds its own 256 terms: all terms after the last. -/
theorem sumK_eq (f : Fin cfg0.N → Vec Ideal S1x1024 .f32 → Vec Ideal S1x1024 .f32) (a : ℕ → ℕ → ℝ)
    (hf : ∀ (t : Fin cfg0.N) (p : Vec Ideal S1x1024 .f32) (y : S1x1024.Idx), f t p y = p y + ((∑ r : Fin 256, a (256 * t.val + r.val) (y 1).val : ℝ) : EReal))
    (n : ℕ) (hn : n < 8) (y : S1x1024.Idx) : sumK f n y = ((∑ i : Fin (n + 1), ∑ r : Fin 256, a (256 * i.val + r.val) (y 1).val : ℝ) : EReal) := by
  induction n with
  | zero =>
    rw [sumK, hf]
    rw [show k0_pay4 (F := Ideal) y = 0 by idx_vars y; pointwise [k0_pay4], zero_add]
    simp [pt]
  | succ n ih =>
    rw [sumK, hf, ih (by omega), ← EReal.coe_add, Fin.sum_univ_castSucc (n := n + 1)]
    have e : (pt (n + 1)).val = n + 1 := Nat.mod_eq_of_lt hn
    rw [e]; rfl

/-- The 2048 rows in 8 blocks of 256. -/
theorem sum_blocks (f : ℕ → ℝ) : ∑ i : Fin 8, ∑ r : Fin 256, f (256 * i.val + r.val) = ∑ r : Fin 2048, f r.val := by
  rw [← Fintype.sum_prod_type (f := fun p : Fin 8 × Fin 256 => f (256 * p.1.val + p.2.val))]
  refine Fintype.sum_equiv (finProdFinEquiv (m := 8) (n := 256)) _ _ fun p => ?_
  rw [show (finProdFinEquiv p : Fin (8 * 256)).val = p.2.val + 256 * p.1.val from rfl, add_comm]

theorem sumK_last (f : Fin cfg0.N → Vec Ideal S1x1024 .f32 → Vec Ideal S1x1024 .f32) (a : ℕ → ℕ → ℝ)
    (hf : ∀ (t : Fin cfg0.N) (p : Vec Ideal S1x1024 .f32) (y : S1x1024.Idx), f t p y = p y + ((∑ r : Fin 256, a (256 * t.val + r.val) (y 1).val : ℝ) : EReal))
    (y : S1x1024.Idx) : sumK f t0_7.val y = ((∑ r : Fin 2048, a r.val (y 1).val : ℝ) : EReal) :=
  (sumK_eq f a hf 7 (by decide) y).trans (congrArg (fun x : ℝ => (x : EReal)) (sum_blocks fun r => a r (y 1).val))

def gg2A : FVec Ideal S1x1024 .f32 := fun y => ((A.GG2 (y 1).val : ℝ) : EReal)
include h in
theorem gg2_final : (dats m 0 c).arrAt 17 (cfgs 0).N = gg2A A := by
  refine (dats m 0 c).arrAt_eq_of_after_last 17 t0_7 (by decide +kernel) _ fun j => ?_
  blk_simp
  dsimp only [dats]
  refine sumK_last (gg2S m c) (fun r q => A.dy r q * xh A.Z2 r q) (fun t p y => ?_) j
  rw [gg2S, read0 m c A t h, read1 m c A t h, gg2C_eq]

def gb2A : FVec Ideal S1x1024 .f32 := fun y => ((A.GB2 (y 1).val : ℝ) : EReal)
include h in
theorem gb2_final : (dats m 0 c).arrAt 18 (cfgs 0).N = gb2A A := by
  refine (dats m 0 c).arrAt_eq_of_after_last 18 t0_7 (by decide +kernel) _ fun j => ?_
  blk_simp
  dsimp only [dats]
  refine sumK_last (gb2S m c) (fun r q => A.dy r q) (fun t p y => ?_) j
  rw [gb2S, read0 m c A t h, gb2C_eq]

def gg1A : FVec Ideal S1x1024 .f32 := fun y => ((A.GG1 (y 1).val : ℝ) : EReal)
include h in
theorem gg1_final : (dats m 0 c).arrAt 19 (cfgs 0).N = gg1A A := by
  refine (dats m 0 c).arrAt_eq_of_after_last 19 t0_7 (by decide +kernel) _ fun j => ?_
  blk_simp
  dsimp only [dats]
  refine sumK_last (gg1S m c) (fun r q => dh A.dy (xh A.Z2) (rstd A.Z2) A.g2 A.G A.wgu A.wd r q * xh A.Z1 r q) (fun t p y => ?_) j
  rw [gg1S, read0 m c A t h, read1 m c A t h, read2 m c A t h, read3 m c A t h, read4 m c A t h, read5 m c A t h, read6 m c A t h, read7 m c A t h, gg1C_eq]

def gb1A : FVec Ideal S1x1024 .f32 := fun y => ((A.GB1 (y 1).val : ℝ) : EReal)
include h in
theorem gb1_final : (dats m 0 c).arrAt 20 (cfgs 0).N = gb1A A := by
  refine (dats m 0 c).arrAt_eq_of_after_last 20 t0_7 (by decide +kernel) _ fun j => ?_
  blk_simp
  dsimp only [dats]
  refine sumK_last (gb1S m c) (fun r q => dh A.dy (xh A.Z2) (rstd A.Z2) A.g2 A.G A.wgu A.wd r q) (fun t p y => ?_) j
  rw [gb1S, read0 m c A t h, read1 m c A t h, read2 m c A t h, read3 m c A t h, read4 m c A t h, read5 m c A t h, read6 m c A t h, gb1C_eq]

end Cert.Mlp
end
-- ==== Proof.MlpPair.lean ====
/- The claims about the gradients of the feed-forward layer and its two norms: the frames of its programs and the value claim. -/
module

public import proofs.«01_k».proof.Defs
public import proofs.«01_k».proof.Proof.MlpValue
public import proofs.«01_k».proof.Proof.MlpRef
public import proofs.«01_k».proof.Proof.Finite
public import Idealize.ShloMosaic.Lib.Claim

@[expose] public section

set_option maxRecDepth 16384
set_option maxHeartbeats 1000000

noncomputable section

open Idealize.ShloMosaic Idealize.ShloMosaic.TcCoe Idealize.SL.Sem

namespace Cert.MlpPair

/-- The precondition's shapes fit. -/
instance facts_finite : Cert.Pre_mlp_finite.Facts := ⟨by decide, by decide, by decide, by decide, by decide⟩

/-- The kernel runs, leaves its arguments as they were and ends with every counter at zero. -/
theorem frame : Cert.quiescent_MlpGrad := Cert.Mlp.frame
theorem frame_ideal : Cert.quiescent_MlpGradIdeal := fun m ρ _ => Cert.Mlp.frame_any m ρ
theorem frame_finite : Cert.quiescent_MlpGradIdeal_pre_mlp_finite := fun m ρ _ => Cert.Mlp.frame_any m ρ

/-- So does the reference, which has no counter. -/
theorem frame_ref : Cert.quiescent_MlpGradRefIdeal :=
  fun m g _ => (θ_run _ _ _).mono
    (fun r h => ⟨fun c => (h c).2.2.2.2.2.2.2.2.2.2, sem_eq_zero_of_no_sems (sig := Cert.MlpGradRefIdeal.sig) (by decide) r.2⟩)
    (Cert.MlpGradRefIdeal.Value.run m g)

theorem frame_ref_finite : Cert.quiescent_MlpGradRefIdeal_pre_mlp_finite := fun m g _ => frame_ref m g trivial

/-- Over the reals, on finite arguments, the kernel computes what the reference does. -/
theorem algebraic : Cert.algebraic_MlpGradIdeal_MlpGradRefIdeal_pre_mlp_finite := by
  intro m g m' g' hpre hagree
  refine ⟨fun c => (Cert.Mlp.dats m 0 c).arrAt 11 (Cert.MlpGradIdeal.cfgs 0).N, fun c => (Cert.Mlp.dats m 0 c).arrAt 12 (Cert.MlpGradIdeal.cfgs 0).N, fun c => (Cert.Mlp.dats m 0 c).arrAt 13 (Cert.MlpGradIdeal.cfgs 0).N, fun c => (Cert.Mlp.dats m 0 c).arrAt 14 (Cert.MlpGradIdeal.cfgs 0).N, fun c => (Cert.Mlp.dats m 0 c).arrAt 15 (Cert.MlpGradIdeal.cfgs 0).N, fun c => (Cert.Mlp.dats m 0 c).arrAt 16 (Cert.MlpGradIdeal.cfgs 0).N, fun c => (Cert.Mlp.dats m 0 c).arrAt 17 (Cert.MlpGradIdeal.cfgs 0).N, fun c => (Cert.Mlp.dats m 0 c).arrAt 18 (Cert.MlpGradIdeal.cfgs 0).N, fun c => (Cert.Mlp.dats m 0 c).arrAt 19 (Cert.MlpGradIdeal.cfgs 0).N, fun c => (Cert.Mlp.dats m 0 c).arrAt 20 (Cert.MlpGradIdeal.cfgs 0).N, ?_, ?_⟩
  · exact (θ_run _ _ _).mono (fun r h c => ⟨(h.1 c).1 11, (h.1 c).1 12, (h.1 c).1 13, (h.1 c).1 14, (h.1 c).1 15, (h.1 c).1 16, (h.1 c).1 17, (h.1 c).1 18, (h.1 c).1 19, (h.1 c).1 20, h.2.1 c⟩) (θ_run_and (Cert.Mlp.run m g) (Cert.Mlp.frame_any m g))
  · refine (θ_run _ _ _).mono (fun r h c => ?_) (Cert.MlpGradRefIdeal.Value.run m' g')
    have hf := hpre c
    dsimp only [Cert.Pre_mlp_finite.fn, Cert.Pre_mlp_finite.fn_part1] at hf
    obtain ⟨mix, kmix⟩ := Finite.real_of_pre _ _ hf.1
    obtain ⟨x, kx⟩ := Finite.real_of_pre _ _ hf.2.1
    obtain ⟨wo, kwo⟩ := Finite.real_of_pre _ _ hf.2.2.1
    obtain ⟨g1, kg1⟩ := Finite.real_of_pre _ _ hf.2.2.2.1
    obtain ⟨b1, kb1⟩ := Finite.real_of_pre _ _ hf.2.2.2.2.1
    obtain ⟨wgu, kwgu⟩ := Finite.real_of_pre _ _ hf.2.2.2.2.2.1
    obtain ⟨wd, kwd⟩ := Finite.real_of_pre _ _ hf.2.2.2.2.2.2.1
    obtain ⟨g2, kg2⟩ := Finite.real_of_pre _ _ hf.2.2.2.2.2.2.2.1
    obtain ⟨dy, kdy⟩ := Finite.real_of_pre _ _ hf.2.2.2.2.2.2.2.2
    have hs : Cert.Mlp.Starts m c ⟨Finite.nat2 mix, Finite.nat2 x, Finite.nat2 wo, Finite.nat1 g1, Finite.nat1 b1, Finite.nat2 wgu, Finite.nat2 wd, Finite.nat1 g2, Finite.nat2 dy⟩ :=
      ⟨fun r q => (kmix _).trans (congrArg _ (Finite.nat2_at mix r q).symm),
      fun r q => (kx _).trans (congrArg _ (Finite.nat2_at x r q).symm),
      fun r q => (kwo _).trans (congrArg _ (Finite.nat2_at wo r q).symm),
      fun q => (kg1 _).trans (congrArg _ (Finite.nat1_at g1 q).symm),
      fun q => (kb1 _).trans (congrArg _ (Finite.nat1_at b1 q).symm),
      fun r q => (kwgu _).trans (congrArg _ (Finite.nat2_at wgu r q).symm),
      fun r q => (kwd _).trans (congrArg _ (Finite.nat2_at wd r q).symm),
      fun q => (kg2 _).trans (congrArg _ (Finite.nat1_at g2 q).symm),
      fun r q => (kdy _).trans (congrArg _ (Finite.nat2_at dy r q).symm)⟩
    have ha := hagree c
    have hr : Cert.MlpRef.Holds (StableHlo.launchContents m' c) _ :=
      ⟨fun r q => (congrFun ha.1 (ix2 r q)).trans (hs.mix r q),
      fun r q => (congrFun ha.2.1 (ix2 r q)).trans (hs.x r q),
      fun r q => (congrFun ha.2.2.1 (ix2 r q)).trans (hs.wo r q),
      fun r q => (congrFun ha.2.2.2.2.2.1 (ix2 r q)).trans (hs.wgu r q),
      fun r q => (congrFun ha.2.2.2.2.2.2.1 (ix2 r q)).trans (hs.wd r q),
      fun r q => (congrFun ha.2.2.2.2.2.2.2.2.2.1 (ix2 r q)).trans (hs.dy r q),
      fun q => (congrFun ha.2.2.2.1 (ix1 q)).trans (hs.g1 q),
      fun q => (congrFun ha.2.2.2.2.1 (ix1 q)).trans (hs.b1 q),
      fun q => (congrFun ha.2.2.2.2.2.2.2.1 (ix1 q)).trans (hs.g2 q)⟩
    refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2.1.trans ?_, (h c).2.2.2.2.2.2.2.2.2.2⟩
    · refine Eq.trans ?_ (Cert.Mlp.dz2_final m c _ hs).symm; funext y; idx_vars y; exact Cert.MlpRef.v110 (StableHlo.launchContents m' c) _ hr y0 y1
    · refine Eq.trans ?_ (Cert.Mlp.act_final m c _ hs).symm; funext y; idx_vars y; exact Cert.MlpRef.v42 (StableHlo.launchContents m' c) _ hr y0 y1
    · refine Eq.trans ?_ (Cert.Mlp.dgu_final m c _ hs).symm; funext y; idx_vars y; exact Cert.MlpRef.v119 (StableHlo.launchContents m' c) _ hr y0 y1
    · refine Eq.trans ?_ (Cert.Mlp.dz1_final m c _ hs).symm; funext y; idx_vars y; exact Cert.MlpRef.v154 (StableHlo.launchContents m' c) _ hr y0 y1
    · refine Eq.trans ?_ (Cert.Mlp.dz1b_final m c _ hs).symm; funext y; idx_vars y; exact Cert.MlpRef.v154 (StableHlo.launchContents m' c) _ hr y0 y1
    · refine Eq.trans ?_ (Cert.Mlp.dm_final m c _ hs).symm; funext y; idx_vars y; exact Cert.MlpRef.dm_ref (StableHlo.launchContents m' c) _ hr y0 y1
    · refine Eq.trans ?_ (Cert.Mlp.gg2_final m c _ hs).symm; funext y; idx_vars y; exact Cert.MlpRef.gg2_ref (StableHlo.launchContents m' c) _ hr y0 y1
    · refine Eq.trans ?_ (Cert.Mlp.gb2_final m c _ hs).symm; funext y; idx_vars y; exact Cert.MlpRef.gb2_ref (StableHlo.launchContents m' c) _ hr y0 y1
    · refine Eq.trans ?_ (Cert.Mlp.gg1_final m c _ hs).symm; funext y; idx_vars y; exact Cert.MlpRef.gg1_ref (StableHlo.launchContents m' c) _ hr y0 y1
    · refine Eq.trans ?_ (Cert.Mlp.gb1_final m c _ hs).symm; funext y; idx_vars y; exact Cert.MlpRef.gb1_ref (StableHlo.launchContents m' c) _ hr y0 y1

end Cert.MlpPair
end
-- ==== Proof.NormFwd.lean ====
/- A row's norm over the extended reals, and the lines of the whole arrays that compute it. -/
module

public import proofs.«01_k».proof.Proof.MlpHost

@[expose] public section

set_option maxRecDepth 16384

noncomputable section

open Idealize.ShloMosaic Idealize.ShloMosaic.TcCoe

namespace Cert.Norm

/-- A row's mean. -/
def mean (z : Fin 1024 → EReal) : EReal := Ideal.div (∑ q, z q) (Ideal.ofBits .f32 0x44800000#32)
/-- The row less its mean. -/
def cen (z : Fin 1024 → EReal) (q : Fin 1024) : EReal := z q - mean z
/-- One over its deviation. -/
def rstd (z : Fin 1024 → EReal) : EReal :=
  Ideal.rsqrt (mean (fun q => cen z q * cen z q) + Ideal.ofBits .f32 0x3727C5AC#32)
/-- The normalised row. -/
def xh (z : Fin 1024 → EReal) (q : Fin 1024) : EReal := cen z q * rstd z
/-- The sigmoid linear unit. -/
def silu (a : EReal) : EReal := a * Ideal.div 1 (1 + Ideal.exp (-a))

open Cert.Mlp Cert.MlpGradIdeal Cert.MlpGradIdeal.Gen

variable (z : FVec Ideal S2048x1024 .f32)

theorem meanH_row (r : Fin 2048) (o : Fin 1) : meanH z (ix2 r o) = mean (fun q => z (ix2 r q)) := by
  pointwise [meanH]
  rfl

theorem cenH_row (r : Fin 2048) (q : Fin 1024) : cenH z (ix2 r q) = cen (fun q => z (ix2 r q)) q := by
  pointwise [cenH]
  rw [meanH_row]; rfl

theorem rstdH_row (r : Fin 2048) (o : Fin 1) : rstdH z (ix2 r o) = rstd (fun q => z (ix2 r q)) := by
  have h : (fun q => mulf (cenH z) (cenH z) (ix2 r q)) = fun q => cen (fun q => z (ix2 r q)) q * cen (fun q => z (ix2 r q)) q := by
    funext q; rw [← cenH_row]; rfl
  pointwise [rstdH]
  rw [meanH_row, h]; rfl

theorem xhH_row (r : Fin 2048) (q : Fin 1024) : xhH z (ix2 r q) = xh (fun q => z (ix2 r q)) q := by
  pointwise [xhH]
  rw [cenH_row, rstdH_row]; rfl

theorem siluH_at (a : FVec Ideal S2048x2816 .f32) (r : Fin 2048) (q : Fin 2816) : siluH a (ix2 r q) = silu (a (ix2 r q)) := by
  pointwise [siluH]
  rfl

/-- A sum of 1024 terms, in the three parts that the mixers' columns make. -/
theorem sum_parts (f : Fin 1024 → EReal) : ∑ k, f k
    = ∑ k : Fin 384, f ⟨k.val, by omega⟩ + ∑ k : Fin 256, f ⟨384 + k.val, by omega⟩ + ∑ k : Fin 384, f ⟨640 + k.val, by omega⟩ :=
  (Fin.sum_univ_add (a := 640) (b := 384) f).trans
    (congrArg (· + _) (Fin.sum_univ_add (a := 384) (b := 256) fun k => f (Fin.castAdd 384 k)))

end Cert.Norm
end
-- ==== Proof.WoForward.lean ====
/- The mixers' output product with the norm after it, forward: what the call leaves, and that the reference's lines say the same. -/
module

public import proofs.«01_k».proof.Proof.Gen.WoFwdIdeal.Frame
public import proofs.«01_k».proof.Proof.Gen.WoFwdRefIdeal.Run
public import proofs.«01_k».proof.Proof.NormFwd

@[expose] public section

set_option maxRecDepth 16384

noncomputable section

open Idealize.ShloMosaic Idealize.ShloMosaic.TcCoe Idealize.SL.Sem
open Idealize.ShloMosaic.Pipeline (Dat)

namespace Cert.WoForward

open Cert.WoFwdIdeal Cert.WoFwdIdeal.Gen
open Cert.Norm (mean cen rstd xh)

/-- A row before the norm: the residual and the products of the three mixers' columns with their rows of the weight. -/
def row (x : Fin 1024 → EReal) (a : Fin 384 → EReal) (b : Fin 256 → EReal) (d : Fin 384 → EReal)
    (w : Fin 1024 → Fin 1024 → EReal) (q : Fin 1024) : EReal :=
  Ideal.ofBits .f32 0x3FD744FD#32 * x q + ∑ k, a k * w ⟨k.val, by omega⟩ q + ∑ k, b k * w ⟨384 + k.val, by omega⟩ q
    + ∑ k, d k * w ⟨640 + k.val, by omega⟩ q

section body
variable (x : Vec Ideal S512x1024 .f32) (a : Vec Ideal S512x384 .bf16) (b : Vec Ideal S512x256 .bf16) (d : Vec Ideal S512x384 .bf16)
  (w : Vec Ideal S1024x1024 .bf16) (wa wd : Vec Ideal S384x1024 .bf16) (wb : Vec Ideal S256x1024 .bf16)

/-- Row `r` of a block. -/
def brow (r : Fin 512) (q : Fin 1024) : EReal :=
  Ideal.ofBits .f32 0x3FD744FD#32 * x (ix2 r q) + ∑ k, a (ix2 r k) * wa (ix2 k q) + ∑ k, b (ix2 r k) * wb (ix2 k q)
    + ∑ k, d (ix2 r k) * wd (ix2 k q)

theorem cen_pay (r : Fin 512) (q : Fin 1024) :
    k0_pay3 (F := Ideal) x a wa b wb d wd (ix2 r q) = cen (brow x a b d wa wd wb r) q := by
  pointwise [k0_pay3]
  rfl

theorem rstd_pay (r : Fin 512) (o : Fin 1) :
    k0_pay4 (F := Ideal) x a wa b wb d wd (ix2 r o) = rstd (brow x a b d wa wd wb r) := by
  pointwise [k0_pay4]
  simp only [cen_pay]
  rfl

theorem xh_pay (r : Fin 512) (q : Fin 1024) :
    k0_pay1 (k0_pay3 (F := Ideal) x a wa b wb d wd) (k0_pay5 x a wa b wb d wd) (ix2 r q) = xh (brow x a b d wa wd wb r) q := by
  pointwise [k0_pay1, k0_pay5]
  rw [cen_pay, rstd_pay]; rfl

theorem hid_pay (g s : Vec Ideal S1x1024 .f32) (r : Fin 512) (q : Fin 1024) :
    k0_pay2 (k0_pay3 (F := Ideal) x a wa b wb d wd) (k0_pay5 x a wa b wb d wd) g s (ix2 r q)
      = xh (brow x a b d wa wd wb r) q * g (ix2 0 q) + s (ix2 0 q) := by
  pointwise [k0_pay2]
  rw [xh_pay]

theorem ld0 (k : Fin 384) (q : Fin 1024) : View.ld w r0_2 (ix2 k q) = w (ix2 ⟨k.val, by omega⟩ q) := by
  pointwise
theorem ld1 (k : Fin 256) (q : Fin 1024) : View.ld w r0_4 (ix2 k q) = w (ix2 ⟨384 + k.val, by omega⟩ q) := by
  pointwise
theorem ld2 (k : Fin 384) (q : Fin 1024) : View.ld w r0_5 (ix2 k q) = w (ix2 ⟨640 + k.val, by omega⟩ q) := by
  pointwise
end body

/-! ## The arrays -/

variable (A : FVec Ideal S2048x384 .f32) (B : FVec Ideal S2048x256 .f32) (D : FVec Ideal S2048x384 .f32) (X : FVec Ideal S2048x1024 .f32)
  (W : FVec Ideal S1024x1024 .f32) (g b : FVec Ideal S1024 .f32)

/-- Row `r` of the sequence. -/
def arow (r : Fin 2048) : Fin 1024 → EReal :=
  row (fun q => X (ix2 r q)) (fun k => A (ix2 r k)) (fun k => B (ix2 r k)) (fun k => D (ix2 r k)) (fun k q => W (ix2 k q))
/-- The normalised rows, one over each row's deviation, and the rows scaled and shifted. -/
def xhat : FVec Ideal S2048x1024 .f32 := fun i => xh (arow A B D X W (i 0)) (i 1)
def dev : FVec Ideal S2048x1 .f32 := fun i => rstd (arow A B D X W (i 0))
def hid : FVec Ideal S2048x1024 .bf16 := fun i => xh (arow A B D X W (i 0)) (i 1) * g (ix1 (i 1)) + b (ix1 (i 1))

/-! ## The reference -/

open Cert.Mlp (alphaH xhH rstdH rowH)

/-- The rows before the norm as the reference's lines have them. -/
def zH : FVec Ideal S2048x1024 .f32 := addf (mulf alphaH X)
  (Host.dotGeneral Cert.WoFwdRefIdeal.dot_S2048x1024_S1024x1024_S2048x1024_1_0_0_1_n_n none
    (concatenate S2048x1024 1 [⟨S2048x384, A⟩, ⟨S2048x256, B⟩, ⟨S2048x384, D⟩]
      Cert.WoFwdRefIdeal.Gen.concatenates_S2048x384_S2048x256_S2048x384_S2048x1024_d1) W)

theorem zH_row (r : Fin 2048) : (fun q => zH A B D X W (ix2 r q)) = arow A B D X W r := by
  funext q
  pointwise [zH, alphaH]
  rw [Cert.Norm.sum_parts, ← add_assoc, ← add_assoc]
  refine congrArg₂ (· + ·) (congrArg₂ (· + ·) (congrArg₂ (· + ·) rfl (Finset.sum_congr rfl fun k _ => ?_))
    (Finset.sum_congr rfl fun k _ => ?_)) (Finset.sum_congr rfl fun k _ => ?_)
  · rw [dif_pos k.isLt]
  · rw [dif_neg (by simp), dif_pos (by simp)]
    simp only [Nat.add_sub_cancel_left]
  · rw [dif_neg (by simp; omega), dif_neg (by simp; omega)]
    congr 3; refine Fin.ext ?_; simp; omega

/-- The reference's three results. -/
theorem xhat_ref : xhH (zH A B D X W) = xhat A B D X W := by
  funext i; idx_vars i
  rw [Cert.Norm.xhH_row, zH_row]; rfl
theorem dev_ref : rstdH (zH A B D X W) = dev A B D X W := by
  funext i; idx_vars i
  rw [Cert.Norm.rstdH_row, zH_row]; rfl
theorem hid_ref : (truncf .bf16 (addf (mulf (xhH (zH A B D X W)) (rowH g)) (rowH b)) Cert.WoFwdRefIdeal.Gen.bitsLt_bf16_f32 : FVec Ideal S2048x1024 .bf16)
    = hid A B D X W g b := by
  rw [xhat_ref]
  funext i; idx_vars i
  pointwise [rowH, hid, xhat]

/-! ## The kernel -/

section run
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0] :=
  (by decide +kernel : ∀ t : Fin grid0.N, _)

/-- The sequence's row at row `r` of point `t`. -/
def pos (t : Fin cfg0.N) (r : Fin 512) : Fin 2048 := ⟨t.val * 512 + r.val, by have := lt_of_lt_of_eq t.isLt N_0; omega⟩

variable (m : (ℓ : Loc nD τ sig) → Buf (Elt Ideal) ℓ) (c : Dev nD) (t : Fin cfg0.N)

/-- The arrays that the lines before the call leave: the arguments, in another format or under one more axis. -/
theorem V0 : (V m c main_v0 : S2048x384.Idx → EReal) = (m ((c : Thread nD τ).loc main_arg0) : S2048x384.Idx → EReal) := rfl
theorem V1 : (V m c main_v1 : S2048x256.Idx → EReal) = (m ((c : Thread nD τ).loc main_arg1) : S2048x256.Idx → EReal) := rfl
theorem V2 : (V m c main_v2 : S2048x384.Idx → EReal) = (m ((c : Thread nD τ).loc main_arg2) : S2048x384.Idx → EReal) := rfl
theorem V3 : (V m c main_v3 : S1024x1024.Idx → EReal) = (m ((c : Thread nD τ).loc main_arg4) : S1024x1024.Idx → EReal) := rfl
theorem V4 : V m c main_v4 = broadcastInDim S1x1024 ![1] bcast_S1024_S1x1024_1 (m ((c : Thread nD τ).loc main_arg5)) := rfl
theorem V5 : V m c main_v5 = broadcastInDim S1x1024 ![1] bcast_S1024_S1x1024_1 (m ((c : Thread nD τ).loc main_arg6)) := rfl

theorem emb0 (r : Fin 512) (k : Fin 384) : ((cfg0.win 0).blk t).view.emb (ix2 r k) = ix2 (pos t r) k := by
  unfold pos; blk_ext [idx t]
theorem emb1 (r : Fin 512) (k : Fin 256) : ((cfg0.win 1).blk t).view.emb (ix2 r k) = ix2 (pos t r) k := by
  unfold pos; blk_ext [idx t]
theorem emb2 (r : Fin 512) (k : Fin 384) : ((cfg0.win 2).blk t).view.emb (ix2 r k) = ix2 (pos t r) k := by
  unfold pos; blk_ext [idx t]
theorem emb4 (k q : Fin 1024) : ((cfg0.win 4).blk t).view.emb (ix2 k q) = ix2 k q := by blk_ext [idx t]
theorem emb5 (o : Fin 1) (q : Fin 1024) : ((cfg0.win 5).blk t).view.emb (ix2 o q) = ix2 o q := by blk_ext [idx t]
theorem emb6 (o : Fin 1) (q : Fin 1024) : ((cfg0.win 6).blk t).view.emb (ix2 o q) = ix2 o q := by blk_ext [idx t]
theorem emb7 (r : Fin 512) (q : Fin 1024) : ((cfg0.win 7).blk t).view.emb (ix2 r q) = ix2 (pos t r) q := by
  unfold pos; blk_ext [idx t]
theorem emb8 (r : Fin 512) (o : Fin 1) : ((cfg0.win 8).blk t).view.emb (ix2 r o) = ix2 (pos t r) o := by
  unfold pos; blk_ext [idx t]
theorem emb9 (r : Fin 512) (q : Fin 1024) : ((cfg0.win 9).blk t).view.emb (ix2 r q) = ix2 (pos t r) q := by
  unfold pos; blk_ext [idx t]

theorem read0 (r : Fin 512) (k : Fin 384) : iblk m c 0 t (ix2 r k) = (m ((c : Thread nD τ).loc main_arg0) : S2048x384.Idx → EReal) (ix2 (pos t r) k) := by
  blk_simp [iblk]; exact (congrArg (V m c main_v0) (emb0 t r k)).trans (congrFun (V0 m c) _)
theorem read1 (r : Fin 512) (k : Fin 256) : iblk m c 1 t (ix2 r k) = (m ((c : Thread nD τ).loc main_arg1) : S2048x256.Idx → EReal) (ix2 (pos t r) k) := by
  blk_simp [iblk]; exact (congrArg (V m c main_v1) (emb1 t r k)).trans (congrFun (V1 m c) _)
theorem read2 (r : Fin 512) (k : Fin 384) : iblk m c 2 t (ix2 r k) = (m ((c : Thread nD τ).loc main_arg2) : S2048x384.Idx → EReal) (ix2 (pos t r) k) := by
  blk_simp [iblk]; exact (congrArg (V m c main_v2) (emb2 t r k)).trans (congrFun (V2 m c) _)
theorem read3 (r : Fin 512) (q : Fin 1024) : iblk m c 3 t (ix2 r q) = m ((c : Thread nD τ).loc main_arg3) (ix2 (pos t r) q) := by
  unfold pos; blk_ext [iblk, V, idx t]
theorem read4 (k q : Fin 1024) : iblk m c 4 t (ix2 k q) = (m ((c : Thread nD τ).loc main_arg4) : S1024x1024.Idx → EReal) (ix2 k q) := by
  blk_simp [iblk]; exact (congrArg (V m c main_v3) (emb4 t k q)).trans (congrFun (V3 m c) _)
theorem read5 (q : Fin 1024) : iblk m c 5 t (ix2 0 q) = m ((c : Thread nD τ).loc main_arg5) (ix1 q) := by
  blk_simp [iblk]
  refine (congrArg (V m c main_v4) (emb5 t 0 q)).trans ((congrFun (V4 m c) _).trans ?_)
  pointwise
theorem read6 (q : Fin 1024) : iblk m c 6 t (ix2 0 q) = m ((c : Thread nD τ).loc main_arg6) (ix1 q) := by
  blk_simp [iblk]
  refine (congrArg (V m c main_v5) (emb6 t 0 q)).trans ((congrFun (V5 m c) _).trans ?_)
  pointwise

/-- The values that the body stores, of the blocks. -/
theorem pay6_eq (x0 x1 x2 x3 x4 x5 x6) : k0_pay6 (F := Ideal) x0 x1 x2 x3 x4 x5 x6
    = k0_pay3 x3 x0 (View.ld x4 r0_2) x1 (View.ld x4 r0_4) x2 (View.ld x4 r0_5) := by
  unfold k0_pay6
  rw [View.ld_unit_lit, View.ld_unit_lit, View.ld_unit_lit, View.ld_unit_lit] <;> decide
theorem pay7_eq (x0 x1 x2 x3 x4 x5 x6) : k0_pay7 (F := Ideal) x0 x1 x2 x3 x4 x5 x6
    = k0_pay5 x3 x0 (View.ld x4 r0_2) x1 (View.ld x4 r0_4) x2 (View.ld x4 r0_5) := by
  unfold k0_pay7
  rw [View.ld_unit_lit, View.ld_unit_lit, View.ld_unit_lit, View.ld_unit_lit] <;> decide

/-- The row of a block is the sequence's. -/
theorem brow_eq (r : Fin 512) : brow (iblk m c 3 t) (iblk m c 0 t) (iblk m c 1 t) (iblk m c 2 t)
    (View.ld (iblk m c 4 t) r0_2) (View.ld (iblk m c 4 t) r0_5) (View.ld (iblk m c 4 t) r0_4) r
      = arow (m ((c : Thread nD τ).loc main_arg0)) (m ((c : Thread nD τ).loc main_arg1)) (m ((c : Thread nD τ).loc main_arg2))
        (m ((c : Thread nD τ).loc main_arg3)) (m ((c : Thread nD τ).loc main_arg4)) (pos t r) := by
  funext q
  exact congrArg₂ (· + ·) (congrArg₂ (· + ·) (congrArg₂ (· + ·) (congrArg (_ * ·) (read3 m c t r q))
    (Finset.sum_congr rfl fun k _ => congrArg₂ (· * ·) (read0 m c t r k) ((ld0 _ k q).trans (read4 m c t _ q))))
    (Finset.sum_congr rfl fun k _ => congrArg₂ (· * ·) (read1 m c t r k) ((ld1 _ k q).trans (read4 m c t _ q))))
    (Finset.sum_congr rfl fun k _ => congrArg₂ (· * ·) (read2 m c t r k) ((ld2 _ k q).trans (read4 m c t _ q)))

/-- What the body stores at point `t`, of the sequence. -/
theorem xhat_blk (r : Fin 512) (q : Fin 1024) :
    k0_pay1 (k0_pay6 (iblk m c 0 t) (iblk m c 1 t) (iblk m c 2 t) (iblk m c 3 t) (iblk m c 4 t) (iblk m c 5 t) (iblk m c 6 t))
      (k0_pay7 (iblk m c 0 t) (iblk m c 1 t) (iblk m c 2 t) (iblk m c 3 t) (iblk m c 4 t) (iblk m c 5 t) (iblk m c 6 t)) (ix2 r q)
    = xhat (m ((c : Thread nD τ).loc main_arg0)) (m ((c : Thread nD τ).loc main_arg1))
      (m ((c : Thread nD τ).loc main_arg2)) (m ((c : Thread nD τ).loc main_arg3)) (m ((c : Thread nD τ).loc main_arg4)) (ix2 (pos t r) q) := by
  rw [pay6_eq, pay7_eq]
  exact (xh_pay _ _ _ _ _ _ _ _ _).trans (congrArg (xh · q) (brow_eq m c t r))

theorem dev_blk (r : Fin 512) (o : Fin 1) :
    k0_pay4 (iblk m c 3 t) (iblk m c 0 t) (View.ld (iblk m c 4 t) r0_2) (iblk m c 1 t) (View.ld (iblk m c 4 t) r0_4) (iblk m c 2 t)
      (View.ld (iblk m c 4 t) r0_5) (ix2 r o)
    = dev (m ((c : Thread nD τ).loc main_arg0)) (m ((c : Thread nD τ).loc main_arg1))
      (m ((c : Thread nD τ).loc main_arg2)) (m ((c : Thread nD τ).loc main_arg3)) (m ((c : Thread nD τ).loc main_arg4)) (ix2 (pos t r) o) :=
  (rstd_pay _ _ _ _ _ _ _ _ _).trans (congrArg rstd (brow_eq m c t r))

theorem hid_blk (r : Fin 512) (q : Fin 1024) :
    k0_pay2 (k0_pay6 (iblk m c 0 t) (iblk m c 1 t) (iblk m c 2 t) (iblk m c 3 t) (iblk m c 4 t) (iblk m c 5 t) (iblk m c 6 t))
      (k0_pay7 (iblk m c 0 t) (iblk m c 1 t) (iblk m c 2 t) (iblk m c 3 t) (iblk m c 4 t) (iblk m c 5 t) (iblk m c 6 t))
      (iblk m c 5 t) (iblk m c 6 t) (ix2 r q)
    = hid (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (ix2 (pos t r) q) := by
  rw [pay6_eq, pay7_eq]
  exact (hid_pay _ _ _ _ _ _ _ _ _ _ _).trans (congrArg₂ (· + ·) (congrArg₂ (· * ·) (congrArg (xh · q) (brow_eq m c t r))
    (read5 m c t q)) (read6 m c t q))

/-- The arrays after the run. -/
theorem xhat_final : (dats m 0 c).arrAt 7 (cfgs 0).N = xhat (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]; frame_out
  idx_vars y
  exact (xhat_blk m c t y0 y1).trans (congrArg (xhat _ _ _ _ _) (emb7 t y0 y1).symm)

theorem dev_final : (dats m 0 c).arrAt 8 (cfgs 0).N = dev (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 8 _ (by decide +kernel) fun t _ y => ?_
  blk_simp
  rw [after0_8]; frame_out
  idx_vars y
  exact (dev_blk m c t y0 y1).trans (congrArg (dev _ _ _ _ _) (emb8 t y0 y1).symm)

theorem hid_final : (dats m 0 c).arrAt 9 (cfgs 0).N = hid (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) := by
  refine (dats m 0 c).arrAt_eq_of_covers 9 _ (by decide +kernel) fun t _ y => ?_
  blk_simp
  rw [after0_9]; frame_out
  idx_vars y
  exact (hid_blk m c t y0 y1).trans (congrArg (hid _ _ _ _ _ _ _) (emb9 t y0 y1).symm)
end run

end Cert.WoForward
end
-- ==== Proof.WoFwdPair.lean ====
/- The claims about the mixers' output product with its norm, forward: the frames of its programs and the value claim. -/
module

public import proofs.«01_k».proof.Defs
public import proofs.«01_k».proof.Proof.Gen.WoFwd.Frame
public import proofs.«01_k».proof.Proof.WoForward
public import Idealize.ShloMosaic.Lib.Claim

@[expose] public section

set_option maxRecDepth 16384

noncomputable section

open Idealize.ShloMosaic Idealize.SL.Sem

namespace Cert.WoFwdPair

/-- The kernel runs, leaves its arguments as they were and ends with every counter at zero. -/
theorem frame : Cert.quiescent_WoFwd := fun m ρ _ => Cert.WoFwd.Gen.frame m ρ
theorem frame_ideal : Cert.quiescent_WoFwdIdeal := fun m ρ _ => Cert.WoFwdIdeal.Gen.frame m ρ

/-- So does the reference, which has no counter. -/
theorem frame_ref : Cert.quiescent_WoFwdRefIdeal :=
  fun m g _ => (θ_run _ _ _).mono
    (fun r h => ⟨fun c => (h c).2.2.2, sem_eq_zero_of_no_sems (sig := Cert.WoFwdRefIdeal.sig) (by decide) r.2⟩)
    (Cert.WoFwdRefIdeal.Value.run m g)

/-- Over the extended reals the kernel computes what the reference does. -/
theorem algebraic : Cert.algebraic_WoFwdIdeal_WoFwdRefIdeal := by
  pair_intro
  · run_from Cert.WoFwdIdeal.Gen.run_main m g
  · run_from Cert.WoFwdRefIdeal.Value.run m' g'
    · rw [Cert.WoForward.xhat_final m c, ← (hagree c).1, ← (hagree c).2.1, ← (hagree c).2.2.1, ← (hagree c).2.2.2.1, ← (hagree c).2.2.2.2.1]; exact Cert.WoForward.xhat_ref _ _ _ _ _
    · rw [Cert.WoForward.dev_final m c]; exact Cert.WoForward.dev_ref _ _ _ _ _
    · rw [Cert.WoForward.hid_final m c, ← (hagree c).1, ← (hagree c).2.1, ← (hagree c).2.2.1, ← (hagree c).2.2.2.1, ← (hagree c).2.2.2.2.1, ← (hagree c).2.2.2.2.2.1, ← (hagree c).2.2.2.2.2.2]; exact Cert.WoForward.hid_ref _ _ _ _ _ _ _

end Cert.WoFwdPair
end
-- ==== Proof.MlpForward.lean ====
/- The feed-forward layer's forward call: what it leaves, and that the reference's lines say the same. -/
module

public import proofs.«01_k».proof.Proof.Gen.MlpFwdIdeal.Frame
public import proofs.«01_k».proof.Proof.Gen.MlpFwdRefIdeal.Run
public import proofs.«01_k».proof.Proof.NormFwd

@[expose] public section

set_option maxRecDepth 16384

noncomputable section

open Idealize.ShloMosaic Idealize.ShloMosaic.TcCoe Idealize.SL.Sem
open Idealize.ShloMosaic.Pipeline (Dat)

namespace Cert.MlpForward

open Cert.MlpFwdIdeal Cert.MlpFwdIdeal.Gen
open Cert.Norm (mean cen rstd xh silu)

/-! ## A row -/

/-- A row scaled and shifted. -/
def aff (x g b : Fin 1024 → EReal) (q : Fin 1024) : EReal := x q * g q + b q
/-- The gated unit's two inputs, side by side. -/
def guR (h : Fin 1024 → EReal) (w : Fin 1024 → Fin 5632 → EReal) (j : Fin 5632) : EReal := ∑ k, h k * w k j
/-- The gated unit's output. -/
def actR (u : Fin 5632 → EReal) (j : Fin 2816) : EReal := silu (u ⟨j.val, by omega⟩) * u ⟨2816 + j.val, by omega⟩
/-- The row before the second norm. -/
def outR (h : Fin 1024 → EReal) (w : Fin 1024 → Fin 5632 → EReal) (d : Fin 2816 → Fin 1024 → EReal) (q : Fin 1024) : EReal :=
  Ideal.ofBits .f32 0x3FD744FD#32 * h q + ∑ j, actR (guR h w) j * d j q

/-! ## The body -/

section body
variable (x : Vec Ideal S256x1024 .f32) (g b : Vec Ideal S1x1024 .f32) (w : Vec Ideal S1024x5632 .bf16) (d : Vec Ideal S2816x1024 .bf16)
  (g2 b2 : Vec Ideal S1x1024 .f32)

/-- Row `r` of a block after the first norm. -/
def hB (r : Fin 256) : Fin 1024 → EReal := aff (fun q => x (ix2 r q)) (fun q => g (ix2 0 q)) (fun q => b (ix2 0 q))
def zB (r : Fin 256) : Fin 1024 → EReal := outR (hB x g b r) (fun k j => w (ix2 k j)) (fun j q => d (ix2 j q))

theorem h_pay (r : Fin 256) (q : Fin 1024) : k0_pay4 (F := Ideal) x g b (ix2 r q) = hB x g b r q := by
  pointwise [k0_pay4]
  rfl
theorem gu_pay (r : Fin 256) (j : Fin 5632) :
    k0_pay5 (F := Ideal) x g b w (ix2 r j) = guR (hB x g b r) (fun k j => w (ix2 k j)) j := by
  pointwise [k0_pay5]
  simp only [h_pay]; rfl
theorem cen_pay (r : Fin 256) (q : Fin 1024) : k0_pay6 (F := Ideal) x g b w d (ix2 r q) = cen (zB x g b w d r) q := by
  pointwise [k0_pay6]
  simp only [h_pay, gu_pay]; rfl
theorem var_pay (r : Fin 256) (o : Fin 1) : k0_pay7 (F := Ideal) x g b w d (ix2 r o)
    = mean (fun q => cen (zB x g b w d r) q * cen (zB x g b w d r) q) := by
  pointwise [k0_pay7]
  simp only [cen_pay]; rfl
theorem rstd_pay (r : Fin 256) (o : Fin 1) :
    k0_pay1 (F := Ideal) (k0_pay7 x g b w d) (Scalar.ofBits .f32 0x3727C5AC#32) (ix2 r o) = rstd (zB x g b w d r) := by
  pointwise [k0_pay1]
  rw [var_pay]; rfl
theorem xh_pay (r : Fin 256) (q : Fin 1024) :
    k0_pay2 (F := Ideal) (k0_pay6 x g b w d) (k0_pay7 x g b w d) (Scalar.ofBits .f32 0x3727C5AC#32) (ix2 r q) = xh (zB x g b w d r) q := by
  pointwise [k0_pay2]
  exact congrArg₂ (· * ·) (cen_pay x g b w d r q) (rstd_pay x g b w d r 0)
theorem y_pay (r : Fin 256) (q : Fin 1024) :
    k0_pay3 (F := Ideal) (k0_pay6 x g b w d) (k0_pay7 x g b w d) (Scalar.ofBits .f32 0x3727C5AC#32) g2 b2 (ix2 r q)
      = aff (xh (zB x g b w d r)) (fun q => g2 (ix2 0 q)) (fun q => b2 (ix2 0 q)) q := by
  pointwise [k0_pay3]
  exact congrArg (· * g2 (ix2 0 q) + b2 (ix2 0 q)) (xh_pay x g b w d r q)
end body

/-! ## The arrays -/

variable (Z : FVec Ideal S2048x1024 .f32) (g1 b1 : FVec Ideal S1024 .f32) (W : FVec Ideal S1024x5632 .f32) (D : FVec Ideal S2816x1024 .f32)
  (g2 b2 : FVec Ideal S1024 .f32)

/-- Row `r` of the sequence after the first norm, and before the second. -/
def hA (r : Fin 2048) : Fin 1024 → EReal := aff (xh fun q => Z (ix2 r q)) (fun q => g1 (ix1 q)) (fun q => b1 (ix1 q))
def zA (r : Fin 2048) : Fin 1024 → EReal := outR (hA Z g1 b1 r) (fun k j => W (ix2 k j)) (fun j q => D (ix2 j q))
/-- The gated unit's inputs; of the second norm the normalised rows, one over each row's deviation, and the layer's output. -/
def guA : FVec Ideal S2048x5632 .f32 := fun i => guR (hA Z g1 b1 (i 0)) (fun k j => W (ix2 k j)) (i 1)
def xhatA : FVec Ideal S2048x1024 .f32 := fun i => xh (zA Z g1 b1 W D (i 0)) (i 1)
def devA : FVec Ideal S2048x1 .f32 := fun i => rstd (zA Z g1 b1 W D (i 0))
def yA : FVec Ideal S2048x1024 .f32 := fun i => aff (xh (zA Z g1 b1 W D (i 0))) (fun q => g2 (ix1 q)) (fun q => b2 (ix1 q)) (i 1)

/-! ## The reference -/

open Cert.Mlp (alphaH xhH rstdH rowH actH siluH)

/-- The rows after the first norm, the gated unit's inputs and the rows before the second norm, as the reference's lines have them. -/
def hH : FVec Ideal S2048x1024 .f32 := addf (mulf (xhH Z) (rowH g1)) (rowH b1)
def guH : FVec Ideal S2048x5632 .f32 := Host.dotGeneral (φ₁ := .f32) (φ₂ := .f32)
  Cert.MlpFwdRefIdeal.dot_S2048x1024_S1024x5632_S2048x5632_1_0_0_1_n_n none (hH Z g1 b1) W
def zH : FVec Ideal S2048x1024 .f32 := addf (mulf alphaH (hH Z g1 b1)) (Host.dotGeneral (φ₁ := .f32) (φ₂ := .f32)
  Cert.MlpFwdRefIdeal.dot_S2048x2816_S2816x1024_S2048x1024_1_0_0_1_n_n none (actH (guH Z g1 b1 W)) D)

theorem hH_at (r : Fin 2048) (q : Fin 1024) : hH Z g1 b1 (ix2 r q) = hA Z g1 b1 r q := by
  pointwise [hH, rowH]
  rw [Cert.Norm.xhH_row]; rfl
theorem guH_at (r : Fin 2048) (j : Fin 5632) : guH Z g1 b1 W (ix2 r j) = guR (hA Z g1 b1 r) (fun k j => W (ix2 k j)) j := by
  pointwise [guH]
  simp only [hH_at]; rfl
theorem gu_ref : guH Z g1 b1 W = guA Z g1 b1 W := by
  funext i; idx_vars i
  rw [guH_at]; rfl
theorem actH_at (r : Fin 2048) (j : Fin 2816) : actH (guH Z g1 b1 W) (ix2 r j) = actR (guR (hA Z g1 b1 r) (fun k j => W (ix2 k j))) j := by
  pointwise [actH]
  rw [Cert.Norm.siluH_at, guH_at]
  pointwise
  rw [guH_at]; rfl
theorem zH_row (r : Fin 2048) : (fun q => zH Z g1 b1 W D (ix2 r q)) = zA Z g1 b1 W D r := by
  funext q
  pointwise [zH, alphaH]
  simp only [actH_at, hH_at]; rfl
theorem xhat_ref : xhH (zH Z g1 b1 W D) = xhatA Z g1 b1 W D := by
  funext i; idx_vars i
  rw [Cert.Norm.xhH_row, zH_row]; rfl
theorem dev_ref : rstdH (zH Z g1 b1 W D) = devA Z g1 b1 W D := by
  funext i; idx_vars i
  rw [Cert.Norm.rstdH_row, zH_row]; rfl
theorem y_ref : addf (mulf (xhH (zH Z g1 b1 W D)) (rowH g2)) (rowH b2) = yA Z g1 b1 W D g2 b2 := by
  rw [xhat_ref]
  funext i; idx_vars i
  pointwise [rowH, yA, xhatA]
  rfl

/-! ## The kernel -/

section run
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0] ∧ win0_10.index t = ![t.val, 0] :=
  (by decide +kernel : ∀ t : Fin grid0.N, _)

/-- The sequence's row at row `r` of point `t`. -/
def pos (t : Fin cfg0.N) (r : Fin 256) : Fin 2048 := ⟨t.val * 256 + r.val, by have := lt_of_lt_of_eq t.isLt N_0; omega⟩

variable (m : (ℓ : Loc nD τ sig) → Buf (Elt Ideal) ℓ) (c : Dev nD) (t : Fin cfg0.N)

/-- The arrays that the lines before the call leave: the first norm's rows, and arguments in another format or under one more axis. -/
theorem V17 : V m c main_v17 = xhH (m ((c : Thread nD τ).loc main_arg0)) := rfl
theorem V18 : V m c main_v18 = broadcastInDim S1x1024 ![1] bcast_S1024_S1x1024_1 (m ((c : Thread nD τ).loc main_arg1)) := rfl
theorem V19 : V m c main_v19 = broadcastInDim S1x1024 ![1] bcast_S1024_S1x1024_1 (m ((c : Thread nD τ).loc main_arg2)) := rfl
theorem V20 : (V m c main_v20 : S1024x5632.Idx → EReal) = (m ((c : Thread nD τ).loc main_arg3) : S1024x5632.Idx → EReal) := rfl
theorem V21 : (V m c main_v21 : S2816x1024.Idx → EReal) = (m ((c : Thread nD τ).loc main_arg4) : S2816x1024.Idx → EReal) := rfl
theorem V22 : V m c main_v22 = broadcastInDim S1x1024 ![1] bcast_S1024_S1x1024_1 (m ((c : Thread nD τ).loc main_arg5)) := rfl
theorem V23 : V m c main_v23 = broadcastInDim S1x1024 ![1] bcast_S1024_S1x1024_1 (m ((c : Thread nD τ).loc main_arg6)) := rfl

theorem emb0 (r : Fin 256) (q : Fin 1024) : ((cfg0.win 0).blk t).view.emb (ix2 r q) = ix2 (pos t r) q := by
  unfold pos; blk_ext [idx t]
theorem emb1 (o : Fin 1) (q : Fin 1024) : ((cfg0.win 1).blk t).view.emb (ix2 o q) = ix2 o q := by blk_ext [idx t]
theorem emb2 (o : Fin 1) (q : Fin 1024) : ((cfg0.win 2).blk t).view.emb (ix2 o q) = ix2 o q := by blk_ext [idx t]
theorem emb3 (k : Fin 1024) (j : Fin 5632) : ((cfg0.win 3).blk t).view.emb (ix2 k j) = ix2 k j := by blk_ext [idx t]
theorem emb4 (j : Fin 2816) (q : Fin 1024) : ((cfg0.win 4).blk t).view.emb (ix2 j q) = ix2 j q := by blk_ext [idx t]
theorem emb5 (o : Fin 1) (q : Fin 1024) : ((cfg0.win 5).blk t).view.emb (ix2 o q) = ix2 o q := by blk_ext [idx t]
theorem emb6 (o : Fin 1) (q : Fin 1024) : ((cfg0.win 6).blk t).view.emb (ix2 o q) = ix2 o q := by blk_ext [idx t]
theorem emb7 (r : Fin 256) (j : Fin 5632) : ((cfg0.win 7).blk t).view.emb (ix2 r j) = ix2 (pos t r) j := by
  unfold pos; blk_ext [idx t]
theorem emb8 (r : Fin 256) (q : Fin 1024) : ((cfg0.win 8).blk t).view.emb (ix2 r q) = ix2 (pos t r) q := by
  unfold pos; blk_ext [idx t]
theorem emb9 (r : Fin 256) (o : Fin 1) : ((cfg0.win 9).blk t).view.emb (ix2 r o) = ix2 (pos t r) o := by
  unfold pos; blk_ext [idx t]
theorem emb10 (r : Fin 256) (q : Fin 1024) : ((cfg0.win 10).blk t).view.emb (ix2 r q) = ix2 (pos t r) q := by
  unfold pos; blk_ext [idx t]

theorem row_at (g : FVec Ideal S1024 .f32) (o : Fin 1) (q : Fin 1024) :
    broadcastInDim S1x1024 ![1] bcast_S1024_S1x1024_1 g (ix2 o q) = g (ix1 q) := by
  pointwise

theorem read0 (r : Fin 256) (q : Fin 1024) : iblk m c 0 t (ix2 r q) = xh (fun q => m ((c : Thread nD τ).loc main_arg0) (ix2 (pos t r) q)) q := by
  blk_simp [iblk]
  exact (congrArg (V m c main_v17) (emb0 t r q)).trans ((congrFun (V17 m c) _).trans (Cert.Norm.xhH_row _ (pos t r) q))
theorem read1 (q : Fin 1024) : iblk m c 1 t (ix2 0 q) = m ((c : Thread nD τ).loc main_arg1) (ix1 q) := by
  blk_simp [iblk]
  exact (congrArg (V m c main_v18) (emb1 t 0 q)).trans ((congrFun (V18 m c) _).trans (row_at _ 0 q))
theorem read2 (q : Fin 1024) : iblk m c 2 t (ix2 0 q) = m ((c : Thread nD τ).loc main_arg2) (ix1 q) := by
  blk_simp [iblk]
  exact (congrArg (V m c main_v19) (emb2 t 0 q)).trans ((congrFun (V19 m c) _).trans (row_at _ 0 q))
theorem read3 (k : Fin 1024) (j : Fin 5632) : iblk m c 3 t (ix2 k j) = (m ((c : Thread nD τ).loc main_arg3) : S1024x5632.Idx → EReal) (ix2 k j) := by
  blk_simp [iblk]; exact (congrArg (V m c main_v20) (emb3 t k j)).trans (congrFun (V20 m c) _)
theorem read4 (j : Fin 2816) (q : Fin 1024) : iblk m c 4 t (ix2 j q) = (m ((c : Thread nD τ).loc main_arg4) : S2816x1024.Idx → EReal) (ix2 j q) := by
  blk_simp [iblk]; exact (congrArg (V m c main_v21) (emb4 t j q)).trans (congrFun (V21 m c) _)
theorem read5 (q : Fin 1024) : iblk m c 5 t (ix2 0 q) = m ((c : Thread nD τ).loc main_arg5) (ix1 q) := by
  blk_simp [iblk]
  exact (congrArg (V m c main_v22) (emb5 t 0 q)).trans ((congrFun (V22 m c) _).trans (row_at _ 0 q))
theorem read6 (q : Fin 1024) : iblk m c 6 t (ix2 0 q) = m ((c : Thread nD τ).loc main_arg6) (ix1 q) := by
  blk_simp [iblk]
  exact (congrArg (V m c main_v23) (emb6 t 0 q)).trans ((congrFun (V23 m c) _).trans (row_at _ 0 q))

/-- The rows of a block are the sequence's. -/
theorem hB_eq (r : Fin 256) : hB (iblk m c 0 t) (iblk m c 1 t) (iblk m c 2 t) r
    = hA (m ((c : Thread nD τ).loc main_arg0)) (m ((c : Thread nD τ).loc main_arg1)) (m ((c : Thread nD τ).loc main_arg2)) (pos t r) := by
  funext q
  exact congrArg₂ (· + ·) (congrArg₂ (· * ·) (read0 m c t r q) (read1 m c t q)) (read2 m c t q)
theorem w_eq : (fun k j => iblk m c 3 t (ix2 k j) : Fin 1024 → Fin 5632 → EReal)
    = fun k j => (m ((c : Thread nD τ).loc main_arg3) : S1024x5632.Idx → EReal) (ix2 k j) := by
  funext k j; exact read3 m c t k j
theorem d_eq : (fun j q => iblk m c 4 t (ix2 j q) : Fin 2816 → Fin 1024 → EReal)
    = fun j q => (m ((c : Thread nD τ).loc main_arg4) : S2816x1024.Idx → EReal) (ix2 j q) := by
  funext j q; exact read4 m c t j q
theorem zB_eq (r : Fin 256) : zB (iblk m c 0 t) (iblk m c 1 t) (iblk m c 2 t) (iblk m c 3 t) (iblk m c 4 t) r
    = zA (m ((c : Thread nD τ).loc main_arg0)) (m ((c : Thread nD τ).loc main_arg1)) (m ((c : Thread nD τ).loc main_arg2))
      (m ((c : Thread nD τ).loc main_arg3)) (m ((c : Thread nD τ).loc main_arg4)) (pos t r) := by
  refine (congrArg (fun h => outR h _ _) (hB_eq m c t r)).trans ?_
  exact congrArg₂ (outR _) (w_eq m c t) (d_eq m c t)

/-- What the body stores at point `t`, of the sequence. -/
theorem gu_blk (r : Fin 256) (j : Fin 5632) :
    k0_pay5 (iblk m c 0 t) (iblk m c 1 t) (iblk m c 2 t) (iblk m c 3 t) (ix2 r j)
    = guA (m ((c : Thread nD τ).loc main_arg0)) (m ((c : Thread nD τ).loc main_arg1)) (m ((c : Thread nD τ).loc main_arg2)) (m ((c : Thread nD τ).loc main_arg3)) (ix2 (pos t r) j) :=
  (gu_pay _ _ _ _ r j).trans (congrArg₂ (guR · · j) (hB_eq m c t r) (w_eq m c t))

theorem xhat_blk (r : Fin 256) (q : Fin 1024) :
    k0_pay2 (k0_pay6 (iblk m c 0 t) (iblk m c 1 t) (iblk m c 2 t) (iblk m c 3 t) (iblk m c 4 t)) (k0_pay7 (iblk m c 0 t) (iblk m c 1 t) (iblk m c 2 t) (iblk m c 3 t) (iblk m c 4 t))
      (FloatOps.ofBits FTy.f32 0x3727C5AC#32) (ix2 r q)
    = xhatA (m ((c : Thread nD τ).loc main_arg0)) (m ((c : Thread nD τ).loc main_arg1)) (m ((c : Thread nD τ).loc main_arg2)) (m ((c : Thread nD τ).loc main_arg3)) (m ((c : Thread nD τ).loc main_arg4)) (ix2 (pos t r) q) :=
  (xh_pay _ _ _ _ _ r q).trans (congrArg (xh · q) (zB_eq m c t r))

theorem dev_blk (r : Fin 256) (o : Fin 1) :
    k0_pay1 (k0_pay7 (iblk m c 0 t) (iblk m c 1 t) (iblk m c 2 t) (iblk m c 3 t) (iblk m c 4 t))
      (FloatOps.ofBits FTy.f32 0x3727C5AC#32) (ix2 r o)
    = devA (m ((c : Thread nD τ).loc main_arg0)) (m ((c : Thread nD τ).loc main_arg1)) (m ((c : Thread nD τ).loc main_arg2)) (m ((c : Thread nD τ).loc main_arg3)) (m ((c : Thread nD τ).loc main_arg4)) (ix2 (pos t r) o) :=
  (rstd_pay _ _ _ _ _ r o).trans (congrArg rstd (zB_eq m c t r))

theorem y_blk (r : Fin 256) (q : Fin 1024) :
    k0_pay3 (k0_pay6 (iblk m c 0 t) (iblk m c 1 t) (iblk m c 2 t) (iblk m c 3 t) (iblk m c 4 t)) (k0_pay7 (iblk m c 0 t) (iblk m c 1 t) (iblk m c 2 t) (iblk m c 3 t) (iblk m c 4 t))
      (FloatOps.ofBits FTy.f32 0x3727C5AC#32) (iblk m c 5 t) (iblk m c 6 t) (ix2 r q)
    = yA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (pos t r) q) :=
  (y_pay _ _ _ _ _ _ _ r q).trans
    (congrArg₂ (· + ·) (congrArg₂ (· * ·) (congrArg (xh · q) (zB_eq m c t r)) (read5 m c t q)) (read6 m c t q))

/-- The arrays after the run. -/
theorem gu_final : (dats m 0 c).arrAt 7 (cfgs 0).N
    = guA (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]; unfold outsAt0; frame_out
  idx_vars y
  exact (gu_blk m c t y0 y1).trans (congrArg (guA _ _ _ _) (emb7 t y0 y1).symm)

theorem xhat_final : (dats m 0 c).arrAt 8 (cfgs 0).N
    = xhatA (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t _ y => ?_
  blk_simp
  rw [after0_8]; unfold outsAt0; frame_out
  idx_vars y
  exact (xhat_blk m c t y0 y1).trans (congrArg (xhatA _ _ _ _ _) (emb8 t y0 y1).symm)

theorem dev_final : (dats m 0 c).arrAt 9 (cfgs 0).N
    = devA (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t _ y => ?_
  blk_simp
  rw [after0_9]; unfold outsAt0; frame_out
  idx_vars y
  exact (dev_blk m c t y0 y1).trans (congrArg (devA _ _ _ _ _) (emb9 t y0 y1).symm)

theorem y_final : (dats m 0 c).arrAt 10 (cfgs 0).N
    = yA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 10 _ (by decide +kernel) fun t _ y => ?_
  blk_simp
  rw [after0_10]; unfold outsAt0; frame_out
  idx_vars y
  exact (y_blk m c t y0 y1).trans (congrArg (yA _ _ _ _ _ _ _) (emb10 t y0 y1).symm)

end run

end Cert.MlpForward
end
-- ==== Proof.MlpFwdPair.lean ====
/- The claims about the feed-forward layer's forward call: the frames of its programs and the value claim. -/
module

public import proofs.«01_k».proof.Defs
public import proofs.«01_k».proof.Proof.Gen.MlpFwd.Frame
public import proofs.«01_k».proof.Proof.MlpForward
public import Idealize.ShloMosaic.Lib.Claim

@[expose] public section

set_option maxRecDepth 16384

noncomputable section

open Idealize.ShloMosaic Idealize.SL.Sem

namespace Cert.MlpFwdPair

/-- The kernel runs, leaves its arguments as they were and ends with every counter at zero. -/
theorem frame : Cert.quiescent_MlpFwd := fun m ρ _ => Cert.MlpFwd.Gen.frame m ρ
theorem frame_ideal : Cert.quiescent_MlpFwdIdeal := fun m ρ _ => Cert.MlpFwdIdeal.Gen.frame m ρ

/-- So does the reference, which has no counter. -/
theorem frame_ref : Cert.quiescent_MlpFwdRefIdeal :=
  fun m g _ => (θ_run _ _ _).mono
    (fun r h => ⟨fun c => (h c).2.2.2.2, sem_eq_zero_of_no_sems (sig := Cert.MlpFwdRefIdeal.sig) (by decide) r.2⟩)
    (Cert.MlpFwdRefIdeal.Value.run m g)

set_option maxHeartbeats 2000000 in
/-- Over the extended reals the kernel computes what the reference does. -/
theorem algebraic : Cert.algebraic_MlpFwdIdeal_MlpFwdRefIdeal := by
  pair_intro
  · run_from Cert.MlpFwdIdeal.Gen.run_main m g
  · run_from Cert.MlpFwdRefIdeal.Value.run m' g'
    · rw [Cert.MlpForward.gu_final m c]; exact Cert.MlpForward.gu_ref _ _ _ _
    · rw [Cert.MlpForward.xhat_final m c, ← (hagree c).1, ← (hagree c).2.1, ← (hagree c).2.2.1, ← (hagree c).2.2.2.1, ← (hagree c).2.2.2.2.1]; exact Cert.MlpForward.xhat_ref _ _ _ _ _
    · rw [Cert.MlpForward.dev_final m c, ← (hagree c).1, ← (hagree c).2.1, ← (hagree c).2.2.1, ← (hagree c).2.2.2.1, ← (hagree c).2.2.2.2.1]; exact Cert.MlpForward.dev_ref _ _ _ _ _
    · rw [Cert.MlpForward.y_final m c, ← (hagree c).1, ← (hagree c).2.1, ← (hagree c).2.2.1, ← (hagree c).2.2.2.1, ← (hagree c).2.2.2.2.1, ← (hagree c).2.2.2.2.2.1, ← (hagree c).2.2.2.2.2.2.1]; exact Cert.MlpForward.y_ref _ _ _ _ _ _ _

end Cert.MlpFwdPair
end
-- ==== Proof.ConvForward.lean ====
/- The gated convolution's forward call: what it leaves, and that the reference's lines say the same. -/
module

public import proofs.«01_k».proof.Proof.Gen.ConvFwdIdeal.Frame
public import proofs.«01_k».proof.Proof.Gen.ConvFwdRefIdeal.Run
public import proofs.«01_k».proof.Proof.ConvRef

@[expose] public section

set_option maxRecDepth 16384

noncomputable section

open Idealize.ShloMosaic Idealize.ShloMosaic.TcCoe Idealize.SL.Sem
open Idealize.ShloMosaic.Pipeline (Dat)
open Cert.Rows
open Cert.Conv (conv xa gb gc taps)

namespace Cert.ConvForward

open Cert.ConvFwdIdeal Cert.ConvFwdIdeal.Gen

/-- What the body stores, column by column. -/
theorem pay (a b d w) (r : Fin 2048) (c : Fin 128) : k0_pay1 (F := Ideal) a b d w (ix2 r c)
    = d (ix2 r c) * conv (fun s => w (ix2 s c)) (fun q => a (ix2 q c) * b (ix2 q c)) r := by
  unfold conv
  rw [← down_spelt 2 (by omega) _ _ (by omega), ← down_spelt 1 (by omega) _ _ (by omega)]
  pointwise [k0_pay1]

/-- The gated convolution of the whole sequence. -/
def out (P : FVec Ideal S2048x2176 .f32) (W : FVec Ideal S3x384 .f32) : FVec Ideal S2048x384 .bf16 :=
  fun i => gb P (i 1) (i 0) * conv (taps W (i 1)) (fun q => gc P (i 1) q * xa P (i 1) q) (i 0)

theorem idx : ∀ t : Fin cfg0.N, win0_0.index t = ![0, t.val] ∧ win0_1.index t = ![0, 3 + t.val]
    ∧ win0_2.index t = ![0, 6 + t.val] ∧ win0_3.index t = ![0, t.val] ∧ win0_4.index t = ![0, t.val] :=
  (by decide +kernel : ∀ t : Fin grid0.N, _)

/-- The channel at lane `x` of point `t`. -/
def lane (t : Fin cfg0.N) (x : Fin 128) : Fin 384 := ⟨t.val * 128 + x.val, by have := lt_of_lt_of_eq t.isLt N_0; omega⟩

variable (m : (ℓ : Loc nD τ sig) → Buf (Elt Ideal) ℓ) (c : Dev nD) (t : Fin cfg0.N)

theorem read0 (r : Fin 2048) (x : Fin 128) : iblk m c 0 t (ix2 r x) = xa (m ((c : Thread nD τ).loc main_arg0)) (lane t x) r := by
  unfold xa lane; blk_ext [iblk, V, idx t]
theorem read1 (r : Fin 2048) (x : Fin 128) : iblk m c 1 t (ix2 r x) = gb (m ((c : Thread nD τ).loc main_arg0)) (lane t x) r := by
  unfold gb lane; blk_ext [iblk, V, idx t]
theorem read2 (r : Fin 2048) (x : Fin 128) : iblk m c 2 t (ix2 r x) = gc (m ((c : Thread nD τ).loc main_arg0)) (lane t x) r := by
  unfold gc lane; blk_ext [iblk, V, idx t]
theorem read3 (s : Fin 3) (x : Fin 128) : iblk m c 3 t (ix2 s x) = taps (m ((c : Thread nD τ).loc main_arg1)) (lane t x) s := by
  unfold taps lane; blk_ext [iblk, V, idx t]
theorem emb4 (r : Fin 2048) (x : Fin 128) : ((cfg0.win 4).blk t).view.emb (ix2 r x) = ix2 r (lane t x) := by
  unfold lane; blk_ext [idx t]

/-- The array after the run. -/
theorem out_final : (dats m 0 c).arrAt 4 (cfgs 0).N = out (m ((c : Thread nD τ).loc main_arg0)) (m ((c : Thread nD τ).loc main_arg1)) := by
  refine (dats m 0 c).arrAt_eq_of_covers 4 _ (by decide +kernel) fun t _ y => ?_
  blk_simp
  rw [after0_4]; frame_out
  idx_vars y
  rw [pay]
  simp only [read0 m c t, read1 m c t, read2 m c t, read3 m c t]
  exact congrArg (out _ _) (emb4 t y0 y1).symm

open Cert.ConvRef in
/-- The reference's lines. -/
theorem out_ref (P : FVec Ideal S2048x2176 .f32) (W : FVec Ideal S3x384 .f32) :
    (truncf .bf16 (shapeCast _ (mulf (hB P) (addf (addf (mulf (hW0 W) (hP0 P)) (mulf (hW1 W) (hP1 P))) (mulf (hW2 W) (hP2 P))))
      Cert.ConvGradRefIdeal.Gen.shapeCasts_S1x2048x384_S2048x384) Cert.ConvGradRefIdeal.Gen.bitsLt_bf16_f32 : FVec Ideal S2048x384 .bf16) = out P W := by
  funext i
  idx_vars i
  show _ = gb P i1 i0 * conv (taps W i1) (fun q => gc P i1 q * xa P i1 q) i0
  rw [conv, down_mul, down_mul, ← hP0_at, ← hP1_at, ← hP2_at]
  pointwise [gb, taps]

end Cert.ConvForward
end
-- ==== Proof.ConvFwdPair.lean ====
/- The claims about the gated convolution's forward call: the frames of its programs and the value claim. -/
module

public import proofs.«01_k».proof.Defs
public import proofs.«01_k».proof.Proof.Gen.ConvFwd.Frame
public import proofs.«01_k».proof.Proof.ConvForward
public import Idealize.ShloMosaic.Lib.Claim

@[expose] public section

set_option maxRecDepth 16384

noncomputable section

open Idealize.ShloMosaic Idealize.SL.Sem

namespace Cert.ConvFwdPair

/-- The kernel runs, leaves its arguments as they were and ends with every counter at zero. -/
theorem frame : Cert.quiescent_ConvFwd := fun m ρ _ => Cert.ConvFwd.Gen.frame m ρ
theorem frame_ideal : Cert.quiescent_ConvFwdIdeal := fun m ρ _ => Cert.ConvFwdIdeal.Gen.frame m ρ

/-- So does the reference, which has no counter. -/
theorem frame_ref : Cert.quiescent_ConvFwdRefIdeal :=
  fun m g _ => (θ_run _ _ _).mono
    (fun r h => ⟨fun c => (h c).2, sem_eq_zero_of_no_sems (sig := Cert.ConvFwdRefIdeal.sig) (by decide) r.2⟩)
    (Cert.ConvFwdRefIdeal.Value.run m g)

/-- Over the reals the kernel computes what the reference does. -/
theorem algebraic : Cert.algebraic_ConvFwdIdeal_ConvFwdRefIdeal := by
  pair_intro
  · run_from Cert.ConvFwdIdeal.Gen.run_main m g
  · run_from Cert.ConvFwdRefIdeal.Value.run m' g'
    rw [Cert.ConvForward.out_final m c]; exact Cert.ConvForward.out_ref _ _

end Cert.ConvFwdPair
end
-- ==== Proof.PoolForward.lean ====
/- The pooling mixer, forward: each entry that the kernel stores and each entry of the reference as one formula. -/
module

public import proofs.«01_k».proof.Proof.Gen.PoolFwdIdeal.Frame
public import proofs.«01_k».proof.Proof.Gen.PoolFwdRefIdeal.Run
public import proofs.«01_k».proof.Proof.PoolRef

@[expose] public section

set_option maxRecDepth 16384

noncomputable section

open Idealize.ShloMosaic Idealize.ShloMosaic.TcCoe Idealize.SL.Sem
open Idealize.ShloMosaic.Pipeline (Dat)
open Cert.Rows

namespace Cert.PoolForward

section
open Cert.PoolFwdIdeal Cert.PoolFwdIdeal.Gen

/-- The block of a point: the windows' means less the rows, by the groups' weights, scaled. The windows and the weights side by
    side are those of the gradients' kernel. -/
theorem pay1 (i : grid0.Coords) (a : Vec Ideal S2048x128 .f32) (u v : Vec Ideal S1x64x64 .f32) (s : Vec Ideal S1x128 .f32) (r : Fin 2048) (c : Fin 128) :
    k0_pay1 (F := Ideal) a k0_pay2 (Scalar.cmpi .eq (BitVec.ofNat 32 (i 0).val) 0#32) (k0_pay3 i) (k0_pay5 a) (k0_pay7 a) (k0_pay8 i a) u v s (ix2 r c)
    = (∑ e : Fin 64, (Ideal.div (Pool.trail (Pool.winAt (i 0) (Pool.mate c e)) (fun q => a (ix2 q (Pool.mate c e))) r) (Pool.cnt (Pool.winAt (i 0) (Pool.mate c e)) r)
        - a (ix2 r (Pool.mate c e))) * Pool.wsel u v c e (Pool.chan c)) * s (ix2 0 c) := by
  have h : k0_pay1 (F := Ideal) a k0_pay2 (Scalar.cmpi .eq (BitVec.ofNat 32 (i 0).val) 0#32) (k0_pay3 i) (k0_pay5 a) (k0_pay7 a) (k0_pay8 i a) u v s
      = truncf .bf16 (mulf (matmul dot_S2048x128_S128x128_S2048x128_1_0_0_1_n_n none
          (Cert.PoolGradIdeal.Gen.k0_pay11 (F := Ideal) a Cert.PoolGradIdeal.Gen.k0_pay2 (Scalar.cmpi .eq (BitVec.ofNat 32 (i 0).val) 0#32) (Cert.PoolGradIdeal.Gen.k0_pay3 i)
            (Cert.PoolGradIdeal.Gen.k0_pay5 a) (Cert.PoolGradIdeal.Gen.k0_pay7 a) (Cert.PoolGradIdeal.Gen.k0_pay8 i a))
          (Cert.PoolGradIdeal.Gen.k0_pay10 (F := Ideal) u v) (constant S2048x128 .f32 0x00000000#32))
        (broadcastTo S2048x128 (shapeCast S1x128 s shapeCasts_S1x128_S1x128) broadcasts_S1x128_S2048x128)) bitsLt_bf16_f32 := rfl
  rw [h]
  refine Eq.trans (b := (∑ x : Fin 128, Cert.PoolGradIdeal.Gen.k0_pay11 (F := Ideal) a Cert.PoolGradIdeal.Gen.k0_pay2 (Scalar.cmpi .eq (BitVec.ofNat 32 (i 0).val) 0#32) (Cert.PoolGradIdeal.Gen.k0_pay3 i)
            (Cert.PoolGradIdeal.Gen.k0_pay5 a) (Cert.PoolGradIdeal.Gen.k0_pay7 a) (Cert.PoolGradIdeal.Gen.k0_pay8 i a) (ix2 r x) * Cert.PoolGradIdeal.Gen.k0_pay10 (F := Ideal) u v (ix2 x c)) * s (ix2 0 c)) ?_ ?_
  · pointwise
  · rw [Pool.sum_left u v]
    exact congrArg (· * s (ix2 0 c)) (Finset.sum_congr rfl fun e _ => congrArg (· * _) (Pool.pay11 i a r (Pool.mate c e)))

/-- One entry of the pool's output, and the output. -/
def yAt (P : FVec Ideal S2048x2176 .f32) (W : FVec Ideal S4x64x64 .f32) (S : FVec Ideal S256 .f32) (g : Fin 4) (c : Fin 64) (t : Fin 2048) : EReal :=
  (∑ e : Fin 64, Pool.dv P g e t * W (ix3 g e c)) * S (ix1 ⟨g.val * 64 + c.val, by omega⟩)
def y (P : FVec Ideal S2048x2176 .f32) (W : FVec Ideal S4x64x64 .f32) (S : FVec Ideal S256 .f32) : FVec Ideal S2048x256 .bf16 :=
  fun i => yAt P W S (Pool.grp (i 1)) (Pool.chn (i 1)) (i 0)

theorem idx : ∀ t : Fin cfg0.N, win0_0.index t = ![0, 9 + t.val] ∧ win0_1.index t = ![t.val, 0, 0]
    ∧ win0_2.index t = ![0, t.val] ∧ win0_3.index t = ![0, t.val] :=
  (by decide +kernel : ∀ t : Fin grid0.N, _)

variable (m : (ℓ : Loc nD τ sig) → Buf (Elt Ideal) ℓ) (c : Dev nD) (t : Fin cfg0.N)

theorem read0 (r : Fin 2048) (x : Fin 128) : iblk m c 0 t (ix2 r x) = Pool.px (m ((c : Thread nD τ).loc main_arg0)) (Pool.grpAt t x) (Pool.chan x) r := by
  unfold Pool.px Pool.grpAt Pool.chan; blk_ext [iblk, V, idx t]
theorem read1 (b : Fin 2) (x y : Fin 64) : iblk m c 1 t (ix3 b x y)
    = m ((c : Thread nD τ).loc main_arg1) (ix3 ⟨t.val * 2 + b.val, by have := lt_of_lt_of_eq t.isLt N_0; omega⟩ x y) := by
  blk_ext [iblk, V, idx t]
theorem read2 (o : Fin 1) (x : Fin 128) : iblk m c 2 t (ix2 o x)
    = m ((c : Thread nD τ).loc main_arg2) (ix1 ⟨(Pool.grpAt t x).val * 64 + (Pool.chan x).val, by omega⟩) := by
  have e : ((cfg0.win 2).blk t).view.emb (ix2 o x) = ix2 o (Pool.lane t x) := by unfold Pool.lane; blk_ext [idx t]
  blk_simp [iblk]
  entry_read
  refine (congrArg (broadcastInDim S1x256 ![1] bcast_S256_S1x256_1 (m (c, Proc.tc.devRef main_arg2))) e).trans ?_
  pointwise
  exact congrArg (fun n => m ((c : Thread nD τ).loc main_arg2) (ix1 n)) (Fin.ext (by simp only [Pool.lane, Pool.grpAt, Pool.chan]; omega))
theorem emb3 (r : Fin 2048) (x : Fin 128) : ((cfg0.win 3).blk t).view.emb (ix2 r x) = ix2 r (Pool.lane t x) := by
  unfold Pool.lane; blk_ext [idx t]

/-- What the kernel leaves in its result. -/
theorem y_final : (dats m 0 c).arrAt 3 (cfgs 0).N
    = y (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; unfold out0_3; frame_out
  idx_vars y
  rw [pay1]
  simp only [read0 m c t, read2 m c t, Pool.wsel_ld, read1 m c t, Pool.grp_mate, Pool.chan_mate, Pool.winAt_eq]
  refine Eq.trans ?_ (congrArg (PoolForward.y _ _ _) (emb3 t y0 y1).symm)
  show _ = yAt _ _ _ (Pool.grp (Pool.lane t y1)) (Pool.chn (Pool.lane t y1)) y0
  rw [Pool.grp_lane, Pool.chn_lane]; rfl
end

section
open Cert.PoolFwdRefIdeal Cert.PoolFwdRefIdeal.Gen
variable (P : FVec Ideal S2048x2176 .f32) (W : FVec Ideal S4x64x64 .f32) (S : FVec Ideal S256 .f32)

/-- The output as the reference writes it of the means less the rows. -/
abbrev hOut (Y : FVec Ideal S1x2048x4x64 .f32) : FVec Ideal S2048x256 .bf16 :=
  truncf .bf16 (shapeCast S2048x256 (mulf (shapeCast S1x2048x256 (transpose S1x2048x4x64 [2, 3, 0, 1] (Host.dotGeneral dot_S4x64x64_S1x2048x4x64_S4x64x1x2048_1_3_2_01_0_2 none W Y) transposes_S4x64x1x2048_S1x2048x4x64_2_3_0_1) shapeCasts_S1x2048x4x64_S1x2048x256)
    (broadcastInDim S1x2048x256 ![0, 1, 2] bcast_S1x1x256_S1x2048x256_0_1_2 (broadcastInDim S1x1x256 ![2] bcast_S256_S1x1x256_2 S))) shapeCasts_S1x2048x256_S2048x256) bitsLt_bf16_f32

theorem hOut_at (Y : FVec Ideal S1x2048x4x64 .f32) (t : Fin 2048) (n : Fin 256) :
    hOut W S Y (ix2 t n) = (∑ e : Fin 64, Y (ix4 0 t (Pool.grp n) e) * W (ix3 (Pool.grp n) e (Pool.chn n))) * S (ix1 n) := by
  pointwise [Pool.grp, Pool.chn]
  exact congrArg (· * _) (Finset.sum_congr rfl fun e _ => mul_comm _ _)

/-- On finite projections the reference's result is the same array. -/
theorem y_ref (p : S2048x2176.Idx → ℝ) (hp : ∀ i, P i = (p i : EReal)) : hOut W S (PoolRef.hDv P) = y P W S := by
  funext i
  idx_vars i; generalize i0 = t; generalize i1 = n
  show _ = yAt P W S (Pool.grp n) (Pool.chn n) t
  rw [hOut_at]
  simp only [PoolRef.hDv_at P p hp, yAt]
  exact congrArg (fun k => _ * S (ix1 k)) (Fin.ext (by simp only [Pool.grp, Pool.chn]; omega))
end

end Cert.PoolForward
end
-- ==== Proof.PoolFwdPair.lean ====
/- The claims about the pooling mixer, forward: the frames of its programs and the value claim. -/
module

public import proofs.«01_k».proof.Defs
public import proofs.«01_k».proof.Proof.Gen.PoolFwd.Frame
public import proofs.«01_k».proof.Proof.PoolForward
public import proofs.«01_k».proof.Proof.Finite
public import Idealize.ShloMosaic.Lib.Claim

@[expose] public section

set_option maxRecDepth 16384

noncomputable section

open Idealize.ShloMosaic Idealize.SL.Sem

namespace Cert.PoolFwdPair

/-- The precondition's shape fits. -/
instance facts_finite : Cert.Pre_pool_fwd_finite.Facts := ⟨by decide⟩

/-- The kernel runs, leaves its arguments as they were and ends with every counter at zero. -/
theorem frame : Cert.quiescent_PoolFwd := fun m ρ _ => Cert.PoolFwd.Gen.frame m ρ
theorem frame_ideal : Cert.quiescent_PoolFwdIdeal := fun m ρ _ => Cert.PoolFwdIdeal.Gen.frame m ρ
theorem frame_finite : Cert.quiescent_PoolFwdIdeal_pre_pool_fwd_finite := fun m ρ _ => Cert.PoolFwdIdeal.Gen.frame m ρ

/-- So does the reference, which has no counter. -/
theorem frame_ref : Cert.quiescent_PoolFwdRefIdeal :=
  fun m g _ => (θ_run _ _ _).mono
    (fun r h => ⟨fun c => (h c).2, sem_eq_zero_of_no_sems (sig := Cert.PoolFwdRefIdeal.sig) (by decide) r.2⟩)
    (Cert.PoolFwdRefIdeal.Value.run m g)

theorem frame_ref_finite : Cert.quiescent_PoolFwdRefIdeal_pre_pool_fwd_finite := fun m g _ => frame_ref m g trivial

/-- Over the reals, on finite projections, the kernel computes what the reference does. -/
theorem algebraic : Cert.algebraic_PoolFwdIdeal_PoolFwdRefIdeal_pre_pool_fwd_finite := by
  pair_intro
  · run_from Cert.PoolFwdIdeal.Gen.run_main m g
  · refine (θ_run _ _ _).mono (fun r h c => ?_) (Cert.PoolFwdRefIdeal.Value.run m' g')
    obtain ⟨p, hp⟩ := Finite.real_of_pre _ _ (hpre c)
    rw [← (hagree c).1] at hp
    refine ⟨(h c).1.trans ?_, (h c).2⟩
    rw [Cert.PoolForward.y_final m c, ← (hagree c).1, ← (hagree c).2.1, ← (hagree c).2.2]; exact Cert.PoolForward.y_ref _ _ _ p hp

end Cert.PoolFwdPair
end
-- ==== Proof.lean ====
/- The certificate: every call's frames and value claim, proved in the modules named after the calls. -/
module

public import proofs.«01_k».proof.Proof.LossPair
public import proofs.«01_k».proof.Proof.ConvPair
public import proofs.«01_k».proof.Proof.PoolPair
public import proofs.«01_k».proof.Proof.SguPair
public import proofs.«01_k».proof.Proof.MlpPair
public import proofs.«01_k».proof.Proof.WoFwdPair
public import proofs.«01_k».proof.Proof.MlpFwdPair
public import proofs.«01_k».proof.Proof.ConvFwdPair
public import proofs.«01_k».proof.Proof.PoolFwdPair
public import proofs.«01_k».proof.Proof.Gen.LossGradIdeal.Value
public import proofs.«01_k».proof.Proof.Gen.LossGradRefIdeal.Run
public import proofs.«01_k».proof.Proof.Gen.ConvGradIdeal.Value
public import proofs.«01_k».proof.Proof.Gen.ConvGradRefIdeal.Run
public import proofs.«01_k».proof.Proof.Gen.PoolGradIdeal.Value
public import proofs.«01_k».proof.Proof.Gen.PoolGradRefIdeal.Run
public import proofs.«01_k».proof.Proof.Gen.SguGrad
public import proofs.«01_k».proof.Proof.Gen.SguGradIdeal.Skeleton
public import proofs.«01_k».proof.Proof.Gen.SguGradRefIdeal.Run
public import proofs.«01_k».proof.Proof.Gen.MlpGrad
public import proofs.«01_k».proof.Proof.Gen.MlpGradIdeal.Skeleton
public import proofs.«01_k».proof.Proof.Gen.MlpGradRefIdeal.Run
public import proofs.«01_k».proof.Proof.Gen.WoFwdIdeal.Value
public import proofs.«01_k».proof.Proof.Gen.WoFwdRefIdeal.Run
public import proofs.«01_k».proof.Proof.Gen.MlpFwdIdeal.Value
public import proofs.«01_k».proof.Proof.Gen.MlpFwdRefIdeal.Run
public import proofs.«01_k».proof.Proof.Gen.ConvFwdIdeal.Value
public import proofs.«01_k».proof.Proof.Gen.ConvFwdRefIdeal.Run
public import proofs.«01_k».proof.Proof.Gen.PoolFwdIdeal.Value
public import proofs.«01_k».proof.Proof.Gen.PoolFwdRefIdeal.Run
public import proofs.«01_k».proof.Defs

@[expose] public section

noncomputable section

namespace Cert.Proof

/-- Each call's programs run with their arguments unchanged and every counter at zero, and over the reals each call
    computes what its reference computes. -/
theorem claim : Cert.Claim := ⟨Cert.LossGrad.Gen.facts, Cert.LossGradIdeal.Gen.facts, Cert.LossGradRefIdeal.Gen.facts, Cert.ConvGrad.Gen.facts, Cert.ConvGradIdeal.Gen.facts, Cert.ConvGradRefIdeal.Gen.facts, Cert.PoolGrad.Gen.facts, Cert.PoolGradIdeal.Gen.facts, Cert.PoolGradRefIdeal.Gen.facts, Cert.SguGrad.Gen.facts, Cert.SguGradIdeal.Gen.facts, Cert.SguGradRefIdeal.Gen.facts, Cert.MlpGrad.Gen.facts, Cert.MlpGradIdeal.Gen.facts, Cert.MlpGradRefIdeal.Gen.facts, Cert.WoFwd.Gen.facts, Cert.WoFwdIdeal.Gen.facts, Cert.WoFwdRefIdeal.Gen.facts, Cert.MlpFwd.Gen.facts, Cert.MlpFwdIdeal.Gen.facts, Cert.MlpFwdRefIdeal.Gen.facts, Cert.ConvFwd.Gen.facts, Cert.ConvFwdIdeal.Gen.facts, Cert.ConvFwdRefIdeal.Gen.facts, Cert.PoolFwd.Gen.facts, Cert.PoolFwdIdeal.Gen.facts, Cert.PoolFwdRefIdeal.Gen.facts, Cert.PoolPair.facts_finite, Cert.SguPair.facts_finite, Cert.MlpPair.facts_finite, Cert.PoolFwdPair.facts_finite,
  Cert.LossPair.frame, Cert.LossPair.frame_ideal, Cert.LossPair.frame_ref,
  Cert.ConvPair.frame, Cert.ConvPair.frame_ideal, Cert.ConvPair.frame_ref,
  Cert.PoolPair.frame, Cert.PoolPair.frame_ideal, Cert.PoolPair.frame_finite, Cert.PoolPair.frame_ref, Cert.PoolPair.frame_ref_finite,
  Cert.SguPair.frame, Cert.SguPair.frame_ideal, Cert.SguPair.frame_finite, Cert.SguPair.frame_ref, Cert.SguPair.frame_ref_finite,
  Cert.MlpPair.frame, Cert.MlpPair.frame_ideal, Cert.MlpPair.frame_finite, Cert.MlpPair.frame_ref, Cert.MlpPair.frame_ref_finite,
  Cert.WoFwdPair.frame, Cert.WoFwdPair.frame_ideal, Cert.WoFwdPair.frame_ref,
  Cert.MlpFwdPair.frame, Cert.MlpFwdPair.frame_ideal, Cert.MlpFwdPair.frame_ref,
  Cert.ConvFwdPair.frame, Cert.ConvFwdPair.frame_ideal, Cert.ConvFwdPair.frame_ref,
  Cert.PoolFwdPair.frame, Cert.PoolFwdPair.frame_ideal, Cert.PoolFwdPair.frame_finite, Cert.PoolFwdPair.frame_ref, Cert.PoolFwdPair.frame_ref_finite,
  trivial, Cert.LossPair.algebraic,
  trivial, Cert.ConvPair.algebraic,
  trivial, Cert.PoolPair.algebraic,
  Cert.SguPair.preserves, Cert.SguPair.algebraic,
  trivial, Cert.MlpPair.algebraic,
  trivial, Cert.WoFwdPair.algebraic,
  trivial, Cert.MlpFwdPair.algebraic,
  trivial, Cert.ConvFwdPair.algebraic,
  trivial, Cert.PoolFwdPair.algebraic⟩

end Cert.Proof
